-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_UpGrad (m : (ℓ : Loc Cert.UpGrad.nD Cert.UpGrad.τ Cert.UpGrad.sig) → Buf (Elt Bits) ℓ) : Prop :=
  True

def Pre_UpGradIdeal (m : (ℓ : Loc Cert.UpGradIdeal.nD Cert.UpGradIdeal.τ Cert.UpGradIdeal.sig) → Buf (Elt Ideal) ℓ) : Prop :=
  True

def Pre_UpGradRefIdeal (m : (ℓ : Loc Cert.UpGradRefIdeal.nD Cert.UpGradRefIdeal.τ Cert.UpGradRefIdeal.sig) → Buf (Elt Ideal) ℓ) : Prop :=
  True

def Pre_DownGrad (m : (ℓ : Loc Cert.DownGrad.nD Cert.DownGrad.τ Cert.DownGrad.sig) → Buf (Elt Bits) ℓ) : Prop :=
  True

def Pre_DownGradIdeal (m : (ℓ : Loc Cert.DownGradIdeal.nD Cert.DownGradIdeal.τ Cert.DownGradIdeal.sig) → Buf (Elt Ideal) ℓ) : Prop :=
  True

def Pre_DownGradRefIdeal (m : (ℓ : Loc Cert.DownGradRefIdeal.nD Cert.DownGradRefIdeal.τ Cert.DownGradRefIdeal.sig) → Buf (Elt Ideal) ℓ) : Prop :=
  True

def Pre_SquareGrad (m : (ℓ : Loc Cert.SquareGrad.nD Cert.SquareGrad.τ Cert.SquareGrad.sig) → Buf (Elt Bits) ℓ) : Prop :=
  True

def Pre_SquareGradIdeal (m : (ℓ : Loc Cert.SquareGradIdeal.nD Cert.SquareGradIdeal.τ Cert.SquareGradIdeal.sig) → Buf (Elt Ideal) ℓ) : Prop :=
  True

def Pre_SquareGradRefIdeal (m : (ℓ : Loc Cert.SquareGradRefIdeal.nD Cert.SquareGradRefIdeal.τ Cert.SquareGradRefIdeal.sig) → Buf (Elt Ideal) ℓ) : Prop :=
  True

def Pre_BranchGrad (m : (ℓ : Loc Cert.BranchGrad.nD Cert.BranchGrad.τ Cert.BranchGrad.sig) → Buf (Elt Bits) ℓ) : Prop :=
  True

def Pre_BranchGradIdeal (m : (ℓ : Loc Cert.BranchGradIdeal.nD Cert.BranchGradIdeal.τ Cert.BranchGradIdeal.sig) → Buf (Elt Ideal) ℓ) : Prop :=
  True

def Pre_BranchGradRefIdeal (m : (ℓ : Loc Cert.BranchGradRefIdeal.nD Cert.BranchGradRefIdeal.τ Cert.BranchGradRefIdeal.sig) → Buf (Elt Ideal) ℓ) : Prop :=
  True

def Pre_ProjGrad (m : (ℓ : Loc Cert.ProjGrad.nD Cert.ProjGrad.τ Cert.ProjGrad.sig) → Buf (Elt Bits) ℓ) : Prop :=
  True

def Pre_ProjGradIdeal (m : (ℓ : Loc Cert.ProjGradIdeal.nD Cert.ProjGradIdeal.τ Cert.ProjGradIdeal.sig) → Buf (Elt Ideal) ℓ) : Prop :=
  True

def Pre_ProjGradRefIdeal (m : (ℓ : Loc Cert.ProjGradRefIdeal.nD Cert.ProjGradRefIdeal.τ Cert.ProjGradRefIdeal.sig) → Buf (Elt Ideal) ℓ) : Prop :=
  True

def Pre_InWideGrad (m : (ℓ : Loc Cert.InWideGrad.nD Cert.InWideGrad.τ Cert.InWideGrad.sig) → Buf (Elt Bits) ℓ) : Prop :=
  True

def Pre_InWideGradIdeal (m : (ℓ : Loc Cert.InWideGradIdeal.nD Cert.InWideGradIdeal.τ Cert.InWideGradIdeal.sig) → Buf (Elt Ideal) ℓ) : Prop :=
  True

def Pre_InWideGradRefIdeal (m : (ℓ : Loc Cert.InWideGradRefIdeal.nD Cert.InWideGradRefIdeal.τ Cert.InWideGradRefIdeal.sig) → Buf (Elt Ideal) ℓ) : Prop :=
  True

def Pre_InMidGrad (m : (ℓ : Loc Cert.InMidGrad.nD Cert.InMidGrad.τ Cert.InMidGrad.sig) → Buf (Elt Bits) ℓ) : Prop :=
  True

def Pre_InMidGradIdeal (m : (ℓ : Loc Cert.InMidGradIdeal.nD Cert.InMidGradIdeal.τ Cert.InMidGradIdeal.sig) → Buf (Elt Ideal) ℓ) : Prop :=
  True

def Pre_InMidGradRefIdeal (m : (ℓ : Loc Cert.InMidGradRefIdeal.nD Cert.InMidGradRefIdeal.τ Cert.InMidGradRefIdeal.sig) → Buf (Elt Ideal) ℓ) : Prop :=
  True

def Pre_InSmallGrad (m : (ℓ : Loc Cert.InSmallGrad.nD Cert.InSmallGrad.τ Cert.InSmallGrad.sig) → Buf (Elt Bits) ℓ) : Prop :=
  True

def Pre_InSmallGradIdeal (m : (ℓ : Loc Cert.InSmallGradIdeal.nD Cert.InSmallGradIdeal.τ Cert.InSmallGradIdeal.sig) → Buf (Elt Ideal) ℓ) : Prop :=
  True

def Pre_InSmallGradRefIdeal (m : (ℓ : Loc Cert.InSmallGradRefIdeal.nD Cert.InSmallGradRefIdeal.τ Cert.InSmallGradRefIdeal.sig) → Buf (Elt Ideal) ℓ) : Prop :=
  True

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_BranchA (m : (ℓ : Loc Cert.BranchA.nD Cert.BranchA.τ Cert.BranchA.sig) → Buf (Elt Bits) ℓ) : Prop :=
  True

def Pre_BranchAIdeal (m : (ℓ : Loc Cert.BranchAIdeal.nD Cert.BranchAIdeal.τ Cert.BranchAIdeal.sig) → Buf (Elt Ideal) ℓ) : Prop :=
  True

def Pre_BranchARefIdeal (m : (ℓ : Loc Cert.BranchARefIdeal.nD Cert.BranchARefIdeal.τ Cert.BranchARefIdeal.sig) → Buf (Elt Ideal) ℓ) : Prop :=
  True

def Pre_BranchB (m : (ℓ : Loc Cert.BranchB.nD Cert.BranchB.τ Cert.BranchB.sig) → Buf (Elt Bits) ℓ) : Prop :=
  True

def Pre_BranchBIdeal (m : (ℓ : Loc Cert.BranchBIdeal.nD Cert.BranchBIdeal.τ Cert.BranchBIdeal.sig) → Buf (Elt Ideal) ℓ) : Prop :=
  True

def Pre_BranchBRefIdeal (m : (ℓ : Loc Cert.BranchBRefIdeal.nD Cert.BranchBRefIdeal.τ Cert.BranchBRefIdeal.sig) → Buf (Elt Ideal) ℓ) : Prop :=
  True

def Pre_PleProj (m : (ℓ : Loc Cert.PleProj.nD Cert.PleProj.τ Cert.PleProj.sig) → Buf (Elt Bits) ℓ) : Prop :=
  True

def Pre_PleProjIdeal (m : (ℓ : Loc Cert.PleProjIdeal.nD Cert.PleProjIdeal.τ Cert.PleProjIdeal.sig) → Buf (Elt Ideal) ℓ) : Prop :=
  True

def Pre_PleProjRefIdeal (m : (ℓ : Loc Cert.PleProjRefIdeal.nD Cert.PleProjRefIdeal.τ Cert.PleProjRefIdeal.sig) → Buf (Elt Ideal) ℓ) : Prop :=
  True

def Pre_OutGrad (m : (ℓ : Loc Cert.OutGrad.nD Cert.OutGrad.τ Cert.OutGrad.sig) → Buf (Elt Bits) ℓ) : Prop :=
  True

def Pre_OutGradIdeal (m : (ℓ : Loc Cert.OutGradIdeal.nD Cert.OutGradIdeal.τ Cert.OutGradIdeal.sig) → Buf (Elt Ideal) ℓ) : Prop :=
  True

def Pre_OutGradRefIdeal (m : (ℓ : Loc Cert.OutGradRefIdeal.nD Cert.OutGradRefIdeal.τ Cert.OutGradRefIdeal.sig) → Buf (Elt Ideal) ℓ) : Prop :=
  True

def Pre_MixedGrad (m : (ℓ : Loc Cert.MixedGrad.nD Cert.MixedGrad.τ Cert.MixedGrad.sig) → Buf (Elt Bits) ℓ) : Prop :=
  True

def Pre_MixedGradIdeal (m : (ℓ : Loc Cert.MixedGradIdeal.nD Cert.MixedGradIdeal.τ Cert.MixedGradIdeal.sig) → Buf (Elt Ideal) ℓ) : Prop :=
  True

def Pre_MixedGradRefIdeal (m : (ℓ : Loc Cert.MixedGradRefIdeal.nD Cert.MixedGradRefIdeal.τ Cert.MixedGradRefIdeal.sig) → Buf (Elt Ideal) ℓ) : Prop :=
  True

def Pre_FfnUp (m : (ℓ : Loc Cert.FfnUp.nD Cert.FfnUp.τ Cert.FfnUp.sig) → Buf (Elt Bits) ℓ) : Prop :=
  True

def Pre_FfnUpIdeal (m : (ℓ : Loc Cert.FfnUpIdeal.nD Cert.FfnUpIdeal.τ Cert.FfnUpIdeal.sig) → Buf (Elt Ideal) ℓ) : Prop :=
  True

def Pre_FfnUpIdeal_finite_up [hPre_finite_up : Cert.Pre_finite_up.Facts] (m : (ℓ : Loc Cert.FfnUpIdeal.nD Cert.FfnUpIdeal.τ Cert.FfnUpIdeal.sig) → Buf (Elt Ideal) ℓ) : Prop :=
  ∀ c : Dev Cert.FfnUpIdeal.nD,
    (Cert.Pre_finite_up.fn (F := Ideal) (m ((c.tc : Thread Cert.FfnUpIdeal.nD Cert.FfnUpIdeal.τ).loc Cert.FfnUpIdeal.main_arg0)) (m ((c.tc : Thread Cert.FfnUpIdeal.nD Cert.FfnUpIdeal.τ).loc Cert.FfnUpIdeal.main_arg1)) (m ((c.tc : Thread Cert.FfnUpIdeal.nD Cert.FfnUpIdeal.τ).loc Cert.FfnUpIdeal.main_arg2))) = (fun _ => 1#1)

def Pre_FfnUpRefIdeal (m : (ℓ : Loc Cert.FfnUpRefIdeal.nD Cert.FfnUpRefIdeal.τ Cert.FfnUpRefIdeal.sig) → Buf (Elt Ideal) ℓ) : Prop :=
  True

def Pre_FfnUpRefIdeal_finite_up [hPre_finite_up : Cert.Pre_finite_up.Facts] (m : (ℓ : Loc Cert.FfnUpRefIdeal.nD Cert.FfnUpRefIdeal.τ Cert.FfnUpRefIdeal.sig) → Buf (Elt Ideal) ℓ) : Prop :=
  ∀ c : Dev Cert.FfnUpRefIdeal.nD,
    (Cert.Pre_finite_up.fn (F := Ideal) (m ((c.tc : Thread Cert.FfnUpRefIdeal.nD Cert.FfnUpRefIdeal.τ).loc Cert.FfnUpRefIdeal.main_arg0)) (m ((c.tc : Thread Cert.FfnUpRefIdeal.nD Cert.FfnUpRefIdeal.τ).loc Cert.FfnUpRefIdeal.main_arg1)) (m ((c.tc : Thread Cert.FfnUpRefIdeal.nD Cert.FfnUpRefIdeal.τ).loc Cert.FfnUpRefIdeal.main_arg2))) = (fun _ => 1#1)

def Pre_Mid (m : (ℓ : Loc Cert.Mid.nD Cert.Mid.τ Cert.Mid.sig) → Buf (Elt Bits) ℓ) : Prop :=
  True

def Pre_MidIdeal (m : (ℓ : Loc Cert.MidIdeal.nD Cert.MidIdeal.τ Cert.MidIdeal.sig) → Buf (Elt Ideal) ℓ) : Prop :=
  True

def Pre_MidIdeal_finite_mid [hPre_finite_mid : Cert.Pre_finite_mid.Facts] (m : (ℓ : Loc Cert.MidIdeal.nD Cert.MidIdeal.τ Cert.MidIdeal.sig) → Buf (Elt Ideal) ℓ) : Prop :=
  ∀ c : Dev Cert.MidIdeal.nD,
    (Cert.Pre_finite_mid.fn (F := Ideal) (m ((c.tc : Thread Cert.MidIdeal.nD Cert.MidIdeal.τ).loc Cert.MidIdeal.main_arg0)) (m ((c.tc : Thread Cert.MidIdeal.nD Cert.MidIdeal.τ).loc Cert.MidIdeal.main_arg1)) (m ((c.tc : Thread Cert.MidIdeal.nD Cert.MidIdeal.τ).loc Cert.MidIdeal.main_arg2)) (m ((c.tc : Thread Cert.MidIdeal.nD Cert.MidIdeal.τ).loc Cert.MidIdeal.main_arg3))) = (fun _ => 1#1)

def Pre_MidRefIdeal (m : (ℓ : Loc Cert.MidRefIdeal.nD Cert.MidRefIdeal.τ Cert.MidRefIdeal.sig) → Buf (Elt Ideal) ℓ) : Prop :=
  True

def Pre_MidRefIdeal_finite_mid [hPre_finite_mid : Cert.Pre_finite_mid.Facts] (m : (ℓ : Loc Cert.MidRefIdeal.nD Cert.MidRefIdeal.τ Cert.MidRefIdeal.sig) → Buf (Elt Ideal) ℓ) : Prop :=
  ∀ c : Dev Cert.MidRefIdeal.nD,
    (Cert.Pre_finite_mid.fn (F := Ideal) (m ((c.tc : Thread Cert.MidRefIdeal.nD Cert.MidRefIdeal.τ).loc Cert.MidRefIdeal.main_arg0)) (m ((c.tc : Thread Cert.MidRefIdeal.nD Cert.MidRefIdeal.τ).loc Cert.MidRefIdeal.main_arg1)) (m ((c.tc : Thread Cert.MidRefIdeal.nD Cert.MidRefIdeal.τ).loc Cert.MidRefIdeal.main_arg2)) (m ((c.tc : Thread Cert.MidRefIdeal.nD Cert.MidRefIdeal.τ).loc Cert.MidRefIdeal.main_arg3))) = (fun _ => 1#1)

def Pre_FfnDown (m : (ℓ : Loc Cert.FfnDown.nD Cert.FfnDown.τ Cert.FfnDown.sig) → Buf (Elt Bits) ℓ) : Prop :=
  True

def Pre_FfnDownIdeal (m : (ℓ : Loc Cert.FfnDownIdeal.nD Cert.FfnDownIdeal.τ Cert.FfnDownIdeal.sig) → Buf (Elt Ideal) ℓ) : Prop :=
  True

def Pre_FfnDownRefIdeal (m : (ℓ : Loc Cert.FfnDownRefIdeal.nD Cert.FfnDownRefIdeal.τ Cert.FfnDownRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_AdamFfn (m : (ℓ : Loc Cert.AdamFfn.nD Cert.AdamFfn.τ Cert.AdamFfn.sig) → Buf (Elt Bits) ℓ) : Prop :=
  True

def Pre_AdamFfnIdeal (m : (ℓ : Loc Cert.AdamFfnIdeal.nD Cert.AdamFfnIdeal.τ Cert.AdamFfnIdeal.sig) → Buf (Elt Ideal) ℓ) : Prop :=
  True

def Pre_AdamFfnRefIdeal (m : (ℓ : Loc Cert.AdamFfnRefIdeal.nD Cert.AdamFfnRefIdeal.τ Cert.AdamFfnRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_AdamSquare (m : (ℓ : Loc Cert.AdamSquare.nD Cert.AdamSquare.τ Cert.AdamSquare.sig) → Buf (Elt Bits) ℓ) : Prop :=
  True

def Pre_AdamSquareIdeal (m : (ℓ : Loc Cert.AdamSquareIdeal.nD Cert.AdamSquareIdeal.τ Cert.AdamSquareIdeal.sig) → Buf (Elt Ideal) ℓ) : Prop :=
  True

def Pre_AdamSquareRefIdeal (m : (ℓ : Loc Cert.AdamSquareRefIdeal.nD Cert.AdamSquareRefIdeal.τ Cert.AdamSquareRefIdeal.sig) → Buf (Elt Ideal) ℓ) : Prop :=
  True

def Pre_AdamBranch (m : (ℓ : Loc Cert.AdamBranch.nD Cert.AdamBranch.τ Cert.AdamBranch.sig) → Buf (Elt Bits) ℓ) : Prop :=
  True

def Pre_AdamBranchIdeal (m : (ℓ : Loc Cert.AdamBranchIdeal.nD Cert.AdamBranchIdeal.τ Cert.AdamBranchIdeal.sig) → Buf (Elt Ideal) ℓ) : Prop :=
  True

def Pre_AdamBranchRefIdeal (m : (ℓ : Loc Cert.AdamBranchRefIdeal.nD Cert.AdamBranchRefIdeal.τ Cert.AdamBranchRefIdeal.sig) → Buf (Elt Ideal) ℓ) : Prop :=
  True

def Pre_AdamProj (m : (ℓ : Loc Cert.AdamProj.nD Cert.AdamProj.τ Cert.AdamProj.sig) → Buf (Elt Bits) ℓ) : Prop :=
  True

def Pre_AdamProjIdeal (m : (ℓ : Loc Cert.AdamProjIdeal.nD Cert.AdamProjIdeal.τ Cert.AdamProjIdeal.sig) → Buf (Elt Ideal) ℓ) : Prop :=
  True

def Pre_AdamProjRefIdeal (m : (ℓ : Loc Cert.AdamProjRefIdeal.nD Cert.AdamProjRefIdeal.τ Cert.AdamProjRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallIdeal_finite_small [hPre_finite_small : Cert.Pre_finite_small.Facts] (m : (ℓ : Loc Cert.AdamSmallIdeal.nD Cert.AdamSmallIdeal.τ Cert.AdamSmallIdeal.sig) → Buf (Elt Ideal) ℓ) : Prop :=
  ∀ c : Dev Cert.AdamSmallIdeal.nD,
    (Cert.Pre_finite_small.fn (F := Ideal) (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)) (m ((c.tc : Thread Cert.AdamSmallIdeal.nD Cert.AdamSmallIdeal.τ).loc Cert.AdamSmallIdeal.main_arg4)) (m ((c.tc : Thread Cert.AdamSmallIdeal.nD Cert.AdamSmallIdeal.τ).loc Cert.AdamSmallIdeal.main_arg5)) (m ((c.tc : Thread Cert.AdamSmallIdeal.nD Cert.AdamSmallIdeal.τ).loc Cert.AdamSmallIdeal.main_arg6)) (m ((c.tc : Thread Cert.AdamSmallIdeal.nD Cert.AdamSmallIdeal.τ).loc Cert.AdamSmallIdeal.main_arg7)) (m ((c.tc : Thread Cert.AdamSmallIdeal.nD Cert.AdamSmallIdeal.τ).loc Cert.AdamSmallIdeal.main_arg8)) (m ((c.tc : Thread Cert.AdamSmallIdeal.nD Cert.AdamSmallIdeal.τ).loc Cert.AdamSmallIdeal.main_arg9)) (m ((c.tc : Thread Cert.AdamSmallIdeal.nD Cert.AdamSmallIdeal.τ).loc Cert.AdamSmallIdeal.main_arg10)) (m ((c.tc : Thread Cert.AdamSmallIdeal.nD Cert.AdamSmallIdeal.τ).loc Cert.AdamSmallIdeal.main_arg11)) (m ((c.tc : Thread Cert.AdamSmallIdeal.nD Cert.AdamSmallIdeal.τ).loc Cert.AdamSmallIdeal.main_arg12)) (m ((c.tc : Thread Cert.AdamSmallIdeal.nD Cert.AdamSmallIdeal.τ).loc Cert.AdamSmallIdeal.main_arg13)) (m ((c.tc : Thread Cert.AdamSmallIdeal.nD Cert.AdamSmallIdeal.τ).loc Cert.AdamSmallIdeal.main_arg14)) (m ((c.tc : Thread Cert.AdamSmallIdeal.nD Cert.AdamSmallIdeal.τ).loc Cert.AdamSmallIdeal.main_arg15)) (m ((c.tc : Thread Cert.AdamSmallIdeal.nD Cert.AdamSmallIdeal.τ).loc Cert.AdamSmallIdeal.main_arg16)) (m ((c.tc : Thread Cert.AdamSmallIdeal.nD Cert.AdamSmallIdeal.τ).loc Cert.AdamSmallIdeal.main_arg17)) (m ((c.tc : Thread Cert.AdamSmallIdeal.nD Cert.AdamSmallIdeal.τ).loc Cert.AdamSmallIdeal.main_arg18)) (m ((c.tc : Thread Cert.AdamSmallIdeal.nD Cert.AdamSmallIdeal.τ).loc Cert.AdamSmallIdeal.main_arg19)) (m ((c.tc : Thread Cert.AdamSmallIdeal.nD Cert.AdamSmallIdeal.τ).loc Cert.AdamSmallIdeal.main_arg20)) (m ((c.tc : Thread Cert.AdamSmallIdeal.nD Cert.AdamSmallIdeal.τ).loc Cert.AdamSmallIdeal.main_arg21)) (m ((c.tc : Thread Cert.AdamSmallIdeal.nD Cert.AdamSmallIdeal.τ).loc Cert.AdamSmallIdeal.main_arg22)) (m ((c.tc : Thread Cert.AdamSmallIdeal.nD Cert.AdamSmallIdeal.τ).loc Cert.AdamSmallIdeal.main_arg23)) (m ((c.tc : Thread Cert.AdamSmallIdeal.nD Cert.AdamSmallIdeal.τ).loc Cert.AdamSmallIdeal.main_arg24)) (m ((c.tc : Thread Cert.AdamSmallIdeal.nD Cert.AdamSmallIdeal.τ).loc Cert.AdamSmallIdeal.main_arg25)) (m ((c.tc : Thread Cert.AdamSmallIdeal.nD Cert.AdamSmallIdeal.τ).loc Cert.AdamSmallIdeal.main_arg26)) (m ((c.tc : Thread Cert.AdamSmallIdeal.nD Cert.AdamSmallIdeal.τ).loc Cert.AdamSmallIdeal.main_arg27)) (m ((c.tc : Thread Cert.AdamSmallIdeal.nD Cert.AdamSmallIdeal.τ).loc Cert.AdamSmallIdeal.main_arg28)) (m ((c.tc : Thread Cert.AdamSmallIdeal.nD Cert.AdamSmallIdeal.τ).loc Cert.AdamSmallIdeal.main_arg29)) (m ((c.tc : Thread Cert.AdamSmallIdeal.nD Cert.AdamSmallIdeal.τ).loc Cert.AdamSmallIdeal.main_arg30)) (m ((c.tc : Thread Cert.AdamSmallIdeal.nD Cert.AdamSmallIdeal.τ).loc Cert.AdamSmallIdeal.main_arg31)) (m ((c.tc : Thread Cert.AdamSmallIdeal.nD Cert.AdamSmallIdeal.τ).loc Cert.AdamSmallIdeal.main_arg32)) (m ((c.tc : Thread Cert.AdamSmallIdeal.nD Cert.AdamSmallIdeal.τ).loc Cert.AdamSmallIdeal.main_arg33)) (m ((c.tc : Thread Cert.AdamSmallIdeal.nD Cert.AdamSmallIdeal.τ).loc Cert.AdamSmallIdeal.main_arg34)) (m ((c.tc : Thread Cert.AdamSmallIdeal.nD Cert.AdamSmallIdeal.τ).loc Cert.AdamSmallIdeal.main_arg35)) (m ((c.tc : Thread Cert.AdamSmallIdeal.nD Cert.AdamSmallIdeal.τ).loc Cert.AdamSmallIdeal.main_arg36)) (m ((c.tc : Thread Cert.AdamSmallIdeal.nD Cert.AdamSmallIdeal.τ).loc Cert.AdamSmallIdeal.main_arg37)) (m ((c.tc : Thread Cert.AdamSmallIdeal.nD Cert.AdamSmallIdeal.τ).loc Cert.AdamSmallIdeal.main_arg38)) (m ((c.tc : Thread Cert.AdamSmallIdeal.nD Cert.AdamSmallIdeal.τ).loc Cert.AdamSmallIdeal.main_arg39))) = (fun _ => 1#1)

def Pre_AdamSmallRefIdeal (m : (ℓ : Loc Cert.AdamSmallRefIdeal.nD Cert.AdamSmallRefIdeal.τ Cert.AdamSmallRefIdeal.sig) → Buf (Elt Ideal) ℓ) : Prop :=
  True

def Pre_AdamSmallRefIdeal_finite_small [hPre_finite_small : Cert.Pre_finite_small.Facts] (m : (ℓ : Loc Cert.AdamSmallRefIdeal.nD Cert.AdamSmallRefIdeal.τ Cert.AdamSmallRefIdeal.sig) → Buf (Elt Ideal) ℓ) : Prop :=
  ∀ c : Dev Cert.AdamSmallRefIdeal.nD,
    (Cert.Pre_finite_small.fn (F := Ideal) (m ((c.tc : Thread Cert.AdamSmallRefIdeal.nD Cert.AdamSmallRefIdeal.τ).loc Cert.AdamSmallRefIdeal.main_arg0)) (m ((c.tc : Thread Cert.AdamSmallRefIdeal.nD Cert.AdamSmallRefIdeal.τ).loc Cert.AdamSmallRefIdeal.main_arg1)) (m ((c.tc : Thread Cert.AdamSmallRefIdeal.nD Cert.AdamSmallRefIdeal.τ).loc Cert.AdamSmallRefIdeal.main_arg2)) (m ((c.tc : Thread Cert.AdamSmallRefIdeal.nD Cert.AdamSmallRefIdeal.τ).loc Cert.AdamSmallRefIdeal.main_arg3)) (m ((c.tc : Thread Cert.AdamSmallRefIdeal.nD Cert.AdamSmallRefIdeal.τ).loc Cert.AdamSmallRefIdeal.main_arg4)) (m ((c.tc : Thread Cert.AdamSmallRefIdeal.nD Cert.AdamSmallRefIdeal.τ).loc Cert.AdamSmallRefIdeal.main_arg5)) (m ((c.tc : Thread Cert.AdamSmallRefIdeal.nD Cert.AdamSmallRefIdeal.τ).loc Cert.AdamSmallRefIdeal.main_arg6)) (m ((c.tc : Thread Cert.AdamSmallRefIdeal.nD Cert.AdamSmallRefIdeal.τ).loc Cert.AdamSmallRefIdeal.main_arg7)) (m ((c.tc : Thread Cert.AdamSmallRefIdeal.nD Cert.AdamSmallRefIdeal.τ).loc Cert.AdamSmallRefIdeal.main_arg8)) (m ((c.tc : Thread Cert.AdamSmallRefIdeal.nD Cert.AdamSmallRefIdeal.τ).loc Cert.AdamSmallRefIdeal.main_arg9)) (m ((c.tc : Thread Cert.AdamSmallRefIdeal.nD Cert.AdamSmallRefIdeal.τ).loc Cert.AdamSmallRefIdeal.main_arg10)) (m ((c.tc : Thread Cert.AdamSmallRefIdeal.nD Cert.AdamSmallRefIdeal.τ).loc Cert.AdamSmallRefIdeal.main_arg11)) (m ((c.tc : Thread Cert.AdamSmallRefIdeal.nD Cert.AdamSmallRefIdeal.τ).loc Cert.AdamSmallRefIdeal.main_arg12)) (m ((c.tc : Thread Cert.AdamSmallRefIdeal.nD Cert.AdamSmallRefIdeal.τ).loc Cert.AdamSmallRefIdeal.main_arg13)) (m ((c.tc : Thread Cert.AdamSmallRefIdeal.nD Cert.AdamSmallRefIdeal.τ).loc Cert.AdamSmallRefIdeal.main_arg14)) (m ((c.tc : Thread Cert.AdamSmallRefIdeal.nD Cert.AdamSmallRefIdeal.τ).loc Cert.AdamSmallRefIdeal.main_arg15)) (m ((c.tc : Thread Cert.AdamSmallRefIdeal.nD Cert.AdamSmallRefIdeal.τ).loc Cert.AdamSmallRefIdeal.main_arg16)) (m ((c.tc : Thread Cert.AdamSmallRefIdeal.nD Cert.AdamSmallRefIdeal.τ).loc Cert.AdamSmallRefIdeal.main_arg17)) (m ((c.tc : Thread Cert.AdamSmallRefIdeal.nD Cert.AdamSmallRefIdeal.τ).loc Cert.AdamSmallRefIdeal.main_arg18)) (m ((c.tc : Thread Cert.AdamSmallRefIdeal.nD Cert.AdamSmallRefIdeal.τ).loc Cert.AdamSmallRefIdeal.main_arg19)) (m ((c.tc : Thread Cert.AdamSmallRefIdeal.nD Cert.AdamSmallRefIdeal.τ).loc Cert.AdamSmallRefIdeal.main_arg20)) (m ((c.tc : Thread Cert.AdamSmallRefIdeal.nD Cert.AdamSmallRefIdeal.τ).loc Cert.AdamSmallRefIdeal.main_arg21)) (m ((c.tc : Thread Cert.AdamSmallRefIdeal.nD Cert.AdamSmallRefIdeal.τ).loc Cert.AdamSmallRefIdeal.main_arg22)) (m ((c.tc : Thread Cert.AdamSmallRefIdeal.nD Cert.AdamSmallRefIdeal.τ).loc Cert.AdamSmallRefIdeal.main_arg23)) (m ((c.tc : Thread Cert.AdamSmallRefIdeal.nD Cert.AdamSmallRefIdeal.τ).loc Cert.AdamSmallRefIdeal.main_arg24)) (m ((c.tc : Thread Cert.AdamSmallRefIdeal.nD Cert.AdamSmallRefIdeal.τ).loc Cert.AdamSmallRefIdeal.main_arg25)) (m ((c.tc : Thread Cert.AdamSmallRefIdeal.nD Cert.AdamSmallRefIdeal.τ).loc Cert.AdamSmallRefIdeal.main_arg26)) (m ((c.tc : Thread Cert.AdamSmallRefIdeal.nD Cert.AdamSmallRefIdeal.τ).loc Cert.AdamSmallRefIdeal.main_arg27)) (m ((c.tc : Thread Cert.AdamSmallRefIdeal.nD Cert.AdamSmallRefIdeal.τ).loc Cert.AdamSmallRefIdeal.main_arg28)) (m ((c.tc : Thread Cert.AdamSmallRefIdeal.nD Cert.AdamSmallRefIdeal.τ).loc Cert.AdamSmallRefIdeal.main_arg29)) (m ((c.tc : Thread Cert.AdamSmallRefIdeal.nD Cert.AdamSmallRefIdeal.τ).loc Cert.AdamSmallRefIdeal.main_arg30)) (m ((c.tc : Thread Cert.AdamSmallRefIdeal.nD Cert.AdamSmallRefIdeal.τ).loc Cert.AdamSmallRefIdeal.main_arg31)) (m ((c.tc : Thread Cert.AdamSmallRefIdeal.nD Cert.AdamSmallRefIdeal.τ).loc Cert.AdamSmallRefIdeal.main_arg32)) (m ((c.tc : Thread Cert.AdamSmallRefIdeal.nD Cert.AdamSmallRefIdeal.τ).loc Cert.AdamSmallRefIdeal.main_arg33)) (m ((c.tc : Thread Cert.AdamSmallRefIdeal.nD Cert.AdamSmallRefIdeal.τ).loc Cert.AdamSmallRefIdeal.main_arg34)) (m ((c.tc : Thread Cert.AdamSmallRefIdeal.nD Cert.AdamSmallRefIdeal.τ).loc Cert.AdamSmallRefIdeal.main_arg35)) (m ((c.tc : Thread Cert.AdamSmallRefIdeal.nD Cert.AdamSmallRefIdeal.τ).loc Cert.AdamSmallRefIdeal.main_arg36)) (m ((c.tc : Thread Cert.AdamSmallRefIdeal.nD Cert.AdamSmallRefIdeal.τ).loc Cert.AdamSmallRefIdeal.main_arg37)) (m ((c.tc : Thread Cert.AdamSmallRefIdeal.nD Cert.AdamSmallRefIdeal.τ).loc Cert.AdamSmallRefIdeal.main_arg38)) (m ((c.tc : Thread Cert.AdamSmallRefIdeal.nD Cert.AdamSmallRefIdeal.τ).loc Cert.AdamSmallRefIdeal.main_arg39))) = (fun _ => 1#1)

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormRefIdeal (m : (ℓ : Loc Cert.NormRefIdeal.nD Cert.NormRefIdeal.τ Cert.NormRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_UpGrad [hUpGrad : Cert.UpGrad.Facts] : Prop :=
  ∀ (m : (ℓ : Loc Cert.UpGrad.nD Cert.UpGrad.τ Cert.UpGrad.sig) → Buf (Elt Bits) ℓ) (g : Dev Cert.UpGrad.nD → PrngReg), Pre_UpGrad m →
    θ_run (Cert.UpGrad.defs (F := Bits)) (onTc (τ := Cert.UpGrad.τ) (Cert.UpGrad.main (F := Bits))) ⟨m, fun _ => 0, g⟩ (fun r => (∀ c : Dev Cert.UpGrad.nD,
      r.2.mem ((c.tc : Thread Cert.UpGrad.nD Cert.UpGrad.τ).loc Cert.UpGrad.main_arg0) = m ((c.tc : Thread Cert.UpGrad.nD Cert.UpGrad.τ).loc Cert.UpGrad.main_arg0)
      ∧ r.2.mem ((c.tc : Thread Cert.UpGrad.nD Cert.UpGrad.τ).loc Cert.UpGrad.main_arg1) = m ((c.tc : Thread Cert.UpGrad.nD Cert.UpGrad.τ).loc Cert.UpGrad.main_arg1))
      ∧ r.2.sem = fun _ => 0)

def quiescent_UpGradIdeal [hUpGradIdeal : Cert.UpGradIdeal.Facts] : Prop :=
  ∀ (m : (ℓ : Loc Cert.UpGradIdeal.nD Cert.UpGradIdeal.τ Cert.UpGradIdeal.sig) → Buf (Elt Ideal) ℓ) (g : Dev Cert.UpGradIdeal.nD → PrngReg), Pre_UpGradIdeal m →
    θ_run (Cert.UpGradIdeal.defs (F := Ideal)) (onTc (τ := Cert.UpGradIdeal.τ) (Cert.UpGradIdeal.main (F := Ideal))) ⟨m, fun _ => 0, g⟩ (fun r => (∀ c : Dev Cert.UpGradIdeal.nD,
      r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
      ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ r.2.sem = fun _ => 0)

def quiescent_UpGradRefIdeal [hUpGradRefIdeal : Cert.UpGradRefIdeal.Facts] : Prop :=
  ∀ (m : (ℓ : Loc Cert.UpGradRefIdeal.nD Cert.UpGradRefIdeal.τ Cert.UpGradRefIdeal.sig) → Buf (Elt Ideal) ℓ) (g : Dev Cert.UpGradRefIdeal.nD → PrngReg), Pre_UpGradRefIdeal m →
    θ_run (Cert.UpGradRefIdeal.defs (F := Ideal)) (onTc (τ := Cert.UpGradRefIdeal.τ) (Cert.UpGradRefIdeal.main (F := Ideal))) ⟨m, fun _ => 0, g⟩ (fun r => (∀ c : Dev Cert.UpGradRefIdeal.nD,
      r.2.mem ((c.tc : Thread Cert.UpGradRefIdeal.nD Cert.UpGradRefIdeal.τ).loc Cert.UpGradRefIdeal.main_arg0) = m ((c.tc : Thread Cert.UpGradRefIdeal.nD Cert.UpGradRefIdeal.τ).loc Cert.UpGradRefIdeal.main_arg0)
      ∧ r.2.mem ((c.tc : Thread Cert.UpGradRefIdeal.nD Cert.UpGradRefIdeal.τ).loc Cert.UpGradRefIdeal.main_arg1) = m ((c.tc : Thread Cert.UpGradRefIdeal.nD Cert.UpGradRefIdeal.τ).loc Cert.UpGradRefIdeal.main_arg1))
      ∧ r.2.sem = fun _ => 0)

def quiescent_DownGrad [hDownGrad : Cert.DownGrad.Facts] : Prop :=
  ∀ (m : (ℓ : Loc Cert.DownGrad.nD Cert.DownGrad.τ Cert.DownGrad.sig) → Buf (Elt Bits) ℓ) (g : Dev Cert.DownGrad.nD → PrngReg), Pre_DownGrad m →
    θ_run (Cert.DownGrad.defs (F := Bits)) (onTc (τ := Cert.DownGrad.τ) (Cert.DownGrad.main (F := Bits))) ⟨m, fun _ => 0, g⟩ (fun r => (∀ c : Dev Cert.DownGrad.nD,
      r.2.mem ((c.tc : Thread Cert.DownGrad.nD Cert.DownGrad.τ).loc Cert.DownGrad.main_arg0) = m ((c.tc : Thread Cert.DownGrad.nD Cert.DownGrad.τ).loc Cert.DownGrad.main_arg0)
      ∧ r.2.mem ((c.tc : Thread Cert.DownGrad.nD Cert.DownGrad.τ).loc Cert.DownGrad.main_arg1) = m ((c.tc : Thread Cert.DownGrad.nD Cert.DownGrad.τ).loc Cert.DownGrad.main_arg1))
      ∧ r.2.sem = fun _ => 0)

def quiescent_DownGradIdeal [hDownGradIdeal : Cert.DownGradIdeal.Facts] : Prop :=
  ∀ (m : (ℓ : Loc Cert.DownGradIdeal.nD Cert.DownGradIdeal.τ Cert.DownGradIdeal.sig) → Buf (Elt Ideal) ℓ) (g : Dev Cert.DownGradIdeal.nD → PrngReg), Pre_DownGradIdeal m →
    θ_run (Cert.DownGradIdeal.defs (F := Ideal)) (onTc (τ := Cert.DownGradIdeal.τ) (Cert.DownGradIdeal.main (F := Ideal))) ⟨m, fun _ => 0, g⟩ (fun r => (∀ c : Dev Cert.DownGradIdeal.nD,
      r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
      ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ r.2.sem = fun _ => 0)

def quiescent_DownGradRefIdeal [hDownGradRefIdeal : Cert.DownGradRefIdeal.Facts] : Prop :=
  ∀ (m : (ℓ : Loc Cert.DownGradRefIdeal.nD Cert.DownGradRefIdeal.τ Cert.DownGradRefIdeal.sig) → Buf (Elt Ideal) ℓ) (g : Dev Cert.DownGradRefIdeal.nD → PrngReg), Pre_DownGradRefIdeal m →
    θ_run (Cert.DownGradRefIdeal.defs (F := Ideal)) (onTc (τ := Cert.DownGradRefIdeal.τ) (Cert.DownGradRefIdeal.main (F := Ideal))) ⟨m, fun _ => 0, g⟩ (fun r => (∀ c : Dev Cert.DownGradRefIdeal.nD,
      r.2.mem ((c.tc : Thread Cert.DownGradRefIdeal.nD Cert.DownGradRefIdeal.τ).loc Cert.DownGradRefIdeal.main_arg0) = m ((c.tc : Thread Cert.DownGradRefIdeal.nD Cert.DownGradRefIdeal.τ).loc Cert.DownGradRefIdeal.main_arg0)
      ∧ r.2.mem ((c.tc : Thread Cert.DownGradRefIdeal.nD Cert.DownGradRefIdeal.τ).loc Cert.DownGradRefIdeal.main_arg1) = m ((c.tc : Thread Cert.DownGradRefIdeal.nD Cert.DownGradRefIdeal.τ).loc Cert.DownGradRefIdeal.main_arg1))
      ∧ r.2.sem = fun _ => 0)

def quiescent_SquareGrad [hSquareGrad : Cert.SquareGrad.Facts] : Prop :=
  ∀ (m : (ℓ : Loc Cert.SquareGrad.nD Cert.SquareGrad.τ Cert.SquareGrad.sig) → Buf (Elt Bits) ℓ) (g : Dev Cert.SquareGrad.nD → PrngReg), Pre_SquareGrad m →
    θ_run (Cert.SquareGrad.defs (F := Bits)) (onTc (τ := Cert.SquareGrad.τ) (Cert.SquareGrad.main (F := Bits))) ⟨m, fun _ => 0, g⟩ (fun r => (∀ c : Dev Cert.SquareGrad.nD,
      r.2.mem ((c.tc : Thread Cert.SquareGrad.nD Cert.SquareGrad.τ).loc Cert.SquareGrad.main_arg0) = m ((c.tc : Thread Cert.SquareGrad.nD Cert.SquareGrad.τ).loc Cert.SquareGrad.main_arg0)
      ∧ r.2.mem ((c.tc : Thread Cert.SquareGrad.nD Cert.SquareGrad.τ).loc Cert.SquareGrad.main_arg1) = m ((c.tc : Thread Cert.SquareGrad.nD Cert.SquareGrad.τ).loc Cert.SquareGrad.main_arg1))
      ∧ r.2.sem = fun _ => 0)

def quiescent_SquareGradIdeal [hSquareGradIdeal : Cert.SquareGradIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg), Pre_SquareGradIdeal m →
    θ_run (Cert.SquareGradIdeal.defs (F := Ideal)) (onTc (τ := Cert.SquareGradIdeal.τ) (Cert.SquareGradIdeal.main (F := Ideal))) ⟨m, fun _ => 0, g⟩ (fun r => (∀ c : Dev Cert.SquareGradIdeal.nD,
      r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
      ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ r.2.sem = fun _ => 0)

def quiescent_SquareGradRefIdeal [hSquareGradRefIdeal : Cert.SquareGradRefIdeal.Facts] : Prop :=
  ∀ (m : (ℓ : Loc Cert.SquareGradRefIdeal.nD Cert.SquareGradRefIdeal.τ Cert.SquareGradRefIdeal.sig) → Buf (Elt Ideal) ℓ) (g : Dev Cert.SquareGradRefIdeal.nD → PrngReg), Pre_SquareGradRefIdeal m →
    θ_run (Cert.SquareGradRefIdeal.defs (F := Ideal)) (onTc (τ := Cert.SquareGradRefIdeal.τ) (Cert.SquareGradRefIdeal.main (F := Ideal))) ⟨m, fun _ => 0, g⟩ (fun r => (∀ c : Dev Cert.SquareGradRefIdeal.nD,
      r.2.mem ((c.tc : Thread Cert.SquareGradRefIdeal.nD Cert.SquareGradRefIdeal.τ).loc Cert.SquareGradRefIdeal.main_arg0) = m ((c.tc : Thread Cert.SquareGradRefIdeal.nD Cert.SquareGradRefIdeal.τ).loc Cert.SquareGradRefIdeal.main_arg0)
      ∧ r.2.mem ((c.tc : Thread Cert.SquareGradRefIdeal.nD Cert.SquareGradRefIdeal.τ).loc Cert.SquareGradRefIdeal.main_arg1) = m ((c.tc : Thread Cert.SquareGradRefIdeal.nD Cert.SquareGradRefIdeal.τ).loc Cert.SquareGradRefIdeal.main_arg1))
      ∧ r.2.sem = fun _ => 0)

def quiescent_BranchGrad [hBranchGrad : Cert.BranchGrad.Facts] : Prop :=
  ∀ (m : (ℓ : Loc Cert.BranchGrad.nD Cert.BranchGrad.τ Cert.BranchGrad.sig) → Buf (Elt Bits) ℓ) (g : Dev Cert.BranchGrad.nD → PrngReg), Pre_BranchGrad m →
    θ_run (Cert.BranchGrad.defs (F := Bits)) (onTc (τ := Cert.BranchGrad.τ) (Cert.BranchGrad.main (F := Bits))) ⟨m, fun _ => 0, g⟩ (fun r => (∀ c : Dev Cert.BranchGrad.nD,
      r.2.mem ((c.tc : Thread Cert.BranchGrad.nD Cert.BranchGrad.τ).loc Cert.BranchGrad.main_arg0) = m ((c.tc : Thread Cert.BranchGrad.nD Cert.BranchGrad.τ).loc Cert.BranchGrad.main_arg0)
      ∧ r.2.mem ((c.tc : Thread Cert.BranchGrad.nD Cert.BranchGrad.τ).loc Cert.BranchGrad.main_arg1) = m ((c.tc : Thread Cert.BranchGrad.nD Cert.BranchGrad.τ).loc Cert.BranchGrad.main_arg1))
      ∧ r.2.sem = fun _ => 0)

def quiescent_BranchGradIdeal [hBranchGradIdeal : Cert.BranchGradIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg), Pre_BranchGradIdeal m →
    θ_run (Cert.BranchGradIdeal.defs (F := Ideal)) (onTc (τ := Cert.BranchGradIdeal.τ) (Cert.BranchGradIdeal.main (F := Ideal))) ⟨m, fun _ => 0, g⟩ (fun r => (∀ c : Dev Cert.BranchGradIdeal.nD,
      r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
      ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1))
      ∧ r.2.sem = fun _ => 0)

def quiescent_BranchGradRefIdeal [hBranchGradRefIdeal : Cert.BranchGradRefIdeal.Facts] : Prop :=
  ∀ (m : (ℓ : Loc Cert.BranchGradRefIdeal.nD Cert.BranchGradRefIdeal.τ Cert.BranchGradRefIdeal.sig) → Buf (Elt Ideal) ℓ) (g : Dev Cert.BranchGradRefIdeal.nD → PrngReg), Pre_BranchGradRefIdeal m →
    θ_run (Cert.BranchGradRefIdeal.defs (F := Ideal)) (onTc (τ := Cert.BranchGradRefIdeal.τ) (Cert.BranchGradRefIdeal.main (F := Ideal))) ⟨m, fun _ => 0, g⟩ (fun r => (∀ c : Dev Cert.BranchGradRefIdeal.nD,
      r.2.mem ((c.tc : Thread Cert.BranchGradRefIdeal.nD Cert.BranchGradRefIdeal.τ).loc Cert.BranchGradRefIdeal.main_arg0) = m ((c.tc : Thread Cert.BranchGradRefIdeal.nD Cert.BranchGradRefIdeal.τ).loc Cert.BranchGradRefIdeal.main_arg0)
      ∧ r.2.mem ((c.tc : Thread Cert.BranchGradRefIdeal.nD Cert.BranchGradRefIdeal.τ).loc Cert.BranchGradRefIdeal.main_arg1) = m ((c.tc : Thread Cert.BranchGradRefIdeal.nD Cert.BranchGradRefIdeal.τ).loc Cert.BranchGradRefIdeal.main_arg1))
      ∧ r.2.sem = fun _ => 0)

def quiescent_ProjGrad [hProjGrad : Cert.ProjGrad.Facts] : Prop :=
  ∀ (m : (ℓ : Loc Cert.ProjGrad.nD Cert.ProjGrad.τ Cert.ProjGrad.sig) → Buf (Elt Bits) ℓ) (g : Dev Cert.ProjGrad.nD → PrngReg), Pre_ProjGrad m →
    θ_run (Cert.ProjGrad.defs (F := Bits)) (onTc (τ := Cert.ProjGrad.τ) (Cert.ProjGrad.main (F := Bits))) ⟨m, fun _ => 0, g⟩ (fun r => (∀ c : Dev Cert.ProjGrad.nD,
      r.2.mem ((c.tc : Thread Cert.ProjGrad.nD Cert.ProjGrad.τ).loc Cert.ProjGrad.main_arg0) = m ((c.tc : Thread Cert.ProjGrad.nD Cert.ProjGrad.τ).loc Cert.ProjGrad.main_arg0)
      ∧ r.2.mem ((c.tc : Thread Cert.ProjGrad.nD Cert.ProjGrad.τ).loc Cert.ProjGrad.main_arg1) = m ((c.tc : Thread Cert.ProjGrad.nD Cert.ProjGrad.τ).loc Cert.ProjGrad.main_arg1))
      ∧ r.2.sem = fun _ => 0)

def quiescent_ProjGradIdeal [hProjGradIdeal : Cert.ProjGradIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg), Pre_ProjGradIdeal m →
    θ_run (Cert.ProjGradIdeal.defs (F := Ideal)) (onTc (τ := Cert.ProjGradIdeal.τ) (Cert.ProjGradIdeal.main (F := Ideal))) ⟨m, fun _ => 0, g⟩ (fun r => (∀ c : Dev Cert.ProjGradIdeal.nD,
      r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
      ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1))
      ∧ r.2.sem = fun _ => 0)

def quiescent_ProjGradRefIdeal [hProjGradRefIdeal : Cert.ProjGradRefIdeal.Facts] : Prop :=
  ∀ (m : (ℓ : Loc Cert.ProjGradRefIdeal.nD Cert.ProjGradRefIdeal.τ Cert.ProjGradRefIdeal.sig) → Buf (Elt Ideal) ℓ) (g : Dev Cert.ProjGradRefIdeal.nD → PrngReg), Pre_ProjGradRefIdeal m →
    θ_run (Cert.ProjGradRefIdeal.defs (F := Ideal)) (onTc (τ := Cert.ProjGradRefIdeal.τ) (Cert.ProjGradRefIdeal.main (F := Ideal))) ⟨m, fun _ => 0, g⟩ (fun r => (∀ c : Dev Cert.ProjGradRefIdeal.nD,
      r.2.mem ((c.tc : Thread Cert.ProjGradRefIdeal.nD Cert.ProjGradRefIdeal.τ).loc Cert.ProjGradRefIdeal.main_arg0) = m ((c.tc : Thread Cert.ProjGradRefIdeal.nD Cert.ProjGradRefIdeal.τ).loc Cert.ProjGradRefIdeal.main_arg0)
      ∧ r.2.mem ((c.tc : Thread Cert.ProjGradRefIdeal.nD Cert.ProjGradRefIdeal.τ).loc Cert.ProjGradRefIdeal.main_arg1) = m ((c.tc : Thread Cert.ProjGradRefIdeal.nD Cert.ProjGradRefIdeal.τ).loc Cert.ProjGradRefIdeal.main_arg1))
      ∧ r.2.sem = fun _ => 0)

def quiescent_InWideGrad [hInWideGrad : Cert.InWideGrad.Facts] : Prop :=
  ∀ (m : (ℓ : Loc Cert.InWideGrad.nD Cert.InWideGrad.τ Cert.InWideGrad.sig) → Buf (Elt Bits) ℓ) (g : Dev Cert.InWideGrad.nD → PrngReg), Pre_InWideGrad m →
    θ_run (Cert.InWideGrad.defs (F := Bits)) (onTc (τ := Cert.InWideGrad.τ) (Cert.InWideGrad.main (F := Bits))) ⟨m, fun _ => 0, g⟩ (fun r => (∀ c : Dev Cert.InWideGrad.nD,
      r.2.mem ((c.tc : Thread Cert.InWideGrad.nD Cert.InWideGrad.τ).loc Cert.InWideGrad.main_arg0) = m ((c.tc : Thread Cert.InWideGrad.nD Cert.InWideGrad.τ).loc Cert.InWideGrad.main_arg0)
      ∧ r.2.mem ((c.tc : Thread Cert.InWideGrad.nD Cert.InWideGrad.τ).loc Cert.InWideGrad.main_arg1) = m ((c.tc : Thread Cert.InWideGrad.nD Cert.InWideGrad.τ).loc Cert.InWideGrad.main_arg1))
      ∧ r.2.sem = fun _ => 0)

def quiescent_InWideGradIdeal [hInWideGradIdeal : Cert.InWideGradIdeal.Facts] : Prop :=
  ∀ (m : (ℓ : Loc Cert.InWideGradIdeal.nD Cert.InWideGradIdeal.τ Cert.InWideGradIdeal.sig) → Buf (Elt Ideal) ℓ) (g : Dev Cert.InWideGradIdeal.nD → PrngReg), Pre_InWideGradIdeal m →
    θ_run (Cert.InWideGradIdeal.defs (F := Ideal)) (onTc (τ := Cert.InWideGradIdeal.τ) (Cert.InWideGradIdeal.main (F := Ideal))) ⟨m, fun _ => 0, g⟩ (fun r => (∀ c : Dev Cert.InWideGradIdeal.nD,
      r.2.mem ((c.tc : Thread Cert.InWideGradIdeal.nD Cert.InWideGradIdeal.τ).loc Cert.InWideGradIdeal.main_arg0) = m ((c.tc : Thread Cert.InWideGradIdeal.nD Cert.InWideGradIdeal.τ).loc Cert.InWideGradIdeal.main_arg0)
      ∧ r.2.mem ((c.tc : Thread Cert.InWideGradIdeal.nD Cert.InWideGradIdeal.τ).loc Cert.InWideGradIdeal.main_arg1) = m ((c.tc : Thread Cert.InWideGradIdeal.nD Cert.InWideGradIdeal.τ).loc Cert.InWideGradIdeal.main_arg1))
      ∧ r.2.sem = fun _ => 0)

def quiescent_InWideGradRefIdeal [hInWideGradRefIdeal : Cert.InWideGradRefIdeal.Facts] : Prop :=
  ∀ (m : (ℓ : Loc Cert.InWideGradRefIdeal.nD Cert.InWideGradRefIdeal.τ Cert.InWideGradRefIdeal.sig) → Buf (Elt Ideal) ℓ) (g : Dev Cert.InWideGradRefIdeal.nD → PrngReg), Pre_InWideGradRefIdeal m →
    θ_run (Cert.InWideGradRefIdeal.defs (F := Ideal)) (onTc (τ := Cert.InWideGradRefIdeal.τ) (Cert.InWideGradRefIdeal.main (F := Ideal))) ⟨m, fun _ => 0, g⟩ (fun r => (∀ c : Dev Cert.InWideGradRefIdeal.nD,
      r.2.mem ((c.tc : Thread Cert.InWideGradRefIdeal.nD Cert.InWideGradRefIdeal.τ).loc Cert.InWideGradRefIdeal.main_arg0) = m ((c.tc : Thread Cert.InWideGradRefIdeal.nD Cert.InWideGradRefIdeal.τ).loc Cert.InWideGradRefIdeal.main_arg0)
      ∧ r.2.mem ((c.tc : Thread Cert.InWideGradRefIdeal.nD Cert.InWideGradRefIdeal.τ).loc Cert.InWideGradRefIdeal.main_arg1) = m ((c.tc : Thread Cert.InWideGradRefIdeal.nD Cert.InWideGradRefIdeal.τ).loc Cert.InWideGradRefIdeal.main_arg1))
      ∧ r.2.sem = fun _ => 0)

def quiescent_InMidGrad [hInMidGrad : Cert.InMidGrad.Facts] : Prop :=
  ∀ (m : (ℓ : Loc Cert.InMidGrad.nD Cert.InMidGrad.τ Cert.InMidGrad.sig) → Buf (Elt Bits) ℓ) (g : Dev Cert.InMidGrad.nD → PrngReg), Pre_InMidGrad m →
    θ_run (Cert.InMidGrad.defs (F := Bits)) (onTc (τ := Cert.InMidGrad.τ) (Cert.InMidGrad.main (F := Bits))) ⟨m, fun _ => 0, g⟩ (fun r => (∀ c : Dev Cert.InMidGrad.nD,
      r.2.mem ((c.tc : Thread Cert.InMidGrad.nD Cert.InMidGrad.τ).loc Cert.InMidGrad.main_arg0) = m ((c.tc : Thread Cert.InMidGrad.nD Cert.InMidGrad.τ).loc Cert.InMidGrad.main_arg0)
      ∧ r.2.mem ((c.tc : Thread Cert.InMidGrad.nD Cert.InMidGrad.τ).loc Cert.InMidGrad.main_arg1) = m ((c.tc : Thread Cert.InMidGrad.nD Cert.InMidGrad.τ).loc Cert.InMidGrad.main_arg1))
      ∧ r.2.sem = fun _ => 0)

def quiescent_InMidGradIdeal [hInMidGradIdeal : Cert.InMidGradIdeal.Facts] : Prop :=
  ∀ (m : (ℓ : Loc Cert.InMidGradIdeal.nD Cert.InMidGradIdeal.τ Cert.InMidGradIdeal.sig) → Buf (Elt Ideal) ℓ) (g : Dev Cert.InMidGradIdeal.nD → PrngReg), Pre_InMidGradIdeal m →
    θ_run (Cert.InMidGradIdeal.defs (F := Ideal)) (onTc (τ := Cert.InMidGradIdeal.τ) (Cert.InMidGradIdeal.main (F := Ideal))) ⟨m, fun _ => 0, g⟩ (fun r => (∀ c : Dev Cert.InMidGradIdeal.nD,
      r.2.mem ((c.tc : Thread Cert.InMidGradIdeal.nD Cert.InMidGradIdeal.τ).loc Cert.InMidGradIdeal.main_arg0) = m ((c.tc : Thread Cert.InMidGradIdeal.nD Cert.InMidGradIdeal.τ).loc Cert.InMidGradIdeal.main_arg0)
      ∧ r.2.mem ((c.tc : Thread Cert.InMidGradIdeal.nD Cert.InMidGradIdeal.τ).loc Cert.InMidGradIdeal.main_arg1) = m ((c.tc : Thread Cert.InMidGradIdeal.nD Cert.InMidGradIdeal.τ).loc Cert.InMidGradIdeal.main_arg1))
      ∧ r.2.sem = fun _ => 0)

def quiescent_InMidGradRefIdeal [hInMidGradRefIdeal : Cert.InMidGradRefIdeal.Facts] : Prop :=
  ∀ (m : (ℓ : Loc Cert.InMidGradRefIdeal.nD Cert.InMidGradRefIdeal.τ Cert.InMidGradRefIdeal.sig) → Buf (Elt Ideal) ℓ) (g : Dev Cert.InMidGradRefIdeal.nD → PrngReg), Pre_InMidGradRefIdeal m →
    θ_run (Cert.InMidGradRefIdeal.defs (F := Ideal)) (onTc (τ := Cert.InMidGradRefIdeal.τ) (Cert.InMidGradRefIdeal.main (F := Ideal))) ⟨m, fun _ => 0, g⟩ (fun r => (∀ c : Dev Cert.InMidGradRefIdeal.nD,
      r.2.mem ((c.tc : Thread Cert.InMidGradRefIdeal.nD Cert.InMidGradRefIdeal.τ).loc Cert.InMidGradRefIdeal.main_arg0) = m ((c.tc : Thread Cert.InMidGradRefIdeal.nD Cert.InMidGradRefIdeal.τ).loc Cert.InMidGradRefIdeal.main_arg0)
      ∧ r.2.mem ((c.tc : Thread Cert.InMidGradRefIdeal.nD Cert.InMidGradRefIdeal.τ).loc Cert.InMidGradRefIdeal.main_arg1) = m ((c.tc : Thread Cert.InMidGradRefIdeal.nD Cert.InMidGradRefIdeal.τ).loc Cert.InMidGradRefIdeal.main_arg1))
      ∧ r.2.sem = fun _ => 0)

def quiescent_InSmallGrad [hInSmallGrad : Cert.InSmallGrad.Facts] : Prop :=
  ∀ (m : (ℓ : Loc Cert.InSmallGrad.nD Cert.InSmallGrad.τ Cert.InSmallGrad.sig) → Buf (Elt Bits) ℓ) (g : Dev Cert.InSmallGrad.nD → PrngReg), Pre_InSmallGrad m →
    θ_run (Cert.InSmallGrad.defs (F := Bits)) (onTc (τ := Cert.InSmallGrad.τ) (Cert.InSmallGrad.main (F := Bits))) ⟨m, fun _ => 0, g⟩ (fun r => (∀ c : Dev Cert.InSmallGrad.nD,
      r.2.mem ((c.tc : Thread Cert.InSmallGrad.nD Cert.InSmallGrad.τ).loc Cert.InSmallGrad.main_arg0) = m ((c.tc : Thread Cert.InSmallGrad.nD Cert.InSmallGrad.τ).loc Cert.InSmallGrad.main_arg0)
      ∧ r.2.mem ((c.tc : Thread Cert.InSmallGrad.nD Cert.InSmallGrad.τ).loc Cert.InSmallGrad.main_arg1) = m ((c.tc : Thread Cert.InSmallGrad.nD Cert.InSmallGrad.τ).loc Cert.InSmallGrad.main_arg1))
      ∧ r.2.sem = fun _ => 0)

def quiescent_InSmallGradIdeal [hInSmallGradIdeal : Cert.InSmallGradIdeal.Facts] : Prop :=
  ∀ (m : (ℓ : Loc Cert.InSmallGradIdeal.nD Cert.InSmallGradIdeal.τ Cert.InSmallGradIdeal.sig) → Buf (Elt Ideal) ℓ) (g : Dev Cert.InSmallGradIdeal.nD → PrngReg), Pre_InSmallGradIdeal m →
    θ_run (Cert.InSmallGradIdeal.defs (F := Ideal)) (onTc (τ := Cert.InSmallGradIdeal.τ) (Cert.InSmallGradIdeal.main (F := Ideal))) ⟨m, fun _ => 0, g⟩ (fun r => (∀ c : Dev Cert.InSmallGradIdeal.nD,
      r.2.mem ((c.tc : Thread Cert.InSmallGradIdeal.nD Cert.InSmallGradIdeal.τ).loc Cert.InSmallGradIdeal.main_arg0) = m ((c.tc : Thread Cert.InSmallGradIdeal.nD Cert.InSmallGradIdeal.τ).loc Cert.InSmallGradIdeal.main_arg0)
      ∧ r.2.mem ((c.tc : Thread Cert.InSmallGradIdeal.nD Cert.InSmallGradIdeal.τ).loc Cert.InSmallGradIdeal.main_arg1) = m ((c.tc : Thread Cert.InSmallGradIdeal.nD Cert.InSmallGradIdeal.τ).loc Cert.InSmallGradIdeal.main_arg1))
      ∧ r.2.sem = fun _ => 0)

def quiescent_InSmallGradRefIdeal [hInSmallGradRefIdeal : Cert.InSmallGradRefIdeal.Facts] : Prop :=
  ∀ (m : (ℓ : Loc Cert.InSmallGradRefIdeal.nD Cert.InSmallGradRefIdeal.τ Cert.InSmallGradRefIdeal.sig) → Buf (Elt Ideal) ℓ) (g : Dev Cert.InSmallGradRefIdeal.nD → PrngReg), Pre_InSmallGradRefIdeal m →
    θ_run (Cert.InSmallGradRefIdeal.defs (F := Ideal)) (onTc (τ := Cert.InSmallGradRefIdeal.τ) (Cert.InSmallGradRefIdeal.main (F := Ideal))) ⟨m, fun _ => 0, g⟩ (fun r => (∀ c : Dev Cert.InSmallGradRefIdeal.nD,
      r.2.mem ((c.tc : Thread Cert.InSmallGradRefIdeal.nD Cert.InSmallGradRefIdeal.τ).loc Cert.InSmallGradRefIdeal.main_arg0) = m ((c.tc : Thread Cert.InSmallGradRefIdeal.nD Cert.InSmallGradRefIdeal.τ).loc Cert.InSmallGradRefIdeal.main_arg0)
      ∧ r.2.mem ((c.tc : Thread Cert.InSmallGradRefIdeal.nD Cert.InSmallGradRefIdeal.τ).loc Cert.InSmallGradRefIdeal.main_arg1) = m ((c.tc : Thread Cert.InSmallGradRefIdeal.nD Cert.InSmallGradRefIdeal.τ).loc Cert.InSmallGradRefIdeal.main_arg1))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_BranchA [hBranchA : Cert.BranchA.Facts] : Prop :=
  ∀ (m : (ℓ : Loc Cert.BranchA.nD Cert.BranchA.τ Cert.BranchA.sig) → Buf (Elt Bits) ℓ) (g : Dev Cert.BranchA.nD → PrngReg), Pre_BranchA m →
    θ_run (Cert.BranchA.defs (F := Bits)) (onTc (τ := Cert.BranchA.τ) (Cert.BranchA.main (F := Bits))) ⟨m, fun _ => 0, g⟩ (fun r => (∀ c : Dev Cert.BranchA.nD,
      r.2.mem ((c.tc : Thread Cert.BranchA.nD Cert.BranchA.τ).loc Cert.BranchA.main_arg0) = m ((c.tc : Thread Cert.BranchA.nD Cert.BranchA.τ).loc Cert.BranchA.main_arg0)
      ∧ r.2.mem ((c.tc : Thread Cert.BranchA.nD Cert.BranchA.τ).loc Cert.BranchA.main_arg1) = m ((c.tc : Thread Cert.BranchA.nD Cert.BranchA.τ).loc Cert.BranchA.main_arg1))
      ∧ r.2.sem = fun _ => 0)

def quiescent_BranchAIdeal [hBranchAIdeal : Cert.BranchAIdeal.Facts] : Prop :=
  ∀ (m : (ℓ : Loc Cert.BranchAIdeal.nD Cert.BranchAIdeal.τ Cert.BranchAIdeal.sig) → Buf (Elt Ideal) ℓ) (g : Dev Cert.BranchAIdeal.nD → PrngReg), Pre_BranchAIdeal m →
    θ_run (Cert.BranchAIdeal.defs (F := Ideal)) (onTc (τ := Cert.BranchAIdeal.τ) (Cert.BranchAIdeal.main (F := Ideal))) ⟨m, fun _ => 0, g⟩ (fun r => (∀ c : Dev Cert.BranchAIdeal.nD,
      r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
      ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ r.2.sem = fun _ => 0)

def quiescent_BranchARefIdeal [hBranchARefIdeal : Cert.BranchARefIdeal.Facts] : Prop :=
  ∀ (m : (ℓ : Loc Cert.BranchARefIdeal.nD Cert.BranchARefIdeal.τ Cert.BranchARefIdeal.sig) → Buf (Elt Ideal) ℓ) (g : Dev Cert.BranchARefIdeal.nD → PrngReg), Pre_BranchARefIdeal m →
    θ_run (Cert.BranchARefIdeal.defs (F := Ideal)) (onTc (τ := Cert.BranchARefIdeal.τ) (Cert.BranchARefIdeal.main (F := Ideal))) ⟨m, fun _ => 0, g⟩ (fun r => (∀ c : Dev Cert.BranchARefIdeal.nD,
      r.2.mem ((c.tc : Thread Cert.BranchARefIdeal.nD Cert.BranchARefIdeal.τ).loc Cert.BranchARefIdeal.main_arg0) = m ((c.tc : Thread Cert.BranchARefIdeal.nD Cert.BranchARefIdeal.τ).loc Cert.BranchARefIdeal.main_arg0)
      ∧ r.2.mem ((c.tc : Thread Cert.BranchARefIdeal.nD Cert.BranchARefIdeal.τ).loc Cert.BranchARefIdeal.main_arg1) = m ((c.tc : Thread Cert.BranchARefIdeal.nD Cert.BranchARefIdeal.τ).loc Cert.BranchARefIdeal.main_arg1))
      ∧ r.2.sem = fun _ => 0)

def quiescent_BranchB [hBranchB : Cert.BranchB.Facts] : Prop :=
  ∀ (m : (ℓ : Loc Cert.BranchB.nD Cert.BranchB.τ Cert.BranchB.sig) → Buf (Elt Bits) ℓ) (g : Dev Cert.BranchB.nD → PrngReg), Pre_BranchB m →
    θ_run (Cert.BranchB.defs (F := Bits)) (onTc (τ := Cert.BranchB.τ) (Cert.BranchB.main (F := Bits))) ⟨m, fun _ => 0, g⟩ (fun r => (∀ c : Dev Cert.BranchB.nD,
      r.2.mem ((c.tc : Thread Cert.BranchB.nD Cert.BranchB.τ).loc Cert.BranchB.main_arg0) = m ((c.tc : Thread Cert.BranchB.nD Cert.BranchB.τ).loc Cert.BranchB.main_arg0)
      ∧ r.2.mem ((c.tc : Thread Cert.BranchB.nD Cert.BranchB.τ).loc Cert.BranchB.main_arg1) = m ((c.tc : Thread Cert.BranchB.nD Cert.BranchB.τ).loc Cert.BranchB.main_arg1))
      ∧ r.2.sem = fun _ => 0)

def quiescent_BranchBIdeal [hBranchBIdeal : Cert.BranchBIdeal.Facts] : Prop :=
  ∀ (m : (ℓ : Loc Cert.BranchBIdeal.nD Cert.BranchBIdeal.τ Cert.BranchBIdeal.sig) → Buf (Elt Ideal) ℓ) (g : Dev Cert.BranchBIdeal.nD → PrngReg), Pre_BranchBIdeal m →
    θ_run (Cert.BranchBIdeal.defs (F := Ideal)) (onTc (τ := Cert.BranchBIdeal.τ) (Cert.BranchBIdeal.main (F := Ideal))) ⟨m, fun _ => 0, g⟩ (fun r => (∀ c : Dev Cert.BranchBIdeal.nD,
      r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
      ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ r.2.sem = fun _ => 0)

def quiescent_BranchBRefIdeal [hBranchBRefIdeal : Cert.BranchBRefIdeal.Facts] : Prop :=
  ∀ (m : (ℓ : Loc Cert.BranchBRefIdeal.nD Cert.BranchBRefIdeal.τ Cert.BranchBRefIdeal.sig) → Buf (Elt Ideal) ℓ) (g : Dev Cert.BranchBRefIdeal.nD → PrngReg), Pre_BranchBRefIdeal m →
    θ_run (Cert.BranchBRefIdeal.defs (F := Ideal)) (onTc (τ := Cert.BranchBRefIdeal.τ) (Cert.BranchBRefIdeal.main (F := Ideal))) ⟨m, fun _ => 0, g⟩ (fun r => (∀ c : Dev Cert.BranchBRefIdeal.nD,
      r.2.mem ((c.tc : Thread Cert.BranchBRefIdeal.nD Cert.BranchBRefIdeal.τ).loc Cert.BranchBRefIdeal.main_arg0) = m ((c.tc : Thread Cert.BranchBRefIdeal.nD Cert.BranchBRefIdeal.τ).loc Cert.BranchBRefIdeal.main_arg0)
      ∧ r.2.mem ((c.tc : Thread Cert.BranchBRefIdeal.nD Cert.BranchBRefIdeal.τ).loc Cert.BranchBRefIdeal.main_arg1) = m ((c.tc : Thread Cert.BranchBRefIdeal.nD Cert.BranchBRefIdeal.τ).loc Cert.BranchBRefIdeal.main_arg1))
      ∧ r.2.sem = fun _ => 0)

def quiescent_PleProj [hPleProj : Cert.PleProj.Facts] : Prop :=
  ∀ (m : (ℓ : Loc Cert.PleProj.nD Cert.PleProj.τ Cert.PleProj.sig) → Buf (Elt Bits) ℓ) (g : Dev Cert.PleProj.nD → PrngReg), Pre_PleProj m →
    θ_run (Cert.PleProj.defs (F := Bits)) (onTc (τ := Cert.PleProj.τ) (Cert.PleProj.main (F := Bits))) ⟨m, fun _ => 0, g⟩ (fun r => (∀ c : Dev Cert.PleProj.nD,
      r.2.mem ((c.tc : Thread Cert.PleProj.nD Cert.PleProj.τ).loc Cert.PleProj.main_arg0) = m ((c.tc : Thread Cert.PleProj.nD Cert.PleProj.τ).loc Cert.PleProj.main_arg0)
      ∧ r.2.mem ((c.tc : Thread Cert.PleProj.nD Cert.PleProj.τ).loc Cert.PleProj.main_arg1) = m ((c.tc : Thread Cert.PleProj.nD Cert.PleProj.τ).loc Cert.PleProj.main_arg1))
      ∧ r.2.sem = fun _ => 0)

def quiescent_PleProjIdeal [hPleProjIdeal : Cert.PleProjIdeal.Facts] : Prop :=
  ∀ (m : (ℓ : Loc Cert.PleProjIdeal.nD Cert.PleProjIdeal.τ Cert.PleProjIdeal.sig) → Buf (Elt Ideal) ℓ) (g : Dev Cert.PleProjIdeal.nD → PrngReg), Pre_PleProjIdeal m →
    θ_run (Cert.PleProjIdeal.defs (F := Ideal)) (onTc (τ := Cert.PleProjIdeal.τ) (Cert.PleProjIdeal.main (F := Ideal))) ⟨m, fun _ => 0, g⟩ (fun r => (∀ c : Dev Cert.PleProjIdeal.nD,
      r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
      ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ r.2.sem = fun _ => 0)

def quiescent_PleProjRefIdeal [hPleProjRefIdeal : Cert.PleProjRefIdeal.Facts] : Prop :=
  ∀ (m : (ℓ : Loc Cert.PleProjRefIdeal.nD Cert.PleProjRefIdeal.τ Cert.PleProjRefIdeal.sig) → Buf (Elt Ideal) ℓ) (g : Dev Cert.PleProjRefIdeal.nD → PrngReg), Pre_PleProjRefIdeal m →
    θ_run (Cert.PleProjRefIdeal.defs (F := Ideal)) (onTc (τ := Cert.PleProjRefIdeal.τ) (Cert.PleProjRefIdeal.main (F := Ideal))) ⟨m, fun _ => 0, g⟩ (fun r => (∀ c : Dev Cert.PleProjRefIdeal.nD,
      r.2.mem ((c.tc : Thread Cert.PleProjRefIdeal.nD Cert.PleProjRefIdeal.τ).loc Cert.PleProjRefIdeal.main_arg0) = m ((c.tc : Thread Cert.PleProjRefIdeal.nD Cert.PleProjRefIdeal.τ).loc Cert.PleProjRefIdeal.main_arg0)
      ∧ r.2.mem ((c.tc : Thread Cert.PleProjRefIdeal.nD Cert.PleProjRefIdeal.τ).loc Cert.PleProjRefIdeal.main_arg1) = m ((c.tc : Thread Cert.PleProjRefIdeal.nD Cert.PleProjRefIdeal.τ).loc Cert.PleProjRefIdeal.main_arg1))
      ∧ r.2.sem = fun _ => 0)

def quiescent_OutGrad [hOutGrad : Cert.OutGrad.Facts] : Prop :=
  ∀ (m : (ℓ : Loc Cert.OutGrad.nD Cert.OutGrad.τ Cert.OutGrad.sig) → Buf (Elt Bits) ℓ) (g : Dev Cert.OutGrad.nD → PrngReg), Pre_OutGrad m →
    θ_run (Cert.OutGrad.defs (F := Bits)) (onTc (τ := Cert.OutGrad.τ) (Cert.OutGrad.main (F := Bits))) ⟨m, fun _ => 0, g⟩ (fun r => (∀ c : Dev Cert.OutGrad.nD,
      r.2.mem ((c.tc : Thread Cert.OutGrad.nD Cert.OutGrad.τ).loc Cert.OutGrad.main_arg0) = m ((c.tc : Thread Cert.OutGrad.nD Cert.OutGrad.τ).loc Cert.OutGrad.main_arg0)
      ∧ r.2.mem ((c.tc : Thread Cert.OutGrad.nD Cert.OutGrad.τ).loc Cert.OutGrad.main_arg1) = m ((c.tc : Thread Cert.OutGrad.nD Cert.OutGrad.τ).loc Cert.OutGrad.main_arg1))
      ∧ r.2.sem = fun _ => 0)

def quiescent_OutGradIdeal [hOutGradIdeal : Cert.OutGradIdeal.Facts] : Prop :=
  ∀ (m : (ℓ : Loc Cert.OutGradIdeal.nD Cert.OutGradIdeal.τ Cert.OutGradIdeal.sig) → Buf (Elt Ideal) ℓ) (g : Dev Cert.OutGradIdeal.nD → PrngReg), Pre_OutGradIdeal m →
    θ_run (Cert.OutGradIdeal.defs (F := Ideal)) (onTc (τ := Cert.OutGradIdeal.τ) (Cert.OutGradIdeal.main (F := Ideal))) ⟨m, fun _ => 0, g⟩ (fun r => (∀ c : Dev Cert.OutGradIdeal.nD,
      r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
      ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ r.2.sem = fun _ => 0)

def quiescent_OutGradRefIdeal [hOutGradRefIdeal : Cert.OutGradRefIdeal.Facts] : Prop :=
  ∀ (m : (ℓ : Loc Cert.OutGradRefIdeal.nD Cert.OutGradRefIdeal.τ Cert.OutGradRefIdeal.sig) → Buf (Elt Ideal) ℓ) (g : Dev Cert.OutGradRefIdeal.nD → PrngReg), Pre_OutGradRefIdeal m →
    θ_run (Cert.OutGradRefIdeal.defs (F := Ideal)) (onTc (τ := Cert.OutGradRefIdeal.τ) (Cert.OutGradRefIdeal.main (F := Ideal))) ⟨m, fun _ => 0, g⟩ (fun r => (∀ c : Dev Cert.OutGradRefIdeal.nD,
      r.2.mem ((c.tc : Thread Cert.OutGradRefIdeal.nD Cert.OutGradRefIdeal.τ).loc Cert.OutGradRefIdeal.main_arg0) = m ((c.tc : Thread Cert.OutGradRefIdeal.nD Cert.OutGradRefIdeal.τ).loc Cert.OutGradRefIdeal.main_arg0)
      ∧ r.2.mem ((c.tc : Thread Cert.OutGradRefIdeal.nD Cert.OutGradRefIdeal.τ).loc Cert.OutGradRefIdeal.main_arg1) = m ((c.tc : Thread Cert.OutGradRefIdeal.nD Cert.OutGradRefIdeal.τ).loc Cert.OutGradRefIdeal.main_arg1))
      ∧ r.2.sem = fun _ => 0)

def quiescent_MixedGrad [hMixedGrad : Cert.MixedGrad.Facts] : Prop :=
  ∀ (m : (ℓ : Loc Cert.MixedGrad.nD Cert.MixedGrad.τ Cert.MixedGrad.sig) → Buf (Elt Bits) ℓ) (g : Dev Cert.MixedGrad.nD → PrngReg), Pre_MixedGrad m →
    θ_run (Cert.MixedGrad.defs (F := Bits)) (onTc (τ := Cert.MixedGrad.τ) (Cert.MixedGrad.main (F := Bits))) ⟨m, fun _ => 0, g⟩ (fun r => (∀ c : Dev Cert.MixedGrad.nD,
      r.2.mem ((c.tc : Thread Cert.MixedGrad.nD Cert.MixedGrad.τ).loc Cert.MixedGrad.main_arg0) = m ((c.tc : Thread Cert.MixedGrad.nD Cert.MixedGrad.τ).loc Cert.MixedGrad.main_arg0)
      ∧ r.2.mem ((c.tc : Thread Cert.MixedGrad.nD Cert.MixedGrad.τ).loc Cert.MixedGrad.main_arg1) = m ((c.tc : Thread Cert.MixedGrad.nD Cert.MixedGrad.τ).loc Cert.MixedGrad.main_arg1))
      ∧ r.2.sem = fun _ => 0)

def quiescent_MixedGradIdeal [hMixedGradIdeal : Cert.MixedGradIdeal.Facts] : Prop :=
  ∀ (m : (ℓ : Loc Cert.MixedGradIdeal.nD Cert.MixedGradIdeal.τ Cert.MixedGradIdeal.sig) → Buf (Elt Ideal) ℓ) (g : Dev Cert.MixedGradIdeal.nD → PrngReg), Pre_MixedGradIdeal m →
    θ_run (Cert.MixedGradIdeal.defs (F := Ideal)) (onTc (τ := Cert.MixedGradIdeal.τ) (Cert.MixedGradIdeal.main (F := Ideal))) ⟨m, fun _ => 0, g⟩ (fun r => (∀ c : Dev Cert.MixedGradIdeal.nD,
      r.2.mem ((c.tc : Thread Cert.MixedGradIdeal.nD Cert.MixedGradIdeal.τ).loc Cert.MixedGradIdeal.main_arg0) = m ((c.tc : Thread Cert.MixedGradIdeal.nD Cert.MixedGradIdeal.τ).loc Cert.MixedGradIdeal.main_arg0)
      ∧ r.2.mem ((c.tc : Thread Cert.MixedGradIdeal.nD Cert.MixedGradIdeal.τ).loc Cert.MixedGradIdeal.main_arg1) = m ((c.tc : Thread Cert.MixedGradIdeal.nD Cert.MixedGradIdeal.τ).loc Cert.MixedGradIdeal.main_arg1))
      ∧ r.2.sem = fun _ => 0)

def quiescent_MixedGradRefIdeal [hMixedGradRefIdeal : Cert.MixedGradRefIdeal.Facts] : Prop :=
  ∀ (m : (ℓ : Loc Cert.MixedGradRefIdeal.nD Cert.MixedGradRefIdeal.τ Cert.MixedGradRefIdeal.sig) → Buf (Elt Ideal) ℓ) (g : Dev Cert.MixedGradRefIdeal.nD → PrngReg), Pre_MixedGradRefIdeal m →
    θ_run (Cert.MixedGradRefIdeal.defs (F := Ideal)) (onTc (τ := Cert.MixedGradRefIdeal.τ) (Cert.MixedGradRefIdeal.main (F := Ideal))) ⟨m, fun _ => 0, g⟩ (fun r => (∀ c : Dev Cert.MixedGradRefIdeal.nD,
      r.2.mem ((c.tc : Thread Cert.MixedGradRefIdeal.nD Cert.MixedGradRefIdeal.τ).loc Cert.MixedGradRefIdeal.main_arg0) = m ((c.tc : Thread Cert.MixedGradRefIdeal.nD Cert.MixedGradRefIdeal.τ).loc Cert.MixedGradRefIdeal.main_arg0)
      ∧ r.2.mem ((c.tc : Thread Cert.MixedGradRefIdeal.nD Cert.MixedGradRefIdeal.τ).loc Cert.MixedGradRefIdeal.main_arg1) = m ((c.tc : Thread Cert.MixedGradRefIdeal.nD Cert.MixedGradRefIdeal.τ).loc Cert.MixedGradRefIdeal.main_arg1))
      ∧ r.2.sem = fun _ => 0)

def quiescent_FfnUp [hFfnUp : Cert.FfnUp.Facts] : Prop :=
  ∀ (m : (ℓ : Loc Cert.FfnUp.nD Cert.FfnUp.τ Cert.FfnUp.sig) → Buf (Elt Bits) ℓ) (g : Dev Cert.FfnUp.nD → PrngReg), Pre_FfnUp m →
    θ_run (Cert.FfnUp.defs (F := Bits)) (onTc (τ := Cert.FfnUp.τ) (Cert.FfnUp.main (F := Bits))) ⟨m, fun _ => 0, g⟩ (fun r => (∀ c : Dev Cert.FfnUp.nD,
      r.2.mem ((c.tc : Thread Cert.FfnUp.nD Cert.FfnUp.τ).loc Cert.FfnUp.main_arg0) = m ((c.tc : Thread Cert.FfnUp.nD Cert.FfnUp.τ).loc Cert.FfnUp.main_arg0)
      ∧ r.2.mem ((c.tc : Thread Cert.FfnUp.nD Cert.FfnUp.τ).loc Cert.FfnUp.main_arg1) = m ((c.tc : Thread Cert.FfnUp.nD Cert.FfnUp.τ).loc Cert.FfnUp.main_arg1)
      ∧ r.2.mem ((c.tc : Thread Cert.FfnUp.nD Cert.FfnUp.τ).loc Cert.FfnUp.main_arg2) = m ((c.tc : Thread Cert.FfnUp.nD Cert.FfnUp.τ).loc Cert.FfnUp.main_arg2))
      ∧ r.2.sem = fun _ => 0)

def quiescent_FfnUpIdeal [hFfnUpIdeal : Cert.FfnUpIdeal.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpIdeal_pre_finite_up [hFfnUpIdeal : Cert.FfnUpIdeal.Facts] [hPre_finite_up : Cert.Pre_finite_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg), Pre_FfnUpIdeal_finite_up m →
    θ_run (Cert.FfnUpIdeal.defs (F := Ideal)) (onTc (τ := Cert.FfnUpIdeal.τ) (Cert.FfnUpIdeal.main (F := Ideal))) ⟨m, fun _ => 0, g⟩ (fun r => (∀ c : Dev Cert.FfnUpIdeal.nD,
      r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
      ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
      ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ r.2.sem = fun _ => 0)

def quiescent_FfnUpRefIdeal [hFfnUpRefIdeal : Cert.FfnUpRefIdeal.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_FfnUpRefIdeal_pre_finite_up [hFfnUpRefIdeal : Cert.FfnUpRefIdeal.Facts] [hPre_finite_up : Cert.Pre_finite_up.Facts] : Prop :=
  ∀ (m : (ℓ : Loc Cert.FfnUpRefIdeal.nD Cert.FfnUpRefIdeal.τ Cert.FfnUpRefIdeal.sig) → Buf (Elt Ideal) ℓ) (g : Dev Cert.FfnUpRefIdeal.nD → PrngReg), Pre_FfnUpRefIdeal_finite_up m →
    θ_run (Cert.FfnUpRefIdeal.defs (F := Ideal)) (onTc (τ := Cert.FfnUpRefIdeal.τ) (Cert.FfnUpRefIdeal.main (F := Ideal))) ⟨m, fun _ => 0, g⟩ (fun r => (∀ c : Dev Cert.FfnUpRefIdeal.nD,
      r.2.mem ((c.tc : Thread Cert.FfnUpRefIdeal.nD Cert.FfnUpRefIdeal.τ).loc Cert.FfnUpRefIdeal.main_arg0) = m ((c.tc : Thread Cert.FfnUpRefIdeal.nD Cert.FfnUpRefIdeal.τ).loc Cert.FfnUpRefIdeal.main_arg0)
      ∧ r.2.mem ((c.tc : Thread Cert.FfnUpRefIdeal.nD Cert.FfnUpRefIdeal.τ).loc Cert.FfnUpRefIdeal.main_arg1) = m ((c.tc : Thread Cert.FfnUpRefIdeal.nD Cert.FfnUpRefIdeal.τ).loc Cert.FfnUpRefIdeal.main_arg1)
      ∧ r.2.mem ((c.tc : Thread Cert.FfnUpRefIdeal.nD Cert.FfnUpRefIdeal.τ).loc Cert.FfnUpRefIdeal.main_arg2) = m ((c.tc : Thread Cert.FfnUpRefIdeal.nD Cert.FfnUpRefIdeal.τ).loc Cert.FfnUpRefIdeal.main_arg2))
      ∧ r.2.sem = fun _ => 0)

def quiescent_Mid [hMid : Cert.Mid.Facts] : Prop :=
  ∀ (m : (ℓ : Loc Cert.Mid.nD Cert.Mid.τ Cert.Mid.sig) → Buf (Elt Bits) ℓ) (g : Dev Cert.Mid.nD → PrngReg), Pre_Mid m →
    θ_run (Cert.Mid.defs (F := Bits)) (onTc (τ := Cert.Mid.τ) (Cert.Mid.main (F := Bits))) ⟨m, fun _ => 0, g⟩ (fun r => (∀ c : Dev Cert.Mid.nD,
      r.2.mem ((c.tc : Thread Cert.Mid.nD Cert.Mid.τ).loc Cert.Mid.main_arg0) = m ((c.tc : Thread Cert.Mid.nD Cert.Mid.τ).loc Cert.Mid.main_arg0)
      ∧ r.2.mem ((c.tc : Thread Cert.Mid.nD Cert.Mid.τ).loc Cert.Mid.main_arg1) = m ((c.tc : Thread Cert.Mid.nD Cert.Mid.τ).loc Cert.Mid.main_arg1)
      ∧ r.2.mem ((c.tc : Thread Cert.Mid.nD Cert.Mid.τ).loc Cert.Mid.main_arg2) = m ((c.tc : Thread Cert.Mid.nD Cert.Mid.τ).loc Cert.Mid.main_arg2)
      ∧ r.2.mem ((c.tc : Thread Cert.Mid.nD Cert.Mid.τ).loc Cert.Mid.main_arg3) = m ((c.tc : Thread Cert.Mid.nD Cert.Mid.τ).loc Cert.Mid.main_arg3))
      ∧ r.2.sem = fun _ => 0)

def quiescent_MidIdeal [hMidIdeal : Cert.MidIdeal.Facts] : Prop :=
  ∀ (m : (ℓ : Loc Cert.MidIdeal.nD Cert.MidIdeal.τ Cert.MidIdeal.sig) → Buf (Elt Ideal) ℓ) (g : Dev Cert.MidIdeal.nD → PrngReg), Pre_MidIdeal m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidIdeal_pre_finite_mid [hMidIdeal : Cert.MidIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg), Pre_MidIdeal_finite_mid m →
    θ_run (Cert.MidIdeal.defs (F := Ideal)) (onTc (τ := Cert.MidIdeal.τ) (Cert.MidIdeal.main (F := Ideal))) ⟨m, fun _ => 0, g⟩ (fun r => (∀ c : Dev Cert.MidIdeal.nD,
      r.2.mem ((c.tc : Thread Cert.MidIdeal.nD Cert.MidIdeal.τ).loc Cert.MidIdeal.main_arg0) = m ((c.tc : Thread Cert.MidIdeal.nD Cert.MidIdeal.τ).loc Cert.MidIdeal.main_arg0)
      ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
      ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
      ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ r.2.sem = fun _ => 0)

def quiescent_MidRefIdeal [hMidRefIdeal : Cert.MidRefIdeal.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_MidRefIdeal_pre_finite_mid [hMidRefIdeal : Cert.MidRefIdeal.Facts] [hPre_finite_mid : Cert.Pre_finite_mid.Facts] : Prop :=
  ∀ (m : (ℓ : Loc Cert.MidRefIdeal.nD Cert.MidRefIdeal.τ Cert.MidRefIdeal.sig) → Buf (Elt Ideal) ℓ) (g : Dev Cert.MidRefIdeal.nD → PrngReg), Pre_MidRefIdeal_finite_mid m →
    θ_run (Cert.MidRefIdeal.defs (F := Ideal)) (onTc (τ := Cert.MidRefIdeal.τ) (Cert.MidRefIdeal.main (F := Ideal))) ⟨m, fun _ => 0, g⟩ (fun r => (∀ c : Dev Cert.MidRefIdeal.nD,
      r.2.mem ((c.tc : Thread Cert.MidRefIdeal.nD Cert.MidRefIdeal.τ).loc Cert.MidRefIdeal.main_arg0) = m ((c.tc : Thread Cert.MidRefIdeal.nD Cert.MidRefIdeal.τ).loc Cert.MidRefIdeal.main_arg0)
      ∧ r.2.mem ((c.tc : Thread Cert.MidRefIdeal.nD Cert.MidRefIdeal.τ).loc Cert.MidRefIdeal.main_arg1) = m ((c.tc : Thread Cert.MidRefIdeal.nD Cert.MidRefIdeal.τ).loc Cert.MidRefIdeal.main_arg1)
      ∧ r.2.mem ((c.tc : Thread Cert.MidRefIdeal.nD Cert.MidRefIdeal.τ).loc Cert.MidRefIdeal.main_arg2) = m ((c.tc : Thread Cert.MidRefIdeal.nD Cert.MidRefIdeal.τ).loc Cert.MidRefIdeal.main_arg2)
      ∧ r.2.mem ((c.tc : Thread Cert.MidRefIdeal.nD Cert.MidRefIdeal.τ).loc Cert.MidRefIdeal.main_arg3) = m ((c.tc : Thread Cert.MidRefIdeal.nD Cert.MidRefIdeal.τ).loc Cert.MidRefIdeal.main_arg3))
      ∧ r.2.sem = fun _ => 0)

def quiescent_FfnDown [hFfnDown : Cert.FfnDown.Facts] : Prop :=
  ∀ (m : (ℓ : Loc Cert.FfnDown.nD Cert.FfnDown.τ Cert.FfnDown.sig) → Buf (Elt Bits) ℓ) (g : Dev Cert.FfnDown.nD → PrngReg), Pre_FfnDown m →
    θ_run (Cert.FfnDown.defs (F := Bits)) (onTc (τ := Cert.FfnDown.τ) (Cert.FfnDown.main (F := Bits))) ⟨m, fun _ => 0, g⟩ (fun r => (∀ c : Dev Cert.FfnDown.nD,
      r.2.mem ((c.tc : Thread Cert.FfnDown.nD Cert.FfnDown.τ).loc Cert.FfnDown.main_arg0) = m ((c.tc : Thread Cert.FfnDown.nD Cert.FfnDown.τ).loc Cert.FfnDown.main_arg0)
      ∧ r.2.mem ((c.tc : Thread Cert.FfnDown.nD Cert.FfnDown.τ).loc Cert.FfnDown.main_arg1) = m ((c.tc : Thread Cert.FfnDown.nD Cert.FfnDown.τ).loc Cert.FfnDown.main_arg1)
      ∧ r.2.mem ((c.tc : Thread Cert.FfnDown.nD Cert.FfnDown.τ).loc Cert.FfnDown.main_arg2) = m ((c.tc : Thread Cert.FfnDown.nD Cert.FfnDown.τ).loc Cert.FfnDown.main_arg2)
      ∧ r.2.mem ((c.tc : Thread Cert.FfnDown.nD Cert.FfnDown.τ).loc Cert.FfnDown.main_arg3) = m ((c.tc : Thread Cert.FfnDown.nD Cert.FfnDown.τ).loc Cert.FfnDown.main_arg3))
      ∧ r.2.sem = fun _ => 0)

def quiescent_FfnDownIdeal [hFfnDownIdeal : Cert.FfnDownIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg), Pre_FfnDownIdeal m →
    θ_run (Cert.FfnDownIdeal.defs (F := Ideal)) (onTc (τ := Cert.FfnDownIdeal.τ) (Cert.FfnDownIdeal.main (F := Ideal))) ⟨m, fun _ => 0, g⟩ (fun r => (∀ c : Dev Cert.FfnDownIdeal.nD,
      r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
      ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
      ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
      ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ r.2.sem = fun _ => 0)

def quiescent_FfnDownRefIdeal [hFfnDownRefIdeal : Cert.FfnDownRefIdeal.Facts] : Prop :=
  ∀ (m : (ℓ : Loc Cert.FfnDownRefIdeal.nD Cert.FfnDownRefIdeal.τ Cert.FfnDownRefIdeal.sig) → Buf (Elt Ideal) ℓ) (g : Dev Cert.FfnDownRefIdeal.nD → PrngReg), Pre_FfnDownRefIdeal m →
    θ_run (Cert.FfnDownRefIdeal.defs (F := Ideal)) (onTc (τ := Cert.FfnDownRefIdeal.τ) (Cert.FfnDownRefIdeal.main (F := Ideal))) ⟨m, fun _ => 0, g⟩ (fun r => (∀ c : Dev Cert.FfnDownRefIdeal.nD,
      r.2.mem ((c.tc : Thread Cert.FfnDownRefIdeal.nD Cert.FfnDownRefIdeal.τ).loc Cert.FfnDownRefIdeal.main_arg0) = m ((c.tc : Thread Cert.FfnDownRefIdeal.nD Cert.FfnDownRefIdeal.τ).loc Cert.FfnDownRefIdeal.main_arg0)
      ∧ r.2.mem ((c.tc : Thread Cert.FfnDownRefIdeal.nD Cert.FfnDownRefIdeal.τ).loc Cert.FfnDownRefIdeal.main_arg1) = m ((c.tc : Thread Cert.FfnDownRefIdeal.nD Cert.FfnDownRefIdeal.τ).loc Cert.FfnDownRefIdeal.main_arg1)
      ∧ r.2.mem ((c.tc : Thread Cert.FfnDownRefIdeal.nD Cert.FfnDownRefIdeal.τ).loc Cert.FfnDownRefIdeal.main_arg2) = m ((c.tc : Thread Cert.FfnDownRefIdeal.nD Cert.FfnDownRefIdeal.τ).loc Cert.FfnDownRefIdeal.main_arg2)
      ∧ r.2.mem ((c.tc : Thread Cert.FfnDownRefIdeal.nD Cert.FfnDownRefIdeal.τ).loc Cert.FfnDownRefIdeal.main_arg3) = m ((c.tc : Thread Cert.FfnDownRefIdeal.nD Cert.FfnDownRefIdeal.τ).loc Cert.FfnDownRefIdeal.main_arg3))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3))
      ∧ r.2.sem = fun _ => 0)

def quiescent_AdamFfn [hAdamFfn : Cert.AdamFfn.Facts] : Prop :=
  ∀ (m : (ℓ : Loc Cert.AdamFfn.nD Cert.AdamFfn.τ Cert.AdamFfn.sig) → Buf (Elt Bits) ℓ) (g : Dev Cert.AdamFfn.nD → PrngReg), Pre_AdamFfn m →
    θ_run (Cert.AdamFfn.defs (F := Bits)) (onTc (τ := Cert.AdamFfn.τ) (Cert.AdamFfn.main (F := Bits))) ⟨m, fun _ => 0, g⟩ (fun r => (∀ c : Dev Cert.AdamFfn.nD,
      r.2.mem ((c.tc : Thread Cert.AdamFfn.nD Cert.AdamFfn.τ).loc Cert.AdamFfn.main_arg0) = m ((c.tc : Thread Cert.AdamFfn.nD Cert.AdamFfn.τ).loc Cert.AdamFfn.main_arg0)
      ∧ r.2.mem ((c.tc : Thread Cert.AdamFfn.nD Cert.AdamFfn.τ).loc Cert.AdamFfn.main_arg1) = m ((c.tc : Thread Cert.AdamFfn.nD Cert.AdamFfn.τ).loc Cert.AdamFfn.main_arg1)
      ∧ r.2.mem ((c.tc : Thread Cert.AdamFfn.nD Cert.AdamFfn.τ).loc Cert.AdamFfn.main_arg2) = m ((c.tc : Thread Cert.AdamFfn.nD Cert.AdamFfn.τ).loc Cert.AdamFfn.main_arg2)
      ∧ r.2.mem ((c.tc : Thread Cert.AdamFfn.nD Cert.AdamFfn.τ).loc Cert.AdamFfn.main_arg3) = m ((c.tc : Thread Cert.AdamFfn.nD Cert.AdamFfn.τ).loc Cert.AdamFfn.main_arg3))
      ∧ r.2.sem = fun _ => 0)

def quiescent_AdamFfnIdeal [hAdamFfnIdeal : Cert.AdamFfnIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg), Pre_AdamFfnIdeal m →
    θ_run (Cert.AdamFfnIdeal.defs (F := Ideal)) (onTc (τ := Cert.AdamFfnIdeal.τ) (Cert.AdamFfnIdeal.main (F := Ideal))) ⟨m, fun _ => 0, g⟩ (fun r => (∀ c : Dev Cert.AdamFfnIdeal.nD,
      r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
      ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
      ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
      ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ r.2.sem = fun _ => 0)

def quiescent_AdamFfnRefIdeal [hAdamFfnRefIdeal : Cert.AdamFfnRefIdeal.Facts] : Prop :=
  ∀ (m : (ℓ : Loc Cert.AdamFfnRefIdeal.nD Cert.AdamFfnRefIdeal.τ Cert.AdamFfnRefIdeal.sig) → Buf (Elt Ideal) ℓ) (g : Dev Cert.AdamFfnRefIdeal.nD → PrngReg), Pre_AdamFfnRefIdeal m →
    θ_run (Cert.AdamFfnRefIdeal.defs (F := Ideal)) (onTc (τ := Cert.AdamFfnRefIdeal.τ) (Cert.AdamFfnRefIdeal.main (F := Ideal))) ⟨m, fun _ => 0, g⟩ (fun r => (∀ c : Dev Cert.AdamFfnRefIdeal.nD,
      r.2.mem ((c.tc : Thread Cert.AdamFfnRefIdeal.nD Cert.AdamFfnRefIdeal.τ).loc Cert.AdamFfnRefIdeal.main_arg0) = m ((c.tc : Thread Cert.AdamFfnRefIdeal.nD Cert.AdamFfnRefIdeal.τ).loc Cert.AdamFfnRefIdeal.main_arg0)
      ∧ r.2.mem ((c.tc : Thread Cert.AdamFfnRefIdeal.nD Cert.AdamFfnRefIdeal.τ).loc Cert.AdamFfnRefIdeal.main_arg1) = m ((c.tc : Thread Cert.AdamFfnRefIdeal.nD Cert.AdamFfnRefIdeal.τ).loc Cert.AdamFfnRefIdeal.main_arg1)
      ∧ r.2.mem ((c.tc : Thread Cert.AdamFfnRefIdeal.nD Cert.AdamFfnRefIdeal.τ).loc Cert.AdamFfnRefIdeal.main_arg2) = m ((c.tc : Thread Cert.AdamFfnRefIdeal.nD Cert.AdamFfnRefIdeal.τ).loc Cert.AdamFfnRefIdeal.main_arg2)
      ∧ r.2.mem ((c.tc : Thread Cert.AdamFfnRefIdeal.nD Cert.AdamFfnRefIdeal.τ).loc Cert.AdamFfnRefIdeal.main_arg3) = m ((c.tc : Thread Cert.AdamFfnRefIdeal.nD Cert.AdamFfnRefIdeal.τ).loc Cert.AdamFfnRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3))
      ∧ r.2.sem = fun _ => 0)

def quiescent_AdamSquare [hAdamSquare : Cert.AdamSquare.Facts] : Prop :=
  ∀ (m : (ℓ : Loc Cert.AdamSquare.nD Cert.AdamSquare.τ Cert.AdamSquare.sig) → Buf (Elt Bits) ℓ) (g : Dev Cert.AdamSquare.nD → PrngReg), Pre_AdamSquare m →
    θ_run (Cert.AdamSquare.defs (F := Bits)) (onTc (τ := Cert.AdamSquare.τ) (Cert.AdamSquare.main (F := Bits))) ⟨m, fun _ => 0, g⟩ (fun r => (∀ c : Dev Cert.AdamSquare.nD,
      r.2.mem ((c.tc : Thread Cert.AdamSquare.nD Cert.AdamSquare.τ).loc Cert.AdamSquare.main_arg0) = m ((c.tc : Thread Cert.AdamSquare.nD Cert.AdamSquare.τ).loc Cert.AdamSquare.main_arg0)
      ∧ r.2.mem ((c.tc : Thread Cert.AdamSquare.nD Cert.AdamSquare.τ).loc Cert.AdamSquare.main_arg1) = m ((c.tc : Thread Cert.AdamSquare.nD Cert.AdamSquare.τ).loc Cert.AdamSquare.main_arg1)
      ∧ r.2.mem ((c.tc : Thread Cert.AdamSquare.nD Cert.AdamSquare.τ).loc Cert.AdamSquare.main_arg2) = m ((c.tc : Thread Cert.AdamSquare.nD Cert.AdamSquare.τ).loc Cert.AdamSquare.main_arg2)
      ∧ r.2.mem ((c.tc : Thread Cert.AdamSquare.nD Cert.AdamSquare.τ).loc Cert.AdamSquare.main_arg3) = m ((c.tc : Thread Cert.AdamSquare.nD Cert.AdamSquare.τ).loc Cert.AdamSquare.main_arg3))
      ∧ r.2.sem = fun _ => 0)

def quiescent_AdamSquareIdeal [hAdamSquareIdeal : Cert.AdamSquareIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg), Pre_AdamSquareIdeal m →
    θ_run (Cert.AdamSquareIdeal.defs (F := Ideal)) (onTc (τ := Cert.AdamSquareIdeal.τ) (Cert.AdamSquareIdeal.main (F := Ideal))) ⟨m, fun _ => 0, g⟩ (fun r => (∀ c : Dev Cert.AdamSquareIdeal.nD,
      r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
      ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
      ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
      ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ r.2.sem = fun _ => 0)

def quiescent_AdamSquareRefIdeal [hAdamSquareRefIdeal : Cert.AdamSquareRefIdeal.Facts] : Prop :=
  ∀ (m : (ℓ : Loc Cert.AdamSquareRefIdeal.nD Cert.AdamSquareRefIdeal.τ Cert.AdamSquareRefIdeal.sig) → Buf (Elt Ideal) ℓ) (g : Dev Cert.AdamSquareRefIdeal.nD → PrngReg), Pre_AdamSquareRefIdeal m →
    θ_run (Cert.AdamSquareRefIdeal.defs (F := Ideal)) (onTc (τ := Cert.AdamSquareRefIdeal.τ) (Cert.AdamSquareRefIdeal.main (F := Ideal))) ⟨m, fun _ => 0, g⟩ (fun r => (∀ c : Dev Cert.AdamSquareRefIdeal.nD,
      r.2.mem ((c.tc : Thread Cert.AdamSquareRefIdeal.nD Cert.AdamSquareRefIdeal.τ).loc Cert.AdamSquareRefIdeal.main_arg0) = m ((c.tc : Thread Cert.AdamSquareRefIdeal.nD Cert.AdamSquareRefIdeal.τ).loc Cert.AdamSquareRefIdeal.main_arg0)
      ∧ r.2.mem ((c.tc : Thread Cert.AdamSquareRefIdeal.nD Cert.AdamSquareRefIdeal.τ).loc Cert.AdamSquareRefIdeal.main_arg1) = m ((c.tc : Thread Cert.AdamSquareRefIdeal.nD Cert.AdamSquareRefIdeal.τ).loc Cert.AdamSquareRefIdeal.main_arg1)
      ∧ r.2.mem ((c.tc : Thread Cert.AdamSquareRefIdeal.nD Cert.AdamSquareRefIdeal.τ).loc Cert.AdamSquareRefIdeal.main_arg2) = m ((c.tc : Thread Cert.AdamSquareRefIdeal.nD Cert.AdamSquareRefIdeal.τ).loc Cert.AdamSquareRefIdeal.main_arg2)
      ∧ r.2.mem ((c.tc : Thread Cert.AdamSquareRefIdeal.nD Cert.AdamSquareRefIdeal.τ).loc Cert.AdamSquareRefIdeal.main_arg3) = m ((c.tc : Thread Cert.AdamSquareRefIdeal.nD Cert.AdamSquareRefIdeal.τ).loc Cert.AdamSquareRefIdeal.main_arg3))
      ∧ r.2.sem = fun _ => 0)

def quiescent_AdamBranch [hAdamBranch : Cert.AdamBranch.Facts] : Prop :=
  ∀ (m : (ℓ : Loc Cert.AdamBranch.nD Cert.AdamBranch.τ Cert.AdamBranch.sig) → Buf (Elt Bits) ℓ) (g : Dev Cert.AdamBranch.nD → PrngReg), Pre_AdamBranch m →
    θ_run (Cert.AdamBranch.defs (F := Bits)) (onTc (τ := Cert.AdamBranch.τ) (Cert.AdamBranch.main (F := Bits))) ⟨m, fun _ => 0, g⟩ (fun r => (∀ c : Dev Cert.AdamBranch.nD,
      r.2.mem ((c.tc : Thread Cert.AdamBranch.nD Cert.AdamBranch.τ).loc Cert.AdamBranch.main_arg0) = m ((c.tc : Thread Cert.AdamBranch.nD Cert.AdamBranch.τ).loc Cert.AdamBranch.main_arg0)
      ∧ r.2.mem ((c.tc : Thread Cert.AdamBranch.nD Cert.AdamBranch.τ).loc Cert.AdamBranch.main_arg1) = m ((c.tc : Thread Cert.AdamBranch.nD Cert.AdamBranch.τ).loc Cert.AdamBranch.main_arg1)
      ∧ r.2.mem ((c.tc : Thread Cert.AdamBranch.nD Cert.AdamBranch.τ).loc Cert.AdamBranch.main_arg2) = m ((c.tc : Thread Cert.AdamBranch.nD Cert.AdamBranch.τ).loc Cert.AdamBranch.main_arg2)
      ∧ r.2.mem ((c.tc : Thread Cert.AdamBranch.nD Cert.AdamBranch.τ).loc Cert.AdamBranch.main_arg3) = m ((c.tc : Thread Cert.AdamBranch.nD Cert.AdamBranch.τ).loc Cert.AdamBranch.main_arg3))
      ∧ r.2.sem = fun _ => 0)

def quiescent_AdamBranchIdeal [hAdamBranchIdeal : Cert.AdamBranchIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg), Pre_AdamBranchIdeal m →
    θ_run (Cert.AdamBranchIdeal.defs (F := Ideal)) (onTc (τ := Cert.AdamBranchIdeal.τ) (Cert.AdamBranchIdeal.main (F := Ideal))) ⟨m, fun _ => 0, g⟩ (fun r => (∀ c : Dev Cert.AdamBranchIdeal.nD,
      r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
      ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
      ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
      ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ r.2.sem = fun _ => 0)

def quiescent_AdamBranchRefIdeal [hAdamBranchRefIdeal : Cert.AdamBranchRefIdeal.Facts] : Prop :=
  ∀ (m : (ℓ : Loc Cert.AdamBranchRefIdeal.nD Cert.AdamBranchRefIdeal.τ Cert.AdamBranchRefIdeal.sig) → Buf (Elt Ideal) ℓ) (g : Dev Cert.AdamBranchRefIdeal.nD → PrngReg), Pre_AdamBranchRefIdeal m →
    θ_run (Cert.AdamBranchRefIdeal.defs (F := Ideal)) (onTc (τ := Cert.AdamBranchRefIdeal.τ) (Cert.AdamBranchRefIdeal.main (F := Ideal))) ⟨m, fun _ => 0, g⟩ (fun r => (∀ c : Dev Cert.AdamBranchRefIdeal.nD,
      r.2.mem ((c.tc : Thread Cert.AdamBranchRefIdeal.nD Cert.AdamBranchRefIdeal.τ).loc Cert.AdamBranchRefIdeal.main_arg0) = m ((c.tc : Thread Cert.AdamBranchRefIdeal.nD Cert.AdamBranchRefIdeal.τ).loc Cert.AdamBranchRefIdeal.main_arg0)
      ∧ r.2.mem ((c.tc : Thread Cert.AdamBranchRefIdeal.nD Cert.AdamBranchRefIdeal.τ).loc Cert.AdamBranchRefIdeal.main_arg1) = m ((c.tc : Thread Cert.AdamBranchRefIdeal.nD Cert.AdamBranchRefIdeal.τ).loc Cert.AdamBranchRefIdeal.main_arg1)
      ∧ r.2.mem ((c.tc : Thread Cert.AdamBranchRefIdeal.nD Cert.AdamBranchRefIdeal.τ).loc Cert.AdamBranchRefIdeal.main_arg2) = m ((c.tc : Thread Cert.AdamBranchRefIdeal.nD Cert.AdamBranchRefIdeal.τ).loc Cert.AdamBranchRefIdeal.main_arg2)
      ∧ r.2.mem ((c.tc : Thread Cert.AdamBranchRefIdeal.nD Cert.AdamBranchRefIdeal.τ).loc Cert.AdamBranchRefIdeal.main_arg3) = m ((c.tc : Thread Cert.AdamBranchRefIdeal.nD Cert.AdamBranchRefIdeal.τ).loc Cert.AdamBranchRefIdeal.main_arg3))
      ∧ r.2.sem = fun _ => 0)

def quiescent_AdamProj [hAdamProj : Cert.AdamProj.Facts] : Prop :=
  ∀ (m : (ℓ : Loc Cert.AdamProj.nD Cert.AdamProj.τ Cert.AdamProj.sig) → Buf (Elt Bits) ℓ) (g : Dev Cert.AdamProj.nD → PrngReg), Pre_AdamProj m →
    θ_run (Cert.AdamProj.defs (F := Bits)) (onTc (τ := Cert.AdamProj.τ) (Cert.AdamProj.main (F := Bits))) ⟨m, fun _ => 0, g⟩ (fun r => (∀ c : Dev Cert.AdamProj.nD,
      r.2.mem ((c.tc : Thread Cert.AdamProj.nD Cert.AdamProj.τ).loc Cert.AdamProj.main_arg0) = m ((c.tc : Thread Cert.AdamProj.nD Cert.AdamProj.τ).loc Cert.AdamProj.main_arg0)
      ∧ r.2.mem ((c.tc : Thread Cert.AdamProj.nD Cert.AdamProj.τ).loc Cert.AdamProj.main_arg1) = m ((c.tc : Thread Cert.AdamProj.nD Cert.AdamProj.τ).loc Cert.AdamProj.main_arg1)
      ∧ r.2.mem ((c.tc : Thread Cert.AdamProj.nD Cert.AdamProj.τ).loc Cert.AdamProj.main_arg2) = m ((c.tc : Thread Cert.AdamProj.nD Cert.AdamProj.τ).loc Cert.AdamProj.main_arg2)
      ∧ r.2.mem ((c.tc : Thread Cert.AdamProj.nD Cert.AdamProj.τ).loc Cert.AdamProj.main_arg3) = m ((c.tc : Thread Cert.AdamProj.nD Cert.AdamProj.τ).loc Cert.AdamProj.main_arg3))
      ∧ r.2.sem = fun _ => 0)

def quiescent_AdamProjIdeal [hAdamProjIdeal : Cert.AdamProjIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg), Pre_AdamProjIdeal m →
    θ_run (Cert.AdamProjIdeal.defs (F := Ideal)) (onTc (τ := Cert.AdamProjIdeal.τ) (Cert.AdamProjIdeal.main (F := Ideal))) ⟨m, fun _ => 0, g⟩ (fun r => (∀ c : Dev Cert.AdamProjIdeal.nD,
      r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
      ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
      ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
      ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ r.2.sem = fun _ => 0)

def quiescent_AdamProjRefIdeal [hAdamProjRefIdeal : Cert.AdamProjRefIdeal.Facts] : Prop :=
  ∀ (m : (ℓ : Loc Cert.AdamProjRefIdeal.nD Cert.AdamProjRefIdeal.τ Cert.AdamProjRefIdeal.sig) → Buf (Elt Ideal) ℓ) (g : Dev Cert.AdamProjRefIdeal.nD → PrngReg), Pre_AdamProjRefIdeal m →
    θ_run (Cert.AdamProjRefIdeal.defs (F := Ideal)) (onTc (τ := Cert.AdamProjRefIdeal.τ) (Cert.AdamProjRefIdeal.main (F := Ideal))) ⟨m, fun _ => 0, g⟩ (fun r => (∀ c : Dev Cert.AdamProjRefIdeal.nD,
      r.2.mem ((c.tc : Thread Cert.AdamProjRefIdeal.nD Cert.AdamProjRefIdeal.τ).loc Cert.AdamProjRefIdeal.main_arg0) = m ((c.tc : Thread Cert.AdamProjRefIdeal.nD Cert.AdamProjRefIdeal.τ).loc Cert.AdamProjRefIdeal.main_arg0)
      ∧ r.2.mem ((c.tc : Thread Cert.AdamProjRefIdeal.nD Cert.AdamProjRefIdeal.τ).loc Cert.AdamProjRefIdeal.main_arg1) = m ((c.tc : Thread Cert.AdamProjRefIdeal.nD Cert.AdamProjRefIdeal.τ).loc Cert.AdamProjRefIdeal.main_arg1)
      ∧ r.2.mem ((c.tc : Thread Cert.AdamProjRefIdeal.nD Cert.AdamProjRefIdeal.τ).loc Cert.AdamProjRefIdeal.main_arg2) = m ((c.tc : Thread Cert.AdamProjRefIdeal.nD Cert.AdamProjRefIdeal.τ).loc Cert.AdamProjRefIdeal.main_arg2)
      ∧ r.2.mem ((c.tc : Thread Cert.AdamProjRefIdeal.nD Cert.AdamProjRefIdeal.τ).loc Cert.AdamProjRefIdeal.main_arg3) = m ((c.tc : Thread Cert.AdamProjRefIdeal.nD Cert.AdamProjRefIdeal.τ).loc Cert.AdamProjRefIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3)
      ∧ r.2.mem ((c.tc : Thread Cert.AdamSmall.nD Cert.AdamSmall.τ).loc Cert.AdamSmall.main_arg4) = m ((c.tc : Thread Cert.AdamSmall.nD Cert.AdamSmall.τ).loc Cert.AdamSmall.main_arg4)
      ∧ r.2.mem ((c.tc : Thread Cert.AdamSmall.nD Cert.AdamSmall.τ).loc Cert.AdamSmall.main_arg5) = m ((c.tc : Thread Cert.AdamSmall.nD Cert.AdamSmall.τ).loc Cert.AdamSmall.main_arg5)
      ∧ r.2.mem ((c.tc : Thread Cert.AdamSmall.nD Cert.AdamSmall.τ).loc Cert.AdamSmall.main_arg6) = m ((c.tc : Thread Cert.AdamSmall.nD Cert.AdamSmall.τ).loc Cert.AdamSmall.main_arg6)
      ∧ r.2.mem ((c.tc : Thread Cert.AdamSmall.nD Cert.AdamSmall.τ).loc Cert.AdamSmall.main_arg7) = m ((c.tc : Thread Cert.AdamSmall.nD Cert.AdamSmall.τ).loc Cert.AdamSmall.main_arg7)
      ∧ r.2.mem ((c.tc : Thread Cert.AdamSmall.nD Cert.AdamSmall.τ).loc Cert.AdamSmall.main_arg8) = m ((c.tc : Thread Cert.AdamSmall.nD Cert.AdamSmall.τ).loc Cert.AdamSmall.main_arg8)
      ∧ r.2.mem ((c.tc : Thread Cert.AdamSmall.nD Cert.AdamSmall.τ).loc Cert.AdamSmall.main_arg9) = m ((c.tc : Thread Cert.AdamSmall.nD Cert.AdamSmall.τ).loc Cert.AdamSmall.main_arg9)
      ∧ r.2.mem ((c.tc : Thread Cert.AdamSmall.nD Cert.AdamSmall.τ).loc Cert.AdamSmall.main_arg10) = m ((c.tc : Thread Cert.AdamSmall.nD Cert.AdamSmall.τ).loc Cert.AdamSmall.main_arg10)
      ∧ r.2.mem ((c.tc : Thread Cert.AdamSmall.nD Cert.AdamSmall.τ).loc Cert.AdamSmall.main_arg11) = m ((c.tc : Thread Cert.AdamSmall.nD Cert.AdamSmall.τ).loc Cert.AdamSmall.main_arg11)
      ∧ r.2.mem ((c.tc : Thread Cert.AdamSmall.nD Cert.AdamSmall.τ).loc Cert.AdamSmall.main_arg12) = m ((c.tc : Thread Cert.AdamSmall.nD Cert.AdamSmall.τ).loc Cert.AdamSmall.main_arg12)
      ∧ r.2.mem ((c.tc : Thread Cert.AdamSmall.nD Cert.AdamSmall.τ).loc Cert.AdamSmall.main_arg13) = m ((c.tc : Thread Cert.AdamSmall.nD Cert.AdamSmall.τ).loc Cert.AdamSmall.main_arg13)
      ∧ r.2.mem ((c.tc : Thread Cert.AdamSmall.nD Cert.AdamSmall.τ).loc Cert.AdamSmall.main_arg14) = m ((c.tc : Thread Cert.AdamSmall.nD Cert.AdamSmall.τ).loc Cert.AdamSmall.main_arg14)
      ∧ r.2.mem ((c.tc : Thread Cert.AdamSmall.nD Cert.AdamSmall.τ).loc Cert.AdamSmall.main_arg15) = m ((c.tc : Thread Cert.AdamSmall.nD Cert.AdamSmall.τ).loc Cert.AdamSmall.main_arg15)
      ∧ r.2.mem ((c.tc : Thread Cert.AdamSmall.nD Cert.AdamSmall.τ).loc Cert.AdamSmall.main_arg16) = m ((c.tc : Thread Cert.AdamSmall.nD Cert.AdamSmall.τ).loc Cert.AdamSmall.main_arg16)
      ∧ r.2.mem ((c.tc : Thread Cert.AdamSmall.nD Cert.AdamSmall.τ).loc Cert.AdamSmall.main_arg17) = m ((c.tc : Thread Cert.AdamSmall.nD Cert.AdamSmall.τ).loc Cert.AdamSmall.main_arg17)
      ∧ r.2.mem ((c.tc : Thread Cert.AdamSmall.nD Cert.AdamSmall.τ).loc Cert.AdamSmall.main_arg18) = m ((c.tc : Thread Cert.AdamSmall.nD Cert.AdamSmall.τ).loc Cert.AdamSmall.main_arg18)
      ∧ r.2.mem ((c.tc : Thread Cert.AdamSmall.nD Cert.AdamSmall.τ).loc Cert.AdamSmall.main_arg19) = m ((c.tc : Thread Cert.AdamSmall.nD Cert.AdamSmall.τ).loc Cert.AdamSmall.main_arg19)
      ∧ r.2.mem ((c.tc : Thread Cert.AdamSmall.nD Cert.AdamSmall.τ).loc Cert.AdamSmall.main_arg20) = m ((c.tc : Thread Cert.AdamSmall.nD Cert.AdamSmall.τ).loc Cert.AdamSmall.main_arg20)
      ∧ r.2.mem ((c.tc : Thread Cert.AdamSmall.nD Cert.AdamSmall.τ).loc Cert.AdamSmall.main_arg21) = m ((c.tc : Thread Cert.AdamSmall.nD Cert.AdamSmall.τ).loc Cert.AdamSmall.main_arg21)
      ∧ r.2.mem ((c.tc : Thread Cert.AdamSmall.nD Cert.AdamSmall.τ).loc Cert.AdamSmall.main_arg22) = m ((c.tc : Thread Cert.AdamSmall.nD Cert.AdamSmall.τ).loc Cert.AdamSmall.main_arg22)
      ∧ r.2.mem ((c.tc : Thread Cert.AdamSmall.nD Cert.AdamSmall.τ).loc Cert.AdamSmall.main_arg23) = m ((c.tc : Thread Cert.AdamSmall.nD Cert.AdamSmall.τ).loc Cert.AdamSmall.main_arg23)
      ∧ r.2.mem ((c.tc : Thread Cert.AdamSmall.nD Cert.AdamSmall.τ).loc Cert.AdamSmall.main_arg24) = m ((c.tc : Thread Cert.AdamSmall.nD Cert.AdamSmall.τ).loc Cert.AdamSmall.main_arg24)
      ∧ r.2.mem ((c.tc : Thread Cert.AdamSmall.nD Cert.AdamSmall.τ).loc Cert.AdamSmall.main_arg25) = m ((c.tc : Thread Cert.AdamSmall.nD Cert.AdamSmall.τ).loc Cert.AdamSmall.main_arg25)
      ∧ r.2.mem ((c.tc : Thread Cert.AdamSmall.nD Cert.AdamSmall.τ).loc Cert.AdamSmall.main_arg26) = m ((c.tc : Thread Cert.AdamSmall.nD Cert.AdamSmall.τ).loc Cert.AdamSmall.main_arg26)
      ∧ r.2.mem ((c.tc : Thread Cert.AdamSmall.nD Cert.AdamSmall.τ).loc Cert.AdamSmall.main_arg27) = m ((c.tc : Thread Cert.AdamSmall.nD Cert.AdamSmall.τ).loc Cert.AdamSmall.main_arg27)
      ∧ r.2.mem ((c.tc : Thread Cert.AdamSmall.nD Cert.AdamSmall.τ).loc Cert.AdamSmall.main_arg28) = m ((c.tc : Thread Cert.AdamSmall.nD Cert.AdamSmall.τ).loc Cert.AdamSmall.main_arg28)
      ∧ r.2.mem ((c.tc : Thread Cert.AdamSmall.nD Cert.AdamSmall.τ).loc Cert.AdamSmall.main_arg29) = m ((c.tc : Thread Cert.AdamSmall.nD Cert.AdamSmall.τ).loc Cert.AdamSmall.main_arg29)
      ∧ r.2.mem ((c.tc : Thread Cert.AdamSmall.nD Cert.AdamSmall.τ).loc Cert.AdamSmall.main_arg30) = m ((c.tc : Thread Cert.AdamSmall.nD Cert.AdamSmall.τ).loc Cert.AdamSmall.main_arg30)
      ∧ r.2.mem ((c.tc : Thread Cert.AdamSmall.nD Cert.AdamSmall.τ).loc Cert.AdamSmall.main_arg31) = m ((c.tc : Thread Cert.AdamSmall.nD Cert.AdamSmall.τ).loc Cert.AdamSmall.main_arg31)
      ∧ r.2.mem ((c.tc : Thread Cert.AdamSmall.nD Cert.AdamSmall.τ).loc Cert.AdamSmall.main_arg32) = m ((c.tc : Thread Cert.AdamSmall.nD Cert.AdamSmall.τ).loc Cert.AdamSmall.main_arg32)
      ∧ r.2.mem ((c.tc : Thread Cert.AdamSmall.nD Cert.AdamSmall.τ).loc Cert.AdamSmall.main_arg33) = m ((c.tc : Thread Cert.AdamSmall.nD Cert.AdamSmall.τ).loc Cert.AdamSmall.main_arg33)
      ∧ r.2.mem ((c.tc : Thread Cert.AdamSmall.nD Cert.AdamSmall.τ).loc Cert.AdamSmall.main_arg34) = m ((c.tc : Thread Cert.AdamSmall.nD Cert.AdamSmall.τ).loc Cert.AdamSmall.main_arg34)
      ∧ r.2.mem ((c.tc : Thread Cert.AdamSmall.nD Cert.AdamSmall.τ).loc Cert.AdamSmall.main_arg35) = m ((c.tc : Thread Cert.AdamSmall.nD Cert.AdamSmall.τ).loc Cert.AdamSmall.main_arg35)
      ∧ r.2.mem ((c.tc : Thread Cert.AdamSmall.nD Cert.AdamSmall.τ).loc Cert.AdamSmall.main_arg36) = m ((c.tc : Thread Cert.AdamSmall.nD Cert.AdamSmall.τ).loc Cert.AdamSmall.main_arg36)
      ∧ r.2.mem ((c.tc : Thread Cert.AdamSmall.nD Cert.AdamSmall.τ).loc Cert.AdamSmall.main_arg37) = m ((c.tc : Thread Cert.AdamSmall.nD Cert.AdamSmall.τ).loc Cert.AdamSmall.main_arg37)
      ∧ r.2.mem ((c.tc : Thread Cert.AdamSmall.nD Cert.AdamSmall.τ).loc Cert.AdamSmall.main_arg38) = m ((c.tc : Thread Cert.AdamSmall.nD Cert.AdamSmall.τ).loc Cert.AdamSmall.main_arg38)
      ∧ r.2.mem ((c.tc : Thread Cert.AdamSmall.nD Cert.AdamSmall.τ).loc Cert.AdamSmall.main_arg39) = m ((c.tc : Thread Cert.AdamSmall.nD Cert.AdamSmall.τ).loc Cert.AdamSmall.main_arg39))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ r.2.sem = fun _ => 0)

def quiescent_AdamSmallIdeal_pre_finite_small [hAdamSmallIdeal : Cert.AdamSmallIdeal.Facts] [hPre_finite_small : Cert.Pre_finite_small.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal_finite_small m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
      ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
      ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
      ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
      ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
      ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
      ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
      ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
      ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
      ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
      ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
      ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
      ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
      ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
      ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
      ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
      ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
      ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
      ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
      ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
      ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
      ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
      ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
      ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
      ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
      ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
      ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
      ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
      ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
      ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
      ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
      ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
      ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
      ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
      ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
      ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
      ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39))
      ∧ r.2.sem = fun _ => 0)

def quiescent_AdamSmallRefIdeal_pre_finite_small [hAdamSmallRefIdeal : Cert.AdamSmallRefIdeal.Facts] [hPre_finite_small : Cert.Pre_finite_small.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal_finite_small m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3)
      ∧ r.2.mem ((c.tc : Thread Cert.AdamSmallRefIdeal.nD Cert.AdamSmallRefIdeal.τ).loc Cert.AdamSmallRefIdeal.main_arg4) = m ((c.tc : Thread Cert.AdamSmallRefIdeal.nD Cert.AdamSmallRefIdeal.τ).loc Cert.AdamSmallRefIdeal.main_arg4)
      ∧ r.2.mem ((c.tc : Thread Cert.AdamSmallRefIdeal.nD Cert.AdamSmallRefIdeal.τ).loc Cert.AdamSmallRefIdeal.main_arg5) = m ((c.tc : Thread Cert.AdamSmallRefIdeal.nD Cert.AdamSmallRefIdeal.τ).loc Cert.AdamSmallRefIdeal.main_arg5)
      ∧ r.2.mem ((c.tc : Thread Cert.AdamSmallRefIdeal.nD Cert.AdamSmallRefIdeal.τ).loc Cert.AdamSmallRefIdeal.main_arg6) = m ((c.tc : Thread Cert.AdamSmallRefIdeal.nD Cert.AdamSmallRefIdeal.τ).loc Cert.AdamSmallRefIdeal.main_arg6)
      ∧ r.2.mem ((c.tc : Thread Cert.AdamSmallRefIdeal.nD Cert.AdamSmallRefIdeal.τ).loc Cert.AdamSmallRefIdeal.main_arg7) = m ((c.tc : Thread Cert.AdamSmallRefIdeal.nD Cert.AdamSmallRefIdeal.τ).loc Cert.AdamSmallRefIdeal.main_arg7)
      ∧ r.2.mem ((c.tc : Thread Cert.AdamSmallRefIdeal.nD Cert.AdamSmallRefIdeal.τ).loc Cert.AdamSmallRefIdeal.main_arg8) = m ((c.tc : Thread Cert.AdamSmallRefIdeal.nD Cert.AdamSmallRefIdeal.τ).loc Cert.AdamSmallRefIdeal.main_arg8)
      ∧ r.2.mem ((c.tc : Thread Cert.AdamSmallRefIdeal.nD Cert.AdamSmallRefIdeal.τ).loc Cert.AdamSmallRefIdeal.main_arg9) = m ((c.tc : Thread Cert.AdamSmallRefIdeal.nD Cert.AdamSmallRefIdeal.τ).loc Cert.AdamSmallRefIdeal.main_arg9)
      ∧ r.2.mem ((c.tc : Thread Cert.AdamSmallRefIdeal.nD Cert.AdamSmallRefIdeal.τ).loc Cert.AdamSmallRefIdeal.main_arg10) = m ((c.tc : Thread Cert.AdamSmallRefIdeal.nD Cert.AdamSmallRefIdeal.τ).loc Cert.AdamSmallRefIdeal.main_arg10)
      ∧ r.2.mem ((c.tc : Thread Cert.AdamSmallRefIdeal.nD Cert.AdamSmallRefIdeal.τ).loc Cert.AdamSmallRefIdeal.main_arg11) = m ((c.tc : Thread Cert.AdamSmallRefIdeal.nD Cert.AdamSmallRefIdeal.τ).loc Cert.AdamSmallRefIdeal.main_arg11)
      ∧ r.2.mem ((c.tc : Thread Cert.AdamSmallRefIdeal.nD Cert.AdamSmallRefIdeal.τ).loc Cert.AdamSmallRefIdeal.main_arg12) = m ((c.tc : Thread Cert.AdamSmallRefIdeal.nD Cert.AdamSmallRefIdeal.τ).loc Cert.AdamSmallRefIdeal.main_arg12)
      ∧ r.2.mem ((c.tc : Thread Cert.AdamSmallRefIdeal.nD Cert.AdamSmallRefIdeal.τ).loc Cert.AdamSmallRefIdeal.main_arg13) = m ((c.tc : Thread Cert.AdamSmallRefIdeal.nD Cert.AdamSmallRefIdeal.τ).loc Cert.AdamSmallRefIdeal.main_arg13)
      ∧ r.2.mem ((c.tc : Thread Cert.AdamSmallRefIdeal.nD Cert.AdamSmallRefIdeal.τ).loc Cert.AdamSmallRefIdeal.main_arg14) = m ((c.tc : Thread Cert.AdamSmallRefIdeal.nD Cert.AdamSmallRefIdeal.τ).loc Cert.AdamSmallRefIdeal.main_arg14)
      ∧ r.2.mem ((c.tc : Thread Cert.AdamSmallRefIdeal.nD Cert.AdamSmallRefIdeal.τ).loc Cert.AdamSmallRefIdeal.main_arg15) = m ((c.tc : Thread Cert.AdamSmallRefIdeal.nD Cert.AdamSmallRefIdeal.τ).loc Cert.AdamSmallRefIdeal.main_arg15)
      ∧ r.2.mem ((c.tc : Thread Cert.AdamSmallRefIdeal.nD Cert.AdamSmallRefIdeal.τ).loc Cert.AdamSmallRefIdeal.main_arg16) = m ((c.tc : Thread Cert.AdamSmallRefIdeal.nD Cert.AdamSmallRefIdeal.τ).loc Cert.AdamSmallRefIdeal.main_arg16)
      ∧ r.2.mem ((c.tc : Thread Cert.AdamSmallRefIdeal.nD Cert.AdamSmallRefIdeal.τ).loc Cert.AdamSmallRefIdeal.main_arg17) = m ((c.tc : Thread Cert.AdamSmallRefIdeal.nD Cert.AdamSmallRefIdeal.τ).loc Cert.AdamSmallRefIdeal.main_arg17)
      ∧ r.2.mem ((c.tc : Thread Cert.AdamSmallRefIdeal.nD Cert.AdamSmallRefIdeal.τ).loc Cert.AdamSmallRefIdeal.main_arg18) = m ((c.tc : Thread Cert.AdamSmallRefIdeal.nD Cert.AdamSmallRefIdeal.τ).loc Cert.AdamSmallRefIdeal.main_arg18)
      ∧ r.2.mem ((c.tc : Thread Cert.AdamSmallRefIdeal.nD Cert.AdamSmallRefIdeal.τ).loc Cert.AdamSmallRefIdeal.main_arg19) = m ((c.tc : Thread Cert.AdamSmallRefIdeal.nD Cert.AdamSmallRefIdeal.τ).loc Cert.AdamSmallRefIdeal.main_arg19)
      ∧ r.2.mem ((c.tc : Thread Cert.AdamSmallRefIdeal.nD Cert.AdamSmallRefIdeal.τ).loc Cert.AdamSmallRefIdeal.main_arg20) = m ((c.tc : Thread Cert.AdamSmallRefIdeal.nD Cert.AdamSmallRefIdeal.τ).loc Cert.AdamSmallRefIdeal.main_arg20)
      ∧ r.2.mem ((c.tc : Thread Cert.AdamSmallRefIdeal.nD Cert.AdamSmallRefIdeal.τ).loc Cert.AdamSmallRefIdeal.main_arg21) = m ((c.tc : Thread Cert.AdamSmallRefIdeal.nD Cert.AdamSmallRefIdeal.τ).loc Cert.AdamSmallRefIdeal.main_arg21)
      ∧ r.2.mem ((c.tc : Thread Cert.AdamSmallRefIdeal.nD Cert.AdamSmallRefIdeal.τ).loc Cert.AdamSmallRefIdeal.main_arg22) = m ((c.tc : Thread Cert.AdamSmallRefIdeal.nD Cert.AdamSmallRefIdeal.τ).loc Cert.AdamSmallRefIdeal.main_arg22)
      ∧ r.2.mem ((c.tc : Thread Cert.AdamSmallRefIdeal.nD Cert.AdamSmallRefIdeal.τ).loc Cert.AdamSmallRefIdeal.main_arg23) = m ((c.tc : Thread Cert.AdamSmallRefIdeal.nD Cert.AdamSmallRefIdeal.τ).loc Cert.AdamSmallRefIdeal.main_arg23)
      ∧ r.2.mem ((c.tc : Thread Cert.AdamSmallRefIdeal.nD Cert.AdamSmallRefIdeal.τ).loc Cert.AdamSmallRefIdeal.main_arg24) = m ((c.tc : Thread Cert.AdamSmallRefIdeal.nD Cert.AdamSmallRefIdeal.τ).loc Cert.AdamSmallRefIdeal.main_arg24)
      ∧ r.2.mem ((c.tc : Thread Cert.AdamSmallRefIdeal.nD Cert.AdamSmallRefIdeal.τ).loc Cert.AdamSmallRefIdeal.main_arg25) = m ((c.tc : Thread Cert.AdamSmallRefIdeal.nD Cert.AdamSmallRefIdeal.τ).loc Cert.AdamSmallRefIdeal.main_arg25)
      ∧ r.2.mem ((c.tc : Thread Cert.AdamSmallRefIdeal.nD Cert.AdamSmallRefIdeal.τ).loc Cert.AdamSmallRefIdeal.main_arg26) = m ((c.tc : Thread Cert.AdamSmallRefIdeal.nD Cert.AdamSmallRefIdeal.τ).loc Cert.AdamSmallRefIdeal.main_arg26)
      ∧ r.2.mem ((c.tc : Thread Cert.AdamSmallRefIdeal.nD Cert.AdamSmallRefIdeal.τ).loc Cert.AdamSmallRefIdeal.main_arg27) = m ((c.tc : Thread Cert.AdamSmallRefIdeal.nD Cert.AdamSmallRefIdeal.τ).loc Cert.AdamSmallRefIdeal.main_arg27)
      ∧ r.2.mem ((c.tc : Thread Cert.AdamSmallRefIdeal.nD Cert.AdamSmallRefIdeal.τ).loc Cert.AdamSmallRefIdeal.main_arg28) = m ((c.tc : Thread Cert.AdamSmallRefIdeal.nD Cert.AdamSmallRefIdeal.τ).loc Cert.AdamSmallRefIdeal.main_arg28)
      ∧ r.2.mem ((c.tc : Thread Cert.AdamSmallRefIdeal.nD Cert.AdamSmallRefIdeal.τ).loc Cert.AdamSmallRefIdeal.main_arg29) = m ((c.tc : Thread Cert.AdamSmallRefIdeal.nD Cert.AdamSmallRefIdeal.τ).loc Cert.AdamSmallRefIdeal.main_arg29)
      ∧ r.2.mem ((c.tc : Thread Cert.AdamSmallRefIdeal.nD Cert.AdamSmallRefIdeal.τ).loc Cert.AdamSmallRefIdeal.main_arg30) = m ((c.tc : Thread Cert.AdamSmallRefIdeal.nD Cert.AdamSmallRefIdeal.τ).loc Cert.AdamSmallRefIdeal.main_arg30)
      ∧ r.2.mem ((c.tc : Thread Cert.AdamSmallRefIdeal.nD Cert.AdamSmallRefIdeal.τ).loc Cert.AdamSmallRefIdeal.main_arg31) = m ((c.tc : Thread Cert.AdamSmallRefIdeal.nD Cert.AdamSmallRefIdeal.τ).loc Cert.AdamSmallRefIdeal.main_arg31)
      ∧ r.2.mem ((c.tc : Thread Cert.AdamSmallRefIdeal.nD Cert.AdamSmallRefIdeal.τ).loc Cert.AdamSmallRefIdeal.main_arg32) = m ((c.tc : Thread Cert.AdamSmallRefIdeal.nD Cert.AdamSmallRefIdeal.τ).loc Cert.AdamSmallRefIdeal.main_arg32)
      ∧ r.2.mem ((c.tc : Thread Cert.AdamSmallRefIdeal.nD Cert.AdamSmallRefIdeal.τ).loc Cert.AdamSmallRefIdeal.main_arg33) = m ((c.tc : Thread Cert.AdamSmallRefIdeal.nD Cert.AdamSmallRefIdeal.τ).loc Cert.AdamSmallRefIdeal.main_arg33)
      ∧ r.2.mem ((c.tc : Thread Cert.AdamSmallRefIdeal.nD Cert.AdamSmallRefIdeal.τ).loc Cert.AdamSmallRefIdeal.main_arg34) = m ((c.tc : Thread Cert.AdamSmallRefIdeal.nD Cert.AdamSmallRefIdeal.τ).loc Cert.AdamSmallRefIdeal.main_arg34)
      ∧ r.2.mem ((c.tc : Thread Cert.AdamSmallRefIdeal.nD Cert.AdamSmallRefIdeal.τ).loc Cert.AdamSmallRefIdeal.main_arg35) = m ((c.tc : Thread Cert.AdamSmallRefIdeal.nD Cert.AdamSmallRefIdeal.τ).loc Cert.AdamSmallRefIdeal.main_arg35)
      ∧ r.2.mem ((c.tc : Thread Cert.AdamSmallRefIdeal.nD Cert.AdamSmallRefIdeal.τ).loc Cert.AdamSmallRefIdeal.main_arg36) = m ((c.tc : Thread Cert.AdamSmallRefIdeal.nD Cert.AdamSmallRefIdeal.τ).loc Cert.AdamSmallRefIdeal.main_arg36)
      ∧ r.2.mem ((c.tc : Thread Cert.AdamSmallRefIdeal.nD Cert.AdamSmallRefIdeal.τ).loc Cert.AdamSmallRefIdeal.main_arg37) = m ((c.tc : Thread Cert.AdamSmallRefIdeal.nD Cert.AdamSmallRefIdeal.τ).loc Cert.AdamSmallRefIdeal.main_arg37)
      ∧ r.2.mem ((c.tc : Thread Cert.AdamSmallRefIdeal.nD Cert.AdamSmallRefIdeal.τ).loc Cert.AdamSmallRefIdeal.main_arg38) = m ((c.tc : Thread Cert.AdamSmallRefIdeal.nD Cert.AdamSmallRefIdeal.τ).loc Cert.AdamSmallRefIdeal.main_arg38)
      ∧ r.2.mem ((c.tc : Thread Cert.AdamSmallRefIdeal.nD Cert.AdamSmallRefIdeal.τ).loc Cert.AdamSmallRefIdeal.main_arg39) = m ((c.tc : Thread Cert.AdamSmallRefIdeal.nD Cert.AdamSmallRefIdeal.τ).loc Cert.AdamSmallRefIdeal.main_arg39))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1)
      ∧ r.2.mem ((c.tc : Thread Cert.Norm.nD Cert.Norm.τ).loc Cert.Norm.main_arg2) = m ((c.tc : Thread Cert.Norm.nD Cert.Norm.τ).loc Cert.Norm.main_arg2)
      ∧ r.2.mem ((c.tc : Thread Cert.Norm.nD Cert.Norm.τ).loc Cert.Norm.main_arg3) = m ((c.tc : Thread Cert.Norm.nD Cert.Norm.τ).loc Cert.Norm.main_arg3)
      ∧ r.2.mem ((c.tc : Thread Cert.Norm.nD Cert.Norm.τ).loc Cert.Norm.main_arg4) = m ((c.tc : Thread Cert.Norm.nD Cert.Norm.τ).loc Cert.Norm.main_arg4)
      ∧ r.2.mem ((c.tc : Thread Cert.Norm.nD Cert.Norm.τ).loc Cert.Norm.main_arg5) = m ((c.tc : Thread Cert.Norm.nD Cert.Norm.τ).loc Cert.Norm.main_arg5)
      ∧ r.2.mem ((c.tc : Thread Cert.Norm.nD Cert.Norm.τ).loc Cert.Norm.main_arg6) = m ((c.tc : Thread Cert.Norm.nD Cert.Norm.τ).loc Cert.Norm.main_arg6))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
      ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
      ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
      ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
      ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
      ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ r.2.sem = fun _ => 0)

def quiescent_NormRefIdeal [hNormRefIdeal : Cert.NormRefIdeal.Facts] : Prop :=
  ∀ (m : (ℓ : Loc Cert.NormRefIdeal.nD Cert.NormRefIdeal.τ Cert.NormRefIdeal.sig) → Buf (Elt Ideal) ℓ) (g : Dev Cert.NormRefIdeal.nD → PrngReg), Pre_NormRefIdeal m →
    θ_run (Cert.NormRefIdeal.defs (F := Ideal)) (onTc (τ := Cert.NormRefIdeal.τ) (Cert.NormRefIdeal.main (F := Ideal))) ⟨m, fun _ => 0, g⟩ (fun r => (∀ c : Dev Cert.NormRefIdeal.nD,
      r.2.mem ((c.tc : Thread Cert.NormRefIdeal.nD Cert.NormRefIdeal.τ).loc Cert.NormRefIdeal.main_arg0) = m ((c.tc : Thread Cert.NormRefIdeal.nD Cert.NormRefIdeal.τ).loc Cert.NormRefIdeal.main_arg0)
      ∧ r.2.mem ((c.tc : Thread Cert.NormRefIdeal.nD Cert.NormRefIdeal.τ).loc Cert.NormRefIdeal.main_arg1) = m ((c.tc : Thread Cert.NormRefIdeal.nD Cert.NormRefIdeal.τ).loc Cert.NormRefIdeal.main_arg1)
      ∧ r.2.mem ((c.tc : Thread Cert.NormRefIdeal.nD Cert.NormRefIdeal.τ).loc Cert.NormRefIdeal.main_arg2) = m ((c.tc : Thread Cert.NormRefIdeal.nD Cert.NormRefIdeal.τ).loc Cert.NormRefIdeal.main_arg2)
      ∧ r.2.mem ((c.tc : Thread Cert.NormRefIdeal.nD Cert.NormRefIdeal.τ).loc Cert.NormRefIdeal.main_arg3) = m ((c.tc : Thread Cert.NormRefIdeal.nD Cert.NormRefIdeal.τ).loc Cert.NormRefIdeal.main_arg3)
      ∧ r.2.mem ((c.tc : Thread Cert.NormRefIdeal.nD Cert.NormRefIdeal.τ).loc Cert.NormRefIdeal.main_arg4) = m ((c.tc : Thread Cert.NormRefIdeal.nD Cert.NormRefIdeal.τ).loc Cert.NormRefIdeal.main_arg4)
      ∧ r.2.mem ((c.tc : Thread Cert.NormRefIdeal.nD Cert.NormRefIdeal.τ).loc Cert.NormRefIdeal.main_arg5) = m ((c.tc : Thread Cert.NormRefIdeal.nD Cert.NormRefIdeal.τ).loc Cert.NormRefIdeal.main_arg5)
      ∧ r.2.mem ((c.tc : Thread Cert.NormRefIdeal.nD Cert.NormRefIdeal.τ).loc Cert.NormRefIdeal.main_arg6) = m ((c.tc : Thread Cert.NormRefIdeal.nD Cert.NormRefIdeal.τ).loc Cert.NormRefIdeal.main_arg6))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5))
      ∧ r.2.sem = fun _ => 0)

def preserves_Kernel_KernelIdeal : Prop :=
  IdealRules.named_const.Statement Cert.KernelIdeal.κ "mask" .f32 0xF149F2CA#32 ⊥

def preserves_UpGrad_UpGradIdeal : Prop :=
  True

def algebraic_UpGradIdeal_UpGradRefIdeal [hUpGradIdeal : Cert.UpGradIdeal.Facts] [hUpGradRefIdeal : Cert.UpGradRefIdeal.Facts] : Prop :=
  ∀ (m : (ℓ : Loc Cert.UpGradIdeal.nD Cert.UpGradIdeal.τ Cert.UpGradIdeal.sig) → Buf (Elt Ideal) ℓ) (g : Dev Cert.UpGradIdeal.nD → PrngReg)
    (m' : (ℓ : Loc Cert.UpGradRefIdeal.nD Cert.UpGradRefIdeal.τ Cert.UpGradRefIdeal.sig) → Buf (Elt Ideal) ℓ) (g' : Dev Cert.UpGradRefIdeal.nD → PrngReg), Pre_UpGradIdeal m →
    (∀ c : Dev Cert.UpGradIdeal.nD,
      m' ((c.tc : Thread Cert.UpGradRefIdeal.nD Cert.UpGradRefIdeal.τ).loc Cert.UpGradRefIdeal.main_arg0) = m ((c.tc : Thread Cert.UpGradIdeal.nD Cert.UpGradIdeal.τ).loc Cert.UpGradIdeal.main_arg0)
      ∧ m' ((c.tc : Thread Cert.UpGradRefIdeal.nD Cert.UpGradRefIdeal.τ).loc Cert.UpGradRefIdeal.main_arg1) = m ((c.tc : Thread Cert.UpGradIdeal.nD Cert.UpGradIdeal.τ).loc Cert.UpGradIdeal.main_arg1)) →
    ∃ (v0 : (c : Dev Cert.UpGradIdeal.nD) → Buf (Elt Ideal) ((c.tc : Thread Cert.UpGradIdeal.nD Cert.UpGradIdeal.τ).loc Cert.UpGradIdeal.main_v0)),
      θ_run (Cert.UpGradIdeal.defs (F := Ideal)) (onTc (τ := Cert.UpGradIdeal.τ) (Cert.UpGradIdeal.main (F := Ideal))) ⟨m, fun _ => 0, g⟩ (fun r => ∀ c : Dev Cert.UpGradIdeal.nD,
          r.2.mem ((c.tc : Thread Cert.UpGradIdeal.nD Cert.UpGradIdeal.τ).loc Cert.UpGradIdeal.main_v0) = v0 c
          ∧ r.2.mem ((c.tc : Thread Cert.UpGradIdeal.nD Cert.UpGradIdeal.τ).loc Cert.UpGradIdeal.main_arg0) = m ((c.tc : Thread Cert.UpGradIdeal.nD Cert.UpGradIdeal.τ).loc Cert.UpGradIdeal.main_arg0)
          ∧ r.2.mem ((c.tc : Thread Cert.UpGradIdeal.nD Cert.UpGradIdeal.τ).loc Cert.UpGradIdeal.main_arg1) = m ((c.tc : Thread Cert.UpGradIdeal.nD Cert.UpGradIdeal.τ).loc Cert.UpGradIdeal.main_arg1))
      ∧ θ_run (Cert.UpGradRefIdeal.defs (F := Ideal)) (onTc (τ := Cert.UpGradRefIdeal.τ) (Cert.UpGradRefIdeal.main (F := Ideal))) ⟨m', fun _ => 0, g'⟩ (fun r => ∀ c : Dev Cert.UpGradRefIdeal.nD,
          r.2.mem ((c.tc : Thread Cert.UpGradRefIdeal.nD Cert.UpGradRefIdeal.τ).loc Cert.UpGradRefIdeal.main_v7) = v0 c
          ∧ r.2.mem ((c.tc : Thread Cert.UpGradRefIdeal.nD Cert.UpGradRefIdeal.τ).loc Cert.UpGradRefIdeal.main_arg0) = m' ((c.tc : Thread Cert.UpGradRefIdeal.nD Cert.UpGradRefIdeal.τ).loc Cert.UpGradRefIdeal.main_arg0)
          ∧ r.2.mem ((c.tc : Thread Cert.UpGradRefIdeal.nD Cert.UpGradRefIdeal.τ).loc Cert.UpGradRefIdeal.main_arg1) = m' ((c.tc : Thread Cert.UpGradRefIdeal.nD Cert.UpGradRefIdeal.τ).loc Cert.UpGradRefIdeal.main_arg1))

def preserves_DownGrad_DownGradIdeal : Prop :=
  True

def algebraic_DownGradIdeal_DownGradRefIdeal [hDownGradIdeal : Cert.DownGradIdeal.Facts] [hDownGradRefIdeal : Cert.DownGradRefIdeal.Facts] : Prop :=
  ∀ (m : (ℓ : Loc Cert.DownGradIdeal.nD Cert.DownGradIdeal.τ Cert.DownGradIdeal.sig) → Buf (Elt Ideal) ℓ) (g : Dev Cert.DownGradIdeal.nD → PrngReg)
    (m' : (ℓ : Loc Cert.DownGradRefIdeal.nD Cert.DownGradRefIdeal.τ Cert.DownGradRefIdeal.sig) → Buf (Elt Ideal) ℓ) (g' : Dev Cert.DownGradRefIdeal.nD → PrngReg), Pre_DownGradIdeal m →
    (∀ c : Dev Cert.DownGradIdeal.nD,
      m' ((c.tc : Thread Cert.DownGradRefIdeal.nD Cert.DownGradRefIdeal.τ).loc Cert.DownGradRefIdeal.main_arg0) = m ((c.tc : Thread Cert.DownGradIdeal.nD Cert.DownGradIdeal.τ).loc Cert.DownGradIdeal.main_arg0)
      ∧ m' ((c.tc : Thread Cert.DownGradRefIdeal.nD Cert.DownGradRefIdeal.τ).loc Cert.DownGradRefIdeal.main_arg1) = m ((c.tc : Thread Cert.DownGradIdeal.nD Cert.DownGradIdeal.τ).loc Cert.DownGradIdeal.main_arg1)) →
    ∃ (v0 : (c : Dev Cert.DownGradIdeal.nD) → Buf (Elt Ideal) ((c.tc : Thread Cert.DownGradIdeal.nD Cert.DownGradIdeal.τ).loc Cert.DownGradIdeal.main_v0)),
      θ_run (Cert.DownGradIdeal.defs (F := Ideal)) (onTc (τ := Cert.DownGradIdeal.τ) (Cert.DownGradIdeal.main (F := Ideal))) ⟨m, fun _ => 0, g⟩ (fun r => ∀ c : Dev Cert.DownGradIdeal.nD,
          r.2.mem ((c.tc : Thread Cert.DownGradIdeal.nD Cert.DownGradIdeal.τ).loc Cert.DownGradIdeal.main_v0) = v0 c
          ∧ r.2.mem ((c.tc : Thread Cert.DownGradIdeal.nD Cert.DownGradIdeal.τ).loc Cert.DownGradIdeal.main_arg0) = m ((c.tc : Thread Cert.DownGradIdeal.nD Cert.DownGradIdeal.τ).loc Cert.DownGradIdeal.main_arg0)
          ∧ r.2.mem ((c.tc : Thread Cert.DownGradIdeal.nD Cert.DownGradIdeal.τ).loc Cert.DownGradIdeal.main_arg1) = m ((c.tc : Thread Cert.DownGradIdeal.nD Cert.DownGradIdeal.τ).loc Cert.DownGradIdeal.main_arg1))
      ∧ θ_run (Cert.DownGradRefIdeal.defs (F := Ideal)) (onTc (τ := Cert.DownGradRefIdeal.τ) (Cert.DownGradRefIdeal.main (F := Ideal))) ⟨m', fun _ => 0, g'⟩ (fun r => ∀ c : Dev Cert.DownGradRefIdeal.nD,
          r.2.mem ((c.tc : Thread Cert.DownGradRefIdeal.nD Cert.DownGradRefIdeal.τ).loc Cert.DownGradRefIdeal.main_v6) = v0 c
          ∧ r.2.mem ((c.tc : Thread Cert.DownGradRefIdeal.nD Cert.DownGradRefIdeal.τ).loc Cert.DownGradRefIdeal.main_arg0) = m' ((c.tc : Thread Cert.DownGradRefIdeal.nD Cert.DownGradRefIdeal.τ).loc Cert.DownGradRefIdeal.main_arg0)
          ∧ r.2.mem ((c.tc : Thread Cert.DownGradRefIdeal.nD Cert.DownGradRefIdeal.τ).loc Cert.DownGradRefIdeal.main_arg1) = m' ((c.tc : Thread Cert.DownGradRefIdeal.nD Cert.DownGradRefIdeal.τ).loc Cert.DownGradRefIdeal.main_arg1))

def preserves_SquareGrad_SquareGradIdeal : Prop :=
  True

def algebraic_SquareGradIdeal_SquareGradRefIdeal [hSquareGradIdeal : Cert.SquareGradIdeal.Facts] [hSquareGradRefIdeal : Cert.SquareGradRefIdeal.Facts] : Prop :=
  ∀ (m : (ℓ : Loc Cert.SquareGradIdeal.nD Cert.SquareGradIdeal.τ Cert.SquareGradIdeal.sig) → Buf (Elt Ideal) ℓ) (g : Dev Cert.SquareGradIdeal.nD → PrngReg)
    (m' : (ℓ : Loc Cert.SquareGradRefIdeal.nD Cert.SquareGradRefIdeal.τ Cert.SquareGradRefIdeal.sig) → Buf (Elt Ideal) ℓ) (g' : Dev Cert.SquareGradRefIdeal.nD → PrngReg), Pre_SquareGradIdeal m →
    (∀ c : Dev Cert.SquareGradIdeal.nD,
      m' ((c.tc : Thread Cert.SquareGradRefIdeal.nD Cert.SquareGradRefIdeal.τ).loc Cert.SquareGradRefIdeal.main_arg0) = m ((c.tc : Thread Cert.SquareGradIdeal.nD Cert.SquareGradIdeal.τ).loc Cert.SquareGradIdeal.main_arg0)
      ∧ m' ((c.tc : Thread Cert.SquareGradRefIdeal.nD Cert.SquareGradRefIdeal.τ).loc Cert.SquareGradRefIdeal.main_arg1) = m ((c.tc : Thread Cert.SquareGradIdeal.nD Cert.SquareGradIdeal.τ).loc Cert.SquareGradIdeal.main_arg1)) →
    ∃ (v0 : (c : Dev Cert.SquareGradIdeal.nD) → Buf (Elt Ideal) ((c.tc : Thread Cert.SquareGradIdeal.nD Cert.SquareGradIdeal.τ).loc Cert.SquareGradIdeal.main_v0)),
      θ_run (Cert.SquareGradIdeal.defs (F := Ideal)) (onTc (τ := Cert.SquareGradIdeal.τ) (Cert.SquareGradIdeal.main (F := Ideal))) ⟨m, fun _ => 0, g⟩ (fun r => ∀ c : Dev Cert.SquareGradIdeal.nD,
          r.2.mem ((c.tc : Thread Cert.SquareGradIdeal.nD Cert.SquareGradIdeal.τ).loc Cert.SquareGradIdeal.main_v0) = v0 c
          ∧ r.2.mem ((c.tc : Thread Cert.SquareGradIdeal.nD Cert.SquareGradIdeal.τ).loc Cert.SquareGradIdeal.main_arg0) = m ((c.tc : Thread Cert.SquareGradIdeal.nD Cert.SquareGradIdeal.τ).loc Cert.SquareGradIdeal.main_arg0)
          ∧ r.2.mem ((c.tc : Thread Cert.SquareGradIdeal.nD Cert.SquareGradIdeal.τ).loc Cert.SquareGradIdeal.main_arg1) = m ((c.tc : Thread Cert.SquareGradIdeal.nD Cert.SquareGradIdeal.τ).loc Cert.SquareGradIdeal.main_arg1))
      ∧ θ_run (Cert.SquareGradRefIdeal.defs (F := Ideal)) (onTc (τ := Cert.SquareGradRefIdeal.τ) (Cert.SquareGradRefIdeal.main (F := Ideal))) ⟨m', fun _ => 0, g'⟩ (fun r => ∀ c : Dev Cert.SquareGradRefIdeal.nD,
          r.2.mem ((c.tc : Thread Cert.SquareGradRefIdeal.nD Cert.SquareGradRefIdeal.τ).loc Cert.SquareGradRefIdeal.main_v6) = v0 c
          ∧ r.2.mem ((c.tc : Thread Cert.SquareGradRefIdeal.nD Cert.SquareGradRefIdeal.τ).loc Cert.SquareGradRefIdeal.main_arg0) = m' ((c.tc : Thread Cert.SquareGradRefIdeal.nD Cert.SquareGradRefIdeal.τ).loc Cert.SquareGradRefIdeal.main_arg0)
          ∧ r.2.mem ((c.tc : Thread Cert.SquareGradRefIdeal.nD Cert.SquareGradRefIdeal.τ).loc Cert.SquareGradRefIdeal.main_arg1) = m' ((c.tc : Thread Cert.SquareGradRefIdeal.nD Cert.SquareGradRefIdeal.τ).loc Cert.SquareGradRefIdeal.main_arg1))

def preserves_BranchGrad_BranchGradIdeal : Prop :=
  True

def algebraic_BranchGradIdeal_BranchGradRefIdeal [hBranchGradIdeal : Cert.BranchGradIdeal.Facts] [hBranchGradRefIdeal : Cert.BranchGradRefIdeal.Facts] : Prop :=
  ∀ (m : (ℓ : Loc Cert.BranchGradIdeal.nD Cert.BranchGradIdeal.τ Cert.BranchGradIdeal.sig) → Buf (Elt Ideal) ℓ) (g : Dev Cert.BranchGradIdeal.nD → PrngReg)
    (m' : (ℓ : Loc Cert.BranchGradRefIdeal.nD Cert.BranchGradRefIdeal.τ Cert.BranchGradRefIdeal.sig) → Buf (Elt Ideal) ℓ) (g' : Dev Cert.BranchGradRefIdeal.nD → PrngReg), Pre_BranchGradIdeal m →
    (∀ c : Dev Cert.BranchGradIdeal.nD,
      m' ((c.tc : Thread Cert.BranchGradRefIdeal.nD Cert.BranchGradRefIdeal.τ).loc Cert.BranchGradRefIdeal.main_arg0) = m ((c.tc : Thread Cert.BranchGradIdeal.nD Cert.BranchGradIdeal.τ).loc Cert.BranchGradIdeal.main_arg0)
      ∧ m' ((c.tc : Thread Cert.BranchGradRefIdeal.nD Cert.BranchGradRefIdeal.τ).loc Cert.BranchGradRefIdeal.main_arg1) = m ((c.tc : Thread Cert.BranchGradIdeal.nD Cert.BranchGradIdeal.τ).loc Cert.BranchGradIdeal.main_arg1)) →
    ∃ (v0 : (c : Dev Cert.BranchGradIdeal.nD) → Buf (Elt Ideal) ((c.tc : Thread Cert.BranchGradIdeal.nD Cert.BranchGradIdeal.τ).loc Cert.BranchGradIdeal.main_v0)),
      θ_run (Cert.BranchGradIdeal.defs (F := Ideal)) (onTc (τ := Cert.BranchGradIdeal.τ) (Cert.BranchGradIdeal.main (F := Ideal))) ⟨m, fun _ => 0, g⟩ (fun r => ∀ c : Dev Cert.BranchGradIdeal.nD,
          r.2.mem ((c.tc : Thread Cert.BranchGradIdeal.nD Cert.BranchGradIdeal.τ).loc Cert.BranchGradIdeal.main_v0) = v0 c
          ∧ r.2.mem ((c.tc : Thread Cert.BranchGradIdeal.nD Cert.BranchGradIdeal.τ).loc Cert.BranchGradIdeal.main_arg0) = m ((c.tc : Thread Cert.BranchGradIdeal.nD Cert.BranchGradIdeal.τ).loc Cert.BranchGradIdeal.main_arg0)
          ∧ r.2.mem ((c.tc : Thread Cert.BranchGradIdeal.nD Cert.BranchGradIdeal.τ).loc Cert.BranchGradIdeal.main_arg1) = m ((c.tc : Thread Cert.BranchGradIdeal.nD Cert.BranchGradIdeal.τ).loc Cert.BranchGradIdeal.main_arg1))
      ∧ θ_run (Cert.BranchGradRefIdeal.defs (F := Ideal)) (onTc (τ := Cert.BranchGradRefIdeal.τ) (Cert.BranchGradRefIdeal.main (F := Ideal))) ⟨m', fun _ => 0, g'⟩ (fun r => ∀ c : Dev Cert.BranchGradRefIdeal.nD,
          r.2.mem ((c.tc : Thread Cert.BranchGradRefIdeal.nD Cert.BranchGradRefIdeal.τ).loc Cert.BranchGradRefIdeal.main_v7) = v0 c
          ∧ r.2.mem ((c.tc : Thread Cert.BranchGradRefIdeal.nD Cert.BranchGradRefIdeal.τ).loc Cert.BranchGradRefIdeal.main_arg0) = m' ((c.tc : Thread Cert.BranchGradRefIdeal.nD Cert.BranchGradRefIdeal.τ).loc Cert.BranchGradRefIdeal.main_arg0)
          ∧ r.2.mem ((c.tc : Thread Cert.BranchGradRefIdeal.nD Cert.BranchGradRefIdeal.τ).loc Cert.BranchGradRefIdeal.main_arg1) = m' ((c.tc : Thread Cert.BranchGradRefIdeal.nD Cert.BranchGradRefIdeal.τ).loc Cert.BranchGradRefIdeal.main_arg1))

def preserves_ProjGrad_ProjGradIdeal : Prop :=
  True

def algebraic_ProjGradIdeal_ProjGradRefIdeal [hProjGradIdeal : Cert.ProjGradIdeal.Facts] [hProjGradRefIdeal : Cert.ProjGradRefIdeal.Facts] : Prop :=
  ∀ (m : (ℓ : Loc Cert.ProjGradIdeal.nD Cert.ProjGradIdeal.τ Cert.ProjGradIdeal.sig) → Buf (Elt Ideal) ℓ) (g : Dev Cert.ProjGradIdeal.nD → PrngReg)
    (m' : (ℓ : Loc Cert.ProjGradRefIdeal.nD Cert.ProjGradRefIdeal.τ Cert.ProjGradRefIdeal.sig) → Buf (Elt Ideal) ℓ) (g' : Dev Cert.ProjGradRefIdeal.nD → PrngReg), Pre_ProjGradIdeal m →
    (∀ c : Dev Cert.ProjGradIdeal.nD,
      m' ((c.tc : Thread Cert.ProjGradRefIdeal.nD Cert.ProjGradRefIdeal.τ).loc Cert.ProjGradRefIdeal.main_arg0) = m ((c.tc : Thread Cert.ProjGradIdeal.nD Cert.ProjGradIdeal.τ).loc Cert.ProjGradIdeal.main_arg0)
      ∧ m' ((c.tc : Thread Cert.ProjGradRefIdeal.nD Cert.ProjGradRefIdeal.τ).loc Cert.ProjGradRefIdeal.main_arg1) = m ((c.tc : Thread Cert.ProjGradIdeal.nD Cert.ProjGradIdeal.τ).loc Cert.ProjGradIdeal.main_arg1)) →
    ∃ (v0 : (c : Dev Cert.ProjGradIdeal.nD) → Buf (Elt Ideal) ((c.tc : Thread Cert.ProjGradIdeal.nD Cert.ProjGradIdeal.τ).loc Cert.ProjGradIdeal.main_v0)),
      θ_run (Cert.ProjGradIdeal.defs (F := Ideal)) (onTc (τ := Cert.ProjGradIdeal.τ) (Cert.ProjGradIdeal.main (F := Ideal))) ⟨m, fun _ => 0, g⟩ (fun r => ∀ c : Dev Cert.ProjGradIdeal.nD,
          r.2.mem ((c.tc : Thread Cert.ProjGradIdeal.nD Cert.ProjGradIdeal.τ).loc Cert.ProjGradIdeal.main_v0) = v0 c
          ∧ r.2.mem ((c.tc : Thread Cert.ProjGradIdeal.nD Cert.ProjGradIdeal.τ).loc Cert.ProjGradIdeal.main_arg0) = m ((c.tc : Thread Cert.ProjGradIdeal.nD Cert.ProjGradIdeal.τ).loc Cert.ProjGradIdeal.main_arg0)
          ∧ r.2.mem ((c.tc : Thread Cert.ProjGradIdeal.nD Cert.ProjGradIdeal.τ).loc Cert.ProjGradIdeal.main_arg1) = m ((c.tc : Thread Cert.ProjGradIdeal.nD Cert.ProjGradIdeal.τ).loc Cert.ProjGradIdeal.main_arg1))
      ∧ θ_run (Cert.ProjGradRefIdeal.defs (F := Ideal)) (onTc (τ := Cert.ProjGradRefIdeal.τ) (Cert.ProjGradRefIdeal.main (F := Ideal))) ⟨m', fun _ => 0, g'⟩ (fun r => ∀ c : Dev Cert.ProjGradRefIdeal.nD,
          r.2.mem ((c.tc : Thread Cert.ProjGradRefIdeal.nD Cert.ProjGradRefIdeal.τ).loc Cert.ProjGradRefIdeal.main_v7) = v0 c
          ∧ r.2.mem ((c.tc : Thread Cert.ProjGradRefIdeal.nD Cert.ProjGradRefIdeal.τ).loc Cert.ProjGradRefIdeal.main_arg0) = m' ((c.tc : Thread Cert.ProjGradRefIdeal.nD Cert.ProjGradRefIdeal.τ).loc Cert.ProjGradRefIdeal.main_arg0)
          ∧ r.2.mem ((c.tc : Thread Cert.ProjGradRefIdeal.nD Cert.ProjGradRefIdeal.τ).loc Cert.ProjGradRefIdeal.main_arg1) = m' ((c.tc : Thread Cert.ProjGradRefIdeal.nD Cert.ProjGradRefIdeal.τ).loc Cert.ProjGradRefIdeal.main_arg1))

def preserves_InWideGrad_InWideGradIdeal : Prop :=
  True

def algebraic_InWideGradIdeal_InWideGradRefIdeal [hInWideGradIdeal : Cert.InWideGradIdeal.Facts] [hInWideGradRefIdeal : Cert.InWideGradRefIdeal.Facts] : Prop :=
  ∀ (m : (ℓ : Loc Cert.InWideGradIdeal.nD Cert.InWideGradIdeal.τ Cert.InWideGradIdeal.sig) → Buf (Elt Ideal) ℓ) (g : Dev Cert.InWideGradIdeal.nD → PrngReg)
    (m' : (ℓ : Loc Cert.InWideGradRefIdeal.nD Cert.InWideGradRefIdeal.τ Cert.InWideGradRefIdeal.sig) → Buf (Elt Ideal) ℓ) (g' : Dev Cert.InWideGradRefIdeal.nD → PrngReg), Pre_InWideGradIdeal m →
    (∀ c : Dev Cert.InWideGradIdeal.nD,
      m' ((c.tc : Thread Cert.InWideGradRefIdeal.nD Cert.InWideGradRefIdeal.τ).loc Cert.InWideGradRefIdeal.main_arg0) = m ((c.tc : Thread Cert.InWideGradIdeal.nD Cert.InWideGradIdeal.τ).loc Cert.InWideGradIdeal.main_arg0)
      ∧ m' ((c.tc : Thread Cert.InWideGradRefIdeal.nD Cert.InWideGradRefIdeal.τ).loc Cert.InWideGradRefIdeal.main_arg1) = m ((c.tc : Thread Cert.InWideGradIdeal.nD Cert.InWideGradIdeal.τ).loc Cert.InWideGradIdeal.main_arg1)) →
    ∃ (v0 : (c : Dev Cert.InWideGradIdeal.nD) → Buf (Elt Ideal) ((c.tc : Thread Cert.InWideGradIdeal.nD Cert.InWideGradIdeal.τ).loc Cert.InWideGradIdeal.main_v0)),
      θ_run (Cert.InWideGradIdeal.defs (F := Ideal)) (onTc (τ := Cert.InWideGradIdeal.τ) (Cert.InWideGradIdeal.main (F := Ideal))) ⟨m, fun _ => 0, g⟩ (fun r => ∀ c : Dev Cert.InWideGradIdeal.nD,
          r.2.mem ((c.tc : Thread Cert.InWideGradIdeal.nD Cert.InWideGradIdeal.τ).loc Cert.InWideGradIdeal.main_v0) = v0 c
          ∧ r.2.mem ((c.tc : Thread Cert.InWideGradIdeal.nD Cert.InWideGradIdeal.τ).loc Cert.InWideGradIdeal.main_arg0) = m ((c.tc : Thread Cert.InWideGradIdeal.nD Cert.InWideGradIdeal.τ).loc Cert.InWideGradIdeal.main_arg0)
          ∧ r.2.mem ((c.tc : Thread Cert.InWideGradIdeal.nD Cert.InWideGradIdeal.τ).loc Cert.InWideGradIdeal.main_arg1) = m ((c.tc : Thread Cert.InWideGradIdeal.nD Cert.InWideGradIdeal.τ).loc Cert.InWideGradIdeal.main_arg1))
      ∧ θ_run (Cert.InWideGradRefIdeal.defs (F := Ideal)) (onTc (τ := Cert.InWideGradRefIdeal.τ) (Cert.InWideGradRefIdeal.main (F := Ideal))) ⟨m', fun _ => 0, g'⟩ (fun r => ∀ c : Dev Cert.InWideGradRefIdeal.nD,
          r.2.mem ((c.tc : Thread Cert.InWideGradRefIdeal.nD Cert.InWideGradRefIdeal.τ).loc Cert.InWideGradRefIdeal.main_v7) = v0 c
          ∧ r.2.mem ((c.tc : Thread Cert.InWideGradRefIdeal.nD Cert.InWideGradRefIdeal.τ).loc Cert.InWideGradRefIdeal.main_arg0) = m' ((c.tc : Thread Cert.InWideGradRefIdeal.nD Cert.InWideGradRefIdeal.τ).loc Cert.InWideGradRefIdeal.main_arg0)
          ∧ r.2.mem ((c.tc : Thread Cert.InWideGradRefIdeal.nD Cert.InWideGradRefIdeal.τ).loc Cert.InWideGradRefIdeal.main_arg1) = m' ((c.tc : Thread Cert.InWideGradRefIdeal.nD Cert.InWideGradRefIdeal.τ).loc Cert.InWideGradRefIdeal.main_arg1))

def preserves_InMidGrad_InMidGradIdeal : Prop :=
  True

def algebraic_InMidGradIdeal_InMidGradRefIdeal [hInMidGradIdeal : Cert.InMidGradIdeal.Facts] [hInMidGradRefIdeal : Cert.InMidGradRefIdeal.Facts] : Prop :=
  ∀ (m : (ℓ : Loc Cert.InMidGradIdeal.nD Cert.InMidGradIdeal.τ Cert.InMidGradIdeal.sig) → Buf (Elt Ideal) ℓ) (g : Dev Cert.InMidGradIdeal.nD → PrngReg)
    (m' : (ℓ : Loc Cert.InMidGradRefIdeal.nD Cert.InMidGradRefIdeal.τ Cert.InMidGradRefIdeal.sig) → Buf (Elt Ideal) ℓ) (g' : Dev Cert.InMidGradRefIdeal.nD → PrngReg), Pre_InMidGradIdeal m →
    (∀ c : Dev Cert.InMidGradIdeal.nD,
      m' ((c.tc : Thread Cert.InMidGradRefIdeal.nD Cert.InMidGradRefIdeal.τ).loc Cert.InMidGradRefIdeal.main_arg0) = m ((c.tc : Thread Cert.InMidGradIdeal.nD Cert.InMidGradIdeal.τ).loc Cert.InMidGradIdeal.main_arg0)
      ∧ m' ((c.tc : Thread Cert.InMidGradRefIdeal.nD Cert.InMidGradRefIdeal.τ).loc Cert.InMidGradRefIdeal.main_arg1) = m ((c.tc : Thread Cert.InMidGradIdeal.nD Cert.InMidGradIdeal.τ).loc Cert.InMidGradIdeal.main_arg1)) →
    ∃ (v0 : (c : Dev Cert.InMidGradIdeal.nD) → Buf (Elt Ideal) ((c.tc : Thread Cert.InMidGradIdeal.nD Cert.InMidGradIdeal.τ).loc Cert.InMidGradIdeal.main_v0)),
      θ_run (Cert.InMidGradIdeal.defs (F := Ideal)) (onTc (τ := Cert.InMidGradIdeal.τ) (Cert.InMidGradIdeal.main (F := Ideal))) ⟨m, fun _ => 0, g⟩ (fun r => ∀ c : Dev Cert.InMidGradIdeal.nD,
          r.2.mem ((c.tc : Thread Cert.InMidGradIdeal.nD Cert.InMidGradIdeal.τ).loc Cert.InMidGradIdeal.main_v0) = v0 c
          ∧ r.2.mem ((c.tc : Thread Cert.InMidGradIdeal.nD Cert.InMidGradIdeal.τ).loc Cert.InMidGradIdeal.main_arg0) = m ((c.tc : Thread Cert.InMidGradIdeal.nD Cert.InMidGradIdeal.τ).loc Cert.InMidGradIdeal.main_arg0)
          ∧ r.2.mem ((c.tc : Thread Cert.InMidGradIdeal.nD Cert.InMidGradIdeal.τ).loc Cert.InMidGradIdeal.main_arg1) = m ((c.tc : Thread Cert.InMidGradIdeal.nD Cert.InMidGradIdeal.τ).loc Cert.InMidGradIdeal.main_arg1))
      ∧ θ_run (Cert.InMidGradRefIdeal.defs (F := Ideal)) (onTc (τ := Cert.InMidGradRefIdeal.τ) (Cert.InMidGradRefIdeal.main (F := Ideal))) ⟨m', fun _ => 0, g'⟩ (fun r => ∀ c : Dev Cert.InMidGradRefIdeal.nD,
          r.2.mem ((c.tc : Thread Cert.InMidGradRefIdeal.nD Cert.InMidGradRefIdeal.τ).loc Cert.InMidGradRefIdeal.main_v7) = v0 c
          ∧ r.2.mem ((c.tc : Thread Cert.InMidGradRefIdeal.nD Cert.InMidGradRefIdeal.τ).loc Cert.InMidGradRefIdeal.main_arg0) = m' ((c.tc : Thread Cert.InMidGradRefIdeal.nD Cert.InMidGradRefIdeal.τ).loc Cert.InMidGradRefIdeal.main_arg0)
          ∧ r.2.mem ((c.tc : Thread Cert.InMidGradRefIdeal.nD Cert.InMidGradRefIdeal.τ).loc Cert.InMidGradRefIdeal.main_arg1) = m' ((c.tc : Thread Cert.InMidGradRefIdeal.nD Cert.InMidGradRefIdeal.τ).loc Cert.InMidGradRefIdeal.main_arg1))

def preserves_InSmallGrad_InSmallGradIdeal : Prop :=
  True

def algebraic_InSmallGradIdeal_InSmallGradRefIdeal [hInSmallGradIdeal : Cert.InSmallGradIdeal.Facts] [hInSmallGradRefIdeal : Cert.InSmallGradRefIdeal.Facts] : Prop :=
  ∀ (m : (ℓ : Loc Cert.InSmallGradIdeal.nD Cert.InSmallGradIdeal.τ Cert.InSmallGradIdeal.sig) → Buf (Elt Ideal) ℓ) (g : Dev Cert.InSmallGradIdeal.nD → PrngReg)
    (m' : (ℓ : Loc Cert.InSmallGradRefIdeal.nD Cert.InSmallGradRefIdeal.τ Cert.InSmallGradRefIdeal.sig) → Buf (Elt Ideal) ℓ) (g' : Dev Cert.InSmallGradRefIdeal.nD → PrngReg), Pre_InSmallGradIdeal m →
    (∀ c : Dev Cert.InSmallGradIdeal.nD,
      m' ((c.tc : Thread Cert.InSmallGradRefIdeal.nD Cert.InSmallGradRefIdeal.τ).loc Cert.InSmallGradRefIdeal.main_arg0) = m ((c.tc : Thread Cert.InSmallGradIdeal.nD Cert.InSmallGradIdeal.τ).loc Cert.InSmallGradIdeal.main_arg0)
      ∧ m' ((c.tc : Thread Cert.InSmallGradRefIdeal.nD Cert.InSmallGradRefIdeal.τ).loc Cert.InSmallGradRefIdeal.main_arg1) = m ((c.tc : Thread Cert.InSmallGradIdeal.nD Cert.InSmallGradIdeal.τ).loc Cert.InSmallGradIdeal.main_arg1)) →
    ∃ (v0 : (c : Dev Cert.InSmallGradIdeal.nD) → Buf (Elt Ideal) ((c.tc : Thread Cert.InSmallGradIdeal.nD Cert.InSmallGradIdeal.τ).loc Cert.InSmallGradIdeal.main_v0)),
      θ_run (Cert.InSmallGradIdeal.defs (F := Ideal)) (onTc (τ := Cert.InSmallGradIdeal.τ) (Cert.InSmallGradIdeal.main (F := Ideal))) ⟨m, fun _ => 0, g⟩ (fun r => ∀ c : Dev Cert.InSmallGradIdeal.nD,
          r.2.mem ((c.tc : Thread Cert.InSmallGradIdeal.nD Cert.InSmallGradIdeal.τ).loc Cert.InSmallGradIdeal.main_v0) = v0 c
          ∧ r.2.mem ((c.tc : Thread Cert.InSmallGradIdeal.nD Cert.InSmallGradIdeal.τ).loc Cert.InSmallGradIdeal.main_arg0) = m ((c.tc : Thread Cert.InSmallGradIdeal.nD Cert.InSmallGradIdeal.τ).loc Cert.InSmallGradIdeal.main_arg0)
          ∧ r.2.mem ((c.tc : Thread Cert.InSmallGradIdeal.nD Cert.InSmallGradIdeal.τ).loc Cert.InSmallGradIdeal.main_arg1) = m ((c.tc : Thread Cert.InSmallGradIdeal.nD Cert.InSmallGradIdeal.τ).loc Cert.InSmallGradIdeal.main_arg1))
      ∧ θ_run (Cert.InSmallGradRefIdeal.defs (F := Ideal)) (onTc (τ := Cert.InSmallGradRefIdeal.τ) (Cert.InSmallGradRefIdeal.main (F := Ideal))) ⟨m', fun _ => 0, g'⟩ (fun r => ∀ c : Dev Cert.InSmallGradRefIdeal.nD,
          r.2.mem ((c.tc : Thread Cert.InSmallGradRefIdeal.nD Cert.InSmallGradRefIdeal.τ).loc Cert.InSmallGradRefIdeal.main_v7) = v0 c
          ∧ r.2.mem ((c.tc : Thread Cert.InSmallGradRefIdeal.nD Cert.InSmallGradRefIdeal.τ).loc Cert.InSmallGradRefIdeal.main_arg0) = m' ((c.tc : Thread Cert.InSmallGradRefIdeal.nD Cert.InSmallGradRefIdeal.τ).loc Cert.InSmallGradRefIdeal.main_arg0)
          ∧ r.2.mem ((c.tc : Thread Cert.InSmallGradRefIdeal.nD Cert.InSmallGradRefIdeal.τ).loc Cert.InSmallGradRefIdeal.main_arg1) = m' ((c.tc : Thread Cert.InSmallGradRefIdeal.nD Cert.InSmallGradRefIdeal.τ).loc Cert.InSmallGradRefIdeal.main_arg1))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v0)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v0) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v4) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_BranchA_BranchAIdeal : Prop :=
  True

def algebraic_BranchAIdeal_BranchARefIdeal [hBranchAIdeal : Cert.BranchAIdeal.Facts] [hBranchARefIdeal : Cert.BranchARefIdeal.Facts] : Prop :=
  ∀ (m : (ℓ : Loc Cert.BranchAIdeal.nD Cert.BranchAIdeal.τ Cert.BranchAIdeal.sig) → Buf (Elt Ideal) ℓ) (g : Dev Cert.BranchAIdeal.nD → PrngReg)
    (m' : (ℓ : Loc Cert.BranchARefIdeal.nD Cert.BranchARefIdeal.τ Cert.BranchARefIdeal.sig) → Buf (Elt Ideal) ℓ) (g' : Dev Cert.BranchARefIdeal.nD → PrngReg), Pre_BranchAIdeal m →
    (∀ c : Dev Cert.BranchAIdeal.nD,
      m' ((c.tc : Thread Cert.BranchARefIdeal.nD Cert.BranchARefIdeal.τ).loc Cert.BranchARefIdeal.main_arg0) = m ((c.tc : Thread Cert.BranchAIdeal.nD Cert.BranchAIdeal.τ).loc Cert.BranchAIdeal.main_arg0)
      ∧ m' ((c.tc : Thread Cert.BranchARefIdeal.nD Cert.BranchARefIdeal.τ).loc Cert.BranchARefIdeal.main_arg1) = m ((c.tc : Thread Cert.BranchAIdeal.nD Cert.BranchAIdeal.τ).loc Cert.BranchAIdeal.main_arg1)) →
    ∃ (v0 : (c : Dev Cert.BranchAIdeal.nD) → Buf (Elt Ideal) ((c.tc : Thread Cert.BranchAIdeal.nD Cert.BranchAIdeal.τ).loc Cert.BranchAIdeal.main_v0)),
      θ_run (Cert.BranchAIdeal.defs (F := Ideal)) (onTc (τ := Cert.BranchAIdeal.τ) (Cert.BranchAIdeal.main (F := Ideal))) ⟨m, fun _ => 0, g⟩ (fun r => ∀ c : Dev Cert.BranchAIdeal.nD,
          r.2.mem ((c.tc : Thread Cert.BranchAIdeal.nD Cert.BranchAIdeal.τ).loc Cert.BranchAIdeal.main_v0) = v0 c
          ∧ r.2.mem ((c.tc : Thread Cert.BranchAIdeal.nD Cert.BranchAIdeal.τ).loc Cert.BranchAIdeal.main_arg0) = m ((c.tc : Thread Cert.BranchAIdeal.nD Cert.BranchAIdeal.τ).loc Cert.BranchAIdeal.main_arg0)
          ∧ r.2.mem ((c.tc : Thread Cert.BranchAIdeal.nD Cert.BranchAIdeal.τ).loc Cert.BranchAIdeal.main_arg1) = m ((c.tc : Thread Cert.BranchAIdeal.nD Cert.BranchAIdeal.τ).loc Cert.BranchAIdeal.main_arg1))
      ∧ θ_run (Cert.BranchARefIdeal.defs (F := Ideal)) (onTc (τ := Cert.BranchARefIdeal.τ) (Cert.BranchARefIdeal.main (F := Ideal))) ⟨m', fun _ => 0, g'⟩ (fun r => ∀ c : Dev Cert.BranchARefIdeal.nD,
          r.2.mem ((c.tc : Thread Cert.BranchARefIdeal.nD Cert.BranchARefIdeal.τ).loc Cert.BranchARefIdeal.main_v3) = v0 c
          ∧ r.2.mem ((c.tc : Thread Cert.BranchARefIdeal.nD Cert.BranchARefIdeal.τ).loc Cert.BranchARefIdeal.main_arg0) = m' ((c.tc : Thread Cert.BranchARefIdeal.nD Cert.BranchARefIdeal.τ).loc Cert.BranchARefIdeal.main_arg0)
          ∧ r.2.mem ((c.tc : Thread Cert.BranchARefIdeal.nD Cert.BranchARefIdeal.τ).loc Cert.BranchARefIdeal.main_arg1) = m' ((c.tc : Thread Cert.BranchARefIdeal.nD Cert.BranchARefIdeal.τ).loc Cert.BranchARefIdeal.main_arg1))

def preserves_BranchB_BranchBIdeal : Prop :=
  True

def algebraic_BranchBIdeal_BranchBRefIdeal [hBranchBIdeal : Cert.BranchBIdeal.Facts] [hBranchBRefIdeal : Cert.BranchBRefIdeal.Facts] : Prop :=
  ∀ (m : (ℓ : Loc Cert.BranchBIdeal.nD Cert.BranchBIdeal.τ Cert.BranchBIdeal.sig) → Buf (Elt Ideal) ℓ) (g : Dev Cert.BranchBIdeal.nD → PrngReg)
    (m' : (ℓ : Loc Cert.BranchBRefIdeal.nD Cert.BranchBRefIdeal.τ Cert.BranchBRefIdeal.sig) → Buf (Elt Ideal) ℓ) (g' : Dev Cert.BranchBRefIdeal.nD → PrngReg), Pre_BranchBIdeal m →
    (∀ c : Dev Cert.BranchBIdeal.nD,
      m' ((c.tc : Thread Cert.BranchBRefIdeal.nD Cert.BranchBRefIdeal.τ).loc Cert.BranchBRefIdeal.main_arg0) = m ((c.tc : Thread Cert.BranchBIdeal.nD Cert.BranchBIdeal.τ).loc Cert.BranchBIdeal.main_arg0)
      ∧ m' ((c.tc : Thread Cert.BranchBRefIdeal.nD Cert.BranchBRefIdeal.τ).loc Cert.BranchBRefIdeal.main_arg1) = m ((c.tc : Thread Cert.BranchBIdeal.nD Cert.BranchBIdeal.τ).loc Cert.BranchBIdeal.main_arg1)) →
    ∃ (v0 : (c : Dev Cert.BranchBIdeal.nD) → Buf (Elt Ideal) ((c.tc : Thread Cert.BranchBIdeal.nD Cert.BranchBIdeal.τ).loc Cert.BranchBIdeal.main_v0)),
      θ_run (Cert.BranchBIdeal.defs (F := Ideal)) (onTc (τ := Cert.BranchBIdeal.τ) (Cert.BranchBIdeal.main (F := Ideal))) ⟨m, fun _ => 0, g⟩ (fun r => ∀ c : Dev Cert.BranchBIdeal.nD,
          r.2.mem ((c.tc : Thread Cert.BranchBIdeal.nD Cert.BranchBIdeal.τ).loc Cert.BranchBIdeal.main_v0) = v0 c
          ∧ r.2.mem ((c.tc : Thread Cert.BranchBIdeal.nD Cert.BranchBIdeal.τ).loc Cert.BranchBIdeal.main_arg0) = m ((c.tc : Thread Cert.BranchBIdeal.nD Cert.BranchBIdeal.τ).loc Cert.BranchBIdeal.main_arg0)
          ∧ r.2.mem ((c.tc : Thread Cert.BranchBIdeal.nD Cert.BranchBIdeal.τ).loc Cert.BranchBIdeal.main_arg1) = m ((c.tc : Thread Cert.BranchBIdeal.nD Cert.BranchBIdeal.τ).loc Cert.BranchBIdeal.main_arg1))
      ∧ θ_run (Cert.BranchBRefIdeal.defs (F := Ideal)) (onTc (τ := Cert.BranchBRefIdeal.τ) (Cert.BranchBRefIdeal.main (F := Ideal))) ⟨m', fun _ => 0, g'⟩ (fun r => ∀ c : Dev Cert.BranchBRefIdeal.nD,
          r.2.mem ((c.tc : Thread Cert.BranchBRefIdeal.nD Cert.BranchBRefIdeal.τ).loc Cert.BranchBRefIdeal.main_v4) = v0 c
          ∧ r.2.mem ((c.tc : Thread Cert.BranchBRefIdeal.nD Cert.BranchBRefIdeal.τ).loc Cert.BranchBRefIdeal.main_arg0) = m' ((c.tc : Thread Cert.BranchBRefIdeal.nD Cert.BranchBRefIdeal.τ).loc Cert.BranchBRefIdeal.main_arg0)
          ∧ r.2.mem ((c.tc : Thread Cert.BranchBRefIdeal.nD Cert.BranchBRefIdeal.τ).loc Cert.BranchBRefIdeal.main_arg1) = m' ((c.tc : Thread Cert.BranchBRefIdeal.nD Cert.BranchBRefIdeal.τ).loc Cert.BranchBRefIdeal.main_arg1))

def preserves_PleProj_PleProjIdeal : Prop :=
  True

def algebraic_PleProjIdeal_PleProjRefIdeal [hPleProjIdeal : Cert.PleProjIdeal.Facts] [hPleProjRefIdeal : Cert.PleProjRefIdeal.Facts] : Prop :=
  ∀ (m : (ℓ : Loc Cert.PleProjIdeal.nD Cert.PleProjIdeal.τ Cert.PleProjIdeal.sig) → Buf (Elt Ideal) ℓ) (g : Dev Cert.PleProjIdeal.nD → PrngReg)
    (m' : (ℓ : Loc Cert.PleProjRefIdeal.nD Cert.PleProjRefIdeal.τ Cert.PleProjRefIdeal.sig) → Buf (Elt Ideal) ℓ) (g' : Dev Cert.PleProjRefIdeal.nD → PrngReg), Pre_PleProjIdeal m →
    (∀ c : Dev Cert.PleProjIdeal.nD,
      m' ((c.tc : Thread Cert.PleProjRefIdeal.nD Cert.PleProjRefIdeal.τ).loc Cert.PleProjRefIdeal.main_arg0) = m ((c.tc : Thread Cert.PleProjIdeal.nD Cert.PleProjIdeal.τ).loc Cert.PleProjIdeal.main_arg0)
      ∧ m' ((c.tc : Thread Cert.PleProjRefIdeal.nD Cert.PleProjRefIdeal.τ).loc Cert.PleProjRefIdeal.main_arg1) = m ((c.tc : Thread Cert.PleProjIdeal.nD Cert.PleProjIdeal.τ).loc Cert.PleProjIdeal.main_arg1)) →
    ∃ (v0 : (c : Dev Cert.PleProjIdeal.nD) → Buf (Elt Ideal) ((c.tc : Thread Cert.PleProjIdeal.nD Cert.PleProjIdeal.τ).loc Cert.PleProjIdeal.main_v0)),
      θ_run (Cert.PleProjIdeal.defs (F := Ideal)) (onTc (τ := Cert.PleProjIdeal.τ) (Cert.PleProjIdeal.main (F := Ideal))) ⟨m, fun _ => 0, g⟩ (fun r => ∀ c : Dev Cert.PleProjIdeal.nD,
          r.2.mem ((c.tc : Thread Cert.PleProjIdeal.nD Cert.PleProjIdeal.τ).loc Cert.PleProjIdeal.main_v0) = v0 c
          ∧ r.2.mem ((c.tc : Thread Cert.PleProjIdeal.nD Cert.PleProjIdeal.τ).loc Cert.PleProjIdeal.main_arg0) = m ((c.tc : Thread Cert.PleProjIdeal.nD Cert.PleProjIdeal.τ).loc Cert.PleProjIdeal.main_arg0)
          ∧ r.2.mem ((c.tc : Thread Cert.PleProjIdeal.nD Cert.PleProjIdeal.τ).loc Cert.PleProjIdeal.main_arg1) = m ((c.tc : Thread Cert.PleProjIdeal.nD Cert.PleProjIdeal.τ).loc Cert.PleProjIdeal.main_arg1))
      ∧ θ_run (Cert.PleProjRefIdeal.defs (F := Ideal)) (onTc (τ := Cert.PleProjRefIdeal.τ) (Cert.PleProjRefIdeal.main (F := Ideal))) ⟨m', fun _ => 0, g'⟩ (fun r => ∀ c : Dev Cert.PleProjRefIdeal.nD,
          r.2.mem ((c.tc : Thread Cert.PleProjRefIdeal.nD Cert.PleProjRefIdeal.τ).loc Cert.PleProjRefIdeal.main_v4) = v0 c
          ∧ r.2.mem ((c.tc : Thread Cert.PleProjRefIdeal.nD Cert.PleProjRefIdeal.τ).loc Cert.PleProjRefIdeal.main_arg0) = m' ((c.tc : Thread Cert.PleProjRefIdeal.nD Cert.PleProjRefIdeal.τ).loc Cert.PleProjRefIdeal.main_arg0)
          ∧ r.2.mem ((c.tc : Thread Cert.PleProjRefIdeal.nD Cert.PleProjRefIdeal.τ).loc Cert.PleProjRefIdeal.main_arg1) = m' ((c.tc : Thread Cert.PleProjRefIdeal.nD Cert.PleProjRefIdeal.τ).loc Cert.PleProjRefIdeal.main_arg1))

def preserves_OutGrad_OutGradIdeal : Prop :=
  True

def algebraic_OutGradIdeal_OutGradRefIdeal [hOutGradIdeal : Cert.OutGradIdeal.Facts] [hOutGradRefIdeal : Cert.OutGradRefIdeal.Facts] : Prop :=
  ∀ (m : (ℓ : Loc Cert.OutGradIdeal.nD Cert.OutGradIdeal.τ Cert.OutGradIdeal.sig) → Buf (Elt Ideal) ℓ) (g : Dev Cert.OutGradIdeal.nD → PrngReg)
    (m' : (ℓ : Loc Cert.OutGradRefIdeal.nD Cert.OutGradRefIdeal.τ Cert.OutGradRefIdeal.sig) → Buf (Elt Ideal) ℓ) (g' : Dev Cert.OutGradRefIdeal.nD → PrngReg), Pre_OutGradIdeal m →
    (∀ c : Dev Cert.OutGradIdeal.nD,
      m' ((c.tc : Thread Cert.OutGradRefIdeal.nD Cert.OutGradRefIdeal.τ).loc Cert.OutGradRefIdeal.main_arg0) = m ((c.tc : Thread Cert.OutGradIdeal.nD Cert.OutGradIdeal.τ).loc Cert.OutGradIdeal.main_arg0)
      ∧ m' ((c.tc : Thread Cert.OutGradRefIdeal.nD Cert.OutGradRefIdeal.τ).loc Cert.OutGradRefIdeal.main_arg1) = m ((c.tc : Thread Cert.OutGradIdeal.nD Cert.OutGradIdeal.τ).loc Cert.OutGradIdeal.main_arg1)) →
    ∃ (v0 : (c : Dev Cert.OutGradIdeal.nD) → Buf (Elt Ideal) ((c.tc : Thread Cert.OutGradIdeal.nD Cert.OutGradIdeal.τ).loc Cert.OutGradIdeal.main_v0)),
      θ_run (Cert.OutGradIdeal.defs (F := Ideal)) (onTc (τ := Cert.OutGradIdeal.τ) (Cert.OutGradIdeal.main (F := Ideal))) ⟨m, fun _ => 0, g⟩ (fun r => ∀ c : Dev Cert.OutGradIdeal.nD,
          r.2.mem ((c.tc : Thread Cert.OutGradIdeal.nD Cert.OutGradIdeal.τ).loc Cert.OutGradIdeal.main_v0) = v0 c
          ∧ r.2.mem ((c.tc : Thread Cert.OutGradIdeal.nD Cert.OutGradIdeal.τ).loc Cert.OutGradIdeal.main_arg0) = m ((c.tc : Thread Cert.OutGradIdeal.nD Cert.OutGradIdeal.τ).loc Cert.OutGradIdeal.main_arg0)
          ∧ r.2.mem ((c.tc : Thread Cert.OutGradIdeal.nD Cert.OutGradIdeal.τ).loc Cert.OutGradIdeal.main_arg1) = m ((c.tc : Thread Cert.OutGradIdeal.nD Cert.OutGradIdeal.τ).loc Cert.OutGradIdeal.main_arg1))
      ∧ θ_run (Cert.OutGradRefIdeal.defs (F := Ideal)) (onTc (τ := Cert.OutGradRefIdeal.τ) (Cert.OutGradRefIdeal.main (F := Ideal))) ⟨m', fun _ => 0, g'⟩ (fun r => ∀ c : Dev Cert.OutGradRefIdeal.nD,
          r.2.mem ((c.tc : Thread Cert.OutGradRefIdeal.nD Cert.OutGradRefIdeal.τ).loc Cert.OutGradRefIdeal.main_v5) = v0 c
          ∧ r.2.mem ((c.tc : Thread Cert.OutGradRefIdeal.nD Cert.OutGradRefIdeal.τ).loc Cert.OutGradRefIdeal.main_arg0) = m' ((c.tc : Thread Cert.OutGradRefIdeal.nD Cert.OutGradRefIdeal.τ).loc Cert.OutGradRefIdeal.main_arg0)
          ∧ r.2.mem ((c.tc : Thread Cert.OutGradRefIdeal.nD Cert.OutGradRefIdeal.τ).loc Cert.OutGradRefIdeal.main_arg1) = m' ((c.tc : Thread Cert.OutGradRefIdeal.nD Cert.OutGradRefIdeal.τ).loc Cert.OutGradRefIdeal.main_arg1))

def preserves_MixedGrad_MixedGradIdeal : Prop :=
  True

def algebraic_MixedGradIdeal_MixedGradRefIdeal [hMixedGradIdeal : Cert.MixedGradIdeal.Facts] [hMixedGradRefIdeal : Cert.MixedGradRefIdeal.Facts] : Prop :=
  ∀ (m : (ℓ : Loc Cert.MixedGradIdeal.nD Cert.MixedGradIdeal.τ Cert.MixedGradIdeal.sig) → Buf (Elt Ideal) ℓ) (g : Dev Cert.MixedGradIdeal.nD → PrngReg)
    (m' : (ℓ : Loc Cert.MixedGradRefIdeal.nD Cert.MixedGradRefIdeal.τ Cert.MixedGradRefIdeal.sig) → Buf (Elt Ideal) ℓ) (g' : Dev Cert.MixedGradRefIdeal.nD → PrngReg), Pre_MixedGradIdeal m →
    (∀ c : Dev Cert.MixedGradIdeal.nD,
      m' ((c.tc : Thread Cert.MixedGradRefIdeal.nD Cert.MixedGradRefIdeal.τ).loc Cert.MixedGradRefIdeal.main_arg0) = m ((c.tc : Thread Cert.MixedGradIdeal.nD Cert.MixedGradIdeal.τ).loc Cert.MixedGradIdeal.main_arg0)
      ∧ m' ((c.tc : Thread Cert.MixedGradRefIdeal.nD Cert.MixedGradRefIdeal.τ).loc Cert.MixedGradRefIdeal.main_arg1) = m ((c.tc : Thread Cert.MixedGradIdeal.nD Cert.MixedGradIdeal.τ).loc Cert.MixedGradIdeal.main_arg1)) →
    ∃ (v0 : (c : Dev Cert.MixedGradIdeal.nD) → Buf (Elt Ideal) ((c.tc : Thread Cert.MixedGradIdeal.nD Cert.MixedGradIdeal.τ).loc Cert.MixedGradIdeal.main_v0)),
      θ_run (Cert.MixedGradIdeal.defs (F := Ideal)) (onTc (τ := Cert.MixedGradIdeal.τ) (Cert.MixedGradIdeal.main (F := Ideal))) ⟨m, fun _ => 0, g⟩ (fun r => ∀ c : Dev Cert.MixedGradIdeal.nD,
          r.2.mem ((c.tc : Thread Cert.MixedGradIdeal.nD Cert.MixedGradIdeal.τ).loc Cert.MixedGradIdeal.main_v0) = v0 c
          ∧ r.2.mem ((c.tc : Thread Cert.MixedGradIdeal.nD Cert.MixedGradIdeal.τ).loc Cert.MixedGradIdeal.main_arg0) = m ((c.tc : Thread Cert.MixedGradIdeal.nD Cert.MixedGradIdeal.τ).loc Cert.MixedGradIdeal.main_arg0)
          ∧ r.2.mem ((c.tc : Thread Cert.MixedGradIdeal.nD Cert.MixedGradIdeal.τ).loc Cert.MixedGradIdeal.main_arg1) = m ((c.tc : Thread Cert.MixedGradIdeal.nD Cert.MixedGradIdeal.τ).loc Cert.MixedGradIdeal.main_arg1))
      ∧ θ_run (Cert.MixedGradRefIdeal.defs (F := Ideal)) (onTc (τ := Cert.MixedGradRefIdeal.τ) (Cert.MixedGradRefIdeal.main (F := Ideal))) ⟨m', fun _ => 0, g'⟩ (fun r => ∀ c : Dev Cert.MixedGradRefIdeal.nD,
          r.2.mem ((c.tc : Thread Cert.MixedGradRefIdeal.nD Cert.MixedGradRefIdeal.τ).loc Cert.MixedGradRefIdeal.main_v5) = v0 c
          ∧ r.2.mem ((c.tc : Thread Cert.MixedGradRefIdeal.nD Cert.MixedGradRefIdeal.τ).loc Cert.MixedGradRefIdeal.main_arg0) = m' ((c.tc : Thread Cert.MixedGradRefIdeal.nD Cert.MixedGradRefIdeal.τ).loc Cert.MixedGradRefIdeal.main_arg0)
          ∧ r.2.mem ((c.tc : Thread Cert.MixedGradRefIdeal.nD Cert.MixedGradRefIdeal.τ).loc Cert.MixedGradRefIdeal.main_arg1) = m' ((c.tc : Thread Cert.MixedGradRefIdeal.nD Cert.MixedGradRefIdeal.τ).loc Cert.MixedGradRefIdeal.main_arg1))

def preserves_FfnUp_FfnUpIdeal : Prop :=
  True

def algebraic_FfnUpIdeal_FfnUpRefIdeal_pre_finite_up [hFfnUpIdeal : Cert.FfnUpIdeal.Facts] [hFfnUpRefIdeal : Cert.FfnUpRefIdeal.Facts] [hPre_finite_up : Cert.Pre_finite_up.Facts] : Prop :=
  ∀ (m : (ℓ : Loc Cert.FfnUpIdeal.nD Cert.FfnUpIdeal.τ Cert.FfnUpIdeal.sig) → Buf (Elt Ideal) ℓ) (g : Dev Cert.FfnUpIdeal.nD → PrngReg)
    (m' : (ℓ : Loc Cert.FfnUpRefIdeal.nD Cert.FfnUpRefIdeal.τ Cert.FfnUpRefIdeal.sig) → Buf (Elt Ideal) ℓ) (g' : Dev Cert.FfnUpRefIdeal.nD → PrngReg), Pre_FfnUpIdeal_finite_up m →
    (∀ c : Dev Cert.FfnUpIdeal.nD,
      m' ((c.tc : Thread Cert.FfnUpRefIdeal.nD Cert.FfnUpRefIdeal.τ).loc Cert.FfnUpRefIdeal.main_arg0) = m ((c.tc : Thread Cert.FfnUpIdeal.nD Cert.FfnUpIdeal.τ).loc Cert.FfnUpIdeal.main_arg0)
      ∧ m' ((c.tc : Thread Cert.FfnUpRefIdeal.nD Cert.FfnUpRefIdeal.τ).loc Cert.FfnUpRefIdeal.main_arg1) = m ((c.tc : Thread Cert.FfnUpIdeal.nD Cert.FfnUpIdeal.τ).loc Cert.FfnUpIdeal.main_arg1)
      ∧ m' ((c.tc : Thread Cert.FfnUpRefIdeal.nD Cert.FfnUpRefIdeal.τ).loc Cert.FfnUpRefIdeal.main_arg2) = m ((c.tc : Thread Cert.FfnUpIdeal.nD Cert.FfnUpIdeal.τ).loc Cert.FfnUpIdeal.main_arg2)) →
    ∃ (v0 : (c : Dev Cert.FfnUpIdeal.nD) → Buf (Elt Ideal) ((c.tc : Thread Cert.FfnUpIdeal.nD Cert.FfnUpIdeal.τ).loc Cert.FfnUpIdeal.main_v0_0)) (v1 : (c : Dev Cert.FfnUpIdeal.nD) → Buf (Elt Ideal) ((c.tc : Thread Cert.FfnUpIdeal.nD Cert.FfnUpIdeal.τ).loc Cert.FfnUpIdeal.main_v0_1)) (v2 : (c : Dev Cert.FfnUpIdeal.nD) → Buf (Elt Ideal) ((c.tc : Thread Cert.FfnUpIdeal.nD Cert.FfnUpIdeal.τ).loc Cert.FfnUpIdeal.main_v0_2)),
      θ_run (Cert.FfnUpIdeal.defs (F := Ideal)) (onTc (τ := Cert.FfnUpIdeal.τ) (Cert.FfnUpIdeal.main (F := Ideal))) ⟨m, fun _ => 0, g⟩ (fun r => ∀ c : Dev Cert.FfnUpIdeal.nD,
          r.2.mem ((c.tc : Thread Cert.FfnUpIdeal.nD Cert.FfnUpIdeal.τ).loc Cert.FfnUpIdeal.main_v0_0) = v0 c
          ∧ r.2.mem ((c.tc : Thread Cert.FfnUpIdeal.nD Cert.FfnUpIdeal.τ).loc Cert.FfnUpIdeal.main_v0_1) = v1 c
          ∧ r.2.mem ((c.tc : Thread Cert.FfnUpIdeal.nD Cert.FfnUpIdeal.τ).loc Cert.FfnUpIdeal.main_v0_2) = v2 c
          ∧ r.2.mem ((c.tc : Thread Cert.FfnUpIdeal.nD Cert.FfnUpIdeal.τ).loc Cert.FfnUpIdeal.main_arg0) = m ((c.tc : Thread Cert.FfnUpIdeal.nD Cert.FfnUpIdeal.τ).loc Cert.FfnUpIdeal.main_arg0)
          ∧ r.2.mem ((c.tc : Thread Cert.FfnUpIdeal.nD Cert.FfnUpIdeal.τ).loc Cert.FfnUpIdeal.main_arg1) = m ((c.tc : Thread Cert.FfnUpIdeal.nD Cert.FfnUpIdeal.τ).loc Cert.FfnUpIdeal.main_arg1)
          ∧ r.2.mem ((c.tc : Thread Cert.FfnUpIdeal.nD Cert.FfnUpIdeal.τ).loc Cert.FfnUpIdeal.main_arg2) = m ((c.tc : Thread Cert.FfnUpIdeal.nD Cert.FfnUpIdeal.τ).loc Cert.FfnUpIdeal.main_arg2))
      ∧ θ_run (Cert.FfnUpRefIdeal.defs (F := Ideal)) (onTc (τ := Cert.FfnUpRefIdeal.τ) (Cert.FfnUpRefIdeal.main (F := Ideal))) ⟨m', fun _ => 0, g'⟩ (fun r => ∀ c : Dev Cert.FfnUpRefIdeal.nD,
          r.2.mem ((c.tc : Thread Cert.FfnUpRefIdeal.nD Cert.FfnUpRefIdeal.τ).loc Cert.FfnUpRefIdeal.main_v13) = v0 c
          ∧ r.2.mem ((c.tc : Thread Cert.FfnUpRefIdeal.nD Cert.FfnUpRefIdeal.τ).loc Cert.FfnUpRefIdeal.main_v14) = v1 c
          ∧ r.2.mem ((c.tc : Thread Cert.FfnUpRefIdeal.nD Cert.FfnUpRefIdeal.τ).loc Cert.FfnUpRefIdeal.main_v15) = v2 c
          ∧ r.2.mem ((c.tc : Thread Cert.FfnUpRefIdeal.nD Cert.FfnUpRefIdeal.τ).loc Cert.FfnUpRefIdeal.main_arg0) = m' ((c.tc : Thread Cert.FfnUpRefIdeal.nD Cert.FfnUpRefIdeal.τ).loc Cert.FfnUpRefIdeal.main_arg0)
          ∧ r.2.mem ((c.tc : Thread Cert.FfnUpRefIdeal.nD Cert.FfnUpRefIdeal.τ).loc Cert.FfnUpRefIdeal.main_arg1) = m' ((c.tc : Thread Cert.FfnUpRefIdeal.nD Cert.FfnUpRefIdeal.τ).loc Cert.FfnUpRefIdeal.main_arg1)
          ∧ r.2.mem ((c.tc : Thread Cert.FfnUpRefIdeal.nD Cert.FfnUpRefIdeal.τ).loc Cert.FfnUpRefIdeal.main_arg2) = m' ((c.tc : Thread Cert.FfnUpRefIdeal.nD Cert.FfnUpRefIdeal.τ).loc Cert.FfnUpRefIdeal.main_arg2))

def preserves_Mid_MidIdeal : Prop :=
  True

def algebraic_MidIdeal_MidRefIdeal_pre_finite_mid [hMidIdeal : Cert.MidIdeal.Facts] [hMidRefIdeal : Cert.MidRefIdeal.Facts] [hPre_finite_mid : Cert.Pre_finite_mid.Facts] : Prop :=
  ∀ (m : (ℓ : Loc Cert.MidIdeal.nD Cert.MidIdeal.τ Cert.MidIdeal.sig) → Buf (Elt Ideal) ℓ) (g : Dev Cert.MidIdeal.nD → PrngReg)
    (m' : (ℓ : Loc Cert.MidRefIdeal.nD Cert.MidRefIdeal.τ Cert.MidRefIdeal.sig) → Buf (Elt Ideal) ℓ) (g' : Dev Cert.MidRefIdeal.nD → PrngReg), Pre_MidIdeal_finite_mid m →
    (∀ c : Dev Cert.MidIdeal.nD,
      m' ((c.tc : Thread Cert.MidRefIdeal.nD Cert.MidRefIdeal.τ).loc Cert.MidRefIdeal.main_arg0) = m ((c.tc : Thread Cert.MidIdeal.nD Cert.MidIdeal.τ).loc Cert.MidIdeal.main_arg0)
      ∧ m' ((c.tc : Thread Cert.MidRefIdeal.nD Cert.MidRefIdeal.τ).loc Cert.MidRefIdeal.main_arg1) = m ((c.tc : Thread Cert.MidIdeal.nD Cert.MidIdeal.τ).loc Cert.MidIdeal.main_arg1)
      ∧ m' ((c.tc : Thread Cert.MidRefIdeal.nD Cert.MidRefIdeal.τ).loc Cert.MidRefIdeal.main_arg2) = m ((c.tc : Thread Cert.MidIdeal.nD Cert.MidIdeal.τ).loc Cert.MidIdeal.main_arg2)
      ∧ m' ((c.tc : Thread Cert.MidRefIdeal.nD Cert.MidRefIdeal.τ).loc Cert.MidRefIdeal.main_arg3) = m ((c.tc : Thread Cert.MidIdeal.nD Cert.MidIdeal.τ).loc Cert.MidIdeal.main_arg3)) →
    ∃ (v0 : (c : Dev Cert.MidIdeal.nD) → Buf (Elt Ideal) ((c.tc : Thread Cert.MidIdeal.nD Cert.MidIdeal.τ).loc Cert.MidIdeal.main_v8_0)) (v1 : (c : Dev Cert.MidIdeal.nD) → Buf (Elt Ideal) ((c.tc : Thread Cert.MidIdeal.nD Cert.MidIdeal.τ).loc Cert.MidIdeal.main_v8_1)),
      θ_run (Cert.MidIdeal.defs (F := Ideal)) (onTc (τ := Cert.MidIdeal.τ) (Cert.MidIdeal.main (F := Ideal))) ⟨m, fun _ => 0, g⟩ (fun r => ∀ c : Dev Cert.MidIdeal.nD,
          r.2.mem ((c.tc : Thread Cert.MidIdeal.nD Cert.MidIdeal.τ).loc Cert.MidIdeal.main_v8_0) = v0 c
          ∧ r.2.mem ((c.tc : Thread Cert.MidIdeal.nD Cert.MidIdeal.τ).loc Cert.MidIdeal.main_v8_1) = v1 c
          ∧ r.2.mem ((c.tc : Thread Cert.MidIdeal.nD Cert.MidIdeal.τ).loc Cert.MidIdeal.main_arg0) = m ((c.tc : Thread Cert.MidIdeal.nD Cert.MidIdeal.τ).loc Cert.MidIdeal.main_arg0)
          ∧ r.2.mem ((c.tc : Thread Cert.MidIdeal.nD Cert.MidIdeal.τ).loc Cert.MidIdeal.main_arg1) = m ((c.tc : Thread Cert.MidIdeal.nD Cert.MidIdeal.τ).loc Cert.MidIdeal.main_arg1)
          ∧ r.2.mem ((c.tc : Thread Cert.MidIdeal.nD Cert.MidIdeal.τ).loc Cert.MidIdeal.main_arg2) = m ((c.tc : Thread Cert.MidIdeal.nD Cert.MidIdeal.τ).loc Cert.MidIdeal.main_arg2)
          ∧ r.2.mem ((c.tc : Thread Cert.MidIdeal.nD Cert.MidIdeal.τ).loc Cert.MidIdeal.main_arg3) = m ((c.tc : Thread Cert.MidIdeal.nD Cert.MidIdeal.τ).loc Cert.MidIdeal.main_arg3))
      ∧ θ_run (Cert.MidRefIdeal.defs (F := Ideal)) (onTc (τ := Cert.MidRefIdeal.τ) (Cert.MidRefIdeal.main (F := Ideal))) ⟨m', fun _ => 0, g'⟩ (fun r => ∀ c : Dev Cert.MidRefIdeal.nD,
          r.2.mem ((c.tc : Thread Cert.MidRefIdeal.nD Cert.MidRefIdeal.τ).loc Cert.MidRefIdeal.main_v9) = v0 c
          ∧ r.2.mem ((c.tc : Thread Cert.MidRefIdeal.nD Cert.MidRefIdeal.τ).loc Cert.MidRefIdeal.main_v10) = v1 c
          ∧ r.2.mem ((c.tc : Thread Cert.MidRefIdeal.nD Cert.MidRefIdeal.τ).loc Cert.MidRefIdeal.main_arg0) = m' ((c.tc : Thread Cert.MidRefIdeal.nD Cert.MidRefIdeal.τ).loc Cert.MidRefIdeal.main_arg0)
          ∧ r.2.mem ((c.tc : Thread Cert.MidRefIdeal.nD Cert.MidRefIdeal.τ).loc Cert.MidRefIdeal.main_arg1) = m' ((c.tc : Thread Cert.MidRefIdeal.nD Cert.MidRefIdeal.τ).loc Cert.MidRefIdeal.main_arg1)
          ∧ r.2.mem ((c.tc : Thread Cert.MidRefIdeal.nD Cert.MidRefIdeal.τ).loc Cert.MidRefIdeal.main_arg2) = m' ((c.tc : Thread Cert.MidRefIdeal.nD Cert.MidRefIdeal.τ).loc Cert.MidRefIdeal.main_arg2)
          ∧ r.2.mem ((c.tc : Thread Cert.MidRefIdeal.nD Cert.MidRefIdeal.τ).loc Cert.MidRefIdeal.main_arg3) = m' ((c.tc : Thread Cert.MidRefIdeal.nD Cert.MidRefIdeal.τ).loc Cert.MidRefIdeal.main_arg3))

def preserves_FfnDown_FfnDownIdeal : Prop :=
  True

def algebraic_FfnDownIdeal_FfnDownRefIdeal [hFfnDownIdeal : Cert.FfnDownIdeal.Facts] [hFfnDownRefIdeal : Cert.FfnDownRefIdeal.Facts] : Prop :=
  ∀ (m : (ℓ : Loc Cert.FfnDownIdeal.nD Cert.FfnDownIdeal.τ Cert.FfnDownIdeal.sig) → Buf (Elt Ideal) ℓ) (g : Dev Cert.FfnDownIdeal.nD → PrngReg)
    (m' : (ℓ : Loc Cert.FfnDownRefIdeal.nD Cert.FfnDownRefIdeal.τ Cert.FfnDownRefIdeal.sig) → Buf (Elt Ideal) ℓ) (g' : Dev Cert.FfnDownRefIdeal.nD → PrngReg), Pre_FfnDownIdeal m →
    (∀ c : Dev Cert.FfnDownIdeal.nD,
      m' ((c.tc : Thread Cert.FfnDownRefIdeal.nD Cert.FfnDownRefIdeal.τ).loc Cert.FfnDownRefIdeal.main_arg0) = m ((c.tc : Thread Cert.FfnDownIdeal.nD Cert.FfnDownIdeal.τ).loc Cert.FfnDownIdeal.main_arg0)
      ∧ m' ((c.tc : Thread Cert.FfnDownRefIdeal.nD Cert.FfnDownRefIdeal.τ).loc Cert.FfnDownRefIdeal.main_arg1) = m ((c.tc : Thread Cert.FfnDownIdeal.nD Cert.FfnDownIdeal.τ).loc Cert.FfnDownIdeal.main_arg1)
      ∧ m' ((c.tc : Thread Cert.FfnDownRefIdeal.nD Cert.FfnDownRefIdeal.τ).loc Cert.FfnDownRefIdeal.main_arg2) = m ((c.tc : Thread Cert.FfnDownIdeal.nD Cert.FfnDownIdeal.τ).loc Cert.FfnDownIdeal.main_arg2)
      ∧ m' ((c.tc : Thread Cert.FfnDownRefIdeal.nD Cert.FfnDownRefIdeal.τ).loc Cert.FfnDownRefIdeal.main_arg3) = m ((c.tc : Thread Cert.FfnDownIdeal.nD Cert.FfnDownIdeal.τ).loc Cert.FfnDownIdeal.main_arg3)) →
    ∃ (v0 : (c : Dev Cert.FfnDownIdeal.nD) → Buf (Elt Ideal) ((c.tc : Thread Cert.FfnDownIdeal.nD Cert.FfnDownIdeal.τ).loc Cert.FfnDownIdeal.main_v0_0)) (v1 : (c : Dev Cert.FfnDownIdeal.nD) → Buf (Elt Ideal) ((c.tc : Thread Cert.FfnDownIdeal.nD Cert.FfnDownIdeal.τ).loc Cert.FfnDownIdeal.main_v0_1)),
      θ_run (Cert.FfnDownIdeal.defs (F := Ideal)) (onTc (τ := Cert.FfnDownIdeal.τ) (Cert.FfnDownIdeal.main (F := Ideal))) ⟨m, fun _ => 0, g⟩ (fun r => ∀ c : Dev Cert.FfnDownIdeal.nD,
          r.2.mem ((c.tc : Thread Cert.FfnDownIdeal.nD Cert.FfnDownIdeal.τ).loc Cert.FfnDownIdeal.main_v0_0) = v0 c
          ∧ r.2.mem ((c.tc : Thread Cert.FfnDownIdeal.nD Cert.FfnDownIdeal.τ).loc Cert.FfnDownIdeal.main_v0_1) = v1 c
          ∧ r.2.mem ((c.tc : Thread Cert.FfnDownIdeal.nD Cert.FfnDownIdeal.τ).loc Cert.FfnDownIdeal.main_arg0) = m ((c.tc : Thread Cert.FfnDownIdeal.nD Cert.FfnDownIdeal.τ).loc Cert.FfnDownIdeal.main_arg0)
          ∧ r.2.mem ((c.tc : Thread Cert.FfnDownIdeal.nD Cert.FfnDownIdeal.τ).loc Cert.FfnDownIdeal.main_arg1) = m ((c.tc : Thread Cert.FfnDownIdeal.nD Cert.FfnDownIdeal.τ).loc Cert.FfnDownIdeal.main_arg1)
          ∧ r.2.mem ((c.tc : Thread Cert.FfnDownIdeal.nD Cert.FfnDownIdeal.τ).loc Cert.FfnDownIdeal.main_arg2) = m ((c.tc : Thread Cert.FfnDownIdeal.nD Cert.FfnDownIdeal.τ).loc Cert.FfnDownIdeal.main_arg2)
          ∧ r.2.mem ((c.tc : Thread Cert.FfnDownIdeal.nD Cert.FfnDownIdeal.τ).loc Cert.FfnDownIdeal.main_arg3) = m ((c.tc : Thread Cert.FfnDownIdeal.nD Cert.FfnDownIdeal.τ).loc Cert.FfnDownIdeal.main_arg3))
      ∧ θ_run (Cert.FfnDownRefIdeal.defs (F := Ideal)) (onTc (τ := Cert.FfnDownRefIdeal.τ) (Cert.FfnDownRefIdeal.main (F := Ideal))) ⟨m', fun _ => 0, g'⟩ (fun r => ∀ c : Dev Cert.FfnDownRefIdeal.nD,
          r.2.mem ((c.tc : Thread Cert.FfnDownRefIdeal.nD Cert.FfnDownRefIdeal.τ).loc Cert.FfnDownRefIdeal.main_v5) = v0 c
          ∧ r.2.mem ((c.tc : Thread Cert.FfnDownRefIdeal.nD Cert.FfnDownRefIdeal.τ).loc Cert.FfnDownRefIdeal.main_v18) = v1 c
          ∧ r.2.mem ((c.tc : Thread Cert.FfnDownRefIdeal.nD Cert.FfnDownRefIdeal.τ).loc Cert.FfnDownRefIdeal.main_arg0) = m' ((c.tc : Thread Cert.FfnDownRefIdeal.nD Cert.FfnDownRefIdeal.τ).loc Cert.FfnDownRefIdeal.main_arg0)
          ∧ r.2.mem ((c.tc : Thread Cert.FfnDownRefIdeal.nD Cert.FfnDownRefIdeal.τ).loc Cert.FfnDownRefIdeal.main_arg1) = m' ((c.tc : Thread Cert.FfnDownRefIdeal.nD Cert.FfnDownRefIdeal.τ).loc Cert.FfnDownRefIdeal.main_arg1)
          ∧ r.2.mem ((c.tc : Thread Cert.FfnDownRefIdeal.nD Cert.FfnDownRefIdeal.τ).loc Cert.FfnDownRefIdeal.main_arg2) = m' ((c.tc : Thread Cert.FfnDownRefIdeal.nD Cert.FfnDownRefIdeal.τ).loc Cert.FfnDownRefIdeal.main_arg2)
          ∧ r.2.mem ((c.tc : Thread Cert.FfnDownRefIdeal.nD Cert.FfnDownRefIdeal.τ).loc Cert.FfnDownRefIdeal.main_arg3) = m' ((c.tc : Thread Cert.FfnDownRefIdeal.nD Cert.FfnDownRefIdeal.τ).loc Cert.FfnDownRefIdeal.main_arg3))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)) →
    ∃ (v0 : (c : Dev Cert.OutProjIdeal.nD) → Buf (Elt Ideal) ((c.tc : Thread Cert.OutProjIdeal.nD Cert.OutProjIdeal.τ).loc Cert.OutProjIdeal.main_v0_0)) (v1 : (c : Dev Cert.OutProjIdeal.nD) → Buf (Elt Ideal) ((c.tc : Thread Cert.OutProjIdeal.nD Cert.OutProjIdeal.τ).loc Cert.OutProjIdeal.main_v0_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0_0) = v0 c
          ∧ r.2.mem ((c.tc : Thread Cert.OutProjIdeal.nD Cert.OutProjIdeal.τ).loc Cert.OutProjIdeal.main_v0_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v3) = v0 c
          ∧ r.2.mem ((c.tc : Thread Cert.OutProjRefIdeal.nD Cert.OutProjRefIdeal.τ).loc Cert.OutProjRefIdeal.main_v16) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3))

def preserves_AdamFfn_AdamFfnIdeal : Prop :=
  IdealRules.named_const.Statement Cert.AdamFfnIdeal.κ "inv_bc1" .f32 0x3FC48605#32 ((8388608 / 5463681 : ℝ) : EReal)
  ∧ IdealRules.named_const.Statement Cert.AdamFfnIdeal.κ "inv_bc2" .f32 0x42C8E6D3#32 ((268435456 / 2672307 : ℝ) : EReal)

def algebraic_AdamFfnIdeal_AdamFfnRefIdeal [hAdamFfnIdeal : Cert.AdamFfnIdeal.Facts] [hAdamFfnRefIdeal : Cert.AdamFfnRefIdeal.Facts] : Prop :=
  ∀ (m : (ℓ : Loc Cert.AdamFfnIdeal.nD Cert.AdamFfnIdeal.τ Cert.AdamFfnIdeal.sig) → Buf (Elt Ideal) ℓ) (g : Dev Cert.AdamFfnIdeal.nD → PrngReg)
    (m' : (ℓ : Loc Cert.AdamFfnRefIdeal.nD Cert.AdamFfnRefIdeal.τ Cert.AdamFfnRefIdeal.sig) → Buf (Elt Ideal) ℓ) (g' : Dev Cert.AdamFfnRefIdeal.nD → PrngReg), Pre_AdamFfnIdeal m →
    (∀ c : Dev Cert.AdamFfnIdeal.nD,
      m' ((c.tc : Thread Cert.AdamFfnRefIdeal.nD Cert.AdamFfnRefIdeal.τ).loc Cert.AdamFfnRefIdeal.main_arg0) = m ((c.tc : Thread Cert.AdamFfnIdeal.nD Cert.AdamFfnIdeal.τ).loc Cert.AdamFfnIdeal.main_arg0)
      ∧ m' ((c.tc : Thread Cert.AdamFfnRefIdeal.nD Cert.AdamFfnRefIdeal.τ).loc Cert.AdamFfnRefIdeal.main_arg1) = m ((c.tc : Thread Cert.AdamFfnIdeal.nD Cert.AdamFfnIdeal.τ).loc Cert.AdamFfnIdeal.main_arg1)
      ∧ m' ((c.tc : Thread Cert.AdamFfnRefIdeal.nD Cert.AdamFfnRefIdeal.τ).loc Cert.AdamFfnRefIdeal.main_arg2) = m ((c.tc : Thread Cert.AdamFfnIdeal.nD Cert.AdamFfnIdeal.τ).loc Cert.AdamFfnIdeal.main_arg2)
      ∧ m' ((c.tc : Thread Cert.AdamFfnRefIdeal.nD Cert.AdamFfnRefIdeal.τ).loc Cert.AdamFfnRefIdeal.main_arg3) = m ((c.tc : Thread Cert.AdamFfnIdeal.nD Cert.AdamFfnIdeal.τ).loc Cert.AdamFfnIdeal.main_arg3)) →
    ∃ (v0 : (c : Dev Cert.AdamFfnIdeal.nD) → Buf (Elt Ideal) ((c.tc : Thread Cert.AdamFfnIdeal.nD Cert.AdamFfnIdeal.τ).loc Cert.AdamFfnIdeal.main_v0_0)) (v1 : (c : Dev Cert.AdamFfnIdeal.nD) → Buf (Elt Ideal) ((c.tc : Thread Cert.AdamFfnIdeal.nD Cert.AdamFfnIdeal.τ).loc Cert.AdamFfnIdeal.main_v0_1)) (v2 : (c : Dev Cert.AdamFfnIdeal.nD) → Buf (Elt Ideal) ((c.tc : Thread Cert.AdamFfnIdeal.nD Cert.AdamFfnIdeal.τ).loc Cert.AdamFfnIdeal.main_v0_2)) (v3 : (c : Dev Cert.AdamFfnIdeal.nD) → Buf (Elt Ideal) ((c.tc : Thread Cert.AdamFfnIdeal.nD Cert.AdamFfnIdeal.τ).loc Cert.AdamFfnIdeal.main_v0_3)),
      θ_run (Cert.AdamFfnIdeal.defs (F := Ideal)) (onTc (τ := Cert.AdamFfnIdeal.τ) (Cert.AdamFfnIdeal.main (F := Ideal))) ⟨m, fun _ => 0, g⟩ (fun r => ∀ c : Dev Cert.AdamFfnIdeal.nD,
          r.2.mem ((c.tc : Thread Cert.AdamFfnIdeal.nD Cert.AdamFfnIdeal.τ).loc Cert.AdamFfnIdeal.main_v0_0) = v0 c
          ∧ r.2.mem ((c.tc : Thread Cert.AdamFfnIdeal.nD Cert.AdamFfnIdeal.τ).loc Cert.AdamFfnIdeal.main_v0_1) = v1 c
          ∧ r.2.mem ((c.tc : Thread Cert.AdamFfnIdeal.nD Cert.AdamFfnIdeal.τ).loc Cert.AdamFfnIdeal.main_v0_2) = v2 c
          ∧ r.2.mem ((c.tc : Thread Cert.AdamFfnIdeal.nD Cert.AdamFfnIdeal.τ).loc Cert.AdamFfnIdeal.main_v0_3) = v3 c
          ∧ r.2.mem ((c.tc : Thread Cert.AdamFfnIdeal.nD Cert.AdamFfnIdeal.τ).loc Cert.AdamFfnIdeal.main_arg0) = m ((c.tc : Thread Cert.AdamFfnIdeal.nD Cert.AdamFfnIdeal.τ).loc Cert.AdamFfnIdeal.main_arg0)
          ∧ r.2.mem ((c.tc : Thread Cert.AdamFfnIdeal.nD Cert.AdamFfnIdeal.τ).loc Cert.AdamFfnIdeal.main_arg1) = m ((c.tc : Thread Cert.AdamFfnIdeal.nD Cert.AdamFfnIdeal.τ).loc Cert.AdamFfnIdeal.main_arg1)
          ∧ r.2.mem ((c.tc : Thread Cert.AdamFfnIdeal.nD Cert.AdamFfnIdeal.τ).loc Cert.AdamFfnIdeal.main_arg2) = m ((c.tc : Thread Cert.AdamFfnIdeal.nD Cert.AdamFfnIdeal.τ).loc Cert.AdamFfnIdeal.main_arg2)
          ∧ r.2.mem ((c.tc : Thread Cert.AdamFfnIdeal.nD Cert.AdamFfnIdeal.τ).loc Cert.AdamFfnIdeal.main_arg3) = m ((c.tc : Thread Cert.AdamFfnIdeal.nD Cert.AdamFfnIdeal.τ).loc Cert.AdamFfnIdeal.main_arg3))
      ∧ θ_run (Cert.AdamFfnRefIdeal.defs (F := Ideal)) (onTc (τ := Cert.AdamFfnRefIdeal.τ) (Cert.AdamFfnRefIdeal.main (F := Ideal))) ⟨m', fun _ => 0, g'⟩ (fun r => ∀ c : Dev Cert.AdamFfnRefIdeal.nD,
          r.2.mem ((c.tc : Thread Cert.AdamFfnRefIdeal.nD Cert.AdamFfnRefIdeal.τ).loc Cert.AdamFfnRefIdeal.main_v1) = v0 c
          ∧ r.2.mem ((c.tc : Thread Cert.AdamFfnRefIdeal.nD Cert.AdamFfnRefIdeal.τ).loc Cert.AdamFfnRefIdeal.main_v25) = v1 c
          ∧ r.2.mem ((c.tc : Thread Cert.AdamFfnRefIdeal.nD Cert.AdamFfnRefIdeal.τ).loc Cert.AdamFfnRefIdeal.main_v6) = v2 c
          ∧ r.2.mem ((c.tc : Thread Cert.AdamFfnRefIdeal.nD Cert.AdamFfnRefIdeal.τ).loc Cert.AdamFfnRefIdeal.main_v12) = v3 c
          ∧ r.2.mem ((c.tc : Thread Cert.AdamFfnRefIdeal.nD Cert.AdamFfnRefIdeal.τ).loc Cert.AdamFfnRefIdeal.main_arg0) = m' ((c.tc : Thread Cert.AdamFfnRefIdeal.nD Cert.AdamFfnRefIdeal.τ).loc Cert.AdamFfnRefIdeal.main_arg0)
          ∧ r.2.mem ((c.tc : Thread Cert.AdamFfnRefIdeal.nD Cert.AdamFfnRefIdeal.τ).loc Cert.AdamFfnRefIdeal.main_arg1) = m' ((c.tc : Thread Cert.AdamFfnRefIdeal.nD Cert.AdamFfnRefIdeal.τ).loc Cert.AdamFfnRefIdeal.main_arg1)
          ∧ r.2.mem ((c.tc : Thread Cert.AdamFfnRefIdeal.nD Cert.AdamFfnRefIdeal.τ).loc Cert.AdamFfnRefIdeal.main_arg2) = m' ((c.tc : Thread Cert.AdamFfnRefIdeal.nD Cert.AdamFfnRefIdeal.τ).loc Cert.AdamFfnRefIdeal.main_arg2)
          ∧ r.2.mem ((c.tc : Thread Cert.AdamFfnRefIdeal.nD Cert.AdamFfnRefIdeal.τ).loc Cert.AdamFfnRefIdeal.main_arg3) = m' ((c.tc : Thread Cert.AdamFfnRefIdeal.nD Cert.AdamFfnRefIdeal.τ).loc Cert.AdamFfnRefIdeal.main_arg3))

def preserves_AdamIn_AdamInIdeal : Prop :=
  IdealRules.named_const.Statement Cert.AdamInIdeal.κ "inv_bc1" .f32 0x3FC48605#32 ((8388608 / 5463681 : ℝ) : EReal)
  ∧ IdealRules.named_const.Statement Cert.AdamInIdeal.κ "inv_bc2" .f32 0x42C8E6D3#32 ((268435456 / 2672307 : ℝ) : EReal)

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v1) = v0 c
          ∧ r.2.mem ((c.tc : Thread Cert.AdamInRefIdeal.nD Cert.AdamInRefIdeal.τ).loc Cert.AdamInRefIdeal.main_v25) = v1 c
          ∧ r.2.mem ((c.tc : Thread Cert.AdamInRefIdeal.nD Cert.AdamInRefIdeal.τ).loc Cert.AdamInRefIdeal.main_v6) = v2 c
          ∧ r.2.mem ((c.tc : Thread Cert.AdamInRefIdeal.nD Cert.AdamInRefIdeal.τ).loc Cert.AdamInRefIdeal.main_v12) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3))

def preserves_AdamSquare_AdamSquareIdeal : Prop :=
  IdealRules.named_const.Statement Cert.AdamSquareIdeal.κ "inv_bc1" .f32 0x3FC48605#32 ((8388608 / 5463681 : ℝ) : EReal)
  ∧ IdealRules.named_const.Statement Cert.AdamSquareIdeal.κ "inv_bc2" .f32 0x42C8E6D3#32 ((268435456 / 2672307 : ℝ) : EReal)

def algebraic_AdamSquareIdeal_AdamSquareRefIdeal [hAdamSquareIdeal : Cert.AdamSquareIdeal.Facts] [hAdamSquareRefIdeal : Cert.AdamSquareRefIdeal.Facts] : Prop :=
  ∀ (m : (ℓ : Loc Cert.AdamSquareIdeal.nD Cert.AdamSquareIdeal.τ Cert.AdamSquareIdeal.sig) → Buf (Elt Ideal) ℓ) (g : Dev Cert.AdamSquareIdeal.nD → PrngReg)
    (m' : (ℓ : Loc Cert.AdamSquareRefIdeal.nD Cert.AdamSquareRefIdeal.τ Cert.AdamSquareRefIdeal.sig) → Buf (Elt Ideal) ℓ) (g' : Dev Cert.AdamSquareRefIdeal.nD → PrngReg), Pre_AdamSquareIdeal m →
    (∀ c : Dev Cert.AdamSquareIdeal.nD,
      m' ((c.tc : Thread Cert.AdamSquareRefIdeal.nD Cert.AdamSquareRefIdeal.τ).loc Cert.AdamSquareRefIdeal.main_arg0) = m ((c.tc : Thread Cert.AdamSquareIdeal.nD Cert.AdamSquareIdeal.τ).loc Cert.AdamSquareIdeal.main_arg0)
      ∧ m' ((c.tc : Thread Cert.AdamSquareRefIdeal.nD Cert.AdamSquareRefIdeal.τ).loc Cert.AdamSquareRefIdeal.main_arg1) = m ((c.tc : Thread Cert.AdamSquareIdeal.nD Cert.AdamSquareIdeal.τ).loc Cert.AdamSquareIdeal.main_arg1)
      ∧ m' ((c.tc : Thread Cert.AdamSquareRefIdeal.nD Cert.AdamSquareRefIdeal.τ).loc Cert.AdamSquareRefIdeal.main_arg2) = m ((c.tc : Thread Cert.AdamSquareIdeal.nD Cert.AdamSquareIdeal.τ).loc Cert.AdamSquareIdeal.main_arg2)
      ∧ m' ((c.tc : Thread Cert.AdamSquareRefIdeal.nD Cert.AdamSquareRefIdeal.τ).loc Cert.AdamSquareRefIdeal.main_arg3) = m ((c.tc : Thread Cert.AdamSquareIdeal.nD Cert.AdamSquareIdeal.τ).loc Cert.AdamSquareIdeal.main_arg3)) →
    ∃ (v0 : (c : Dev Cert.AdamSquareIdeal.nD) → Buf (Elt Ideal) ((c.tc : Thread Cert.AdamSquareIdeal.nD Cert.AdamSquareIdeal.τ).loc Cert.AdamSquareIdeal.main_v0_0)) (v1 : (c : Dev Cert.AdamSquareIdeal.nD) → Buf (Elt Ideal) ((c.tc : Thread Cert.AdamSquareIdeal.nD Cert.AdamSquareIdeal.τ).loc Cert.AdamSquareIdeal.main_v0_1)) (v2 : (c : Dev Cert.AdamSquareIdeal.nD) → Buf (Elt Ideal) ((c.tc : Thread Cert.AdamSquareIdeal.nD Cert.AdamSquareIdeal.τ).loc Cert.AdamSquareIdeal.main_v0_2)) (v3 : (c : Dev Cert.AdamSquareIdeal.nD) → Buf (Elt Ideal) ((c.tc : Thread Cert.AdamSquareIdeal.nD Cert.AdamSquareIdeal.τ).loc Cert.AdamSquareIdeal.main_v0_3)),
      θ_run (Cert.AdamSquareIdeal.defs (F := Ideal)) (onTc (τ := Cert.AdamSquareIdeal.τ) (Cert.AdamSquareIdeal.main (F := Ideal))) ⟨m, fun _ => 0, g⟩ (fun r => ∀ c : Dev Cert.AdamSquareIdeal.nD,
          r.2.mem ((c.tc : Thread Cert.AdamSquareIdeal.nD Cert.AdamSquareIdeal.τ).loc Cert.AdamSquareIdeal.main_v0_0) = v0 c
          ∧ r.2.mem ((c.tc : Thread Cert.AdamSquareIdeal.nD Cert.AdamSquareIdeal.τ).loc Cert.AdamSquareIdeal.main_v0_1) = v1 c
          ∧ r.2.mem ((c.tc : Thread Cert.AdamSquareIdeal.nD Cert.AdamSquareIdeal.τ).loc Cert.AdamSquareIdeal.main_v0_2) = v2 c
          ∧ r.2.mem ((c.tc : Thread Cert.AdamSquareIdeal.nD Cert.AdamSquareIdeal.τ).loc Cert.AdamSquareIdeal.main_v0_3) = v3 c
          ∧ r.2.mem ((c.tc : Thread Cert.AdamSquareIdeal.nD Cert.AdamSquareIdeal.τ).loc Cert.AdamSquareIdeal.main_arg0) = m ((c.tc : Thread Cert.AdamSquareIdeal.nD Cert.AdamSquareIdeal.τ).loc Cert.AdamSquareIdeal.main_arg0)
          ∧ r.2.mem ((c.tc : Thread Cert.AdamSquareIdeal.nD Cert.AdamSquareIdeal.τ).loc Cert.AdamSquareIdeal.main_arg1) = m ((c.tc : Thread Cert.AdamSquareIdeal.nD Cert.AdamSquareIdeal.τ).loc Cert.AdamSquareIdeal.main_arg1)
          ∧ r.2.mem ((c.tc : Thread Cert.AdamSquareIdeal.nD Cert.AdamSquareIdeal.τ).loc Cert.AdamSquareIdeal.main_arg2) = m ((c.tc : Thread Cert.AdamSquareIdeal.nD Cert.AdamSquareIdeal.τ).loc Cert.AdamSquareIdeal.main_arg2)
          ∧ r.2.mem ((c.tc : Thread Cert.AdamSquareIdeal.nD Cert.AdamSquareIdeal.τ).loc Cert.AdamSquareIdeal.main_arg3) = m ((c.tc : Thread Cert.AdamSquareIdeal.nD Cert.AdamSquareIdeal.τ).loc Cert.AdamSquareIdeal.main_arg3))
      ∧ θ_run (Cert.AdamSquareRefIdeal.defs (F := Ideal)) (onTc (τ := Cert.AdamSquareRefIdeal.τ) (Cert.AdamSquareRefIdeal.main (F := Ideal))) ⟨m', fun _ => 0, g'⟩ (fun r => ∀ c : Dev Cert.AdamSquareRefIdeal.nD,
          r.2.mem ((c.tc : Thread Cert.AdamSquareRefIdeal.nD Cert.AdamSquareRefIdeal.τ).loc Cert.AdamSquareRefIdeal.main_v1) = v0 c
          ∧ r.2.mem ((c.tc : Thread Cert.AdamSquareRefIdeal.nD Cert.AdamSquareRefIdeal.τ).loc Cert.AdamSquareRefIdeal.main_v25) = v1 c
          ∧ r.2.mem ((c.tc : Thread Cert.AdamSquareRefIdeal.nD Cert.AdamSquareRefIdeal.τ).loc Cert.AdamSquareRefIdeal.main_v6) = v2 c
          ∧ r.2.mem ((c.tc : Thread Cert.AdamSquareRefIdeal.nD Cert.AdamSquareRefIdeal.τ).loc Cert.AdamSquareRefIdeal.main_v12) = v3 c
          ∧ r.2.mem ((c.tc : Thread Cert.AdamSquareRefIdeal.nD Cert.AdamSquareRefIdeal.τ).loc Cert.AdamSquareRefIdeal.main_arg0) = m' ((c.tc : Thread Cert.AdamSquareRefIdeal.nD Cert.AdamSquareRefIdeal.τ).loc Cert.AdamSquareRefIdeal.main_arg0)
          ∧ r.2.mem ((c.tc : Thread Cert.AdamSquareRefIdeal.nD Cert.AdamSquareRefIdeal.τ).loc Cert.AdamSquareRefIdeal.main_arg1) = m' ((c.tc : Thread Cert.AdamSquareRefIdeal.nD Cert.AdamSquareRefIdeal.τ).loc Cert.AdamSquareRefIdeal.main_arg1)
          ∧ r.2.mem ((c.tc : Thread Cert.AdamSquareRefIdeal.nD Cert.AdamSquareRefIdeal.τ).loc Cert.AdamSquareRefIdeal.main_arg2) = m' ((c.tc : Thread Cert.AdamSquareRefIdeal.nD Cert.AdamSquareRefIdeal.τ).loc Cert.AdamSquareRefIdeal.main_arg2)
          ∧ r.2.mem ((c.tc : Thread Cert.AdamSquareRefIdeal.nD Cert.AdamSquareRefIdeal.τ).loc Cert.AdamSquareRefIdeal.main_arg3) = m' ((c.tc : Thread Cert.AdamSquareRefIdeal.nD Cert.AdamSquareRefIdeal.τ).loc Cert.AdamSquareRefIdeal.main_arg3))

def preserves_AdamBranch_AdamBranchIdeal : Prop :=
  IdealRules.named_const.Statement Cert.AdamBranchIdeal.κ "inv_bc1" .f32 0x3FC48605#32 ((8388608 / 5463681 : ℝ) : EReal)
  ∧ IdealRules.named_const.Statement Cert.AdamBranchIdeal.κ "inv_bc2" .f32 0x42C8E6D3#32 ((268435456 / 2672307 : ℝ) : EReal)

def algebraic_AdamBranchIdeal_AdamBranchRefIdeal [hAdamBranchIdeal : Cert.AdamBranchIdeal.Facts] [hAdamBranchRefIdeal : Cert.AdamBranchRefIdeal.Facts] : Prop :=
  ∀ (m : (ℓ : Loc Cert.AdamBranchIdeal.nD Cert.AdamBranchIdeal.τ Cert.AdamBranchIdeal.sig) → Buf (Elt Ideal) ℓ) (g : Dev Cert.AdamBranchIdeal.nD → PrngReg)
    (m' : (ℓ : Loc Cert.AdamBranchRefIdeal.nD Cert.AdamBranchRefIdeal.τ Cert.AdamBranchRefIdeal.sig) → Buf (Elt Ideal) ℓ) (g' : Dev Cert.AdamBranchRefIdeal.nD → PrngReg), Pre_AdamBranchIdeal m →
    (∀ c : Dev Cert.AdamBranchIdeal.nD,
      m' ((c.tc : Thread Cert.AdamBranchRefIdeal.nD Cert.AdamBranchRefIdeal.τ).loc Cert.AdamBranchRefIdeal.main_arg0) = m ((c.tc : Thread Cert.AdamBranchIdeal.nD Cert.AdamBranchIdeal.τ).loc Cert.AdamBranchIdeal.main_arg0)
      ∧ m' ((c.tc : Thread Cert.AdamBranchRefIdeal.nD Cert.AdamBranchRefIdeal.τ).loc Cert.AdamBranchRefIdeal.main_arg1) = m ((c.tc : Thread Cert.AdamBranchIdeal.nD Cert.AdamBranchIdeal.τ).loc Cert.AdamBranchIdeal.main_arg1)
      ∧ m' ((c.tc : Thread Cert.AdamBranchRefIdeal.nD Cert.AdamBranchRefIdeal.τ).loc Cert.AdamBranchRefIdeal.main_arg2) = m ((c.tc : Thread Cert.AdamBranchIdeal.nD Cert.AdamBranchIdeal.τ).loc Cert.AdamBranchIdeal.main_arg2)
      ∧ m' ((c.tc : Thread Cert.AdamBranchRefIdeal.nD Cert.AdamBranchRefIdeal.τ).loc Cert.AdamBranchRefIdeal.main_arg3) = m ((c.tc : Thread Cert.AdamBranchIdeal.nD Cert.AdamBranchIdeal.τ).loc Cert.AdamBranchIdeal.main_arg3)) →
    ∃ (v0 : (c : Dev Cert.AdamBranchIdeal.nD) → Buf (Elt Ideal) ((c.tc : Thread Cert.AdamBranchIdeal.nD Cert.AdamBranchIdeal.τ).loc Cert.AdamBranchIdeal.main_v0_0)) (v1 : (c : Dev Cert.AdamBranchIdeal.nD) → Buf (Elt Ideal) ((c.tc : Thread Cert.AdamBranchIdeal.nD Cert.AdamBranchIdeal.τ).loc Cert.AdamBranchIdeal.main_v0_1)) (v2 : (c : Dev Cert.AdamBranchIdeal.nD) → Buf (Elt Ideal) ((c.tc : Thread Cert.AdamBranchIdeal.nD Cert.AdamBranchIdeal.τ).loc Cert.AdamBranchIdeal.main_v0_2)) (v3 : (c : Dev Cert.AdamBranchIdeal.nD) → Buf (Elt Ideal) ((c.tc : Thread Cert.AdamBranchIdeal.nD Cert.AdamBranchIdeal.τ).loc Cert.AdamBranchIdeal.main_v0_3)),
      θ_run (Cert.AdamBranchIdeal.defs (F := Ideal)) (onTc (τ := Cert.AdamBranchIdeal.τ) (Cert.AdamBranchIdeal.main (F := Ideal))) ⟨m, fun _ => 0, g⟩ (fun r => ∀ c : Dev Cert.AdamBranchIdeal.nD,
          r.2.mem ((c.tc : Thread Cert.AdamBranchIdeal.nD Cert.AdamBranchIdeal.τ).loc Cert.AdamBranchIdeal.main_v0_0) = v0 c
          ∧ r.2.mem ((c.tc : Thread Cert.AdamBranchIdeal.nD Cert.AdamBranchIdeal.τ).loc Cert.AdamBranchIdeal.main_v0_1) = v1 c
          ∧ r.2.mem ((c.tc : Thread Cert.AdamBranchIdeal.nD Cert.AdamBranchIdeal.τ).loc Cert.AdamBranchIdeal.main_v0_2) = v2 c
          ∧ r.2.mem ((c.tc : Thread Cert.AdamBranchIdeal.nD Cert.AdamBranchIdeal.τ).loc Cert.AdamBranchIdeal.main_v0_3) = v3 c
          ∧ r.2.mem ((c.tc : Thread Cert.AdamBranchIdeal.nD Cert.AdamBranchIdeal.τ).loc Cert.AdamBranchIdeal.main_arg0) = m ((c.tc : Thread Cert.AdamBranchIdeal.nD Cert.AdamBranchIdeal.τ).loc Cert.AdamBranchIdeal.main_arg0)
          ∧ r.2.mem ((c.tc : Thread Cert.AdamBranchIdeal.nD Cert.AdamBranchIdeal.τ).loc Cert.AdamBranchIdeal.main_arg1) = m ((c.tc : Thread Cert.AdamBranchIdeal.nD Cert.AdamBranchIdeal.τ).loc Cert.AdamBranchIdeal.main_arg1)
          ∧ r.2.mem ((c.tc : Thread Cert.AdamBranchIdeal.nD Cert.AdamBranchIdeal.τ).loc Cert.AdamBranchIdeal.main_arg2) = m ((c.tc : Thread Cert.AdamBranchIdeal.nD Cert.AdamBranchIdeal.τ).loc Cert.AdamBranchIdeal.main_arg2)
          ∧ r.2.mem ((c.tc : Thread Cert.AdamBranchIdeal.nD Cert.AdamBranchIdeal.τ).loc Cert.AdamBranchIdeal.main_arg3) = m ((c.tc : Thread Cert.AdamBranchIdeal.nD Cert.AdamBranchIdeal.τ).loc Cert.AdamBranchIdeal.main_arg3))
      ∧ θ_run (Cert.AdamBranchRefIdeal.defs (F := Ideal)) (onTc (τ := Cert.AdamBranchRefIdeal.τ) (Cert.AdamBranchRefIdeal.main (F := Ideal))) ⟨m', fun _ => 0, g'⟩ (fun r => ∀ c : Dev Cert.AdamBranchRefIdeal.nD,
          r.2.mem ((c.tc : Thread Cert.AdamBranchRefIdeal.nD Cert.AdamBranchRefIdeal.τ).loc Cert.AdamBranchRefIdeal.main_v1) = v0 c
          ∧ r.2.mem ((c.tc : Thread Cert.AdamBranchRefIdeal.nD Cert.AdamBranchRefIdeal.τ).loc Cert.AdamBranchRefIdeal.main_v25) = v1 c
          ∧ r.2.mem ((c.tc : Thread Cert.AdamBranchRefIdeal.nD Cert.AdamBranchRefIdeal.τ).loc Cert.AdamBranchRefIdeal.main_v6) = v2 c
          ∧ r.2.mem ((c.tc : Thread Cert.AdamBranchRefIdeal.nD Cert.AdamBranchRefIdeal.τ).loc Cert.AdamBranchRefIdeal.main_v12) = v3 c
          ∧ r.2.mem ((c.tc : Thread Cert.AdamBranchRefIdeal.nD Cert.AdamBranchRefIdeal.τ).loc Cert.AdamBranchRefIdeal.main_arg0) = m' ((c.tc : Thread Cert.AdamBranchRefIdeal.nD Cert.AdamBranchRefIdeal.τ).loc Cert.AdamBranchRefIdeal.main_arg0)
          ∧ r.2.mem ((c.tc : Thread Cert.AdamBranchRefIdeal.nD Cert.AdamBranchRefIdeal.τ).loc Cert.AdamBranchRefIdeal.main_arg1) = m' ((c.tc : Thread Cert.AdamBranchRefIdeal.nD Cert.AdamBranchRefIdeal.τ).loc Cert.AdamBranchRefIdeal.main_arg1)
          ∧ r.2.mem ((c.tc : Thread Cert.AdamBranchRefIdeal.nD Cert.AdamBranchRefIdeal.τ).loc Cert.AdamBranchRefIdeal.main_arg2) = m' ((c.tc : Thread Cert.AdamBranchRefIdeal.nD Cert.AdamBranchRefIdeal.τ).loc Cert.AdamBranchRefIdeal.main_arg2)
          ∧ r.2.mem ((c.tc : Thread Cert.AdamBranchRefIdeal.nD Cert.AdamBranchRefIdeal.τ).loc Cert.AdamBranchRefIdeal.main_arg3) = m' ((c.tc : Thread Cert.AdamBranchRefIdeal.nD Cert.AdamBranchRefIdeal.τ).loc Cert.AdamBranchRefIdeal.main_arg3))

def preserves_AdamProj_AdamProjIdeal : Prop :=
  IdealRules.named_const.Statement Cert.AdamProjIdeal.κ "inv_bc1" .f32 0x3FC48605#32 ((8388608 / 5463681 : ℝ) : EReal)
  ∧ IdealRules.named_const.Statement Cert.AdamProjIdeal.κ "inv_bc2" .f32 0x42C8E6D3#32 ((268435456 / 2672307 : ℝ) : EReal)

def algebraic_AdamProjIdeal_AdamProjRefIdeal [hAdamProjIdeal : Cert.AdamProjIdeal.Facts] [hAdamProjRefIdeal : Cert.AdamProjRefIdeal.Facts] : Prop :=
  ∀ (m : (ℓ : Loc Cert.AdamProjIdeal.nD Cert.AdamProjIdeal.τ Cert.AdamProjIdeal.sig) → Buf (Elt Ideal) ℓ) (g : Dev Cert.AdamProjIdeal.nD → PrngReg)
    (m' : (ℓ : Loc Cert.AdamProjRefIdeal.nD Cert.AdamProjRefIdeal.τ Cert.AdamProjRefIdeal.sig) → Buf (Elt Ideal) ℓ) (g' : Dev Cert.AdamProjRefIdeal.nD → PrngReg), Pre_AdamProjIdeal m →
    (∀ c : Dev Cert.AdamProjIdeal.nD,
      m' ((c.tc : Thread Cert.AdamProjRefIdeal.nD Cert.AdamProjRefIdeal.τ).loc Cert.AdamProjRefIdeal.main_arg0) = m ((c.tc : Thread Cert.AdamProjIdeal.nD Cert.AdamProjIdeal.τ).loc Cert.AdamProjIdeal.main_arg0)
      ∧ m' ((c.tc : Thread Cert.AdamProjRefIdeal.nD Cert.AdamProjRefIdeal.τ).loc Cert.AdamProjRefIdeal.main_arg1) = m ((c.tc : Thread Cert.AdamProjIdeal.nD Cert.AdamProjIdeal.τ).loc Cert.AdamProjIdeal.main_arg1)
      ∧ m' ((c.tc : Thread Cert.AdamProjRefIdeal.nD Cert.AdamProjRefIdeal.τ).loc Cert.AdamProjRefIdeal.main_arg2) = m ((c.tc : Thread Cert.AdamProjIdeal.nD Cert.AdamProjIdeal.τ).loc Cert.AdamProjIdeal.main_arg2)
      ∧ m' ((c.tc : Thread Cert.AdamProjRefIdeal.nD Cert.AdamProjRefIdeal.τ).loc Cert.AdamProjRefIdeal.main_arg3) = m ((c.tc : Thread Cert.AdamProjIdeal.nD Cert.AdamProjIdeal.τ).loc Cert.AdamProjIdeal.main_arg3)) →
    ∃ (v0 : (c : Dev Cert.AdamProjIdeal.nD) → Buf (Elt Ideal) ((c.tc : Thread Cert.AdamProjIdeal.nD Cert.AdamProjIdeal.τ).loc Cert.AdamProjIdeal.main_v0_0)) (v1 : (c : Dev Cert.AdamProjIdeal.nD) → Buf (Elt Ideal) ((c.tc : Thread Cert.AdamProjIdeal.nD Cert.AdamProjIdeal.τ).loc Cert.AdamProjIdeal.main_v0_1)) (v2 : (c : Dev Cert.AdamProjIdeal.nD) → Buf (Elt Ideal) ((c.tc : Thread Cert.AdamProjIdeal.nD Cert.AdamProjIdeal.τ).loc Cert.AdamProjIdeal.main_v0_2)) (v3 : (c : Dev Cert.AdamProjIdeal.nD) → Buf (Elt Ideal) ((c.tc : Thread Cert.AdamProjIdeal.nD Cert.AdamProjIdeal.τ).loc Cert.AdamProjIdeal.main_v0_3)),
      θ_run (Cert.AdamProjIdeal.defs (F := Ideal)) (onTc (τ := Cert.AdamProjIdeal.τ) (Cert.AdamProjIdeal.main (F := Ideal))) ⟨m, fun _ => 0, g⟩ (fun r => ∀ c : Dev Cert.AdamProjIdeal.nD,
          r.2.mem ((c.tc : Thread Cert.AdamProjIdeal.nD Cert.AdamProjIdeal.τ).loc Cert.AdamProjIdeal.main_v0_0) = v0 c
          ∧ r.2.mem ((c.tc : Thread Cert.AdamProjIdeal.nD Cert.AdamProjIdeal.τ).loc Cert.AdamProjIdeal.main_v0_1) = v1 c
          ∧ r.2.mem ((c.tc : Thread Cert.AdamProjIdeal.nD Cert.AdamProjIdeal.τ).loc Cert.AdamProjIdeal.main_v0_2) = v2 c
          ∧ r.2.mem ((c.tc : Thread Cert.AdamProjIdeal.nD Cert.AdamProjIdeal.τ).loc Cert.AdamProjIdeal.main_v0_3) = v3 c
          ∧ r.2.mem ((c.tc : Thread Cert.AdamProjIdeal.nD Cert.AdamProjIdeal.τ).loc Cert.AdamProjIdeal.main_arg0) = m ((c.tc : Thread Cert.AdamProjIdeal.nD Cert.AdamProjIdeal.τ).loc Cert.AdamProjIdeal.main_arg0)
          ∧ r.2.mem ((c.tc : Thread Cert.AdamProjIdeal.nD Cert.AdamProjIdeal.τ).loc Cert.AdamProjIdeal.main_arg1) = m ((c.tc : Thread Cert.AdamProjIdeal.nD Cert.AdamProjIdeal.τ).loc Cert.AdamProjIdeal.main_arg1)
          ∧ r.2.mem ((c.tc : Thread Cert.AdamProjIdeal.nD Cert.AdamProjIdeal.τ).loc Cert.AdamProjIdeal.main_arg2) = m ((c.tc : Thread Cert.AdamProjIdeal.nD Cert.AdamProjIdeal.τ).loc Cert.AdamProjIdeal.main_arg2)
          ∧ r.2.mem ((c.tc : Thread Cert.AdamProjIdeal.nD Cert.AdamProjIdeal.τ).loc Cert.AdamProjIdeal.main_arg3) = m ((c.tc : Thread Cert.AdamProjIdeal.nD Cert.AdamProjIdeal.τ).loc Cert.AdamProjIdeal.main_arg3))
      ∧ θ_run (Cert.AdamProjRefIdeal.defs (F := Ideal)) (onTc (τ := Cert.AdamProjRefIdeal.τ) (Cert.AdamProjRefIdeal.main (F := Ideal))) ⟨m', fun _ => 0, g'⟩ (fun r => ∀ c : Dev Cert.AdamProjRefIdeal.nD,
          r.2.mem ((c.tc : Thread Cert.AdamProjRefIdeal.nD Cert.AdamProjRefIdeal.τ).loc Cert.AdamProjRefIdeal.main_v1) = v0 c
          ∧ r.2.mem ((c.tc : Thread Cert.AdamProjRefIdeal.nD Cert.AdamProjRefIdeal.τ).loc Cert.AdamProjRefIdeal.main_v25) = v1 c
          ∧ r.2.mem ((c.tc : Thread Cert.AdamProjRefIdeal.nD Cert.AdamProjRefIdeal.τ).loc Cert.AdamProjRefIdeal.main_v6) = v2 c
          ∧ r.2.mem ((c.tc : Thread Cert.AdamProjRefIdeal.nD Cert.AdamProjRefIdeal.τ).loc Cert.AdamProjRefIdeal.main_v12) = v3 c
          ∧ r.2.mem ((c.tc : Thread Cert.AdamProjRefIdeal.nD Cert.AdamProjRefIdeal.τ).loc Cert.AdamProjRefIdeal.main_arg0) = m' ((c.tc : Thread Cert.AdamProjRefIdeal.nD Cert.AdamProjRefIdeal.τ).loc Cert.AdamProjRefIdeal.main_arg0)
          ∧ r.2.mem ((c.tc : Thread Cert.AdamProjRefIdeal.nD Cert.AdamProjRefIdeal.τ).loc Cert.AdamProjRefIdeal.main_arg1) = m' ((c.tc : Thread Cert.AdamProjRefIdeal.nD Cert.AdamProjRefIdeal.τ).loc Cert.AdamProjRefIdeal.main_arg1)
          ∧ r.2.mem ((c.tc : Thread Cert.AdamProjRefIdeal.nD Cert.AdamProjRefIdeal.τ).loc Cert.AdamProjRefIdeal.main_arg2) = m' ((c.tc : Thread Cert.AdamProjRefIdeal.nD Cert.AdamProjRefIdeal.τ).loc Cert.AdamProjRefIdeal.main_arg2)
          ∧ r.2.mem ((c.tc : Thread Cert.AdamProjRefIdeal.nD Cert.AdamProjRefIdeal.τ).loc Cert.AdamProjRefIdeal.main_arg3) = m' ((c.tc : Thread Cert.AdamProjRefIdeal.nD Cert.AdamProjRefIdeal.τ).loc Cert.AdamProjRefIdeal.main_arg3))

def preserves_AdamSmall_AdamSmallIdeal : Prop :=
  IdealRules.named_const.Statement Cert.AdamSmallIdeal.κ "inv_bc1" .f32 0x3FC48605#32 ((8388608 / 5463681 : ℝ) : EReal)
  ∧ IdealRules.named_const.Statement Cert.AdamSmallIdeal.κ "inv_bc2" .f32 0x42C8E6D3#32 ((268435456 / 2672307 : ℝ) : EReal)

def algebraic_AdamSmallIdeal_AdamSmallRefIdeal_pre_finite_small [hAdamSmallIdeal : Cert.AdamSmallIdeal.Facts] [hAdamSmallRefIdeal : Cert.AdamSmallRefIdeal.Facts] [hPre_finite_small : Cert.Pre_finite_small.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal_finite_small m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)
      ∧ m' ((c.tc : Thread Cert.AdamSmallRefIdeal.nD Cert.AdamSmallRefIdeal.τ).loc Cert.AdamSmallRefIdeal.main_arg4) = m ((c.tc : Thread Cert.AdamSmallIdeal.nD Cert.AdamSmallIdeal.τ).loc Cert.AdamSmallIdeal.main_arg4)
      ∧ m' ((c.tc : Thread Cert.AdamSmallRefIdeal.nD Cert.AdamSmallRefIdeal.τ).loc Cert.AdamSmallRefIdeal.main_arg5) = m ((c.tc : Thread Cert.AdamSmallIdeal.nD Cert.AdamSmallIdeal.τ).loc Cert.AdamSmallIdeal.main_arg5)
      ∧ m' ((c.tc : Thread Cert.AdamSmallRefIdeal.nD Cert.AdamSmallRefIdeal.τ).loc Cert.AdamSmallRefIdeal.main_arg6) = m ((c.tc : Thread Cert.AdamSmallIdeal.nD Cert.AdamSmallIdeal.τ).loc Cert.AdamSmallIdeal.main_arg6)
      ∧ m' ((c.tc : Thread Cert.AdamSmallRefIdeal.nD Cert.AdamSmallRefIdeal.τ).loc Cert.AdamSmallRefIdeal.main_arg7) = m ((c.tc : Thread Cert.AdamSmallIdeal.nD Cert.AdamSmallIdeal.τ).loc Cert.AdamSmallIdeal.main_arg7)
      ∧ m' ((c.tc : Thread Cert.AdamSmallRefIdeal.nD Cert.AdamSmallRefIdeal.τ).loc Cert.AdamSmallRefIdeal.main_arg8) = m ((c.tc : Thread Cert.AdamSmallIdeal.nD Cert.AdamSmallIdeal.τ).loc Cert.AdamSmallIdeal.main_arg8)
      ∧ m' ((c.tc : Thread Cert.AdamSmallRefIdeal.nD Cert.AdamSmallRefIdeal.τ).loc Cert.AdamSmallRefIdeal.main_arg9) = m ((c.tc : Thread Cert.AdamSmallIdeal.nD Cert.AdamSmallIdeal.τ).loc Cert.AdamSmallIdeal.main_arg9)
      ∧ m' ((c.tc : Thread Cert.AdamSmallRefIdeal.nD Cert.AdamSmallRefIdeal.τ).loc Cert.AdamSmallRefIdeal.main_arg10) = m ((c.tc : Thread Cert.AdamSmallIdeal.nD Cert.AdamSmallIdeal.τ).loc Cert.AdamSmallIdeal.main_arg10)
      ∧ m' ((c.tc : Thread Cert.AdamSmallRefIdeal.nD Cert.AdamSmallRefIdeal.τ).loc Cert.AdamSmallRefIdeal.main_arg11) = m ((c.tc : Thread Cert.AdamSmallIdeal.nD Cert.AdamSmallIdeal.τ).loc Cert.AdamSmallIdeal.main_arg11)
      ∧ m' ((c.tc : Thread Cert.AdamSmallRefIdeal.nD Cert.AdamSmallRefIdeal.τ).loc Cert.AdamSmallRefIdeal.main_arg12) = m ((c.tc : Thread Cert.AdamSmallIdeal.nD Cert.AdamSmallIdeal.τ).loc Cert.AdamSmallIdeal.main_arg12)
      ∧ m' ((c.tc : Thread Cert.AdamSmallRefIdeal.nD Cert.AdamSmallRefIdeal.τ).loc Cert.AdamSmallRefIdeal.main_arg13) = m ((c.tc : Thread Cert.AdamSmallIdeal.nD Cert.AdamSmallIdeal.τ).loc Cert.AdamSmallIdeal.main_arg13)
      ∧ m' ((c.tc : Thread Cert.AdamSmallRefIdeal.nD Cert.AdamSmallRefIdeal.τ).loc Cert.AdamSmallRefIdeal.main_arg14) = m ((c.tc : Thread Cert.AdamSmallIdeal.nD Cert.AdamSmallIdeal.τ).loc Cert.AdamSmallIdeal.main_arg14)
      ∧ m' ((c.tc : Thread Cert.AdamSmallRefIdeal.nD Cert.AdamSmallRefIdeal.τ).loc Cert.AdamSmallRefIdeal.main_arg15) = m ((c.tc : Thread Cert.AdamSmallIdeal.nD Cert.AdamSmallIdeal.τ).loc Cert.AdamSmallIdeal.main_arg15)
      ∧ m' ((c.tc : Thread Cert.AdamSmallRefIdeal.nD Cert.AdamSmallRefIdeal.τ).loc Cert.AdamSmallRefIdeal.main_arg16) = m ((c.tc : Thread Cert.AdamSmallIdeal.nD Cert.AdamSmallIdeal.τ).loc Cert.AdamSmallIdeal.main_arg16)
      ∧ m' ((c.tc : Thread Cert.AdamSmallRefIdeal.nD Cert.AdamSmallRefIdeal.τ).loc Cert.AdamSmallRefIdeal.main_arg17) = m ((c.tc : Thread Cert.AdamSmallIdeal.nD Cert.AdamSmallIdeal.τ).loc Cert.AdamSmallIdeal.main_arg17)
      ∧ m' ((c.tc : Thread Cert.AdamSmallRefIdeal.nD Cert.AdamSmallRefIdeal.τ).loc Cert.AdamSmallRefIdeal.main_arg18) = m ((c.tc : Thread Cert.AdamSmallIdeal.nD Cert.AdamSmallIdeal.τ).loc Cert.AdamSmallIdeal.main_arg18)
      ∧ m' ((c.tc : Thread Cert.AdamSmallRefIdeal.nD Cert.AdamSmallRefIdeal.τ).loc Cert.AdamSmallRefIdeal.main_arg19) = m ((c.tc : Thread Cert.AdamSmallIdeal.nD Cert.AdamSmallIdeal.τ).loc Cert.AdamSmallIdeal.main_arg19)
      ∧ m' ((c.tc : Thread Cert.AdamSmallRefIdeal.nD Cert.AdamSmallRefIdeal.τ).loc Cert.AdamSmallRefIdeal.main_arg20) = m ((c.tc : Thread Cert.AdamSmallIdeal.nD Cert.AdamSmallIdeal.τ).loc Cert.AdamSmallIdeal.main_arg20)
      ∧ m' ((c.tc : Thread Cert.AdamSmallRefIdeal.nD Cert.AdamSmallRefIdeal.τ).loc Cert.AdamSmallRefIdeal.main_arg21) = m ((c.tc : Thread Cert.AdamSmallIdeal.nD Cert.AdamSmallIdeal.τ).loc Cert.AdamSmallIdeal.main_arg21)
      ∧ m' ((c.tc : Thread Cert.AdamSmallRefIdeal.nD Cert.AdamSmallRefIdeal.τ).loc Cert.AdamSmallRefIdeal.main_arg22) = m ((c.tc : Thread Cert.AdamSmallIdeal.nD Cert.AdamSmallIdeal.τ).loc Cert.AdamSmallIdeal.main_arg22)
      ∧ m' ((c.tc : Thread Cert.AdamSmallRefIdeal.nD Cert.AdamSmallRefIdeal.τ).loc Cert.AdamSmallRefIdeal.main_arg23) = m ((c.tc : Thread Cert.AdamSmallIdeal.nD Cert.AdamSmallIdeal.τ).loc Cert.AdamSmallIdeal.main_arg23)
      ∧ m' ((c.tc : Thread Cert.AdamSmallRefIdeal.nD Cert.AdamSmallRefIdeal.τ).loc Cert.AdamSmallRefIdeal.main_arg24) = m ((c.tc : Thread Cert.AdamSmallIdeal.nD Cert.AdamSmallIdeal.τ).loc Cert.AdamSmallIdeal.main_arg24)
      ∧ m' ((c.tc : Thread Cert.AdamSmallRefIdeal.nD Cert.AdamSmallRefIdeal.τ).loc Cert.AdamSmallRefIdeal.main_arg25) = m ((c.tc : Thread Cert.AdamSmallIdeal.nD Cert.AdamSmallIdeal.τ).loc Cert.AdamSmallIdeal.main_arg25)
      ∧ m' ((c.tc : Thread Cert.AdamSmallRefIdeal.nD Cert.AdamSmallRefIdeal.τ).loc Cert.AdamSmallRefIdeal.main_arg26) = m ((c.tc : Thread Cert.AdamSmallIdeal.nD Cert.AdamSmallIdeal.τ).loc Cert.AdamSmallIdeal.main_arg26)
      ∧ m' ((c.tc : Thread Cert.AdamSmallRefIdeal.nD Cert.AdamSmallRefIdeal.τ).loc Cert.AdamSmallRefIdeal.main_arg27) = m ((c.tc : Thread Cert.AdamSmallIdeal.nD Cert.AdamSmallIdeal.τ).loc Cert.AdamSmallIdeal.main_arg27)
      ∧ m' ((c.tc : Thread Cert.AdamSmallRefIdeal.nD Cert.AdamSmallRefIdeal.τ).loc Cert.AdamSmallRefIdeal.main_arg28) = m ((c.tc : Thread Cert.AdamSmallIdeal.nD Cert.AdamSmallIdeal.τ).loc Cert.AdamSmallIdeal.main_arg28)
      ∧ m' ((c.tc : Thread Cert.AdamSmallRefIdeal.nD Cert.AdamSmallRefIdeal.τ).loc Cert.AdamSmallRefIdeal.main_arg29) = m ((c.tc : Thread Cert.AdamSmallIdeal.nD Cert.AdamSmallIdeal.τ).loc Cert.AdamSmallIdeal.main_arg29)
      ∧ m' ((c.tc : Thread Cert.AdamSmallRefIdeal.nD Cert.AdamSmallRefIdeal.τ).loc Cert.AdamSmallRefIdeal.main_arg30) = m ((c.tc : Thread Cert.AdamSmallIdeal.nD Cert.AdamSmallIdeal.τ).loc Cert.AdamSmallIdeal.main_arg30)
      ∧ m' ((c.tc : Thread Cert.AdamSmallRefIdeal.nD Cert.AdamSmallRefIdeal.τ).loc Cert.AdamSmallRefIdeal.main_arg31) = m ((c.tc : Thread Cert.AdamSmallIdeal.nD Cert.AdamSmallIdeal.τ).loc Cert.AdamSmallIdeal.main_arg31)
      ∧ m' ((c.tc : Thread Cert.AdamSmallRefIdeal.nD Cert.AdamSmallRefIdeal.τ).loc Cert.AdamSmallRefIdeal.main_arg32) = m ((c.tc : Thread Cert.AdamSmallIdeal.nD Cert.AdamSmallIdeal.τ).loc Cert.AdamSmallIdeal.main_arg32)
      ∧ m' ((c.tc : Thread Cert.AdamSmallRefIdeal.nD Cert.AdamSmallRefIdeal.τ).loc Cert.AdamSmallRefIdeal.main_arg33) = m ((c.tc : Thread Cert.AdamSmallIdeal.nD Cert.AdamSmallIdeal.τ).loc Cert.AdamSmallIdeal.main_arg33)
      ∧ m' ((c.tc : Thread Cert.AdamSmallRefIdeal.nD Cert.AdamSmallRefIdeal.τ).loc Cert.AdamSmallRefIdeal.main_arg34) = m ((c.tc : Thread Cert.AdamSmallIdeal.nD Cert.AdamSmallIdeal.τ).loc Cert.AdamSmallIdeal.main_arg34)
      ∧ m' ((c.tc : Thread Cert.AdamSmallRefIdeal.nD Cert.AdamSmallRefIdeal.τ).loc Cert.AdamSmallRefIdeal.main_arg35) = m ((c.tc : Thread Cert.AdamSmallIdeal.nD Cert.AdamSmallIdeal.τ).loc Cert.AdamSmallIdeal.main_arg35)
      ∧ m' ((c.tc : Thread Cert.AdamSmallRefIdeal.nD Cert.AdamSmallRefIdeal.τ).loc Cert.AdamSmallRefIdeal.main_arg36) = m ((c.tc : Thread Cert.AdamSmallIdeal.nD Cert.AdamSmallIdeal.τ).loc Cert.AdamSmallIdeal.main_arg36)
      ∧ m' ((c.tc : Thread Cert.AdamSmallRefIdeal.nD Cert.AdamSmallRefIdeal.τ).loc Cert.AdamSmallRefIdeal.main_arg37) = m ((c.tc : Thread Cert.AdamSmallIdeal.nD Cert.AdamSmallIdeal.τ).loc Cert.AdamSmallIdeal.main_arg37)
      ∧ m' ((c.tc : Thread Cert.AdamSmallRefIdeal.nD Cert.AdamSmallRefIdeal.τ).loc Cert.AdamSmallRefIdeal.main_arg38) = m ((c.tc : Thread Cert.AdamSmallIdeal.nD Cert.AdamSmallIdeal.τ).loc Cert.AdamSmallIdeal.main_arg38)
      ∧ m' ((c.tc : Thread Cert.AdamSmallRefIdeal.nD Cert.AdamSmallRefIdeal.τ).loc Cert.AdamSmallRefIdeal.main_arg39) = m ((c.tc : Thread Cert.AdamSmallIdeal.nD Cert.AdamSmallIdeal.τ).loc Cert.AdamSmallIdeal.main_arg39)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)) (v4 : (c : Dev Cert.AdamSmallIdeal.nD) → Buf (Elt Ideal) ((c.tc : Thread Cert.AdamSmallIdeal.nD Cert.AdamSmallIdeal.τ).loc Cert.AdamSmallIdeal.main_v0_4)) (v5 : (c : Dev Cert.AdamSmallIdeal.nD) → Buf (Elt Ideal) ((c.tc : Thread Cert.AdamSmallIdeal.nD Cert.AdamSmallIdeal.τ).loc Cert.AdamSmallIdeal.main_v0_5)) (v6 : (c : Dev Cert.AdamSmallIdeal.nD) → Buf (Elt Ideal) ((c.tc : Thread Cert.AdamSmallIdeal.nD Cert.AdamSmallIdeal.τ).loc Cert.AdamSmallIdeal.main_v0_6)) (v7 : (c : Dev Cert.AdamSmallIdeal.nD) → Buf (Elt Ideal) ((c.tc : Thread Cert.AdamSmallIdeal.nD Cert.AdamSmallIdeal.τ).loc Cert.AdamSmallIdeal.main_v0_7)) (v8 : (c : Dev Cert.AdamSmallIdeal.nD) → Buf (Elt Ideal) ((c.tc : Thread Cert.AdamSmallIdeal.nD Cert.AdamSmallIdeal.τ).loc Cert.AdamSmallIdeal.main_v0_8)) (v9 : (c : Dev Cert.AdamSmallIdeal.nD) → Buf (Elt Ideal) ((c.tc : Thread Cert.AdamSmallIdeal.nD Cert.AdamSmallIdeal.τ).loc Cert.AdamSmallIdeal.main_v0_9)) (v10 : (c : Dev Cert.AdamSmallIdeal.nD) → Buf (Elt Ideal) ((c.tc : Thread Cert.AdamSmallIdeal.nD Cert.AdamSmallIdeal.τ).loc Cert.AdamSmallIdeal.main_v0_10)) (v11 : (c : Dev Cert.AdamSmallIdeal.nD) → Buf (Elt Ideal) ((c.tc : Thread Cert.AdamSmallIdeal.nD Cert.AdamSmallIdeal.τ).loc Cert.AdamSmallIdeal.main_v0_11)) (v12 : (c : Dev Cert.AdamSmallIdeal.nD) → Buf (Elt Ideal) ((c.tc : Thread Cert.AdamSmallIdeal.nD Cert.AdamSmallIdeal.τ).loc Cert.AdamSmallIdeal.main_v0_12)) (v13 : (c : Dev Cert.AdamSmallIdeal.nD) → Buf (Elt Ideal) ((c.tc : Thread Cert.AdamSmallIdeal.nD Cert.AdamSmallIdeal.τ).loc Cert.AdamSmallIdeal.main_v0_13)) (v14 : (c : Dev Cert.AdamSmallIdeal.nD) → Buf (Elt Ideal) ((c.tc : Thread Cert.AdamSmallIdeal.nD Cert.AdamSmallIdeal.τ).loc Cert.AdamSmallIdeal.main_v0_14)) (v15 : (c : Dev Cert.AdamSmallIdeal.nD) → Buf (Elt Ideal) ((c.tc : Thread Cert.AdamSmallIdeal.nD Cert.AdamSmallIdeal.τ).loc Cert.AdamSmallIdeal.main_v0_15)) (v16 : (c : Dev Cert.AdamSmallIdeal.nD) → Buf (Elt Ideal) ((c.tc : Thread Cert.AdamSmallIdeal.nD Cert.AdamSmallIdeal.τ).loc Cert.AdamSmallIdeal.main_v0_16)) (v17 : (c : Dev Cert.AdamSmallIdeal.nD) → Buf (Elt Ideal) ((c.tc : Thread Cert.AdamSmallIdeal.nD Cert.AdamSmallIdeal.τ).loc Cert.AdamSmallIdeal.main_v0_17)) (v18 : (c : Dev Cert.AdamSmallIdeal.nD) → Buf (Elt Ideal) ((c.tc : Thread Cert.AdamSmallIdeal.nD Cert.AdamSmallIdeal.τ).loc Cert.AdamSmallIdeal.main_v0_18)) (v19 : (c : Dev Cert.AdamSmallIdeal.nD) → Buf (Elt Ideal) ((c.tc : Thread Cert.AdamSmallIdeal.nD Cert.AdamSmallIdeal.τ).loc Cert.AdamSmallIdeal.main_v0_19)) (v20 : (c : Dev Cert.AdamSmallIdeal.nD) → Buf (Elt Ideal) ((c.tc : Thread Cert.AdamSmallIdeal.nD Cert.AdamSmallIdeal.τ).loc Cert.AdamSmallIdeal.main_v0_20)) (v21 : (c : Dev Cert.AdamSmallIdeal.nD) → Buf (Elt Ideal) ((c.tc : Thread Cert.AdamSmallIdeal.nD Cert.AdamSmallIdeal.τ).loc Cert.AdamSmallIdeal.main_v0_21)) (v22 : (c : Dev Cert.AdamSmallIdeal.nD) → Buf (Elt Ideal) ((c.tc : Thread Cert.AdamSmallIdeal.nD Cert.AdamSmallIdeal.τ).loc Cert.AdamSmallIdeal.main_v0_22)) (v23 : (c : Dev Cert.AdamSmallIdeal.nD) → Buf (Elt Ideal) ((c.tc : Thread Cert.AdamSmallIdeal.nD Cert.AdamSmallIdeal.τ).loc Cert.AdamSmallIdeal.main_v0_23)) (v24 : (c : Dev Cert.AdamSmallIdeal.nD) → Buf (Elt Ideal) ((c.tc : Thread Cert.AdamSmallIdeal.nD Cert.AdamSmallIdeal.τ).loc Cert.AdamSmallIdeal.main_v0_24)) (v25 : (c : Dev Cert.AdamSmallIdeal.nD) → Buf (Elt Ideal) ((c.tc : Thread Cert.AdamSmallIdeal.nD Cert.AdamSmallIdeal.τ).loc Cert.AdamSmallIdeal.main_v0_25)) (v26 : (c : Dev Cert.AdamSmallIdeal.nD) → Buf (Elt Ideal) ((c.tc : Thread Cert.AdamSmallIdeal.nD Cert.AdamSmallIdeal.τ).loc Cert.AdamSmallIdeal.main_v0_26)) (v27 : (c : Dev Cert.AdamSmallIdeal.nD) → Buf (Elt Ideal) ((c.tc : Thread Cert.AdamSmallIdeal.nD Cert.AdamSmallIdeal.τ).loc Cert.AdamSmallIdeal.main_v0_27)) (v28 : (c : Dev Cert.AdamSmallIdeal.nD) → Buf (Elt Ideal) ((c.tc : Thread Cert.AdamSmallIdeal.nD Cert.AdamSmallIdeal.τ).loc Cert.AdamSmallIdeal.main_v0_28)) (v29 : (c : Dev Cert.AdamSmallIdeal.nD) → Buf (Elt Ideal) ((c.tc : Thread Cert.AdamSmallIdeal.nD Cert.AdamSmallIdeal.τ).loc Cert.AdamSmallIdeal.main_v0_29)) (v30 : (c : Dev Cert.AdamSmallIdeal.nD) → Buf (Elt Ideal) ((c.tc : Thread Cert.AdamSmallIdeal.nD Cert.AdamSmallIdeal.τ).loc Cert.AdamSmallIdeal.main_v0_30)) (v31 : (c : Dev Cert.AdamSmallIdeal.nD) → Buf (Elt Ideal) ((c.tc : Thread Cert.AdamSmallIdeal.nD Cert.AdamSmallIdeal.τ).loc Cert.AdamSmallIdeal.main_v0_31)) (v32 : (c : Dev Cert.AdamSmallIdeal.nD) → Buf (Elt Ideal) ((c.tc : Thread Cert.AdamSmallIdeal.nD Cert.AdamSmallIdeal.τ).loc Cert.AdamSmallIdeal.main_v0_32)) (v33 : (c : Dev Cert.AdamSmallIdeal.nD) → Buf (Elt Ideal) ((c.tc : Thread Cert.AdamSmallIdeal.nD Cert.AdamSmallIdeal.τ).loc Cert.AdamSmallIdeal.main_v0_33)) (v34 : (c : Dev Cert.AdamSmallIdeal.nD) → Buf (Elt Ideal) ((c.tc : Thread Cert.AdamSmallIdeal.nD Cert.AdamSmallIdeal.τ).loc Cert.AdamSmallIdeal.main_v0_34)) (v35 : (c : Dev Cert.AdamSmallIdeal.nD) → Buf (Elt Ideal) ((c.tc : Thread Cert.AdamSmallIdeal.nD Cert.AdamSmallIdeal.τ).loc Cert.AdamSmallIdeal.main_v0_35)) (v36 : (c : Dev Cert.AdamSmallIdeal.nD) → Buf (Elt Ideal) ((c.tc : Thread Cert.AdamSmallIdeal.nD Cert.AdamSmallIdeal.τ).loc Cert.AdamSmallIdeal.main_v0_36)) (v37 : (c : Dev Cert.AdamSmallIdeal.nD) → Buf (Elt Ideal) ((c.tc : Thread Cert.AdamSmallIdeal.nD Cert.AdamSmallIdeal.τ).loc Cert.AdamSmallIdeal.main_v0_37)) (v38 : (c : Dev Cert.AdamSmallIdeal.nD) → Buf (Elt Ideal) ((c.tc : Thread Cert.AdamSmallIdeal.nD Cert.AdamSmallIdeal.τ).loc Cert.AdamSmallIdeal.main_v0_38)) (v39 : (c : Dev Cert.AdamSmallIdeal.nD) → Buf (Elt Ideal) ((c.tc : Thread Cert.AdamSmallIdeal.nD Cert.AdamSmallIdeal.τ).loc Cert.AdamSmallIdeal.main_v0_39)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_v0_4) = v4 c
          ∧ r.2.mem ((c.tc : Thread Cert.AdamSmallIdeal.nD Cert.AdamSmallIdeal.τ).loc Cert.AdamSmallIdeal.main_v0_5) = v5 c
          ∧ r.2.mem ((c.tc : Thread Cert.AdamSmallIdeal.nD Cert.AdamSmallIdeal.τ).loc Cert.AdamSmallIdeal.main_v0_6) = v6 c
          ∧ r.2.mem ((c.tc : Thread Cert.AdamSmallIdeal.nD Cert.AdamSmallIdeal.τ).loc Cert.AdamSmallIdeal.main_v0_7) = v7 c
          ∧ r.2.mem ((c.tc : Thread Cert.AdamSmallIdeal.nD Cert.AdamSmallIdeal.τ).loc Cert.AdamSmallIdeal.main_v0_8) = v8 c
          ∧ r.2.mem ((c.tc : Thread Cert.AdamSmallIdeal.nD Cert.AdamSmallIdeal.τ).loc Cert.AdamSmallIdeal.main_v0_9) = v9 c
          ∧ r.2.mem ((c.tc : Thread Cert.AdamSmallIdeal.nD Cert.AdamSmallIdeal.τ).loc Cert.AdamSmallIdeal.main_v0_10) = v10 c
          ∧ r.2.mem ((c.tc : Thread Cert.AdamSmallIdeal.nD Cert.AdamSmallIdeal.τ).loc Cert.AdamSmallIdeal.main_v0_11) = v11 c
          ∧ r.2.mem ((c.tc : Thread Cert.AdamSmallIdeal.nD Cert.AdamSmallIdeal.τ).loc Cert.AdamSmallIdeal.main_v0_12) = v12 c
          ∧ r.2.mem ((c.tc : Thread Cert.AdamSmallIdeal.nD Cert.AdamSmallIdeal.τ).loc Cert.AdamSmallIdeal.main_v0_13) = v13 c
          ∧ r.2.mem ((c.tc : Thread Cert.AdamSmallIdeal.nD Cert.AdamSmallIdeal.τ).loc Cert.AdamSmallIdeal.main_v0_14) = v14 c
          ∧ r.2.mem ((c.tc : Thread Cert.AdamSmallIdeal.nD Cert.AdamSmallIdeal.τ).loc Cert.AdamSmallIdeal.main_v0_15) = v15 c
          ∧ r.2.mem ((c.tc : Thread Cert.AdamSmallIdeal.nD Cert.AdamSmallIdeal.τ).loc Cert.AdamSmallIdeal.main_v0_16) = v16 c
          ∧ r.2.mem ((c.tc : Thread Cert.AdamSmallIdeal.nD Cert.AdamSmallIdeal.τ).loc Cert.AdamSmallIdeal.main_v0_17) = v17 c
          ∧ r.2.mem ((c.tc : Thread Cert.AdamSmallIdeal.nD Cert.AdamSmallIdeal.τ).loc Cert.AdamSmallIdeal.main_v0_18) = v18 c
          ∧ r.2.mem ((c.tc : Thread Cert.AdamSmallIdeal.nD Cert.AdamSmallIdeal.τ).loc Cert.AdamSmallIdeal.main_v0_19) = v19 c
          ∧ r.2.mem ((c.tc : Thread Cert.AdamSmallIdeal.nD Cert.AdamSmallIdeal.τ).loc Cert.AdamSmallIdeal.main_v0_20) = v20 c
          ∧ r.2.mem ((c.tc : Thread Cert.AdamSmallIdeal.nD Cert.AdamSmallIdeal.τ).loc Cert.AdamSmallIdeal.main_v0_21) = v21 c
          ∧ r.2.mem ((c.tc : Thread Cert.AdamSmallIdeal.nD Cert.AdamSmallIdeal.τ).loc Cert.AdamSmallIdeal.main_v0_22) = v22 c
          ∧ r.2.mem ((c.tc : Thread Cert.AdamSmallIdeal.nD Cert.AdamSmallIdeal.τ).loc Cert.AdamSmallIdeal.main_v0_23) = v23 c
          ∧ r.2.mem ((c.tc : Thread Cert.AdamSmallIdeal.nD Cert.AdamSmallIdeal.τ).loc Cert.AdamSmallIdeal.main_v0_24) = v24 c
          ∧ r.2.mem ((c.tc : Thread Cert.AdamSmallIdeal.nD Cert.AdamSmallIdeal.τ).loc Cert.AdamSmallIdeal.main_v0_25) = v25 c
          ∧ r.2.mem ((c.tc : Thread Cert.AdamSmallIdeal.nD Cert.AdamSmallIdeal.τ).loc Cert.AdamSmallIdeal.main_v0_26) = v26 c
          ∧ r.2.mem ((c.tc : Thread Cert.AdamSmallIdeal.nD Cert.AdamSmallIdeal.τ).loc Cert.AdamSmallIdeal.main_v0_27) = v27 c
          ∧ r.2.mem ((c.tc : Thread Cert.AdamSmallIdeal.nD Cert.AdamSmallIdeal.τ).loc Cert.AdamSmallIdeal.main_v0_28) = v28 c
          ∧ r.2.mem ((c.tc : Thread Cert.AdamSmallIdeal.nD Cert.AdamSmallIdeal.τ).loc Cert.AdamSmallIdeal.main_v0_29) = v29 c
          ∧ r.2.mem ((c.tc : Thread Cert.AdamSmallIdeal.nD Cert.AdamSmallIdeal.τ).loc Cert.AdamSmallIdeal.main_v0_30) = v30 c
          ∧ r.2.mem ((c.tc : Thread Cert.AdamSmallIdeal.nD Cert.AdamSmallIdeal.τ).loc Cert.AdamSmallIdeal.main_v0_31) = v31 c
          ∧ r.2.mem ((c.tc : Thread Cert.AdamSmallIdeal.nD Cert.AdamSmallIdeal.τ).loc Cert.AdamSmallIdeal.main_v0_32) = v32 c
          ∧ r.2.mem ((c.tc : Thread Cert.AdamSmallIdeal.nD Cert.AdamSmallIdeal.τ).loc Cert.AdamSmallIdeal.main_v0_33) = v33 c
          ∧ r.2.mem ((c.tc : Thread Cert.AdamSmallIdeal.nD Cert.AdamSmallIdeal.τ).loc Cert.AdamSmallIdeal.main_v0_34) = v34 c
          ∧ r.2.mem ((c.tc : Thread Cert.AdamSmallIdeal.nD Cert.AdamSmallIdeal.τ).loc Cert.AdamSmallIdeal.main_v0_35) = v35 c
          ∧ r.2.mem ((c.tc : Thread Cert.AdamSmallIdeal.nD Cert.AdamSmallIdeal.τ).loc Cert.AdamSmallIdeal.main_v0_36) = v36 c
          ∧ r.2.mem ((c.tc : Thread Cert.AdamSmallIdeal.nD Cert.AdamSmallIdeal.τ).loc Cert.AdamSmallIdeal.main_v0_37) = v37 c
          ∧ r.2.mem ((c.tc : Thread Cert.AdamSmallIdeal.nD Cert.AdamSmallIdeal.τ).loc Cert.AdamSmallIdeal.main_v0_38) = v38 c
          ∧ r.2.mem ((c.tc : Thread Cert.AdamSmallIdeal.nD Cert.AdamSmallIdeal.τ).loc Cert.AdamSmallIdeal.main_v0_39) = v39 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3)
          ∧ r.2.mem ((c.tc : Thread Cert.AdamSmallIdeal.nD Cert.AdamSmallIdeal.τ).loc Cert.AdamSmallIdeal.main_arg4) = m ((c.tc : Thread Cert.AdamSmallIdeal.nD Cert.AdamSmallIdeal.τ).loc Cert.AdamSmallIdeal.main_arg4)
          ∧ r.2.mem ((c.tc : Thread Cert.AdamSmallIdeal.nD Cert.AdamSmallIdeal.τ).loc Cert.AdamSmallIdeal.main_arg5) = m ((c.tc : Thread Cert.AdamSmallIdeal.nD Cert.AdamSmallIdeal.τ).loc Cert.AdamSmallIdeal.main_arg5)
          ∧ r.2.mem ((c.tc : Thread Cert.AdamSmallIdeal.nD Cert.AdamSmallIdeal.τ).loc Cert.AdamSmallIdeal.main_arg6) = m ((c.tc : Thread Cert.AdamSmallIdeal.nD Cert.AdamSmallIdeal.τ).loc Cert.AdamSmallIdeal.main_arg6)
          ∧ r.2.mem ((c.tc : Thread Cert.AdamSmallIdeal.nD Cert.AdamSmallIdeal.τ).loc Cert.AdamSmallIdeal.main_arg7) = m ((c.tc : Thread Cert.AdamSmallIdeal.nD Cert.AdamSmallIdeal.τ).loc Cert.AdamSmallIdeal.main_arg7)
          ∧ r.2.mem ((c.tc : Thread Cert.AdamSmallIdeal.nD Cert.AdamSmallIdeal.τ).loc Cert.AdamSmallIdeal.main_arg8) = m ((c.tc : Thread Cert.AdamSmallIdeal.nD Cert.AdamSmallIdeal.τ).loc Cert.AdamSmallIdeal.main_arg8)
          ∧ r.2.mem ((c.tc : Thread Cert.AdamSmallIdeal.nD Cert.AdamSmallIdeal.τ).loc Cert.AdamSmallIdeal.main_arg9) = m ((c.tc : Thread Cert.AdamSmallIdeal.nD Cert.AdamSmallIdeal.τ).loc Cert.AdamSmallIdeal.main_arg9)
          ∧ r.2.mem ((c.tc : Thread Cert.AdamSmallIdeal.nD Cert.AdamSmallIdeal.τ).loc Cert.AdamSmallIdeal.main_arg10) = m ((c.tc : Thread Cert.AdamSmallIdeal.nD Cert.AdamSmallIdeal.τ).loc Cert.AdamSmallIdeal.main_arg10)
          ∧ r.2.mem ((c.tc : Thread Cert.AdamSmallIdeal.nD Cert.AdamSmallIdeal.τ).loc Cert.AdamSmallIdeal.main_arg11) = m ((c.tc : Thread Cert.AdamSmallIdeal.nD Cert.AdamSmallIdeal.τ).loc Cert.AdamSmallIdeal.main_arg11)
          ∧ r.2.mem ((c.tc : Thread Cert.AdamSmallIdeal.nD Cert.AdamSmallIdeal.τ).loc Cert.AdamSmallIdeal.main_arg12) = m ((c.tc : Thread Cert.AdamSmallIdeal.nD Cert.AdamSmallIdeal.τ).loc Cert.AdamSmallIdeal.main_arg12)
          ∧ r.2.mem ((c.tc : Thread Cert.AdamSmallIdeal.nD Cert.AdamSmallIdeal.τ).loc Cert.AdamSmallIdeal.main_arg13) = m ((c.tc : Thread Cert.AdamSmallIdeal.nD Cert.AdamSmallIdeal.τ).loc Cert.AdamSmallIdeal.main_arg13)
          ∧ r.2.mem ((c.tc : Thread Cert.AdamSmallIdeal.nD Cert.AdamSmallIdeal.τ).loc Cert.AdamSmallIdeal.main_arg14) = m ((c.tc : Thread Cert.AdamSmallIdeal.nD Cert.AdamSmallIdeal.τ).loc Cert.AdamSmallIdeal.main_arg14)
          ∧ r.2.mem ((c.tc : Thread Cert.AdamSmallIdeal.nD Cert.AdamSmallIdeal.τ).loc Cert.AdamSmallIdeal.main_arg15) = m ((c.tc : Thread Cert.AdamSmallIdeal.nD Cert.AdamSmallIdeal.τ).loc Cert.AdamSmallIdeal.main_arg15)
          ∧ r.2.mem ((c.tc : Thread Cert.AdamSmallIdeal.nD Cert.AdamSmallIdeal.τ).loc Cert.AdamSmallIdeal.main_arg16) = m ((c.tc : Thread Cert.AdamSmallIdeal.nD Cert.AdamSmallIdeal.τ).loc Cert.AdamSmallIdeal.main_arg16)
          ∧ r.2.mem ((c.tc : Thread Cert.AdamSmallIdeal.nD Cert.AdamSmallIdeal.τ).loc Cert.AdamSmallIdeal.main_arg17) = m ((c.tc : Thread Cert.AdamSmallIdeal.nD Cert.AdamSmallIdeal.τ).loc Cert.AdamSmallIdeal.main_arg17)
          ∧ r.2.mem ((c.tc : Thread Cert.AdamSmallIdeal.nD Cert.AdamSmallIdeal.τ).loc Cert.AdamSmallIdeal.main_arg18) = m ((c.tc : Thread Cert.AdamSmallIdeal.nD Cert.AdamSmallIdeal.τ).loc Cert.AdamSmallIdeal.main_arg18)
          ∧ r.2.mem ((c.tc : Thread Cert.AdamSmallIdeal.nD Cert.AdamSmallIdeal.τ).loc Cert.AdamSmallIdeal.main_arg19) = m ((c.tc : Thread Cert.AdamSmallIdeal.nD Cert.AdamSmallIdeal.τ).loc Cert.AdamSmallIdeal.main_arg19)
          ∧ r.2.mem ((c.tc : Thread Cert.AdamSmallIdeal.nD Cert.AdamSmallIdeal.τ).loc Cert.AdamSmallIdeal.main_arg20) = m ((c.tc : Thread Cert.AdamSmallIdeal.nD Cert.AdamSmallIdeal.τ).loc Cert.AdamSmallIdeal.main_arg20)
          ∧ r.2.mem ((c.tc : Thread Cert.AdamSmallIdeal.nD Cert.AdamSmallIdeal.τ).loc Cert.AdamSmallIdeal.main_arg21) = m ((c.tc : Thread Cert.AdamSmallIdeal.nD Cert.AdamSmallIdeal.τ).loc Cert.AdamSmallIdeal.main_arg21)
          ∧ r.2.mem ((c.tc : Thread Cert.AdamSmallIdeal.nD Cert.AdamSmallIdeal.τ).loc Cert.AdamSmallIdeal.main_arg22) = m ((c.tc : Thread Cert.AdamSmallIdeal.nD Cert.AdamSmallIdeal.τ).loc Cert.AdamSmallIdeal.main_arg22)
          ∧ r.2.mem ((c.tc : Thread Cert.AdamSmallIdeal.nD Cert.AdamSmallIdeal.τ).loc Cert.AdamSmallIdeal.main_arg23) = m ((c.tc : Thread Cert.AdamSmallIdeal.nD Cert.AdamSmallIdeal.τ).loc Cert.AdamSmallIdeal.main_arg23)
          ∧ r.2.mem ((c.tc : Thread Cert.AdamSmallIdeal.nD Cert.AdamSmallIdeal.τ).loc Cert.AdamSmallIdeal.main_arg24) = m ((c.tc : Thread Cert.AdamSmallIdeal.nD Cert.AdamSmallIdeal.τ).loc Cert.AdamSmallIdeal.main_arg24)
          ∧ r.2.mem ((c.tc : Thread Cert.AdamSmallIdeal.nD Cert.AdamSmallIdeal.τ).loc Cert.AdamSmallIdeal.main_arg25) = m ((c.tc : Thread Cert.AdamSmallIdeal.nD Cert.AdamSmallIdeal.τ).loc Cert.AdamSmallIdeal.main_arg25)
          ∧ r.2.mem ((c.tc : Thread Cert.AdamSmallIdeal.nD Cert.AdamSmallIdeal.τ).loc Cert.AdamSmallIdeal.main_arg26) = m ((c.tc : Thread Cert.AdamSmallIdeal.nD Cert.AdamSmallIdeal.τ).loc Cert.AdamSmallIdeal.main_arg26)
          ∧ r.2.mem ((c.tc : Thread Cert.AdamSmallIdeal.nD Cert.AdamSmallIdeal.τ).loc Cert.AdamSmallIdeal.main_arg27) = m ((c.tc : Thread Cert.AdamSmallIdeal.nD Cert.AdamSmallIdeal.τ).loc Cert.AdamSmallIdeal.main_arg27)
          ∧ r.2.mem ((c.tc : Thread Cert.AdamSmallIdeal.nD Cert.AdamSmallIdeal.τ).loc Cert.AdamSmallIdeal.main_arg28) = m ((c.tc : Thread Cert.AdamSmallIdeal.nD Cert.AdamSmallIdeal.τ).loc Cert.AdamSmallIdeal.main_arg28)
          ∧ r.2.mem ((c.tc : Thread Cert.AdamSmallIdeal.nD Cert.AdamSmallIdeal.τ).loc Cert.AdamSmallIdeal.main_arg29) = m ((c.tc : Thread Cert.AdamSmallIdeal.nD Cert.AdamSmallIdeal.τ).loc Cert.AdamSmallIdeal.main_arg29)
          ∧ r.2.mem ((c.tc : Thread Cert.AdamSmallIdeal.nD Cert.AdamSmallIdeal.τ).loc Cert.AdamSmallIdeal.main_arg30) = m ((c.tc : Thread Cert.AdamSmallIdeal.nD Cert.AdamSmallIdeal.τ).loc Cert.AdamSmallIdeal.main_arg30)
          ∧ r.2.mem ((c.tc : Thread Cert.AdamSmallIdeal.nD Cert.AdamSmallIdeal.τ).loc Cert.AdamSmallIdeal.main_arg31) = m ((c.tc : Thread Cert.AdamSmallIdeal.nD Cert.AdamSmallIdeal.τ).loc Cert.AdamSmallIdeal.main_arg31)
          ∧ r.2.mem ((c.tc : Thread Cert.AdamSmallIdeal.nD Cert.AdamSmallIdeal.τ).loc Cert.AdamSmallIdeal.main_arg32) = m ((c.tc : Thread Cert.AdamSmallIdeal.nD Cert.AdamSmallIdeal.τ).loc Cert.AdamSmallIdeal.main_arg32)
          ∧ r.2.mem ((c.tc : Thread Cert.AdamSmallIdeal.nD Cert.AdamSmallIdeal.τ).loc Cert.AdamSmallIdeal.main_arg33) = m ((c.tc : Thread Cert.AdamSmallIdeal.nD Cert.AdamSmallIdeal.τ).loc Cert.AdamSmallIdeal.main_arg33)
          ∧ r.2.mem ((c.tc : Thread Cert.AdamSmallIdeal.nD Cert.AdamSmallIdeal.τ).loc Cert.AdamSmallIdeal.main_arg34) = m ((c.tc : Thread Cert.AdamSmallIdeal.nD Cert.AdamSmallIdeal.τ).loc Cert.AdamSmallIdeal.main_arg34)
          ∧ r.2.mem ((c.tc : Thread Cert.AdamSmallIdeal.nD Cert.AdamSmallIdeal.τ).loc Cert.AdamSmallIdeal.main_arg35) = m ((c.tc : Thread Cert.AdamSmallIdeal.nD Cert.AdamSmallIdeal.τ).loc Cert.AdamSmallIdeal.main_arg35)
          ∧ r.2.mem ((c.tc : Thread Cert.AdamSmallIdeal.nD Cert.AdamSmallIdeal.τ).loc Cert.AdamSmallIdeal.main_arg36) = m ((c.tc : Thread Cert.AdamSmallIdeal.nD Cert.AdamSmallIdeal.τ).loc Cert.AdamSmallIdeal.main_arg36)
          ∧ r.2.mem ((c.tc : Thread Cert.AdamSmallIdeal.nD Cert.AdamSmallIdeal.τ).loc Cert.AdamSmallIdeal.main_arg37) = m ((c.tc : Thread Cert.AdamSmallIdeal.nD Cert.AdamSmallIdeal.τ).loc Cert.AdamSmallIdeal.main_arg37)
          ∧ r.2.mem ((c.tc : Thread Cert.AdamSmallIdeal.nD Cert.AdamSmallIdeal.τ).loc Cert.AdamSmallIdeal.main_arg38) = m ((c.tc : Thread Cert.AdamSmallIdeal.nD Cert.AdamSmallIdeal.τ).loc Cert.AdamSmallIdeal.main_arg38)
          ∧ r.2.mem ((c.tc : Thread Cert.AdamSmallIdeal.nD Cert.AdamSmallIdeal.τ).loc Cert.AdamSmallIdeal.main_arg39) = m ((c.tc : Thread Cert.AdamSmallIdeal.nD Cert.AdamSmallIdeal.τ).loc Cert.AdamSmallIdeal.main_arg39))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v0) = v0 c
          ∧ r.2.mem ((c.tc : Thread Cert.AdamSmallRefIdeal.nD Cert.AdamSmallRefIdeal.τ).loc Cert.AdamSmallRefIdeal.main_v25) = v1 c
          ∧ r.2.mem ((c.tc : Thread Cert.AdamSmallRefIdeal.nD Cert.AdamSmallRefIdeal.τ).loc Cert.AdamSmallRefIdeal.main_v50) = v2 c
          ∧ r.2.mem ((c.tc : Thread Cert.AdamSmallRefIdeal.nD Cert.AdamSmallRefIdeal.τ).loc Cert.AdamSmallRefIdeal.main_v75) = v3 c
          ∧ r.2.mem ((c.tc : Thread Cert.AdamSmallRefIdeal.nD Cert.AdamSmallRefIdeal.τ).loc Cert.AdamSmallRefIdeal.main_v100) = v4 c
          ∧ r.2.mem ((c.tc : Thread Cert.AdamSmallRefIdeal.nD Cert.AdamSmallRefIdeal.τ).loc Cert.AdamSmallRefIdeal.main_v125) = v5 c
          ∧ r.2.mem ((c.tc : Thread Cert.AdamSmallRefIdeal.nD Cert.AdamSmallRefIdeal.τ).loc Cert.AdamSmallRefIdeal.main_v150) = v6 c
          ∧ r.2.mem ((c.tc : Thread Cert.AdamSmallRefIdeal.nD Cert.AdamSmallRefIdeal.τ).loc Cert.AdamSmallRefIdeal.main_v217) = v7 c
          ∧ r.2.mem ((c.tc : Thread Cert.AdamSmallRefIdeal.nD Cert.AdamSmallRefIdeal.τ).loc Cert.AdamSmallRefIdeal.main_v242) = v8 c
          ∧ r.2.mem ((c.tc : Thread Cert.AdamSmallRefIdeal.nD Cert.AdamSmallRefIdeal.τ).loc Cert.AdamSmallRefIdeal.main_v267) = v9 c
          ∧ r.2.mem ((c.tc : Thread Cert.AdamSmallRefIdeal.nD Cert.AdamSmallRefIdeal.τ).loc Cert.AdamSmallRefIdeal.main_v24) = v10 c
          ∧ r.2.mem ((c.tc : Thread Cert.AdamSmallRefIdeal.nD Cert.AdamSmallRefIdeal.τ).loc Cert.AdamSmallRefIdeal.main_v49) = v11 c
          ∧ r.2.mem ((c.tc : Thread Cert.AdamSmallRefIdeal.nD Cert.AdamSmallRefIdeal.τ).loc Cert.AdamSmallRefIdeal.main_v74) = v12 c
          ∧ r.2.mem ((c.tc : Thread Cert.AdamSmallRefIdeal.nD Cert.AdamSmallRefIdeal.τ).loc Cert.AdamSmallRefIdeal.main_v99) = v13 c
          ∧ r.2.mem ((c.tc : Thread Cert.AdamSmallRefIdeal.nD Cert.AdamSmallRefIdeal.τ).loc Cert.AdamSmallRefIdeal.main_v124) = v14 c
          ∧ r.2.mem ((c.tc : Thread Cert.AdamSmallRefIdeal.nD Cert.AdamSmallRefIdeal.τ).loc Cert.AdamSmallRefIdeal.main_v149) = v15 c
          ∧ r.2.mem ((c.tc : Thread Cert.AdamSmallRefIdeal.nD Cert.AdamSmallRefIdeal.τ).loc Cert.AdamSmallRefIdeal.main_v174) = v16 c
          ∧ r.2.mem ((c.tc : Thread Cert.AdamSmallRefIdeal.nD Cert.AdamSmallRefIdeal.τ).loc Cert.AdamSmallRefIdeal.main_v241) = v17 c
          ∧ r.2.mem ((c.tc : Thread Cert.AdamSmallRefIdeal.nD Cert.AdamSmallRefIdeal.τ).loc Cert.AdamSmallRefIdeal.main_v266) = v18 c
          ∧ r.2.mem ((c.tc : Thread Cert.AdamSmallRefIdeal.nD Cert.AdamSmallRefIdeal.τ).loc Cert.AdamSmallRefIdeal.main_v291) = v19 c
          ∧ r.2.mem ((c.tc : Thread Cert.AdamSmallRefIdeal.nD Cert.AdamSmallRefIdeal.τ).loc Cert.AdamSmallRefIdeal.main_v5) = v20 c
          ∧ r.2.mem ((c.tc : Thread Cert.AdamSmallRefIdeal.nD Cert.AdamSmallRefIdeal.τ).loc Cert.AdamSmallRefIdeal.main_v30) = v21 c
          ∧ r.2.mem ((c.tc : Thread Cert.AdamSmallRefIdeal.nD Cert.AdamSmallRefIdeal.τ).loc Cert.AdamSmallRefIdeal.main_v55) = v22 c
          ∧ r.2.mem ((c.tc : Thread Cert.AdamSmallRefIdeal.nD Cert.AdamSmallRefIdeal.τ).loc Cert.AdamSmallRefIdeal.main_v80) = v23 c
          ∧ r.2.mem ((c.tc : Thread Cert.AdamSmallRefIdeal.nD Cert.AdamSmallRefIdeal.τ).loc Cert.AdamSmallRefIdeal.main_v105) = v24 c
          ∧ r.2.mem ((c.tc : Thread Cert.AdamSmallRefIdeal.nD Cert.AdamSmallRefIdeal.τ).loc Cert.AdamSmallRefIdeal.main_v130) = v25 c
          ∧ r.2.mem ((c.tc : Thread Cert.AdamSmallRefIdeal.nD Cert.AdamSmallRefIdeal.τ).loc Cert.AdamSmallRefIdeal.main_v155) = v26 c
          ∧ r.2.mem ((c.tc : Thread Cert.AdamSmallRefIdeal.nD Cert.AdamSmallRefIdeal.τ).loc Cert.AdamSmallRefIdeal.main_v222) = v27 c
          ∧ r.2.mem ((c.tc : Thread Cert.AdamSmallRefIdeal.nD Cert.AdamSmallRefIdeal.τ).loc Cert.AdamSmallRefIdeal.main_v247) = v28 c
          ∧ r.2.mem ((c.tc : Thread Cert.AdamSmallRefIdeal.nD Cert.AdamSmallRefIdeal.τ).loc Cert.AdamSmallRefIdeal.main_v272) = v29 c
          ∧ r.2.mem ((c.tc : Thread Cert.AdamSmallRefIdeal.nD Cert.AdamSmallRefIdeal.τ).loc Cert.AdamSmallRefIdeal.main_v11) = v30 c
          ∧ r.2.mem ((c.tc : Thread Cert.AdamSmallRefIdeal.nD Cert.AdamSmallRefIdeal.τ).loc Cert.AdamSmallRefIdeal.main_v36) = v31 c
          ∧ r.2.mem ((c.tc : Thread Cert.AdamSmallRefIdeal.nD Cert.AdamSmallRefIdeal.τ).loc Cert.AdamSmallRefIdeal.main_v61) = v32 c
          ∧ r.2.mem ((c.tc : Thread Cert.AdamSmallRefIdeal.nD Cert.AdamSmallRefIdeal.τ).loc Cert.AdamSmallRefIdeal.main_v86) = v33 c
          ∧ r.2.mem ((c.tc : Thread Cert.AdamSmallRefIdeal.nD Cert.AdamSmallRefIdeal.τ).loc Cert.AdamSmallRefIdeal.main_v111) = v34 c
          ∧ r.2.mem ((c.tc : Thread Cert.AdamSmallRefIdeal.nD Cert.AdamSmallRefIdeal.τ).loc Cert.AdamSmallRefIdeal.main_v136) = v35 c
          ∧ r.2.mem ((c.tc : Thread Cert.AdamSmallRefIdeal.nD Cert.AdamSmallRefIdeal.τ).loc Cert.AdamSmallRefIdeal.main_v161) = v36 c
          ∧ r.2.mem ((c.tc : Thread Cert.AdamSmallRefIdeal.nD Cert.AdamSmallRefIdeal.τ).loc Cert.AdamSmallRefIdeal.main_v228) = v37 c
          ∧ r.2.mem ((c.tc : Thread Cert.AdamSmallRefIdeal.nD Cert.AdamSmallRefIdeal.τ).loc Cert.AdamSmallRefIdeal.main_v253) = v38 c
          ∧ r.2.mem ((c.tc : Thread Cert.AdamSmallRefIdeal.nD Cert.AdamSmallRefIdeal.τ).loc Cert.AdamSmallRefIdeal.main_v278) = v39 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3)
          ∧ r.2.mem ((c.tc : Thread Cert.AdamSmallRefIdeal.nD Cert.AdamSmallRefIdeal.τ).loc Cert.AdamSmallRefIdeal.main_arg4) = m' ((c.tc : Thread Cert.AdamSmallRefIdeal.nD Cert.AdamSmallRefIdeal.τ).loc Cert.AdamSmallRefIdeal.main_arg4)
          ∧ r.2.mem ((c.tc : Thread Cert.AdamSmallRefIdeal.nD Cert.AdamSmallRefIdeal.τ).loc Cert.AdamSmallRefIdeal.main_arg5) = m' ((c.tc : Thread Cert.AdamSmallRefIdeal.nD Cert.AdamSmallRefIdeal.τ).loc Cert.AdamSmallRefIdeal.main_arg5)
          ∧ r.2.mem ((c.tc : Thread Cert.AdamSmallRefIdeal.nD Cert.AdamSmallRefIdeal.τ).loc Cert.AdamSmallRefIdeal.main_arg6) = m' ((c.tc : Thread Cert.AdamSmallRefIdeal.nD Cert.AdamSmallRefIdeal.τ).loc Cert.AdamSmallRefIdeal.main_arg6)
          ∧ r.2.mem ((c.tc : Thread Cert.AdamSmallRefIdeal.nD Cert.AdamSmallRefIdeal.τ).loc Cert.AdamSmallRefIdeal.main_arg7) = m' ((c.tc : Thread Cert.AdamSmallRefIdeal.nD Cert.AdamSmallRefIdeal.τ).loc Cert.AdamSmallRefIdeal.main_arg7)
          ∧ r.2.mem ((c.tc : Thread Cert.AdamSmallRefIdeal.nD Cert.AdamSmallRefIdeal.τ).loc Cert.AdamSmallRefIdeal.main_arg8) = m' ((c.tc : Thread Cert.AdamSmallRefIdeal.nD Cert.AdamSmallRefIdeal.τ).loc Cert.AdamSmallRefIdeal.main_arg8)
          ∧ r.2.mem ((c.tc : Thread Cert.AdamSmallRefIdeal.nD Cert.AdamSmallRefIdeal.τ).loc Cert.AdamSmallRefIdeal.main_arg9) = m' ((c.tc : Thread Cert.AdamSmallRefIdeal.nD Cert.AdamSmallRefIdeal.τ).loc Cert.AdamSmallRefIdeal.main_arg9)
          ∧ r.2.mem ((c.tc : Thread Cert.AdamSmallRefIdeal.nD Cert.AdamSmallRefIdeal.τ).loc Cert.AdamSmallRefIdeal.main_arg10) = m' ((c.tc : Thread Cert.AdamSmallRefIdeal.nD Cert.AdamSmallRefIdeal.τ).loc Cert.AdamSmallRefIdeal.main_arg10)
          ∧ r.2.mem ((c.tc : Thread Cert.AdamSmallRefIdeal.nD Cert.AdamSmallRefIdeal.τ).loc Cert.AdamSmallRefIdeal.main_arg11) = m' ((c.tc : Thread Cert.AdamSmallRefIdeal.nD Cert.AdamSmallRefIdeal.τ).loc Cert.AdamSmallRefIdeal.main_arg11)
          ∧ r.2.mem ((c.tc : Thread Cert.AdamSmallRefIdeal.nD Cert.AdamSmallRefIdeal.τ).loc Cert.AdamSmallRefIdeal.main_arg12) = m' ((c.tc : Thread Cert.AdamSmallRefIdeal.nD Cert.AdamSmallRefIdeal.τ).loc Cert.AdamSmallRefIdeal.main_arg12)
          ∧ r.2.mem ((c.tc : Thread Cert.AdamSmallRefIdeal.nD Cert.AdamSmallRefIdeal.τ).loc Cert.AdamSmallRefIdeal.main_arg13) = m' ((c.tc : Thread Cert.AdamSmallRefIdeal.nD Cert.AdamSmallRefIdeal.τ).loc Cert.AdamSmallRefIdeal.main_arg13)
          ∧ r.2.mem ((c.tc : Thread Cert.AdamSmallRefIdeal.nD Cert.AdamSmallRefIdeal.τ).loc Cert.AdamSmallRefIdeal.main_arg14) = m' ((c.tc : Thread Cert.AdamSmallRefIdeal.nD Cert.AdamSmallRefIdeal.τ).loc Cert.AdamSmallRefIdeal.main_arg14)
          ∧ r.2.mem ((c.tc : Thread Cert.AdamSmallRefIdeal.nD Cert.AdamSmallRefIdeal.τ).loc Cert.AdamSmallRefIdeal.main_arg15) = m' ((c.tc : Thread Cert.AdamSmallRefIdeal.nD Cert.AdamSmallRefIdeal.τ).loc Cert.AdamSmallRefIdeal.main_arg15)
          ∧ r.2.mem ((c.tc : Thread Cert.AdamSmallRefIdeal.nD Cert.AdamSmallRefIdeal.τ).loc Cert.AdamSmallRefIdeal.main_arg16) = m' ((c.tc : Thread Cert.AdamSmallRefIdeal.nD Cert.AdamSmallRefIdeal.τ).loc Cert.AdamSmallRefIdeal.main_arg16)
          ∧ r.2.mem ((c.tc : Thread Cert.AdamSmallRefIdeal.nD Cert.AdamSmallRefIdeal.τ).loc Cert.AdamSmallRefIdeal.main_arg17) = m' ((c.tc : Thread Cert.AdamSmallRefIdeal.nD Cert.AdamSmallRefIdeal.τ).loc Cert.AdamSmallRefIdeal.main_arg17)
          ∧ r.2.mem ((c.tc : Thread Cert.AdamSmallRefIdeal.nD Cert.AdamSmallRefIdeal.τ).loc Cert.AdamSmallRefIdeal.main_arg18) = m' ((c.tc : Thread Cert.AdamSmallRefIdeal.nD Cert.AdamSmallRefIdeal.τ).loc Cert.AdamSmallRefIdeal.main_arg18)
          ∧ r.2.mem ((c.tc : Thread Cert.AdamSmallRefIdeal.nD Cert.AdamSmallRefIdeal.τ).loc Cert.AdamSmallRefIdeal.main_arg19) = m' ((c.tc : Thread Cert.AdamSmallRefIdeal.nD Cert.AdamSmallRefIdeal.τ).loc Cert.AdamSmallRefIdeal.main_arg19)
          ∧ r.2.mem ((c.tc : Thread Cert.AdamSmallRefIdeal.nD Cert.AdamSmallRefIdeal.τ).loc Cert.AdamSmallRefIdeal.main_arg20) = m' ((c.tc : Thread Cert.AdamSmallRefIdeal.nD Cert.AdamSmallRefIdeal.τ).loc Cert.AdamSmallRefIdeal.main_arg20)
          ∧ r.2.mem ((c.tc : Thread Cert.AdamSmallRefIdeal.nD Cert.AdamSmallRefIdeal.τ).loc Cert.AdamSmallRefIdeal.main_arg21) = m' ((c.tc : Thread Cert.AdamSmallRefIdeal.nD Cert.AdamSmallRefIdeal.τ).loc Cert.AdamSmallRefIdeal.main_arg21)
          ∧ r.2.mem ((c.tc : Thread Cert.AdamSmallRefIdeal.nD Cert.AdamSmallRefIdeal.τ).loc Cert.AdamSmallRefIdeal.main_arg22) = m' ((c.tc : Thread Cert.AdamSmallRefIdeal.nD Cert.AdamSmallRefIdeal.τ).loc Cert.AdamSmallRefIdeal.main_arg22)
          ∧ r.2.mem ((c.tc : Thread Cert.AdamSmallRefIdeal.nD Cert.AdamSmallRefIdeal.τ).loc Cert.AdamSmallRefIdeal.main_arg23) = m' ((c.tc : Thread Cert.AdamSmallRefIdeal.nD Cert.AdamSmallRefIdeal.τ).loc Cert.AdamSmallRefIdeal.main_arg23)
          ∧ r.2.mem ((c.tc : Thread Cert.AdamSmallRefIdeal.nD Cert.AdamSmallRefIdeal.τ).loc Cert.AdamSmallRefIdeal.main_arg24) = m' ((c.tc : Thread Cert.AdamSmallRefIdeal.nD Cert.AdamSmallRefIdeal.τ).loc Cert.AdamSmallRefIdeal.main_arg24)
          ∧ r.2.mem ((c.tc : Thread Cert.AdamSmallRefIdeal.nD Cert.AdamSmallRefIdeal.τ).loc Cert.AdamSmallRefIdeal.main_arg25) = m' ((c.tc : Thread Cert.AdamSmallRefIdeal.nD Cert.AdamSmallRefIdeal.τ).loc Cert.AdamSmallRefIdeal.main_arg25)
          ∧ r.2.mem ((c.tc : Thread Cert.AdamSmallRefIdeal.nD Cert.AdamSmallRefIdeal.τ).loc Cert.AdamSmallRefIdeal.main_arg26) = m' ((c.tc : Thread Cert.AdamSmallRefIdeal.nD Cert.AdamSmallRefIdeal.τ).loc Cert.AdamSmallRefIdeal.main_arg26)
          ∧ r.2.mem ((c.tc : Thread Cert.AdamSmallRefIdeal.nD Cert.AdamSmallRefIdeal.τ).loc Cert.AdamSmallRefIdeal.main_arg27) = m' ((c.tc : Thread Cert.AdamSmallRefIdeal.nD Cert.AdamSmallRefIdeal.τ).loc Cert.AdamSmallRefIdeal.main_arg27)
          ∧ r.2.mem ((c.tc : Thread Cert.AdamSmallRefIdeal.nD Cert.AdamSmallRefIdeal.τ).loc Cert.AdamSmallRefIdeal.main_arg28) = m' ((c.tc : Thread Cert.AdamSmallRefIdeal.nD Cert.AdamSmallRefIdeal.τ).loc Cert.AdamSmallRefIdeal.main_arg28)
          ∧ r.2.mem ((c.tc : Thread Cert.AdamSmallRefIdeal.nD Cert.AdamSmallRefIdeal.τ).loc Cert.AdamSmallRefIdeal.main_arg29) = m' ((c.tc : Thread Cert.AdamSmallRefIdeal.nD Cert.AdamSmallRefIdeal.τ).loc Cert.AdamSmallRefIdeal.main_arg29)
          ∧ r.2.mem ((c.tc : Thread Cert.AdamSmallRefIdeal.nD Cert.AdamSmallRefIdeal.τ).loc Cert.AdamSmallRefIdeal.main_arg30) = m' ((c.tc : Thread Cert.AdamSmallRefIdeal.nD Cert.AdamSmallRefIdeal.τ).loc Cert.AdamSmallRefIdeal.main_arg30)
          ∧ r.2.mem ((c.tc : Thread Cert.AdamSmallRefIdeal.nD Cert.AdamSmallRefIdeal.τ).loc Cert.AdamSmallRefIdeal.main_arg31) = m' ((c.tc : Thread Cert.AdamSmallRefIdeal.nD Cert.AdamSmallRefIdeal.τ).loc Cert.AdamSmallRefIdeal.main_arg31)
          ∧ r.2.mem ((c.tc : Thread Cert.AdamSmallRefIdeal.nD Cert.AdamSmallRefIdeal.τ).loc Cert.AdamSmallRefIdeal.main_arg32) = m' ((c.tc : Thread Cert.AdamSmallRefIdeal.nD Cert.AdamSmallRefIdeal.τ).loc Cert.AdamSmallRefIdeal.main_arg32)
          ∧ r.2.mem ((c.tc : Thread Cert.AdamSmallRefIdeal.nD Cert.AdamSmallRefIdeal.τ).loc Cert.AdamSmallRefIdeal.main_arg33) = m' ((c.tc : Thread Cert.AdamSmallRefIdeal.nD Cert.AdamSmallRefIdeal.τ).loc Cert.AdamSmallRefIdeal.main_arg33)
          ∧ r.2.mem ((c.tc : Thread Cert.AdamSmallRefIdeal.nD Cert.AdamSmallRefIdeal.τ).loc Cert.AdamSmallRefIdeal.main_arg34) = m' ((c.tc : Thread Cert.AdamSmallRefIdeal.nD Cert.AdamSmallRefIdeal.τ).loc Cert.AdamSmallRefIdeal.main_arg34)
          ∧ r.2.mem ((c.tc : Thread Cert.AdamSmallRefIdeal.nD Cert.AdamSmallRefIdeal.τ).loc Cert.AdamSmallRefIdeal.main_arg35) = m' ((c.tc : Thread Cert.AdamSmallRefIdeal.nD Cert.AdamSmallRefIdeal.τ).loc Cert.AdamSmallRefIdeal.main_arg35)
          ∧ r.2.mem ((c.tc : Thread Cert.AdamSmallRefIdeal.nD Cert.AdamSmallRefIdeal.τ).loc Cert.AdamSmallRefIdeal.main_arg36) = m' ((c.tc : Thread Cert.AdamSmallRefIdeal.nD Cert.AdamSmallRefIdeal.τ).loc Cert.AdamSmallRefIdeal.main_arg36)
          ∧ r.2.mem ((c.tc : Thread Cert.AdamSmallRefIdeal.nD Cert.AdamSmallRefIdeal.τ).loc Cert.AdamSmallRefIdeal.main_arg37) = m' ((c.tc : Thread Cert.AdamSmallRefIdeal.nD Cert.AdamSmallRefIdeal.τ).loc Cert.AdamSmallRefIdeal.main_arg37)
          ∧ r.2.mem ((c.tc : Thread Cert.AdamSmallRefIdeal.nD Cert.AdamSmallRefIdeal.τ).loc Cert.AdamSmallRefIdeal.main_arg38) = m' ((c.tc : Thread Cert.AdamSmallRefIdeal.nD Cert.AdamSmallRefIdeal.τ).loc Cert.AdamSmallRefIdeal.main_arg38)
          ∧ r.2.mem ((c.tc : Thread Cert.AdamSmallRefIdeal.nD Cert.AdamSmallRefIdeal.τ).loc Cert.AdamSmallRefIdeal.main_arg39) = m' ((c.tc : Thread Cert.AdamSmallRefIdeal.nD Cert.AdamSmallRefIdeal.τ).loc Cert.AdamSmallRefIdeal.main_arg39))

def preserves_Norm_NormIdeal : Prop :=
  True

def algebraic_NormIdeal_NormRefIdeal [hNormIdeal : Cert.NormIdeal.Facts] [hNormRefIdeal : Cert.NormRefIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormRefIdeal.nD Cert.NormRefIdeal.τ Cert.NormRefIdeal.sig) → Buf (Elt Ideal) ℓ) (g' : Dev Cert.NormRefIdeal.nD → PrngReg), Pre_NormIdeal m →
    (∀ c : Dev Cert.NormIdeal.nD,
      m' ((c.tc : Thread Cert.NormRefIdeal.nD Cert.NormRefIdeal.τ).loc Cert.NormRefIdeal.main_arg0) = m ((c.tc : Thread Cert.NormIdeal.nD Cert.NormIdeal.τ).loc Cert.NormIdeal.main_arg0)
      ∧ m' ((c.tc : Thread Cert.NormRefIdeal.nD Cert.NormRefIdeal.τ).loc Cert.NormRefIdeal.main_arg1) = m ((c.tc : Thread Cert.NormIdeal.nD Cert.NormIdeal.τ).loc Cert.NormIdeal.main_arg1)
      ∧ m' ((c.tc : Thread Cert.NormRefIdeal.nD Cert.NormRefIdeal.τ).loc Cert.NormRefIdeal.main_arg2) = m ((c.tc : Thread Cert.NormIdeal.nD Cert.NormIdeal.τ).loc Cert.NormIdeal.main_arg2)
      ∧ m' ((c.tc : Thread Cert.NormRefIdeal.nD Cert.NormRefIdeal.τ).loc Cert.NormRefIdeal.main_arg3) = m ((c.tc : Thread Cert.NormIdeal.nD Cert.NormIdeal.τ).loc Cert.NormIdeal.main_arg3)
      ∧ m' ((c.tc : Thread Cert.NormRefIdeal.nD Cert.NormRefIdeal.τ).loc Cert.NormRefIdeal.main_arg4) = m ((c.tc : Thread Cert.NormIdeal.nD Cert.NormIdeal.τ).loc Cert.NormIdeal.main_arg4)
      ∧ m' ((c.tc : Thread Cert.NormRefIdeal.nD Cert.NormRefIdeal.τ).loc Cert.NormRefIdeal.main_arg5) = m ((c.tc : Thread Cert.NormIdeal.nD Cert.NormIdeal.τ).loc Cert.NormIdeal.main_arg5)
      ∧ m' ((c.tc : Thread Cert.NormRefIdeal.nD Cert.NormRefIdeal.τ).loc Cert.NormRefIdeal.main_arg6) = m ((c.tc : Thread Cert.NormIdeal.nD Cert.NormIdeal.τ).loc Cert.NormIdeal.main_arg6)) →
    ∃ (v0 : (c : Dev Cert.NormIdeal.nD) → Buf (Elt Ideal) ((c.tc : Thread Cert.NormIdeal.nD Cert.NormIdeal.τ).loc Cert.NormIdeal.main_v0_0)) (v1 : (c : Dev Cert.NormIdeal.nD) → Buf (Elt Ideal) ((c.tc : Thread Cert.NormIdeal.nD Cert.NormIdeal.τ).loc Cert.NormIdeal.main_v0_1)) (v2 : (c : Dev Cert.NormIdeal.nD) → Buf (Elt Ideal) ((c.tc : Thread Cert.NormIdeal.nD Cert.NormIdeal.τ).loc Cert.NormIdeal.main_v0_2)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v0_0) = v0 c
          ∧ r.2.mem ((c.tc : Thread Cert.NormIdeal.nD Cert.NormIdeal.τ).loc Cert.NormIdeal.main_v0_1) = v1 c
          ∧ r.2.mem ((c.tc : Thread Cert.NormIdeal.nD Cert.NormIdeal.τ).loc Cert.NormIdeal.main_v0_2) = v2 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1)
          ∧ r.2.mem ((c.tc : Thread Cert.NormIdeal.nD Cert.NormIdeal.τ).loc Cert.NormIdeal.main_arg2) = m ((c.tc : Thread Cert.NormIdeal.nD Cert.NormIdeal.τ).loc Cert.NormIdeal.main_arg2)
          ∧ r.2.mem ((c.tc : Thread Cert.NormIdeal.nD Cert.NormIdeal.τ).loc Cert.NormIdeal.main_arg3) = m ((c.tc : Thread Cert.NormIdeal.nD Cert.NormIdeal.τ).loc Cert.NormIdeal.main_arg3)
          ∧ r.2.mem ((c.tc : Thread Cert.NormIdeal.nD Cert.NormIdeal.τ).loc Cert.NormIdeal.main_arg4) = m ((c.tc : Thread Cert.NormIdeal.nD Cert.NormIdeal.τ).loc Cert.NormIdeal.main_arg4)
          ∧ r.2.mem ((c.tc : Thread Cert.NormIdeal.nD Cert.NormIdeal.τ).loc Cert.NormIdeal.main_arg5) = m ((c.tc : Thread Cert.NormIdeal.nD Cert.NormIdeal.τ).loc Cert.NormIdeal.main_arg5)
          ∧ r.2.mem ((c.tc : Thread Cert.NormIdeal.nD Cert.NormIdeal.τ).loc Cert.NormIdeal.main_arg6) = m ((c.tc : Thread Cert.NormIdeal.nD Cert.NormIdeal.τ).loc Cert.NormIdeal.main_arg6))
      ∧ θ_run (Cert.NormRefIdeal.defs (F := Ideal)) (onTc (τ := Cert.NormRefIdeal.τ) (Cert.NormRefIdeal.main (F := Ideal))) ⟨m', fun _ => 0, g'⟩ (fun r => ∀ c : Dev Cert.NormRefIdeal.nD,
          r.2.mem ((c.tc : Thread Cert.NormRefIdeal.nD Cert.NormRefIdeal.τ).loc Cert.NormRefIdeal.main_v45) = v0 c
          ∧ r.2.mem ((c.tc : Thread Cert.NormRefIdeal.nD Cert.NormRefIdeal.τ).loc Cert.NormRefIdeal.main_v47) = v1 c
          ∧ r.2.mem ((c.tc : Thread Cert.NormRefIdeal.nD Cert.NormRefIdeal.τ).loc Cert.NormRefIdeal.main_v28) = v2 c
          ∧ r.2.mem ((c.tc : Thread Cert.NormRefIdeal.nD Cert.NormRefIdeal.τ).loc Cert.NormRefIdeal.main_arg0) = m' ((c.tc : Thread Cert.NormRefIdeal.nD Cert.NormRefIdeal.τ).loc Cert.NormRefIdeal.main_arg0)
          ∧ r.2.mem ((c.tc : Thread Cert.NormRefIdeal.nD Cert.NormRefIdeal.τ).loc Cert.NormRefIdeal.main_arg1) = m' ((c.tc : Thread Cert.NormRefIdeal.nD Cert.NormRefIdeal.τ).loc Cert.NormRefIdeal.main_arg1)
          ∧ r.2.mem ((c.tc : Thread Cert.NormRefIdeal.nD Cert.NormRefIdeal.τ).loc Cert.NormRefIdeal.main_arg2) = m' ((c.tc : Thread Cert.NormRefIdeal.nD Cert.NormRefIdeal.τ).loc Cert.NormRefIdeal.main_arg2)
          ∧ r.2.mem ((c.tc : Thread Cert.NormRefIdeal.nD Cert.NormRefIdeal.τ).loc Cert.NormRefIdeal.main_arg3) = m' ((c.tc : Thread Cert.NormRefIdeal.nD Cert.NormRefIdeal.τ).loc Cert.NormRefIdeal.main_arg3)
          ∧ r.2.mem ((c.tc : Thread Cert.NormRefIdeal.nD Cert.NormRefIdeal.τ).loc Cert.NormRefIdeal.main_arg4) = m' ((c.tc : Thread Cert.NormRefIdeal.nD Cert.NormRefIdeal.τ).loc Cert.NormRefIdeal.main_arg4)
          ∧ r.2.mem ((c.tc : Thread Cert.NormRefIdeal.nD Cert.NormRefIdeal.τ).loc Cert.NormRefIdeal.main_arg5) = m' ((c.tc : Thread Cert.NormRefIdeal.nD Cert.NormRefIdeal.τ).loc Cert.NormRefIdeal.main_arg5)
          ∧ r.2.mem ((c.tc : Thread Cert.NormRefIdeal.nD Cert.NormRefIdeal.τ).loc Cert.NormRefIdeal.main_arg6) = m' ((c.tc : Thread Cert.NormRefIdeal.nD Cert.NormRefIdeal.τ).loc Cert.NormRefIdeal.main_arg6))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)) →
    ∃ (v0 : (c : Dev Cert.LossIdeal.nD) → Buf (Elt Ideal) ((c.tc : Thread Cert.LossIdeal.nD Cert.LossIdeal.τ).loc Cert.LossIdeal.main_v0_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v0_3) = v0 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v41) = v0 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5))

def Claim : Prop :=
  ∃ (hKernel : Cert.Kernel.Facts) (hKernelIdeal : Cert.KernelIdeal.Facts) (hUpGrad : Cert.UpGrad.Facts) (hUpGradIdeal : Cert.UpGradIdeal.Facts) (hUpGradRefIdeal : Cert.UpGradRefIdeal.Facts) (hDownGrad : Cert.DownGrad.Facts) (hDownGradIdeal : Cert.DownGradIdeal.Facts) (hDownGradRefIdeal : Cert.DownGradRefIdeal.Facts) (hSquareGrad : Cert.SquareGrad.Facts) (hSquareGradIdeal : Cert.SquareGradIdeal.Facts) (hSquareGradRefIdeal : Cert.SquareGradRefIdeal.Facts) (hBranchGrad : Cert.BranchGrad.Facts) (hBranchGradIdeal : Cert.BranchGradIdeal.Facts) (hBranchGradRefIdeal : Cert.BranchGradRefIdeal.Facts) (hProjGrad : Cert.ProjGrad.Facts) (hProjGradIdeal : Cert.ProjGradIdeal.Facts) (hProjGradRefIdeal : Cert.ProjGradRefIdeal.Facts) (hInWideGrad : Cert.InWideGrad.Facts) (hInWideGradIdeal : Cert.InWideGradIdeal.Facts) (hInWideGradRefIdeal : Cert.InWideGradRefIdeal.Facts) (hInMidGrad : Cert.InMidGrad.Facts) (hInMidGradIdeal : Cert.InMidGradIdeal.Facts) (hInMidGradRefIdeal : Cert.InMidGradRefIdeal.Facts) (hInSmallGrad : Cert.InSmallGrad.Facts) (hInSmallGradIdeal : Cert.InSmallGradIdeal.Facts) (hInSmallGradRefIdeal : Cert.InSmallGradRefIdeal.Facts) (hInProj : Cert.InProj.Facts) (hInProjIdeal : Cert.InProjIdeal.Facts) (hInProjRefIdeal : Cert.InProjRefIdeal.Facts) (hBranchA : Cert.BranchA.Facts) (hBranchAIdeal : Cert.BranchAIdeal.Facts) (hBranchARefIdeal : Cert.BranchARefIdeal.Facts) (hBranchB : Cert.BranchB.Facts) (hBranchBIdeal : Cert.BranchBIdeal.Facts) (hBranchBRefIdeal : Cert.BranchBRefIdeal.Facts) (hPleProj : Cert.PleProj.Facts) (hPleProjIdeal : Cert.PleProjIdeal.Facts) (hPleProjRefIdeal : Cert.PleProjRefIdeal.Facts) (hOutGrad : Cert.OutGrad.Facts) (hOutGradIdeal : Cert.OutGradIdeal.Facts) (hOutGradRefIdeal : Cert.OutGradRefIdeal.Facts) (hMixedGrad : Cert.MixedGrad.Facts) (hMixedGradIdeal : Cert.MixedGradIdeal.Facts) (hMixedGradRefIdeal : Cert.MixedGradRefIdeal.Facts) (hFfnUp : Cert.FfnUp.Facts) (hFfnUpIdeal : Cert.FfnUpIdeal.Facts) (hFfnUpRefIdeal : Cert.FfnUpRefIdeal.Facts) (hMid : Cert.Mid.Facts) (hMidIdeal : Cert.MidIdeal.Facts) (hMidRefIdeal : Cert.MidRefIdeal.Facts) (hFfnDown : Cert.FfnDown.Facts) (hFfnDownIdeal : Cert.FfnDownIdeal.Facts) (hFfnDownRefIdeal : Cert.FfnDownRefIdeal.Facts) (hOutProj : Cert.OutProj.Facts) (hOutProjIdeal : Cert.OutProjIdeal.Facts) (hOutProjRefIdeal : Cert.OutProjRefIdeal.Facts) (hAdamFfn : Cert.AdamFfn.Facts) (hAdamFfnIdeal : Cert.AdamFfnIdeal.Facts) (hAdamFfnRefIdeal : Cert.AdamFfnRefIdeal.Facts) (hAdamIn : Cert.AdamIn.Facts) (hAdamInIdeal : Cert.AdamInIdeal.Facts) (hAdamInRefIdeal : Cert.AdamInRefIdeal.Facts) (hAdamSquare : Cert.AdamSquare.Facts) (hAdamSquareIdeal : Cert.AdamSquareIdeal.Facts) (hAdamSquareRefIdeal : Cert.AdamSquareRefIdeal.Facts) (hAdamBranch : Cert.AdamBranch.Facts) (hAdamBranchIdeal : Cert.AdamBranchIdeal.Facts) (hAdamBranchRefIdeal : Cert.AdamBranchRefIdeal.Facts) (hAdamProj : Cert.AdamProj.Facts) (hAdamProjIdeal : Cert.AdamProjIdeal.Facts) (hAdamProjRefIdeal : Cert.AdamProjRefIdeal.Facts) (hAdamSmall : Cert.AdamSmall.Facts) (hAdamSmallIdeal : Cert.AdamSmallIdeal.Facts) (hAdamSmallRefIdeal : Cert.AdamSmallRefIdeal.Facts) (hNorm : Cert.Norm.Facts) (hNormIdeal : Cert.NormIdeal.Facts) (hNormRefIdeal : Cert.NormRefIdeal.Facts) (hLoss : Cert.Loss.Facts) (hLossIdeal : Cert.LossIdeal.Facts) (hLossRefIdeal : Cert.LossRefIdeal.Facts) (hPre_finite_up : Cert.Pre_finite_up.Facts) (hPre_finite_mid : Cert.Pre_finite_mid.Facts) (hPre_finite_small : Cert.Pre_finite_small.Facts),
    quiescent_Kernel (hKernel := hKernel)
    ∧ quiescent_KernelIdeal (hKernelIdeal := hKernelIdeal)
    ∧ quiescent_UpGrad (hUpGrad := hUpGrad)
    ∧ quiescent_UpGradIdeal (hUpGradIdeal := hUpGradIdeal)
    ∧ quiescent_UpGradRefIdeal (hUpGradRefIdeal := hUpGradRefIdeal)
    ∧ quiescent_DownGrad (hDownGrad := hDownGrad)
    ∧ quiescent_DownGradIdeal (hDownGradIdeal := hDownGradIdeal)
    ∧ quiescent_DownGradRefIdeal (hDownGradRefIdeal := hDownGradRefIdeal)
    ∧ quiescent_SquareGrad (hSquareGrad := hSquareGrad)
    ∧ quiescent_SquareGradIdeal (hSquareGradIdeal := hSquareGradIdeal)
    ∧ quiescent_SquareGradRefIdeal (hSquareGradRefIdeal := hSquareGradRefIdeal)
    ∧ quiescent_BranchGrad (hBranchGrad := hBranchGrad)
    ∧ quiescent_BranchGradIdeal (hBranchGradIdeal := hBranchGradIdeal)
    ∧ quiescent_BranchGradRefIdeal (hBranchGradRefIdeal := hBranchGradRefIdeal)
    ∧ quiescent_ProjGrad (hProjGrad := hProjGrad)
    ∧ quiescent_ProjGradIdeal (hProjGradIdeal := hProjGradIdeal)
    ∧ quiescent_ProjGradRefIdeal (hProjGradRefIdeal := hProjGradRefIdeal)
    ∧ quiescent_InWideGrad (hInWideGrad := hInWideGrad)
    ∧ quiescent_InWideGradIdeal (hInWideGradIdeal := hInWideGradIdeal)
    ∧ quiescent_InWideGradRefIdeal (hInWideGradRefIdeal := hInWideGradRefIdeal)
    ∧ quiescent_InMidGrad (hInMidGrad := hInMidGrad)
    ∧ quiescent_InMidGradIdeal (hInMidGradIdeal := hInMidGradIdeal)
    ∧ quiescent_InMidGradRefIdeal (hInMidGradRefIdeal := hInMidGradRefIdeal)
    ∧ quiescent_InSmallGrad (hInSmallGrad := hInSmallGrad)
    ∧ quiescent_InSmallGradIdeal (hInSmallGradIdeal := hInSmallGradIdeal)
    ∧ quiescent_InSmallGradRefIdeal (hInSmallGradRefIdeal := hInSmallGradRefIdeal)
    ∧ quiescent_InProj (hInProj := hInProj)
    ∧ quiescent_InProjIdeal (hInProjIdeal := hInProjIdeal)
    ∧ quiescent_InProjRefIdeal (hInProjRefIdeal := hInProjRefIdeal)
    ∧ quiescent_BranchA (hBranchA := hBranchA)
    ∧ quiescent_BranchAIdeal (hBranchAIdeal := hBranchAIdeal)
    ∧ quiescent_BranchARefIdeal (hBranchARefIdeal := hBranchARefIdeal)
    ∧ quiescent_BranchB (hBranchB := hBranchB)
    ∧ quiescent_BranchBIdeal (hBranchBIdeal := hBranchBIdeal)
    ∧ quiescent_BranchBRefIdeal (hBranchBRefIdeal := hBranchBRefIdeal)
    ∧ quiescent_PleProj (hPleProj := hPleProj)
    ∧ quiescent_PleProjIdeal (hPleProjIdeal := hPleProjIdeal)
    ∧ quiescent_PleProjRefIdeal (hPleProjRefIdeal := hPleProjRefIdeal)
    ∧ quiescent_OutGrad (hOutGrad := hOutGrad)
    ∧ quiescent_OutGradIdeal (hOutGradIdeal := hOutGradIdeal)
    ∧ quiescent_OutGradRefIdeal (hOutGradRefIdeal := hOutGradRefIdeal)
    ∧ quiescent_MixedGrad (hMixedGrad := hMixedGrad)
    ∧ quiescent_MixedGradIdeal (hMixedGradIdeal := hMixedGradIdeal)
    ∧ quiescent_MixedGradRefIdeal (hMixedGradRefIdeal := hMixedGradRefIdeal)
    ∧ quiescent_FfnUp (hFfnUp := hFfnUp)
    ∧ quiescent_FfnUpIdeal (hFfnUpIdeal := hFfnUpIdeal)
    ∧ quiescent_FfnUpIdeal_pre_finite_up (hFfnUpIdeal := hFfnUpIdeal) (hPre_finite_up := hPre_finite_up)
    ∧ quiescent_FfnUpRefIdeal (hFfnUpRefIdeal := hFfnUpRefIdeal)
    ∧ quiescent_FfnUpRefIdeal_pre_finite_up (hFfnUpRefIdeal := hFfnUpRefIdeal) (hPre_finite_up := hPre_finite_up)
    ∧ quiescent_Mid (hMid := hMid)
    ∧ quiescent_MidIdeal (hMidIdeal := hMidIdeal)
    ∧ quiescent_MidIdeal_pre_finite_mid (hMidIdeal := hMidIdeal) (hPre_finite_mid := hPre_finite_mid)
    ∧ quiescent_MidRefIdeal (hMidRefIdeal := hMidRefIdeal)
    ∧ quiescent_MidRefIdeal_pre_finite_mid (hMidRefIdeal := hMidRefIdeal) (hPre_finite_mid := hPre_finite_mid)
    ∧ quiescent_FfnDown (hFfnDown := hFfnDown)
    ∧ quiescent_FfnDownIdeal (hFfnDownIdeal := hFfnDownIdeal)
    ∧ quiescent_FfnDownRefIdeal (hFfnDownRefIdeal := hFfnDownRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_AdamFfn (hAdamFfn := hAdamFfn)
    ∧ quiescent_AdamFfnIdeal (hAdamFfnIdeal := hAdamFfnIdeal)
    ∧ quiescent_AdamFfnRefIdeal (hAdamFfnRefIdeal := hAdamFfnRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_AdamSquare (hAdamSquare := hAdamSquare)
    ∧ quiescent_AdamSquareIdeal (hAdamSquareIdeal := hAdamSquareIdeal)
    ∧ quiescent_AdamSquareRefIdeal (hAdamSquareRefIdeal := hAdamSquareRefIdeal)
    ∧ quiescent_AdamBranch (hAdamBranch := hAdamBranch)
    ∧ quiescent_AdamBranchIdeal (hAdamBranchIdeal := hAdamBranchIdeal)
    ∧ quiescent_AdamBranchRefIdeal (hAdamBranchRefIdeal := hAdamBranchRefIdeal)
    ∧ quiescent_AdamProj (hAdamProj := hAdamProj)
    ∧ quiescent_AdamProjIdeal (hAdamProjIdeal := hAdamProjIdeal)
    ∧ quiescent_AdamProjRefIdeal (hAdamProjRefIdeal := hAdamProjRefIdeal)
    ∧ quiescent_AdamSmall (hAdamSmall := hAdamSmall)
    ∧ quiescent_AdamSmallIdeal (hAdamSmallIdeal := hAdamSmallIdeal)
    ∧ quiescent_AdamSmallIdeal_pre_finite_small (hAdamSmallIdeal := hAdamSmallIdeal) (hPre_finite_small := hPre_finite_small)
    ∧ quiescent_AdamSmallRefIdeal (hAdamSmallRefIdeal := hAdamSmallRefIdeal)
    ∧ quiescent_AdamSmallRefIdeal_pre_finite_small (hAdamSmallRefIdeal := hAdamSmallRefIdeal) (hPre_finite_small := hPre_finite_small)
    ∧ quiescent_Norm (hNorm := hNorm)
    ∧ quiescent_NormIdeal (hNormIdeal := hNormIdeal)
    ∧ quiescent_NormRefIdeal (hNormRefIdeal := hNormRefIdeal)
    ∧ quiescent_Loss (hLoss := hLoss)
    ∧ quiescent_LossIdeal (hLossIdeal := hLossIdeal)
    ∧ quiescent_LossRefIdeal (hLossRefIdeal := hLossRefIdeal)
    ∧ preserves_Kernel_KernelIdeal
    ∧ preserves_UpGrad_UpGradIdeal
    ∧ algebraic_UpGradIdeal_UpGradRefIdeal (hUpGradIdeal := hUpGradIdeal) (hUpGradRefIdeal := hUpGradRefIdeal)
    ∧ preserves_DownGrad_DownGradIdeal
    ∧ algebraic_DownGradIdeal_DownGradRefIdeal (hDownGradIdeal := hDownGradIdeal) (hDownGradRefIdeal := hDownGradRefIdeal)
    ∧ preserves_SquareGrad_SquareGradIdeal
    ∧ algebraic_SquareGradIdeal_SquareGradRefIdeal (hSquareGradIdeal := hSquareGradIdeal) (hSquareGradRefIdeal := hSquareGradRefIdeal)
    ∧ preserves_BranchGrad_BranchGradIdeal
    ∧ algebraic_BranchGradIdeal_BranchGradRefIdeal (hBranchGradIdeal := hBranchGradIdeal) (hBranchGradRefIdeal := hBranchGradRefIdeal)
    ∧ preserves_ProjGrad_ProjGradIdeal
    ∧ algebraic_ProjGradIdeal_ProjGradRefIdeal (hProjGradIdeal := hProjGradIdeal) (hProjGradRefIdeal := hProjGradRefIdeal)
    ∧ preserves_InWideGrad_InWideGradIdeal
    ∧ algebraic_InWideGradIdeal_InWideGradRefIdeal (hInWideGradIdeal := hInWideGradIdeal) (hInWideGradRefIdeal := hInWideGradRefIdeal)
    ∧ preserves_InMidGrad_InMidGradIdeal
    ∧ algebraic_InMidGradIdeal_InMidGradRefIdeal (hInMidGradIdeal := hInMidGradIdeal) (hInMidGradRefIdeal := hInMidGradRefIdeal)
    ∧ preserves_InSmallGrad_InSmallGradIdeal
    ∧ algebraic_InSmallGradIdeal_InSmallGradRefIdeal (hInSmallGradIdeal := hInSmallGradIdeal) (hInSmallGradRefIdeal := hInSmallGradRefIdeal)
    ∧ preserves_InProj_InProjIdeal
    ∧ algebraic_InProjIdeal_InProjRefIdeal (hInProjIdeal := hInProjIdeal) (hInProjRefIdeal := hInProjRefIdeal)
    ∧ preserves_BranchA_BranchAIdeal
    ∧ algebraic_BranchAIdeal_BranchARefIdeal (hBranchAIdeal := hBranchAIdeal) (hBranchARefIdeal := hBranchARefIdeal)
    ∧ preserves_BranchB_BranchBIdeal
    ∧ algebraic_BranchBIdeal_BranchBRefIdeal (hBranchBIdeal := hBranchBIdeal) (hBranchBRefIdeal := hBranchBRefIdeal)
    ∧ preserves_PleProj_PleProjIdeal
    ∧ algebraic_PleProjIdeal_PleProjRefIdeal (hPleProjIdeal := hPleProjIdeal) (hPleProjRefIdeal := hPleProjRefIdeal)
    ∧ preserves_OutGrad_OutGradIdeal
    ∧ algebraic_OutGradIdeal_OutGradRefIdeal (hOutGradIdeal := hOutGradIdeal) (hOutGradRefIdeal := hOutGradRefIdeal)
    ∧ preserves_MixedGrad_MixedGradIdeal
    ∧ algebraic_MixedGradIdeal_MixedGradRefIdeal (hMixedGradIdeal := hMixedGradIdeal) (hMixedGradRefIdeal := hMixedGradRefIdeal)
    ∧ preserves_FfnUp_FfnUpIdeal
    ∧ algebraic_FfnUpIdeal_FfnUpRefIdeal_pre_finite_up (hFfnUpIdeal := hFfnUpIdeal) (hFfnUpRefIdeal := hFfnUpRefIdeal) (hPre_finite_up := hPre_finite_up)
    ∧ preserves_Mid_MidIdeal
    ∧ algebraic_MidIdeal_MidRefIdeal_pre_finite_mid (hMidIdeal := hMidIdeal) (hMidRefIdeal := hMidRefIdeal) (hPre_finite_mid := hPre_finite_mid)
    ∧ preserves_FfnDown_FfnDownIdeal
    ∧ algebraic_FfnDownIdeal_FfnDownRefIdeal (hFfnDownIdeal := hFfnDownIdeal) (hFfnDownRefIdeal := hFfnDownRefIdeal)
    ∧ preserves_OutProj_OutProjIdeal
    ∧ algebraic_OutProjIdeal_OutProjRefIdeal (hOutProjIdeal := hOutProjIdeal) (hOutProjRefIdeal := hOutProjRefIdeal)
    ∧ preserves_AdamFfn_AdamFfnIdeal
    ∧ algebraic_AdamFfnIdeal_AdamFfnRefIdeal (hAdamFfnIdeal := hAdamFfnIdeal) (hAdamFfnRefIdeal := hAdamFfnRefIdeal)
    ∧ preserves_AdamIn_AdamInIdeal
    ∧ algebraic_AdamInIdeal_AdamInRefIdeal (hAdamInIdeal := hAdamInIdeal) (hAdamInRefIdeal := hAdamInRefIdeal)
    ∧ preserves_AdamSquare_AdamSquareIdeal
    ∧ algebraic_AdamSquareIdeal_AdamSquareRefIdeal (hAdamSquareIdeal := hAdamSquareIdeal) (hAdamSquareRefIdeal := hAdamSquareRefIdeal)
    ∧ preserves_AdamBranch_AdamBranchIdeal
    ∧ algebraic_AdamBranchIdeal_AdamBranchRefIdeal (hAdamBranchIdeal := hAdamBranchIdeal) (hAdamBranchRefIdeal := hAdamBranchRefIdeal)
    ∧ preserves_AdamProj_AdamProjIdeal
    ∧ algebraic_AdamProjIdeal_AdamProjRefIdeal (hAdamProjIdeal := hAdamProjIdeal) (hAdamProjRefIdeal := hAdamProjRefIdeal)
    ∧ preserves_AdamSmall_AdamSmallIdeal
    ∧ algebraic_AdamSmallIdeal_AdamSmallRefIdeal_pre_finite_small (hAdamSmallIdeal := hAdamSmallIdeal) (hAdamSmallRefIdeal := hAdamSmallRefIdeal) (hPre_finite_small := hPre_finite_small)
    ∧ preserves_Norm_NormIdeal
    ∧ algebraic_NormIdeal_NormRefIdeal (hNormIdeal := hNormIdeal) (hNormRefIdeal := hNormRefIdeal)
    ∧ preserves_Loss_LossIdeal
    ∧ algebraic_LossIdeal_LossRefIdeal (hLossIdeal := hLossIdeal) (hLossRefIdeal := hLossRefIdeal)
-- ==== Pre_finite_mid.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_
  bcast_S_S8192x2816 : S_.BroadcastsInDim S8192x2816 (![] : Fin 0 → Fin S8192x2816.rank)
  reducesTo_S8192x2816_S_d0_1 : S8192x2816.ReducesTo [0, 1] S_

variable [Facts]

def fn {F : FTy → Type} [FloatOps F] (main_arg0 : FVec F S8192x1024 .bf16) (main_arg1 : FVec F S2816x1024 .bf16) (main_arg2 : FVec F S8192x2816 .f32) (main_arg3 : FVec F S8192x2816 .f32) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .bf16 := Host.absf main_arg1
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  let main_v9 : FVec F S8192x2816 .f32 := Host.absf main_arg3
  let main_cst_2 : FVec F S_ .f32 := constant S_ .f32 0x7F800000#32
  let main_v10 : FVec F S8192x2816 .f32 := broadcastInDim S8192x2816 ![] bcast_S_S8192x2816 main_cst_2
  let main_v11 : IVec S8192x2816 1 := cmpf .olt main_v9 main_v10
  let main_c_3 : IVec S_ 1 := constantI S_ 1 1#1
  let main_v12 : IVec S_ 1 := (fun x v => Host.reduce IntOp.andi x v reducesTo_S8192x2816_S_d0_1 h_S_) main_v11 main_c_3
  let main_v13 : IVec S_ 1 := andi main_v8 main_v12
  main_v13
-- ==== Pre_finite_small.lean ====
abbrev S8x1x1024 : Shape := ⟨3, ![8, 1, 1024]⟩
abbrev S8x1x512 : Shape := ⟨3, ![8, 1, 512]⟩
abbrev S8x512x128 : Shape := ⟨3, ![8, 512, 128]⟩
abbrev S1x1024 : Shape := ⟨2, ![1, 1024]⟩
abbrev S2x1024 : Shape := ⟨2, ![2, 1024]⟩
abbrev S1x512 : Shape := ⟨2, ![1, 512]⟩
abbrev S512x128 : Shape := ⟨2, ![512, 128]⟩
abbrev S_ : Shape := ⟨0, ![]⟩

class Facts : Prop where
  bcast_S_S8x1x1024 : S_.BroadcastsInDim S8x1x1024 (![] : Fin 0 → Fin S8x1x1024.rank)
  reducesTo_S8x1x1024_S_d0_1_2 : S8x1x1024.ReducesTo [0, 1, 2] S_
  h_S_ : 0 < S_.numel
  bcast_S_S2x1024 : S_.BroadcastsInDim S2x1024 (![] : Fin 0 → Fin S2x1024.rank)
  reducesTo_S2x1024_S_d0_1 : S2x1024.ReducesTo [0, 1] S_

variable [Facts]

def fn {F : FTy → Type} [FloatOps F] (main_arg0 : FVec F S8x1x1024 .f32) (main_arg1 : FVec F S8x1x1024 .f32) (main_arg2 : FVec F S8x1x1024 .f32) (main_arg3 : FVec F S8x1x1024 .f32) (main_arg4 : FVec F S8x1x1024 .f32) (main_arg5 : FVec F S8x1x1024 .f32) (main_arg6 : FVec F S8x1x1024 .f32) (main_arg7 : FVec F S8x1x1024 .f32) (main_arg8 : FVec F S8x1x512 .f32) (main_arg9 : FVec F S8x512x128 .f32) (main_arg10 : FVec F S1x1024 .f32) (main_arg11 : FVec F S1x1024 .f32) (main_arg12 : FVec F S1x1024 .f32) (main_arg13 : FVec F S1x1024 .f32) (main_arg14 : FVec F S1x1024 .f32) (main_arg15 : FVec F S1x1024 .f32) (main_arg16 : FVec F S1x1024 .f32) (main_arg17 : FVec F S2x1024 .f32) (main_arg18 : FVec F S1x512 .f32) (main_arg19 : FVec F S512x128 .f32) (main_arg20 : FVec F S1x1024 .f32) (main_arg21 : FVec F S1x1024 .f32) (main_arg22 : FVec F S1x1024 .f32) (main_arg23 : FVec F S1x1024 .f32) (main_arg24 : FVec F S1x1024 .f32) (main_arg25 : FVec F S1x1024 .f32) (main_arg26 : FVec F S1x1024 .f32) (main_arg27 : FVec F S2x1024 .f32) (main_arg28 : FVec F S1x512 .f32) (main_arg29 : FVec F S512x128 .f32) (main_arg30 : FVec F S1x1024 .f32) (main_arg31 : FVec F S1x1024 .f32) (main_arg32 : FVec F S1x1024 .f32) (main_arg33 : FVec F S1x1024 .f32) (main_arg34 : FVec F S1x1024 .f32) (main_arg35 : FVec F S1x1024 .f32) (main_arg36 : FVec F S1x1024 .f32) (main_arg37 : FVec F S2x1024 .f32) (main_arg38 : FVec F S1x512 .f32) (main_arg39 : FVec F S512x128 .f32) : IVec S_ 1 :=
  let main_v0 : FVec F S8x1x1024 .f32 := Host.absf main_arg7
  let main_cst : FVec F S_ .f32 := constant S_ .f32 0x7F800000#32
  let main_v1 : FVec F S8x1x1024 .f32 := broadcastInDim S8x1x1024 ![] bcast_S_S8x1x1024 main_cst
  let main_v2 : IVec S8x1x1024 1 := cmpf .olt main_v0 main_v1
  let main_c : IVec S_ 1 := constantI S_ 1 1#1
  let main_v3 : IVec S_ 1 := (fun x v => Host.reduce IntOp.andi x v reducesTo_S8x1x1024_S_d0_1_2 h_S_) main_v2 main_c
  let main_v4 : FVec F S2x1024 .f32 := Host.absf main_arg17
  let main_cst_0 : FVec F S_ .f32 := constant S_ .f32 0x7F800000#32
  let main_v5 : FVec F S2x1024 .f32 := broadcastInDim S2x1024 ![] bcast_S_S2x1024 main_cst_0
  let main_v6 : IVec S2x1024 1 := cmpf .olt main_v4 main_v5
  let main_c_1 : IVec S_ 1 := constantI S_ 1 1#1
  let main_v7 : IVec S_ 1 := (fun x v => Host.reduce IntOp.andi x v reducesTo_S2x1024_S_d0_1 h_S_) main_v6 main_c_1
  let main_v8 : IVec S_ 1 := andi main_v3 main_v7
  main_v8
-- ==== Pre_finite_up.lean ====
abbrev S8192x1024 : Shape := ⟨2, ![8192, 1024]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2816x1024 : S_.BroadcastsInDim S2816x1024 (![] : Fin 0 → Fin S2816x1024.rank)
  reducesTo_S2816x1024_S_d0_1 : S2816x1024.ReducesTo [0, 1] S_

variable [Facts]

def fn {F : FTy → Type} [FloatOps F] (main_arg0 : FVec F S8192x1024 .bf16) (main_arg1 : FVec F S2816x1024 .bf16) (main_arg2 : FVec F S2816x1024 .bf16) : IVec S_ 1 :=
  let main_v0 : FVec F S8192x1024 .bf16 := Host.absf main_arg0
  let main_cst : FVec F S_ .bf16 := constant S_ .bf16 0x7F80#16
  let main_v1 : FVec F S8192x1024 .bf16 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S2816x1024 .bf16 := Host.absf main_arg2
  let main_cst_0 : FVec F S_ .bf16 := constant S_ .bf16 0x7F80#16
  let main_v5 : FVec F S2816x1024 .bf16 := broadcastInDim S2816x1024 ![] bcast_S_S2816x1024 main_cst_0
  let main_v6 : IVec S2816x1024 1 := cmpf .olt main_v4 main_v5
  let main_c_1 : IVec S_ 1 := constantI S_ 1 1#1
  let main_v7 : IVec S_ 1 := (fun x v => Host.reduce IntOp.andi x v reducesTo_S2816x1024_S_d0_1 h_S_) main_v6 main_c_1
  let main_v8 : IVec S_ 1 := andi main_v3 main_v7
  main_v8
-- ==== Kernel.lean ====
abbrev S8192x6656 : Shape := ⟨2, ![8192, 6656]⟩
abbrev S2x1024 : Shape := ⟨2, ![2, 1024]⟩
abbrev S8192x1024 : Shape := ⟨2, ![8192, 1024]⟩
abbrev S8x128x128x128 : Shape := ⟨4, ![8, 128, 128, 128]⟩
abbrev S512x1024 : Shape := ⟨2, ![512, 1024]⟩
abbrev S8x8x128x128 : Shape := ⟨4, ![8, 8, 128, 128]⟩
abbrev S8x128x128 : Shape := ⟨3, ![8, 128, 128]⟩
abbrev S64x1024 : Shape := ⟨2, ![64, 1024]⟩
abbrev S8x64x64 : Shape := ⟨3, ![8, 64, 64]⟩
abbrev S1x1024 : Shape := ⟨2, ![1, 1024]⟩
abbrev S64x64 : Shape := ⟨2, ![64, 64]⟩
abbrev S1x128x128 : Shape := ⟨3, ![1, 128, 128]⟩
abbrev S128x128 : Shape := ⟨2, ![128, 128]⟩
abbrev S1x1x128x128 : Shape := ⟨4, ![1, 1, 128, 128]⟩
abbrev S32x1024 : Shape := ⟨2, ![32, 1024]⟩
abbrev S32x128 : Shape := ⟨2, ![32, 128]⟩
abbrev S64x128 : Shape := ⟨2, ![64, 128]⟩
abbrev S32x64 : Shape := ⟨2, ![32, 64]⟩
abbrev S1x32x64 : Shape := ⟨3, ![1, 32, 64]⟩
abbrev S1x64x64 : Shape := ⟨3, ![1, 64, 64]⟩
abbrev S1x128 : Shape := ⟨2, ![1, 128]⟩
abbrev S8192x3072 : Shape := ⟨2, ![8192, 3072]⟩
abbrev S512x3072 : Shape := ⟨2, ![512, 3072]⟩
abbrev S64 : Shape := ⟨1, ![64]⟩
abbrev S64x1 : Shape := ⟨2, ![64, 1]⟩
abbrev S128 : Shape := ⟨1, ![128]⟩
abbrev S1024 : Shape := ⟨1, ![1024]⟩

abbrev nBuf : Space → Nat
  | .hbm => 7
  | .vmem => 33
  | .smem => 0
  | _ => 0

abbrev bufTy : (tb : Table) → Fin (tcTables nBuf tb) → BufTy
  | .hbm, ⟨0, _⟩ => ⟨S8192x6656, .bf16⟩
  | .hbm, ⟨1, _⟩ => ⟨S2x1024, .f32⟩
  | .hbm, ⟨2, _⟩ => ⟨S8192x1024, .bf16⟩
  | .hbm, ⟨3, _⟩ => ⟨S8192x1024, .bf16⟩
  | .hbm, ⟨4, _⟩ => ⟨S8x128x128x128, .f32⟩
  | .hbm, ⟨5, _⟩ => ⟨S8192x3072, .bf16⟩
  | .hbm, ⟨6, _⟩ => ⟨S1x1024, .f32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S2x1024, .f32⟩
  | .local _ .vmem, ⟨7, _⟩ => ⟨S512x1024, .bf16⟩
  | .local _ .vmem, ⟨8, _⟩ => ⟨S512x1024, .bf16⟩
  | .local _ .vmem, ⟨9, _⟩ => ⟨S8x8x128x128, .f32⟩
  | .local _ .vmem, ⟨10, _⟩ => ⟨S8x8x128x128, .f32⟩
  | .local _ .vmem, ⟨11, _⟩ => ⟨S8x128x128, .f32⟩
  | .local _ .vmem, ⟨12, _⟩ => ⟨S64x1024, .f32⟩
  | .local _ .vmem, ⟨13, _⟩ => ⟨S8x64x64, .f32⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | .local _ .vmem, ⟨18, _⟩ => ⟨S512x1024, .bf16⟩
  | .local _ .vmem, ⟨19, _⟩ => ⟨S512x1024, .bf16⟩
  | .local _ .vmem, ⟨20, _⟩ => ⟨S2x1024, .f32⟩
  | .local _ .vmem, ⟨21, _⟩ => ⟨S512x1024, .bf16⟩
  | .local _ .vmem, ⟨22, _⟩ => ⟨S512x1024, .bf16⟩
  | .local _ .vmem, ⟨23, _⟩ => ⟨S8x8x128x128, .f32⟩
  | .local _ .vmem, ⟨24, _⟩ => ⟨S8x8x128x128, .f32⟩
  | .local _ .vmem, ⟨25, _⟩ => ⟨S512x3072, .bf16⟩
  | .local _ .vmem, ⟨26, _⟩ => ⟨S512x3072, .bf16⟩
  | .local _ .vmem, ⟨27, _⟩ => ⟨S1x1024, .f32⟩
  | .local _ .vmem, ⟨28, _⟩ => ⟨S8x128x128, .f32⟩
  | .local _ .vmem, ⟨29, _⟩ => ⟨S64x1024, .f32⟩
  | .local _ .vmem, ⟨30, _⟩ => ⟨S8x64x64, .f32⟩
  | .local _ .vmem, ⟨31, _⟩ => ⟨S64x1024, .f32⟩
  | .local _ .vmem, ⟨32, _⟩ => ⟨S64x1024, .f32⟩
  | _, _ => ⟨S8192x6656, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_stg7_0 : Ref sig .tc := ⟨.vmem, 27, rfl⟩
abbrev cc1_scratch0 : Ref sig .tc := ⟨.vmem, 28, rfl⟩
abbrev cc1_scratch1 : Ref sig .tc := ⟨.vmem, 29, rfl⟩
abbrev cc1_scratch2 : Ref sig .tc := ⟨.vmem, 30, rfl⟩
abbrev cc1_scratch3 : Ref sig .tc := ⟨.vmem, 31, rfl⟩
abbrev cc1_scratch4 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23
abbrev cc1_sem7_0 : DmaSem sig := 24

abbrev nD : Nat := 1
abbrev τ : Topo := Topo.v7x

variable {F : FTy → Type} [FloatOps F]

abbrev grid0 : Pipeline.Grid := ⟨2, ![1, 16], ![false, false]⟩

@[reducible] def k0_t1_loop : Scf.Loop 32 :=
  let c0_i32_6 : BitVec 32 := 0#32
  let c8_i32 : BitVec 32 := 8#32
  let v19 : BitVec 32 := Scalar.addi c0_i32_6 c8_i32
  let c1_i32 : BitVec 32 := 1#32
  ⟨c0_i32_6, v19, c1_i32⟩
def k0_mult1 (k0_t1 : Fin k0_t1_loop.trips) : BitVec 32 :=
  let c0_i32_6 : BitVec 32 := 0#32
  let c1_i32 : BitVec 32 := 1#32
  let arg11 : BitVec 32 := Scf.iv c0_i32_6 c1_i32 k0_t1
  let c64_i32 : BitVec 32 := 64#32
  let v20 : BitVec 32 := Scalar.muli arg11 c64_i32
  v20
def k0_off1 (k0_t1 : Fin k0_t1_loop.trips) : Fin 2 → Nat :=
  let c0_i32_6 : BitVec 32 := 0#32
  let c1_i32 : BitVec 32 := 1#32
  let arg11 : BitVec 32 := Scf.iv c0_i32_6 c1_i32 k0_t1
  let c64_i32 : BitVec 32 := 64#32
  let v20 : BitVec 32 := Scalar.muli arg11 c64_i32
  let v21 : BitVec 32 := v20
  let v22 : Index := Scalar.indexCast v21
  let c0_8 : Index := 0#32
  ![v22.toNat, 0]
def k0_off2 (k0_t1 : Fin k0_t1_loop.trips) : Fin 4 → Nat :=
  let c0_41 : Index := 0#32
  let c0_i32_6 : BitVec 32 := 0#32
  let c1_i32 : BitVec 32 := 1#32
  let arg11 : BitVec 32 := Scf.iv c0_i32_6 c1_i32 k0_t1
  let v81 : Index := Scalar.indexCast arg11
  let c0_42 : Index := 0#32
  let c0_43 : Index := 0#32
  ![0, v81.toNat, 0, 0]
def k0_off3 (k0_t1 : Fin k0_t1_loop.trips) : Fin 4 → Nat :=
  let c1_44 : Index := 1#32
  let c0_i32_6 : BitVec 32 := 0#32
  let c1_i32 : BitVec 32 := 1#32
  let arg11 : BitVec 32 := Scf.iv c0_i32_6 c1_i32 k0_t1
  let v85 : Index := Scalar.indexCast arg11
  let c0_45 : Index := 0#32
  let c0_46 : Index := 0#32
  ![1, v85.toNat, 0, 0]
def k0_off4 (k0_t1 : Fin k0_t1_loop.trips) : Fin 4 → Nat :=
  let c2_47 : Index := 2#32
  let c0_i32_6 : BitVec 32 := 0#32
  let c1_i32 : BitVec 32 := 1#32
  let arg11 : BitVec 32 := Scf.iv c0_i32_6 c1_i32 k0_t1
  let v89 : Index := Scalar.indexCast arg11
  let c0_48 : Index := 0#32
  let c0_49 : Index := 0#32
  ![2, v89.toNat, 0, 0]
def k0_off5 (k0_t1 : Fin k0_t1_loop.trips) : Fin 4 → Nat :=
  let c3_50 : Index := 3#32
  let c0_i32_6 : BitVec 32 := 0#32
  let c1_i32 : BitVec 32 := 1#32
  let arg11 : BitVec 32 := Scf.iv c0_i32_6 c1_i32 k0_t1
  let v93 : Index := Scalar.indexCast arg11
  let c0_51 : Index := 0#32
  let c0_52 : Index := 0#32
  ![3, v93.toNat, 0, 0]
def k0_off6 (k0_t1 : Fin k0_t1_loop.trips) : Fin 4 → Nat :=
  let c4_53 : Index := 4#32
  let c0_i32_6 : BitVec 32 := 0#32
  let c1_i32 : BitVec 32 := 1#32
  let arg11 : BitVec 32 := Scf.iv c0_i32_6 c1_i32 k0_t1
  let v97 : Index := Scalar.indexCast arg11
  let c0_54 : Index := 0#32
  let c0_55 : Index := 0#32
  ![4, v97.toNat, 0, 0]
def k0_off7 (k0_t1 : Fin k0_t1_loop.trips) : Fin 4 → Nat :=
  let c5_56 : Index := 5#32
  let c0_i32_6 : BitVec 32 := 0#32
  let c1_i32 : BitVec 32 := 1#32
  let arg11 : BitVec 32 := Scf.iv c0_i32_6 c1_i32 k0_t1
  let v101 : Index := Scalar.indexCast arg11
  let c0_57 : Index := 0#32
  let c0_58 : Index := 0#32
  ![5, v101.toNat, 0, 0]
def k0_off8 (k0_t1 : Fin k0_t1_loop.trips) : Fin 4 → Nat :=
  let c6_59 : Index := 6#32
  let c0_i32_6 : BitVec 32 := 0#32
  let c1_i32 : BitVec 32 := 1#32
  let arg11 : BitVec 32 := Scf.iv c0_i32_6 c1_i32 k0_t1
  let v105 : Index := Scalar.indexCast arg11
  let c0_60 : Index := 0#32
  let c0_61 : Index := 0#32
  ![6, v105.toNat, 0, 0]
def k0_off9 (k0_t1 : Fin k0_t1_loop.trips) : Fin 4 → Nat :=
  let c7_62 : Index := 7#32
  let c0_i32_6 : BitVec 32 := 0#32
  let c1_i32 : BitVec 32 := 1#32
  let arg11 : BitVec 32 := Scf.iv c0_i32_6 c1_i32 k0_t1
  let v109 : Index := Scalar.indexCast arg11
  let c0_63 : Index := 0#32
  let c0_64 : Index := 0#32
  ![7, v109.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi c1_i32 arg0
  let c0_i32 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x8x128x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev grid1 : Pipeline.Grid := ⟨2, ![1, 16], ![false, false]⟩

@[reducible] def k1_t1_loop : Scf.Loop 32 :=
  let c0_i32_9 : BitVec 32 := 0#32
  let c8_i32 : BitVec 32 := 8#32
  let v25 : BitVec 32 := Scalar.addi c0_i32_9 c8_i32
  let c1_i32 : BitVec 32 := 1#32
  ⟨c0_i32_9, v25, c1_i32⟩
def k1_mult1 (k1_t1 : Fin k1_t1_loop.trips) : BitVec 32 :=
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let c64_i32 : BitVec 32 := 64#32
  let v34 : BitVec 32 := Scalar.muli v33 c64_i32
  v34
def k1_off1 (k1_t1 : Fin k1_t1_loop.trips) : Fin 2 → Nat :=
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let c64_i32 : BitVec 32 := 64#32
  let v34 : BitVec 32 := Scalar.muli v33 c64_i32
  let v35 : BitVec 32 := v34
  let v36 : Index := Scalar.indexCast v35
  let c0_16 : Index := 0#32
  ![v36.toNat, 0]
def k1_off2 (k1_t1 : Fin k1_t1_loop.trips) : Fin 4 → Nat :=
  let c0_32 : Index := 0#32
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let v82 : Index := Scalar.indexCast v33
  let c0_33 : Index := 0#32
  let c0_34 : Index := 0#32
  ![0, v82.toNat, 0, 0]
def k1_off3 (k1_t1 : Fin k1_t1_loop.trips) : Fin 4 → Nat :=
  let c1_35 : Index := 1#32
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let v85 : Index := Scalar.indexCast v33
  let c0_36 : Index := 0#32
  let c0_37 : Index := 0#32
  ![1, v85.toNat, 0, 0]
def k1_off4 (k1_t1 : Fin k1_t1_loop.trips) : Fin 4 → Nat :=
  let c2 : Index := 2#32
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let v88 : Index := Scalar.indexCast v33
  let c0_38 : Index := 0#32
  let c0_39 : Index := 0#32
  ![2, v88.toNat, 0, 0]
def k1_off5 (k1_t1 : Fin k1_t1_loop.trips) : Fin 4 → Nat :=
  let c3 : Index := 3#32
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let v91 : Index := Scalar.indexCast v33
  let c0_40 : Index := 0#32
  let c0_41 : Index := 0#32
  ![3, v91.toNat, 0, 0]
def k1_off6 (k1_t1 : Fin k1_t1_loop.trips) : Fin 4 → Nat :=
  let c4 : Index := 4#32
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let v94 : Index := Scalar.indexCast v33
  let c0_42 : Index := 0#32
  let c0_43 : Index := 0#32
  ![4, v94.toNat, 0, 0]
def k1_off7 (k1_t1 : Fin k1_t1_loop.trips) : Fin 4 → Nat :=
  let c5 : Index := 5#32
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let v97 : Index := Scalar.indexCast v33
  let c0_44 : Index := 0#32
  let c0_45 : Index := 0#32
  ![5, v97.toNat, 0, 0]
def k1_off8 (k1_t1 : Fin k1_t1_loop.trips) : Fin 4 → Nat :=
  let c6 : Index := 6#32
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let v100 : Index := Scalar.indexCast v33
  let c0_46 : Index := 0#32
  let c0_47 : Index := 0#32
  ![6, v100.toNat, 0, 0]
def k1_off9 (k1_t1 : Fin k1_t1_loop.trips) : Fin 4 → Nat :=
  let c7 : Index := 7#32
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let v103 : Index := Scalar.indexCast v33
  let c0_48 : Index := 0#32
  let c0_49 : Index := 0#32
  ![7, v103.toNat, 0, 0]
def k1_off10 (k1_t1 : Fin k1_t1_loop.trips) : Fin 2 → Nat :=
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let c64_i32 : BitVec 32 := 64#32
  let v34 : BitVec 32 := Scalar.muli v33 c64_i32
  let v35 : BitVec 32 := v34
  let v755 : Index := Scalar.indexCast v35
  let c0_320 : Index := 0#32
  ![v755.toNat, 0]
def k1_off11 (k1_t1 : Fin k1_t1_loop.trips) : Fin 2 → Nat :=
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let c64_i32 : BitVec 32 := 64#32
  let v34 : BitVec 32 := Scalar.muli v33 c64_i32
  let v35 : BitVec 32 := v34
  let v766 : Index := Scalar.indexCast v35
  let c1024 : Index := 1024#32
  ![v766.toNat, 1024]
def k1_off12 (k1_t1 : Fin k1_t1_loop.trips) : Fin 2 → Nat :=
  let c7_i32 : BitVec 32 := 7#32
  let c0_i32_9 : BitVec 32 := 0#32
  let c1_i32 : BitVec 32 := 1#32
  let arg15 : BitVec 32 := Scf.iv c0_i32_9 c1_i32 k1_t1
  let v33 : BitVec 32 := Scalar.subi c7_i32 arg15
  let c64_i32 : BitVec 32 := 64#32
  let v34 : BitVec 32 := Scalar.muli v33 c64_i32
  let v35 : BitVec 32 := v34
  let v769 : Index := Scalar.indexCast v35
  let c2048 : Index := 2048#32
  ![v769.toNat, 2048]
def cc1_transform_0 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let v1 : BitVec 32 := Scalar.addi c0_i32 arg0
  let c0_i32_0 : BitVec 32 := 0#32
  ![v0.toNat, v1.toNat]

def cc1_transform_1 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c1_i32 : BitVec 32 := 1#32
  let v1 : BitVec 32 := Scalar.addi c1_i32 arg0
  let c0_i32 : BitVec 32 := 0#32
  ![v0.toNat, v1.toNat]

def cc1_transform_2 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c2_i32 : BitVec 32 := 2#32
  let v1 : BitVec 32 := Scalar.addi c2_i32 arg0
  let c0_i32 : BitVec 32 := 0#32
  ![v0.toNat, v1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  ![v0.toNat, arg0.toNat]

def cc1_transform_5 (i : grid1.Coords) : Fin 4 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  let c0_i32_1 : BitVec 32 := 0#32
  ![arg0.toNat, v0.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.subi c15_i32 arg1
  let c0_i32 : BitVec 32 := 0#32
  let c0_i32_0 : BitVec 32 := 0#32
  ![v0.toNat, c0_i32.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S2x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![true, false]

abbrev stage1_4 : Fin 2 → Memref sig .tc .vmem S512x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S8x8x128x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S512x3072 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![false, true]

abbrev stage1_7 : Fin 1 → Memref sig .tc .vmem S1x1024 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![true, false]
-- ==== KernelIdeal.lean ====
variable {F : FTy → Type} [FloatOps F] [Named F]
def κ : String → Option EReal := fun
  | "mask" => some ⊥
  | _ => none
-- ==== UpGrad.lean ====
abbrev S8192x1024 : Shape := ⟨2, ![8192, 1024]⟩
abbrev S8192x2816 : Shape := ⟨2, ![8192, 2816]⟩
abbrev S2816x1024 : Shape := ⟨2, ![2816, 1024]⟩
abbrev S1024x1024 : Shape := ⟨2, ![1024, 1024]⟩
abbrev S1024x2816 : Shape := ⟨2, ![1024, 2816]⟩
abbrev S1024x256 : Shape := ⟨2, ![1024, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S2816x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x2816, .bf16⟩
  | .local _ .vmem, ⟨3, _⟩ => ⟨S1024x2816, .bf16⟩
  | .local _ .vmem, ⟨4, _⟩ => ⟨S2816x1024, .bf16⟩
  | .local _ .vmem, ⟨5, _⟩ => ⟨S1024x2816, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== UpGradRefIdeal.lean ====
abbrev S8192x1024 : Shape := ⟨2, ![8192, 1024]⟩
abbrev S8192x2816 : Shape := ⟨2, ![8192, 2816]⟩
abbrev S_ : Shape := ⟨0, ![]⟩
abbrev S1024x2816 : Shape := ⟨2, ![1024, 2816]⟩
abbrev S2816x1024 : Shape := ⟨2, ![2816, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x2816, .bf16⟩
  | .hbm, ⟨2, _⟩ => ⟨S_, .f32⟩
  | .hbm, ⟨3, _⟩ => ⟨S1024x2816, .f32⟩
  | .hbm, ⟨4, _⟩ => ⟨S8192x1024, .f32⟩
  | .hbm, ⟨5, _⟩ => ⟨S8192x2816, .f32⟩
  | .hbm, ⟨6, _⟩ => ⟨S8192x2816, .f32⟩
  | .hbm, ⟨7, _⟩ => ⟨S2816x1024, .f32⟩
  | .hbm, ⟨8, _⟩ => ⟨S1024x2816, .f32⟩
  | .hbm, ⟨9, _⟩ => ⟨S2816x1024, .f32⟩
  | .hbm, ⟨10, _⟩ => ⟨S2816x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== DownGrad.lean ====
abbrev S8192x2816 : Shape := ⟨2, ![8192, 2816]⟩
abbrev S8192x1024 : Shape := ⟨2, ![8192, 1024]⟩
abbrev S2816x1024 : Shape := ⟨2, ![2816, 1024]⟩
abbrev S1024x2816 : Shape := ⟨2, ![1024, 2816]⟩
abbrev S1024x1024 : Shape := ⟨2, ![1024, 1024]⟩
abbrev S2816x256 : Shape := ⟨2, ![2816, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S2816x1024, .bf16⟩
  | .local _ .vmem, ⟨0, _⟩ => ⟨S1024x2816, .bf16⟩
  | .local _ .vmem, ⟨1, _⟩ => ⟨S1024x2816, .bf16⟩
  | .local _ .vmem, ⟨2, _⟩ => ⟨S1024x1024, .bf16⟩
  | .local _ .vmem, ⟨3, _⟩ => ⟨S1024x1024, .bf16⟩
  | .local _ .vmem, ⟨4, _⟩ => ⟨S2816x1024, .bf16⟩
  | .local _ .vmem, ⟨5, _⟩ => ⟨S2816x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== DownGradRefIdeal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 10
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S2816x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== SquareGrad.lean ====
abbrev S8192x1024 : Shape := ⟨2, ![8192, 1024]⟩
abbrev S1024x1024 : Shape := ⟨2, ![1024, 1024]⟩
abbrev S1024x256 : Shape := ⟨2, ![1024, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== SquareGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 10
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== BranchGrad.lean ====
abbrev S8192x512 : Shape := ⟨2, ![8192, 512]⟩
abbrev S8192x1024 : Shape := ⟨2, ![8192, 1024]⟩
abbrev S1024x512 : Shape := ⟨2, ![1024, 512]⟩
abbrev S1024x1024 : Shape := ⟨2, ![1024, 1024]⟩
abbrev S512x1024 : Shape := ⟨2, ![512, 1024]⟩
abbrev S512x256 : Shape := ⟨2, ![512, 256]⟩
abbrev S256x512 : Shape := ⟨2, ![256, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S1024x512, .bf16⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .bf16⟩
  | .local _ .vmem, ⟨5, _⟩ => ⟨S512x1024, .f32⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== BranchGradRefIdeal.lean ====
abbrev S8192x512 : Shape := ⟨2, ![8192, 512]⟩
abbrev S8192x1024 : Shape := ⟨2, ![8192, 1024]⟩
abbrev S_ : Shape := ⟨0, ![]⟩
abbrev S512x1024 : Shape := ⟨2, ![512, 1024]⟩
abbrev S1024x512 : Shape := ⟨2, ![1024, 512]⟩

abbrev nBuf : Space → Nat
  | .hbm => 11
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S8192x1024, .bf16⟩
  | .hbm, ⟨2, _⟩ => ⟨S_, .f32⟩
  | .hbm, ⟨3, _⟩ => ⟨S512x1024, .f32⟩
  | .hbm, ⟨4, _⟩ => ⟨S8192x512, .f32⟩
  | .hbm, ⟨5, _⟩ => ⟨S8192x1024, .f32⟩
  | .hbm, ⟨6, _⟩ => ⟨S8192x1024, .f32⟩
  | .hbm, ⟨7, _⟩ => ⟨S1024x512, .f32⟩
  | .hbm, ⟨8, _⟩ => ⟨S512x1024, .f32⟩
  | .hbm, ⟨9, _⟩ => ⟨S1024x512, .f32⟩
  | .hbm, ⟨10, _⟩ => ⟨S1024x512, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== ProjGrad.lean ====
abbrev S8192x256 : Shape := ⟨2, ![8192, 256]⟩
abbrev S8192x1024 : Shape := ⟨2, ![8192, 1024]⟩
abbrev S1024x256 : Shape := ⟨2, ![1024, 256]⟩
abbrev S1024x1024 : Shape := ⟨2, ![1024, 1024]⟩
abbrev S256x1024 : Shape := ⟨2, ![256, 1024]⟩
abbrev S256x256 : Shape := ⟨2, ![256, 256]⟩

abbrev nBuf : Space → Nat
  | .hbm => 3
  | .vmem => 6
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S1024x256, .bf16⟩
  | .local _ .vmem, ⟨0, _⟩ => ⟨S1024x256, .bf16⟩
  | .local _ .vmem, ⟨1, _⟩ => ⟨S1024x256, .bf16⟩
  | .local _ .vmem, ⟨2, _⟩ => ⟨S1024x1024, .bf16⟩
  | .local _ .vmem, ⟨3, _⟩ => ⟨S1024x1024, .bf16⟩
  | .local _ .vmem, ⟨4, _⟩ => ⟨S1024x256, .bf16⟩
  | .local _ .vmem, ⟨5, _⟩ => ⟨S256x1024, .f32⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== ProjGradRefIdeal.lean ====
abbrev S8192x256 : Shape := ⟨2, ![8192, 256]⟩
abbrev S8192x1024 : Shape := ⟨2, ![8192, 1024]⟩
abbrev S_ : Shape := ⟨0, ![]⟩
abbrev S256x1024 : Shape := ⟨2, ![256, 1024]⟩
abbrev S1024x256 : Shape := ⟨2, ![1024, 256]⟩

abbrev nBuf : Space → Nat
  | .hbm => 11
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S8192x1024, .bf16⟩
  | .hbm, ⟨2, _⟩ => ⟨S_, .f32⟩
  | .hbm, ⟨3, _⟩ => ⟨S256x1024, .f32⟩
  | .hbm, ⟨4, _⟩ => ⟨S8192x256, .f32⟩
  | .hbm, ⟨5, _⟩ => ⟨S8192x1024, .f32⟩
  | .hbm, ⟨6, _⟩ => ⟨S8192x1024, .f32⟩
  | .hbm, ⟨7, _⟩ => ⟨S1024x256, .f32⟩
  | .hbm, ⟨8, _⟩ => ⟨S256x1024, .f32⟩
  | .hbm, ⟨9, _⟩ => ⟨S1024x256, .f32⟩
  | .hbm, ⟨10, _⟩ => ⟨S1024x256, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InWideGrad.lean ====
abbrev S8192x1024 : Shape := ⟨2, ![8192, 1024]⟩
abbrev S8192x3072 : Shape := ⟨2, ![8192, 3072]⟩
abbrev S3072x1024 : Shape := ⟨2, ![3072, 1024]⟩
abbrev S1024x1024 : Shape := ⟨2, ![1024, 1024]⟩
abbrev S1024x3072 : Shape := ⟨2, ![1024, 3072]⟩
abbrev S1024x256 : Shape := ⟨2, ![1024, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S3072x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x3072, .bf16⟩
  | .local _ .vmem, ⟨3, _⟩ => ⟨S1024x3072, .bf16⟩
  | .local _ .vmem, ⟨4, _⟩ => ⟨S3072x1024, .bf16⟩
  | .local _ .vmem, ⟨5, _⟩ => ⟨S1024x3072, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S3072x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== InWideGradRefIdeal.lean ====
abbrev S8192x1024 : Shape := ⟨2, ![8192, 1024]⟩
abbrev S8192x3072 : Shape := ⟨2, ![8192, 3072]⟩
abbrev S_ : Shape := ⟨0, ![]⟩
abbrev S1024x3072 : Shape := ⟨2, ![1024, 3072]⟩
abbrev S3072x1024 : Shape := ⟨2, ![3072, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x3072, .bf16⟩
  | .hbm, ⟨2, _⟩ => ⟨S_, .f32⟩
  | .hbm, ⟨3, _⟩ => ⟨S1024x3072, .f32⟩
  | .hbm, ⟨4, _⟩ => ⟨S8192x1024, .f32⟩
  | .hbm, ⟨5, _⟩ => ⟨S8192x3072, .f32⟩
  | .hbm, ⟨6, _⟩ => ⟨S8192x3072, .f32⟩
  | .hbm, ⟨7, _⟩ => ⟨S3072x1024, .f32⟩
  | .hbm, ⟨8, _⟩ => ⟨S1024x3072, .f32⟩
  | .hbm, ⟨9, _⟩ => ⟨S3072x1024, .f32⟩
  | .hbm, ⟨10, _⟩ => ⟨S3072x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InMidGrad.lean ====
abbrev S8192x1024 : Shape := ⟨2, ![8192, 1024]⟩
abbrev S1024x1024 : Shape := ⟨2, ![1024, 1024]⟩
abbrev S1024x256 : Shape := ⟨2, ![1024, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S1024x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== InMidGradRefIdeal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S1024x1024, .f32⟩
  | .hbm, ⟨10, _⟩ => ⟨S1024x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InSmallGrad.lean ====
abbrev S8192x1024 : Shape := ⟨2, ![8192, 1024]⟩
abbrev S8192x512 : Shape := ⟨2, ![8192, 512]⟩
abbrev S512x1024 : Shape := ⟨2, ![512, 1024]⟩
abbrev S1024x1024 : Shape := ⟨2, ![1024, 1024]⟩
abbrev S1024x512 : Shape := ⟨2, ![1024, 512]⟩
abbrev S1024x256 : Shape := ⟨2, ![1024, 256]⟩
abbrev S256x1024 : Shape := ⟨2, ![256, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S512x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .bf16⟩
  | .local _ .vmem, ⟨4, _⟩ => ⟨S512x1024, .bf16⟩
  | .local _ .vmem, ⟨5, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨2, ![1, 8], ![false, false]⟩

def k0_cond2 (i : grid0.Coords) : BitVec 1 :=
  let arg1 : BitVec 32 := BitVec.ofNat 32 (i 1).val
  let c7_i32 : BitVec 32 := 7#32
  let v11 : BitVec 1 := Scalar.cmpi .eq arg1 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S512x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]
-- ==== InSmallGradRefIdeal.lean ====
abbrev S8192x1024 : Shape := ⟨2, ![8192, 1024]⟩
abbrev S8192x512 : Shape := ⟨2, ![8192, 512]⟩
abbrev S_ : Shape := ⟨0, ![]⟩
abbrev S1024x512 : Shape := ⟨2, ![1024, 512]⟩
abbrev S512x1024 : Shape := ⟨2, ![512, 1024]⟩

abbrev nBuf : Space → Nat
  | .hbm => 11
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x512, .bf16⟩
  | .hbm, ⟨2, _⟩ => ⟨S_, .f32⟩
  | .hbm, ⟨3, _⟩ => ⟨S1024x512, .f32⟩
  | .hbm, ⟨4, _⟩ => ⟨S8192x1024, .f32⟩
  | .hbm, ⟨5, _⟩ => ⟨S8192x512, .f32⟩
  | .hbm, ⟨6, _⟩ => ⟨S8192x512, .f32⟩
  | .hbm, ⟨7, _⟩ => ⟨S512x1024, .f32⟩
  | .hbm, ⟨8, _⟩ => ⟨S1024x512, .f32⟩
  | .hbm, ⟨9, _⟩ => ⟨S512x1024, .f32⟩
  | .hbm, ⟨10, _⟩ => ⟨S512x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== InProj.lean ====
abbrev S8192x1024 : Shape := ⟨2, ![8192, 1024]⟩
abbrev S6656x1024 : Shape := ⟨2, ![6656, 1024]⟩
abbrev S8192x6656 : Shape := ⟨2, ![8192, 6656]⟩
abbrev S512x1024 : Shape := ⟨2, ![512, 1024]⟩
abbrev S512x6656 : Shape := ⟨2, ![512, 6656]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S6656x1024, .bf16⟩
  | .hbm, ⟨2, _⟩ => ⟨S8192x6656, .bf16⟩
  | .local _ .vmem, ⟨0, _⟩ => ⟨S512x1024, .bf16⟩
  | .local _ .vmem, ⟨1, _⟩ => ⟨S512x1024, .bf16⟩
  | .local _ .vmem, ⟨2, _⟩ => ⟨S6656x1024, .bf16⟩
  | .local _ .vmem, ⟨3, _⟩ => ⟨S512x6656, .bf16⟩
  | .local _ .vmem, ⟨4, _⟩ => ⟨S512x6656, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6656x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x6656 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== InProjRefIdeal.lean ====
abbrev S8192x1024 : Shape := ⟨2, ![8192, 1024]⟩
abbrev S6656x1024 : Shape := ⟨2, ![6656, 1024]⟩
abbrev S1024x6656 : Shape := ⟨2, ![1024, 6656]⟩
abbrev S8192x6656 : Shape := ⟨2, ![8192, 6656]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S6656x1024, .bf16⟩
  | .hbm, ⟨2, _⟩ => ⟨S8192x1024, .f32⟩
  | .hbm, ⟨3, _⟩ => ⟨S6656x1024, .f32⟩
  | .hbm, ⟨4, _⟩ => ⟨S1024x6656, .f32⟩
  | .hbm, ⟨5, _⟩ => ⟨S8192x6656, .f32⟩
  | .hbm, ⟨6, _⟩ => ⟨S8192x6656, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== BranchA.lean ====
abbrev S8192x1024 : Shape := ⟨2, ![8192, 1024]⟩
abbrev S1024x1024 : Shape := ⟨2, ![1024, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BranchARefIdeal.lean ====
abbrev S8192x1024 : Shape := ⟨2, ![8192, 1024]⟩
abbrev S1024x1024 : Shape := ⟨2, ![1024, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1024x1024, .f32⟩
  | .hbm, ⟨4, _⟩ => ⟨S8192x1024, .f32⟩
  | .hbm, ⟨5, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== BranchB.lean ====
abbrev S8192x512 : Shape := ⟨2, ![8192, 512]⟩
abbrev S1024x512 : Shape := ⟨2, ![1024, 512]⟩
abbrev S8192x1024 : Shape := ⟨2, ![8192, 1024]⟩
abbrev S1024x1024 : Shape := ⟨2, ![1024, 1024]⟩
abbrev S512x512 : Shape := ⟨2, ![512, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x1024, .bf16⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x1024, .bf16⟩
  | .local _ .vmem, ⟨4, _⟩ => ⟨S1024x1024, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== BranchBRefIdeal.lean ====
abbrev S8192x512 : Shape := ⟨2, ![8192, 512]⟩
abbrev S1024x512 : Shape := ⟨2, ![1024, 512]⟩
abbrev S512x1024 : Shape := ⟨2, ![512, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S1024x512, .bf16⟩
  | .hbm, ⟨2, _⟩ => ⟨S8192x512, .f32⟩
  | .hbm, ⟨3, _⟩ => ⟨S1024x512, .f32⟩
  | .hbm, ⟨4, _⟩ => ⟨S512x1024, .f32⟩
  | .hbm, ⟨5, _⟩ => ⟨S8192x1024, .f32⟩
  | .hbm, ⟨6, _⟩ => ⟨S8192x1024, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== PleProj.lean ====
abbrev S8192x256 : Shape := ⟨2, ![8192, 256]⟩
abbrev S1024x256 : Shape := ⟨2, ![1024, 256]⟩
abbrev S8192x1024 : Shape := ⟨2, ![8192, 1024]⟩
abbrev S1024x1024 : Shape := ⟨2, ![1024, 1024]⟩
abbrev S512x256 : Shape := ⟨2, ![512, 256]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x256, .bf16⟩
  | .hbm, ⟨1, _⟩ => ⟨S1024x256, .bf16⟩
  | .hbm, ⟨2, _⟩ => ⟨S8192x1024, .bf16⟩
  | .local _ .vmem, ⟨0, _⟩ => ⟨S1024x256, .bf16⟩
  | .local _ .vmem, ⟨1, _⟩ => ⟨S1024x256, .bf16⟩
  | .local _ .vmem, ⟨2, _⟩ => ⟨S1024x256, .bf16⟩
  | .local _ .vmem, ⟨3, _⟩ => ⟨S1024x1024, .bf16⟩
  | .local _ .vmem, ⟨4, _⟩ => ⟨S1024x1024, .bf16⟩
  | _, _ => ⟨S8192x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PleProjRefIdeal.lean ====
abbrev S8192x256 : Shape := ⟨2, ![8192, 256]⟩
abbrev S1024x256 : Shape := ⟨2, ![1024, 256]⟩
abbrev S256x1024 : Shape := ⟨2, ![256, 1024]⟩
abbrev S8192x1024 : Shape := ⟨2, ![8192, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x256, .bf16⟩
  | .hbm, ⟨1, _⟩ => ⟨S1024x256, .bf16⟩
  | .hbm, ⟨2, _⟩ => ⟨S8192x256, .f32⟩
  | .hbm, ⟨3, _⟩ => ⟨S1024x256, .f32⟩
  | .hbm, ⟨4, _⟩ => ⟨S256x1024, .f32⟩
  | .hbm, ⟨5, _⟩ => ⟨S8192x1024, .f32⟩
  | .hbm, ⟨6, _⟩ => ⟨S8192x1024, .bf16⟩
  | _, _ => ⟨S8192x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== OutGrad.lean ====
abbrev S8192x1024 : Shape := ⟨2, ![8192, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== OutGradRefIdeal.lean ====
abbrev S8192x1024 : Shape := ⟨2, ![8192, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== MixedGrad.lean ====
abbrev S8192x1024 : Shape := ⟨2, ![8192, 1024]⟩
abbrev S1024x512 : Shape := ⟨2, ![1024, 512]⟩
abbrev S8192x512 : Shape := ⟨2, ![8192, 512]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S8192x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x512, .bf16⟩
  | .local _ .vmem, ⟨3, _⟩ => ⟨S1024x512, .f32⟩
  | .local _ .vmem, ⟨4, _⟩ => ⟨S1024x512, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== MixedGradRefIdeal.lean ====
abbrev S8192x1024 : Shape := ⟨2, ![8192, 1024]⟩
abbrev S1024x512 : Shape := ⟨2, ![1024, 512]⟩
abbrev S512x1024 : Shape := ⟨2, ![512, 1024]⟩
abbrev S_ : Shape := ⟨0, ![]⟩
abbrev S8192x512 : Shape := ⟨2, ![8192, 512]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x512, .bf16⟩
  | .hbm, ⟨2, _⟩ => ⟨S512x1024, .bf16⟩
  | .hbm, ⟨3, _⟩ => ⟨S_, .f32⟩
  | .hbm, ⟨4, _⟩ => ⟨S8192x512, .f32⟩
  | .hbm, ⟨5, _⟩ => ⟨S512x1024, .f32⟩
  | .hbm, ⟨6, _⟩ => ⟨S8192x1024, .f32⟩
  | .hbm, ⟨7, _⟩ => ⟨S8192x1024, .f32⟩
  | .hbm, ⟨8, _⟩ => ⟨S8192x512, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== FfnUp.lean ====
abbrev S8192x1024 : Shape := ⟨2, ![8192, 1024]⟩
abbrev S2816x1024 : Shape := ⟨2, ![2816, 1024]⟩
abbrev S8192x2816 : Shape := ⟨2, ![8192, 2816]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x2816, .bf16⟩
  | .hbm, ⟨4, _⟩ => ⟨S8192x2816, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S2816x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnUpRefIdeal.lean ====
abbrev S8192x1024 : Shape := ⟨2, ![8192, 1024]⟩
abbrev S2816x1024 : Shape := ⟨2, ![2816, 1024]⟩
abbrev S1024x2816 : Shape := ⟨2, ![1024, 2816]⟩
abbrev S8192x2816 : Shape := ⟨2, ![8192, 2816]⟩
abbrev S_ : Shape := ⟨0, ![]⟩

abbrev nBuf : Space → Nat
  | .hbm => 35
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S2816x1024, .bf16⟩
  | .hbm, ⟨3, _⟩ => ⟨S8192x1024, .f32⟩
  | .hbm, ⟨4, _⟩ => ⟨S2816x1024, .f32⟩
  | .hbm, ⟨5, _⟩ => ⟨S1024x2816, .f32⟩
  | .hbm, ⟨6, _⟩ => ⟨S2816x1024, .f32⟩
  | .hbm, ⟨7, _⟩ => ⟨S1024x2816, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S_, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S_, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x2816, .bf16⟩
  | .hbm, ⟨33, _⟩ => ⟨S8192x2816, .bf16⟩
  | .hbm, ⟨34, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_call0_v0 : Ref sig .tc := ⟨.hbm, 10, rfl⟩
abbrev main_call0_v1 : Ref sig .tc := ⟨.hbm, 11, rfl⟩
abbrev main_call0_cst : Ref sig .tc := ⟨.hbm, 12, rfl⟩
abbrev main_call0_v2 : Ref sig .tc := ⟨.hbm, 13, rfl⟩
abbrev main_call0_v3 : Ref sig .tc := ⟨.hbm, 14, rfl⟩
abbrev main_call0_cst_0 : Ref sig .tc := ⟨.hbm, 15, rfl⟩
abbrev main_call0_v4 : Ref sig .tc := ⟨.hbm, 16, rfl⟩
abbrev main_v7_2 : Ref sig .tc := ⟨.hbm, 17, rfl⟩
abbrev main_call0_cst_1 : Ref sig .tc := ⟨.hbm, 18, rfl⟩
abbrev main_call0_v6 : Ref sig .tc := ⟨.hbm, 19, rfl⟩
abbrev main_call0_v7 : Ref sig .tc := ⟨.hbm, 20, rfl⟩
abbrev main_v7_1 : Ref sig .tc := ⟨.hbm, 21, rfl⟩
abbrev main_v7_0 : Ref sig .tc := ⟨.hbm, 22, rfl⟩
abbrev main_v8 : Ref sig .tc := ⟨.hbm, 23, rfl⟩
abbrev main_cst : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩

abbrev nD : Nat := 1
abbrev τ : Topo := Topo.v7x

variable {F : FTy → Type} [FloatOps F]
-- ==== Mid.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩
abbrev S512x1024 : Shape := ⟨2, ![512, 1024]⟩
abbrev S512x2816 : Shape := ⟨2, ![512, 2816]⟩
abbrev S256x1024 : Shape := ⟨2, ![256, 1024]⟩
abbrev S512x256 : Shape := ⟨2, ![512, 256]⟩

abbrev nBuf : Space → Nat
  | .hbm => 30
  | .vmem => 11
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S_, .f32⟩
  | .hbm, ⟨13, _⟩ => ⟨S8192x2816, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S_, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .bf16⟩
  | .hbm, ⟨27, _⟩ => ⟨S8192x2816, .bf16⟩
  | .hbm, ⟨28, _⟩ => ⟨S8192x2816, .bf16⟩
  | .hbm, ⟨29, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | .local _ .vmem, ⟨8, _⟩ => ⟨S512x2816, .bf16⟩
  | .local _ .vmem, ⟨9, _⟩ => ⟨S512x2816, .bf16⟩
  | .local _ .vmem, ⟨10, _⟩ => ⟨S512x2816, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_v0_2 : Ref sig .tc := ⟨.hbm, 11, rfl⟩
abbrev main_call0_cst_1 : Ref sig .tc := ⟨.hbm, 12, rfl⟩
abbrev main_call0_v6 : Ref sig .tc := ⟨.hbm, 13, rfl⟩
abbrev main_call0_v7 : Ref sig .tc := ⟨.hbm, 14, rfl⟩
abbrev main_v0_1 : Ref sig .tc := ⟨.hbm, 15, rfl⟩
abbrev main_v0_0 : Ref sig .tc := ⟨.hbm, 16, rfl⟩
abbrev main_v1 : Ref sig .tc := ⟨.hbm, 17, rfl⟩
abbrev main_cst : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_call1_v0 : Ref sig .tc := ⟨.hbm, 22, rfl⟩
abbrev main_call1_v1 : Ref sig .tc := ⟨.hbm, 23, rfl⟩
abbrev main_call1_v2 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_v8_0 : Ref sig .tc := ⟨.hbm, 28, rfl⟩
abbrev main_v8_1 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x2816 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x2816 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== MidRefIdeal.lean ====
abbrev S8192x1024 : Shape := ⟨2, ![8192, 1024]⟩
abbrev S2816x1024 : Shape := ⟨2, ![2816, 1024]⟩
abbrev S8192x2816 : Shape := ⟨2, ![8192, 2816]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S2816x1024, .bf16⟩
  | .hbm, ⟨2, _⟩ => ⟨S8192x2816, .f32⟩
  | .hbm, ⟨3, _⟩ => ⟨S8192x2816, .f32⟩
  | .hbm, ⟨4, _⟩ => ⟨S8192x1024, .f32⟩
  | .hbm, ⟨5, _⟩ => ⟨S2816x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S8192x2816, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .bf16⟩
  | .hbm, ⟨29, _⟩ => ⟨S8192x2816, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_call1_v0 : Ref sig .tc := ⟨.hbm, 24, rfl⟩
abbrev main_call1_v1 : Ref sig .tc := ⟨.hbm, 25, rfl⟩
abbrev main_call1_v2 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩

abbrev nD : Nat := 1
abbrev τ : Topo := Topo.v7x

variable {F : FTy → Type} [FloatOps F]
-- ==== FfnDown.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S1024x2816 : Shape := ⟨2, ![1024, 2816]⟩
abbrev S1024x1024 : Shape := ⟨2, ![1024, 1024]⟩
abbrev S1024x256 : Shape := ⟨2, ![1024, 256]⟩
abbrev S2816x256 : Shape := ⟨2, ![2816, 256]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x2816, .bf16⟩
  | .local _ .vmem, ⟨1, _⟩ => ⟨S1024x2816, .bf16⟩
  | .local _ .vmem, ⟨2, _⟩ => ⟨S2816x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnDownRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x1024, .f32⟩
  | .hbm, ⟨3, _⟩ => ⟨S1x1024, .f32⟩
  | .hbm, ⟨4, _⟩ => ⟨S8192x2816, .f32⟩
  | .hbm, ⟨5, _⟩ => ⟨S2816x1024, .f32⟩
  | .hbm, ⟨6, _⟩ => ⟨S8192x1024, .f32⟩
  | .hbm, ⟨7, _⟩ => ⟨S_, .f32⟩
  | .hbm, ⟨8, _⟩ => ⟨S8192x1024, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S8192x1024, .f32⟩
  | .hbm, ⟨26, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== OutProj.lean ====
abbrev S8192x1024 : Shape := ⟨2, ![8192, 1024]⟩
abbrev S1024x1024 : Shape := ⟨2, ![1024, 1024]⟩
abbrev S1x1024 : Shape := ⟨2, ![1, 1024]⟩
abbrev S1024x256 : Shape := ⟨2, ![1024, 256]⟩
abbrev S1024 : Shape := ⟨1, ![1024]⟩
abbrev S1024x1 : Shape := ⟨2, ![1024, 1]⟩

abbrev nBuf : Space → Nat
  | .hbm => 6
  | .vmem => 10
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S8192x1024, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .bf16⟩
  | .local _ .vmem, ⟨9, _⟩ => ⟨S1024x1024, .bf16⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutProjRefIdeal.lean ====
abbrev S8192x1024 : Shape := ⟨2, ![8192, 1024]⟩
abbrev S1024x1024 : Shape := ⟨2, ![1024, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩

abbrev nBuf : Space → Nat
  | .hbm => 24
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1024x1024, .bf16⟩
  | .hbm, ⟨2, _⟩ => ⟨S8192x1024, .f32⟩
  | .hbm, ⟨3, _⟩ => ⟨S1x1024, .f32⟩
  | .hbm, ⟨4, _⟩ => ⟨S8192x1024, .f32⟩
  | .hbm, ⟨5, _⟩ => ⟨S1024x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .bf16⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== AdamFfn.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnIdeal.lean ====
abbrev S8x352x1024 : Shape := ⟨3, ![8, 352, 1024]⟩
abbrev S352x1024 : Shape := ⟨2, ![352, 1024]⟩
abbrev S8x176x1024 : Shape := ⟨3, ![8, 176, 1024]⟩
abbrev S176x1024 : Shape := ⟨2, ![176, 1024]⟩
abbrev S1x176x1024 : Shape := ⟨3, ![1, 176, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S352x1024, .f32⟩
  | .hbm, ⟨5, _⟩ => ⟨S352x1024, .f32⟩
  | .hbm, ⟨6, _⟩ => ⟨S352x1024, .f32⟩
  | .hbm, ⟨7, _⟩ => ⟨S352x1024, .f32⟩
  | .local _ .vmem, ⟨0, _⟩ => ⟨S8x176x1024, .bf16⟩
  | .local _ .vmem, ⟨1, _⟩ => ⟨S8x176x1024, .bf16⟩
  | .local _ .vmem, ⟨2, _⟩ => ⟨S176x1024, .f32⟩
  | .local _ .vmem, ⟨3, _⟩ => ⟨S176x1024, .f32⟩
  | .local _ .vmem, ⟨4, _⟩ => ⟨S176x1024, .f32⟩
  | .local _ .vmem, ⟨5, _⟩ => ⟨S176x1024, .f32⟩
  | .local _ .vmem, ⟨6, _⟩ => ⟨S176x1024, .f32⟩
  | .local _ .vmem, ⟨7, _⟩ => ⟨S176x1024, .f32⟩
  | .local _ .vmem, ⟨8, _⟩ => ⟨S176x1024, .f32⟩
  | .local _ .vmem, ⟨9, _⟩ => ⟨S176x1024, .f32⟩
  | .local _ .vmem, ⟨10, _⟩ => ⟨S176x1024, .f32⟩
  | .local _ .vmem, ⟨11, _⟩ => ⟨S176x1024, .f32⟩
  | .local _ .vmem, ⟨12, _⟩ => ⟨S176x1024, .f32⟩
  | .local _ .vmem, ⟨13, _⟩ => ⟨S176x1024, .f32⟩
  | .local _ .vmem, ⟨14, _⟩ => ⟨S176x1024, .f32⟩
  | .local _ .vmem, ⟨15, _⟩ => ⟨S176x1024, .f32⟩
  | _, _ => ⟨S8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_bc1" => some ((8388608 / 5463681 : ℝ) : EReal)
  | "inv_bc2" => some ((268435456 / 2672307 : ℝ) : EReal)
  | _ => none

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x176x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S176x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S176x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S176x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S176x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S176x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S176x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S176x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamFfnRefIdeal.lean ====
abbrev S8x352x1024 : Shape := ⟨3, ![8, 352, 1024]⟩
abbrev S352x1024 : Shape := ⟨2, ![352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x352x1024, .bf16⟩
  | .hbm, ⟨1, _⟩ => ⟨S352x1024, .f32⟩
  | .hbm, ⟨2, _⟩ => ⟨S352x1024, .f32⟩
  | .hbm, ⟨3, _⟩ => ⟨S352x1024, .f32⟩
  | .hbm, ⟨4, _⟩ => ⟨S8x352x1024, .f32⟩
  | .hbm, ⟨5, _⟩ => ⟨S_, .f32⟩
  | .hbm, ⟨6, _⟩ => ⟨S352x1024, .f32⟩
  | .hbm, ⟨7, _⟩ => ⟨S_, .f32⟩
  | .hbm, ⟨8, _⟩ => ⟨S352x1024, .f32⟩
  | .hbm, ⟨9, _⟩ => ⟨S352x1024, .f32⟩
  | .hbm, ⟨10, _⟩ => ⟨S_, .f32⟩
  | .hbm, ⟨11, _⟩ => ⟨S352x1024, .f32⟩
  | .hbm, ⟨12, _⟩ => ⟨S352x1024, .f32⟩
  | .hbm, ⟨13, _⟩ => ⟨S352x1024, .f32⟩
  | .hbm, ⟨14, _⟩ => ⟨S_, .f32⟩
  | .hbm, ⟨15, _⟩ => ⟨S352x1024, .f32⟩
  | .hbm, ⟨16, _⟩ => ⟨S352x1024, .f32⟩
  | .hbm, ⟨17, _⟩ => ⟨S352x1024, .f32⟩
  | .hbm, ⟨18, _⟩ => ⟨S_, .f32⟩
  | .hbm, ⟨19, _⟩ => ⟨S352x1024, .f32⟩
  | .hbm, ⟨20, _⟩ => ⟨S352x1024, .f32⟩
  | .hbm, ⟨21, _⟩ => ⟨S352x1024, .f32⟩
  | .hbm, ⟨22, _⟩ => ⟨S_, .f32⟩
  | .hbm, ⟨23, _⟩ => ⟨S352x1024, .f32⟩
  | .hbm, ⟨24, _⟩ => ⟨S352x1024, .f32⟩
  | .hbm, ⟨25, _⟩ => ⟨S_, .f32⟩
  | .hbm, ⟨26, _⟩ => ⟨S352x1024, .f32⟩
  | .hbm, ⟨27, _⟩ => ⟨S352x1024, .f32⟩
  | .hbm, ⟨28, _⟩ => ⟨S352x1024, .f32⟩
  | .hbm, ⟨29, _⟩ => ⟨S_, .f32⟩
  | .hbm, ⟨30, _⟩ => ⟨S352x1024, .f32⟩
  | .hbm, ⟨31, _⟩ => ⟨S352x1024, .f32⟩
  | .hbm, ⟨32, _⟩ => ⟨S352x1024, .f32⟩
  | .hbm, ⟨33, _⟩ => ⟨S_, .f32⟩
  | .hbm, ⟨34, _⟩ => ⟨S352x1024, .f32⟩
  | .hbm, ⟨35, _⟩ => ⟨S352x1024, .f32⟩
  | .hbm, ⟨36, _⟩ => ⟨S352x1024, .f32⟩
  | .hbm, ⟨37, _⟩ => ⟨S_, .f32⟩
  | .hbm, ⟨38, _⟩ => ⟨S352x1024, .f32⟩
  | .hbm, ⟨39, _⟩ => ⟨S352x1024, .f32⟩
  | _, _ => ⟨S8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamIn.lean ====
abbrev S8x832x1024 : Shape := ⟨3, ![8, 832, 1024]⟩
abbrev S832x1024 : Shape := ⟨2, ![832, 1024]⟩
abbrev S8x208x1024 : Shape := ⟨3, ![8, 208, 1024]⟩
abbrev S208x1024 : Shape := ⟨2, ![208, 1024]⟩
abbrev S1x208x1024 : Shape := ⟨3, ![1, 208, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x832x1024, .bf16⟩
  | .hbm, ⟨1, _⟩ => ⟨S832x1024, .f32⟩
  | .hbm, ⟨2, _⟩ => ⟨S832x1024, .f32⟩
  | .hbm, ⟨3, _⟩ => ⟨S832x1024, .f32⟩
  | .hbm, ⟨4, _⟩ => ⟨S832x1024, .f32⟩
  | .hbm, ⟨5, _⟩ => ⟨S832x1024, .f32⟩
  | .hbm, ⟨6, _⟩ => ⟨S832x1024, .f32⟩
  | .hbm, ⟨7, _⟩ => ⟨S832x1024, .f32⟩
  | .local _ .vmem, ⟨0, _⟩ => ⟨S8x208x1024, .bf16⟩
  | .local _ .vmem, ⟨1, _⟩ => ⟨S8x208x1024, .bf16⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .vmem, ⟨7, _⟩ => ⟨S208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | .local _ .vmem, ⟨14, _⟩ => ⟨S208x1024, .f32⟩
  | .local _ .vmem, ⟨15, _⟩ => ⟨S208x1024, .f32⟩
  | _, _ => ⟨S8x832x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S8x832x1024 : Shape := ⟨3, ![8, 832, 1024]⟩
abbrev S832x1024 : Shape := ⟨2, ![832, 1024]⟩
abbrev S8x208x1024 : Shape := ⟨3, ![8, 208, 1024]⟩
abbrev S208x1024 : Shape := ⟨2, ![208, 1024]⟩
abbrev S1x208x1024 : Shape := ⟨3, ![1, 208, 1024]⟩

abbrev nBuf : Space → Nat
  | .hbm => 8
  | .vmem => 16
  | .smem => 0
  | _ => 0

abbrev bufTy : (tb : Table) → Fin (tcTables nBuf tb) → BufTy
  | .hbm, ⟨0, _⟩ => ⟨S8x832x1024, .bf16⟩
  | .hbm, ⟨1, _⟩ => ⟨S832x1024, .f32⟩
  | .hbm, ⟨2, _⟩ => ⟨S832x1024, .f32⟩
  | .hbm, ⟨3, _⟩ => ⟨S832x1024, .f32⟩
  | .hbm, ⟨4, _⟩ => ⟨S832x1024, .f32⟩
  | .hbm, ⟨5, _⟩ => ⟨S832x1024, .f32⟩
  | .hbm, ⟨6, _⟩ => ⟨S832x1024, .f32⟩
  | .hbm, ⟨7, _⟩ => ⟨S832x1024, .f32⟩
  | .local _ .vmem, ⟨0, _⟩ => ⟨S8x208x1024, .bf16⟩
  | .local _ .vmem, ⟨1, _⟩ => ⟨S8x208x1024, .bf16⟩
  | .local _ .vmem, ⟨2, _⟩ => ⟨S208x1024, .f32⟩
  | .local _ .vmem, ⟨3, _⟩ => ⟨S208x1024, .f32⟩
  | .local _ .vmem, ⟨4, _⟩ => ⟨S208x1024, .f32⟩
  | .local _ .vmem, ⟨5, _⟩ => ⟨S208x1024, .f32⟩
  | .local _ .vmem, ⟨6, _⟩ => ⟨S208x1024, .f32⟩
  | .local _ .vmem, ⟨7, _⟩ => ⟨S208x1024, .f32⟩
  | .local _ .vmem, ⟨8, _⟩ => ⟨S208x1024, .f32⟩
  | .local _ .vmem, ⟨9, _⟩ => ⟨S208x1024, .f32⟩
  | .local _ .vmem, ⟨10, _⟩ => ⟨S208x1024, .f32⟩
  | .local _ .vmem, ⟨11, _⟩ => ⟨S208x1024, .f32⟩
  | .local _ .vmem, ⟨12, _⟩ => ⟨S208x1024, .f32⟩
  | .local _ .vmem, ⟨13, _⟩ => ⟨S208x1024, .f32⟩
  | .local _ .vmem, ⟨14, _⟩ => ⟨S208x1024, .f32⟩
  | .local _ .vmem, ⟨15, _⟩ => ⟨S208x1024, .f32⟩
  | _, _ => ⟨S8x832x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F] [Named F]

def κ : String → Option EReal := fun
  | "inv_bc1" => some ((8388608 / 5463681 : ℝ) : EReal)
  | "inv_bc2" => some ((268435456 / 2672307 : ℝ) : EReal)
  | _ => none

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x208x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S208x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S208x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S208x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S208x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S208x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S208x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInRefIdeal.lean ====
abbrev S8x832x1024 : Shape := ⟨3, ![8, 832, 1024]⟩
abbrev S832x1024 : Shape := ⟨2, ![832, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x832x1024, .bf16⟩
  | .hbm, ⟨1, _⟩ => ⟨S832x1024, .f32⟩
  | .hbm, ⟨2, _⟩ => ⟨S832x1024, .f32⟩
  | .hbm, ⟨3, _⟩ => ⟨S832x1024, .f32⟩
  | .hbm, ⟨4, _⟩ => ⟨S8x832x1024, .f32⟩
  | .hbm, ⟨5, _⟩ => ⟨S_, .f32⟩
  | .hbm, ⟨6, _⟩ => ⟨S832x1024, .f32⟩
  | .hbm, ⟨7, _⟩ => ⟨S_, .f32⟩
  | .hbm, ⟨8, _⟩ => ⟨S832x1024, .f32⟩
  | .hbm, ⟨9, _⟩ => ⟨S832x1024, .f32⟩
  | .hbm, ⟨10, _⟩ => ⟨S_, .f32⟩
  | .hbm, ⟨11, _⟩ => ⟨S832x1024, .f32⟩
  | .hbm, ⟨12, _⟩ => ⟨S832x1024, .f32⟩
  | .hbm, ⟨13, _⟩ => ⟨S832x1024, .f32⟩
  | .hbm, ⟨14, _⟩ => ⟨S_, .f32⟩
  | .hbm, ⟨15, _⟩ => ⟨S832x1024, .f32⟩
  | .hbm, ⟨16, _⟩ => ⟨S832x1024, .f32⟩
  | .hbm, ⟨17, _⟩ => ⟨S832x1024, .f32⟩
  | .hbm, ⟨18, _⟩ => ⟨S_, .f32⟩
  | .hbm, ⟨19, _⟩ => ⟨S832x1024, .f32⟩
  | .hbm, ⟨20, _⟩ => ⟨S832x1024, .f32⟩
  | .hbm, ⟨21, _⟩ => ⟨S832x1024, .f32⟩
  | .hbm, ⟨22, _⟩ => ⟨S_, .f32⟩
  | .hbm, ⟨23, _⟩ => ⟨S832x1024, .f32⟩
  | .hbm, ⟨24, _⟩ => ⟨S832x1024, .f32⟩
  | .hbm, ⟨25, _⟩ => ⟨S_, .f32⟩
  | .hbm, ⟨26, _⟩ => ⟨S832x1024, .f32⟩
  | .hbm, ⟨27, _⟩ => ⟨S832x1024, .f32⟩
  | .hbm, ⟨28, _⟩ => ⟨S832x1024, .f32⟩
  | .hbm, ⟨29, _⟩ => ⟨S_, .f32⟩
  | .hbm, ⟨30, _⟩ => ⟨S832x1024, .f32⟩
  | .hbm, ⟨31, _⟩ => ⟨S832x1024, .f32⟩
  | .hbm, ⟨32, _⟩ => ⟨S832x1024, .f32⟩
  | .hbm, ⟨33, _⟩ => ⟨S_, .f32⟩
  | .hbm, ⟨34, _⟩ => ⟨S832x1024, .f32⟩
  | .hbm, ⟨35, _⟩ => ⟨S832x1024, .f32⟩
  | .hbm, ⟨36, _⟩ => ⟨S832x1024, .f32⟩
  | .hbm, ⟨37, _⟩ => ⟨S_, .f32⟩
  | .hbm, ⟨38, _⟩ => ⟨S832x1024, .f32⟩
  | .hbm, ⟨39, _⟩ => ⟨S832x1024, .f32⟩
  | _, _ => ⟨S8x832x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSquare.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSquareIdeal.lean ====
abbrev S8x128x1024 : Shape := ⟨3, ![8, 128, 1024]⟩
abbrev S128x1024 : Shape := ⟨2, ![128, 1024]⟩
abbrev S1x128x1024 : Shape := ⟨3, ![1, 128, 1024]⟩

abbrev nBuf : Space → Nat
  | .hbm => 8
  | .vmem => 8
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S128x1024, .f32⟩
  | .hbm, ⟨5, _⟩ => ⟨S128x1024, .f32⟩
  | .hbm, ⟨6, _⟩ => ⟨S128x1024, .f32⟩
  | .hbm, ⟨7, _⟩ => ⟨S128x1024, .f32⟩
  | .local _ .vmem, ⟨0, _⟩ => ⟨S8x128x1024, .bf16⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S128x1024, .f32⟩
  | .local _ .vmem, ⟨5, _⟩ => ⟨S128x1024, .f32⟩
  | .local _ .vmem, ⟨6, _⟩ => ⟨S128x1024, .f32⟩
  | .local _ .vmem, ⟨7, _⟩ => ⟨S128x1024, .f32⟩
  | _, _ => ⟨S8x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_bc1" => some ((8388608 / 5463681 : ℝ) : EReal)
  | "inv_bc2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSquareRefIdeal.lean ====
abbrev S8x128x1024 : Shape := ⟨3, ![8, 128, 1024]⟩
abbrev S128x1024 : Shape := ⟨2, ![128, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x1024, .bf16⟩
  | .hbm, ⟨1, _⟩ => ⟨S128x1024, .f32⟩
  | .hbm, ⟨2, _⟩ => ⟨S128x1024, .f32⟩
  | .hbm, ⟨3, _⟩ => ⟨S128x1024, .f32⟩
  | .hbm, ⟨4, _⟩ => ⟨S8x128x1024, .f32⟩
  | .hbm, ⟨5, _⟩ => ⟨S_, .f32⟩
  | .hbm, ⟨6, _⟩ => ⟨S128x1024, .f32⟩
  | .hbm, ⟨7, _⟩ => ⟨S_, .f32⟩
  | .hbm, ⟨8, _⟩ => ⟨S128x1024, .f32⟩
  | .hbm, ⟨9, _⟩ => ⟨S128x1024, .f32⟩
  | .hbm, ⟨10, _⟩ => ⟨S_, .f32⟩
  | .hbm, ⟨11, _⟩ => ⟨S128x1024, .f32⟩
  | .hbm, ⟨12, _⟩ => ⟨S128x1024, .f32⟩
  | .hbm, ⟨13, _⟩ => ⟨S128x1024, .f32⟩
  | .hbm, ⟨14, _⟩ => ⟨S_, .f32⟩
  | .hbm, ⟨15, _⟩ => ⟨S128x1024, .f32⟩
  | .hbm, ⟨16, _⟩ => ⟨S128x1024, .f32⟩
  | .hbm, ⟨17, _⟩ => ⟨S128x1024, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S_, .f32⟩
  | .hbm, ⟨23, _⟩ => ⟨S128x1024, .f32⟩
  | .hbm, ⟨24, _⟩ => ⟨S128x1024, .f32⟩
  | .hbm, ⟨25, _⟩ => ⟨S_, .f32⟩
  | .hbm, ⟨26, _⟩ => ⟨S128x1024, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1024, .f32⟩
  | .hbm, ⟨31, _⟩ => ⟨S128x1024, .f32⟩
  | .hbm, ⟨32, _⟩ => ⟨S128x1024, .f32⟩
  | .hbm, ⟨33, _⟩ => ⟨S_, .f32⟩
  | .hbm, ⟨34, _⟩ => ⟨S128x1024, .f32⟩
  | .hbm, ⟨35, _⟩ => ⟨S128x1024, .f32⟩
  | .hbm, ⟨36, _⟩ => ⟨S128x1024, .f32⟩
  | .hbm, ⟨37, _⟩ => ⟨S_, .f32⟩
  | .hbm, ⟨38, _⟩ => ⟨S128x1024, .f32⟩
  | .hbm, ⟨39, _⟩ => ⟨S128x1024, .f32⟩
  | _, _ => ⟨S8x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamBranch.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S8x128x512, .bf16⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBranchIdeal.lean ====
abbrev S8x128x512 : Shape := ⟨3, ![8, 128, 512]⟩
abbrev S128x512 : Shape := ⟨2, ![128, 512]⟩
abbrev S1x128x512 : Shape := ⟨3, ![1, 128, 512]⟩

abbrev nBuf : Space → Nat
  | .hbm => 8
  | .vmem => 8
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S128x512, .f32⟩
  | .hbm, ⟨5, _⟩ => ⟨S128x512, .f32⟩
  | .hbm, ⟨6, _⟩ => ⟨S128x512, .f32⟩
  | .hbm, ⟨7, _⟩ => ⟨S128x512, .f32⟩
  | .local _ .vmem, ⟨0, _⟩ => ⟨S8x128x512, .bf16⟩
  | .local _ .vmem, ⟨1, _⟩ => ⟨S128x512, .f32⟩
  | .local _ .vmem, ⟨2, _⟩ => ⟨S128x512, .f32⟩
  | .local _ .vmem, ⟨3, _⟩ => ⟨S128x512, .f32⟩
  | .local _ .vmem, ⟨4, _⟩ => ⟨S128x512, .f32⟩
  | .local _ .vmem, ⟨5, _⟩ => ⟨S128x512, .f32⟩
  | .local _ .vmem, ⟨6, _⟩ => ⟨S128x512, .f32⟩
  | .local _ .vmem, ⟨7, _⟩ => ⟨S128x512, .f32⟩
  | _, _ => ⟨S8x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "inv_bc1" => some ((8388608 / 5463681 : ℝ) : EReal)
  | "inv_bc2" => some ((268435456 / 2672307 : ℝ) : EReal)
  | _ => none

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamBranchRefIdeal.lean ====
abbrev S8x128x512 : Shape := ⟨3, ![8, 128, 512]⟩
abbrev S128x512 : Shape := ⟨2, ![128, 512]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x512, .bf16⟩
  | .hbm, ⟨1, _⟩ => ⟨S128x512, .f32⟩
  | .hbm, ⟨2, _⟩ => ⟨S128x512, .f32⟩
  | .hbm, ⟨3, _⟩ => ⟨S128x512, .f32⟩
  | .hbm, ⟨4, _⟩ => ⟨S8x128x512, .f32⟩
  | .hbm, ⟨5, _⟩ => ⟨S_, .f32⟩
  | .hbm, ⟨6, _⟩ => ⟨S128x512, .f32⟩
  | .hbm, ⟨7, _⟩ => ⟨S_, .f32⟩
  | .hbm, ⟨8, _⟩ => ⟨S128x512, .f32⟩
  | .hbm, ⟨9, _⟩ => ⟨S128x512, .f32⟩
  | .hbm, ⟨10, _⟩ => ⟨S_, .f32⟩
  | .hbm, ⟨11, _⟩ => ⟨S128x512, .f32⟩
  | .hbm, ⟨12, _⟩ => ⟨S128x512, .f32⟩
  | .hbm, ⟨13, _⟩ => ⟨S128x512, .f32⟩
  | .hbm, ⟨14, _⟩ => ⟨S_, .f32⟩
  | .hbm, ⟨15, _⟩ => ⟨S128x512, .f32⟩
  | .hbm, ⟨16, _⟩ => ⟨S128x512, .f32⟩
  | .hbm, ⟨17, _⟩ => ⟨S128x512, .f32⟩
  | .hbm, ⟨18, _⟩ => ⟨S_, .f32⟩
  | .hbm, ⟨19, _⟩ => ⟨S128x512, .f32⟩
  | .hbm, ⟨20, _⟩ => ⟨S128x512, .f32⟩
  | .hbm, ⟨21, _⟩ => ⟨S128x512, .f32⟩
  | .hbm, ⟨22, _⟩ => ⟨S_, .f32⟩
  | .hbm, ⟨23, _⟩ => ⟨S128x512, .f32⟩
  | .hbm, ⟨24, _⟩ => ⟨S128x512, .f32⟩
  | .hbm, ⟨25, _⟩ => ⟨S_, .f32⟩
  | .hbm, ⟨26, _⟩ => ⟨S128x512, .f32⟩
  | .hbm, ⟨27, _⟩ => ⟨S128x512, .f32⟩
  | .hbm, ⟨28, _⟩ => ⟨S128x512, .f32⟩
  | .hbm, ⟨29, _⟩ => ⟨S_, .f32⟩
  | .hbm, ⟨30, _⟩ => ⟨S128x512, .f32⟩
  | .hbm, ⟨31, _⟩ => ⟨S128x512, .f32⟩
  | .hbm, ⟨32, _⟩ => ⟨S128x512, .f32⟩
  | .hbm, ⟨33, _⟩ => ⟨S_, .f32⟩
  | .hbm, ⟨34, _⟩ => ⟨S128x512, .f32⟩
  | .hbm, ⟨35, _⟩ => ⟨S128x512, .f32⟩
  | .hbm, ⟨36, _⟩ => ⟨S128x512, .f32⟩
  | .hbm, ⟨37, _⟩ => ⟨S_, .f32⟩
  | .hbm, ⟨38, _⟩ => ⟨S128x512, .f32⟩
  | .hbm, ⟨39, _⟩ => ⟨S128x512, .f32⟩
  | _, _ => ⟨S8x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamProj.lean ====
abbrev S8x128x256 : Shape := ⟨3, ![8, 128, 256]⟩
abbrev S128x256 : Shape := ⟨2, ![128, 256]⟩
abbrev S1x128x256 : Shape := ⟨3, ![1, 128, 256]⟩

abbrev nBuf : Space → Nat
  | .hbm => 8
  | .vmem => 8
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S128x256, .f32⟩
  | .hbm, ⟨5, _⟩ => ⟨S128x256, .f32⟩
  | .hbm, ⟨6, _⟩ => ⟨S128x256, .f32⟩
  | .hbm, ⟨7, _⟩ => ⟨S128x256, .f32⟩
  | .local _ .vmem, ⟨0, _⟩ => ⟨S8x128x256, .bf16⟩
  | .local _ .vmem, ⟨1, _⟩ => ⟨S128x256, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | _, _ => ⟨S8x128x256, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x128x256 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S128x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S128x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamProjIdeal.lean ====
variable {F : FTy → Type} [FloatOps F] [Named F]
def κ : String → Option EReal := fun
  | "inv_bc1" => some ((8388608 / 5463681 : ℝ) : EReal)
  | "inv_bc2" => some ((268435456 / 2672307 : ℝ) : EReal)
  | _ => none
-- ==== AdamProjRefIdeal.lean ====
abbrev S8x128x256 : Shape := ⟨3, ![8, 128, 256]⟩
abbrev S128x256 : Shape := ⟨2, ![128, 256]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S8x128x256, .bf16⟩
  | .hbm, ⟨1, _⟩ => ⟨S128x256, .f32⟩
  | .hbm, ⟨2, _⟩ => ⟨S128x256, .f32⟩
  | .hbm, ⟨3, _⟩ => ⟨S128x256, .f32⟩
  | .hbm, ⟨4, _⟩ => ⟨S8x128x256, .f32⟩
  | .hbm, ⟨5, _⟩ => ⟨S_, .f32⟩
  | .hbm, ⟨6, _⟩ => ⟨S128x256, .f32⟩
  | .hbm, ⟨7, _⟩ => ⟨S_, .f32⟩
  | .hbm, ⟨8, _⟩ => ⟨S128x256, .f32⟩
  | .hbm, ⟨9, _⟩ => ⟨S128x256, .f32⟩
  | .hbm, ⟨10, _⟩ => ⟨S_, .f32⟩
  | .hbm, ⟨11, _⟩ => ⟨S128x256, .f32⟩
  | .hbm, ⟨12, _⟩ => ⟨S128x256, .f32⟩
  | .hbm, ⟨13, _⟩ => ⟨S128x256, .f32⟩
  | .hbm, ⟨14, _⟩ => ⟨S_, .f32⟩
  | .hbm, ⟨15, _⟩ => ⟨S128x256, .f32⟩
  | .hbm, ⟨16, _⟩ => ⟨S128x256, .f32⟩
  | .hbm, ⟨17, _⟩ => ⟨S128x256, .f32⟩
  | .hbm, ⟨18, _⟩ => ⟨S_, .f32⟩
  | .hbm, ⟨19, _⟩ => ⟨S128x256, .f32⟩
  | .hbm, ⟨20, _⟩ => ⟨S128x256, .f32⟩
  | .hbm, ⟨21, _⟩ => ⟨S128x256, .f32⟩
  | .hbm, ⟨22, _⟩ => ⟨S_, .f32⟩
  | .hbm, ⟨23, _⟩ => ⟨S128x256, .f32⟩
  | .hbm, ⟨24, _⟩ => ⟨S128x256, .f32⟩
  | .hbm, ⟨25, _⟩ => ⟨S_, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S_, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x256, .f32⟩
  | .hbm, ⟨39, _⟩ => ⟨S128x256, .f32⟩
  | _, _ => ⟨S8x128x256, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== AdamSmall.lean ====
abbrev S8x1x1024 : Shape := ⟨3, ![8, 1, 1024]⟩
abbrev S8x1x512 : Shape := ⟨3, ![8, 1, 512]⟩
abbrev S8x512x128 : Shape := ⟨3, ![8, 512, 128]⟩
abbrev S1x1024 : Shape := ⟨2, ![1, 1024]⟩
abbrev S2x1024 : Shape := ⟨2, ![2, 1024]⟩
abbrev S1x512 : Shape := ⟨2, ![1, 512]⟩
abbrev S512x128 : Shape := ⟨2, ![512, 128]⟩
abbrev S1x1x1024 : Shape := ⟨3, ![1, 1, 1024]⟩
abbrev S1x1x512 : Shape := ⟨3, ![1, 1, 512]⟩
abbrev S1x512x128 : Shape := ⟨3, ![1, 512, 128]⟩

abbrev nBuf : Space → Nat
  | .hbm => 80
  | .vmem => 80
  | .smem => 0
  | _ => 0

abbrev bufTy : (tb : Table) → Fin (tcTables nBuf tb) → BufTy
  | .hbm, ⟨0, _⟩ => ⟨S8x1x1024, .f32⟩
  | .hbm, ⟨1, _⟩ => ⟨S8x1x1024, .f32⟩
  | .hbm, ⟨2, _⟩ => ⟨S8x1x1024, .f32⟩
  | .hbm, ⟨3, _⟩ => ⟨S8x1x1024, .f32⟩
  | .hbm, ⟨4, _⟩ => ⟨S8x1x1024, .f32⟩
  | .hbm, ⟨5, _⟩ => ⟨S8x1x1024, .f32⟩
  | .hbm, ⟨6, _⟩ => ⟨S8x1x1024, .f32⟩
  | .hbm, ⟨7, _⟩ => ⟨S8x1x1024, .f32⟩
  | .hbm, ⟨8, _⟩ => ⟨S8x1x512, .f32⟩
  | .hbm, ⟨9, _⟩ => ⟨S8x512x128, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S1x1024, .f32⟩
  | .hbm, ⟨16, _⟩ => ⟨S1x1024, .f32⟩
  | .hbm, ⟨17, _⟩ => ⟨S2x1024, .f32⟩
  | .hbm, ⟨18, _⟩ => ⟨S1x512, .f32⟩
  | .hbm, ⟨19, _⟩ => ⟨S512x128, .f32⟩
  | .hbm, ⟨20, _⟩ => ⟨S1x1024, .f32⟩
  | .hbm, ⟨21, _⟩ => ⟨S1x1024, .f32⟩
  | .hbm, ⟨22, _⟩ => ⟨S1x1024, .f32⟩
  | .hbm, ⟨23, _⟩ => ⟨S1x1024, .f32⟩
  | .hbm, ⟨24, _⟩ => ⟨S1x1024, .f32⟩
  | .hbm, ⟨25, _⟩ => ⟨S1x1024, .f32⟩
  | .hbm, ⟨26, _⟩ => ⟨S1x1024, .f32⟩
  | .hbm, ⟨27, _⟩ => ⟨S2x1024, .f32⟩
  | .hbm, ⟨28, _⟩ => ⟨S1x512, .f32⟩
  | .hbm, ⟨29, _⟩ => ⟨S512x128, .f32⟩
  | .hbm, ⟨30, _⟩ => ⟨S1x1024, .f32⟩
  | .hbm, ⟨31, _⟩ => ⟨S1x1024, .f32⟩
  | .hbm, ⟨32, _⟩ => ⟨S1x1024, .f32⟩
  | .hbm, ⟨33, _⟩ => ⟨S1x1024, .f32⟩
  | .hbm, ⟨34, _⟩ => ⟨S1x1024, .f32⟩
  | .hbm, ⟨35, _⟩ => ⟨S1x1024, .f32⟩
  | .hbm, ⟨36, _⟩ => ⟨S1x1024, .f32⟩
  | .hbm, ⟨37, _⟩ => ⟨S2x1024, .f32⟩
  | .hbm, ⟨38, _⟩ => ⟨S1x512, .f32⟩
  | .hbm, ⟨39, _⟩ => ⟨S512x128, .f32⟩
  | .hbm, ⟨40, _⟩ => ⟨S1x1024, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S1x1024, .f32⟩
  | .hbm, ⟨45, _⟩ => ⟨S1x1024, .f32⟩
  | .hbm, ⟨46, _⟩ => ⟨S1x1024, .f32⟩
  | .hbm, ⟨47, _⟩ => ⟨S2x1024, .f32⟩
  | .hbm, ⟨48, _⟩ => ⟨S1x512, .f32⟩
  | .hbm, ⟨49, _⟩ => ⟨S512x128, .f32⟩
  | .hbm, ⟨50, _⟩ => ⟨S1x1024, .f32⟩
  | .hbm, ⟨51, _⟩ => ⟨S1x1024, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S1x1024, .f32⟩
  | .hbm, ⟨56, _⟩ => ⟨S1x1024, .f32⟩
  | .hbm, ⟨57, _⟩ => ⟨S2x1024, .f32⟩
  | .hbm, ⟨58, _⟩ => ⟨S1x512, .f32⟩
  | .hbm, ⟨59, _⟩ => ⟨S512x128, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S1x1024, .f32⟩
  | .hbm, ⟨64, _⟩ => ⟨S1x1024, .f32⟩
  | .hbm, ⟨65, _⟩ => ⟨S1x1024, .f32⟩
  | .hbm, ⟨66, _⟩ => ⟨S1x1024, .f32⟩
  | .hbm, ⟨67, _⟩ => ⟨S2x1024, .f32⟩
  | .hbm, ⟨68, _⟩ => ⟨S1x512, .f32⟩
  | .hbm, ⟨69, _⟩ => ⟨S512x128, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S1x1024, .f32⟩
  | .hbm, ⟨75, _⟩ => ⟨S1x1024, .f32⟩
  | .hbm, ⟨76, _⟩ => ⟨S1x1024, .f32⟩
  | .hbm, ⟨77, _⟩ => ⟨S2x1024, .f32⟩
  | .hbm, ⟨78, _⟩ => ⟨S1x512, .f32⟩
  | .hbm, ⟨79, _⟩ => ⟨S512x128, .f32⟩
  | .local _ .vmem, ⟨0, _⟩ => ⟨S8x1x1024, .f32⟩
  | .local _ .vmem, ⟨1, _⟩ => ⟨S8x1x1024, .f32⟩
  | .local _ .vmem, ⟨2, _⟩ => ⟨S8x1x1024, .f32⟩
  | .local _ .vmem, ⟨3, _⟩ => ⟨S8x1x1024, .f32⟩
  | .local _ .vmem, ⟨4, _⟩ => ⟨S8x1x1024, .f32⟩
  | .local _ .vmem, ⟨5, _⟩ => ⟨S8x1x1024, .f32⟩
  | .local _ .vmem, ⟨6, _⟩ => ⟨S8x1x1024, .f32⟩
  | .local _ .vmem, ⟨7, _⟩ => ⟨S8x1x1024, .f32⟩
  | .local _ .vmem, ⟨8, _⟩ => ⟨S8x1x512, .f32⟩
  | .local _ .vmem, ⟨9, _⟩ => ⟨S8x512x128, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S2x1024, .f32⟩
  | .local _ .vmem, ⟨18, _⟩ => ⟨S1x512, .f32⟩
  | .local _ .vmem, ⟨19, _⟩ => ⟨S512x128, .f32⟩
  | .local _ .vmem, ⟨20, _⟩ => ⟨S1x1024, .f32⟩
  | .local _ .vmem, ⟨21, _⟩ => ⟨S1x1024, .f32⟩
  | .local _ .vmem, ⟨22, _⟩ => ⟨S1x1024, .f32⟩
  | .local _ .vmem, ⟨23, _⟩ => ⟨S1x1024, .f32⟩
  | .local _ .vmem, ⟨24, _⟩ => ⟨S1x1024, .f32⟩
  | .local _ .vmem, ⟨25, _⟩ => ⟨S1x1024, .f32⟩
  | .local _ .vmem, ⟨26, _⟩ => ⟨S1x1024, .f32⟩
  | .local _ .vmem, ⟨27, _⟩ => ⟨S2x1024, .f32⟩
  | .local _ .vmem, ⟨28, _⟩ => ⟨S1x512, .f32⟩
  | .local _ .vmem, ⟨29, _⟩ => ⟨S512x128, .f32⟩
  | .local _ .vmem, ⟨30, _⟩ => ⟨S1x1024, .f32⟩
  | .local _ .vmem, ⟨31, _⟩ => ⟨S1x1024, .f32⟩
  | .local _ .vmem, ⟨32, _⟩ => ⟨S1x1024, .f32⟩
  | .local _ .vmem, ⟨33, _⟩ => ⟨S1x1024, .f32⟩
  | .local _ .vmem, ⟨34, _⟩ => ⟨S1x1024, .f32⟩
  | .local _ .vmem, ⟨35, _⟩ => ⟨S1x1024, .f32⟩
  | .local _ .vmem, ⟨36, _⟩ => ⟨S1x1024, .f32⟩
  | .local _ .vmem, ⟨37, _⟩ => ⟨S2x1024, .f32⟩
  | .local _ .vmem, ⟨38, _⟩ => ⟨S1x512, .f32⟩
  | .local _ .vmem, ⟨39, _⟩ => ⟨S512x128, .f32⟩
  | .local _ .vmem, ⟨40, _⟩ => ⟨S1x1024, .f32⟩
  | .local _ .vmem, ⟨41, _⟩ => ⟨S1x1024, .f32⟩
  | .local _ .vmem, ⟨42, _⟩ => ⟨S1x1024, .f32⟩
  | .local _ .vmem, ⟨43, _⟩ => ⟨S1x1024, .f32⟩
  | .local _ .vmem, ⟨44, _⟩ => ⟨S1x1024, .f32⟩
  | .local _ .vmem, ⟨45, _⟩ => ⟨S1x1024, .f32⟩
  | .local _ .vmem, ⟨46, _⟩ => ⟨S1x1024, .f32⟩
  | .local _ .vmem, ⟨47, _⟩ => ⟨S2x1024, .f32⟩
  | .local _ .vmem, ⟨48, _⟩ => ⟨S1x512, .f32⟩
  | .local _ .vmem, ⟨49, _⟩ => ⟨S512x128, .f32⟩
  | .local _ .vmem, ⟨50, _⟩ => ⟨S1x1024, .f32⟩
  | .local _ .vmem, ⟨51, _⟩ => ⟨S1x1024, .f32⟩
  | .local _ .vmem, ⟨52, _⟩ => ⟨S1x1024, .f32⟩
  | .local _ .vmem, ⟨53, _⟩ => ⟨S1x1024, .f32⟩
  | .local _ .vmem, ⟨54, _⟩ => ⟨S1x1024, .f32⟩
  | .local _ .vmem, ⟨55, _⟩ => ⟨S1x1024, .f32⟩
  | .local _ .vmem, ⟨56, _⟩ => ⟨S1x1024, .f32⟩
  | .local _ .vmem, ⟨57, _⟩ => ⟨S2x1024, .f32⟩
  | .local _ .vmem, ⟨58, _⟩ => ⟨S1x512, .f32⟩
  | .local _ .vmem, ⟨59, _⟩ => ⟨S512x128, .f32⟩
  | .local _ .vmem, ⟨60, _⟩ => ⟨S1x1024, .f32⟩
  | .local _ .vmem, ⟨61, _⟩ => ⟨S1x1024, .f32⟩
  | .local _ .vmem, ⟨62, _⟩ => ⟨S1x1024, .f32⟩
  | .local _ .vmem, ⟨63, _⟩ => ⟨S1x1024, .f32⟩
  | .local _ .vmem, ⟨64, _⟩ => ⟨S1x1024, .f32⟩
  | .local _ .vmem, ⟨65, _⟩ => ⟨S1x1024, .f32⟩
  | .local _ .vmem, ⟨66, _⟩ => ⟨S1x1024, .f32⟩
  | .local _ .vmem, ⟨67, _⟩ => ⟨S2x1024, .f32⟩
  | .local _ .vmem, ⟨68, _⟩ => ⟨S1x512, .f32⟩
  | .local _ .vmem, ⟨69, _⟩ => ⟨S512x128, .f32⟩
  | .local _ .vmem, ⟨70, _⟩ => ⟨S1x1024, .f32⟩
  | .local _ .vmem, ⟨71, _⟩ => ⟨S1x1024, .f32⟩
  | .local _ .vmem, ⟨72, _⟩ => ⟨S1x1024, .f32⟩
  | .local _ .vmem, ⟨73, _⟩ => ⟨S1x1024, .f32⟩
  | .local _ .vmem, ⟨74, _⟩ => ⟨S1x1024, .f32⟩
  | .local _ .vmem, ⟨75, _⟩ => ⟨S1x1024, .f32⟩
  | .local _ .vmem, ⟨76, _⟩ => ⟨S1x1024, .f32⟩
  | .local _ .vmem, ⟨77, _⟩ => ⟨S2x1024, .f32⟩
  | .local _ .vmem, ⟨78, _⟩ => ⟨S1x512, .f32⟩
  | .local _ .vmem, ⟨79, _⟩ => ⟨S512x128, .f32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | _, _ => false

abbrev semScoped : Fin 0 → Bool
  | ⟨_, h⟩ => absurd h (Nat.not_lt_zero _)

abbrev dmaSemScoped : Fin 80 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | _ => false

abbrev sig : RefSig :=
  ofTc nBuf bufTy 0 80 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_v0_0 : Ref sig .tc := ⟨.hbm, 40, rfl⟩
abbrev main_v0_1 : Ref sig .tc := ⟨.hbm, 41, rfl⟩
abbrev main_v0_2 : Ref sig .tc := ⟨.hbm, 42, rfl⟩
abbrev main_v0_3 : Ref sig .tc := ⟨.hbm, 43, rfl⟩
abbrev main_v0_4 : Ref sig .tc := ⟨.hbm, 44, rfl⟩
abbrev main_v0_5 : Ref sig .tc := ⟨.hbm, 45, rfl⟩
abbrev main_v0_6 : Ref sig .tc := ⟨.hbm, 46, rfl⟩
abbrev main_v0_7 : Ref sig .tc := ⟨.hbm, 47, rfl⟩
abbrev main_v0_8 : Ref sig .tc := ⟨.hbm, 48, rfl⟩
abbrev main_v0_9 : Ref sig .tc := ⟨.hbm, 49, rfl⟩
abbrev main_v0_10 : Ref sig .tc := ⟨.hbm, 50, rfl⟩
abbrev main_v0_11 : Ref sig .tc := ⟨.hbm, 51, rfl⟩
abbrev main_v0_12 : Ref sig .tc := ⟨.hbm, 52, rfl⟩
abbrev main_v0_13 : Ref sig .tc := ⟨.hbm, 53, rfl⟩
abbrev main_v0_14 : Ref sig .tc := ⟨.hbm, 54, rfl⟩
abbrev main_v0_15 : Ref sig .tc := ⟨.hbm, 55, rfl⟩
abbrev main_v0_16 : Ref sig .tc := ⟨.hbm, 56, rfl⟩
abbrev main_v0_17 : Ref sig .tc := ⟨.hbm, 57, rfl⟩
abbrev main_v0_18 : Ref sig .tc := ⟨.hbm, 58, rfl⟩
abbrev main_v0_19 : Ref sig .tc := ⟨.hbm, 59, rfl⟩
abbrev main_v0_20 : Ref sig .tc := ⟨.hbm, 60, rfl⟩
abbrev main_v0_21 : Ref sig .tc := ⟨.hbm, 61, rfl⟩
abbrev main_v0_22 : Ref sig .tc := ⟨.hbm, 62, rfl⟩
abbrev main_v0_23 : Ref sig .tc := ⟨.hbm, 63, rfl⟩
abbrev main_v0_24 : Ref sig .tc := ⟨.hbm, 64, rfl⟩
abbrev main_v0_25 : Ref sig .tc := ⟨.hbm, 65, rfl⟩
abbrev main_v0_26 : Ref sig .tc := ⟨.hbm, 66, rfl⟩
abbrev main_v0_27 : Ref sig .tc := ⟨.hbm, 67, rfl⟩
abbrev main_v0_28 : Ref sig .tc := ⟨.hbm, 68, rfl⟩
abbrev main_v0_29 : Ref sig .tc := ⟨.hbm, 69, rfl⟩
abbrev main_v0_30 : Ref sig .tc := ⟨.hbm, 70, rfl⟩
abbrev main_v0_31 : Ref sig .tc := ⟨.hbm, 71, rfl⟩
abbrev main_v0_32 : Ref sig .tc := ⟨.hbm, 72, rfl⟩
abbrev main_v0_33 : Ref sig .tc := ⟨.hbm, 73, rfl⟩
abbrev main_v0_34 : Ref sig .tc := ⟨.hbm, 74, rfl⟩
abbrev main_v0_35 : Ref sig .tc := ⟨.hbm, 75, rfl⟩
abbrev main_v0_36 : Ref sig .tc := ⟨.hbm, 76, rfl⟩
abbrev main_v0_37 : Ref sig .tc := ⟨.hbm, 77, rfl⟩
abbrev main_v0_38 : Ref sig .tc := ⟨.hbm, 78, rfl⟩
abbrev main_v0_39 : Ref sig .tc := ⟨.hbm, 79, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_stg31_0 : Ref sig .tc := ⟨.vmem, 31, rfl⟩
abbrev cc0_stg32_0 : Ref sig .tc := ⟨.vmem, 32, rfl⟩
abbrev cc0_stg33_0 : Ref sig .tc := ⟨.vmem, 33, rfl⟩
abbrev cc0_stg34_0 : Ref sig .tc := ⟨.vmem, 34, rfl⟩
abbrev cc0_stg35_0 : Ref sig .tc := ⟨.vmem, 35, rfl⟩
abbrev cc0_stg36_0 : Ref sig .tc := ⟨.vmem, 36, rfl⟩
abbrev cc0_stg37_0 : Ref sig .tc := ⟨.vmem, 37, rfl⟩
abbrev cc0_stg38_0 : Ref sig .tc := ⟨.vmem, 38, rfl⟩
abbrev cc0_stg39_0 : Ref sig .tc := ⟨.vmem, 39, rfl⟩
abbrev cc0_stg40_0 : Ref sig .tc := ⟨.vmem, 40, rfl⟩
abbrev cc0_stg41_0 : Ref sig .tc := ⟨.vmem, 41, rfl⟩
abbrev cc0_stg42_0 : Ref sig .tc := ⟨.vmem, 42, rfl⟩
abbrev cc0_stg43_0 : Ref sig .tc := ⟨.vmem, 43, rfl⟩
abbrev cc0_stg44_0 : Ref sig .tc := ⟨.vmem, 44, rfl⟩
abbrev cc0_stg45_0 : Ref sig .tc := ⟨.vmem, 45, rfl⟩
abbrev cc0_stg46_0 : Ref sig .tc := ⟨.vmem, 46, rfl⟩
abbrev cc0_stg47_0 : Ref sig .tc := ⟨.vmem, 47, rfl⟩
abbrev cc0_stg48_0 : Ref sig .tc := ⟨.vmem, 48, rfl⟩
abbrev cc0_stg49_0 : Ref sig .tc := ⟨.vmem, 49, rfl⟩
abbrev cc0_stg50_0 : Ref sig .tc := ⟨.vmem, 50, rfl⟩
abbrev cc0_stg51_0 : Ref sig .tc := ⟨.vmem, 51, rfl⟩
abbrev cc0_stg52_0 : Ref sig .tc := ⟨.vmem, 52, rfl⟩
abbrev cc0_stg53_0 : Ref sig .tc := ⟨.vmem, 53, rfl⟩
abbrev cc0_stg54_0 : Ref sig .tc := ⟨.vmem, 54, rfl⟩
abbrev cc0_stg55_0 : Ref sig .tc := ⟨.vmem, 55, rfl⟩
abbrev cc0_stg56_0 : Ref sig .tc := ⟨.vmem, 56, rfl⟩
abbrev cc0_stg57_0 : Ref sig .tc := ⟨.vmem, 57, rfl⟩
abbrev cc0_stg58_0 : Ref sig .tc := ⟨.vmem, 58, rfl⟩
abbrev cc0_stg59_0 : Ref sig .tc := ⟨.vmem, 59, rfl⟩
abbrev cc0_stg60_0 : Ref sig .tc := ⟨.vmem, 60, rfl⟩
abbrev cc0_stg61_0 : Ref sig .tc := ⟨.vmem, 61, rfl⟩
abbrev cc0_stg62_0 : Ref sig .tc := ⟨.vmem, 62, rfl⟩
abbrev cc0_stg63_0 : Ref sig .tc := ⟨.vmem, 63, rfl⟩
abbrev cc0_stg64_0 : Ref sig .tc := ⟨.vmem, 64, rfl⟩
abbrev cc0_stg65_0 : Ref sig .tc := ⟨.vmem, 65, rfl⟩
abbrev cc0_stg66_0 : Ref sig .tc := ⟨.vmem, 66, rfl⟩
abbrev cc0_stg67_0 : Ref sig .tc := ⟨.vmem, 67, rfl⟩
abbrev cc0_stg68_0 : Ref sig .tc := ⟨.vmem, 68, rfl⟩
abbrev cc0_stg69_0 : Ref sig .tc := ⟨.vmem, 69, rfl⟩
abbrev cc0_stg70_0 : Ref sig .tc := ⟨.vmem, 70, rfl⟩
abbrev cc0_stg71_0 : Ref sig .tc := ⟨.vmem, 71, rfl⟩
abbrev cc0_stg72_0 : Ref sig .tc := ⟨.vmem, 72, rfl⟩
abbrev cc0_stg73_0 : Ref sig .tc := ⟨.vmem, 73, rfl⟩
abbrev cc0_stg74_0 : Ref sig .tc := ⟨.vmem, 74, rfl⟩
abbrev cc0_stg75_0 : Ref sig .tc := ⟨.vmem, 75, rfl⟩
abbrev cc0_stg76_0 : Ref sig .tc := ⟨.vmem, 76, rfl⟩
abbrev cc0_stg77_0 : Ref sig .tc := ⟨.vmem, 77, rfl⟩
abbrev cc0_stg78_0 : Ref sig .tc := ⟨.vmem, 78, rfl⟩
abbrev cc0_stg79_0 : Ref sig .tc := ⟨.vmem, 79, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30
abbrev cc0_sem31_0 : DmaSem sig := 31
abbrev cc0_sem32_0 : DmaSem sig := 32
abbrev cc0_sem33_0 : DmaSem sig := 33
abbrev cc0_sem34_0 : DmaSem sig := 34
abbrev cc0_sem35_0 : DmaSem sig := 35
abbrev cc0_sem36_0 : DmaSem sig := 36
abbrev cc0_sem37_0 : DmaSem sig := 37
abbrev cc0_sem38_0 : DmaSem sig := 38
abbrev cc0_sem39_0 : DmaSem sig := 39
abbrev cc0_sem40_0 : DmaSem sig := 40
abbrev cc0_sem41_0 : DmaSem sig := 41
abbrev cc0_sem42_0 : DmaSem sig := 42
abbrev cc0_sem43_0 : DmaSem sig := 43
abbrev cc0_sem44_0 : DmaSem sig := 44
abbrev cc0_sem45_0 : DmaSem sig := 45
abbrev cc0_sem46_0 : DmaSem sig := 46
abbrev cc0_sem47_0 : DmaSem sig := 47
abbrev cc0_sem48_0 : DmaSem sig := 48
abbrev cc0_sem49_0 : DmaSem sig := 49
abbrev cc0_sem50_0 : DmaSem sig := 50
abbrev cc0_sem51_0 : DmaSem sig := 51
abbrev cc0_sem52_0 : DmaSem sig := 52
abbrev cc0_sem53_0 : DmaSem sig := 53
abbrev cc0_sem54_0 : DmaSem sig := 54
abbrev cc0_sem55_0 : DmaSem sig := 55
abbrev cc0_sem56_0 : DmaSem sig := 56
abbrev cc0_sem57_0 : DmaSem sig := 57
abbrev cc0_sem58_0 : DmaSem sig := 58
abbrev cc0_sem59_0 : DmaSem sig := 59
abbrev cc0_sem60_0 : DmaSem sig := 60
abbrev cc0_sem61_0 : DmaSem sig := 61
abbrev cc0_sem62_0 : DmaSem sig := 62
abbrev cc0_sem63_0 : DmaSem sig := 63
abbrev cc0_sem64_0 : DmaSem sig := 64
abbrev cc0_sem65_0 : DmaSem sig := 65
abbrev cc0_sem66_0 : DmaSem sig := 66
abbrev cc0_sem67_0 : DmaSem sig := 67
abbrev cc0_sem68_0 : DmaSem sig := 68
abbrev cc0_sem69_0 : DmaSem sig := 69
abbrev cc0_sem70_0 : DmaSem sig := 70
abbrev cc0_sem71_0 : DmaSem sig := 71
abbrev cc0_sem72_0 : DmaSem sig := 72
abbrev cc0_sem73_0 : DmaSem sig := 73
abbrev cc0_sem74_0 : DmaSem sig := 74
abbrev cc0_sem75_0 : DmaSem sig := 75
abbrev cc0_sem76_0 : DmaSem sig := 76
abbrev cc0_sem77_0 : DmaSem sig := 77
abbrev cc0_sem78_0 : DmaSem sig := 78
abbrev cc0_sem79_0 : DmaSem sig := 79

abbrev nD : Nat := 1
abbrev τ : Topo := Topo.v7x

variable {F : FTy → Type} [FloatOps F]

abbrev grid0 : Pipeline.Grid := .none

abbrev stage0_0 : Fin 1 → Memref sig .tc .vmem S8x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S8x1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x512x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S2x1024 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S512x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1024 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1024 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S1x1024 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S1x1024 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S1x1024 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S1x1024 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S1x1024 .f32 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S2x1024 .f32 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S1x512 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S512x128 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x1024 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))

abbrev stage0_31 : Fin 1 → Memref sig .tc .vmem S1x1024 .f32 := fun | 0 => Memref.whole cc0_stg31_0 | ⟨_ + 1, h⟩ => absurd h (Nat.not_lt.2 (Nat.le_add_left _ _))
abbrev sem0_31 : Fin 1 → DmaSem sig := fun | 0 => cc0_sem31_0 | ⟨_ + 1, h⟩ => absurd h (Nat.not_lt.2 (Nat.le_add_left _ _))

abbrev stage0_32 : Fin 1 → Memref sig .tc .vmem S1x1024 .f32 := fun | 0 => Memref.whole cc0_stg32_0 | ⟨_ + 1, h⟩ => absurd h (Nat.not_lt.2 (Nat.le_add_left _ _))
abbrev sem0_32 : Fin 1 → DmaSem sig := fun | 0 => cc0_sem32_0 | ⟨_ + 1, h⟩ => absurd h (Nat.not_lt.2 (Nat.le_add_left _ _))

abbrev stage0_33 : Fin 1 → Memref sig .tc .vmem S1x1024 .f32 := fun | 0 => Memref.whole cc0_stg33_0 | ⟨_ + 1, h⟩ => absurd h (Nat.not_lt.2 (Nat.le_add_left _ _))
abbrev sem0_33 : Fin 1 → DmaSem sig := fun | 0 => cc0_sem33_0 | ⟨_ + 1, h⟩ => absurd h (Nat.not_lt.2 (Nat.le_add_left _ _))

abbrev stage0_34 : Fin 1 → Memref sig .tc .vmem S1x1024 .f32 := fun | 0 => Memref.whole cc0_stg34_0 | ⟨_ + 1, h⟩ => absurd h (Nat.not_lt.2 (Nat.le_add_left _ _))
abbrev sem0_34 : Fin 1 → DmaSem sig := fun | 0 => cc0_sem34_0 | ⟨_ + 1, h⟩ => absurd h (Nat.not_lt.2 (Nat.le_add_left _ _))

abbrev stage0_35 : Fin 1 → Memref sig .tc .vmem S1x1024 .f32 := fun | 0 => Memref.whole cc0_stg35_0 | ⟨_ + 1, h⟩ => absurd h (Nat.not_lt.2 (Nat.le_add_left _ _))
abbrev sem0_35 : Fin 1 → DmaSem sig := fun | 0 => cc0_sem35_0 | ⟨_ + 1, h⟩ => absurd h (Nat.not_lt.2 (Nat.le_add_left _ _))

abbrev stage0_36 : Fin 1 → Memref sig .tc .vmem S1x1024 .f32 := fun | 0 => Memref.whole cc0_stg36_0 | ⟨_ + 1, h⟩ => absurd h (Nat.not_lt.2 (Nat.le_add_left _ _))
abbrev sem0_36 : Fin 1 → DmaSem sig := fun | 0 => cc0_sem36_0 | ⟨_ + 1, h⟩ => absurd h (Nat.not_lt.2 (Nat.le_add_left _ _))

abbrev stage0_37 : Fin 1 → Memref sig .tc .vmem S2x1024 .f32 := fun | 0 => Memref.whole cc0_stg37_0 | ⟨_ + 1, h⟩ => absurd h (Nat.not_lt.2 (Nat.le_add_left _ _))
abbrev sem0_37 : Fin 1 → DmaSem sig := fun | 0 => cc0_sem37_0 | ⟨_ + 1, h⟩ => absurd h (Nat.not_lt.2 (Nat.le_add_left _ _))

abbrev stage0_38 : Fin 1 → Memref sig .tc .vmem S1x512 .f32 := fun | 0 => Memref.whole cc0_stg38_0 | ⟨_ + 1, h⟩ => absurd h (Nat.not_lt.2 (Nat.le_add_left _ _))
abbrev sem0_38 : Fin 1 → DmaSem sig := fun | 0 => cc0_sem38_0 | ⟨_ + 1, h⟩ => absurd h (Nat.not_lt.2 (Nat.le_add_left _ _))

abbrev stage0_39 : Fin 1 → Memref sig .tc .vmem S512x128 .f32 := fun | 0 => Memref.whole cc0_stg39_0 | ⟨_ + 1, h⟩ => absurd h (Nat.not_lt.2 (Nat.le_add_left _ _))
abbrev sem0_39 : Fin 1 → DmaSem sig := fun | 0 => cc0_sem39_0 | ⟨_ + 1, h⟩ => absurd h (Nat.not_lt.2 (Nat.le_add_left _ _))

abbrev stage0_40 : Fin 1 → Memref sig .tc .vmem S1x1024 .f32 := fun | 0 => Memref.whole cc0_stg40_0 | ⟨_ + 1, h⟩ => absurd h (Nat.not_lt.2 (Nat.le_add_left _ _))
abbrev sem0_40 : Fin 1 → DmaSem sig := fun | 0 => cc0_sem40_0 | ⟨_ + 1, h⟩ => absurd h (Nat.not_lt.2 (Nat.le_add_left _ _))

abbrev stage0_41 : Fin 1 → Memref sig .tc .vmem S1x1024 .f32 := fun | 0 => Memref.whole cc0_stg41_0 | ⟨_ + 1, h⟩ => absurd h (Nat.not_lt.2 (Nat.le_add_left _ _))
abbrev sem0_41 : Fin 1 → DmaSem sig := fun | 0 => cc0_sem41_0 | ⟨_ + 1, h⟩ => absurd h (Nat.not_lt.2 (Nat.le_add_left _ _))

abbrev stage0_42 : Fin 1 → Memref sig .tc .vmem S1x1024 .f32 := fun | 0 => Memref.whole cc0_stg42_0 | ⟨_ + 1, h⟩ => absurd h (Nat.not_lt.2 (Nat.le_add_left _ _))
abbrev sem0_42 : Fin 1 → DmaSem sig := fun | 0 => cc0_sem42_0 | ⟨_ + 1, h⟩ => absurd h (Nat.not_lt.2 (Nat.le_add_left _ _))

abbrev stage0_43 : Fin 1 → Memref sig .tc .vmem S1x1024 .f32 := fun | 0 => Memref.whole cc0_stg43_0 | ⟨_ + 1, h⟩ => absurd h (Nat.not_lt.2 (Nat.le_add_left _ _))
abbrev sem0_43 : Fin 1 → DmaSem sig := fun | 0 => cc0_sem43_0 | ⟨_ + 1, h⟩ => absurd h (Nat.not_lt.2 (Nat.le_add_left _ _))

abbrev stage0_44 : Fin 1 → Memref sig .tc .vmem S1x1024 .f32 := fun | 0 => Memref.whole cc0_stg44_0 | ⟨_ + 1, h⟩ => absurd h (Nat.not_lt.2 (Nat.le_add_left _ _))
abbrev sem0_44 : Fin 1 → DmaSem sig := fun | 0 => cc0_sem44_0 | ⟨_ + 1, h⟩ => absurd h (Nat.not_lt.2 (Nat.le_add_left _ _))

abbrev stage0_45 : Fin 1 → Memref sig .tc .vmem S1x1024 .f32 := fun | 0 => Memref.whole cc0_stg45_0 | ⟨_ + 1, h⟩ => absurd h (Nat.not_lt.2 (Nat.le_add_left _ _))
abbrev sem0_45 : Fin 1 → DmaSem sig := fun | 0 => cc0_sem45_0 | ⟨_ + 1, h⟩ => absurd h (Nat.not_lt.2 (Nat.le_add_left _ _))

abbrev stage0_46 : Fin 1 → Memref sig .tc .vmem S1x1024 .f32 := fun | 0 => Memref.whole cc0_stg46_0 | ⟨_ + 1, h⟩ => absurd h (Nat.not_lt.2 (Nat.le_add_left _ _))
abbrev sem0_46 : Fin 1 → DmaSem sig := fun | 0 => cc0_sem46_0 | ⟨_ + 1, h⟩ => absurd h (Nat.not_lt.2 (Nat.le_add_left _ _))

abbrev stage0_47 : Fin 1 → Memref sig .tc .vmem S2x1024 .f32 := fun | 0 => Memref.whole cc0_stg47_0 | ⟨_ + 1, h⟩ => absurd h (Nat.not_lt.2 (Nat.le_add_left _ _))
abbrev sem0_47 : Fin 1 → DmaSem sig := fun | 0 => cc0_sem47_0 | ⟨_ + 1, h⟩ => absurd h (Nat.not_lt.2 (Nat.le_add_left _ _))

abbrev stage0_48 : Fin 1 → Memref sig .tc .vmem S1x512 .f32 := fun | 0 => Memref.whole cc0_stg48_0 | ⟨_ + 1, h⟩ => absurd h (Nat.not_lt.2 (Nat.le_add_left _ _))
abbrev sem0_48 : Fin 1 → DmaSem sig := fun | 0 => cc0_sem48_0 | ⟨_ + 1, h⟩ => absurd h (Nat.not_lt.2 (Nat.le_add_left _ _))

abbrev stage0_49 : Fin 1 → Memref sig .tc .vmem S512x128 .f32 := fun | 0 => Memref.whole cc0_stg49_0 | ⟨_ + 1, h⟩ => absurd h (Nat.not_lt.2 (Nat.le_add_left _ _))
abbrev sem0_49 : Fin 1 → DmaSem sig := fun | 0 => cc0_sem49_0 | ⟨_ + 1, h⟩ => absurd h (Nat.not_lt.2 (Nat.le_add_left _ _))

abbrev stage0_50 : Fin 1 → Memref sig .tc .vmem S1x1024 .f32 := fun | 0 => Memref.whole cc0_stg50_0 | ⟨_ + 1, h⟩ => absurd h (Nat.not_lt.2 (Nat.le_add_left _ _))
abbrev sem0_50 : Fin 1 → DmaSem sig := fun | 0 => cc0_sem50_0 | ⟨_ + 1, h⟩ => absurd h (Nat.not_lt.2 (Nat.le_add_left _ _))

abbrev stage0_51 : Fin 1 → Memref sig .tc .vmem S1x1024 .f32 := fun | 0 => Memref.whole cc0_stg51_0 | ⟨_ + 1, h⟩ => absurd h (Nat.not_lt.2 (Nat.le_add_left _ _))
abbrev sem0_51 : Fin 1 → DmaSem sig := fun | 0 => cc0_sem51_0 | ⟨_ + 1, h⟩ => absurd h (Nat.not_lt.2 (Nat.le_add_left _ _))

abbrev stage0_52 : Fin 1 → Memref sig .tc .vmem S1x1024 .f32 := fun | 0 => Memref.whole cc0_stg52_0 | ⟨_ + 1, h⟩ => absurd h (Nat.not_lt.2 (Nat.le_add_left _ _))
abbrev sem0_52 : Fin 1 → DmaSem sig := fun | 0 => cc0_sem52_0 | ⟨_ + 1, h⟩ => absurd h (Nat.not_lt.2 (Nat.le_add_left _ _))

abbrev stage0_53 : Fin 1 → Memref sig .tc .vmem S1x1024 .f32 := fun | 0 => Memref.whole cc0_stg53_0 | ⟨_ + 1, h⟩ => absurd h (Nat.not_lt.2 (Nat.le_add_left _ _))
abbrev sem0_53 : Fin 1 → DmaSem sig := fun | 0 => cc0_sem53_0 | ⟨_ + 1, h⟩ => absurd h (Nat.not_lt.2 (Nat.le_add_left _ _))

abbrev stage0_54 : Fin 1 → Memref sig .tc .vmem S1x1024 .f32 := fun | 0 => Memref.whole cc0_stg54_0 | ⟨_ + 1, h⟩ => absurd h (Nat.not_lt.2 (Nat.le_add_left _ _))
abbrev sem0_54 : Fin 1 → DmaSem sig := fun | 0 => cc0_sem54_0 | ⟨_ + 1, h⟩ => absurd h (Nat.not_lt.2 (Nat.le_add_left _ _))

abbrev stage0_55 : Fin 1 → Memref sig .tc .vmem S1x1024 .f32 := fun | 0 => Memref.whole cc0_stg55_0 | ⟨_ + 1, h⟩ => absurd h (Nat.not_lt.2 (Nat.le_add_left _ _))
abbrev sem0_55 : Fin 1 → DmaSem sig := fun | 0 => cc0_sem55_0 | ⟨_ + 1, h⟩ => absurd h (Nat.not_lt.2 (Nat.le_add_left _ _))

abbrev stage0_56 : Fin 1 → Memref sig .tc .vmem S1x1024 .f32 := fun | 0 => Memref.whole cc0_stg56_0 | ⟨_ + 1, h⟩ => absurd h (Nat.not_lt.2 (Nat.le_add_left _ _))
abbrev sem0_56 : Fin 1 → DmaSem sig := fun | 0 => cc0_sem56_0 | ⟨_ + 1, h⟩ => absurd h (Nat.not_lt.2 (Nat.le_add_left _ _))

abbrev stage0_57 : Fin 1 → Memref sig .tc .vmem S2x1024 .f32 := fun | 0 => Memref.whole cc0_stg57_0 | ⟨_ + 1, h⟩ => absurd h (Nat.not_lt.2 (Nat.le_add_left _ _))
abbrev sem0_57 : Fin 1 → DmaSem sig := fun | 0 => cc0_sem57_0 | ⟨_ + 1, h⟩ => absurd h (Nat.not_lt.2 (Nat.le_add_left _ _))

abbrev stage0_58 : Fin 1 → Memref sig .tc .vmem S1x512 .f32 := fun | 0 => Memref.whole cc0_stg58_0 | ⟨_ + 1, h⟩ => absurd h (Nat.not_lt.2 (Nat.le_add_left _ _))
abbrev sem0_58 : Fin 1 → DmaSem sig := fun | 0 => cc0_sem58_0 | ⟨_ + 1, h⟩ => absurd h (Nat.not_lt.2 (Nat.le_add_left _ _))

abbrev stage0_59 : Fin 1 → Memref sig .tc .vmem S512x128 .f32 := fun | 0 => Memref.whole cc0_stg59_0 | ⟨_ + 1, h⟩ => absurd h (Nat.not_lt.2 (Nat.le_add_left _ _))
abbrev sem0_59 : Fin 1 → DmaSem sig := fun | 0 => cc0_sem59_0 | ⟨_ + 1, h⟩ => absurd h (Nat.not_lt.2 (Nat.le_add_left _ _))

abbrev stage0_60 : Fin 1 → Memref sig .tc .vmem S1x1024 .f32 := fun | 0 => Memref.whole cc0_stg60_0 | ⟨_ + 1, h⟩ => absurd h (Nat.not_lt.2 (Nat.le_add_left _ _))
abbrev sem0_60 : Fin 1 → DmaSem sig := fun | 0 => cc0_sem60_0 | ⟨_ + 1, h⟩ => absurd h (Nat.not_lt.2 (Nat.le_add_left _ _))

abbrev stage0_61 : Fin 1 → Memref sig .tc .vmem S1x1024 .f32 := fun | 0 => Memref.whole cc0_stg61_0 | ⟨_ + 1, h⟩ => absurd h (Nat.not_lt.2 (Nat.le_add_left _ _))
abbrev sem0_61 : Fin 1 → DmaSem sig := fun | 0 => cc0_sem61_0 | ⟨_ + 1, h⟩ => absurd h (Nat.not_lt.2 (Nat.le_add_left _ _))

abbrev stage0_62 : Fin 1 → Memref sig .tc .vmem S1x1024 .f32 := fun | 0 => Memref.whole cc0_stg62_0 | ⟨_ + 1, h⟩ => absurd h (Nat.not_lt.2 (Nat.le_add_left _ _))
abbrev sem0_62 : Fin 1 → DmaSem sig := fun | 0 => cc0_sem62_0 | ⟨_ + 1, h⟩ => absurd h (Nat.not_lt.2 (Nat.le_add_left _ _))

abbrev stage0_63 : Fin 1 → Memref sig .tc .vmem S1x1024 .f32 := fun | 0 => Memref.whole cc0_stg63_0 | ⟨_ + 1, h⟩ => absurd h (Nat.not_lt.2 (Nat.le_add_left _ _))
abbrev sem0_63 : Fin 1 → DmaSem sig := fun | 0 => cc0_sem63_0 | ⟨_ + 1, h⟩ => absurd h (Nat.not_lt.2 (Nat.le_add_left _ _))

abbrev stage0_64 : Fin 1 → Memref sig .tc .vmem S1x1024 .f32 := fun | 0 => Memref.whole cc0_stg64_0 | ⟨_ + 1, h⟩ => absurd h (Nat.not_lt.2 (Nat.le_add_left _ _))
abbrev sem0_64 : Fin 1 → DmaSem sig := fun | 0 => cc0_sem64_0 | ⟨_ + 1, h⟩ => absurd h (Nat.not_lt.2 (Nat.le_add_left _ _))

abbrev stage0_65 : Fin 1 → Memref sig .tc .vmem S1x1024 .f32 := fun | 0 => Memref.whole cc0_stg65_0 | ⟨_ + 1, h⟩ => absurd h (Nat.not_lt.2 (Nat.le_add_left _ _))
abbrev sem0_65 : Fin 1 → DmaSem sig := fun | 0 => cc0_sem65_0 | ⟨_ + 1, h⟩ => absurd h (Nat.not_lt.2 (Nat.le_add_left _ _))

abbrev stage0_66 : Fin 1 → Memref sig .tc .vmem S1x1024 .f32 := fun | 0 => Memref.whole cc0_stg66_0 | ⟨_ + 1, h⟩ => absurd h (Nat.not_lt.2 (Nat.le_add_left _ _))
abbrev sem0_66 : Fin 1 → DmaSem sig := fun | 0 => cc0_sem66_0 | ⟨_ + 1, h⟩ => absurd h (Nat.not_lt.2 (Nat.le_add_left _ _))

abbrev stage0_67 : Fin 1 → Memref sig .tc .vmem S2x1024 .f32 := fun | 0 => Memref.whole cc0_stg67_0 | ⟨_ + 1, h⟩ => absurd h (Nat.not_lt.2 (Nat.le_add_left _ _))
abbrev sem0_67 : Fin 1 → DmaSem sig := fun | 0 => cc0_sem67_0 | ⟨_ + 1, h⟩ => absurd h (Nat.not_lt.2 (Nat.le_add_left _ _))

abbrev stage0_68 : Fin 1 → Memref sig .tc .vmem S1x512 .f32 := fun | 0 => Memref.whole cc0_stg68_0 | ⟨_ + 1, h⟩ => absurd h (Nat.not_lt.2 (Nat.le_add_left _ _))
abbrev sem0_68 : Fin 1 → DmaSem sig := fun | 0 => cc0_sem68_0 | ⟨_ + 1, h⟩ => absurd h (Nat.not_lt.2 (Nat.le_add_left _ _))

abbrev stage0_69 : Fin 1 → Memref sig .tc .vmem S512x128 .f32 := fun | 0 => Memref.whole cc0_stg69_0 | ⟨_ + 1, h⟩ => absurd h (Nat.not_lt.2 (Nat.le_add_left _ _))
abbrev sem0_69 : Fin 1 → DmaSem sig := fun | 0 => cc0_sem69_0 | ⟨_ + 1, h⟩ => absurd h (Nat.not_lt.2 (Nat.le_add_left _ _))

abbrev stage0_70 : Fin 1 → Memref sig .tc .vmem S1x1024 .f32 := fun | 0 => Memref.whole cc0_stg70_0 | ⟨_ + 1, h⟩ => absurd h (Nat.not_lt.2 (Nat.le_add_left _ _))
abbrev sem0_70 : Fin 1 → DmaSem sig := fun | 0 => cc0_sem70_0 | ⟨_ + 1, h⟩ => absurd h (Nat.not_lt.2 (Nat.le_add_left _ _))

abbrev stage0_71 : Fin 1 → Memref sig .tc .vmem S1x1024 .f32 := fun | 0 => Memref.whole cc0_stg71_0 | ⟨_ + 1, h⟩ => absurd h (Nat.not_lt.2 (Nat.le_add_left _ _))
abbrev sem0_71 : Fin 1 → DmaSem sig := fun | 0 => cc0_sem71_0 | ⟨_ + 1, h⟩ => absurd h (Nat.not_lt.2 (Nat.le_add_left _ _))

abbrev stage0_72 : Fin 1 → Memref sig .tc .vmem S1x1024 .f32 := fun | 0 => Memref.whole cc0_stg72_0 | ⟨_ + 1, h⟩ => absurd h (Nat.not_lt.2 (Nat.le_add_left _ _))
abbrev sem0_72 : Fin 1 → DmaSem sig := fun | 0 => cc0_sem72_0 | ⟨_ + 1, h⟩ => absurd h (Nat.not_lt.2 (Nat.le_add_left _ _))

abbrev stage0_73 : Fin 1 → Memref sig .tc .vmem S1x1024 .f32 := fun | 0 => Memref.whole cc0_stg73_0 | ⟨_ + 1, h⟩ => absurd h (Nat.not_lt.2 (Nat.le_add_left _ _))
abbrev sem0_73 : Fin 1 → DmaSem sig := fun | 0 => cc0_sem73_0 | ⟨_ + 1, h⟩ => absurd h (Nat.not_lt.2 (Nat.le_add_left _ _))

abbrev stage0_74 : Fin 1 → Memref sig .tc .vmem S1x1024 .f32 := fun | 0 => Memref.whole cc0_stg74_0 | ⟨_ + 1, h⟩ => absurd h (Nat.not_lt.2 (Nat.le_add_left _ _))
abbrev sem0_74 : Fin 1 → DmaSem sig := fun | 0 => cc0_sem74_0 | ⟨_ + 1, h⟩ => absurd h (Nat.not_lt.2 (Nat.le_add_left _ _))

abbrev stage0_75 : Fin 1 → Memref sig .tc .vmem S1x1024 .f32 := fun | 0 => Memref.whole cc0_stg75_0 | ⟨_ + 1, h⟩ => absurd h (Nat.not_lt.2 (Nat.le_add_left _ _))
abbrev sem0_75 : Fin 1 → DmaSem sig := fun | 0 => cc0_sem75_0 | ⟨_ + 1, h⟩ => absurd h (Nat.not_lt.2 (Nat.le_add_left _ _))

abbrev stage0_76 : Fin 1 → Memref sig .tc .vmem S1x1024 .f32 := fun | 0 => Memref.whole cc0_stg76_0 | ⟨_ + 1, h⟩ => absurd h (Nat.not_lt.2 (Nat.le_add_left _ _))
abbrev sem0_76 : Fin 1 → DmaSem sig := fun | 0 => cc0_sem76_0 | ⟨_ + 1, h⟩ => absurd h (Nat.not_lt.2 (Nat.le_add_left _ _))

abbrev stage0_77 : Fin 1 → Memref sig .tc .vmem S2x1024 .f32 := fun | 0 => Memref.whole cc0_stg77_0 | ⟨_ + 1, h⟩ => absurd h (Nat.not_lt.2 (Nat.le_add_left _ _))
abbrev sem0_77 : Fin 1 → DmaSem sig := fun | 0 => cc0_sem77_0 | ⟨_ + 1, h⟩ => absurd h (Nat.not_lt.2 (Nat.le_add_left _ _))

abbrev stage0_78 : Fin 1 → Memref sig .tc .vmem S1x512 .f32 := fun | 0 => Memref.whole cc0_stg78_0 | ⟨_ + 1, h⟩ => absurd h (Nat.not_lt.2 (Nat.le_add_left _ _))
abbrev sem0_78 : Fin 1 → DmaSem sig := fun | 0 => cc0_sem78_0 | ⟨_ + 1, h⟩ => absurd h (Nat.not_lt.2 (Nat.le_add_left _ _))

abbrev stage0_79 : Fin 1 → Memref sig .tc .vmem S512x128 .f32 := fun | 0 => Memref.whole cc0_stg79_0 | ⟨_ + 1, h⟩ => absurd h (Nat.not_lt.2 (Nat.le_add_left _ _))
abbrev sem0_79 : Fin 1 → DmaSem sig := fun | 0 => cc0_sem79_0 | ⟨_ + 1, h⟩ => absurd h (Nat.not_lt.2 (Nat.le_add_left _ _))
-- ==== AdamSmallIdeal.lean ====
variable {F : FTy → Type} [FloatOps F] [Named F]
def κ : String → Option EReal := fun
  | "inv_bc1" => some ((8388608 / 5463681 : ℝ) : EReal)
  | "inv_bc2" => some ((268435456 / 2672307 : ℝ) : EReal)
  | _ => none
-- ==== AdamSmallRefIdeal.lean ====
abbrev S8x1x1024 : Shape := ⟨3, ![8, 1, 1024]⟩
abbrev S8x1x512 : Shape := ⟨3, ![8, 1, 512]⟩
abbrev S8x512x128 : Shape := ⟨3, ![8, 512, 128]⟩
abbrev S1x1024 : Shape := ⟨2, ![1, 1024]⟩
abbrev S2x1024 : Shape := ⟨2, ![2, 1024]⟩
abbrev S1x512 : Shape := ⟨2, ![1, 512]⟩
abbrev S512x128 : Shape := ⟨2, ![512, 128]⟩
abbrev S_ : Shape := ⟨0, ![]⟩
abbrev S1024 : Shape := ⟨1, ![1024]⟩

abbrev nBuf : Space → Nat
  | .hbm => 445
  | .vmem => 0
  | .smem => 0
  | _ => 0

abbrev hbmTy0_0 (i : Nat) : BufTy := match i % 128 with
  | 0 => ⟨S8x1x1024, .f32⟩
  | 1 => ⟨S8x1x1024, .f32⟩
  | 2 => ⟨S8x1x1024, .f32⟩
  | 3 => ⟨S8x1x1024, .f32⟩
  | 4 => ⟨S8x1x1024, .f32⟩
  | 5 => ⟨S8x1x1024, .f32⟩
  | 6 => ⟨S8x1x1024, .f32⟩
  | 7 => ⟨S8x1x1024, .f32⟩
  | 8 => ⟨S8x1x512, .f32⟩
  | 9 => ⟨S8x512x128, .f32⟩
  | 10 => ⟨S1x1024, .f32⟩
  | 11 => ⟨S1x1024, .f32⟩
  | 12 => ⟨S1x1024, .f32⟩
  | 13 => ⟨S1x1024, .f32⟩
  | 14 => ⟨S1x1024, .f32⟩
  | 15 => ⟨S1x1024, .f32⟩
  | 16 => ⟨S1x1024, .f32⟩
  | 17 => ⟨S2x1024, .f32⟩
  | 18 => ⟨S1x512, .f32⟩
  | 19 => ⟨S512x128, .f32⟩
  | 20 => ⟨S1x1024, .f32⟩
  | 21 => ⟨S1x1024, .f32⟩
  | 22 => ⟨S1x1024, .f32⟩
  | 23 => ⟨S1x1024, .f32⟩
  | 24 => ⟨S1x1024, .f32⟩
  | 25 => ⟨S1x1024, .f32⟩
  | 26 => ⟨S1x1024, .f32⟩
  | 27 => ⟨S2x1024, .f32⟩
  | 28 => ⟨S1x512, .f32⟩
  | 29 => ⟨S512x128, .f32⟩
  | 30 => ⟨S1x1024, .f32⟩
  | 31 => ⟨S1x1024, .f32⟩
  | 32 => ⟨S1x1024, .f32⟩
  | 33 => ⟨S1x1024, .f32⟩
  | 34 => ⟨S1x1024, .f32⟩
  | 35 => ⟨S1x1024, .f32⟩
  | 36 => ⟨S1x1024, .f32⟩
  | 37 => ⟨S2x1024, .f32⟩
  | 38 => ⟨S1x512, .f32⟩
  | 39 => ⟨S512x128, .f32⟩
  | 40 => ⟨S_, .f32⟩
  | 41 => ⟨S1x1024, .f32⟩
  | 42 => ⟨S_, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S1x1024, .f32⟩
  | 53 => ⟨S_, .f32⟩
  | 54 => ⟨S1x1024, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S_, .f32⟩
  | 61 => ⟨S1x1024, .f32⟩
  | 62 => ⟨S1x1024, .f32⟩
  | 63 => ⟨S1x1024, .f32⟩
  | 64 => ⟨S_, .f32⟩
  | 65 => ⟨S1x1024, .f32⟩
  | 66 => ⟨S1x1024, .f32⟩
  | 67 => ⟨S1x1024, .f32⟩
  | 68 => ⟨S_, .f32⟩
  | 69 => ⟨S1x1024, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S_, .f32⟩
  | 76 => ⟨S1x1024, .f32⟩
  | 77 => ⟨S_, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S1x1024, .f32⟩
  | 88 => ⟨S_, .f32⟩
  | 89 => ⟨S1x1024, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S_, .f32⟩
  | 96 => ⟨S1x1024, .f32⟩
  | 97 => ⟨S1x1024, .f32⟩
  | 98 => ⟨S1x1024, .f32⟩
  | 99 => ⟨S_, .f32⟩
  | 100 => ⟨S1x1024, .f32⟩
  | 101 => ⟨S1x1024, .f32⟩
  | 102 => ⟨S1x1024, .f32⟩
  | 103 => ⟨S_, .f32⟩
  | 104 => ⟨S1x1024, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S_, .f32⟩
  | 111 => ⟨S1x1024, .f32⟩
  | 112 => ⟨S_, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S1x1024, .f32⟩
  | 123 => ⟨S_, .f32⟩
  | 124 => ⟨S1x1024, .f32⟩
  | 125 => ⟨S1x1024, .f32⟩
  | 126 => ⟨S1x1024, .f32⟩
  | 127 => ⟨S_, .f32⟩
  | _ => ⟨S8x1x1024, .f32⟩

abbrev hbmTy0_1 (i : Nat) : BufTy := match i % 128 with
  | 0 => ⟨S1x1024, .f32⟩
  | 1 => ⟨S1x1024, .f32⟩
  | 2 => ⟨S_, .f32⟩
  | 3 => ⟨S1x1024, .f32⟩
  | 4 => ⟨S1x1024, .f32⟩
  | 5 => ⟨S1x1024, .f32⟩
  | 6 => ⟨S_, .f32⟩
  | 7 => ⟨S1x1024, .f32⟩
  | 8 => ⟨S1x1024, .f32⟩
  | 9 => ⟨S1x1024, .f32⟩
  | 10 => ⟨S_, .f32⟩
  | 11 => ⟨S1x1024, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S_, .f32⟩
  | 18 => ⟨S1x1024, .f32⟩
  | 19 => ⟨S_, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S1x1024, .f32⟩
  | 30 => ⟨S_, .f32⟩
  | 31 => ⟨S1x1024, .f32⟩
  | 32 => ⟨S1x1024, .f32⟩
  | 33 => ⟨S1x1024, .f32⟩
  | 34 => ⟨S_, .f32⟩
  | 35 => ⟨S1x1024, .f32⟩
  | 36 => ⟨S1x1024, .f32⟩
  | 37 => ⟨S_, .f32⟩
  | 38 => ⟨S1x1024, .f32⟩
  | 39 => ⟨S1x1024, .f32⟩
  | 40 => ⟨S1x1024, .f32⟩
  | 41 => ⟨S_, .f32⟩
  | 42 => ⟨S1x1024, .f32⟩
  | 43 => ⟨S1x1024, .f32⟩
  | 44 => ⟨S1x1024, .f32⟩
  | 45 => ⟨S_, .f32⟩
  | 46 => ⟨S1x1024, .f32⟩
  | 47 => ⟨S1x1024, .f32⟩
  | 48 => ⟨S1x1024, .f32⟩
  | 49 => ⟨S_, .f32⟩
  | 50 => ⟨S1x1024, .f32⟩
  | 51 => ⟨S1x1024, .f32⟩
  | 52 => ⟨S_, .f32⟩
  | 53 => ⟨S1x1024, .f32⟩
  | 54 => ⟨S_, .f32⟩
  | 55 => ⟨S1x1024, .f32⟩
  | 56 => ⟨S1x1024, .f32⟩
  | 57 => ⟨S_, .f32⟩
  | 58 => ⟨S1x1024, .f32⟩
  | 59 => ⟨S1x1024, .f32⟩
  | 60 => ⟨S1x1024, .f32⟩
  | 61 => ⟨S_, .f32⟩
  | 62 => ⟨S1x1024, .f32⟩
  | 63 => ⟨S1x1024, .f32⟩
  | 64 => ⟨S1x1024, .f32⟩
  | 65 => ⟨S_, .f32⟩
  | 66 => ⟨S1x1024, .f32⟩
  | 67 => ⟨S1x1024, .f32⟩
  | 68 => ⟨S1x1024, .f32⟩
  | 69 => ⟨S_, .f32⟩
  | 70 => ⟨S1x1024, .f32⟩
  | 71 => ⟨S1x1024, .f32⟩
  | 72 => ⟨S_, .f32⟩
  | 73 => ⟨S1x1024, .f32⟩
  | 74 => ⟨S1x1024, .f32⟩
  | 75 => ⟨S1x1024, .f32⟩
  | 76 => ⟨S_, .f32⟩
  | 77 => ⟨S1x1024, .f32⟩
  | 78 => ⟨S1x1024, .f32⟩
  | 79 => ⟨S1x1024, .f32⟩
  | 80 => ⟨S_, .f32⟩
  | 81 => ⟨S1x1024, .f32⟩
  | 82 => ⟨S1x1024, .f32⟩
  | 83 => ⟨S1x1024, .f32⟩
  | 84 => ⟨S_, .f32⟩
  | 85 => ⟨S1x1024, .f32⟩
  | 86 => ⟨S1x1024, .f32⟩
  | 87 => ⟨S_, .f32⟩
  | 88 => ⟨S1x1024, .f32⟩
  | 89 => ⟨S_, .f32⟩
  | 90 => ⟨S1x1024, .f32⟩
  | 91 => ⟨S1x1024, .f32⟩
  | 92 => ⟨S_, .f32⟩
  | 93 => ⟨S1x1024, .f32⟩
  | 94 => ⟨S1x1024, .f32⟩
  | 95 => ⟨S1x1024, .f32⟩
  | 96 => ⟨S_, .f32⟩
  | 97 => ⟨S1x1024, .f32⟩
  | 98 => ⟨S1x1024, .f32⟩
  | 99 => ⟨S1x1024, .f32⟩
  | 100 => ⟨S_, .f32⟩
  | 101 => ⟨S1x1024, .f32⟩
  | 102 => ⟨S1x1024, .f32⟩
  | 103 => ⟨S1x1024, .f32⟩
  | 104 => ⟨S_, .f32⟩
  | 105 => ⟨S1x1024, .f32⟩
  | 106 => ⟨S1x1024, .f32⟩
  | 107 => ⟨S_, .f32⟩
  | 108 => ⟨S1x1024, .f32⟩
  | 109 => ⟨S1x1024, .f32⟩
  | 110 => ⟨S1x1024, .f32⟩
  | 111 => ⟨S_, .f32⟩
  | 112 => ⟨S1x1024, .f32⟩
  | 113 => ⟨S1x1024, .f32⟩
  | 114 => ⟨S1x1024, .f32⟩
  | 115 => ⟨S_, .f32⟩
  | 116 => ⟨S1x1024, .f32⟩
  | 117 => ⟨S1x1024, .f32⟩
  | 118 => ⟨S1x1024, .f32⟩
  | 119 => ⟨S_, .f32⟩
  | 120 => ⟨S1x1024, .f32⟩
  | 121 => ⟨S1x1024, .f32⟩
  | 122 => ⟨S_, .f32⟩
  | 123 => ⟨S1x1024, .f32⟩
  | 124 => ⟨S_, .f32⟩
  | 125 => ⟨S1x1024, .f32⟩
  | 126 => ⟨S1x1024, .f32⟩
  | 127 => ⟨S_, .f32⟩
  | _ => ⟨S8x1x1024, .f32⟩

abbrev hbmTy0_2 (i : Nat) : BufTy := match i % 128 with
  | 0 => ⟨S1x1024, .f32⟩
  | 1 => ⟨S1x1024, .f32⟩
  | 2 => ⟨S1x1024, .f32⟩
  | 3 => ⟨S_, .f32⟩
  | 4 => ⟨S1x1024, .f32⟩
  | 5 => ⟨S1x1024, .f32⟩
  | 6 => ⟨S1x1024, .f32⟩
  | 7 => ⟨S_, .f32⟩
  | 8 => ⟨S1x1024, .f32⟩
  | 9 => ⟨S1x1024, .f32⟩
  | 10 => ⟨S1x1024, .f32⟩
  | 11 => ⟨S_, .f32⟩
  | 12 => ⟨S1x1024, .f32⟩
  | 13 => ⟨S1x1024, .f32⟩
  | 14 => ⟨S_, .f32⟩
  | 15 => ⟨S1x1024, .f32⟩
  | 16 => ⟨S1x1024, .f32⟩
  | 17 => ⟨S1x1024, .f32⟩
  | 18 => ⟨S_, .f32⟩
  | 19 => ⟨S1x1024, .f32⟩
  | 20 => ⟨S1x1024, .f32⟩
  | 21 => ⟨S1x1024, .f32⟩
  | 22 => ⟨S_, .f32⟩
  | 23 => ⟨S1x1024, .f32⟩
  | 24 => ⟨S1x1024, .f32⟩
  | 25 => ⟨S1x1024, .f32⟩
  | 26 => ⟨S_, .f32⟩
  | 27 => ⟨S1x1024, .f32⟩
  | 28 => ⟨S1x1024, .f32⟩
  | 29 => ⟨S_, .f32⟩
  | 30 => ⟨S1x1024, .f32⟩
  | 31 => ⟨S_, .f32⟩
  | 32 => ⟨S1024, .f32⟩
  | 33 => ⟨S1x1024, .f32⟩
  | 34 => ⟨S2x1024, .f32⟩
  | 35 => ⟨S2x1024, .i1⟩
  | 36 => ⟨S2x1024, .f32⟩
  | 37 => ⟨S_, .f32⟩
  | 38 => ⟨S1024, .f32⟩
  | 39 => ⟨S_, .f32⟩
  | 40 => ⟨S1024, .f32⟩
  | 41 => ⟨S1024, .f32⟩
  | 42 => ⟨S_, .f32⟩
  | 43 => ⟨S1024, .f32⟩
  | 44 => ⟨S1024, .i1⟩
  | 45 => ⟨S_, .f32⟩
  | 46 => ⟨S1024, .f32⟩
  | 47 => ⟨S1024, .i1⟩
  | 48 => ⟨S_, .f32⟩
  | 49 => ⟨S1024, .f32⟩
  | 50 => ⟨S_, .f32⟩
  | 51 => ⟨S1024, .f32⟩
  | 52 => ⟨S_, .f32⟩
  | 53 => ⟨S1024, .f32⟩
  | 54 => ⟨S1024, .f32⟩
  | 55 => ⟨S1024, .f32⟩
  | 56 => ⟨S1x1024, .f32⟩
  | 57 => ⟨S2x1024, .f32⟩
  | 58 => ⟨S2x1024, .f32⟩
  | 59 => ⟨S2x1024, .f32⟩
  | 60 => ⟨S_, .f32⟩
  | 61 => ⟨S1024, .f32⟩
  | 62 => ⟨S1x1024, .f32⟩
  | 63 => ⟨S2x1024, .f32⟩
  | 64 => ⟨S2x1024, .f32⟩
  | 65 => ⟨S1x1024, .f32⟩
  | 66 => ⟨S_, .f32⟩
  | 67 => ⟨S1x1024, .f32⟩
  | 68 => ⟨S1x1024, .f32⟩
  | 69 => ⟨S1x1024, .f32⟩
  | 70 => ⟨S_, .f32⟩
  | 71 => ⟨S2x1024, .f32⟩
  | 72 => ⟨S2x1024, .f32⟩
  | 73 => ⟨S2x1024, .f32⟩
  | 74 => ⟨S2x1024, .f32⟩
  | 75 => ⟨S_, .f32⟩
  | 76 => ⟨S1024, .f32⟩
  | 77 => ⟨S1x1024, .f32⟩
  | 78 => ⟨S1x1024, .f32⟩
  | 79 => ⟨S2x1024, .f32⟩
  | 80 => ⟨S2x1024, .f32⟩
  | 81 => ⟨S_, .f32⟩
  | 82 => ⟨S1024, .f32⟩
  | 83 => ⟨S2x1024, .f32⟩
  | 84 => ⟨S2x1024, .f32⟩
  | 85 => ⟨S2x1024, .f32⟩
  | 86 => ⟨S_, .f32⟩
  | 87 => ⟨S2x1024, .f32⟩
  | 88 => ⟨S2x1024, .f32⟩
  | 89 => ⟨S_, .f32⟩
  | 90 => ⟨S2x1024, .f32⟩
  | 91 => ⟨S2x1024, .f32⟩
  | 92 => ⟨S2x1024, .f32⟩
  | 93 => ⟨S_, .f32⟩
  | 94 => ⟨S2x1024, .f32⟩
  | 95 => ⟨S2x1024, .f32⟩
  | 96 => ⟨S2x1024, .f32⟩
  | 97 => ⟨S_, .f32⟩
  | 98 => ⟨S2x1024, .f32⟩
  | 99 => ⟨S2x1024, .f32⟩
  | 100 => ⟨S2x1024, .f32⟩
  | 101 => ⟨S_, .f32⟩
  | 102 => ⟨S2x1024, .f32⟩
  | 103 => ⟨S2x1024, .f32⟩
  | 104 => ⟨S_, .f32⟩
  | 105 => ⟨S2x1024, .f32⟩
  | 106 => ⟨S2x1024, .f32⟩
  | 107 => ⟨S2x1024, .f32⟩
  | 108 => ⟨S_, .f32⟩
  | 109 => ⟨S2x1024, .f32⟩
  | 110 => ⟨S2x1024, .f32⟩
  | 111 => ⟨S2x1024, .f32⟩
  | 112 => ⟨S_, .f32⟩
  | 113 => ⟨S2x1024, .f32⟩
  | 114 => ⟨S2x1024, .f32⟩
  | 115 => ⟨S2x1024, .f32⟩
  | 116 => ⟨S_, .f32⟩
  | 117 => ⟨S2x1024, .f32⟩
  | 118 => ⟨S2x1024, .f32⟩
  | 119 => ⟨S_, .f32⟩
  | 120 => ⟨S1x512, .f32⟩
  | 121 => ⟨S_, .f32⟩
  | 122 => ⟨S1x512, .f32⟩
  | 123 => ⟨S1x512, .f32⟩
  | 124 => ⟨S_, .f32⟩
  | 125 => ⟨S1x512, .f32⟩
  | 126 => ⟨S1x512, .f32⟩
  | 127 => ⟨S1x512, .f32⟩
  | _ => ⟨S8x1x1024, .f32⟩

abbrev hbmTy0_3 (i : Nat) : BufTy := match i % 128 with
  | 0 => ⟨S_, .f32⟩
  | 1 => ⟨S1x512, .f32⟩
  | 2 => ⟨S1x512, .f32⟩
  | 3 => ⟨S1x512, .f32⟩
  | 4 => ⟨S_, .f32⟩
  | 5 => ⟨S1x512, .f32⟩
  | 6 => ⟨S1x512, .f32⟩
  | 7 => ⟨S1x512, .f32⟩
  | 8 => ⟨S_, .f32⟩
  | 9 => ⟨S1x512, .f32⟩
  | 10 => ⟨S1x512, .f32⟩
  | 11 => ⟨S_, .f32⟩
  | 12 => ⟨S1x512, .f32⟩
  | 13 => ⟨S1x512, .f32⟩
  | 14 => ⟨S1x512, .f32⟩
  | 15 => ⟨S_, .f32⟩
  | 16 => ⟨S1x512, .f32⟩
  | 17 => ⟨S1x512, .f32⟩
  | 18 => ⟨S1x512, .f32⟩
  | 19 => ⟨S_, .f32⟩
  | 20 => ⟨S1x512, .f32⟩
  | 21 => ⟨S1x512, .f32⟩
  | 22 => ⟨S1x512, .f32⟩
  | 23 => ⟨S_, .f32⟩
  | 24 => ⟨S1x512, .f32⟩
  | 25 => ⟨S1x512, .f32⟩
  | 26 => ⟨S_, .f32⟩
  | 27 => ⟨S512x128, .f32⟩
  | 28 => ⟨S_, .f32⟩
  | 29 => ⟨S512x128, .f32⟩
  | 30 => ⟨S512x128, .f32⟩
  | 31 => ⟨S_, .f32⟩
  | 32 => ⟨S512x128, .f32⟩
  | 33 => ⟨S512x128, .f32⟩
  | 34 => ⟨S512x128, .f32⟩
  | 35 => ⟨S_, .f32⟩
  | 36 => ⟨S512x128, .f32⟩
  | 37 => ⟨S512x128, .f32⟩
  | 38 => ⟨S512x128, .f32⟩
  | 39 => ⟨S_, .f32⟩
  | 40 => ⟨S512x128, .f32⟩
  | 41 => ⟨S512x128, .f32⟩
  | 42 => ⟨S512x128, .f32⟩
  | 43 => ⟨S_, .f32⟩
  | 44 => ⟨S512x128, .f32⟩
  | 45 => ⟨S512x128, .f32⟩
  | 46 => ⟨S_, .f32⟩
  | 47 => ⟨S512x128, .f32⟩
  | 48 => ⟨S512x128, .f32⟩
  | 49 => ⟨S512x128, .f32⟩
  | 50 => ⟨S_, .f32⟩
  | 51 => ⟨S512x128, .f32⟩
  | 52 => ⟨S512x128, .f32⟩
  | 53 => ⟨S512x128, .f32⟩
  | 54 => ⟨S_, .f32⟩
  | 55 => ⟨S512x128, .f32⟩
  | 56 => ⟨S512x128, .f32⟩
  | 57 => ⟨S512x128, .f32⟩
  | 58 => ⟨S_, .f32⟩
  | 59 => ⟨S512x128, .f32⟩
  | 60 => ⟨S512x128, .f32⟩
  | _ => ⟨S8x1x1024, .f32⟩

abbrev hbmTy (i : Nat) : BufTy := match i / 128 with
  | 0 => hbmTy0_0 i
  | 1 => hbmTy0_1 i
  | 2 => hbmTy0_2 i
  | 3 => hbmTy0_3 i
  | _ => ⟨S8x1x1024, .f32⟩

abbrev bufTy : (tb : Table) → Fin (tcTables nBuf tb) → BufTy
  | .hbm, ⟨i, _⟩ => hbmTy i
  | _, _ => ⟨S8x1x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_arg31 : Ref sig .tc := ⟨.hbm, 31, rfl⟩
abbrev main_arg32 : Ref sig .tc := ⟨.hbm, 32, rfl⟩
abbrev main_arg33 : Ref sig .tc := ⟨.hbm, 33, rfl⟩
abbrev main_arg34 : Ref sig .tc := ⟨.hbm, 34, rfl⟩
abbrev main_arg35 : Ref sig .tc := ⟨.hbm, 35, rfl⟩
abbrev main_arg36 : Ref sig .tc := ⟨.hbm, 36, rfl⟩
abbrev main_arg37 : Ref sig .tc := ⟨.hbm, 37, rfl⟩
abbrev main_arg38 : Ref sig .tc := ⟨.hbm, 38, rfl⟩
abbrev main_arg39 : Ref sig .tc := ⟨.hbm, 39, rfl⟩
abbrev main_cst : Ref sig .tc := ⟨.hbm, 40, rfl⟩
abbrev main_v0 : Ref sig .tc := ⟨.hbm, 41, rfl⟩
abbrev main_cst_0 : Ref sig .tc := ⟨.hbm, 42, rfl⟩
abbrev main_v1 : Ref sig .tc := ⟨.hbm, 43, rfl⟩
abbrev main_v2 : Ref sig .tc := ⟨.hbm, 44, rfl⟩
abbrev main_cst_1 : Ref sig .tc := ⟨.hbm, 45, rfl⟩
abbrev main_v3 : Ref sig .tc := ⟨.hbm, 46, rfl⟩
abbrev main_v4 : Ref sig .tc := ⟨.hbm, 47, rfl⟩
abbrev main_v5 : Ref sig .tc := ⟨.hbm, 48, rfl⟩
abbrev main_cst_2 : Ref sig .tc := ⟨.hbm, 49, rfl⟩
abbrev main_v6 : Ref sig .tc := ⟨.hbm, 50, rfl⟩
abbrev main_v7 : Ref sig .tc := ⟨.hbm, 51, rfl⟩
abbrev main_v8 : Ref sig .tc := ⟨.hbm, 52, rfl⟩
abbrev main_cst_3 : Ref sig .tc := ⟨.hbm, 53, rfl⟩
abbrev main_v9 : Ref sig .tc := ⟨.hbm, 54, rfl⟩
abbrev main_v10 : Ref sig .tc := ⟨.hbm, 55, rfl⟩
abbrev main_v11 : Ref sig .tc := ⟨.hbm, 56, rfl⟩
abbrev main_cst_4 : Ref sig .tc := ⟨.hbm, 57, rfl⟩
abbrev main_v12 : Ref sig .tc := ⟨.hbm, 58, rfl⟩
abbrev main_v13 : Ref sig .tc := ⟨.hbm, 59, rfl⟩
abbrev main_cst_5 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_cst_6 : Ref sig .tc := ⟨.hbm, 64, rfl⟩
abbrev main_v17 : Ref sig .tc := ⟨.hbm, 65, rfl⟩
abbrev main_v18 : Ref sig .tc := ⟨.hbm, 66, rfl⟩
abbrev main_v19 : Ref sig .tc := ⟨.hbm, 67, rfl⟩
abbrev main_cst_7 : Ref sig .tc := ⟨.hbm, 68, rfl⟩
abbrev main_v20 : Ref sig .tc := ⟨.hbm, 69, rfl⟩
abbrev main_v21 : Ref sig .tc := ⟨.hbm, 70, rfl⟩
abbrev main_v22 : Ref sig .tc := ⟨.hbm, 71, rfl⟩
abbrev main_cst_8 : Ref sig .tc := ⟨.hbm, 72, rfl⟩
abbrev main_v23 : Ref sig .tc := ⟨.hbm, 73, rfl⟩
abbrev main_v24 : Ref sig .tc := ⟨.hbm, 74, rfl⟩
abbrev main_cst_9 : Ref sig .tc := ⟨.hbm, 75, rfl⟩
abbrev main_v25 : Ref sig .tc := ⟨.hbm, 76, rfl⟩
abbrev main_cst_10 : Ref sig .tc := ⟨.hbm, 77, rfl⟩
abbrev main_v26 : Ref sig .tc := ⟨.hbm, 78, rfl⟩
abbrev main_v27 : Ref sig .tc := ⟨.hbm, 79, rfl⟩
abbrev main_cst_11 : Ref sig .tc := ⟨.hbm, 80, rfl⟩
abbrev main_v28 : Ref sig .tc := ⟨.hbm, 81, rfl⟩
abbrev main_v29 : Ref sig .tc := ⟨.hbm, 82, rfl⟩
abbrev main_v30 : Ref sig .tc := ⟨.hbm, 83, rfl⟩
abbrev main_cst_12 : Ref sig .tc := ⟨.hbm, 84, rfl⟩
abbrev main_v31 : Ref sig .tc := ⟨.hbm, 85, rfl⟩
abbrev main_v32 : Ref sig .tc := ⟨.hbm, 86, rfl⟩
abbrev main_v33 : Ref sig .tc := ⟨.hbm, 87, rfl⟩
abbrev main_cst_13 : Ref sig .tc := ⟨.hbm, 88, rfl⟩
abbrev main_v34 : Ref sig .tc := ⟨.hbm, 89, rfl⟩
abbrev main_v35 : Ref sig .tc := ⟨.hbm, 90, rfl⟩
abbrev main_v36 : Ref sig .tc := ⟨.hbm, 91, rfl⟩
abbrev main_cst_14 : Ref sig .tc := ⟨.hbm, 92, rfl⟩
abbrev main_v37 : Ref sig .tc := ⟨.hbm, 93, rfl⟩
abbrev main_v38 : Ref sig .tc := ⟨.hbm, 94, rfl⟩
abbrev main_cst_15 : Ref sig .tc := ⟨.hbm, 95, rfl⟩
abbrev main_v39 : Ref sig .tc := ⟨.hbm, 96, rfl⟩
abbrev main_v40 : Ref sig .tc := ⟨.hbm, 97, rfl⟩
abbrev main_v41 : Ref sig .tc := ⟨.hbm, 98, rfl⟩
abbrev main_cst_16 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_cst_17 : Ref sig .tc := ⟨.hbm, 103, rfl⟩
abbrev main_v45 : Ref sig .tc := ⟨.hbm, 104, rfl⟩
abbrev main_v46 : Ref sig .tc := ⟨.hbm, 105, rfl⟩
abbrev main_v47 : Ref sig .tc := ⟨.hbm, 106, rfl⟩
abbrev main_cst_18 : Ref sig .tc := ⟨.hbm, 107, rfl⟩
abbrev main_v48 : Ref sig .tc := ⟨.hbm, 108, rfl⟩
abbrev main_v49 : Ref sig .tc := ⟨.hbm, 109, rfl⟩
abbrev main_cst_19 : Ref sig .tc := ⟨.hbm, 110, rfl⟩
abbrev main_v50 : Ref sig .tc := ⟨.hbm, 111, rfl⟩
abbrev main_cst_20 : Ref sig .tc := ⟨.hbm, 112, rfl⟩
abbrev main_v51 : Ref sig .tc := ⟨.hbm, 113, rfl⟩
abbrev main_v52 : Ref sig .tc := ⟨.hbm, 114, rfl⟩
abbrev main_cst_21 : Ref sig .tc := ⟨.hbm, 115, rfl⟩
abbrev main_v53 : Ref sig .tc := ⟨.hbm, 116, rfl⟩
abbrev main_v54 : Ref sig .tc := ⟨.hbm, 117, rfl⟩
abbrev main_v55 : Ref sig .tc := ⟨.hbm, 118, rfl⟩
abbrev main_cst_22 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_cst_23 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_cst_24 : Ref sig .tc := ⟨.hbm, 127, rfl⟩
abbrev main_v62 : Ref sig .tc := ⟨.hbm, 128, rfl⟩
abbrev main_v63 : Ref sig .tc := ⟨.hbm, 129, rfl⟩
abbrev main_cst_25 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_cst_26 : Ref sig .tc := ⟨.hbm, 134, rfl⟩
abbrev main_v67 : Ref sig .tc := ⟨.hbm, 135, rfl⟩
abbrev main_v68 : Ref sig .tc := ⟨.hbm, 136, rfl⟩
abbrev main_v69 : Ref sig .tc := ⟨.hbm, 137, rfl⟩
abbrev main_cst_27 : Ref sig .tc := ⟨.hbm, 138, rfl⟩
abbrev main_v70 : Ref sig .tc := ⟨.hbm, 139, rfl⟩
abbrev main_v71 : Ref sig .tc := ⟨.hbm, 140, rfl⟩
abbrev main_v72 : Ref sig .tc := ⟨.hbm, 141, rfl⟩
abbrev main_cst_28 : Ref sig .tc := ⟨.hbm, 142, rfl⟩
abbrev main_v73 : Ref sig .tc := ⟨.hbm, 143, rfl⟩
abbrev main_v74 : Ref sig .tc := ⟨.hbm, 144, rfl⟩
abbrev main_cst_29 : Ref sig .tc := ⟨.hbm, 145, rfl⟩
abbrev main_v75 : Ref sig .tc := ⟨.hbm, 146, rfl⟩
abbrev main_cst_30 : Ref sig .tc := ⟨.hbm, 147, rfl⟩
abbrev main_v76 : Ref sig .tc := ⟨.hbm, 148, rfl⟩
abbrev main_v77 : Ref sig .tc := ⟨.hbm, 149, rfl⟩
abbrev main_cst_31 : Ref sig .tc := ⟨.hbm, 150, rfl⟩
abbrev main_v78 : Ref sig .tc := ⟨.hbm, 151, rfl⟩
abbrev main_v79 : Ref sig .tc := ⟨.hbm, 152, rfl⟩
abbrev main_v80 : Ref sig .tc := ⟨.hbm, 153, rfl⟩
abbrev main_cst_32 : Ref sig .tc := ⟨.hbm, 154, rfl⟩
abbrev main_v81 : Ref sig .tc := ⟨.hbm, 155, rfl⟩
abbrev main_v82 : Ref sig .tc := ⟨.hbm, 156, rfl⟩
abbrev main_v83 : Ref sig .tc := ⟨.hbm, 157, rfl⟩
abbrev main_cst_33 : Ref sig .tc := ⟨.hbm, 158, rfl⟩
abbrev main_v84 : Ref sig .tc := ⟨.hbm, 159, rfl⟩
abbrev main_v85 : Ref sig .tc := ⟨.hbm, 160, rfl⟩
abbrev main_v86 : Ref sig .tc := ⟨.hbm, 161, rfl⟩
abbrev main_cst_34 : Ref sig .tc := ⟨.hbm, 162, rfl⟩
abbrev main_v87 : Ref sig .tc := ⟨.hbm, 163, rfl⟩
abbrev main_v88 : Ref sig .tc := ⟨.hbm, 164, rfl⟩
abbrev main_cst_35 : Ref sig .tc := ⟨.hbm, 165, rfl⟩
abbrev main_v89 : Ref sig .tc := ⟨.hbm, 166, rfl⟩
abbrev main_v90 : Ref sig .tc := ⟨.hbm, 167, rfl⟩
abbrev main_v91 : Ref sig .tc := ⟨.hbm, 168, rfl⟩
abbrev main_cst_36 : Ref sig .tc := ⟨.hbm, 169, rfl⟩
abbrev main_v92 : Ref sig .tc := ⟨.hbm, 170, rfl⟩
abbrev main_v93 : Ref sig .tc := ⟨.hbm, 171, rfl⟩
abbrev main_v94 : Ref sig .tc := ⟨.hbm, 172, rfl⟩
abbrev main_cst_37 : Ref sig .tc := ⟨.hbm, 173, rfl⟩
abbrev main_v95 : Ref sig .tc := ⟨.hbm, 174, rfl⟩
abbrev main_v96 : Ref sig .tc := ⟨.hbm, 175, rfl⟩
abbrev main_v97 : Ref sig .tc := ⟨.hbm, 176, rfl⟩
abbrev main_cst_38 : Ref sig .tc := ⟨.hbm, 177, rfl⟩
abbrev main_v98 : Ref sig .tc := ⟨.hbm, 178, rfl⟩
abbrev main_v99 : Ref sig .tc := ⟨.hbm, 179, rfl⟩
abbrev main_cst_39 : Ref sig .tc := ⟨.hbm, 180, rfl⟩
abbrev main_v100 : Ref sig .tc := ⟨.hbm, 181, rfl⟩
abbrev main_cst_40 : Ref sig .tc := ⟨.hbm, 182, rfl⟩
abbrev main_v101 : Ref sig .tc := ⟨.hbm, 183, rfl⟩
abbrev main_v102 : Ref sig .tc := ⟨.hbm, 184, rfl⟩
abbrev main_cst_41 : Ref sig .tc := ⟨.hbm, 185, rfl⟩
abbrev main_v103 : Ref sig .tc := ⟨.hbm, 186, rfl⟩
abbrev main_v104 : Ref sig .tc := ⟨.hbm, 187, rfl⟩
abbrev main_v105 : Ref sig .tc := ⟨.hbm, 188, rfl⟩
abbrev main_cst_42 : Ref sig .tc := ⟨.hbm, 189, rfl⟩
abbrev main_v106 : Ref sig .tc := ⟨.hbm, 190, rfl⟩
abbrev main_v107 : Ref sig .tc := ⟨.hbm, 191, rfl⟩
abbrev main_v108 : Ref sig .tc := ⟨.hbm, 192, rfl⟩
abbrev main_cst_43 : Ref sig .tc := ⟨.hbm, 193, rfl⟩
abbrev main_v109 : Ref sig .tc := ⟨.hbm, 194, rfl⟩
abbrev main_v110 : Ref sig .tc := ⟨.hbm, 195, rfl⟩
abbrev main_v111 : Ref sig .tc := ⟨.hbm, 196, rfl⟩
abbrev main_cst_44 : Ref sig .tc := ⟨.hbm, 197, rfl⟩
abbrev main_v112 : Ref sig .tc := ⟨.hbm, 198, rfl⟩
abbrev main_v113 : Ref sig .tc := ⟨.hbm, 199, rfl⟩
abbrev main_cst_45 : Ref sig .tc := ⟨.hbm, 200, rfl⟩
abbrev main_v114 : Ref sig .tc := ⟨.hbm, 201, rfl⟩
abbrev main_v115 : Ref sig .tc := ⟨.hbm, 202, rfl⟩
abbrev main_v116 : Ref sig .tc := ⟨.hbm, 203, rfl⟩
abbrev main_cst_46 : Ref sig .tc := ⟨.hbm, 204, rfl⟩
abbrev main_v117 : Ref sig .tc := ⟨.hbm, 205, rfl⟩
abbrev main_v118 : Ref sig .tc := ⟨.hbm, 206, rfl⟩
abbrev main_v119 : Ref sig .tc := ⟨.hbm, 207, rfl⟩
abbrev main_cst_47 : Ref sig .tc := ⟨.hbm, 208, rfl⟩
abbrev main_v120 : Ref sig .tc := ⟨.hbm, 209, rfl⟩
abbrev main_v121 : Ref sig .tc := ⟨.hbm, 210, rfl⟩
abbrev main_v122 : Ref sig .tc := ⟨.hbm, 211, rfl⟩
abbrev main_cst_48 : Ref sig .tc := ⟨.hbm, 212, rfl⟩
abbrev main_v123 : Ref sig .tc := ⟨.hbm, 213, rfl⟩
abbrev main_v124 : Ref sig .tc := ⟨.hbm, 214, rfl⟩
abbrev main_cst_49 : Ref sig .tc := ⟨.hbm, 215, rfl⟩
abbrev main_v125 : Ref sig .tc := ⟨.hbm, 216, rfl⟩
abbrev main_cst_50 : Ref sig .tc := ⟨.hbm, 217, rfl⟩
abbrev main_v126 : Ref sig .tc := ⟨.hbm, 218, rfl⟩
abbrev main_v127 : Ref sig .tc := ⟨.hbm, 219, rfl⟩
abbrev main_cst_51 : Ref sig .tc := ⟨.hbm, 220, rfl⟩
abbrev main_v128 : Ref sig .tc := ⟨.hbm, 221, rfl⟩
abbrev main_v129 : Ref sig .tc := ⟨.hbm, 222, rfl⟩
abbrev main_v130 : Ref sig .tc := ⟨.hbm, 223, rfl⟩
abbrev main_cst_52 : Ref sig .tc := ⟨.hbm, 224, rfl⟩
abbrev main_v131 : Ref sig .tc := ⟨.hbm, 225, rfl⟩
abbrev main_v132 : Ref sig .tc := ⟨.hbm, 226, rfl⟩
abbrev main_v133 : Ref sig .tc := ⟨.hbm, 227, rfl⟩
abbrev main_cst_53 : Ref sig .tc := ⟨.hbm, 228, rfl⟩
abbrev main_v134 : Ref sig .tc := ⟨.hbm, 229, rfl⟩
abbrev main_v135 : Ref sig .tc := ⟨.hbm, 230, rfl⟩
abbrev main_v136 : Ref sig .tc := ⟨.hbm, 231, rfl⟩
abbrev main_cst_54 : Ref sig .tc := ⟨.hbm, 232, rfl⟩
abbrev main_v137 : Ref sig .tc := ⟨.hbm, 233, rfl⟩
abbrev main_v138 : Ref sig .tc := ⟨.hbm, 234, rfl⟩
abbrev main_cst_55 : Ref sig .tc := ⟨.hbm, 235, rfl⟩
abbrev main_v139 : Ref sig .tc := ⟨.hbm, 236, rfl⟩
abbrev main_v140 : Ref sig .tc := ⟨.hbm, 237, rfl⟩
abbrev main_v141 : Ref sig .tc := ⟨.hbm, 238, rfl⟩
abbrev main_cst_56 : Ref sig .tc := ⟨.hbm, 239, rfl⟩
abbrev main_v142 : Ref sig .tc := ⟨.hbm, 240, rfl⟩
abbrev main_v143 : Ref sig .tc := ⟨.hbm, 241, rfl⟩
abbrev main_v144 : Ref sig .tc := ⟨.hbm, 242, rfl⟩
abbrev main_cst_57 : Ref sig .tc := ⟨.hbm, 243, rfl⟩
abbrev main_v145 : Ref sig .tc := ⟨.hbm, 244, rfl⟩
abbrev main_v146 : Ref sig .tc := ⟨.hbm, 245, rfl⟩
abbrev main_v147 : Ref sig .tc := ⟨.hbm, 246, rfl⟩
abbrev main_cst_58 : Ref sig .tc := ⟨.hbm, 247, rfl⟩
abbrev main_v148 : Ref sig .tc := ⟨.hbm, 248, rfl⟩
abbrev main_v149 : Ref sig .tc := ⟨.hbm, 249, rfl⟩
abbrev main_cst_59 : Ref sig .tc := ⟨.hbm, 250, rfl⟩
abbrev main_v150 : Ref sig .tc := ⟨.hbm, 251, rfl⟩
abbrev main_cst_60 : Ref sig .tc := ⟨.hbm, 252, rfl⟩
abbrev main_v151 : Ref sig .tc := ⟨.hbm, 253, rfl⟩
abbrev main_v152 : Ref sig .tc := ⟨.hbm, 254, rfl⟩
abbrev main_cst_61 : Ref sig .tc := ⟨.hbm, 255, rfl⟩
abbrev main_v153 : Ref sig .tc := ⟨.hbm, 256, rfl⟩
abbrev main_v154 : Ref sig .tc := ⟨.hbm, 257, rfl⟩
abbrev main_v155 : Ref sig .tc := ⟨.hbm, 258, rfl⟩
abbrev main_cst_62 : Ref sig .tc := ⟨.hbm, 259, rfl⟩
abbrev main_v156 : Ref sig .tc := ⟨.hbm, 260, rfl⟩
abbrev main_v157 : Ref sig .tc := ⟨.hbm, 261, rfl⟩
abbrev main_v158 : Ref sig .tc := ⟨.hbm, 262, rfl⟩
abbrev main_cst_63 : Ref sig .tc := ⟨.hbm, 263, rfl⟩
abbrev main_v159 : Ref sig .tc := ⟨.hbm, 264, rfl⟩
abbrev main_v160 : Ref sig .tc := ⟨.hbm, 265, rfl⟩
abbrev main_v161 : Ref sig .tc := ⟨.hbm, 266, rfl⟩
abbrev main_cst_64 : Ref sig .tc := ⟨.hbm, 267, rfl⟩
abbrev main_v162 : Ref sig .tc := ⟨.hbm, 268, rfl⟩
abbrev main_v163 : Ref sig .tc := ⟨.hbm, 269, rfl⟩
abbrev main_cst_65 : Ref sig .tc := ⟨.hbm, 270, rfl⟩
abbrev main_v164 : Ref sig .tc := ⟨.hbm, 271, rfl⟩
abbrev main_v165 : Ref sig .tc := ⟨.hbm, 272, rfl⟩
abbrev main_v166 : Ref sig .tc := ⟨.hbm, 273, rfl⟩
abbrev main_cst_66 : Ref sig .tc := ⟨.hbm, 274, rfl⟩
abbrev main_v167 : Ref sig .tc := ⟨.hbm, 275, rfl⟩
abbrev main_v168 : Ref sig .tc := ⟨.hbm, 276, rfl⟩
abbrev main_v169 : Ref sig .tc := ⟨.hbm, 277, rfl⟩
abbrev main_cst_67 : Ref sig .tc := ⟨.hbm, 278, rfl⟩
abbrev main_v170 : Ref sig .tc := ⟨.hbm, 279, rfl⟩
abbrev main_v171 : Ref sig .tc := ⟨.hbm, 280, rfl⟩
abbrev main_v172 : Ref sig .tc := ⟨.hbm, 281, rfl⟩
abbrev main_cst_68 : Ref sig .tc := ⟨.hbm, 282, rfl⟩
abbrev main_v173 : Ref sig .tc := ⟨.hbm, 283, rfl⟩
abbrev main_v174 : Ref sig .tc := ⟨.hbm, 284, rfl⟩
abbrev main_cst_69 : Ref sig .tc := ⟨.hbm, 285, rfl⟩
abbrev main_v175 : Ref sig .tc := ⟨.hbm, 286, rfl⟩
abbrev main_cst_70 : Ref sig .tc := ⟨.hbm, 287, rfl⟩
abbrev main_v176 : Ref sig .tc := ⟨.hbm, 288, rfl⟩
abbrev main_v177 : Ref sig .tc := ⟨.hbm, 289, rfl⟩
abbrev main_v178 : Ref sig .tc := ⟨.hbm, 290, rfl⟩
abbrev main_v179 : Ref sig .tc := ⟨.hbm, 291, rfl⟩
abbrev main_v180 : Ref sig .tc := ⟨.hbm, 292, rfl⟩
abbrev main_cst_71 : Ref sig .tc := ⟨.hbm, 293, rfl⟩
abbrev main_v181 : Ref sig .tc := ⟨.hbm, 294, rfl⟩
abbrev main_cst_72 : Ref sig .tc := ⟨.hbm, 295, rfl⟩
abbrev main_v182 : Ref sig .tc := ⟨.hbm, 296, rfl⟩
abbrev main_v183 : Ref sig .tc := ⟨.hbm, 297, rfl⟩
abbrev main_cst_73 : Ref sig .tc := ⟨.hbm, 298, rfl⟩
abbrev main_v184 : Ref sig .tc := ⟨.hbm, 299, rfl⟩
abbrev main_v185 : Ref sig .tc := ⟨.hbm, 300, rfl⟩
abbrev main_cst_74 : Ref sig .tc := ⟨.hbm, 301, rfl⟩
abbrev main_v186 : Ref sig .tc := ⟨.hbm, 302, rfl⟩
abbrev main_v187 : Ref sig .tc := ⟨.hbm, 303, rfl⟩
abbrev main_cst_75 : Ref sig .tc := ⟨.hbm, 304, rfl⟩
abbrev main_v188 : Ref sig .tc := ⟨.hbm, 305, rfl⟩
abbrev main_cst_76 : Ref sig .tc := ⟨.hbm, 306, rfl⟩
abbrev main_v189 : Ref sig .tc := ⟨.hbm, 307, rfl⟩
abbrev main_cst_77 : Ref sig .tc := ⟨.hbm, 308, rfl⟩
abbrev main_v190 : Ref sig .tc := ⟨.hbm, 309, rfl⟩
abbrev main_v191 : Ref sig .tc := ⟨.hbm, 310, rfl⟩
abbrev main_v192 : Ref sig .tc := ⟨.hbm, 311, rfl⟩
abbrev main_v193 : Ref sig .tc := ⟨.hbm, 312, rfl⟩
abbrev main_v194 : Ref sig .tc := ⟨.hbm, 313, rfl⟩
abbrev main_v195 : Ref sig .tc := ⟨.hbm, 314, rfl⟩
abbrev main_v196 : Ref sig .tc := ⟨.hbm, 315, rfl⟩
abbrev main_cst_78 : Ref sig .tc := ⟨.hbm, 316, rfl⟩
abbrev main_v197 : Ref sig .tc := ⟨.hbm, 317, rfl⟩
abbrev main_v198 : Ref sig .tc := ⟨.hbm, 318, rfl⟩
abbrev main_v199 : Ref sig .tc := ⟨.hbm, 319, rfl⟩
abbrev main_v200 : Ref sig .tc := ⟨.hbm, 320, rfl⟩
abbrev main_v201 : Ref sig .tc := ⟨.hbm, 321, rfl⟩
abbrev main_cst_79 : Ref sig .tc := ⟨.hbm, 322, rfl⟩
abbrev main_v202 : Ref sig .tc := ⟨.hbm, 323, rfl⟩
abbrev main_v203 : Ref sig .tc := ⟨.hbm, 324, rfl⟩
abbrev main_v204 : Ref sig .tc := ⟨.hbm, 325, rfl⟩
abbrev main_cst_80 : Ref sig .tc := ⟨.hbm, 326, rfl⟩
abbrev main_v205 : Ref sig .tc := ⟨.hbm, 327, rfl⟩
abbrev main_v206 : Ref sig .tc := ⟨.hbm, 328, rfl⟩
abbrev main_v207 : Ref sig .tc := ⟨.hbm, 329, rfl⟩
abbrev main_v208 : Ref sig .tc := ⟨.hbm, 330, rfl⟩
abbrev main_cst_81 : Ref sig .tc := ⟨.hbm, 331, rfl⟩
abbrev main_v209 : Ref sig .tc := ⟨.hbm, 332, rfl⟩
abbrev main_v210 : Ref sig .tc := ⟨.hbm, 333, rfl⟩
abbrev main_v211 : Ref sig .tc := ⟨.hbm, 334, rfl⟩
abbrev main_v212 : Ref sig .tc := ⟨.hbm, 335, rfl⟩
abbrev main_v213 : Ref sig .tc := ⟨.hbm, 336, rfl⟩
abbrev main_cst_82 : Ref sig .tc := ⟨.hbm, 337, rfl⟩
abbrev main_v214 : Ref sig .tc := ⟨.hbm, 338, rfl⟩
abbrev main_v215 : Ref sig .tc := ⟨.hbm, 339, rfl⟩
abbrev main_v216 : Ref sig .tc := ⟨.hbm, 340, rfl⟩
abbrev main_v217 : Ref sig .tc := ⟨.hbm, 341, rfl⟩
abbrev main_cst_83 : Ref sig .tc := ⟨.hbm, 342, rfl⟩
abbrev main_v218 : Ref sig .tc := ⟨.hbm, 343, rfl⟩
abbrev main_v219 : Ref sig .tc := ⟨.hbm, 344, rfl⟩
abbrev main_cst_84 : Ref sig .tc := ⟨.hbm, 345, rfl⟩
abbrev main_v220 : Ref sig .tc := ⟨.hbm, 346, rfl⟩
abbrev main_v221 : Ref sig .tc := ⟨.hbm, 347, rfl⟩
abbrev main_v222 : Ref sig .tc := ⟨.hbm, 348, rfl⟩
abbrev main_cst_85 : Ref sig .tc := ⟨.hbm, 349, rfl⟩
abbrev main_v223 : Ref sig .tc := ⟨.hbm, 350, rfl⟩
abbrev main_v224 : Ref sig .tc := ⟨.hbm, 351, rfl⟩
abbrev main_v225 : Ref sig .tc := ⟨.hbm, 352, rfl⟩
abbrev main_cst_86 : Ref sig .tc := ⟨.hbm, 353, rfl⟩
abbrev main_v226 : Ref sig .tc := ⟨.hbm, 354, rfl⟩
abbrev main_v227 : Ref sig .tc := ⟨.hbm, 355, rfl⟩
abbrev main_v228 : Ref sig .tc := ⟨.hbm, 356, rfl⟩
abbrev main_cst_87 : Ref sig .tc := ⟨.hbm, 357, rfl⟩
abbrev main_v229 : Ref sig .tc := ⟨.hbm, 358, rfl⟩
abbrev main_v230 : Ref sig .tc := ⟨.hbm, 359, rfl⟩
abbrev main_cst_88 : Ref sig .tc := ⟨.hbm, 360, rfl⟩
abbrev main_v231 : Ref sig .tc := ⟨.hbm, 361, rfl⟩
abbrev main_v232 : Ref sig .tc := ⟨.hbm, 362, rfl⟩
abbrev main_v233 : Ref sig .tc := ⟨.hbm, 363, rfl⟩
abbrev main_cst_89 : Ref sig .tc := ⟨.hbm, 364, rfl⟩
abbrev main_v234 : Ref sig .tc := ⟨.hbm, 365, rfl⟩
abbrev main_v235 : Ref sig .tc := ⟨.hbm, 366, rfl⟩
abbrev main_v236 : Ref sig .tc := ⟨.hbm, 367, rfl⟩
abbrev main_cst_90 : Ref sig .tc := ⟨.hbm, 368, rfl⟩
abbrev main_v237 : Ref sig .tc := ⟨.hbm, 369, rfl⟩
abbrev main_v238 : Ref sig .tc := ⟨.hbm, 370, rfl⟩
abbrev main_v239 : Ref sig .tc := ⟨.hbm, 371, rfl⟩
abbrev main_cst_91 : Ref sig .tc := ⟨.hbm, 372, rfl⟩
abbrev main_v240 : Ref sig .tc := ⟨.hbm, 373, rfl⟩
abbrev main_v241 : Ref sig .tc := ⟨.hbm, 374, rfl⟩
abbrev main_cst_92 : Ref sig .tc := ⟨.hbm, 375, rfl⟩
abbrev main_v242 : Ref sig .tc := ⟨.hbm, 376, rfl⟩
abbrev main_cst_93 : Ref sig .tc := ⟨.hbm, 377, rfl⟩
abbrev main_v243 : Ref sig .tc := ⟨.hbm, 378, rfl⟩
abbrev main_v244 : Ref sig .tc := ⟨.hbm, 379, rfl⟩
abbrev main_cst_94 : Ref sig .tc := ⟨.hbm, 380, rfl⟩
abbrev main_v245 : Ref sig .tc := ⟨.hbm, 381, rfl⟩
abbrev main_v246 : Ref sig .tc := ⟨.hbm, 382, rfl⟩
abbrev main_v247 : Ref sig .tc := ⟨.hbm, 383, rfl⟩
abbrev main_cst_95 : Ref sig .tc := ⟨.hbm, 384, rfl⟩
abbrev main_v248 : Ref sig .tc := ⟨.hbm, 385, rfl⟩
abbrev main_v249 : Ref sig .tc := ⟨.hbm, 386, rfl⟩
abbrev main_v250 : Ref sig .tc := ⟨.hbm, 387, rfl⟩
abbrev main_cst_96 : Ref sig .tc := ⟨.hbm, 388, rfl⟩
abbrev main_v251 : Ref sig .tc := ⟨.hbm, 389, rfl⟩
abbrev main_v252 : Ref sig .tc := ⟨.hbm, 390, rfl⟩
abbrev main_v253 : Ref sig .tc := ⟨.hbm, 391, rfl⟩
abbrev main_cst_97 : Ref sig .tc := ⟨.hbm, 392, rfl⟩
abbrev main_v254 : Ref sig .tc := ⟨.hbm, 393, rfl⟩
abbrev main_v255 : Ref sig .tc := ⟨.hbm, 394, rfl⟩
abbrev main_cst_98 : Ref sig .tc := ⟨.hbm, 395, rfl⟩
abbrev main_v256 : Ref sig .tc := ⟨.hbm, 396, rfl⟩
abbrev main_v257 : Ref sig .tc := ⟨.hbm, 397, rfl⟩
abbrev main_v258 : Ref sig .tc := ⟨.hbm, 398, rfl⟩
abbrev main_cst_99 : Ref sig .tc := ⟨.hbm, 399, rfl⟩
abbrev main_v259 : Ref sig .tc := ⟨.hbm, 400, rfl⟩
abbrev main_v260 : Ref sig .tc := ⟨.hbm, 401, rfl⟩
abbrev main_v261 : Ref sig .tc := ⟨.hbm, 402, rfl⟩
abbrev main_cst_100 : Ref sig .tc := ⟨.hbm, 403, rfl⟩
abbrev main_v262 : Ref sig .tc := ⟨.hbm, 404, rfl⟩
abbrev main_v263 : Ref sig .tc := ⟨.hbm, 405, rfl⟩
abbrev main_v264 : Ref sig .tc := ⟨.hbm, 406, rfl⟩
abbrev main_cst_101 : Ref sig .tc := ⟨.hbm, 407, rfl⟩
abbrev main_v265 : Ref sig .tc := ⟨.hbm, 408, rfl⟩
abbrev main_v266 : Ref sig .tc := ⟨.hbm, 409, rfl⟩
abbrev main_cst_102 : Ref sig .tc := ⟨.hbm, 410, rfl⟩
abbrev main_v267 : Ref sig .tc := ⟨.hbm, 411, rfl⟩
abbrev main_cst_103 : Ref sig .tc := ⟨.hbm, 412, rfl⟩
abbrev main_v268 : Ref sig .tc := ⟨.hbm, 413, rfl⟩
abbrev main_v269 : Ref sig .tc := ⟨.hbm, 414, rfl⟩
abbrev main_cst_104 : Ref sig .tc := ⟨.hbm, 415, rfl⟩
abbrev main_v270 : Ref sig .tc := ⟨.hbm, 416, rfl⟩
abbrev main_v271 : Ref sig .tc := ⟨.hbm, 417, rfl⟩
abbrev main_v272 : Ref sig .tc := ⟨.hbm, 418, rfl⟩
abbrev main_cst_105 : Ref sig .tc := ⟨.hbm, 419, rfl⟩
abbrev main_v273 : Ref sig .tc := ⟨.hbm, 420, rfl⟩
abbrev main_v274 : Ref sig .tc := ⟨.hbm, 421, rfl⟩
abbrev main_v275 : Ref sig .tc := ⟨.hbm, 422, rfl⟩
abbrev main_cst_106 : Ref sig .tc := ⟨.hbm, 423, rfl⟩
abbrev main_v276 : Ref sig .tc := ⟨.hbm, 424, rfl⟩
abbrev main_v277 : Ref sig .tc := ⟨.hbm, 425, rfl⟩
abbrev main_v278 : Ref sig .tc := ⟨.hbm, 426, rfl⟩
abbrev main_cst_107 : Ref sig .tc := ⟨.hbm, 427, rfl⟩
abbrev main_v279 : Ref sig .tc := ⟨.hbm, 428, rfl⟩
abbrev main_v280 : Ref sig .tc := ⟨.hbm, 429, rfl⟩
abbrev main_cst_108 : Ref sig .tc := ⟨.hbm, 430, rfl⟩
abbrev main_v281 : Ref sig .tc := ⟨.hbm, 431, rfl⟩
abbrev main_v282 : Ref sig .tc := ⟨.hbm, 432, rfl⟩
abbrev main_v283 : Ref sig .tc := ⟨.hbm, 433, rfl⟩
abbrev main_cst_109 : Ref sig .tc := ⟨.hbm, 434, rfl⟩
abbrev main_v284 : Ref sig .tc := ⟨.hbm, 435, rfl⟩
abbrev main_v285 : Ref sig .tc := ⟨.hbm, 436, rfl⟩
abbrev main_v286 : Ref sig .tc := ⟨.hbm, 437, rfl⟩
abbrev main_cst_110 : Ref sig .tc := ⟨.hbm, 438, rfl⟩
abbrev main_v287 : Ref sig .tc := ⟨.hbm, 439, rfl⟩
abbrev main_v288 : Ref sig .tc := ⟨.hbm, 440, rfl⟩
abbrev main_v289 : Ref sig .tc := ⟨.hbm, 441, rfl⟩
abbrev main_cst_111 : Ref sig .tc := ⟨.hbm, 442, rfl⟩
abbrev main_v290 : Ref sig .tc := ⟨.hbm, 443, rfl⟩
abbrev main_v291 : Ref sig .tc := ⟨.hbm, 444, rfl⟩

abbrev nD : Nat := 1
abbrev τ : Topo := Topo.v7x

variable {F : FTy → Type} [FloatOps F]
-- ==== Norm.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S512x2816 : Shape := ⟨2, ![512, 2816]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 10
  | .vmem => 16
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x1024, .f32⟩
  | .hbm, ⟨8, _⟩ => ⟨S8192x1024, .bf16⟩
  | .hbm, ⟨9, _⟩ => ⟨S1x1024, .f32⟩
  | .local _ .vmem, ⟨0, _⟩ => ⟨S512x2816, .bf16⟩
  | .local _ .vmem, ⟨1, _⟩ => ⟨S512x2816, .bf16⟩
  | .local _ .vmem, ⟨2, _⟩ => ⟨S2816x1024, .bf16⟩
  | .local _ .vmem, ⟨3, _⟩ => ⟨S512x2816, .bf16⟩
  | .local _ .vmem, ⟨4, _⟩ => ⟨S512x2816, .bf16⟩
  | .local _ .vmem, ⟨5, _⟩ => ⟨S2816x1024, .bf16⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .bf16⟩
  | .local _ .vmem, ⟨14, _⟩ => ⟨S512x1024, .bf16⟩
  | .local _ .vmem, ⟨15, _⟩ => ⟨S1x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormRefIdeal.lean ====
abbrev S8192x2816 : Shape := ⟨2, ![8192, 2816]⟩
abbrev S2816x1024 : Shape := ⟨2, ![2816, 1024]⟩
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024x2816 : Shape := ⟨2, ![1024, 2816]⟩
abbrev S1024 : Shape := ⟨1, ![1024]⟩

abbrev nBuf : Space → Nat
  | .hbm => 63
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S2816x1024, .bf16⟩
  | .hbm, ⟨2, _⟩ => ⟨S8192x2816, .bf16⟩
  | .hbm, ⟨3, _⟩ => ⟨S2816x1024, .bf16⟩
  | .hbm, ⟨4, _⟩ => ⟨S8192x1024, .f32⟩
  | .hbm, ⟨5, _⟩ => ⟨S8192x1024, .f32⟩
  | .hbm, ⟨6, _⟩ => ⟨S1x1024, .f32⟩
  | .hbm, ⟨7, _⟩ => ⟨S8192x2816, .f32⟩
  | .hbm, ⟨8, _⟩ => ⟨S2816x1024, .f32⟩
  | .hbm, ⟨9, _⟩ => ⟨S8192x2816, .f32⟩
  | .hbm, ⟨10, _⟩ => ⟨S2816x1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1024, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S1024x2816, .f32⟩
  | .hbm, ⟨31, _⟩ => ⟨S8192x2816, .f32⟩
  | .hbm, ⟨32, _⟩ => ⟨S1024x2816, .f32⟩
  | .hbm, ⟨33, _⟩ => ⟨S8192x2816, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S1024, .f32⟩
  | .hbm, ⟨40, _⟩ => ⟨S1x1024, .f32⟩
  | .hbm, ⟨41, _⟩ => ⟨S8192x1024, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192, .f32⟩
  | .hbm, ⟨46, _⟩ => ⟨S8192x1, .f32⟩
  | .hbm, ⟨47, _⟩ => ⟨S8192x1024, .f32⟩
  | .hbm, ⟨48, _⟩ => ⟨S8192x1024, .f32⟩
  | .hbm, ⟨49, _⟩ => ⟨S8192x1, .f32⟩
  | .hbm, ⟨50, _⟩ => ⟨S_, .f32⟩
  | .hbm, ⟨51, _⟩ => ⟨S8192x1, .f32⟩
  | .hbm, ⟨52, _⟩ => ⟨S8192x1, .f32⟩
  | .hbm, ⟨53, _⟩ => ⟨S_, .f32⟩
  | .hbm, ⟨54, _⟩ => ⟨S8192, .f32⟩
  | .hbm, ⟨55, _⟩ => ⟨S8192x1024, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1024, .bf16⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_4 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_cst_6 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩

abbrev nD : Nat := 1
abbrev τ : Topo := Topo.v7x

variable {F : FTy → Type} [FloatOps F]
-- ==== Loss.lean ====
abbrev S8192x1024 : Shape := ⟨2, ![8192, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 12
  | .vmem => 19
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .bf16⟩
  | .hbm, ⟨8, _⟩ => ⟨S8192x1024, .bf16⟩
  | .hbm, ⟨9, _⟩ => ⟨S1x1024, .f32⟩
  | .hbm, ⟨10, _⟩ => ⟨S1x1024, .f32⟩
  | .hbm, ⟨11, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_v0_4 : Ref sig .tc := ⟨.hbm, 10, rfl⟩
abbrev main_v0_5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17
abbrev cc0_sem11_0 : DmaSem sig := 18

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  ![arg1.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c0_i32_0 : BitVec 32 := 0#32
  let c0_i32_1 : BitVec 32 := 0#32
  ![c0_i32_0.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true, false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true, false]
-- ==== LossRefIdeal.lean ====
abbrev S8192x1024 : Shape := ⟨2, ![8192, 1024]⟩
abbrev S1x1024 : Shape := ⟨2, ![1, 1024]⟩
abbrev S_ : Shape := ⟨0, ![]⟩
abbrev S8192 : Shape := ⟨1, ![8192]⟩
abbrev S8192x1 : Shape := ⟨2, ![8192, 1]⟩
abbrev S1024 : Shape := ⟨1, ![1024]⟩

abbrev nBuf : Space → Nat
  | .hbm => 59
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .f32⟩
  | .hbm, ⟨4, _⟩ => ⟨S1x1024, .f32⟩
  | .hbm, ⟨5, _⟩ => ⟨S1x1024, .f32⟩
  | .hbm, ⟨6, _⟩ => ⟨S8192x1024, .f32⟩
  | .hbm, ⟨7, _⟩ => ⟨S8192x1024, .f32⟩
  | .hbm, ⟨8, _⟩ => ⟨S8192x1024, .f32⟩
  | .hbm, ⟨9, _⟩ => ⟨S_, .f32⟩
  | .hbm, ⟨10, _⟩ => ⟨S8192x1024, .f32⟩
  | .hbm, ⟨11, _⟩ => ⟨S8192x1024, .f32⟩
  | .hbm, ⟨12, _⟩ => ⟨S_, .f32⟩
  | .hbm, ⟨13, _⟩ => ⟨S8192x1024, .f32⟩
  | .hbm, ⟨14, _⟩ => ⟨S8192x1024, .f32⟩
  | .hbm, ⟨15, _⟩ => ⟨S8192x1024, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S_, .f32⟩
  | .hbm, ⟨35, _⟩ => ⟨S8192, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x1, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S_, .f32⟩
  | .hbm, ⟨54, _⟩ => ⟨S1x1024, .f32⟩
  | .hbm, ⟨55, _⟩ => ⟨S1x1024, .f32⟩
  | .hbm, ⟨56, _⟩ => ⟨S_, .f32⟩
  | .hbm, ⟨57, _⟩ => ⟨S1x1024, .f32⟩
  | .hbm, ⟨58, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_cst_3 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_4 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== Proof.FwdTrip.lean ====
module

public import proofs.«01_k».proof.Proof.Gen.KernelIdeal
public import proofs.«01_k».proof.Proof.Gen.KernelIdeal.Skeleton
public import proofs.«01_k».proof.Proof.Gen.KernelIdeal.Points
public import Idealize.ShloMosaic.Adequacy
public import Idealize.ShloMosaic.Init
public import Idealize.ShloMosaic.Lib.Tactic

@[expose] public section

set_option maxRecDepth 16384
set_option maxHeartbeats 4000000

noncomputable section

/-! # One chunk of the forward recurrence -/

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (c : Dev nD) (i : grid0.Coords)
  (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2x1024 .f32) (harg5 : arg5.IsWhole) (arg6 : Memref sig .tc .vmem S512x1024 .bf16) (harg6 : arg6.IsWhole) (arg7 : Memref sig .tc .vmem S8x8x128x128 .f32) (harg7 : arg7.IsWhole) (arg8 : Memref sig .tc .vmem S8x128x128 .f32) (harg8 : arg8.IsWhole) (arg9 : Memref sig .tc .vmem S64x1024 .f32) (harg9 : arg9.IsWhole) (arg10 : Memref sig .tc .vmem S8x64x64 .f32) (harg10 : arg10.IsWhole)
  (v3 v4 : Vec F S1x1024 .f32) (v18 : IVec S64x1024 32)
  (x2 : BufTy.Contents (Elt F) arg2.view.ty) (x3 : BufTy.Contents (Elt F) arg3.view.ty) (x4 : BufTy.Contents (Elt F) arg4.view.ty)

/-- What a chunk only reads. -/
abbrev r0Reads : sProp (MT nD τ sig Unit (Elt F) ℕ (UR sig nD τ) ℕ) :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4))

/-- The scratch buffers that every chunk writes before it uses them. -/
abbrev r0Dirty (f9 : BufTy.Contents (Elt F) arg9.view.ty) (f10 : BufTy.Contents (Elt F) arg10.view.ty) : sProp (MT nD τ sig Unit (Elt F) ℕ (UR sig nD τ) ℕ) :=
  iprop((arg9.view.loc (c : Thread nD τ) ↦[arg9.view.set]{fullShare} f9) ∗ (arg10.view.loc (c : Thread nD τ) ↦[arg10.view.set]{fullShare} f10))

/-- The buffers a chunk leaves results in. -/
abbrev r0Kept (f6 : BufTy.Contents (Elt F) arg6.view.ty) (f7 : BufTy.Contents (Elt F) arg7.view.ty) (f8 : BufTy.Contents (Elt F) arg8.view.ty) : sProp (MT nD τ sig Unit (Elt F) ℕ (UR sig nD τ) ℕ) :=
  iprop((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8))

/-- ONE CHUNK: what it yields and the pieces it writes, as functions of what it yields into and of the state it finds; the
    scratch it uses on the way ends holding something. -/
@[irreducible] def r0chunk (k : Fin k0_t1_loop.trips) :
    Σ' (L6 : BufTy.Contents (Elt F) arg8.view.ty → List (View.Piece (Elt F) S512x1024 .bf16)) (L7 : BufTy.Contents (Elt F) arg8.view.ty → List (View.Piece (Elt F) S8x8x128x128 .f32)),
      { L8 : BufTy.Contents (Elt F) arg8.view.ty → List (View.Piece (Elt F) S8x128x128 .f32) //
        ∀ (acc : Unit) (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty),
          iprop(r0Reads (F := F) c arg2 arg3 arg4 x2 x3 x4 ∗ r0Kept (F := F) c arg6 arg7 arg8 f6 f7 f8 ∗ r0Dirty (F := F) c arg9 arg10 f9 f10)
          ⊢ wp frame (wpE (defs₀ (F := F)) Variants.none (c : Thread nD τ) none) Set.univ
              (k0_t1_body (F := F) i arg2 harg2 arg3 harg3 arg4 harg4 arg5 harg5 arg6 harg6 arg7 harg7 arg8 harg8 arg9 harg9 arg10 harg10 v3 v4 v18 k acc)
              (fun r => iprop(r0Reads (F := F) c arg2 arg3 arg4 x2 x3 x4
                ∗ r0Kept (F := F) c arg6 arg7 arg8 (arg6.view.writes (Elt F) f6 (L6 f8)) (arg7.view.writes (Elt F) f7 (L7 f8)) (arg8.view.writes (Elt F) f8 (L8 f8))
                ∗ ∃ g9 g10, r0Dirty (F := F) c arg9 arg10 g9 g10)) } := by
  have hk : k.val < 8 := Nat.lt_of_lt_of_le k.isLt k0_t1_abs.2.1
  refine ⟨?_, ?_, ?_, fun acc f6 f7 f8 f9 f10 => ?run⟩
  case run =>
    unfold k0_t1_body
    iintro ⟨⟨HR2, HR3, HR4⟩, ⟨HW6, HW7, HW8⟩, ⟨HD9, HD10⟩⟩
    sl_exec
    sl_step
    sl_close

/-- What the chunks before `k` leave: the result buffers and the state. -/
def r0st (G6 : BufTy.Contents (Elt F) arg6.view.ty) (G7 : BufTy.Contents (Elt F) arg7.view.ty) (G8 : BufTy.Contents (Elt F) arg8.view.ty) : ℕ → BufTy.Contents (Elt F) arg6.view.ty × BufTy.Contents (Elt F) arg7.view.ty × BufTy.Contents (Elt F) arg8.view.ty
  | 0 => (G6, G7, G8)
  | k + 1 =>
    let s := r0st G6 G7 G8 k
    if h : k < k0_t1_loop.trips then
      (arg6.view.writes (Elt F) s.1 ((r0chunk (F := F) c i arg2 harg2 arg3 harg3 arg4 harg4 arg5 harg5 arg6 harg6 arg7 harg7 arg8 harg8 arg9 harg9 arg10 harg10 v3 v4 v18 x2 x3 x4 ⟨k, h⟩).1 s.2.2),
        arg7.view.writes (Elt F) s.2.1 ((r0chunk (F := F) c i arg2 harg2 arg3 harg3 arg4 harg4 arg5 harg5 arg6 harg6 arg7 harg7 arg8 harg8 arg9 harg9 arg10 harg10 v3 v4 v18 x2 x3 x4 ⟨k, h⟩).2.1 s.2.2),
        arg8.view.writes (Elt F) s.2.2 ((r0chunk (F := F) c i arg2 harg2 arg3 harg3 arg4 harg4 arg5 harg5 arg6 harg6 arg7 harg7 arg8 harg8 arg9 harg9 arg10 harg10 v3 v4 v18 x2 x3 x4 ⟨k, h⟩).2.2.1 s.2.2))
    else s

theorem r0st_succ (G6 : BufTy.Contents (Elt F) arg6.view.ty) (G7 : BufTy.Contents (Elt F) arg7.view.ty) (G8 : BufTy.Contents (Elt F) arg8.view.ty) (k : Fin k0_t1_loop.trips) :
    (r0st (F := F) c i arg2 harg2 arg3 harg3 arg4 harg4 arg5 harg5 arg6 harg6 arg7 harg7 arg8 harg8 arg9 harg9 arg10 harg10 v3 v4 v18 x2 x3 x4 G6 G7 G8 (k.val + 1)) =
      (let s := (r0st (F := F) c i arg2 harg2 arg3 harg3 arg4 harg4 arg5 harg5 arg6 harg6 arg7 harg7 arg8 harg8 arg9 harg9 arg10 harg10 v3 v4 v18 x2 x3 x4 G6 G7 G8 k.val)
      (arg6.view.writes (Elt F) s.1 ((r0chunk (F := F) c i arg2 harg2 arg3 harg3 arg4 harg4 arg5 harg5 arg6 harg6 arg7 harg7 arg8 harg8 arg9 harg9 arg10 harg10 v3 v4 v18 x2 x3 x4 k).1 s.2.2),
        arg7.view.writes (Elt F) s.2.1 ((r0chunk (F := F) c i arg2 harg2 arg3 harg3 arg4 harg4 arg5 harg5 arg6 harg6 arg7 harg7 arg8 harg8 arg9 harg9 arg10 harg10 v3 v4 v18 x2 x3 x4 k).2.1 s.2.2),
        arg8.view.writes (Elt F) s.2.2 ((r0chunk (F := F) c i arg2 harg2 arg3 harg3 arg4 harg4 arg5 harg5 arg6 harg6 arg7 harg7 arg8 harg8 arg9 harg9 arg10 harg10 v3 v4 v18 x2 x3 x4 k).2.2.1 s.2.2))) := by
  rw [r0st]; exact dif_pos k.isLt

/-- The contents the loop is entered with at 0, and what the chunks left after. -/
abbrev r0sel {α : Type} (k : ℕ) (G s : α) : α := match k with | 0 => G | _ + 1 => s

theorem r0sel_eq (G6 : BufTy.Contents (Elt F) arg6.view.ty) (G7 : BufTy.Contents (Elt F) arg7.view.ty) (G8 : BufTy.Contents (Elt F) arg8.view.ty) (k : ℕ) :
    r0sel k G6 ((r0st (F := F) c i arg2 harg2 arg3 harg3 arg4 harg4 arg5 harg5 arg6 harg6 arg7 harg7 arg8 harg8 arg9 harg9 arg10 harg10 v3 v4 v18 x2 x3 x4 G6 G7 G8 k).1) = (r0st (F := F) c i arg2 harg2 arg3 harg3 arg4 harg4 arg5 harg5 arg6 harg6 arg7 harg7 arg8 harg8 arg9 harg9 arg10 harg10 v3 v4 v18 x2 x3 x4 G6 G7 G8 k).1 ∧ r0sel k G7 ((r0st (F := F) c i arg2 harg2 arg3 harg3 arg4 harg4 arg5 harg5 arg6 harg6 arg7 harg7 arg8 harg8 arg9 harg9 arg10 harg10 v3 v4 v18 x2 x3 x4 G6 G7 G8 k).2.1) = (r0st (F := F) c i arg2 harg2 arg3 harg3 arg4 harg4 arg5 harg5 arg6 harg6 arg7 harg7 arg8 harg8 arg9 harg9 arg10 harg10 v3 v4 v18 x2 x3 x4 G6 G7 G8 k).2.1 ∧ r0sel k G8 ((r0st (F := F) c i arg2 harg2 arg3 harg3 arg4 harg4 arg5 harg5 arg6 harg6 arg7 harg7 arg8 harg8 arg9 harg9 arg10 harg10 v3 v4 v18 x2 x3 x4 G6 G7 G8 k).2.2) = (r0st (F := F) c i arg2 harg2 arg3 harg3 arg4 harg4 arg5 harg5 arg6 harg6 arg7 harg7 arg8 harg8 arg9 harg9 arg10 harg10 v3 v4 v18 x2 x3 x4 G6 G7 G8 k).2.2 := by
  cases k <;> exact ⟨rfl, rfl, rfl⟩

/-- THE LOOP by its invariant: before chunk `k` the result buffers and the state are what the chunks before it left. -/
@[sl_loop] def loopInv_k0_t1 (G6 : BufTy.Contents (Elt F) arg6.view.ty) (G7 : BufTy.Contents (Elt F) arg7.view.ty) (G8 : BufTy.Contents (Elt F) arg8.view.ty) :
    Idealize.ShloMosaic.LoopInv (M := MT nD τ sig Unit (Elt F) ℕ (UR sig nD τ) ℕ) Idealize.ShloMosaic.frame
      (wpE (defs₀ (F := F)) Variants.none (c : Thread nD τ) none) Set.univ k0_t1_loop.lb k0_t1_loop.ub k0_t1_loop.st k0_t1_ok ()
      (k0_t1_body (F := F) i arg2 harg2 arg3 harg3 arg4 harg4 arg5 harg5 arg6 harg6 arg7 harg7 arg8 harg8 arg9 harg9 arg10 harg10 v3 v4 v18) where
  inv k acc := iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (∃ f6, (arg6.view.loc (c : Thread nD τ) ↦[arg6.view.set]{fullShare} f6) ∗ ⌜f6 = r0sel k G6 ((r0st (F := F) c i arg2 harg2 arg3 harg3 arg4 harg4 arg5 harg5 arg6 harg6 arg7 harg7 arg8 harg8 arg9 harg9 arg10 harg10 v3 v4 v18 x2 x3 x4 G6 G7 G8 k).1)⌝) ∗ (∃ f7, (arg7.view.loc (c : Thread nD τ) ↦[arg7.view.set]{fullShare} f7) ∗ ⌜f7 = r0sel k G7 ((r0st (F := F) c i arg2 harg2 arg3 harg3 arg4 harg4 arg5 harg5 arg6 harg6 arg7 harg7 arg8 harg8 arg9 harg9 arg10 harg10 v3 v4 v18 x2 x3 x4 G6 G7 G8 k).2.1)⌝) ∗ (∃ f8, (arg8.view.loc (c : Thread nD τ) ↦[arg8.view.set]{fullShare} f8) ∗ ⌜f8 = r0sel k G8 ((r0st (F := F) c i arg2 harg2 arg3 harg3 arg4 harg4 arg5 harg5 arg6 harg6 arg7 harg7 arg8 harg8 arg9 harg9 arg10 harg10 v3 v4 v18 x2 x3 x4 G6 G7 G8 k).2.2)⌝)
      ∗ (∃ f9, (arg9.view.loc (c : Thread nD τ) ↦[arg9.view.set]{fullShare} f9)) ∗ (∃ f10, (arg10.view.loc (c : Thread nD τ) ↦[arg10.view.set]{fullShare} f10)))
  step k acc := by
    iintro ⟨HR2, HR3, HR4, ⟨%f6, HW6, %h6⟩, ⟨%f7, HW7, %h7⟩, ⟨%f8, HW8, %h8⟩, ⟨%f9, HD9⟩, ⟨%f10, HD10⟩⟩
    iapply (wp_wand_r Idealize.ShloMosaic.frame (wpE (defs₀ (F := F)) Variants.none (c : Thread nD τ) none) Set.univ)
    isplitl [HR2 HR3 HR4 HW6 HW7 HW8 HD9 HD10]
    · iapply ((r0chunk (F := F) c i arg2 harg2 arg3 harg3 arg4 harg4 arg5 harg5 arg6 harg6 arg7 harg7 arg8 harg8 arg9 harg9 arg10 harg10 v3 v4 v18 x2 x3 x4 k).2.2.2 acc f6 f7 f8 f9 f10)
      isplitl [HR2 HR3 HR4]
      · isplitl [HR2]; · iexact HR2
        isplitl [HR3]; · iexact HR3
        iexact HR4
      isplitl [HW6 HW7 HW8]
      · isplitl [HW6]; · iexact HW6
        isplitl [HW7]; · iexact HW7
        iexact HW8
      isplitl [HD9]; · iexact HD9
      iexact HD10
    · iintro %yld ⟨⟨HR2, HR3, HR4⟩, ⟨HW6, HW7, HW8⟩, ⟨%g9, ⟨%g10, ⟨HD9, HD10⟩⟩⟩⟩
      isplitl [HR2]; · iexact HR2
      isplitl [HR3]; · iexact HR3
      isplitl [HR4]; · iexact HR4
      rw [(r0sel_eq (F := F) c i arg2 harg2 arg3 harg3 arg4 harg4 arg5 harg5 arg6 harg6 arg7 harg7 arg8 harg8 arg9 harg9 arg10 harg10 v3 v4 v18 x2 x3 x4 G6 G7 G8 k.val).1] at h6
      rw [(r0sel_eq (F := F) c i arg2 harg2 arg3 harg3 arg4 harg4 arg5 harg5 arg6 harg6 arg7 harg7 arg8 harg8 arg9 harg9 arg10 harg10 v3 v4 v18 x2 x3 x4 G6 G7 G8 k.val).2.1] at h7
      rw [(r0sel_eq (F := F) c i arg2 harg2 arg3 harg3 arg4 harg4 arg5 harg5 arg6 harg6 arg7 harg7 arg8 harg8 arg9 harg9 arg10 harg10 v3 v4 v18 x2 x3 x4 G6 G7 G8 k.val).2.2] at h8
      simp only [r0st_succ]
      isplitl [HW6]
      · iexists _; isplitl [HW6]; · iexact HW6
        ipureintro; rw [h6, h8]
      isplitl [HW7]
      · iexists _; isplitl [HW7]; · iexact HW7
        ipureintro; rw [h7, h8]
      isplitl [HW8]
      · iexists _; isplitl [HW8]; · iexact HW8
        ipureintro; rw [h8]
      isplitl [HD9]; · iexists _; iexact HD9
      iexists _; iexact HD10

end

end Cert.KernelIdeal.Hgrn

end
-- ==== Proof.FwdBody.lean ====
module

public import proofs.«01_k».proof.Proof.FwdTrip

@[expose] public section

set_option maxRecDepth 16384
set_option maxHeartbeats 4000000

noncomputable section

/-! # The forward body at a grid point -/

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (c : Dev nD) (i : grid0.Coords)
  (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2x1024 .f32) (harg5 : arg5.IsWhole) (arg6 : Memref sig .tc .vmem S512x1024 .bf16) (harg6 : arg6.IsWhole) (arg7 : Memref sig .tc .vmem S8x8x128x128 .f32) (harg7 : arg7.IsWhole) (arg8 : Memref sig .tc .vmem S8x128x128 .f32) (harg8 : arg8.IsWhole) (arg9 : Memref sig .tc .vmem S64x1024 .f32) (harg9 : arg9.IsWhole) (arg10 : Memref sig .tc .vmem S8x64x64 .f32) (harg10 : arg10.IsWhole)
  (x2 : BufTy.Contents (Elt F) arg2.view.ty) (x3 : BufTy.Contents (Elt F) arg3.view.ty) (x4 : BufTy.Contents (Elt F) arg4.view.ty) (x5 : BufTy.Contents (Elt F) arg5.view.ty)

/-- The body at the first point: what it leaves in its results and in the carried state. -/
@[irreducible] def r0first (hi : (i 1).val = 0) :
    Σ' (F6 : BufTy.Contents (Elt F) arg6.view.ty → BufTy.Contents (Elt F) arg7.view.ty → BufTy.Contents (Elt F) arg8.view.ty → BufTy.Contents (Elt F) arg6.view.ty) (F7 : BufTy.Contents (Elt F) arg6.view.ty → BufTy.Contents (Elt F) arg7.view.ty → BufTy.Contents (Elt F) arg8.view.ty → BufTy.Contents (Elt F) arg7.view.ty),
      { F8 : BufTy.Contents (Elt F) arg6.view.ty → BufTy.Contents (Elt F) arg7.view.ty → BufTy.Contents (Elt F) arg8.view.ty → BufTy.Contents (Elt F) arg8.view.ty //
        ∀ (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty),
          (iprop(((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5)) ∗ ((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) ∗ ((arg9.view.loc (c : Thread nD τ) ↦[arg9.view.set]{fullShare} f9) ∗ (arg10.view.loc (c : Thread nD τ) ↦[arg10.view.set]{fullShare} f10))) : sProp (MT nD τ sig Unit (Elt F) ℕ (UR sig nD τ) ℕ))
          ⊢ wp frame (wpE (defs₀ (F := F)) Variants.none (c : Thread nD τ) none) Set.univ
              (cc0_hgrn_fwd (F := F) i arg2 harg2 arg3 harg3 arg4 harg4 arg5 harg5 arg6 harg6 arg7 harg7 arg8 harg8 arg9 harg9 arg10 harg10)
              (fun _ => (iprop(((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5)) ∗ ((arg6.view.loc (c : Thread nD τ) ↦[arg6.view.set]{fullShare} (F6 f6 f7 f8)) ∗ (arg7.view.loc (c : Thread nD τ) ↦[arg7.view.set]{fullShare} (F7 f6 f7 f8)) ∗ (arg8.view.loc (c : Thread nD τ) ↦[arg8.view.set]{fullShare} (F8 f6 f7 f8)))
                ∗ ((∃ g9, (arg9.view.loc (c : Thread nD τ) ↦[arg9.view.set]{fullShare} g9)) ∗ (∃ g10, (arg10.view.loc (c : Thread nD τ) ↦[arg10.view.set]{fullShare} g10)))) : sProp (MT nD τ sig Unit (Elt F) ℕ (UR sig nD τ) ℕ))) } := by
  refine ⟨?_, ?_, ?_, fun f6 f7 f8 f9 f10 => ?run⟩
  case run =>
    have hc : Scalar.cmpi .ne (Scalar.extui (Scalar.cmpi .eq (BitVec.ofNat 32 (i 1).val) 0#32 : BitVec 1) : BitVec 32) 0#32 = 1#1 := by rw [hi]; rfl
    rw [cc0_hgrn_fwd_eq_skeleton]; unfold cc0_hgrn_fwd_skel
    iintro ⟨⟨HR2, HR3, HR4, HR5⟩, ⟨HW6, HW7, HW8⟩, ⟨HD9, HD10⟩⟩
    sl_exec
    sl_step
    sl_close

/-- The body at a later point: what it leaves in its results and in the carried state. -/
@[irreducible] def r0later (hi : (i 1).val ≠ 0) :
    Σ' (F6 : BufTy.Contents (Elt F) arg6.view.ty → BufTy.Contents (Elt F) arg7.view.ty → BufTy.Contents (Elt F) arg8.view.ty → BufTy.Contents (Elt F) arg6.view.ty) (F7 : BufTy.Contents (Elt F) arg6.view.ty → BufTy.Contents (Elt F) arg7.view.ty → BufTy.Contents (Elt F) arg8.view.ty → BufTy.Contents (Elt F) arg7.view.ty),
      { F8 : BufTy.Contents (Elt F) arg6.view.ty → BufTy.Contents (Elt F) arg7.view.ty → BufTy.Contents (Elt F) arg8.view.ty → BufTy.Contents (Elt F) arg8.view.ty //
        ∀ (f6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty),
          (iprop(((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5)) ∗ ((arg6.view.loc (c : Thread nD τ) ↦[arg6.view.set]{fullShare} f6) ∗ (arg7.view.loc (c : Thread nD τ) ↦[arg7.view.set]{fullShare} f7) ∗ (arg8.view.loc (c : Thread nD τ) ↦[arg8.view.set]{fullShare} f8)) ∗ ((arg9.view.loc (c : Thread nD τ) ↦[arg9.view.set]{fullShare} f9) ∗ (arg10.view.loc (c : Thread nD τ) ↦[arg10.view.set]{fullShare} f10))) : sProp (MT nD τ sig Unit (Elt F) ℕ (UR sig nD τ) ℕ))
          ⊢ wp frame (wpE (defs₀ (F := F)) Variants.none (c : Thread nD τ) none) Set.univ
              (cc0_hgrn_fwd (F := F) i arg2 harg2 arg3 harg3 arg4 harg4 arg5 harg5 arg6 harg6 arg7 harg7 arg8 harg8 arg9 harg9 arg10 harg10)
              (fun _ => (iprop(((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5)) ∗ ((arg6.view.loc (c : Thread nD τ) ↦[arg6.view.set]{fullShare} (F6 f6 f7 f8)) ∗ (arg7.view.loc (c : Thread nD τ) ↦[arg7.view.set]{fullShare} (F7 f6 f7 f8)) ∗ (arg8.view.loc (c : Thread nD τ) ↦[arg8.view.set]{fullShare} (F8 f6 f7 f8)))
                ∗ ((∃ g9, (arg9.view.loc (c : Thread nD τ) ↦[arg9.view.set]{fullShare} g9)) ∗ (∃ g10, (arg10.view.loc (c : Thread nD τ) ↦[arg10.view.set]{fullShare} g10)))) : sProp (MT nD τ sig Unit (Elt F) ℕ (UR sig nD τ) ℕ))) } := by
  refine ⟨?_, ?_, ?_, fun f6 f7 f8 f9 f10 => ?run⟩
  case run =>
    have hc : ¬ (Scalar.cmpi .ne (Scalar.extui (Scalar.cmpi .eq (BitVec.ofNat 32 (i 1).val) 0#32 : BitVec 1) : BitVec 32) 0#32 = 1#1) := by
      have := (i 1).isLt
      revert hi this
      generalize (i 1).val = n
      intro hi hn
      have hn : n < 16 := hn
      interval_cases n <;> first | exact absurd rfl hi | decide
    rw [cc0_hgrn_fwd_eq_skeleton]; unfold cc0_hgrn_fwd_skel
    iintro ⟨⟨HR2, HR3, HR4, HR5⟩, ⟨HW6, HW7, HW8⟩, ⟨HD9, HD10⟩⟩
    sl_exec
    sl_step
    sl_close

end

end Cert.KernelIdeal.Hgrn

end
-- ==== Proof.FwdCover.lean ====
module

public import proofs.«01_k».proof.Proof.FwdBody
public import Idealize.ShloMosaic.Lib.Pipeline.Frame

@[expose] public section

set_option maxRecDepth 16384
set_option maxHeartbeats 4000000

noncomputable section

/-! # The forward results do not depend on what their buffers held -/

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

/-- Two buffers after the same writes agree at an index some write covers, or at which they agreed before. -/
theorem read_writes_agree {sp : Space} {s : Shape} {e : EltTy} {Val : EltTy → Type} (v : View sig .tc sp s e) (f f' : v.ty.Contents Val)
    (L : List (View.Piece Val s e)) (y : s.Idx) (h : (∃ p ∈ L, y ∈ p.1.set) ∨ v.read Val f y = v.read Val f' y) :
    v.read Val (v.writes Val f L) y = v.read Val (v.writes Val f' L) y := by
  by_cases hc : ∃ p ∈ L, y ∈ p.1.set
  · exact View.read_writes_apply_eq v f v f' y L hc
  · have hn : ∀ p ∈ L, y ∉ p.1.set := fun p hp hy => hc ⟨p, hp, hy⟩
    rw [View.read_writes_apply_of_forall_not_mem v f y L hn, View.read_writes_apply_of_forall_not_mem v f' y L hn]
    exact h.resolve_left hc

/-- A contents argument of a whole buffer is told by what it reads. -/
theorem eq_of_read {sp : Space} {s : Shape} {e : EltTy} {Val : EltTy → Type} {a : Memref sig .tc sp s e} (h : a.IsWhole) {f g : a.view.ty.Contents Val}
    (hr : ∀ y, a.view.read Val f y = a.view.read Val g y) : f = g := h.read_bijective.1 (funext hr)

theorem k0_off1_eq (k : Fin k0_t1_loop.trips) : k0_off1 k = ![64 * k.val, 0] := by revert k; decide
theorem k0_off2_eq (k : Fin k0_t1_loop.trips) : k0_off2 k = ![0, k.val, 0, 0] := by revert k; decide
theorem k0_off3_eq (k : Fin k0_t1_loop.trips) : k0_off3 k = ![1, k.val, 0, 0] := by revert k; decide
theorem k0_off4_eq (k : Fin k0_t1_loop.trips) : k0_off4 k = ![2, k.val, 0, 0] := by revert k; decide
theorem k0_off5_eq (k : Fin k0_t1_loop.trips) : k0_off5 k = ![3, k.val, 0, 0] := by revert k; decide
theorem k0_off6_eq (k : Fin k0_t1_loop.trips) : k0_off6 k = ![4, k.val, 0, 0] := by revert k; decide
theorem k0_off7_eq (k : Fin k0_t1_loop.trips) : k0_off7 k = ![5, k.val, 0, 0] := by revert k; decide
theorem k0_off8_eq (k : Fin k0_t1_loop.trips) : k0_off8 k = ![6, k.val, 0, 0] := by revert k; decide
theorem k0_off9_eq (k : Fin k0_t1_loop.trips) : k0_off9 k = ![7, k.val, 0, 0] := by revert k; decide

section
variable (c : Dev nD) (i : grid0.Coords)
  (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2x1024 .f32) (harg5 : arg5.IsWhole) (arg6 : Memref sig .tc .vmem S512x1024 .bf16) (harg6 : arg6.IsWhole) (arg7 : Memref sig .tc .vmem S8x8x128x128 .f32) (harg7 : arg7.IsWhole) (arg8 : Memref sig .tc .vmem S8x128x128 .f32) (harg8 : arg8.IsWhole) (arg9 : Memref sig .tc .vmem S64x1024 .f32) (harg9 : arg9.IsWhole) (arg10 : Memref sig .tc .vmem S8x64x64 .f32) (harg10 : arg10.IsWhole)
  (v3 v4 : Vec F S1x1024 .f32) (v18 : IVec S64x1024 32)
  (x2 : BufTy.Contents (Elt F) arg2.view.ty) (x3 : BufTy.Contents (Elt F) arg3.view.ty) (x4 : BufTy.Contents (Elt F) arg4.view.ty)

/-- Chunk `k` writes rows `64 k … 64 k + 63` of the output. -/
theorem r0chunk_mem6 (k : Fin k0_t1_loop.trips) (f8 : BufTy.Contents (Elt F) arg8.view.ty) (y : S512x1024.Idx) (h : 64 * k.val ≤ (y 0).val) (h' : (y 0).val < 64 * k.val + 64) :
    ∃ p ∈ (r0chunk (F := F) c i arg2 harg2 arg3 harg3 arg4 harg4 arg5 harg5 arg6 harg6 arg7 harg7 arg8 harg8 arg9 harg9 arg10 harg10 v3 v4 v18 x2 x3 x4 k).1 f8, y ∈ p.1.set := by
  unfold r0chunk
  refine ⟨_, List.mem_cons_self, ?_⟩
  have h1 : (y 1).val < 1024 := (y 1).isLt
  dsimp only
  rw [Rect.mem_set_unit, k0_off1_eq]
  intro a
  match a with
  | 0 => exact ⟨h, h'⟩
  | 1 => exact ⟨Nat.zero_le _, by simpa using h1⟩

/-- Chunk `k` writes slot `k` of the saved states, every head. -/
theorem r0chunk_mem7 (k : Fin k0_t1_loop.trips) (f8 : BufTy.Contents (Elt F) arg8.view.ty) (y : S8x8x128x128.Idx) (h : (y 1).val = k.val) :
    ∃ p ∈ (r0chunk (F := F) c i arg2 harg2 arg3 harg3 arg4 harg4 arg5 harg5 arg6 harg6 arg7 harg7 arg8 harg8 arg9 harg9 arg10 harg10 v3 v4 v18 x2 x3 x4 k).2.1 f8, y ∈ p.1.set := by
  unfold r0chunk
  dsimp only
  have h0 : (y 0).val < 8 := (y 0).isLt
  have h2 : (y 2).val < 128 := (y 2).isLt
  have h3 : (y 3).val < 128 := (y 3).isLt
  have key : ∀ (off : Fin 4 → ℕ) (inb) (w) (n : ℕ), off = ![n, k.val, 0, 0] → (y 0).val = n →
      y ∈ (⟨Rect.unit (s := S8x8x128x128) off S1x1x128x128.size inb, w⟩ : View.Piece (Elt F) S8x8x128x128 .f32).1.set := by
    intro off inb w n ho hn
    show y ∈ (Rect.unit (s := S8x8x128x128) off S1x1x128x128.size inb).set
    rw [Rect.mem_set_unit]
    subst ho
    intro a
    match a with
    | 0 => exact ⟨by simpa using hn.ge, by simpa using (by omega : (y 0).val < n + 1)⟩
    | 1 => exact ⟨by simpa using h.ge, by simpa using (by omega : (y 1).val < k.val + 1)⟩
    | 2 => exact ⟨Nat.zero_le _, by simpa using h2⟩
    | 3 => exact ⟨Nat.zero_le _, by simpa using h3⟩
  generalize hn : (y 0).val = n at h0
  interval_cases n
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), key _ _ _ 0 (k0_off2_eq k) hn⟩
  · exact ⟨_, List.mem_cons_of_mem _ (List.mem_cons_of_mem _ (List.mem_cons_of_mem _ (List.mem_cons_of_mem _ (List.mem_cons_of_mem _ (List.mem_cons_of_mem _ (List.mem_cons_self)))))), key _ _ _ 1 (k0_off3_eq k) hn⟩
  · exact ⟨_, List.mem_cons_of_mem _ (List.mem_cons_of_mem _ (List.mem_cons_of_mem _ (List.mem_cons_of_mem _ (List.mem_cons_of_mem _ (List.mem_cons_self))))), key _ _ _ 2 (k0_off4_eq k) hn⟩
  · exact ⟨_, List.mem_cons_of_mem _ (List.mem_cons_of_mem _ (List.mem_cons_of_mem _ (List.mem_cons_of_mem _ (List.mem_cons_self)))), key _ _ _ 3 (k0_off5_eq k) hn⟩
  · exact ⟨_, List.mem_cons_of_mem _ (List.mem_cons_of_mem _ (List.mem_cons_of_mem _ (List.mem_cons_self))), key _ _ _ 4 (k0_off6_eq k) hn⟩
  · exact ⟨_, List.mem_cons_of_mem _ (List.mem_cons_of_mem _ (List.mem_cons_self)), key _ _ _ 5 (k0_off7_eq k) hn⟩
  · exact ⟨_, List.mem_cons_of_mem _ (List.mem_cons_self), key _ _ _ 6 (k0_off8_eq k) hn⟩
  · exact ⟨_, List.mem_cons_self, key _ _ _ 7 (k0_off9_eq k) hn⟩

theorem r0st_cover_upto (G6 G6' : BufTy.Contents (Elt F) arg6.view.ty) (G7 G7' : BufTy.Contents (Elt F) arg7.view.ty) (G8 : BufTy.Contents (Elt F) arg8.view.ty) (j : ℕ) (hj : j ≤ k0_t1_loop.trips) :
    (r0st (F := F) c i arg2 harg2 arg3 harg3 arg4 harg4 arg5 harg5 arg6 harg6 arg7 harg7 arg8 harg8 arg9 harg9 arg10 harg10 v3 v4 v18 x2 x3 x4 G6 G7 G8 j).2.2 = (r0st (F := F) c i arg2 harg2 arg3 harg3 arg4 harg4 arg5 harg5 arg6 harg6 arg7 harg7 arg8 harg8 arg9 harg9 arg10 harg10 v3 v4 v18 x2 x3 x4 G6' G7' G8 j).2.2
      ∧ (∀ y : S512x1024.Idx, (y 0).val < 64 * j → arg6.view.read (Elt F) (r0st (F := F) c i arg2 harg2 arg3 harg3 arg4 harg4 arg5 harg5 arg6 harg6 arg7 harg7 arg8 harg8 arg9 harg9 arg10 harg10 v3 v4 v18 x2 x3 x4 G6 G7 G8 j).1 y = arg6.view.read (Elt F) (r0st (F := F) c i arg2 harg2 arg3 harg3 arg4 harg4 arg5 harg5 arg6 harg6 arg7 harg7 arg8 harg8 arg9 harg9 arg10 harg10 v3 v4 v18 x2 x3 x4 G6' G7' G8 j).1 y)
      ∧ (∀ y : S8x8x128x128.Idx, (y 1).val < j → arg7.view.read (Elt F) (r0st (F := F) c i arg2 harg2 arg3 harg3 arg4 harg4 arg5 harg5 arg6 harg6 arg7 harg7 arg8 harg8 arg9 harg9 arg10 harg10 v3 v4 v18 x2 x3 x4 G6 G7 G8 j).2.1 y = arg7.view.read (Elt F) (r0st (F := F) c i arg2 harg2 arg3 harg3 arg4 harg4 arg5 harg5 arg6 harg6 arg7 harg7 arg8 harg8 arg9 harg9 arg10 harg10 v3 v4 v18 x2 x3 x4 G6' G7' G8 j).2.1 y) := by
  induction j with
  | zero => exact ⟨rfl, fun y hy => absurd hy (by omega), fun y hy => absurd hy (by omega)⟩
  | succ j ih =>
    obtain ⟨h8, h6, h7⟩ := ih (by omega)
    have e1 := r0st_succ (F := F) c i arg2 harg2 arg3 harg3 arg4 harg4 arg5 harg5 arg6 harg6 arg7 harg7 arg8 harg8 arg9 harg9 arg10 harg10 v3 v4 v18 x2 x3 x4 G6 G7 G8 ⟨j, by omega⟩
    have e2 := r0st_succ (F := F) c i arg2 harg2 arg3 harg3 arg4 harg4 arg5 harg5 arg6 harg6 arg7 harg7 arg8 harg8 arg9 harg9 arg10 harg10 v3 v4 v18 x2 x3 x4 G6' G7' G8 ⟨j, by omega⟩
    dsimp only at e1 e2
    rw [e1, e2]
    dsimp only
    rw [← h8]
    refine ⟨rfl, fun y hy => ?_, fun y hy => ?_⟩
    · refine read_writes_agree _ _ _ _ y ?_
      by_cases hk : 64 * j ≤ (y 0).val
      · exact Or.inl (r0chunk_mem6 (F := F) c i arg2 harg2 arg3 harg3 arg4 harg4 arg5 harg5 arg6 harg6 arg7 harg7 arg8 harg8 arg9 harg9 arg10 harg10 v3 v4 v18 x2 x3 x4 ⟨j, by omega⟩ _ y hk (by omega))
      · exact Or.inr (h6 y (by omega))
    · refine read_writes_agree _ _ _ _ y ?_
      by_cases hk : (y 1).val = j
      · exact Or.inl (r0chunk_mem7 (F := F) c i arg2 harg2 arg3 harg3 arg4 harg4 arg5 harg5 arg6 harg6 arg7 harg7 arg8 harg8 arg9 harg9 arg10 harg10 v3 v4 v18 x2 x3 x4 ⟨j, by omega⟩ _ y hk)
      · exact Or.inr (h7 y (by omega))

/-- THE LOOP'S RESULTS are functions of the state it starts from. -/
theorem r0st_cover (G6 G6' : BufTy.Contents (Elt F) arg6.view.ty) (G7 G7' : BufTy.Contents (Elt F) arg7.view.ty) (G8 : BufTy.Contents (Elt F) arg8.view.ty) :
    r0st (F := F) c i arg2 harg2 arg3 harg3 arg4 harg4 arg5 harg5 arg6 harg6 arg7 harg7 arg8 harg8 arg9 harg9 arg10 harg10 v3 v4 v18 x2 x3 x4 G6 G7 G8 k0_t1_loop.trips = r0st (F := F) c i arg2 harg2 arg3 harg3 arg4 harg4 arg5 harg5 arg6 harg6 arg7 harg7 arg8 harg8 arg9 harg9 arg10 harg10 v3 v4 v18 x2 x3 x4 G6' G7' G8 k0_t1_loop.trips := by
  obtain ⟨h8, h6, h7⟩ := r0st_cover_upto (F := F) c i arg2 harg2 arg3 harg3 arg4 harg4 arg5 harg5 arg6 harg6 arg7 harg7 arg8 harg8 arg9 harg9 arg10 harg10 v3 v4 v18 x2 x3 x4 G6 G6' G7 G7' G8 k0_t1_loop.trips le_rfl
  have ht : k0_t1_loop.trips = 8 := by decide
  refine Prod.ext (eq_of_read harg6 fun y => h6 y ?_) (Prod.ext (eq_of_read harg7 fun y => h7 y ?_) h8)
  · have : (y 0).val < 512 := (y 0).isLt
    omega
  · have : (y 1).val < 8 := (y 1).isLt
    omega
end

section
variable (c : Dev nD) (i : grid0.Coords)
  (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2x1024 .f32) (harg5 : arg5.IsWhole) (arg6 : Memref sig .tc .vmem S512x1024 .bf16) (harg6 : arg6.IsWhole) (arg7 : Memref sig .tc .vmem S8x8x128x128 .f32) (harg7 : arg7.IsWhole) (arg8 : Memref sig .tc .vmem S8x128x128 .f32) (harg8 : arg8.IsWhole) (arg9 : Memref sig .tc .vmem S64x1024 .f32) (harg9 : arg9.IsWhole) (arg10 : Memref sig .tc .vmem S8x64x64 .f32) (harg10 : arg10.IsWhole)
  (x2 : BufTy.Contents (Elt F) arg2.view.ty) (x3 : BufTy.Contents (Elt F) arg3.view.ty) (x4 : BufTy.Contents (Elt F) arg4.view.ty) (x5 : BufTy.Contents (Elt F) arg5.view.ty)

/-- At the first point the results are functions of the inputs. -/
theorem r0first_cover (hi : (i 1).val = 0) (f6 f6' : BufTy.Contents (Elt F) arg6.view.ty) (f7 f7' : BufTy.Contents (Elt F) arg7.view.ty) (f8 f8' : BufTy.Contents (Elt F) arg8.view.ty) :
    (r0first (F := F) c i arg2 harg2 arg3 harg3 arg4 harg4 arg5 harg5 arg6 harg6 arg7 harg7 arg8 harg8 arg9 harg9 arg10 harg10 x2 x3 x4 x5 hi).1 f6 f7 f8 = (r0first (F := F) c i arg2 harg2 arg3 harg3 arg4 harg4 arg5 harg5 arg6 harg6 arg7 harg7 arg8 harg8 arg9 harg9 arg10 harg10 x2 x3 x4 x5 hi).1 f6' f7' f8'
    ∧ (r0first (F := F) c i arg2 harg2 arg3 harg3 arg4 harg4 arg5 harg5 arg6 harg6 arg7 harg7 arg8 harg8 arg9 harg9 arg10 harg10 x2 x3 x4 x5 hi).2.1 f6 f7 f8 = (r0first (F := F) c i arg2 harg2 arg3 harg3 arg4 harg4 arg5 harg5 arg6 harg6 arg7 harg7 arg8 harg8 arg9 harg9 arg10 harg10 x2 x3 x4 x5 hi).2.1 f6' f7' f8'
    ∧ (r0first (F := F) c i arg2 harg2 arg3 harg3 arg4 harg4 arg5 harg5 arg6 harg6 arg7 harg7 arg8 harg8 arg9 harg9 arg10 harg10 x2 x3 x4 x5 hi).2.2.1 f6 f7 f8 = (r0first (F := F) c i arg2 harg2 arg3 harg3 arg4 harg4 arg5 harg5 arg6 harg6 arg7 harg7 arg8 harg8 arg9 harg9 arg10 harg10 x2 x3 x4 x5 hi).2.2.1 f6' f7' f8' := by
  unfold r0first
  exact ⟨congrArg (·.1) (r0st_cover (F := F) c i arg2 harg2 arg3 harg3 arg4 harg4 arg5 harg5 arg6 harg6 arg7 harg7 arg8 harg8 arg9 harg9 arg10 harg10 _ _ _ x2 x3 x4 f6 f6' f7 f7' _), congrArg (·.2.1) (r0st_cover (F := F) c i arg2 harg2 arg3 harg3 arg4 harg4 arg5 harg5 arg6 harg6 arg7 harg7 arg8 harg8 arg9 harg9 arg10 harg10 _ _ _ x2 x3 x4 f6 f6' f7 f7' _), congrArg (·.2.2) (r0st_cover (F := F) c i arg2 harg2 arg3 harg3 arg4 harg4 arg5 harg5 arg6 harg6 arg7 harg7 arg8 harg8 arg9 harg9 arg10 harg10 _ _ _ x2 x3 x4 f6 f6' f7 f7' _)⟩

/-- At a later point the results are functions of the inputs and the state. -/
theorem r0later_cover (hi : (i 1).val ≠ 0) (f6 f6' : BufTy.Contents (Elt F) arg6.view.ty) (f7 f7' : BufTy.Contents (Elt F) arg7.view.ty) (f8 : BufTy.Contents (Elt F) arg8.view.ty) :
    (r0later (F := F) c i arg2 harg2 arg3 harg3 arg4 harg4 arg5 harg5 arg6 harg6 arg7 harg7 arg8 harg8 arg9 harg9 arg10 harg10 x2 x3 x4 x5 hi).1 f6 f7 f8 = (r0later (F := F) c i arg2 harg2 arg3 harg3 arg4 harg4 arg5 harg5 arg6 harg6 arg7 harg7 arg8 harg8 arg9 harg9 arg10 harg10 x2 x3 x4 x5 hi).1 f6' f7' f8
    ∧ (r0later (F := F) c i arg2 harg2 arg3 harg3 arg4 harg4 arg5 harg5 arg6 harg6 arg7 harg7 arg8 harg8 arg9 harg9 arg10 harg10 x2 x3 x4 x5 hi).2.1 f6 f7 f8 = (r0later (F := F) c i arg2 harg2 arg3 harg3 arg4 harg4 arg5 harg5 arg6 harg6 arg7 harg7 arg8 harg8 arg9 harg9 arg10 harg10 x2 x3 x4 x5 hi).2.1 f6' f7' f8
    ∧ (r0later (F := F) c i arg2 harg2 arg3 harg3 arg4 harg4 arg5 harg5 arg6 harg6 arg7 harg7 arg8 harg8 arg9 harg9 arg10 harg10 x2 x3 x4 x5 hi).2.2.1 f6 f7 f8 = (r0later (F := F) c i arg2 harg2 arg3 harg3 arg4 harg4 arg5 harg5 arg6 harg6 arg7 harg7 arg8 harg8 arg9 harg9 arg10 harg10 x2 x3 x4 x5 hi).2.2.1 f6' f7' f8 := by
  unfold r0later
  exact ⟨congrArg (·.1) (r0st_cover (F := F) c i arg2 harg2 arg3 harg3 arg4 harg4 arg5 harg5 arg6 harg6 arg7 harg7 arg8 harg8 arg9 harg9 arg10 harg10 _ _ _ x2 x3 x4 f6 f6' f7 f7' _), congrArg (·.2.1) (r0st_cover (F := F) c i arg2 harg2 arg3 harg3 arg4 harg4 arg5 harg5 arg6 harg6 arg7 harg7 arg8 harg8 arg9 harg9 arg10 harg10 _ _ _ x2 x3 x4 f6 f6' f7 f7' _), congrArg (·.2.2) (r0st_cover (F := F) c i arg2 harg2 arg3 harg3 arg4 harg4 arg5 harg5 arg6 harg6 arg7 harg7 arg8 harg8 arg9 harg9 arg10 harg10 _ _ _ x2 x3 x4 f6 f6' f7 f7' _)⟩
end

end Cert.KernelIdeal.Hgrn

end
-- ==== Proof.FwdDat.lean ====
module

public import proofs.«01_k».proof.Proof.FwdCover
public import proofs.«01_k».proof.Proof.Gen.KernelIdeal.Launch
public import Idealize.ShloMosaic.Lib.Pipeline.FrameBody
public import Idealize.ShloMosaic.Lib.Pipeline.Regions

@[expose] public section

set_option maxRecDepth 16384
set_option maxHeartbeats 4000000

noncomputable section

/-! # The forward region: its proof data and its body obligation -/

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Pipeline (Dat Cfg Window BodyObligation)

variable (V : (c : Dev nD) → (b : Ref sig .tc) → Buf (Elt F) ((c : Thread nD τ).loc b))

/-- Window `w`'s block at point `t`, read off its array as the region finds it. -/
def r0iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- No part of this block is cut at the array's end. -/
theorem r0xsize0 : ∀ t : Fin cfg0.N, ∀ a, (cfg0.win 0).xsize (cfg0.grid.coords t) a = (cfg0.win 0).size a := by decide +kernel
theorem r0moved0 (t : Fin cfg0.N) (j : (cfg0.win 0).block.Idx) : (cfg0.win 0).moved (cfg0.grid.coords t) j = true :=
  ((cfg0.win 0).moved_iff _ j).mpr fun a => by rw [r0xsize0 t a]; exact (j a).isLt
/-- What input window 0 holds when the body runs. -/
def r0X0 (c : Dev nD) (t : Fin cfg0.N) : (cfg0.win 0).block.Idx → Elt F (cfg0.win 0).elt :=
  (cfg0.win 0).fill (cfg0.grid.coords t) (fun _ => Classical.choice inferInstance) (r0iblk V c 0 t)
theorem r0fill0 (t : Fin cfg0.N) (d d' : (cfg0.win 0).block.Idx → Elt F (cfg0.win 0).elt) (g) :
    (cfg0.win 0).fill (cfg0.grid.coords t) d g = (cfg0.win 0).fill (cfg0.grid.coords t) d' g := by
  funext j; unfold Pipeline.Window.fill; rw [dif_pos (r0moved0 t j), dif_pos (r0moved0 t j)]
theorem r0before0_of {c : Dev nD} (dat : Dat τ (Elt F) Unit ℕ (UR sig nD τ) ℕ cfg0 c) (hA : dat.A 0 = V c (Pipeline.arrRef spec0 0))
    (hafter : ∀ t, dat.after 0 t = r0X0 V c t) (t : Fin cfg0.N) (d) : dat.before 0 t d = r0X0 V c t :=
  (dat.before_in_eq_fetched 0 rfl (fun _ => rfl)
      (fun t t' h => funext fun a => congrArg (fun n => Pipeline.Clip.of n ((cfg0.win 0).size a) (S8192x6656.size a)) (congrFun h a))
      (fun t => by rw [hafter]; unfold r0X0; rw [Pipeline.Window.cut_fill]; unfold Dat.blockOf r0iblk; rw [hA]; try rfl) t d).trans
    (by unfold Dat.fetched r0X0; rw [r0fill0 t d (fun _ => Classical.choice inferInstance)]; unfold Dat.blockOf r0iblk; rw [hA]; try rfl)

/-- No part of this block is cut at the array's end. -/
theorem r0xsize1 : ∀ t : Fin cfg0.N, ∀ a, (cfg0.win 1).xsize (cfg0.grid.coords t) a = (cfg0.win 1).size a := by decide +kernel
theorem r0moved1 (t : Fin cfg0.N) (j : (cfg0.win 1).block.Idx) : (cfg0.win 1).moved (cfg0.grid.coords t) j = true :=
  ((cfg0.win 1).moved_iff _ j).mpr fun a => by rw [r0xsize1 t a]; exact (j a).isLt
/-- What input window 1 holds when the body runs. -/
def r0X1 (c : Dev nD) (t : Fin cfg0.N) : (cfg0.win 1).block.Idx → Elt F (cfg0.win 1).elt :=
  (cfg0.win 1).fill (cfg0.grid.coords t) (fun _ => Classical.choice inferInstance) (r0iblk V c 1 t)
theorem r0fill1 (t : Fin cfg0.N) (d d' : (cfg0.win 1).block.Idx → Elt F (cfg0.win 1).elt) (g) :
    (cfg0.win 1).fill (cfg0.grid.coords t) d g = (cfg0.win 1).fill (cfg0.grid.coords t) d' g := by
  funext j; unfold Pipeline.Window.fill; rw [dif_pos (r0moved1 t j), dif_pos (r0moved1 t j)]
theorem r0before1_of {c : Dev nD} (dat : Dat τ (Elt F) Unit ℕ (UR sig nD τ) ℕ cfg0 c) (hA : dat.A 1 = V c (Pipeline.arrRef spec0 1))
    (hafter : ∀ t, dat.after 1 t = r0X1 V c t) (t : Fin cfg0.N) (d) : dat.before 1 t d = r0X1 V c t :=
  (dat.before_in_eq_fetched 1 rfl (fun _ => rfl)
      (fun t t' h => funext fun a => congrArg (fun n => Pipeline.Clip.of n ((cfg0.win 1).size a) (S8192x6656.size a)) (congrFun h a))
      (fun t => by rw [hafter]; unfold r0X1; rw [Pipeline.Window.cut_fill]; unfold Dat.blockOf r0iblk; rw [hA]; try rfl) t d).trans
    (by unfold Dat.fetched r0X1; rw [r0fill1 t d (fun _ => Classical.choice inferInstance)]; unfold Dat.blockOf r0iblk; rw [hA]; try rfl)

/-- No part of this block is cut at the array's end. -/
theorem r0xsize2 : ∀ t : Fin cfg0.N, ∀ a, (cfg0.win 2).xsize (cfg0.grid.coords t) a = (cfg0.win 2).size a := by decide +kernel
theorem r0moved2 (t : Fin cfg0.N) (j : (cfg0.win 2).block.Idx) : (cfg0.win 2).moved (cfg0.grid.coords t) j = true :=
  ((cfg0.win 2).moved_iff _ j).mpr fun a => by rw [r0xsize2 t a]; exact (j a).isLt
/-- What input window 2 holds when the body runs. -/
def r0X2 (c : Dev nD) (t : Fin cfg0.N) : (cfg0.win 2).block.Idx → Elt F (cfg0.win 2).elt :=
  (cfg0.win 2).fill (cfg0.grid.coords t) (fun _ => Classical.choice inferInstance) (r0iblk V c 2 t)
theorem r0fill2 (t : Fin cfg0.N) (d d' : (cfg0.win 2).block.Idx → Elt F (cfg0.win 2).elt) (g) :
    (cfg0.win 2).fill (cfg0.grid.coords t) d g = (cfg0.win 2).fill (cfg0.grid.coords t) d' g := by
  funext j; unfold Pipeline.Window.fill; rw [dif_pos (r0moved2 t j), dif_pos (r0moved2 t j)]
theorem r0before2_of {c : Dev nD} (dat : Dat τ (Elt F) Unit ℕ (UR sig nD τ) ℕ cfg0 c) (hA : dat.A 2 = V c (Pipeline.arrRef spec0 2))
    (hafter : ∀ t, dat.after 2 t = r0X2 V c t) (t : Fin cfg0.N) (d) : dat.before 2 t d = r0X2 V c t :=
  (dat.before_in_eq_fetched 2 rfl (fun _ => rfl)
      (fun t t' h => funext fun a => congrArg (fun n => Pipeline.Clip.of n ((cfg0.win 2).size a) (S8192x6656.size a)) (congrFun h a))
      (fun t => by rw [hafter]; unfold r0X2; rw [Pipeline.Window.cut_fill]; unfold Dat.blockOf r0iblk; rw [hA]; try rfl) t d).trans
    (by unfold Dat.fetched r0X2; rw [r0fill2 t d (fun _ => Classical.choice inferInstance)]; unfold Dat.blockOf r0iblk; rw [hA]; try rfl)

/-- What input window 3 holds when the body runs. -/
abbrev r0X3 (c : Dev nD) (t : Fin cfg0.N) : (cfg0.win 3).block.Idx → Elt F (cfg0.win 3).elt := r0iblk V c 3 t
theorem r0before3_of {c : Dev nD} (dat : Dat τ (Elt F) Unit ℕ (UR sig nD τ) ℕ cfg0 c) (hA : dat.A 3 = V c (Pipeline.arrRef spec0 3))
    (hafter : ∀ t, dat.after 3 t = r0X3 V c t) (t : Fin cfg0.N) (d) : dat.before 3 t d = r0X3 V c t :=
  (dat.before_in_eq_fetched 3 rfl (fun _ => rfl) (fun _ _ _ => rfl) (fun t => by rw [hafter]; unfold Dat.blockOf r0X3 r0iblk; rw [hA]; try rfl) t d).trans
    (by unfold Dat.fetched Dat.blockOf r0X3 r0iblk; rw [hA]; try rfl)

/-- The second grid coordinate is the point. -/
theorem r0coord : ∀ t : Fin cfg0.N, ((cfg0.grid.coords t) 1).val = t.val := by decide +kernel

/-- What the body leaves at point `t`, as a function of what it found in the results and in the state. -/
def r0res (c : Dev nD) (t : Fin cfg0.N) (f4 : BufTy.Contents (Elt F) ((cfg0.win 4).stage (cfg0.slots t 4)).view.ty) (f5 : BufTy.Contents (Elt F) ((cfg0.win 5).stage (cfg0.slots t 5)).view.ty) (s : BufTy.Contents (Elt F) (Memref.whole cc0_scratch0).view.ty) :
    BufTy.Contents (Elt F) ((cfg0.win 4).stage (cfg0.slots t 4)).view.ty × BufTy.Contents (Elt F) ((cfg0.win 5).stage (cfg0.slots t 5)).view.ty × BufTy.Contents (Elt F) (Memref.whole cc0_scratch0).view.ty :=
  if hi : ((cfg0.grid.coords t) 1).val = 0 then
    let R := r0first (F := F) c (cfg0.grid.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (r0X0 V c t)) ((hstage0_1 ((cfg0.slots t 1).cast nbuf0_1)).unread (r0X1 V c t)) ((hstage0_2 ((cfg0.slots t 2).cast nbuf0_2)).unread (r0X2 V c t)) ((hstage0_3 ((cfg0.slots t 3).cast nbuf0_3)).unread (r0X3 V c t)) hi
    (R.1 f4 f5 s, R.2.1 f4 f5 s, R.2.2.1 f4 f5 s)
  else
    let R := r0later (F := F) c (cfg0.grid.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (r0X0 V c t)) ((hstage0_1 ((cfg0.slots t 1).cast nbuf0_1)).unread (r0X1 V c t)) ((hstage0_2 ((cfg0.slots t 2).cast nbuf0_2)).unread (r0X2 V c t)) ((hstage0_3 ((cfg0.slots t 3).cast nbuf0_3)).unread (r0X3 V c t)) hi
    (R.1 f4 f5 s, R.2.1 f4 f5 s, R.2.2.1 f4 f5 s)

theorem r0res_cover (c : Dev nD) (t : Fin cfg0.N) (f4 f4' : BufTy.Contents (Elt F) ((cfg0.win 4).stage (cfg0.slots t 4)).view.ty) (f5 f5' : BufTy.Contents (Elt F) ((cfg0.win 5).stage (cfg0.slots t 5)).view.ty) (s s' : BufTy.Contents (Elt F) (Memref.whole cc0_scratch0).view.ty) (h : t.val ≠ 0 → s = s') :
    r0res V c t f4 f5 s = r0res V c t f4' f5' s' := by
  unfold r0res
  by_cases hi : ((cfg0.grid.coords t) 1).val = 0
  · rw [dif_pos hi, dif_pos hi]
    obtain ⟨h1, h2, h3⟩ := r0first_cover (F := F) c (cfg0.grid.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (r0X0 V c t)) ((hstage0_1 ((cfg0.slots t 1).cast nbuf0_1)).unread (r0X1 V c t)) ((hstage0_2 ((cfg0.slots t 2).cast nbuf0_2)).unread (r0X2 V c t)) ((hstage0_3 ((cfg0.slots t 3).cast nbuf0_3)).unread (r0X3 V c t)) hi f4 f4' f5 f5' s s'
    exact Prod.ext h1 (Prod.ext h2 h3)
  · rw [dif_neg hi, dif_neg hi]
    obtain rfl := h (by rw [← r0coord t]; exact hi)
    obtain ⟨h1, h2, h3⟩ := r0later_cover (F := F) c (cfg0.grid.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (r0X0 V c t)) ((hstage0_1 ((cfg0.slots t 1).cast nbuf0_1)).unread (r0X1 V c t)) ((hstage0_2 ((cfg0.slots t 2).cast nbuf0_2)).unread (r0X2 V c t)) ((hstage0_3 ((cfg0.slots t 3).cast nbuf0_3)).unread (r0X3 V c t)) hi f4 f4' f5 f5' s
    exact Prod.ext h1 (Prod.ext h2 h3)

/-- The state after the first `n` points. -/
def r0state (c : Dev nD) : ℕ → BufTy.Contents (Elt F) (Memref.whole cc0_scratch0).view.ty
  | 0 => fun _ => Classical.choice inferInstance
  | n + 1 =>
    if h : n < cfg0.N then
      let t : Fin cfg0.N := ⟨n, h⟩
      (r0res V c t (fun _ => Classical.choice inferInstance) (fun _ => Classical.choice inferInstance) (r0state c n)).2.2
    else r0state c n

/-- What the body leaves at point `t`. -/
abbrev r0out (c : Dev nD) (t : Fin cfg0.N) := r0res V c t (fun _ => Classical.choice inferInstance) (fun _ => Classical.choice inferInstance) (r0state V c t.val)

theorem r0state_succ (c : Dev nD) (t : Fin cfg0.N) : r0state V c (t.val + 1) = (r0out V c t).2.2 := by
  rw [r0state]; exact dif_pos t.isLt

/-- Whatever the results' buffers held, the body leaves the point's results. -/
theorem r0res_eq (c : Dev nD) (t : Fin cfg0.N) (f4 : BufTy.Contents (Elt F) ((cfg0.win 4).stage (cfg0.slots t 4)).view.ty) (f5 : BufTy.Contents (Elt F) ((cfg0.win 5).stage (cfg0.slots t 5)).view.ty) (s : BufTy.Contents (Elt F) (Memref.whole cc0_scratch0).view.ty) (h : t.val ≠ 0 → s = r0state V c t.val) :
    r0res V c t f4 f5 s = r0out V c t := r0res_cover V c t _ _ _ _ _ _ h

/-- The scoped buffers this region does not touch. -/
def r0idle (c : Dev nD) : sProp (MT nD τ sig Unit (Elt F) ℕ (UR sig nD τ) ℕ) := iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg4_0), ((c : Thread nD τ).loc cc1_stg4_0) ↦{fullShare} f) ∗ (∃ f : Buf (Elt F) ((c : Thread nD τ).loc cc1_stg4_1), ((c : Thread nD τ).loc cc1_stg4_1) ↦{fullShare} f) ∗ (∃ f : Buf (Elt F) ((c : Thread nD τ).loc cc1_stg5_0), ((c : Thread nD τ).loc cc1_stg5_0) ↦{fullShare} f) ∗ (∃ f : Buf (Elt F) ((c : Thread nD τ).loc cc1_stg5_1), ((c : Thread nD τ).loc cc1_stg5_1) ↦{fullShare} f) ∗ (∃ f : Buf (Elt F) ((c : Thread nD τ).loc cc1_stg6_0), ((c : Thread nD τ).loc cc1_stg6_0) ↦{fullShare} f) ∗ (∃ f : Buf (Elt F) ((c : Thread nD τ).loc cc1_stg6_1), ((c : Thread nD τ).loc cc1_stg6_1) ↦{fullShare} f) ∗ (∃ f : Buf (Elt F) ((c : Thread nD τ).loc cc1_stg7_0), ((c : Thread nD τ).loc cc1_stg7_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f))

theorem r0scoped (c : Dev nD) : (Pipeline.scopedRest (Ix := Unit) (Name := ℕ) (U := UR sig nD τ) (Lvl := ℕ) (Val := Elt F) spec0 c : sProp (MT nD τ sig Unit (Elt F) ℕ (UR sig nD τ) ℕ))
    = iprop((∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ r0idle c) :=
  Pipeline.scopedRest_eq_of_list spec0 c [cc0_scratch0, cc0_scratch1, cc0_scratch2, cc1_stg0_0, cc1_stg0_1, cc1_stg1_0, cc1_stg1_1, cc1_stg2_0, cc1_stg2_1, cc1_stg3_0, cc1_stg4_0, cc1_stg4_1, cc1_stg5_0, cc1_stg5_1, cc1_stg6_0, cc1_stg6_1, cc1_stg7_0, cc1_scratch0, cc1_scratch1, cc1_scratch2, cc1_scratch3, cc1_scratch4] (by decide) (by decide)

/-- Between two points: the carried state, the scratch at something. -/
def r0Phi (c : Dev nD) (t : Fin (cfg0.N + 1)) : sProp (MT nD τ sig Unit (Elt F) ℕ (UR sig nD τ) ℕ) :=
  iprop((∃ f : BufTy.Contents (Elt F) (Memref.whole cc0_scratch0).view.ty, ⌜t.val ≠ 0 → f = r0state V c t.val⌝ ∗ (((c : Thread nD τ).loc cc0_scratch0) ↦{fullShare} f)) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f) ∗ r0idle c)

/-- The proof data. -/
def r0dat (c : Dev nD) : Dat τ (Elt F) Unit ℕ (UR sig nD τ) ℕ cfg0 c where
  A w := V c (Pipeline.arrRef spec0 w)
  after w t := match w with
    | ⟨0, _⟩ => r0X0 V c t
    | ⟨1, _⟩ => r0X1 V c t
    | ⟨2, _⟩ => r0X2 V c t
    | ⟨3, _⟩ => r0X3 V c t
    | ⟨4, _⟩ => ((cfg0.win 4).stage (cfg0.slots t 4)).view.read (Elt F) (r0out V c t).1
    | ⟨5, _⟩ => ((cfg0.win 5).stage (cfg0.slots t 5)).view.read (Elt F) (r0out V c t).2.1
  Φ t := r0Phi V c t
  q w := Pipeline.shareOf spec0 w
  owed _ := 0

theorem r0before0 (c : Dev nD) (t : Fin cfg0.N) (d) : (r0dat V c).before 0 t d = r0X0 V c t :=
  r0before0_of V (r0dat V c) (by dsimp only [r0dat]) (fun t => by dsimp only [r0dat]) t d

theorem r0before1 (c : Dev nD) (t : Fin cfg0.N) (d) : (r0dat V c).before 1 t d = r0X1 V c t :=
  r0before1_of V (r0dat V c) (by dsimp only [r0dat]) (fun t => by dsimp only [r0dat]) t d

theorem r0before2 (c : Dev nD) (t : Fin cfg0.N) (d) : (r0dat V c).before 2 t d = r0X2 V c t :=
  r0before2_of V (r0dat V c) (by dsimp only [r0dat]) (fun t => by dsimp only [r0dat]) t d

theorem r0before3 (c : Dev nD) (t : Fin cfg0.N) (d) : (r0dat V c).before 3 t d = r0X3 V c t :=
  r0before3_of V (r0dat V c) (by dsimp only [r0dat]) (fun t => by dsimp only [r0dat]) t d

set_option maxHeartbeats 8000000 in
/-- The body at point `t`, whatever the results' buffers and the scratch held. -/
theorem r0run (c : Dev nD) (t : Fin cfg0.N) (f4 : BufTy.Contents (Elt F) ((cfg0.win 4).stage (cfg0.slots t 4)).view.ty) (f5 : BufTy.Contents (Elt F) ((cfg0.win 5).stage (cfg0.slots t 5)).view.ty) (s0 : BufTy.Contents (Elt F) (Memref.whole cc0_scratch0).view.ty) (s1 : BufTy.Contents (Elt F) (Memref.whole cc0_scratch1).view.ty) (s2 : BufTy.Contents (Elt F) (Memref.whole cc0_scratch2).view.ty) :
    (iprop(((((cfg0.win 0).stage (cfg0.slots t 0)).view.loc (c : Thread nD τ) ↦[((cfg0.win 0).stage (cfg0.slots t 0)).view.set]{fullShare} ((hstage0_0 ((cfg0.slots t 0).cast nbuf0_0)).unread (r0X0 V c t))) ∗ (((cfg0.win 1).stage (cfg0.slots t 1)).view.loc (c : Thread nD τ) ↦[((cfg0.win 1).stage (cfg0.slots t 1)).view.set]{fullShare} ((hstage0_1 ((cfg0.slots t 1).cast nbuf0_1)).unread (r0X1 V c t))) ∗ (((cfg0.win 2).stage (cfg0.slots t 2)).view.loc (c : Thread nD τ) ↦[((cfg0.win 2).stage (cfg0.slots t 2)).view.set]{fullShare} ((hstage0_2 ((cfg0.slots t 2).cast nbuf0_2)).unread (r0X2 V c t))) ∗ (((cfg0.win 3).stage (cfg0.slots t 3)).view.loc (c : Thread nD τ) ↦[((cfg0.win 3).stage (cfg0.slots t 3)).view.set]{fullShare} ((hstage0_3 ((cfg0.slots t 3).cast nbuf0_3)).unread (r0X3 V c t))))
      ∗ ((((cfg0.win 4).stage (cfg0.slots t 4)).view.loc (c : Thread nD τ) ↦[((cfg0.win 4).stage (cfg0.slots t 4)).view.set]{fullShare} f4) ∗ (((cfg0.win 5).stage (cfg0.slots t 5)).view.loc (c : Thread nD τ) ↦[((cfg0.win 5).stage (cfg0.slots t 5)).view.set]{fullShare} f5) ∗ (((c : Thread nD τ).loc cc0_scratch0) ↦{fullShare} s0))
      ∗ ((((c : Thread nD τ).loc cc0_scratch1) ↦{fullShare} s1) ∗ (((c : Thread nD τ).loc cc0_scratch2) ↦{fullShare} s2))) : sProp (MT nD τ sig Unit (Elt F) ℕ (UR sig nD τ) ℕ))
    ⊢ wp frame (wpE (defs₀ (F := F)) Variants.none (c : Thread nD τ) none) Set.univ (bodyAt0 (F := F) t)
      (fun _ => (iprop(((((cfg0.win 0).stage (cfg0.slots t 0)).view.loc (c : Thread nD τ) ↦[((cfg0.win 0).stage (cfg0.slots t 0)).view.set]{fullShare} ((hstage0_0 ((cfg0.slots t 0).cast nbuf0_0)).unread (r0X0 V c t))) ∗ (((cfg0.win 1).stage (cfg0.slots t 1)).view.loc (c : Thread nD τ) ↦[((cfg0.win 1).stage (cfg0.slots t 1)).view.set]{fullShare} ((hstage0_1 ((cfg0.slots t 1).cast nbuf0_1)).unread (r0X1 V c t))) ∗ (((cfg0.win 2).stage (cfg0.slots t 2)).view.loc (c : Thread nD τ) ↦[((cfg0.win 2).stage (cfg0.slots t 2)).view.set]{fullShare} ((hstage0_2 ((cfg0.slots t 2).cast nbuf0_2)).unread (r0X2 V c t))) ∗ (((cfg0.win 3).stage (cfg0.slots t 3)).view.loc (c : Thread nD τ) ↦[((cfg0.win 3).stage (cfg0.slots t 3)).view.set]{fullShare} ((hstage0_3 ((cfg0.slots t 3).cast nbuf0_3)).unread (r0X3 V c t))))
      ∗ ((((cfg0.win 4).stage (cfg0.slots t 4)).view.loc (c : Thread nD τ) ↦[((cfg0.win 4).stage (cfg0.slots t 4)).view.set]{fullShare} (r0res V c t f4 f5 s0).1) ∗ (((cfg0.win 5).stage (cfg0.slots t 5)).view.loc (c : Thread nD τ) ↦[((cfg0.win 5).stage (cfg0.slots t 5)).view.set]{fullShare} (r0res V c t f4 f5 s0).2.1) ∗ (((c : Thread nD τ).loc cc0_scratch0) ↦{fullShare} (r0res V c t f4 f5 s0).2.2))
      ∗ ((∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))) : sProp (MT nD τ sig Unit (Elt F) ℕ (UR sig nD τ) ℕ))) := by
  unfold r0res
  by_cases hi : ((cfg0.grid.coords t) 1).val = 0
  · simp only [dif_pos hi]
    have h := (r0first (F := F) c (cfg0.grid.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (r0X0 V c t)) ((hstage0_1 ((cfg0.slots t 1).cast nbuf0_1)).unread (r0X1 V c t)) ((hstage0_2 ((cfg0.slots t 2).cast nbuf0_2)).unread (r0X2 V c t)) ((hstage0_3 ((cfg0.slots t 3).cast nbuf0_3)).unread (r0X3 V c t)) hi).2.2.2 f4 f5 s0 s1 s2
    simp only [Memref.view_whole, View.set_whole] at h
    exact h
  · simp only [dif_neg hi]
    have h := (r0later (F := F) c (cfg0.grid.coords t) ((cfg0.win 0).stage (cfg0.slots t 0)) (hstage0_0 ((cfg0.slots t 0).cast nbuf0_0)) ((cfg0.win 1).stage (cfg0.slots t 1)) (hstage0_1 ((cfg0.slots t 1).cast nbuf0_1)) ((cfg0.win 2).stage (cfg0.slots t 2)) (hstage0_2 ((cfg0.slots t 2).cast nbuf0_2)) ((cfg0.win 3).stage (cfg0.slots t 3)) (hstage0_3 ((cfg0.slots t 3).cast nbuf0_3)) ((cfg0.win 4).stage (cfg0.slots t 4)) (hstage0_4 ((cfg0.slots t 4).cast nbuf0_4)) ((cfg0.win 5).stage (cfg0.slots t 5)) (hstage0_5 ((cfg0.slots t 5).cast nbuf0_5)) (Memref.whole cc0_scratch0) (Memref.isWhole_whole _) (Memref.whole cc0_scratch1) (Memref.isWhole_whole _) (Memref.whole cc0_scratch2) (Memref.isWhole_whole _) ((hstage0_0 ((cfg0.slots t 0).cast nbuf0_0)).unread (r0X0 V c t)) ((hstage0_1 ((cfg0.slots t 1).cast nbuf0_1)).unread (r0X1 V c t)) ((hstage0_2 ((cfg0.slots t 2).cast nbuf0_2)).unread (r0X2 V c t)) ((hstage0_3 ((cfg0.slots t 3).cast nbuf0_3)).unread (r0X3 V c t)) hi).2.2.2 f4 f5 s0 s1 s2
    simp only [Memref.view_whole, View.set_whole] at h
    exact h

set_option maxHeartbeats 8000000 in
/-- THE BODY OBLIGATION. -/
theorem r0obligation (c : Dev nD) : BodyObligation (r0dat V c) (defs₀ (F := F)) Variants.none () Set.univ := by
  unfold BodyObligation
  intro t
  rw [bigSep_W0, bigSep_W0]
  simp only [owns]
  rw [show (r0dat V c).Φ t.castSucc = r0Phi V c t.castSucc from rfl, show (r0dat V c).Φ t.succ = r0Phi V c t.succ from rfl]
  unfold r0Phi Dat.owesAt Pipeline.owesWithin
  rw [show (r0dat V c).owed t.castSucc = 0 from rfl, show (r0dat V c).owed t.succ = 0 from rfl]
  iintro ⟨⟨⟨%s0, %hs0, Hs0⟩, ⟨%s1, Hs1⟩, ⟨%s2, Hs2⟩, Hidle⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩⟩
  rw [r0before0] at h0
  obtain rfl := (hstage0_0 ((cfg0.slots t 0).cast nbuf0_0)).eq_unread h0
  rw [r0before1] at h1
  obtain rfl := (hstage0_1 ((cfg0.slots t 1).cast nbuf0_1)).eq_unread h1
  rw [r0before2] at h2
  obtain rfl := (hstage0_2 ((cfg0.slots t 2).cast nbuf0_2)).eq_unread h2
  rw [r0before3] at h3
  obtain rfl := (hstage0_3 ((cfg0.slots t 3).cast nbuf0_3)).eq_unread h3
  have he := r0res_eq V c t f4 f5 s0 hs0
  have hsucc := r0state_succ V c t
  iapply (wp_wand_r Idealize.ShloMosaic.frame (wpE (defs₀ (F := F)) Variants.none (c : Thread nD τ) none) Set.univ)
  isplitl [H0 H1 H2 H3 H4 H5 Hs0 Hs1 Hs2]
  · iapply (r0run V c t f4 f5 s0 s1 s2)
    isplitl [H0 H1 H2 H3]
    · isplitl [H0]; · iexact H0
      isplitl [H1]; · iexact H1
      isplitl [H2]; · iexact H2
      iexact H3
    isplitl [H4 H5 Hs0]
    · isplitl [H4]; · iexact H4
      isplitl [H5]; · iexact H5
      iexact Hs0
    isplitl [Hs1]; · iexact Hs1
    iexact Hs2
  · rw [he]
    iintro %_ ⟨⟨H0, H1, H2, H3⟩, ⟨H4, H5, Hs0⟩, ⟨%u1, Hs1⟩, ⟨%u2, Hs2⟩⟩
    isplitl [Hs0 Hs1 Hs2 Hidle]
    · isplitl [Hs0]
      · iexists _; isplitr; swap; (· iexact Hs0)
        ipureintro; intro _
        rw [show (t.succ : Fin (cfg0.N + 1)).val = t.val + 1 from rfl, hsucc]
      isplitl [Hs1]; · iexists _; iexact Hs1
      isplitl [Hs2]; · iexists _; iexact Hs2
      iexact Hidle
    isplitl [HO]
    · iexists W; isplitr; · ipureintro; exact fun _ _ => Or.inl trivial
      iexact HO
    isplitl [H0]
    · iexists _; isplitr; swap; (· iexact H0)
      ipureintro; dsimp only [r0dat]; exact (hstage0_0 ((cfg0.slots t 0).cast nbuf0_0)).read_unread _
    isplitl [H1]
    · iexists _; isplitr; swap; (· iexact H1)
      ipureintro; dsimp only [r0dat]; exact (hstage0_1 ((cfg0.slots t 1).cast nbuf0_1)).read_unread _
    isplitl [H2]
    · iexists _; isplitr; swap; (· iexact H2)
      ipureintro; dsimp only [r0dat]; exact (hstage0_2 ((cfg0.slots t 2).cast nbuf0_2)).read_unread _
    isplitl [H3]
    · iexists _; isplitr; swap; (· iexact H3)
      ipureintro; dsimp only [r0dat]; exact (hstage0_3 ((cfg0.slots t 3).cast nbuf0_3)).read_unread _
    isplitl [H4]
    · iexists _; isplitr; swap; (· iexact H4)
      ipureintro; dsimp only [r0dat]
    iexists _; isplitr; swap; (· iexact H5)
    ipureintro; dsimp only [r0dat]

end Cert.KernelIdeal.Hgrn

end
-- ==== Proof.BwdTrip.lean ====
module

public import proofs.«01_k».proof.Proof.Gen.KernelIdeal
public import proofs.«01_k».proof.Proof.Gen.KernelIdeal.Skeleton
public import proofs.«01_k».proof.Proof.Gen.KernelIdeal.Points
public import Idealize.ShloMosaic.Adequacy
public import Idealize.ShloMosaic.Init
public import Idealize.ShloMosaic.Lib.Tactic

@[expose] public section

set_option maxRecDepth 16384
set_option maxHeartbeats 4000000

noncomputable section

/-! # One chunk of the backward recurrence -/

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (c : Dev nD) (i : grid1.Coords)
  (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2x1024 .f32) (harg5 : arg5.IsWhole) (arg6 : Memref sig .tc .vmem S512x1024 .bf16) (harg6 : arg6.IsWhole) (arg7 : Memref sig .tc .vmem S8x8x128x128 .f32) (harg7 : arg7.IsWhole) (arg8 : Memref sig .tc .vmem S512x3072 .bf16) (harg8 : arg8.IsWhole) (arg9 : Memref sig .tc .vmem S1x1024 .f32) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S8x64x64 .f32) (harg12 : arg12.IsWhole) (arg13 : Memref sig .tc .vmem S64x1024 .f32) (harg13 : arg13.IsWhole) (arg14 : Memref sig .tc .vmem S64x1024 .f32) (harg14 : arg14.IsWhole)
  (v3 v4 : Vec F S1x1024 .f32) (v11 v12 : IVec S64x64 32) (v23 : IVec S64x1024 32)
  (x2 : BufTy.Contents (Elt F) arg2.view.ty) (x3 : BufTy.Contents (Elt F) arg3.view.ty) (x4 : BufTy.Contents (Elt F) arg4.view.ty) (x6 : BufTy.Contents (Elt F) arg6.view.ty) (x7 : BufTy.Contents (Elt F) arg7.view.ty)

/-- What a chunk only reads. -/
abbrev r1Reads : sProp (MT nD τ sig Unit (Elt F) ℕ (UR sig nD τ) ℕ) :=
  iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg6.view.loc (c : Thread nD τ) ↦[arg6.view.set]{fullShare} x6) ∗ (arg7.view.loc (c : Thread nD τ) ↦[arg7.view.set]{fullShare} x7))

/-- The scratch buffers that every chunk writes before it uses them. -/
abbrev r1Dirty (f11 : BufTy.Contents (Elt F) arg11.view.ty) (f12 : BufTy.Contents (Elt F) arg12.view.ty) (f13 : BufTy.Contents (Elt F) arg13.view.ty) (f14 : BufTy.Contents (Elt F) arg14.view.ty) : sProp (MT nD τ sig Unit (Elt F) ℕ (UR sig nD τ) ℕ) :=
  iprop((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))

/-- The buffers a chunk leaves results in. -/
abbrev r1Kept (f8 : BufTy.Contents (Elt F) arg8.view.ty) (f10 : BufTy.Contents (Elt F) arg10.view.ty) : sProp (MT nD τ sig Unit (Elt F) ℕ (UR sig nD τ) ℕ) :=
  iprop((arg8.view.loc (c : Thread nD τ) ↦[arg8.view.set]{fullShare} f8) ∗ (arg10.view.loc (c : Thread nD τ) ↦[arg10.view.set]{fullShare} f10))

/-- ONE CHUNK: what it yields and the pieces it writes, as functions of what it yields into and of the state it finds; the
    scratch it uses on the way ends holding something. -/
@[irreducible] def r1chunk (k : Fin k1_t1_loop.trips) :
    Σ' (R : FVec F S1x1024 .f32 → BufTy.Contents (Elt F) arg10.view.ty → FVec F S1x1024 .f32) (L8 : BufTy.Contents (Elt F) arg10.view.ty → List (View.Piece (Elt F) S512x3072 .bf16)),
      { L10 : BufTy.Contents (Elt F) arg10.view.ty → List (View.Piece (Elt F) S8x128x128 .f32) //
        ∀ (acc : FVec F S1x1024 .f32) (f8 : BufTy.Contents (Elt F) arg8.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty),
          iprop(r1Reads (F := F) c arg2 arg3 arg4 arg6 arg7 x2 x3 x4 x6 x7 ∗ r1Kept (F := F) c arg8 arg10 f8 f10 ∗ r1Dirty (F := F) c arg11 arg12 arg13 arg14 f11 f12 f13 f14)
          ⊢ wp frame (wpE (defs₀ (F := F)) Variants.none (c : Thread nD τ) none) Set.univ
              (k1_t1_body (F := F) i arg2 harg2 arg3 harg3 arg4 harg4 arg5 harg5 arg6 harg6 arg7 harg7 arg8 harg8 arg9 harg9 arg10 harg10 arg11 harg11 arg12 harg12 arg13 harg13 arg14 harg14 v3 v4 v11 v12 v23 k acc)
              (fun r => iprop(⌜r = R acc f10⌝ ∗ r1Reads (F := F) c arg2 arg3 arg4 arg6 arg7 x2 x3 x4 x6 x7
                ∗ r1Kept (F := F) c arg8 arg10 (arg8.view.writes (Elt F) f8 (L8 f10)) (arg10.view.writes (Elt F) f10 (L10 f10))
                ∗ ∃ g11 g12 g13 g14, r1Dirty (F := F) c arg11 arg12 arg13 arg14 g11 g12 g13 g14)) } := by
  have hk : k.val < 8 := Nat.lt_of_lt_of_le k.isLt k1_t1_abs.2.1
  refine ⟨?_, ?_, ?_, fun acc f8 f10 f11 f12 f13 f14 => ?run⟩
  case run =>
    unfold k1_t1_body
    iintro ⟨⟨HR2, HR3, HR4, HR6, HR7⟩, ⟨HW8, HW10⟩, ⟨HD11, HD12, HD13, HD14⟩⟩
    sl_exec
    sl_step
    sl_close

/-- What the chunks before `k` leave: the value carried, the result buffers and the state. -/
def r1st (init : FVec F S1x1024 .f32) (G8 : BufTy.Contents (Elt F) arg8.view.ty) (G10 : BufTy.Contents (Elt F) arg10.view.ty) : ℕ → FVec F S1x1024 .f32 × BufTy.Contents (Elt F) arg8.view.ty × BufTy.Contents (Elt F) arg10.view.ty
  | 0 => (init, G8, G10)
  | k + 1 =>
    let s := r1st init G8 G10 k
    if h : k < k1_t1_loop.trips then
      ((r1chunk (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 ⟨k, h⟩).1 s.1 s.2.2,
        arg8.view.writes (Elt F) s.2.1 ((r1chunk (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 ⟨k, h⟩).2.1 s.2.2),
        arg10.view.writes (Elt F) s.2.2 ((r1chunk (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 ⟨k, h⟩).2.2.1 s.2.2))
    else s

theorem r1st_succ (init : FVec F S1x1024 .f32) (G8 : BufTy.Contents (Elt F) arg8.view.ty) (G10 : BufTy.Contents (Elt F) arg10.view.ty) (k : Fin k1_t1_loop.trips) :
    (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 (k.val + 1)) =
      (let s := (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k.val)
      ((r1chunk (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 k).1 s.1 s.2.2,
        arg8.view.writes (Elt F) s.2.1 ((r1chunk (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 k).2.1 s.2.2),
        arg10.view.writes (Elt F) s.2.2 ((r1chunk (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 k).2.2.1 s.2.2))) := by
  rw [r1st]; exact dif_pos k.isLt

/-- The contents the loop is entered with at 0, and what the chunks left after. -/
abbrev r1sel {α : Type} (k : ℕ) (G s : α) : α := match k with | 0 => G | _ + 1 => s

theorem r1sel_eq (init : FVec F S1x1024 .f32) (G8 : BufTy.Contents (Elt F) arg8.view.ty) (G10 : BufTy.Contents (Elt F) arg10.view.ty) (k : ℕ) :
    r1sel k G8 ((r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k).2.1) = (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k).2.1 ∧ r1sel k G10 ((r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k).2.2) = (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k).2.2 := by
  cases k <;> exact ⟨rfl, rfl⟩

/-- THE LOOP by its invariant: before chunk `k` the result buffers and the state are what the chunks before it left. -/
@[sl_loop] def loopInv_k1_t1 (init : FVec F S1x1024 .f32) (G8 : BufTy.Contents (Elt F) arg8.view.ty) (G10 : BufTy.Contents (Elt F) arg10.view.ty) :
    Idealize.ShloMosaic.LoopInv (M := MT nD τ sig Unit (Elt F) ℕ (UR sig nD τ) ℕ) Idealize.ShloMosaic.frame
      (wpE (defs₀ (F := F)) Variants.none (c : Thread nD τ) none) Set.univ k1_t1_loop.lb k1_t1_loop.ub k1_t1_loop.st k1_t1_ok init
      (k1_t1_body (F := F) i arg2 harg2 arg3 harg3 arg4 harg4 arg5 harg5 arg6 harg6 arg7 harg7 arg8 harg8 arg9 harg9 arg10 harg10 arg11 harg11 arg12 harg12 arg13 harg13 arg14 harg14 v3 v4 v11 v12 v23) where
  inv k acc := iprop((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg6.view.loc (c : Thread nD τ) ↦[arg6.view.set]{fullShare} x6) ∗ (arg7.view.loc (c : Thread nD τ) ↦[arg7.view.set]{fullShare} x7) ∗ (∃ f8, (arg8.view.loc (c : Thread nD τ) ↦[arg8.view.set]{fullShare} f8) ∗ ⌜f8 = r1sel k G8 ((r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k).2.1)⌝) ∗ (∃ f10, (arg10.view.loc (c : Thread nD τ) ↦[arg10.view.set]{fullShare} f10) ∗ ⌜f10 = r1sel k G10 ((r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k).2.2)⌝)
      ∗ (∃ f11, (arg11.view.loc (c : Thread nD τ) ↦[arg11.view.set]{fullShare} f11)) ∗ (∃ f12, (arg12.view.loc (c : Thread nD τ) ↦[arg12.view.set]{fullShare} f12)) ∗ (∃ f13, (arg13.view.loc (c : Thread nD τ) ↦[arg13.view.set]{fullShare} f13)) ∗ (∃ f14, (arg14.view.loc (c : Thread nD τ) ↦[arg14.view.set]{fullShare} f14)) ∗ ⌜acc = (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k).1⌝)
  step k acc := by
    iintro ⟨HR2, HR3, HR4, HR6, HR7, ⟨%f8, HW8, %h8⟩, ⟨%f10, HW10, %h10⟩, ⟨%f11, HD11⟩, ⟨%f12, HD12⟩, ⟨%f13, HD13⟩, ⟨%f14, HD14⟩, %hacc⟩
    iapply (wp_wand_r Idealize.ShloMosaic.frame (wpE (defs₀ (F := F)) Variants.none (c : Thread nD τ) none) Set.univ)
    isplitl [HR2 HR3 HR4 HR6 HR7 HW8 HW10 HD11 HD12 HD13 HD14]
    · iapply ((r1chunk (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 k).2.2.2 acc f8 f10 f11 f12 f13 f14)
      isplitl [HR2 HR3 HR4 HR6 HR7]
      · isplitl [HR2]; · iexact HR2
        isplitl [HR3]; · iexact HR3
        isplitl [HR4]; · iexact HR4
        isplitl [HR6]; · iexact HR6
        iexact HR7
      isplitl [HW8 HW10]
      · isplitl [HW8]; · iexact HW8
        iexact HW10
      isplitl [HD11]; · iexact HD11
      isplitl [HD12]; · iexact HD12
      isplitl [HD13]; · iexact HD13
      iexact HD14
    · iintro %yld ⟨%hres, ⟨HR2, HR3, HR4, HR6, HR7⟩, ⟨HW8, HW10⟩, ⟨%g11, ⟨%g12, ⟨%g13, ⟨%g14, ⟨HD11, HD12, HD13, HD14⟩⟩⟩⟩⟩⟩
      isplitl [HR2]; · iexact HR2
      isplitl [HR3]; · iexact HR3
      isplitl [HR4]; · iexact HR4
      isplitl [HR6]; · iexact HR6
      isplitl [HR7]; · iexact HR7
      rw [(r1sel_eq (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k.val).1] at h8
      rw [(r1sel_eq (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k.val).2] at h10
      simp only [r1st_succ]
      isplitl [HW8]
      · iexists _; isplitl [HW8]; · iexact HW8
        ipureintro; rw [h8, h10]
      isplitl [HW10]
      · iexists _; isplitl [HW10]; · iexact HW10
        ipureintro; rw [h10]
      isplitl [HD11]; · iexists _; iexact HD11
      isplitl [HD12]; · iexists _; iexact HD12
      isplitl [HD13]; · iexists _; iexact HD13
      isplitl [HD14]; · iexists _; iexact HD14
      ipureintro; rw [hres, hacc, h10]

end

end Cert.KernelIdeal.Hgrn

end
-- ==== Proof.BwdBody.lean ====
module

public import proofs.«01_k».proof.Proof.BwdTrip

@[expose] public section

set_option maxRecDepth 16384
set_option maxHeartbeats 4000000

noncomputable section

/-! # The backward body at a grid point -/

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

section
variable (c : Dev nD) (i : grid1.Coords)
  (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2x1024 .f32) (harg5 : arg5.IsWhole) (arg6 : Memref sig .tc .vmem S512x1024 .bf16) (harg6 : arg6.IsWhole) (arg7 : Memref sig .tc .vmem S8x8x128x128 .f32) (harg7 : arg7.IsWhole) (arg8 : Memref sig .tc .vmem S512x3072 .bf16) (harg8 : arg8.IsWhole) (arg9 : Memref sig .tc .vmem S1x1024 .f32) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S8x64x64 .f32) (harg12 : arg12.IsWhole) (arg13 : Memref sig .tc .vmem S64x1024 .f32) (harg13 : arg13.IsWhole) (arg14 : Memref sig .tc .vmem S64x1024 .f32) (harg14 : arg14.IsWhole)
  (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty)

/-- The body at the first point: what it leaves in its results and in the carried state. -/
@[irreducible] def r1first (hi : (i 1).val = 0) :
    Σ' (F8 : BufTy.Contents (Elt F) arg8.view.ty → BufTy.Contents (Elt F) arg9.view.ty → BufTy.Contents (Elt F) arg10.view.ty → BufTy.Contents (Elt F) arg8.view.ty) (F9 : BufTy.Contents (Elt F) arg8.view.ty → BufTy.Contents (Elt F) arg9.view.ty → BufTy.Contents (Elt F) arg10.view.ty → BufTy.Contents (Elt F) arg9.view.ty),
      { F10 : BufTy.Contents (Elt F) arg8.view.ty → BufTy.Contents (Elt F) arg9.view.ty → BufTy.Contents (Elt F) arg10.view.ty → BufTy.Contents (Elt F) arg10.view.ty //
        ∀ (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty),
          (iprop(((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7)) ∗ ((arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) ∗ ((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))) : sProp (MT nD τ sig Unit (Elt F) ℕ (UR sig nD τ) ℕ))
          ⊢ wp frame (wpE (defs₀ (F := F)) Variants.none (c : Thread nD τ) none) Set.univ
              (cc1_hgrn_bwd (F := F) i arg2 harg2 arg3 harg3 arg4 harg4 arg5 harg5 arg6 harg6 arg7 harg7 arg8 harg8 arg9 harg9 arg10 harg10 arg11 harg11 arg12 harg12 arg13 harg13 arg14 harg14)
              (fun _ => (iprop(((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7)) ∗ ((arg8.view.loc (c : Thread nD τ) ↦[arg8.view.set]{fullShare} (F8 f8 f9 f10)) ∗ (arg9.view.loc (c : Thread nD τ) ↦[arg9.view.set]{fullShare} (F9 f8 f9 f10)) ∗ (arg10.view.loc (c : Thread nD τ) ↦[arg10.view.set]{fullShare} (F10 f8 f9 f10)))
                ∗ ((∃ g11, (arg11.view.loc (c : Thread nD τ) ↦[arg11.view.set]{fullShare} g11)) ∗ (∃ g12, (arg12.view.loc (c : Thread nD τ) ↦[arg12.view.set]{fullShare} g12)) ∗ (∃ g13, (arg13.view.loc (c : Thread nD τ) ↦[arg13.view.set]{fullShare} g13)) ∗ (∃ g14, (arg14.view.loc (c : Thread nD τ) ↦[arg14.view.set]{fullShare} g14)))) : sProp (MT nD τ sig Unit (Elt F) ℕ (UR sig nD τ) ℕ))) } := by
  refine ⟨?_, ?_, ?_, fun f8 f9 f10 f11 f12 f13 f14 => ?run⟩
  case run =>
    have hc : Scalar.cmpi .ne (Scalar.extui (Scalar.cmpi .eq (BitVec.ofNat 32 (i 1).val) 0#32 : BitVec 1) : BitVec 32) 0#32 = 1#1 := by rw [hi]; rfl
    rw [cc1_hgrn_bwd_eq_skeleton]; unfold cc1_hgrn_bwd_skel
    iintro ⟨⟨HR2, HR3, HR4, HR5, HR6, HR7⟩, ⟨HW8, HW9, HW10⟩, ⟨HD11, HD12, HD13, HD14⟩⟩
    sl_exec
    sl_step
    sl_close

/-- The body at a later point: what it leaves in its results and in the carried state. -/
@[irreducible] def r1later (hi : (i 1).val ≠ 0) :
    Σ' (F8 : BufTy.Contents (Elt F) arg8.view.ty → BufTy.Contents (Elt F) arg9.view.ty → BufTy.Contents (Elt F) arg10.view.ty → BufTy.Contents (Elt F) arg8.view.ty) (F9 : BufTy.Contents (Elt F) arg8.view.ty → BufTy.Contents (Elt F) arg9.view.ty → BufTy.Contents (Elt F) arg10.view.ty → BufTy.Contents (Elt F) arg9.view.ty),
      { F10 : BufTy.Contents (Elt F) arg8.view.ty → BufTy.Contents (Elt F) arg9.view.ty → BufTy.Contents (Elt F) arg10.view.ty → BufTy.Contents (Elt F) arg10.view.ty //
        ∀ (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (f13 : BufTy.Contents (Elt F) arg13.view.ty) (f14 : BufTy.Contents (Elt F) arg14.view.ty),
          (iprop(((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7)) ∗ ((arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10)) ∗ ((arg11.view.loc (c : Thread nD τ) ↦[arg11.view.set]{fullShare} f11) ∗ (arg12.view.loc (c : Thread nD τ) ↦[arg12.view.set]{fullShare} f12) ∗ (arg13.view.loc (c : Thread nD τ) ↦[arg13.view.set]{fullShare} f13) ∗ (arg14.view.loc (c : Thread nD τ) ↦[arg14.view.set]{fullShare} f14))) : sProp (MT nD τ sig Unit (Elt F) ℕ (UR sig nD τ) ℕ))
          ⊢ wp frame (wpE (defs₀ (F := F)) Variants.none (c : Thread nD τ) none) Set.univ
              (cc1_hgrn_bwd (F := F) i arg2 harg2 arg3 harg3 arg4 harg4 arg5 harg5 arg6 harg6 arg7 harg7 arg8 harg8 arg9 harg9 arg10 harg10 arg11 harg11 arg12 harg12 arg13 harg13 arg14 harg14)
              (fun _ => (iprop(((arg2.view.loc (c : Thread nD τ) ↦[arg2.view.set]{fullShare} x2) ∗ (arg3.view.loc (c : Thread nD τ) ↦[arg3.view.set]{fullShare} x3) ∗ (arg4.view.loc (c : Thread nD τ) ↦[arg4.view.set]{fullShare} x4) ∗ (arg5.view.loc (c : Thread nD τ) ↦[arg5.view.set]{fullShare} x5) ∗ (arg6.view.loc (c : Thread nD τ) ↦[arg6.view.set]{fullShare} x6) ∗ (arg7.view.loc (c : Thread nD τ) ↦[arg7.view.set]{fullShare} x7)) ∗ ((arg8.view.loc (c : Thread nD τ) ↦[arg8.view.set]{fullShare} (F8 f8 f9 f10)) ∗ (arg9.view.loc (c : Thread nD τ) ↦[arg9.view.set]{fullShare} (F9 f8 f9 f10)) ∗ (arg10.view.loc (c : Thread nD τ) ↦[arg10.view.set]{fullShare} (F10 f8 f9 f10)))
                ∗ ((∃ g11, (arg11.view.loc (c : Thread nD τ) ↦[arg11.view.set]{fullShare} g11)) ∗ (∃ g12, (arg12.view.loc (c : Thread nD τ) ↦[arg12.view.set]{fullShare} g12)) ∗ (∃ g13, (arg13.view.loc (c : Thread nD τ) ↦[arg13.view.set]{fullShare} g13)) ∗ (∃ g14, (arg14.view.loc (c : Thread nD τ) ↦[arg14.view.set]{fullShare} g14)))) : sProp (MT nD τ sig Unit (Elt F) ℕ (UR sig nD τ) ℕ))) } := by
  refine ⟨?_, ?_, ?_, fun f8 f9 f10 f11 f12 f13 f14 => ?run⟩
  case run =>
    have hc : ¬ (Scalar.cmpi .ne (Scalar.extui (Scalar.cmpi .eq (BitVec.ofNat 32 (i 1).val) 0#32 : BitVec 1) : BitVec 32) 0#32 = 1#1) := by
      have := (i 1).isLt
      revert hi this
      generalize (i 1).val = n
      intro hi hn
      have hn : n < 16 := hn
      interval_cases n <;> first | exact absurd rfl hi | decide
    rw [cc1_hgrn_bwd_eq_skeleton]; unfold cc1_hgrn_bwd_skel
    iintro ⟨⟨HR2, HR3, HR4, HR5, HR6, HR7⟩, ⟨HW8, HW9, HW10⟩, ⟨HD11, HD12, HD13, HD14⟩⟩
    sl_exec
    sl_step
    sl_close

end

end Cert.KernelIdeal.Hgrn

end
-- ==== Proof.BwdCover.lean ====
module

public import proofs.«01_k».proof.Proof.BwdBody
public import proofs.«01_k».proof.Proof.FwdCover

@[expose] public section

set_option maxRecDepth 16384
set_option maxHeartbeats 4000000

noncomputable section

/-! # The backward results do not depend on what their buffers held -/

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]
theorem k1_off10_eq (k : Fin k1_t1_loop.trips) : k1_off10 k = ![64 * (7 - k.val), 0] := by revert k; decide
theorem k1_off11_eq (k : Fin k1_t1_loop.trips) : k1_off11 k = ![64 * (7 - k.val), 1024] := by revert k; decide
theorem k1_off12_eq (k : Fin k1_t1_loop.trips) : k1_off12 k = ![64 * (7 - k.val), 2048] := by revert k; decide

section
variable (c : Dev nD) (i : grid1.Coords)
  (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2x1024 .f32) (harg5 : arg5.IsWhole) (arg6 : Memref sig .tc .vmem S512x1024 .bf16) (harg6 : arg6.IsWhole) (arg7 : Memref sig .tc .vmem S8x8x128x128 .f32) (harg7 : arg7.IsWhole) (arg8 : Memref sig .tc .vmem S512x3072 .bf16) (harg8 : arg8.IsWhole) (arg9 : Memref sig .tc .vmem S1x1024 .f32) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S8x64x64 .f32) (harg12 : arg12.IsWhole) (arg13 : Memref sig .tc .vmem S64x1024 .f32) (harg13 : arg13.IsWhole) (arg14 : Memref sig .tc .vmem S64x1024 .f32) (harg14 : arg14.IsWhole)
  (v3 v4 : Vec F S1x1024 .f32) (v11 v12 : IVec S64x64 32) (v23 : IVec S64x1024 32)
  (x2 : BufTy.Contents (Elt F) arg2.view.ty) (x3 : BufTy.Contents (Elt F) arg3.view.ty) (x4 : BufTy.Contents (Elt F) arg4.view.ty) (x6 : BufTy.Contents (Elt F) arg6.view.ty) (x7 : BufTy.Contents (Elt F) arg7.view.ty)

/-- Chunk `k` of the reversed order writes the rows of chunk `7 - k` of the output. -/
theorem r1chunk_mem8 (k : Fin k1_t1_loop.trips) (f10 : BufTy.Contents (Elt F) arg10.view.ty) (y : S512x3072.Idx) (h : 64 * (7 - k.val) ≤ (y 0).val) (h' : (y 0).val < 64 * (7 - k.val) + 64) :
    ∃ p ∈ (r1chunk (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 k).2.1 f10, y ∈ p.1.set := by
  unfold r1chunk
  dsimp only
  have h1 : (y 1).val < 3072 := (y 1).isLt
  have key : ∀ (off : Fin 2 → ℕ) (inb) (w) (n : ℕ), off = ![64 * (7 - k.val), n] → n ≤ (y 1).val → (y 1).val < n + 1024 →
      y ∈ (⟨Rect.unit (s := S512x3072) off S64x1024.size inb, w⟩ : View.Piece (Elt F) S512x3072 .bf16).1.set := by
    intro off inb w n ho hn hn'
    show y ∈ (Rect.unit (s := S512x3072) off S64x1024.size inb).set
    rw [Rect.mem_set_unit]
    subst ho
    intro a
    match a with
    | 0 => exact ⟨h, h'⟩
    | 1 => exact ⟨hn, hn'⟩
  by_cases ha : (y 1).val < 1024
  · exact ⟨_, List.mem_cons_of_mem _ (List.mem_cons_of_mem _ List.mem_cons_self), key _ _ _ 0 (k1_off10_eq k) (Nat.zero_le _) (by omega)⟩
  by_cases hb : (y 1).val < 2048
  · exact ⟨_, List.mem_cons_of_mem _ List.mem_cons_self, key _ _ _ 1024 (k1_off11_eq k) (by omega) (by omega)⟩
  · exact ⟨_, List.mem_cons_self, key _ _ _ 2048 (k1_off12_eq k) (by omega) (by omega)⟩

theorem r1st_cover_upto (init : FVec F S1x1024 .f32) (G8 G8' : BufTy.Contents (Elt F) arg8.view.ty) (G10 : BufTy.Contents (Elt F) arg10.view.ty) (j : ℕ) (hj : j ≤ k1_t1_loop.trips) :
    (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 j).1 = (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8' G10 j).1 ∧ (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 j).2.2 = (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8' G10 j).2.2
      ∧ (∀ y : S512x3072.Idx, 512 ≤ (y 0).val + 64 * j → arg8.view.read (Elt F) (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 j).2.1 y = arg8.view.read (Elt F) (r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8' G10 j).2.1 y) := by
  have ht : k1_t1_loop.trips = 8 := by decide
  induction j with
  | zero => exact ⟨rfl, rfl, fun y hy => absurd (y 0).isLt (by show ¬ ((y 0).val < 512); omega)⟩
  | succ j ih =>
    obtain ⟨hr, h10, h8⟩ := ih (by omega)
    have e1 := r1st_succ (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 ⟨j, by omega⟩
    have e2 := r1st_succ (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8' G10 ⟨j, by omega⟩
    dsimp only at e1 e2
    rw [e1, e2]
    dsimp only
    rw [← hr, ← h10]
    refine ⟨rfl, rfl, fun y hy => ?_⟩
    refine read_writes_agree _ _ _ _ y ?_
    by_cases hk : (y 0).val < 64 * (7 - j) + 64
    · exact Or.inl (r1chunk_mem8 (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 ⟨j, by omega⟩ _ y (by show 64 * (7 - j) ≤ _; omega) hk)
    · exact Or.inr (h8 y (by omega))

/-- THE LOOP'S RESULTS are functions of what it starts from and the state. -/
theorem r1st_cover (init : FVec F S1x1024 .f32) (G8 G8' : BufTy.Contents (Elt F) arg8.view.ty) (G10 : BufTy.Contents (Elt F) arg10.view.ty) :
    r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G10 k1_t1_loop.trips = r1st (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8' G10 k1_t1_loop.trips := by
  obtain ⟨hr, h10, h8⟩ := r1st_cover_upto (F := F) c i arg2 harg2 arg3 harg3 arg4 harg4 arg5 harg5 arg6 harg6 arg7 harg7 arg8 harg8 arg9 harg9 arg10 harg10 arg11 harg11 arg12 harg12 arg13 harg13 arg14 harg14 v3 v4 v11 v12 v23 x2 x3 x4 x6 x7 init G8 G8' G10 k1_t1_loop.trips le_rfl
  have ht : k1_t1_loop.trips = 8 := by decide
  exact Prod.ext hr (Prod.ext (eq_of_read harg8 fun y => h8 y (by omega)) h10)
end

section
variable (c : Dev nD) (i : grid1.Coords)
  (arg2 : Memref sig .tc .vmem S512x1024 .bf16) (harg2 : arg2.IsWhole) (arg3 : Memref sig .tc .vmem S512x1024 .bf16) (harg3 : arg3.IsWhole) (arg4 : Memref sig .tc .vmem S512x1024 .bf16) (harg4 : arg4.IsWhole) (arg5 : Memref sig .tc .vmem S2x1024 .f32) (harg5 : arg5.IsWhole) (arg6 : Memref sig .tc .vmem S512x1024 .bf16) (harg6 : arg6.IsWhole) (arg7 : Memref sig .tc .vmem S8x8x128x128 .f32) (harg7 : arg7.IsWhole) (arg8 : Memref sig .tc .vmem S512x3072 .bf16) (harg8 : arg8.IsWhole) (arg9 : Memref sig .tc .vmem S1x1024 .f32) (harg9 : arg9.IsWhole) (arg10 : Memref sig .tc .vmem S8x128x128 .f32) (harg10 : arg10.IsWhole) (arg11 : Memref sig .tc .vmem S64x1024 .f32) (harg11 : arg11.IsWhole) (arg12 : Memref sig .tc .vmem S8x64x64 .f32) (harg12 : arg12.IsWhole) (arg13 : Memref sig .tc .vmem S64x1024 .f32) (harg13 : arg13.IsWhole) (arg14 : Memref sig .tc .vmem S64x1024 .f32) (harg14 : arg14.IsWhole)
  (x2 : BufTy.Contents (Elt F) arg2.view.ty) (x3 : BufTy.Contents (Elt F) arg3.view.ty) (x4 : BufTy.Contents (Elt F) arg4.view.ty) (x5 : BufTy.Contents (Elt F) arg5.view.ty) (x6 : BufTy.Contents (Elt F) arg6.view.ty) (x7 : BufTy.Contents (Elt F) arg7.view.ty)

/-- At the first point the results are functions of the inputs. -/
theorem r1first_cover (hi : (i 1).val = 0) (f8 f8' : BufTy.Contents (Elt F) arg8.view.ty) (f9 f9' : BufTy.Contents (Elt F) arg9.view.ty) (f10 f10' : BufTy.Contents (Elt F) arg10.view.ty) :
    (r1first (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).1 f8 f9 f10 = (r1first (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).1 f8' f9' f10'
    ∧ (r1first (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).2.1 f8 f9 f10 = (r1first (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).2.1 f8' f9' f10'
    ∧ (r1first (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).2.2.1 f8 f9 f10 = (r1first (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).2.2.1 f8' f9' f10' := by
  unfold r1first
  dsimp only
  refine ⟨congrArg (·.2.1) (r1st_cover (F := F) c i arg2 harg2 arg3 harg3 arg4 harg4 arg5 harg5 arg6 harg6 arg7 harg7 arg8 harg8 arg9 harg9 arg10 harg10 arg11 harg11 arg12 harg12 arg13 harg13 arg14 harg14 _ _ _ _ _ x2 x3 x4 x6 x7 _ f8 f8' _), ?_, congrArg (·.2.2) (r1st_cover (F := F) c i arg2 harg2 arg3 harg3 arg4 harg4 arg5 harg5 arg6 harg6 arg7 harg7 arg8 harg8 arg9 harg9 arg10 harg10 arg11 harg11 arg12 harg12 arg13 harg13 arg14 harg14 _ _ _ _ _ x2 x3 x4 x6 x7 _ f8 f8' _)⟩
  have e := congrArg (·.1) (r1st_cover (F := F) c i arg2 harg2 arg3 harg3 arg4 harg4 arg5 harg5 arg6 harg6 arg7 harg7 arg8 harg8 arg9 harg9 arg10 harg10 arg11 harg11 arg12 harg12 arg13 harg13 arg14 harg14
    (View.readAt (Elt F) arg5.view (Rect.unit (s := S2x1024) ![1, 0] ![1, 1024] inb_S2x1024_S1x1024_1_0).toLoadRect x5)
    (View.readAt (Elt F) arg5.view (Rect.unit (s := S2x1024) ![0, 0] ![1, 1024] inb_S2x1024_S1x1024_0_0).toLoadRect x5)
    r1first.sl.v11 r1first.sl.v12 r1first.sl.v23 x2 x3 x4 x6 x7 k1_pay176 f8 f8' (arg10.view.writes (Elt F) arg10.view.junk r1first.sl.HW10_1))
  rw [show k1_t1_loop.trips = Scf.trips 0#32 (Scalar.addi 0#32 8#32) 1#32 from rfl] at e
  rw [e]
  refine eq_of_read harg9 fun y => View.read_writes_apply_eq _ _ _ _ y _ ⟨_, List.mem_cons_self, ?_⟩
  show y ∈ (Rect.unit (s := S1x1024) ![0, 0] ![1, 1024] inb_S1x1024_S1x1024_0_0).set
  rw [Rect.mem_set_unit]
  have h0 : (y 0).val < 1 := (y 0).isLt
  have h1 : (y 1).val < 1024 := (y 1).isLt
  intro a
  match a with
  | 0 => exact ⟨Nat.zero_le _, by simpa using h0⟩
  | 1 => exact ⟨Nat.zero_le _, by simpa using h1⟩

/-- At a later point the results are functions of the inputs, the sum so far and the state. -/
theorem r1later_cover (hi : (i 1).val ≠ 0) (f8 f8' : BufTy.Contents (Elt F) arg8.view.ty) (f9 : BufTy.Contents (Elt F) arg9.view.ty) (f10 : BufTy.Contents (Elt F) arg10.view.ty) :
    (r1later (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).1 f8 f9 f10 = (r1later (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).1 f8' f9 f10
    ∧ (r1later (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).2.1 f8 f9 f10 = (r1later (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).2.1 f8' f9 f10
    ∧ (r1later (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).2.2.1 f8 f9 f10 = (r1later (F := F) c i arg2 harg2 arg3 harg3 arg4 harg4 arg5 harg5 arg6 harg6 arg7 harg7 arg8 harg8 arg9 harg9 arg10 harg10 arg11 harg11 arg12 harg12 arg13 harg13 arg14 harg14 x2 x3 x4 x5 x6 x7 hi).2.2.1 f8' f9 f10 := by
  unfold r1later
  dsimp only
  refine ⟨congrArg (·.2.1) (r1st_cover (F := F) c i arg2 harg2 arg3 harg3 arg4 harg4 arg5 harg5 arg6 harg6 arg7 harg7 arg8 harg8 arg9 harg9 arg10 harg10 arg11 harg11 arg12 harg12 arg13 harg13 arg14 harg14 _ _ _ _ _ x2 x3 x4 x6 x7 _ f8 f8' _), ?_, congrArg (·.2.2) (r1st_cover (F := F) c i arg2 harg2 arg3 harg3 arg4 harg4 arg5 harg5 arg6 harg6 arg7 harg7 arg8 harg8 arg9 harg9 arg10 harg10 arg11 harg11 arg12 harg12 arg13 harg13 arg14 harg14 _ _ _ _ _ x2 x3 x4 x6 x7 _ f8 f8' _)⟩
  have e := congrArg (·.1) (r1st_cover (F := F) c i arg2 harg2 arg3 harg3 arg4 harg4 arg5 harg5 arg6 harg6 arg7 harg7 arg8 harg8 arg9 harg9 arg10 harg10 arg11 harg11 arg12 harg12 arg13 harg13 arg14 harg14
    (View.readAt (Elt F) arg5.view (Rect.unit (s := S2x1024) ![1, 0] ![1, 1024] inb_S2x1024_S1x1024_1_0).toLoadRect x5)
    (View.readAt (Elt F) arg5.view (Rect.unit (s := S2x1024) ![0, 0] ![1, 1024] inb_S2x1024_S1x1024_0_0).toLoadRect x5)
    r1later.sl.v11 r1later.sl.v12 r1later.sl.v23 x2 x3 x4 x6 x7 k1_pay176 f8 f8' f10)
  rw [show k1_t1_loop.trips = Scf.trips 0#32 (Scalar.addi 0#32 8#32) 1#32 from rfl] at e
  rw [e]
end

end Cert.KernelIdeal.Hgrn

end
-- ==== Proof.BwdDat.lean ====
module

public import proofs.«01_k».proof.Proof.BwdCover
public import proofs.«01_k».proof.Proof.Gen.KernelIdeal.Launch
public import Idealize.ShloMosaic.Lib.Pipeline.FrameBody
public import Idealize.ShloMosaic.Lib.Pipeline.Regions

@[expose] public section

set_option maxRecDepth 16384
set_option maxHeartbeats 4000000

noncomputable section

/-! # The backward region: its proof data and its body obligation -/

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Pipeline (Dat Cfg Window BodyObligation)

variable (V : (c : Dev nD) → (b : Ref sig .tc) → Buf (Elt F) ((c : Thread nD τ).loc b))

/-- Window `w`'s block at point `t`, read off its array as the region finds it. -/
def r1iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- No part of this block is cut at the array's end. -/
theorem r1xsize0 : ∀ t : Fin cfg1.N, ∀ a, (cfg1.win 0).xsize (cfg1.grid.coords t) a = (cfg1.win 0).size a := by decide +kernel
theorem r1moved0 (t : Fin cfg1.N) (j : (cfg1.win 0).block.Idx) : (cfg1.win 0).moved (cfg1.grid.coords t) j = true :=
  ((cfg1.win 0).moved_iff _ j).mpr fun a => by rw [r1xsize0 t a]; exact (j a).isLt
/-- What input window 0 holds when the body runs. -/
def r1X0 (c : Dev nD) (t : Fin cfg1.N) : (cfg1.win 0).block.Idx → Elt F (cfg1.win 0).elt :=
  (cfg1.win 0).fill (cfg1.grid.coords t) (fun _ => Classical.choice inferInstance) (r1iblk V c 0 t)
theorem r1fill0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (r1moved0 t j), dif_pos (r1moved0 t j)]
theorem r1before0_of {c : Dev nD} (dat : Dat τ (Elt F) Unit ℕ (UR sig nD τ) ℕ cfg1 c) (hA : dat.A 0 = V c (Pipeline.arrRef spec1 0))
    (hafter : ∀ t, dat.after 0 t = r1X0 V c t) (t : Fin cfg1.N) (d) : dat.before 0 t d = r1X0 V c t :=
  (dat.before_in_eq_fetched 0 rfl (fun _ => rfl)
      (fun t t' h => funext fun a => congrArg (fun n => Pipeline.Clip.of n ((cfg1.win 0).size a) (S8192x6656.size a)) (congrFun h a))
      (fun t => by rw [hafter]; unfold r1X0; rw [Pipeline.Window.cut_fill]; unfold Dat.blockOf r1iblk; rw [hA]; try rfl) t d).trans
    (by unfold Dat.fetched r1X0; rw [r1fill0 t d (fun _ => Classical.choice inferInstance)]; unfold Dat.blockOf r1iblk; rw [hA]; try rfl)

/-- No part of this block is cut at the array's end. -/
theorem r1xsize1 : ∀ t : Fin cfg1.N, ∀ a, (cfg1.win 1).xsize (cfg1.grid.coords t) a = (cfg1.win 1).size a := by decide +kernel
theorem r1moved1 (t : Fin cfg1.N) (j : (cfg1.win 1).block.Idx) : (cfg1.win 1).moved (cfg1.grid.coords t) j = true :=
  ((cfg1.win 1).moved_iff _ j).mpr fun a => by rw [r1xsize1 t a]; exact (j a).isLt
/-- What input window 1 holds when the body runs. -/
def r1X1 (c : Dev nD) (t : Fin cfg1.N) : (cfg1.win 1).block.Idx → Elt F (cfg1.win 1).elt :=
  (cfg1.win 1).fill (cfg1.grid.coords t) (fun _ => Classical.choice inferInstance) (r1iblk V c 1 t)
theorem r1fill1 (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (r1moved1 t j), dif_pos (r1moved1 t j)]
theorem r1before1_of {c : Dev nD} (dat : Dat τ (Elt F) Unit ℕ (UR sig nD τ) ℕ cfg1 c) (hA : dat.A 1 = V c (Pipeline.arrRef spec1 1))
    (hafter : ∀ t, dat.after 1 t = r1X1 V c t) (t : Fin cfg1.N) (d) : dat.before 1 t d = r1X1 V c t :=
  (dat.before_in_eq_fetched 1 rfl (fun _ => rfl)
      (fun t t' h => funext fun a => congrArg (fun n => Pipeline.Clip.of n ((cfg1.win 1).size a) (S8192x6656.size a)) (congrFun h a))
      (fun t => by rw [hafter]; unfold r1X1; rw [Pipeline.Window.cut_fill]; unfold Dat.blockOf r1iblk; rw [hA]; try rfl) t d).trans
    (by unfold Dat.fetched r1X1; rw [r1fill1 t d (fun _ => Classical.choice inferInstance)]; unfold Dat.blockOf r1iblk; rw [hA]; try rfl)

/-- No part of this block is cut at the array's end. -/
theorem r1xsize2 : ∀ t : Fin cfg1.N, ∀ a, (cfg1.win 2).xsize (cfg1.grid.coords t) a = (cfg1.win 2).size a := by decide +kernel
theorem r1moved2 (t : Fin cfg1.N) (j : (cfg1.win 2).block.Idx) : (cfg1.win 2).moved (cfg1.grid.coords t) j = true :=
  ((cfg1.win 2).moved_iff _ j).mpr fun a => by rw [r1xsize2 t a]; exact (j a).isLt
/-- What input window 2 holds when the body runs. -/
def r1X2 (c : Dev nD) (t : Fin cfg1.N) : (cfg1.win 2).block.Idx → Elt F (cfg1.win 2).elt :=
  (cfg1.win 2).fill (cfg1.grid.coords t) (fun _ => Classical.choice inferInstance) (r1iblk V c 2 t)
theorem r1fill2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (r1moved2 t j), dif_pos (r1moved2 t j)]
theorem r1before2_of {c : Dev nD} (dat : Dat τ (Elt F) Unit ℕ (UR sig nD τ) ℕ cfg1 c) (hA : dat.A 2 = V c (Pipeline.arrRef spec1 2))
    (hafter : ∀ t, dat.after 2 t = r1X2 V c t) (t : Fin cfg1.N) (d) : dat.before 2 t d = r1X2 V c t :=
  (dat.before_in_eq_fetched 2 rfl (fun _ => rfl)
      (fun t t' h => funext fun a => congrArg (fun n => Pipeline.Clip.of n ((cfg1.win 2).size a) (S8192x6656.size a)) (congrFun h a))
      (fun t => by rw [hafter]; unfold r1X2; rw [Pipeline.Window.cut_fill]; unfold Dat.blockOf r1iblk; rw [hA]; try rfl) t d).trans
    (by unfold Dat.fetched r1X2; rw [r1fill2 t d (fun _ => Classical.choice inferInstance)]; unfold Dat.blockOf r1iblk; rw [hA]; try rfl)

/-- What input window 3 holds when the body runs. -/
abbrev r1X3 (c : Dev nD) (t : Fin cfg1.N) : (cfg1.win 3).block.Idx → Elt F (cfg1.win 3).elt := r1iblk V c 3 t
theorem r1before3_of {c : Dev nD} (dat : Dat τ (Elt F) Unit ℕ (UR sig nD τ) ℕ cfg1 c) (hA : dat.A 3 = V c (Pipeline.arrRef spec1 3))
    (hafter : ∀ t, dat.after 3 t = r1X3 V c t) (t : Fin cfg1.N) (d) : dat.before 3 t d = r1X3 V c t :=
  (dat.before_in_eq_fetched 3 rfl (fun _ => rfl) (fun _ _ _ => rfl) (fun t => by rw [hafter]; unfold Dat.blockOf r1X3 r1iblk; rw [hA]; try rfl) t d).trans
    (by unfold Dat.fetched Dat.blockOf r1X3 r1iblk; rw [hA]; try rfl)

/-- What input window 4 holds when the body runs. -/
abbrev r1X4 (c : Dev nD) (t : Fin cfg1.N) : (cfg1.win 4).block.Idx → Elt F (cfg1.win 4).elt := r1iblk V c 4 t
theorem r1before4_of {c : Dev nD} (dat : Dat τ (Elt F) Unit ℕ (UR sig nD τ) ℕ cfg1 c) (hA : dat.A 4 = V c (Pipeline.arrRef spec1 4))
    (hafter : ∀ t, dat.after 4 t = r1X4 V c t) (t : Fin cfg1.N) (d) : dat.before 4 t d = r1X4 V c t :=
  (dat.before_in_eq_fetched 4 rfl (fun _ => rfl) (fun _ _ _ => rfl) (fun t => by rw [hafter]; unfold Dat.blockOf r1X4 r1iblk; rw [hA]; try rfl) t d).trans
    (by unfold Dat.fetched Dat.blockOf r1X4 r1iblk; rw [hA]; try rfl)

/-- What input window 5 holds when the body runs. -/
abbrev r1X5 (c : Dev nD) (t : Fin cfg1.N) : (cfg1.win 5).block.Idx → Elt F (cfg1.win 5).elt := r1iblk V c 5 t
theorem r1before5_of {c : Dev nD} (dat : Dat τ (Elt F) Unit ℕ (UR sig nD τ) ℕ cfg1 c) (hA : dat.A 5 = V c (Pipeline.arrRef spec1 5))
    (hafter : ∀ t, dat.after 5 t = r1X5 V c t) (t : Fin cfg1.N) (d) : dat.before 5 t d = r1X5 V c t :=
  (dat.before_in_eq_fetched 5 rfl (fun _ => rfl) (fun _ _ _ => rfl) (fun t => by rw [hafter]; unfold Dat.blockOf r1X5 r1iblk; rw [hA]; try rfl) t d).trans
    (by unfold Dat.fetched Dat.blockOf r1X5 r1iblk; rw [hA]; try rfl)

/-- The second grid coordinate is the point. -/
theorem r1coord : ∀ t : Fin cfg1.N, ((cfg1.grid.coords t) 1).val = t.val := by decide +kernel

/-- What the body leaves at point `t`, as a function of what it found in the results and in the state. -/
def r1res (c : Dev nD) (t : Fin cfg1.N) (f6 : BufTy.Contents (Elt F) ((cfg1.win 6).stage (cfg1.slots t 6)).view.ty) (f7 : BufTy.Contents (Elt F) ((cfg1.win 7).stage (cfg1.slots t 7)).view.ty) (s : BufTy.Contents (Elt F) (Memref.whole cc1_scratch0).view.ty) :
    BufTy.Contents (Elt F) ((cfg1.win 6).stage (cfg1.slots t 6)).view.ty × BufTy.Contents (Elt F) ((cfg1.win 7).stage (cfg1.slots t 7)).view.ty × BufTy.Contents (Elt F) (Memref.whole cc1_scratch0).view.ty :=
  if hi : ((cfg1.grid.coords t) 1).val = 0 then
    let R := r1first (F := F) c (cfg1.grid.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) ((cfg1.win 4).stage (cfg1.slots t 4)) (hstage1_4 ((cfg1.slots t 4).cast nbuf1_4)) ((cfg1.win 5).stage (cfg1.slots t 5)) (hstage1_5 ((cfg1.slots t 5).cast nbuf1_5)) ((cfg1.win 6).stage (cfg1.slots t 6)) (hstage1_6 ((cfg1.slots t 6).cast nbuf1_6)) ((cfg1.win 7).stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) ((hstage1_0 ((cfg1.slots t 0).cast nbuf1_0)).unread (r1X0 V c t)) ((hstage1_1 ((cfg1.slots t 1).cast nbuf1_1)).unread (r1X1 V c t)) ((hstage1_2 ((cfg1.slots t 2).cast nbuf1_2)).unread (r1X2 V c t)) ((hstage1_3 ((cfg1.slots t 3).cast nbuf1_3)).unread (r1X3 V c t)) ((hstage1_4 ((cfg1.slots t 4).cast nbuf1_4)).unread (r1X4 V c t)) ((hstage1_5 ((cfg1.slots t 5).cast nbuf1_5)).unread (r1X5 V c t)) hi
    (R.1 f6 f7 s, R.2.1 f6 f7 s, R.2.2.1 f6 f7 s)
  else
    let R := r1later (F := F) c (cfg1.grid.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) ((cfg1.win 4).stage (cfg1.slots t 4)) (hstage1_4 ((cfg1.slots t 4).cast nbuf1_4)) ((cfg1.win 5).stage (cfg1.slots t 5)) (hstage1_5 ((cfg1.slots t 5).cast nbuf1_5)) ((cfg1.win 6).stage (cfg1.slots t 6)) (hstage1_6 ((cfg1.slots t 6).cast nbuf1_6)) ((cfg1.win 7).stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) ((hstage1_0 ((cfg1.slots t 0).cast nbuf1_0)).unread (r1X0 V c t)) ((hstage1_1 ((cfg1.slots t 1).cast nbuf1_1)).unread (r1X1 V c t)) ((hstage1_2 ((cfg1.slots t 2).cast nbuf1_2)).unread (r1X2 V c t)) ((hstage1_3 ((cfg1.slots t 3).cast nbuf1_3)).unread (r1X3 V c t)) ((hstage1_4 ((cfg1.slots t 4).cast nbuf1_4)).unread (r1X4 V c t)) ((hstage1_5 ((cfg1.slots t 5).cast nbuf1_5)).unread (r1X5 V c t)) hi
    (R.1 f6 f7 s, R.2.1 f6 f7 s, R.2.2.1 f6 f7 s)

theorem r1res_cover (c : Dev nD) (t : Fin cfg1.N) (f6 f6' : BufTy.Contents (Elt F) ((cfg1.win 6).stage (cfg1.slots t 6)).view.ty) (f7 f7' : BufTy.Contents (Elt F) ((cfg1.win 7).stage (cfg1.slots t 7)).view.ty) (s s' : BufTy.Contents (Elt F) (Memref.whole cc1_scratch0).view.ty) (h7 : t.val ≠ 0 → f7 = f7') (h : t.val ≠ 0 → s = s') :
    r1res V c t f6 f7 s = r1res V c t f6' f7' s' := by
  unfold r1res
  by_cases hi : ((cfg1.grid.coords t) 1).val = 0
  · rw [dif_pos hi, dif_pos hi]
    obtain ⟨h1, h2, h3⟩ := r1first_cover (F := F) c (cfg1.grid.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) ((cfg1.win 4).stage (cfg1.slots t 4)) (hstage1_4 ((cfg1.slots t 4).cast nbuf1_4)) ((cfg1.win 5).stage (cfg1.slots t 5)) (hstage1_5 ((cfg1.slots t 5).cast nbuf1_5)) ((cfg1.win 6).stage (cfg1.slots t 6)) (hstage1_6 ((cfg1.slots t 6).cast nbuf1_6)) ((cfg1.win 7).stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) ((hstage1_0 ((cfg1.slots t 0).cast nbuf1_0)).unread (r1X0 V c t)) ((hstage1_1 ((cfg1.slots t 1).cast nbuf1_1)).unread (r1X1 V c t)) ((hstage1_2 ((cfg1.slots t 2).cast nbuf1_2)).unread (r1X2 V c t)) ((hstage1_3 ((cfg1.slots t 3).cast nbuf1_3)).unread (r1X3 V c t)) ((hstage1_4 ((cfg1.slots t 4).cast nbuf1_4)).unread (r1X4 V c t)) ((hstage1_5 ((cfg1.slots t 5).cast nbuf1_5)).unread (r1X5 V c t)) hi f6 f6' f7 f7' s s'
    exact Prod.ext h1 (Prod.ext h2 h3)
  · rw [dif_neg hi, dif_neg hi]
    obtain rfl := h (by rw [← r1coord t]; exact hi)
    obtain rfl := h7 (by rw [← r1coord t]; exact hi)
    obtain ⟨h1, h2, h3⟩ := r1later_cover (F := F) c (cfg1.grid.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) ((cfg1.win 4).stage (cfg1.slots t 4)) (hstage1_4 ((cfg1.slots t 4).cast nbuf1_4)) ((cfg1.win 5).stage (cfg1.slots t 5)) (hstage1_5 ((cfg1.slots t 5).cast nbuf1_5)) ((cfg1.win 6).stage (cfg1.slots t 6)) (hstage1_6 ((cfg1.slots t 6).cast nbuf1_6)) ((cfg1.win 7).stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) ((hstage1_0 ((cfg1.slots t 0).cast nbuf1_0)).unread (r1X0 V c t)) ((hstage1_1 ((cfg1.slots t 1).cast nbuf1_1)).unread (r1X1 V c t)) ((hstage1_2 ((cfg1.slots t 2).cast nbuf1_2)).unread (r1X2 V c t)) ((hstage1_3 ((cfg1.slots t 3).cast nbuf1_3)).unread (r1X3 V c t)) ((hstage1_4 ((cfg1.slots t 4).cast nbuf1_4)).unread (r1X4 V c t)) ((hstage1_5 ((cfg1.slots t 5).cast nbuf1_5)).unread (r1X5 V c t)) hi f6 f6' f7 s
    exact Prod.ext h1 (Prod.ext h2 h3)

/-- The sum and the state after the first `n` points. -/
def r1state (c : Dev nD) : ℕ → ((cfg1.win 7).block.Idx → Elt F (cfg1.win 7).elt) × BufTy.Contents (Elt F) (Memref.whole cc1_scratch0).view.ty
  | 0 => (fun _ => Classical.choice inferInstance, fun _ => Classical.choice inferInstance)
  | n + 1 =>
    if h : n < cfg1.N then
      let t : Fin cfg1.N := ⟨n, h⟩
      let R := r1res V c t (fun _ => Classical.choice inferInstance) ((hstage1_7 ((cfg1.slots t 7).cast nbuf1_7)).unread (r1state c n).1) (r1state c n).2
      (((cfg1.win 7).stage (cfg1.slots t 7)).view.read (Elt F) R.2.1, R.2.2)
    else r1state c n

/-- What the body leaves at point `t`. -/
abbrev r1out (c : Dev nD) (t : Fin cfg1.N) := r1res V c t (fun _ => Classical.choice inferInstance) ((hstage1_7 ((cfg1.slots t 7).cast nbuf1_7)).unread (r1state V c t.val).1) (r1state V c t.val).2

theorem r1state_succ (c : Dev nD) (t : Fin cfg1.N) : r1state V c (t.val + 1) = (((cfg1.win 7).stage (cfg1.slots t 7)).view.read (Elt F) (r1out V c t).2.1, (r1out V c t).2.2) := by
  rw [r1state]; exact dif_pos t.isLt

/-- Whatever the results' buffers held, the body leaves the point's results. -/
theorem r1res_eq (c : Dev nD) (t : Fin cfg1.N) (f6 : BufTy.Contents (Elt F) ((cfg1.win 6).stage (cfg1.slots t 6)).view.ty) (f7 : BufTy.Contents (Elt F) ((cfg1.win 7).stage (cfg1.slots t 7)).view.ty) (s : BufTy.Contents (Elt F) (Memref.whole cc1_scratch0).view.ty) (h7 : t.val ≠ 0 → f7 = (hstage1_7 ((cfg1.slots t 7).cast nbuf1_7)).unread (r1state V c t.val).1) (h : t.val ≠ 0 → s = (r1state V c t.val).2) :
    r1res V c t f6 f7 s = r1out V c t := r1res_cover V c t _ _ _ _ _ _ h7 h

/-- The scoped buffers this region does not touch. -/
def r1idle (c : Dev nD) : sProp (MT nD τ sig Unit (Elt F) ℕ (UR sig nD τ) ℕ) := iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_stg5_0), ((c : Thread nD τ).loc cc0_stg5_0) ↦{fullShare} f) ∗ (∃ f : Buf (Elt F) ((c : Thread nD τ).loc cc0_stg5_1), ((c : Thread nD τ).loc cc0_stg5_1) ↦{fullShare} f) ∗ (∃ f : Buf (Elt F) ((c : Thread nD τ).loc cc0_scratch0), ((c : Thread nD τ).loc cc0_scratch0) ↦{fullShare} f) ∗ (∃ f : Buf (Elt F) ((c : Thread nD τ).loc cc0_scratch1), ((c : Thread nD τ).loc cc0_scratch1) ↦{fullShare} f) ∗ (∃ f : Buf (Elt F) ((c : Thread nD τ).loc cc0_scratch2), ((c : Thread nD τ).loc cc0_scratch2) ↦{fullShare} f))

theorem r1scoped (c : Dev nD) : (Pipeline.scopedRest (Ix := Unit) (Name := ℕ) (U := UR sig nD τ) (Lvl := ℕ) (Val := Elt F) spec1 c : sProp (MT nD τ sig Unit (Elt F) ℕ (UR sig nD τ) ℕ))
    = iprop((∃ f : Buf (Elt F) ((c : Thread nD τ).loc cc1_scratch0), ((c : Thread nD τ).loc cc1_scratch0) ↦{fullShare} f) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ r1idle c) :=
  Pipeline.scopedRest_eq_of_list spec1 c [cc1_scratch0, cc1_scratch1, cc1_scratch2, cc1_scratch3, cc1_scratch4, cc0_stg0_0, cc0_stg0_1, cc0_stg1_0, cc0_stg1_1, cc0_stg2_0, cc0_stg2_1, cc0_stg3_0, cc0_stg4_0, cc0_stg4_1, cc0_stg5_0, cc0_stg5_1, cc0_scratch0, cc0_scratch1, cc0_scratch2] (by decide) (by decide)

/-- Between two points: the carried state, the scratch at something. -/
def r1Phi (c : Dev nD) (t : Fin (cfg1.N + 1)) : sProp (MT nD τ sig Unit (Elt F) ℕ (UR sig nD τ) ℕ) :=
  iprop((∃ f : BufTy.Contents (Elt F) (Memref.whole cc1_scratch0).view.ty, ⌜t.val ≠ 0 → f = (r1state V c t.val).2⌝ ∗ (((c : Thread nD τ).loc cc1_scratch0) ↦{fullShare} f)) ∗ (∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f) ∗ r1idle c)

/-- The proof data. -/
def r1dat (c : Dev nD) : Dat τ (Elt F) Unit ℕ (UR sig nD τ) ℕ cfg1 c where
  A w := V c (Pipeline.arrRef spec1 w)
  after w t := match w with
    | ⟨0, _⟩ => r1X0 V c t
    | ⟨1, _⟩ => r1X1 V c t
    | ⟨2, _⟩ => r1X2 V c t
    | ⟨3, _⟩ => r1X3 V c t
    | ⟨4, _⟩ => r1X4 V c t
    | ⟨5, _⟩ => r1X5 V c t
    | ⟨6, _⟩ => ((cfg1.win 6).stage (cfg1.slots t 6)).view.read (Elt F) (r1out V c t).1
    | ⟨7, _⟩ => (r1state V c (t.val + 1)).1
  Φ t := r1Phi V c t
  q w := Pipeline.shareOf spec1 w
  owed _ := 0

theorem r1before0 (c : Dev nD) (t : Fin cfg1.N) (d) : (r1dat V c).before 0 t d = r1X0 V c t :=
  r1before0_of V (r1dat V c) (by dsimp only [r1dat]) (fun t => by dsimp only [r1dat]) t d

theorem r1before1 (c : Dev nD) (t : Fin cfg1.N) (d) : (r1dat V c).before 1 t d = r1X1 V c t :=
  r1before1_of V (r1dat V c) (by dsimp only [r1dat]) (fun t => by dsimp only [r1dat]) t d

theorem r1before2 (c : Dev nD) (t : Fin cfg1.N) (d) : (r1dat V c).before 2 t d = r1X2 V c t :=
  r1before2_of V (r1dat V c) (by dsimp only [r1dat]) (fun t => by dsimp only [r1dat]) t d

theorem r1before3 (c : Dev nD) (t : Fin cfg1.N) (d) : (r1dat V c).before 3 t d = r1X3 V c t :=
  r1before3_of V (r1dat V c) (by dsimp only [r1dat]) (fun t => by dsimp only [r1dat]) t d

theorem r1before4 (c : Dev nD) (t : Fin cfg1.N) (d) : (r1dat V c).before 4 t d = r1X4 V c t :=
  r1before4_of V (r1dat V c) (by dsimp only [r1dat]) (fun t => by dsimp only [r1dat]) t d

theorem r1before5 (c : Dev nD) (t : Fin cfg1.N) (d) : (r1dat V c).before 5 t d = r1X5 V c t :=
  r1before5_of V (r1dat V c) (by dsimp only [r1dat]) (fun t => by dsimp only [r1dat]) t d

/-- After the first point the sum's buffer holds the sum so far. -/
theorem r1before7 (c : Dev nD) (t : Fin cfg1.N) (ht : t.val ≠ 0) (d) : (r1dat V c).before 7 t d = (r1state V c t.val).1 := by
  have hfl : (cfg1.win 7).flush ⟨t.val - 1, Nat.lt_of_le_of_lt (Nat.sub_le _ _) t.isLt⟩ = false := by
    have := flush1_7 ⟨t.val - 1, Nat.lt_of_le_of_lt (Nat.sub_le _ _) t.isLt⟩
    have hN : t.val < 16 := Nat.lt_of_lt_of_eq t.isLt N_1
    rw [← Bool.not_eq_true]
    intro h
    have := this.mp h
    dsimp only at this
    omega
  have e : t.val - 1 + 1 = t.val := by omega
  rw [(r1dat V c).before_out_kept 7 rfl t ht hfl (fun _ => rfl) (fun _ _ => rfl)]
  dsimp only [r1dat]
  rw [e]

set_option maxHeartbeats 8000000 in
/-- The body at point `t`, whatever the results' buffers and the scratch held. -/
theorem r1run (c : Dev nD) (t : Fin cfg1.N) (f6 : BufTy.Contents (Elt F) ((cfg1.win 6).stage (cfg1.slots t 6)).view.ty) (f7 : BufTy.Contents (Elt F) ((cfg1.win 7).stage (cfg1.slots t 7)).view.ty) (s0 : BufTy.Contents (Elt F) (Memref.whole cc1_scratch0).view.ty) (s1 : BufTy.Contents (Elt F) (Memref.whole cc1_scratch1).view.ty) (s2 : BufTy.Contents (Elt F) (Memref.whole cc1_scratch2).view.ty) (s3 : BufTy.Contents (Elt F) (Memref.whole cc1_scratch3).view.ty) (s4 : BufTy.Contents (Elt F) (Memref.whole cc1_scratch4).view.ty) :
    (iprop(((((cfg1.win 0).stage (cfg1.slots t 0)).view.loc (c : Thread nD τ) ↦[((cfg1.win 0).stage (cfg1.slots t 0)).view.set]{fullShare} ((hstage1_0 ((cfg1.slots t 0).cast nbuf1_0)).unread (r1X0 V c t))) ∗ (((cfg1.win 1).stage (cfg1.slots t 1)).view.loc (c : Thread nD τ) ↦[((cfg1.win 1).stage (cfg1.slots t 1)).view.set]{fullShare} ((hstage1_1 ((cfg1.slots t 1).cast nbuf1_1)).unread (r1X1 V c t))) ∗ (((cfg1.win 2).stage (cfg1.slots t 2)).view.loc (c : Thread nD τ) ↦[((cfg1.win 2).stage (cfg1.slots t 2)).view.set]{fullShare} ((hstage1_2 ((cfg1.slots t 2).cast nbuf1_2)).unread (r1X2 V c t))) ∗ (((cfg1.win 3).stage (cfg1.slots t 3)).view.loc (c : Thread nD τ) ↦[((cfg1.win 3).stage (cfg1.slots t 3)).view.set]{fullShare} ((hstage1_3 ((cfg1.slots t 3).cast nbuf1_3)).unread (r1X3 V c t))) ∗ (((cfg1.win 4).stage (cfg1.slots t 4)).view.loc (c : Thread nD τ) ↦[((cfg1.win 4).stage (cfg1.slots t 4)).view.set]{fullShare} ((hstage1_4 ((cfg1.slots t 4).cast nbuf1_4)).unread (r1X4 V c t))) ∗ (((cfg1.win 5).stage (cfg1.slots t 5)).view.loc (c : Thread nD τ) ↦[((cfg1.win 5).stage (cfg1.slots t 5)).view.set]{fullShare} ((hstage1_5 ((cfg1.slots t 5).cast nbuf1_5)).unread (r1X5 V c t))))
      ∗ ((((cfg1.win 6).stage (cfg1.slots t 6)).view.loc (c : Thread nD τ) ↦[((cfg1.win 6).stage (cfg1.slots t 6)).view.set]{fullShare} f6) ∗ (((cfg1.win 7).stage (cfg1.slots t 7)).view.loc (c : Thread nD τ) ↦[((cfg1.win 7).stage (cfg1.slots t 7)).view.set]{fullShare} f7) ∗ (((c : Thread nD τ).loc cc1_scratch0) ↦{fullShare} s0))
      ∗ ((((c : Thread nD τ).loc cc1_scratch1) ↦{fullShare} s1) ∗ (((c : Thread nD τ).loc cc1_scratch2) ↦{fullShare} s2) ∗ (((c : Thread nD τ).loc cc1_scratch3) ↦{fullShare} s3) ∗ (((c : Thread nD τ).loc cc1_scratch4) ↦{fullShare} s4))) : sProp (MT nD τ sig Unit (Elt F) ℕ (UR sig nD τ) ℕ))
    ⊢ wp frame (wpE (defs₀ (F := F)) Variants.none (c : Thread nD τ) none) Set.univ (bodyAt1 (F := F) t)
      (fun _ => (iprop(((((cfg1.win 0).stage (cfg1.slots t 0)).view.loc (c : Thread nD τ) ↦[((cfg1.win 0).stage (cfg1.slots t 0)).view.set]{fullShare} ((hstage1_0 ((cfg1.slots t 0).cast nbuf1_0)).unread (r1X0 V c t))) ∗ (((cfg1.win 1).stage (cfg1.slots t 1)).view.loc (c : Thread nD τ) ↦[((cfg1.win 1).stage (cfg1.slots t 1)).view.set]{fullShare} ((hstage1_1 ((cfg1.slots t 1).cast nbuf1_1)).unread (r1X1 V c t))) ∗ (((cfg1.win 2).stage (cfg1.slots t 2)).view.loc (c : Thread nD τ) ↦[((cfg1.win 2).stage (cfg1.slots t 2)).view.set]{fullShare} ((hstage1_2 ((cfg1.slots t 2).cast nbuf1_2)).unread (r1X2 V c t))) ∗ (((cfg1.win 3).stage (cfg1.slots t 3)).view.loc (c : Thread nD τ) ↦[((cfg1.win 3).stage (cfg1.slots t 3)).view.set]{fullShare} ((hstage1_3 ((cfg1.slots t 3).cast nbuf1_3)).unread (r1X3 V c t))) ∗ (((cfg1.win 4).stage (cfg1.slots t 4)).view.loc (c : Thread nD τ) ↦[((cfg1.win 4).stage (cfg1.slots t 4)).view.set]{fullShare} ((hstage1_4 ((cfg1.slots t 4).cast nbuf1_4)).unread (r1X4 V c t))) ∗ (((cfg1.win 5).stage (cfg1.slots t 5)).view.loc (c : Thread nD τ) ↦[((cfg1.win 5).stage (cfg1.slots t 5)).view.set]{fullShare} ((hstage1_5 ((cfg1.slots t 5).cast nbuf1_5)).unread (r1X5 V c t))))
      ∗ ((((cfg1.win 6).stage (cfg1.slots t 6)).view.loc (c : Thread nD τ) ↦[((cfg1.win 6).stage (cfg1.slots t 6)).view.set]{fullShare} (r1res V c t f6 f7 s0).1) ∗ (((cfg1.win 7).stage (cfg1.slots t 7)).view.loc (c : Thread nD τ) ↦[((cfg1.win 7).stage (cfg1.slots t 7)).view.set]{fullShare} (r1res V c t f6 f7 s0).2.1) ∗ (((c : Thread nD τ).loc cc1_scratch0) ↦{fullShare} (r1res V c t f6 f7 s0).2.2))
      ∗ ((∃ f : Buf (Elt F) ((c : Thread nD τ).loc cc1_scratch1), ((c : Thread nD τ).loc cc1_scratch1) ↦{fullShare} f) ∗ (∃ f : Buf (Elt F) ((c : Thread nD τ).loc cc1_scratch2), ((c : Thread nD τ).loc cc1_scratch2) ↦{fullShare} f) ∗ (∃ f : Buf (Elt F) ((c : Thread nD τ).loc cc1_scratch3), ((c : Thread nD τ).loc cc1_scratch3) ↦{fullShare} f) ∗ (∃ f : Buf (Elt F) ((c : Thread nD τ).loc cc1_scratch4), ((c : Thread nD τ).loc cc1_scratch4) ↦{fullShare} f))) : sProp (MT nD τ sig Unit (Elt F) ℕ (UR sig nD τ) ℕ))) := by
  unfold r1res
  by_cases hi : ((cfg1.grid.coords t) 1).val = 0
  · simp only [dif_pos hi]
    have h := (r1first (F := F) c (cfg1.grid.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) ((cfg1.win 4).stage (cfg1.slots t 4)) (hstage1_4 ((cfg1.slots t 4).cast nbuf1_4)) ((cfg1.win 5).stage (cfg1.slots t 5)) (hstage1_5 ((cfg1.slots t 5).cast nbuf1_5)) ((cfg1.win 6).stage (cfg1.slots t 6)) (hstage1_6 ((cfg1.slots t 6).cast nbuf1_6)) ((cfg1.win 7).stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) ((hstage1_0 ((cfg1.slots t 0).cast nbuf1_0)).unread (r1X0 V c t)) ((hstage1_1 ((cfg1.slots t 1).cast nbuf1_1)).unread (r1X1 V c t)) ((hstage1_2 ((cfg1.slots t 2).cast nbuf1_2)).unread (r1X2 V c t)) ((hstage1_3 ((cfg1.slots t 3).cast nbuf1_3)).unread (r1X3 V c t)) ((hstage1_4 ((cfg1.slots t 4).cast nbuf1_4)).unread (r1X4 V c t)) ((hstage1_5 ((cfg1.slots t 5).cast nbuf1_5)).unread (r1X5 V c t)) hi).2.2.2 f6 f7 s0 s1 s2 s3 s4
    simp only [Memref.view_whole, View.set_whole] at h
    exact h
  · simp only [dif_neg hi]
    have h := (r1later (F := F) c (cfg1.grid.coords t) ((cfg1.win 0).stage (cfg1.slots t 0)) (hstage1_0 ((cfg1.slots t 0).cast nbuf1_0)) ((cfg1.win 1).stage (cfg1.slots t 1)) (hstage1_1 ((cfg1.slots t 1).cast nbuf1_1)) ((cfg1.win 2).stage (cfg1.slots t 2)) (hstage1_2 ((cfg1.slots t 2).cast nbuf1_2)) ((cfg1.win 3).stage (cfg1.slots t 3)) (hstage1_3 ((cfg1.slots t 3).cast nbuf1_3)) ((cfg1.win 4).stage (cfg1.slots t 4)) (hstage1_4 ((cfg1.slots t 4).cast nbuf1_4)) ((cfg1.win 5).stage (cfg1.slots t 5)) (hstage1_5 ((cfg1.slots t 5).cast nbuf1_5)) ((cfg1.win 6).stage (cfg1.slots t 6)) (hstage1_6 ((cfg1.slots t 6).cast nbuf1_6)) ((cfg1.win 7).stage (cfg1.slots t 7)) (hstage1_7 ((cfg1.slots t 7).cast nbuf1_7)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) ((hstage1_0 ((cfg1.slots t 0).cast nbuf1_0)).unread (r1X0 V c t)) ((hstage1_1 ((cfg1.slots t 1).cast nbuf1_1)).unread (r1X1 V c t)) ((hstage1_2 ((cfg1.slots t 2).cast nbuf1_2)).unread (r1X2 V c t)) ((hstage1_3 ((cfg1.slots t 3).cast nbuf1_3)).unread (r1X3 V c t)) ((hstage1_4 ((cfg1.slots t 4).cast nbuf1_4)).unread (r1X4 V c t)) ((hstage1_5 ((cfg1.slots t 5).cast nbuf1_5)).unread (r1X5 V c t)) hi).2.2.2 f6 f7 s0 s1 s2 s3 s4
    simp only [Memref.view_whole, View.set_whole] at h
    exact h

set_option maxHeartbeats 8000000 in
/-- THE BODY OBLIGATION. -/
theorem r1obligation (c : Dev nD) : BodyObligation (r1dat V c) (defs₀ (F := F)) Variants.none () Set.univ := by
  unfold BodyObligation
  intro t
  rw [bigSep_W1, bigSep_W1]
  simp only [owns]
  rw [show (r1dat V c).Φ t.castSucc = r1Phi V c t.castSucc from rfl, show (r1dat V c).Φ t.succ = r1Phi V c t.succ from rfl]
  unfold r1Phi Dat.owesAt Pipeline.owesWithin
  rw [show (r1dat V c).owed t.castSucc = 0 from rfl, show (r1dat V c).owed t.succ = 0 from rfl]
  iintro ⟨⟨⟨%s0, %hs0, Hs0⟩, ⟨%s1, Hs1⟩, ⟨%s2, Hs2⟩, ⟨%s3, Hs3⟩, ⟨%s4, Hs4⟩, Hidle⟩, ⟨%W, %hW, HO⟩, ⟨%d0, %f0, %h0, H0⟩, ⟨%d1, %f1, %h1, H1⟩, ⟨%d2, %f2, %h2, H2⟩, ⟨%d3, %f3, %h3, H3⟩, ⟨%d4, %f4, %h4, H4⟩, ⟨%d5, %f5, %h5, H5⟩, ⟨%d6, %f6, %h6, H6⟩, ⟨%d7, %f7, %h7, H7⟩⟩
  rw [r1before0] at h0
  obtain rfl := (hstage1_0 ((cfg1.slots t 0).cast nbuf1_0)).eq_unread h0
  rw [r1before1] at h1
  obtain rfl := (hstage1_1 ((cfg1.slots t 1).cast nbuf1_1)).eq_unread h1
  rw [r1before2] at h2
  obtain rfl := (hstage1_2 ((cfg1.slots t 2).cast nbuf1_2)).eq_unread h2
  rw [r1before3] at h3
  obtain rfl := (hstage1_3 ((cfg1.slots t 3).cast nbuf1_3)).eq_unread h3
  rw [r1before4] at h4
  obtain rfl := (hstage1_4 ((cfg1.slots t 4).cast nbuf1_4)).eq_unread h4
  rw [r1before5] at h5
  obtain rfl := (hstage1_5 ((cfg1.slots t 5).cast nbuf1_5)).eq_unread h5
  have he := r1res_eq V c t f6 f7 s0 (fun ht => (hstage1_7 ((cfg1.slots t 7).cast nbuf1_7)).eq_unread (h7.trans (r1before7 V c t ht d7))) hs0
  have hsucc := r1state_succ V c t
  iapply (wp_wand_r Idealize.ShloMosaic.frame (wpE (defs₀ (F := F)) Variants.none (c : Thread nD τ) none) Set.univ)
  isplitl [H0 H1 H2 H3 H4 H5 H6 H7 Hs0 Hs1 Hs2 Hs3 Hs4]
  · iapply (r1run V c t f6 f7 s0 s1 s2 s3 s4)
    isplitl [H0 H1 H2 H3 H4 H5]
    · isplitl [H0]; · iexact H0
      isplitl [H1]; · iexact H1
      isplitl [H2]; · iexact H2
      isplitl [H3]; · iexact H3
      isplitl [H4]; · iexact H4
      iexact H5
    isplitl [H6 H7 Hs0]
    · isplitl [H6]; · iexact H6
      isplitl [H7]; · iexact H7
      iexact Hs0
    isplitl [Hs1]; · iexact Hs1
    isplitl [Hs2]; · iexact Hs2
    isplitl [Hs3]; · iexact Hs3
    iexact Hs4
  · rw [he]
    iintro %_ ⟨⟨H0, H1, H2, H3, H4, H5⟩, ⟨H6, H7, Hs0⟩, ⟨%u1, Hs1⟩, ⟨%u2, Hs2⟩, ⟨%u3, Hs3⟩, ⟨%u4, Hs4⟩⟩
    isplitl [Hs0 Hs1 Hs2 Hs3 Hs4 Hidle]
    · isplitl [Hs0]
      · iexists _; isplitr; swap; (· iexact Hs0)
        ipureintro; intro _
        rw [show (t.succ : Fin (cfg1.N + 1)).val = t.val + 1 from rfl, hsucc]
      isplitl [Hs1]; · iexists _; iexact Hs1
      isplitl [Hs2]; · iexists _; iexact Hs2
      isplitl [Hs3]; · iexists _; iexact Hs3
      isplitl [Hs4]; · iexists _; iexact Hs4
      iexact Hidle
    isplitl [HO]
    · iexists W; isplitr; · ipureintro; exact fun _ _ => Or.inl trivial
      iexact HO
    isplitl [H0]
    · iexists _; isplitr; swap; (· iexact H0)
      ipureintro; dsimp only [r1dat]; exact (hstage1_0 ((cfg1.slots t 0).cast nbuf1_0)).read_unread _
    isplitl [H1]
    · iexists _; isplitr; swap; (· iexact H1)
      ipureintro; dsimp only [r1dat]; exact (hstage1_1 ((cfg1.slots t 1).cast nbuf1_1)).read_unread _
    isplitl [H2]
    · iexists _; isplitr; swap; (· iexact H2)
      ipureintro; dsimp only [r1dat]; exact (hstage1_2 ((cfg1.slots t 2).cast nbuf1_2)).read_unread _
    isplitl [H3]
    · iexists _; isplitr; swap; (· iexact H3)
      ipureintro; dsimp only [r1dat]; exact (hstage1_3 ((cfg1.slots t 3).cast nbuf1_3)).read_unread _
    isplitl [H4]
    · iexists _; isplitr; swap; (· iexact H4)
      ipureintro; dsimp only [r1dat]; exact (hstage1_4 ((cfg1.slots t 4).cast nbuf1_4)).read_unread _
    isplitl [H5]
    · iexists _; isplitr; swap; (· iexact H5)
      ipureintro; dsimp only [r1dat]; exact (hstage1_5 ((cfg1.slots t 5).cast nbuf1_5)).read_unread _
    isplitl [H6]
    · iexists _; isplitr; swap; (· iexact H6)
      ipureintro; dsimp only [r1dat]
    iexists _; isplitr; swap; (· iexact H7)
    ipureintro; dsimp only [r1dat]; rw [hsucc]

end Cert.KernelIdeal.Hgrn

end
-- ==== Proof.HgrnRun.lean ====
module

public import proofs.«01_k».proof.Proof.FwdDat
public import proofs.«01_k».proof.Proof.BwdDat
public import proofs.«01_k».proof.Proof.Gen.KernelIdeal.Regions
public import Idealize.ShloMosaic.Lib.Pipeline.RegionsLoop

@[expose] public section

set_option maxRecDepth 16384
set_option maxHeartbeats 4000000

noncomputable section

/-! # The two regions as segments, and the run -/

namespace Cert.KernelIdeal.Hgrn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

open Idealize.ShloMosaic.Rounds
open Idealize.ShloMosaic.Pipeline (Dat Seg RegionSeg)

variable (m : (ℓ : Loc nD τ sig) → Buf (Elt F) ℓ) (ρ : Dev nD → PrngReg)

/-- The buffers as launched. -/
def VA (c : Dev nD) (b : Ref sig .tc) : Buf (Elt F) ((c : Thread nD τ).loc b) := m ((c : Thread nD τ).loc b)

/-- What the forward region leaves. -/
def W1 (c : Dev nD) : Valuation τ sig (Elt F) :=
  Function.update (Function.update (V0 m c) main_v0_0 ((r0dat (VA m) c).arrAt 4 cfg0.N)) main_v0_1 ((r0dat (VA m) c).arrAt 5 cfg0.N)

/-- The buffers as the backward region finds them. -/
def VB (c : Dev nD) (b : Ref sig .tc) : Buf (Elt F) ((c : Thread nD τ).loc b) := W1 m c b

/-- What the backward region leaves. -/
def W2 (c : Dev nD) : Valuation τ sig (Elt F) :=
  Function.update (Function.update (W1 m c) main_v1_0 ((r1dat (VB m) c).arrAt 6 cfg1.N)) main_v1_1 ((r1dat (VB m) c).arrAt 7 cfg1.N)

/-- The buffers at the end. -/
def VC (c : Dev nD) (b : Ref sig .tc) : Buf (Elt F) ((c : Thread nD τ).loc b) := W2 m c b

theorem VB_of (c : Dev nD) (b : Ref sig .tc) (h : b ∉ ([main_v0_0, main_v0_1] : List (Ref sig .tc))) : VB m c b = VA m c b := by
  unfold VB VA W1
  rw [Function.update_of_ne (StableHlo.devRef_ne_of_ne (List.ne_of_not_mem_cons (List.not_mem_of_not_mem_cons h)) : (Proc.devRef .tc b : DevRef τ sig) ≠ Proc.devRef .tc main_v0_1),
    Function.update_of_ne (StableHlo.devRef_ne_of_ne (List.ne_of_not_mem_cons h) : (Proc.devRef .tc b : DevRef τ sig) ≠ Proc.devRef .tc main_v0_0)]
theorem VB_main_v0_0 (c : Dev nD) : VB m c main_v0_0 = (r0dat (VA m) c).arrAt 4 cfg0.N := by
  unfold VB W1
  rw [Function.update_of_ne (StableHlo.devRef_ne_of_ne (by decide) : (Proc.devRef .tc main_v0_0 : DevRef τ sig) ≠ Proc.devRef .tc main_v0_1), Function.update_self]
theorem VB_main_v0_1 (c : Dev nD) : VB m c main_v0_1 = (r0dat (VA m) c).arrAt 5 cfg0.N := by
  unfold VB W1; rw [Function.update_self]
theorem VC_of (c : Dev nD) (b : Ref sig .tc) (h : b ∉ ([main_v1_0, main_v1_1] : List (Ref sig .tc))) : VC m c b = VB m c b := by
  unfold VC VB W2
  rw [Function.update_of_ne (StableHlo.devRef_ne_of_ne (List.ne_of_not_mem_cons (List.not_mem_of_not_mem_cons h)) : (Proc.devRef .tc b : DevRef τ sig) ≠ Proc.devRef .tc main_v1_1),
    Function.update_of_ne (StableHlo.devRef_ne_of_ne (List.ne_of_not_mem_cons h) : (Proc.devRef .tc b : DevRef τ sig) ≠ Proc.devRef .tc main_v1_0)]
theorem VC_main_v1_0 (c : Dev nD) : VC m c main_v1_0 = (r1dat (VB m) c).arrAt 6 cfg1.N := by
  unfold VC W2
  rw [Function.update_of_ne (StableHlo.devRef_ne_of_ne (by decide) : (Proc.devRef .tc main_v1_0 : DevRef τ sig) ≠ Proc.devRef .tc main_v1_1), Function.update_self]
theorem VC_main_v1_1 (c : Dev nD) : VC m c main_v1_1 = (r1dat (VB m) c).arrAt 7 cfg1.N := by
  unfold VC W2; rw [Function.update_self]

/-- Both regions' proof data. -/
def pdats : (p : Fin 2) → (c : Dev nD) → Dat τ (Elt F) Unit ℕ (UR sig nD τ) ℕ (cfgs p) c
  | ⟨0, _⟩ => fun c => r0dat (VA m) c
  | ⟨1, _⟩ => fun c => r1dat (VB m) c

/-- No core owes another anything. -/
abbrev L : GSem nD τ sig → Finset Unit := fun _ => ∅
abbrev lv : GSem nD τ sig → Unit → ℕ := fun _ _ => 0
/-- What rides beside the buffers. -/
abbrev owing (c : Dev nD) : sProp (MT nD τ sig Unit (Elt F) ℕ (UR sig nD τ) ℕ) := iprop(∃ W, owes (c : Thread nD τ) (0 : CellTallies nD τ sig Unit) W)

theorem r0Phi_zero (c : Dev nD) (V) : (Pipeline.scopedRest (Ix := Unit) (Name := ℕ) (U := UR sig nD τ) (Lvl := ℕ) (Val := Elt F) spec0 c : sProp (MT nD τ sig Unit (Elt F) ℕ (UR sig nD τ) ℕ))
    ⊢ r0Phi V c 0 := by
  rw [r0scoped]; unfold r0Phi
  iintro ⟨⟨%s0, Hs0⟩, Hr⟩
  isplitl [Hs0]
  · iexists s0; isplitr; swap; (· iexact Hs0)
    ipureintro; exact fun h => absurd rfl h
  iexact Hr

theorem r0Phi_last (c : Dev nD) (V) (t) : r0Phi V c t
    ⊢ (Pipeline.scopedRest (Ix := Unit) (Name := ℕ) (U := UR sig nD τ) (Lvl := ℕ) (Val := Elt F) spec0 c : sProp (MT nD τ sig Unit (Elt F) ℕ (UR sig nD τ) ℕ)) := by
  rw [r0scoped]; unfold r0Phi
  iintro ⟨⟨%s0, -, Hs0⟩, Hr⟩
  isplitl [Hs0]
  · iexists s0; iexact Hs0
  iexact Hr

set_option backward.isDefEq.respectTransparency.types false in
/-- Region 0 as a segment. -/
def reg0 : RegionSeg (pcfgs (F := F)) adm (pdats m) () defs₀ Variants.none L lv 0 where
  win := winFacts₀0
  block_pos := block_pos0
  stage_whole := stage_whole0
  K := PEmpty
  osem k := k.elim
  ho := Pipeline.OwnSemFacts.none _
  hbody c := (r0obligation (VA m) c).loose
  hwaits := Pipeline.hwaits_of_owed_zero _ _ _ _ L lv 0 fun _ _ => rfl
  pre c := iprop(unscopedBufs c (VA m c) ∗ owing c)
  post c := iprop(unscopedBufs c (VB m c) ∗ owing c)
  X _ := BI.emp
  Y _ := BI.emp
  Z c := Pipeline.unscopedRest (Ix := Unit) (Name := ℕ) (U := UR sig nD τ) (Lvl := ℕ) spec0 c (VA m c)
  hentry c := by
    rw [Pipeline.ownSems0_none]
    have hsplit := Pipeline.arrays_of_unscopedBufs_shared (p := 0) (pcfgs (F := F)) adm (pdats m) winFacts₀0 sharedIn0 arr_whole0 c
      (fun _ _ => rfl) (VA m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = r0Phi (VA m) c 0 from rfl]
    iintro ⟨-, -, Hr⟩
    iapply (r0Phi_zero c (VA m)); iexact Hr
  hout c := by
    rw [Pipeline.ownSems0_none, show (pdats m 0 c).Φ (Fin.last _) = r0Phi (VA m) c (Fin.last _) from rfl]
    iintro Hr
    isplitr; · iempintro
    isplitr; · iempintro
    iapply (r0Phi_last c (VA m) _); iexact Hr
  hexit c := by
    have hjoin := Pipeline.unscopedBufs_of_arrays_shared (p := 0) (pcfgs (F := F)) adm (Ix := Unit) (Name := ℕ) (U := UR sig nD τ) (Lvl := ℕ) winFacts₀0 sharedIn0 arr_whole0 c
      (pdats m) (fun _ _ => rfl) (VA m c) (VB m c) ((pdats m 0 c).arrAt · cfg0.N)
      (fun w => by
        fin_cases w
        · exact ((pdats m 0 c).arrAt_in 0 rfl _).trans (VB_of m c main_arg0 (by decide)).symm
        · exact ((pdats m 0 c).arrAt_in 1 rfl _).trans (VB_of m c main_arg0 (by decide)).symm
        · exact ((pdats m 0 c).arrAt_in 2 rfl _).trans (VB_of m c main_arg0 (by decide)).symm
        · exact ((pdats m 0 c).arrAt_in 3 rfl _).trans (VB_of m c main_arg1 (by decide)).symm
        · exact (VB_main_v0_0 m c).symm
        · exact (VB_main_v0_1 m c).symm
        )
      (fun b hb => VB_of m c b fun h => by
        rcases List.mem_cons.mp h with h | h
        · exact hb (h ▸ Finset.mem_image.mpr ⟨4, Finset.mem_univ _, rfl⟩)
        · rcases List.mem_cons.mp h with h | h
          · exact hb (h ▸ Finset.mem_image.mpr ⟨5, Finset.mem_univ _, rfl⟩)
          · exact absurd h List.not_mem_nil)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

theorem r1Phi_zero (c : Dev nD) (V) : (Pipeline.scopedRest (Ix := Unit) (Name := ℕ) (U := UR sig nD τ) (Lvl := ℕ) (Val := Elt F) spec1 c : sProp (MT nD τ sig Unit (Elt F) ℕ (UR sig nD τ) ℕ))
    ⊢ r1Phi V c 0 := by
  rw [r1scoped]; unfold r1Phi
  iintro ⟨⟨%s0, Hs0⟩, Hr⟩
  isplitl [Hs0]
  · iexists s0; isplitr; swap; (· iexact Hs0)
    ipureintro; exact fun h => absurd rfl h
  iexact Hr

theorem r1Phi_last (c : Dev nD) (V) (t) : r1Phi V c t
    ⊢ (Pipeline.scopedRest (Ix := Unit) (Name := ℕ) (U := UR sig nD τ) (Lvl := ℕ) (Val := Elt F) spec1 c : sProp (MT nD τ sig Unit (Elt F) ℕ (UR sig nD τ) ℕ)) := by
  rw [r1scoped]; unfold r1Phi
  iintro ⟨⟨%s0, -, Hs0⟩, Hr⟩
  isplitl [Hs0]
  · iexists s0; iexact Hs0
  iexact Hr

set_option backward.isDefEq.respectTransparency.types false in
/-- Region 1 as a segment. -/
def reg1 : RegionSeg (pcfgs (F := F)) adm (pdats m) () defs₀ Variants.none L lv 1 where
  win := winFacts₀1
  block_pos := block_pos1
  stage_whole := stage_whole1
  K := PEmpty
  osem k := k.elim
  ho := Pipeline.OwnSemFacts.none _
  hbody c := (r1obligation (VB m) c).loose
  hwaits := Pipeline.hwaits_of_owed_zero _ _ _ _ L lv 1 fun _ _ => rfl
  pre c := iprop(unscopedBufs c (VB m c) ∗ owing c)
  post c := iprop(unscopedBufs c (VC m c) ∗ owing c)
  X _ := BI.emp
  Y _ := BI.emp
  Z c := Pipeline.unscopedRest (Ix := Unit) (Name := ℕ) (U := UR sig nD τ) (Lvl := ℕ) spec1 c (VB m c)
  hentry c := by
    rw [Pipeline.ownSems0_none]
    have hsplit := Pipeline.arrays_of_unscopedBufs_shared (p := 1) (pcfgs (F := F)) adm (pdats m) winFacts₀1 sharedIn1 arr_whole1 c
      (fun _ _ => rfl) (VB m c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = r1Phi (VB m) c 0 from rfl]
    iintro ⟨-, -, Hr⟩
    iapply (r1Phi_zero c (VB m)); iexact Hr
  hout c := by
    rw [Pipeline.ownSems0_none, show (pdats m 1 c).Φ (Fin.last _) = r1Phi (VB m) c (Fin.last _) from rfl]
    iintro Hr
    isplitr; · iempintro
    isplitr; · iempintro
    iapply (r1Phi_last c (VB m) _); iexact Hr
  hexit c := by
    have hjoin := Pipeline.unscopedBufs_of_arrays_shared (p := 1) (pcfgs (F := F)) adm (Ix := Unit) (Name := ℕ) (U := UR sig nD τ) (Lvl := ℕ) winFacts₀1 sharedIn1 arr_whole1 c
      (pdats m) (fun _ _ => rfl) (VB m c) (VC m c) ((pdats m 1 c).arrAt · cfg1.N)
      (fun w => by
        fin_cases w
        · exact ((pdats m 1 c).arrAt_in 0 rfl _).trans (VC_of m c main_arg0 (by decide)).symm
        · exact ((pdats m 1 c).arrAt_in 1 rfl _).trans (VC_of m c main_arg0 (by decide)).symm
        · exact ((pdats m 1 c).arrAt_in 2 rfl _).trans (VC_of m c main_arg0 (by decide)).symm
        · exact ((pdats m 1 c).arrAt_in 3 rfl _).trans (VC_of m c main_arg1 (by decide)).symm
        · exact ((pdats m 1 c).arrAt_in 4 rfl _).trans (VC_of m c main_arg2 (by decide)).symm
        · exact ((pdats m 1 c).arrAt_in 5 rfl _).trans (VC_of m c main_v0_1 (by decide)).symm
        · exact (VC_main_v1_0 m c).symm
        · exact (VC_main_v1_1 m c).symm
        )
      (fun b hb => VC_of m c b fun h => by
        rcases List.mem_cons.mp h with h | h
        · exact hb (h ▸ Finset.mem_image.mpr ⟨6, Finset.mem_univ _, rfl⟩)
        · rcases List.mem_cons.mp h with h | h
          · exact hb (h ▸ Finset.mem_image.mpr ⟨7, Finset.mem_univ _, rfl⟩)
          · exact absurd h List.not_mem_nil)
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

set_option backward.isDefEq.respectTransparency.types false in
/-- THE RUN: every fair execution ends, every counter at zero, every buffer of the host at the contents named. -/
theorem run_main : θ_run defs (onTc (τ := τ) (main (F := F))) ⟨m, fun _ => 0, ρ⟩ (fun r => (∀ c : Dev nD,
      ∀ b : Ref sig .tc, (Proc.devRef .tc b : DevRef τ sig).isScoped = false → r.2.mem ((c.tc : Thread nD τ).loc b) = VC m c b)
      ∧ r.2.sem = fun _ => 0) := by
  refine Pipeline.θ_run_regions_kit_dev_sems (pcfgs (F := F)) adm (pdats m) () cellOf_inj emb₁ defs₀ Variants.none L lv m ρ main
    (fun _ => [.region (reg0 m), .region (reg1 m)])
    (fun c Q => by
      rewrite [main_chain c, Seg.run_eq_chain,
        show ([.region (reg0 m), .region (reg1 m)] : List (Seg (pcfgs (F := F)) adm (pdats m) () defs₀ Variants.none L lv)).map Seg.prog = [
          Prog.lift (.customCall (Pipeline.entry 0) ()),
          Prog.lift (.customCall (Pipeline.entry 1) ()) ] from rfl]
      dsimp (config := { failIfUnchanged := false }) only
      exact .rfl)
    (fun c => by simp only [Seg.pipes_host, Seg.pipes_region, Seg.pipes_nil]; decide) (O₀ := 0) (fun _ _ => rfl) (G := fun _ => iprop(emp))
    (u₀ := initOf (Pipeline.cells cfgs cellOf_inj) (Pipeline.launchToks cfgs cellOf_inj))
    (by
      iintro Hu
      imodintro
      isplitl [Hu]; · iapply (show (ownU _ : sProp (MT nD τ sig Unit (Elt F) ℕ (UR sig nD τ) ℕ)) ⊢ BI.own (emb₁ (initOf (Pipeline.cells cfgs cellOf_inj) (Pipeline.launchToks cfgs cellOf_inj))) from .rfl); iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(unscopedBufs c (VA m c) ∗ owing c))
    (Tₙ := fun c => unscopedBufs c (VC m c))
    (hch := fun c => ⟨.rfl, .rfl, .rfl⟩)
    (hinit := by
      refine Pipeline.initEach L lv fun c => ?_
      iintro ⟨⟨Hh, -, HO, -, -, -⟩, -⟩
      imodintro
      isplitl [Hh]; · iexact Hh
      iexists ∅; iexact HO)
    (QY := fun c s => ∀ b : Ref sig .tc, (Proc.devRef .tc b : DevRef τ sig).isScoped = false → s.mem ((c.tc : Thread nD τ).loc b) = VC m c b)
    (hfin := fun c s' => by
      rw [show (unscopedBufs c (VC m c) : sProp (MT nD τ sig Unit (Elt F) ℕ (UR sig nD τ) ℕ)) = StableHlo.held (c : Thread nD τ) (Pipeline.ucRefs τ sig) (W2 m c) from
        Pipeline.unscopedBufs_held (Ix := Unit) (Name := ℕ) (U := UR sig nD τ) (Lvl := ℕ) c (W2 m c)]
      unfold StableHlo.held
      iintro ⟨Hh, HSI⟩
      ihave Hr := (pointsTo_read_all (Pipeline.ucRefs τ sig) (fun b => ((c : Thread nD τ).1, b)) (W2 m c) s') $$ [Hh HSI]
      · isplitl [Hh] <;> iassumption
      icases Hr with ⟨%h, HSI⟩
      imodintro
      isplitr
      · ipureintro
        exact fun b hb => h (Proc.devRef .tc b) (Finset.mem_filter.mpr ⟨StableHlo.devRef_mem_tcRefs b, by rw [hb]; exact Bool.false_ne_true⟩)
      · iexact HSI)
    (hQ := fun _ h hz => ⟨h, funext fun g => hz g (.inr (regions_no_unscoped g.2))⟩)

/-- The frame: the arguments end as launched. -/
theorem frame_args : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
    ⟨(h.1 c main_arg0 rfl).trans ((VC_of m c _ (by decide)).trans (VB_of m c _ (by decide))),
     (h.1 c main_arg1 rfl).trans ((VC_of m c _ (by decide)).trans (VB_of m c _ (by decide))),
     (h.1 c main_arg2 rfl).trans ((VC_of m c _ (by decide)).trans (VB_of m c _ (by decide)))⟩, h.2⟩) (run_main m ρ)

end Cert.KernelIdeal.Hgrn

end
-- ==== Proof.HgrnPlain.lean ====
/-
  The frame of the recurrence as written, from the frame of the same program with named constants:
  a named constant may be read as its own word, and then the two are one program.
-/
module

public import proofs.«01_k».proof.Proof.HgrnRun
public import proofs.«01_k».proof.Proof.Gen.Kernel

@[expose] public section

set_option maxRecDepth 65536
set_option maxHeartbeats 16000000

noncomputable section

namespace Cert.Kernel.Hgrn

open Cert.Kernel Cert.Kernel.Gen
open Idealize.ShloMosaic Idealize.ShloMosaic.TcCoe Idealize.SL.Sem

variable {F : FTy → Type} [FloatOps F]

/-- Every named constant is its word. -/
@[reducible] def plain : Named F := ⟨fun _ _ {φ} b => Scalar.ofBits φ b⟩

/-- The bodies are the same. -/
theorem rows : letI := plain (F := F); Cert.Kernel.defs₀ (F := F) = Cert.KernelIdeal.defs₀ (F := F) := by
  refine congrArg Defs.onTc ?_
  funext l a
  match l, a with
  | 0, (t, s) => exact rfl
  | 1, (t, s) => exact rfl

/-- The bodies and the regions are the same. -/
theorem rows_all : letI := plain (F := F); Cert.Kernel.defs (F := F) = Cert.KernelIdeal.defs (F := F) :=
  letI := plain (F := F); congrArg (Pipeline.defs Cert.Kernel.pcfgs) (rows (F := F))

variable (m : (ℓ : Loc nD τ sig) → Buf (Elt F) ℓ) (ρ : Dev nD → PrngReg)

/-- The frame: the arguments end as launched. -/
theorem frame_args : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2))
    ∧ r.2.sem = fun _ => 0) := by
  letI := plain (F := F)
  rw [rows_all (F := F)]
  exact Cert.KernelIdeal.Hgrn.frame_args m ρ

end Cert.Kernel.Hgrn

end
-- ==== Proof.UpGradValue.lean ====
/-
  The value of the weight gradient of the up projection of one feed forward block: the accumulator after the last row block is the sum over all
  rows, and each stored chunk is that accumulator with its axes exchanged.
-/
module

public import proofs.«01_k».proof.Defs
public import proofs.«01_k».proof.Proof.Gen.UpGradIdeal.Value
public import proofs.«01_k».proof.Proof.Gen.UpGradRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.UpGradIdeal.Val

open Cert.UpGradIdeal Cert.UpGradIdeal.Gen

variable (m : (ℓ : Loc nD τ sig) → Buf (Elt Ideal) ℓ)

/-- What the reference computes of the two arguments. -/
abbrev REF (X0 : FVec Ideal S8192x1024 .bf16) (X1 : FVec Ideal S8192x2816 .bf16) : FVec Ideal S2816x1024 .bf16 :=
  truncf .bf16 (transpose Cert.UpGradRefIdeal.S2816x1024 [1, 0] (transpose Cert.UpGradRefIdeal.S1024x2816 [1, 0] (Host.dotGeneral Cert.UpGradRefIdeal.dot_S8192x2816_S8192x1024_S2816x1024_0_0_1_1_n_n none (extf .f32 X1 Cert.UpGradRefIdeal.Gen.bitsLt_bf16_f32) (extf .f32 X0 Cert.UpGradRefIdeal.Gen.bitsLt_bf16_f32)) Cert.UpGradRefIdeal.Gen.transposes_S2816x1024_S1024x2816_1_0) Cert.UpGradRefIdeal.Gen.transposes_S1024x2816_S2816x1024_1_0) Cert.UpGradRefIdeal.Gen.bitsLt_bf16_f32

theorem zero_at (j) : k0_pay1 (F := Ideal) j = 0 := by pointwise [k0_pay1]

theorem step_at (acc : FVec Ideal S1024x2816 .f32) (x0 : FVec Ideal S1024x1024 .bf16) (x1 : FVec Ideal S1024x2816 .bf16) (j : S1024x2816.Idx) :
    k0_pay2 acc x0 x1 j = acc j + ∑ k : Fin 1024, x0 (ix2 k (j 0)) * x1 (ix2 k (j 1)) := by
  pointwise [k0_pay2]

theorem ref_at (X0 : FVec Ideal S8192x1024 .bf16) (X1 : FVec Ideal S8192x2816 .bf16) (j : S2816x1024.Idx) :
    REF X0 X1 j = ∑ k : Fin 8192, X1 (ix2 k (j 0)) * X0 (ix2 k (j 1)) := by
  pointwise [REF]

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The first point starts from zero. -/
theorem acc_first (c : Dev nD) (t : Fin cfg0.N) (h0 : t.val % 8 = 0) (j) :
    (outsAt0 m c t.val t.isLt).2 j = 0 + ∑ k : Fin 1024, (show FVec Ideal S1024x1024 .bf16 from iblk m c 0 t) (ix2 k (j 0)) * (show FVec Ideal S1024x2816 .bf16 from iblk m c 1 t) (ix2 k (j 1)) := by
  rw [outsAt0_A m c t h0 (by omega)]; frame_out; rw [step_at, zero_at]

/-- Each later point adds its row block's product. -/
theorem acc_next (c : Dev nD) (t : Fin cfg0.N) (h0 : ¬ t.val % 8 = 0) (j) :
    (outsAt0 m c t.val t.isLt).2 j = (outsAt0 m c (t.val - 1) (Nat.lt_of_le_of_lt (Nat.sub_le _ _) t.isLt)).2 j
      + ∑ k : Fin 1024, (show FVec Ideal S1024x1024 .bf16 from iblk m c 0 t) (ix2 k (j 0)) * (show FVec Ideal S1024x2816 .bf16 from iblk m c 1 t) (ix2 k (j 1)) := by
  by_cases h1 : t.val % 8 = 7
  · rw [outsAt0_C m c t h0 h1]; frame_out; simp only [read_unread_whole]; rw [step_at]
  · rw [outsAt0_B m c t h0 h1]; frame_out; simp only [read_unread_whole]; rw [step_at]

/-- The chunks stored at the last point are the accumulator of that point with its axes exchanged. -/
theorem out_last (c : Dev nD) (t : Fin cfg0.N) (h0 : ¬ t.val % 8 = 0) (h1 : t.val % 8 = 7) (y : S2816x1024.Idx) (i : S1024x2816.Idx)
    (hi0 : (i 0 : ℕ) = y 1) (hi1 : (i 1 : ℕ) = y 0) :
    (outsAt0 m c t.val t.isLt).1 y = (outsAt0 m c t.val t.isLt).2 i := by
  rw [outsAt0_C m c t h0 h1]
  frame_out
  generalize hg : k0_pay2 (F := Ideal) _ _ _ = g
  simp (disch := decide) only [View.readCov_fill]
  clear hg
  canon_tiles x h
  all_goals (open_payloads; pointwise; blk_ext)

theorem final (c : Dev nD) : (dats m 0 c).arrAt 2 (cfgs 0).N = REF (m ((c : Thread nD τ).loc main_arg0)) (m ((c : Thread nD τ).loc main_arg1)) := by
  refine (dats m 0 c).arrAt_eq_of_after_last 2 t0_7 (by decide +kernel) _ fun j => ?_
  blk_simp
  rw [after0_2, out_last m c t0_7 (by decide) (by decide) j (ix2 (j 1) (j 0)) rfl rfl,
    Pipeline.eq_sum_fin_of_reset_step_apply_last (fun n h => (outsAt0 m c n h).2) 8 (fun _ => 0) _
      (fun t h j => acc_first m c t h j) (fun t h j => acc_next m c t h j) (le_of_eq N_0) t0_7 rfl _, zero_add, ref_at]
  refine Fin.sum_mul_add_congr fun s k hl => ?_
  rw [mul_comm]
  blk_point [iblk, V, idx s]

/-- The reference leaves its arguments as launched. -/
theorem frame_reference : Cert.quiescent_UpGradRefIdeal := fun m ρ _ =>
  (θ_run Cert.UpGradRefIdeal.defs _ _).mono
    (fun r h => ⟨fun c => (h c).2, Idealize.ShloMosaic.sem_eq_zero_of_no_sems (by decide) r.2⟩)
    (Cert.UpGradRefIdeal.Value.run (F := Ideal) m ρ)

/-- Both programs end with the reference's value of the shared arguments. -/
theorem algebraic : Cert.algebraic_UpGradIdeal_UpGradRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.UpGradIdeal.Value.run_blocks m ρ)
  · exact (θ_run Cert.UpGradRefIdeal.defs _ _).mono (fun _ h c => ⟨((h c).1).trans (by rw [(hargs c).1, (hargs c).2]), (h c).2⟩)
      (Cert.UpGradRefIdeal.Value.run (F := Ideal) m' ρ')

end Cert.UpGradIdeal.Val

end
-- ==== Proof.DownGradValue.lean ====
/-
  The value of the weight gradient of the down projection of one feed forward block: the accumulator after the last row block is the sum over all
  rows, and each stored chunk is that accumulator.
-/
module

public import proofs.«01_k».proof.Defs
public import proofs.«01_k».proof.Proof.Gen.DownGradIdeal.Value
public import proofs.«01_k».proof.Proof.Gen.DownGradRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.DownGradIdeal.Val

open Cert.DownGradIdeal Cert.DownGradIdeal.Gen

variable (m : (ℓ : Loc nD τ sig) → Buf (Elt Ideal) ℓ)

/-- What the reference computes of the two arguments. -/
abbrev REF (X0 : FVec Ideal S8192x2816 .bf16) (X1 : FVec Ideal S8192x1024 .bf16) : FVec Ideal S2816x1024 .bf16 :=
  truncf .bf16 (transpose Cert.DownGradRefIdeal.S2816x1024 [1, 0] (Host.dotGeneral Cert.DownGradRefIdeal.dot_S8192x1024_S8192x2816_S1024x2816_0_0_1_1_n_n none (extf .f32 X1 Cert.DownGradRefIdeal.Gen.bitsLt_bf16_f32) (extf .f32 X0 Cert.DownGradRefIdeal.Gen.bitsLt_bf16_f32)) Cert.DownGradRefIdeal.Gen.transposes_S1024x2816_S2816x1024_1_0) Cert.DownGradRefIdeal.Gen.bitsLt_bf16_f32

theorem zero_at (j) : k0_pay1 (F := Ideal) j = 0 := by pointwise [k0_pay1]

theorem step_at (acc : FVec Ideal S2816x1024 .f32) (x0 : FVec Ideal S1024x2816 .bf16) (x1 : FVec Ideal S1024x1024 .bf16) (j : S2816x1024.Idx) :
    k0_pay2 acc x0 x1 j = acc j + ∑ k : Fin 1024, x0 (ix2 k (j 0)) * x1 (ix2 k (j 1)) := by
  pointwise [k0_pay2]

theorem ref_at (X0 : FVec Ideal S8192x2816 .bf16) (X1 : FVec Ideal S8192x1024 .bf16) (j : S2816x1024.Idx) :
    REF X0 X1 j = ∑ k : Fin 8192, X1 (ix2 k (j 1)) * X0 (ix2 k (j 0)) := by
  pointwise [REF]

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The first point starts from zero. -/
theorem acc_first (c : Dev nD) (t : Fin cfg0.N) (h0 : t.val % 8 = 0) (j) :
    (outsAt0 m c t.val t.isLt).2 j = 0 + ∑ k : Fin 1024, (show FVec Ideal S1024x2816 .bf16 from iblk m c 0 t) (ix2 k (j 0)) * (show FVec Ideal S1024x1024 .bf16 from iblk m c 1 t) (ix2 k (j 1)) := by
  rw [outsAt0_A m c t h0 (by omega)]; frame_out; rw [step_at, zero_at]

/-- Each later point adds its row block's product. -/
theorem acc_next (c : Dev nD) (t : Fin cfg0.N) (h0 : ¬ t.val % 8 = 0) (j) :
    (outsAt0 m c t.val t.isLt).2 j = (outsAt0 m c (t.val - 1) (Nat.lt_of_le_of_lt (Nat.sub_le _ _) t.isLt)).2 j
      + ∑ k : Fin 1024, (show FVec Ideal S1024x2816 .bf16 from iblk m c 0 t) (ix2 k (j 0)) * (show FVec Ideal S1024x1024 .bf16 from iblk m c 1 t) (ix2 k (j 1)) := by
  by_cases h1 : t.val % 8 = 7
  · rw [outsAt0_C m c t h0 h1]; frame_out; simp only [read_unread_whole]; rw [step_at]
  · rw [outsAt0_B m c t h0 h1]; frame_out; simp only [read_unread_whole]; rw [step_at]

/-- The chunks stored at the last point are the accumulator of that point. -/
theorem out_last (c : Dev nD) (t : Fin cfg0.N) (h0 : ¬ t.val % 8 = 0) (h1 : t.val % 8 = 7) (y : S2816x1024.Idx) (i : S2816x1024.Idx)
    (hi0 : (i 0 : ℕ) = y 0) (hi1 : (i 1 : ℕ) = y 1) :
    (outsAt0 m c t.val t.isLt).1 y = (outsAt0 m c t.val t.isLt).2 i := by
  rw [outsAt0_C m c t h0 h1]
  frame_out
  generalize hg : k0_pay2 (F := Ideal) _ _ _ = g
  simp (disch := decide) only [View.readCov_fill]
  clear hg
  canon_tiles x h
  all_goals (open_payloads; pointwise; blk_ext)

theorem final (c : Dev nD) : (dats m 0 c).arrAt 2 (cfgs 0).N = REF (m ((c : Thread nD τ).loc main_arg0)) (m ((c : Thread nD τ).loc main_arg1)) := by
  refine (dats m 0 c).arrAt_eq_of_after_last 2 t0_7 (by decide +kernel) _ fun j => ?_
  blk_simp
  rw [after0_2, out_last m c t0_7 (by decide) (by decide) j (ix2 (j 0) (j 1)) rfl rfl,
    Pipeline.eq_sum_fin_of_reset_step_apply_last (fun n h => (outsAt0 m c n h).2) 8 (fun _ => 0) _
      (fun t h j => acc_first m c t h j) (fun t h j => acc_next m c t h j) (le_of_eq N_0) t0_7 rfl _, zero_add, ref_at]
  refine Fin.sum_mul_add_congr fun s k hl => ?_
  rw [mul_comm]
  blk_point [iblk, V, idx s]

/-- The reference leaves its arguments as launched. -/
theorem frame_reference : Cert.quiescent_DownGradRefIdeal := fun m ρ _ =>
  (θ_run Cert.DownGradRefIdeal.defs _ _).mono
    (fun r h => ⟨fun c => (h c).2, Idealize.ShloMosaic.sem_eq_zero_of_no_sems (by decide) r.2⟩)
    (Cert.DownGradRefIdeal.Value.run (F := Ideal) m ρ)

/-- Both programs end with the reference's value of the shared arguments. -/
theorem algebraic : Cert.algebraic_DownGradIdeal_DownGradRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.DownGradIdeal.Value.run_blocks m ρ)
  · exact (θ_run Cert.DownGradRefIdeal.defs _ _).mono (fun _ h c => ⟨((h c).1).trans (by rw [(hargs c).1, (hargs c).2]), (h c).2⟩)
      (Cert.DownGradRefIdeal.Value.run (F := Ideal) m' ρ')

end Cert.DownGradIdeal.Val

end
-- ==== Proof.SquareGradValue.lean ====
/-
  The value of the weight gradient of one square projection: the accumulator after the last row block is the sum over all
  rows, and each stored chunk is that accumulator.
-/
module

public import proofs.«01_k».proof.Defs
public import proofs.«01_k».proof.Proof.Gen.SquareGradIdeal.Value
public import proofs.«01_k».proof.Proof.Gen.SquareGradRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.SquareGradIdeal.Val

open Cert.SquareGradIdeal Cert.SquareGradIdeal.Gen

variable (m : (ℓ : Loc nD τ sig) → Buf (Elt Ideal) ℓ)

/-- What the reference computes of the two arguments. -/
abbrev REF (X0 : FVec Ideal S8192x1024 .bf16) (X1 : FVec Ideal S8192x1024 .bf16) : FVec Ideal S1024x1024 .bf16 :=
  truncf .bf16 (transpose Cert.SquareGradRefIdeal.S1024x1024 [1, 0] (Host.dotGeneral Cert.SquareGradRefIdeal.dot_S8192x1024_S8192x1024_S1024x1024_0_0_1_1_n_n none (extf .f32 X1 Cert.SquareGradRefIdeal.Gen.bitsLt_bf16_f32) (extf .f32 X0 Cert.SquareGradRefIdeal.Gen.bitsLt_bf16_f32)) Cert.SquareGradRefIdeal.Gen.transposes_S1024x1024_S1024x1024_1_0) Cert.SquareGradRefIdeal.Gen.bitsLt_bf16_f32

theorem zero_at (j) : k0_pay1 (F := Ideal) j = 0 := by pointwise [k0_pay1]

theorem step_at (acc : FVec Ideal S1024x1024 .f32) (x0 : FVec Ideal S1024x1024 .bf16) (x1 : FVec Ideal S1024x1024 .bf16) (j : S1024x1024.Idx) :
    k0_pay2 acc x0 x1 j = acc j + ∑ k : Fin 1024, x0 (ix2 k (j 0)) * x1 (ix2 k (j 1)) := by
  pointwise [k0_pay2]

theorem ref_at (X0 : FVec Ideal S8192x1024 .bf16) (X1 : FVec Ideal S8192x1024 .bf16) (j : S1024x1024.Idx) :
    REF X0 X1 j = ∑ k : Fin 8192, X1 (ix2 k (j 1)) * X0 (ix2 k (j 0)) := by
  pointwise [REF]

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The first point starts from zero. -/
theorem acc_first (c : Dev nD) (t : Fin cfg0.N) (h0 : t.val % 8 = 0) (j) :
    (outsAt0 m c t.val t.isLt).2 j = 0 + ∑ k : Fin 1024, (show FVec Ideal S1024x1024 .bf16 from iblk m c 0 t) (ix2 k (j 0)) * (show FVec Ideal S1024x1024 .bf16 from iblk m c 1 t) (ix2 k (j 1)) := by
  rw [outsAt0_A m c t h0 (by omega)]; frame_out; rw [step_at, zero_at]

/-- Each later point adds its row block's product. -/
theorem acc_next (c : Dev nD) (t : Fin cfg0.N) (h0 : ¬ t.val % 8 = 0) (j) :
    (outsAt0 m c t.val t.isLt).2 j = (outsAt0 m c (t.val - 1) (Nat.lt_of_le_of_lt (Nat.sub_le _ _) t.isLt)).2 j
      + ∑ k : Fin 1024, (show FVec Ideal S1024x1024 .bf16 from iblk m c 0 t) (ix2 k (j 0)) * (show FVec Ideal S1024x1024 .bf16 from iblk m c 1 t) (ix2 k (j 1)) := by
  by_cases h1 : t.val % 8 = 7
  · rw [outsAt0_C m c t h0 h1]; frame_out; simp only [read_unread_whole]; rw [step_at]
  · rw [outsAt0_B m c t h0 h1]; frame_out; simp only [read_unread_whole]; rw [step_at]

/-- The chunks stored at the last point are the accumulator of that point. -/
theorem out_last (c : Dev nD) (t : Fin cfg0.N) (h0 : ¬ t.val % 8 = 0) (h1 : t.val % 8 = 7) (y : S1024x1024.Idx) (i : S1024x1024.Idx)
    (hi0 : (i 0 : ℕ) = y 0) (hi1 : (i 1 : ℕ) = y 1) :
    (outsAt0 m c t.val t.isLt).1 y = (outsAt0 m c t.val t.isLt).2 i := by
  rw [outsAt0_C m c t h0 h1]
  frame_out
  generalize hg : k0_pay2 (F := Ideal) _ _ _ = g
  simp (disch := decide) only [View.readCov_fill]
  clear hg
  canon_tiles x h
  all_goals (open_payloads; pointwise; blk_ext)

theorem final (c : Dev nD) : (dats m 0 c).arrAt 2 (cfgs 0).N = REF (m ((c : Thread nD τ).loc main_arg0)) (m ((c : Thread nD τ).loc main_arg1)) := by
  refine (dats m 0 c).arrAt_eq_of_after_last 2 t0_7 (by decide +kernel) _ fun j => ?_
  blk_simp
  rw [after0_2, out_last m c t0_7 (by decide) (by decide) j (ix2 (j 0) (j 1)) rfl rfl,
    Pipeline.eq_sum_fin_of_reset_step_apply_last (fun n h => (outsAt0 m c n h).2) 8 (fun _ => 0) _
      (fun t h j => acc_first m c t h j) (fun t h j => acc_next m c t h j) (le_of_eq N_0) t0_7 rfl _, zero_add, ref_at]
  refine Fin.sum_mul_add_congr fun s k hl => ?_
  rw [mul_comm]
  blk_point [iblk, V, idx s]

/-- The reference leaves its arguments as launched. -/
theorem frame_reference : Cert.quiescent_SquareGradRefIdeal := fun m ρ _ =>
  (θ_run Cert.SquareGradRefIdeal.defs _ _).mono
    (fun r h => ⟨fun c => (h c).2, Idealize.ShloMosaic.sem_eq_zero_of_no_sems (by decide) r.2⟩)
    (Cert.SquareGradRefIdeal.Value.run (F := Ideal) m ρ)

/-- Both programs end with the reference's value of the shared arguments. -/
theorem algebraic : Cert.algebraic_SquareGradIdeal_SquareGradRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.SquareGradIdeal.Value.run_blocks m ρ)
  · exact (θ_run Cert.SquareGradRefIdeal.defs _ _).mono (fun _ h c => ⟨((h c).1).trans (by rw [(hargs c).1, (hargs c).2]), (h c).2⟩)
      (Cert.SquareGradRefIdeal.Value.run (F := Ideal) m' ρ')

end Cert.SquareGradIdeal.Val

end
-- ==== Proof.BranchGradValue.lean ====
/-
  The value of the weight gradient of the second branch: the accumulator after the last row block is the sum over all
  rows, and each stored chunk is that accumulator with its axes exchanged.
-/
module

public import proofs.«01_k».proof.Defs
public import proofs.«01_k».proof.Proof.Gen.BranchGradIdeal.Value
public import proofs.«01_k».proof.Proof.Gen.BranchGradRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BranchGradIdeal.Val

open Cert.BranchGradIdeal Cert.BranchGradIdeal.Gen

variable (m : (ℓ : Loc nD τ sig) → Buf (Elt Ideal) ℓ)

/-- What the reference computes of the two arguments. -/
abbrev REF (X0 : FVec Ideal S8192x512 .bf16) (X1 : FVec Ideal S8192x1024 .bf16) : FVec Ideal S1024x512 .bf16 :=
  truncf .bf16 (transpose Cert.BranchGradRefIdeal.S1024x512 [1, 0] (transpose Cert.BranchGradRefIdeal.S512x1024 [1, 0] (Host.dotGeneral Cert.BranchGradRefIdeal.dot_S8192x1024_S8192x512_S1024x512_0_0_1_1_n_n none (extf .f32 X1 Cert.BranchGradRefIdeal.Gen.bitsLt_bf16_f32) (extf .f32 X0 Cert.BranchGradRefIdeal.Gen.bitsLt_bf16_f32)) Cert.BranchGradRefIdeal.Gen.transposes_S1024x512_S512x1024_1_0) Cert.BranchGradRefIdeal.Gen.transposes_S512x1024_S1024x512_1_0) Cert.BranchGradRefIdeal.Gen.bitsLt_bf16_f32

theorem zero_at (j) : k0_pay1 (F := Ideal) j = 0 := by pointwise [k0_pay1]

theorem step_at (acc : FVec Ideal S512x1024 .f32) (x0 : FVec Ideal S1024x512 .bf16) (x1 : FVec Ideal S1024x1024 .bf16) (j : S512x1024.Idx) :
    k0_pay2 acc x0 x1 j = acc j + ∑ k : Fin 1024, x0 (ix2 k (j 0)) * x1 (ix2 k (j 1)) := by
  pointwise [k0_pay2]

theorem ref_at (X0 : FVec Ideal S8192x512 .bf16) (X1 : FVec Ideal S8192x1024 .bf16) (j : S1024x512.Idx) :
    REF X0 X1 j = ∑ k : Fin 8192, X1 (ix2 k (j 0)) * X0 (ix2 k (j 1)) := by
  pointwise [REF]

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The first point starts from zero. -/
theorem acc_first (c : Dev nD) (t : Fin cfg0.N) (h0 : t.val % 8 = 0) (j) :
    (outsAt0 m c t.val t.isLt).2 j = 0 + ∑ k : Fin 1024, (show FVec Ideal S1024x512 .bf16 from iblk m c 0 t) (ix2 k (j 0)) * (show FVec Ideal S1024x1024 .bf16 from iblk m c 1 t) (ix2 k (j 1)) := by
  rw [outsAt0_A m c t h0 (by omega)]; frame_out; rw [step_at, zero_at]

/-- Each later point adds its row block's product. -/
theorem acc_next (c : Dev nD) (t : Fin cfg0.N) (h0 : ¬ t.val % 8 = 0) (j) :
    (outsAt0 m c t.val t.isLt).2 j = (outsAt0 m c (t.val - 1) (Nat.lt_of_le_of_lt (Nat.sub_le _ _) t.isLt)).2 j
      + ∑ k : Fin 1024, (show FVec Ideal S1024x512 .bf16 from iblk m c 0 t) (ix2 k (j 0)) * (show FVec Ideal S1024x1024 .bf16 from iblk m c 1 t) (ix2 k (j 1)) := by
  by_cases h1 : t.val % 8 = 7
  · rw [outsAt0_C m c t h0 h1]; frame_out; simp only [read_unread_whole]; rw [step_at]
  · rw [outsAt0_B m c t h0 h1]; frame_out; simp only [read_unread_whole]; rw [step_at]

/-- The chunks stored at the last point are the accumulator of that point with its axes exchanged. -/
theorem out_last (c : Dev nD) (t : Fin cfg0.N) (h0 : ¬ t.val % 8 = 0) (h1 : t.val % 8 = 7) (y : S1024x512.Idx) (i : S512x1024.Idx)
    (hi0 : (i 0 : ℕ) = y 1) (hi1 : (i 1 : ℕ) = y 0) :
    (outsAt0 m c t.val t.isLt).1 y = (outsAt0 m c t.val t.isLt).2 i := by
  rw [outsAt0_C m c t h0 h1]
  frame_out
  generalize hg : k0_pay2 (F := Ideal) _ _ _ = g
  simp (disch := decide) only [View.readCov_fill]
  clear hg
  canon_tiles x h
  all_goals (open_payloads; pointwise; blk_ext)

theorem final (c : Dev nD) : (dats m 0 c).arrAt 2 (cfgs 0).N = REF (m ((c : Thread nD τ).loc main_arg0)) (m ((c : Thread nD τ).loc main_arg1)) := by
  refine (dats m 0 c).arrAt_eq_of_after_last 2 t0_7 (by decide +kernel) _ fun j => ?_
  blk_simp
  rw [after0_2, out_last m c t0_7 (by decide) (by decide) j (ix2 (j 1) (j 0)) rfl rfl,
    Pipeline.eq_sum_fin_of_reset_step_apply_last (fun n h => (outsAt0 m c n h).2) 8 (fun _ => 0) _
      (fun t h j => acc_first m c t h j) (fun t h j => acc_next m c t h j) (le_of_eq N_0) t0_7 rfl _, zero_add, ref_at]
  refine Fin.sum_mul_add_congr fun s k hl => ?_
  rw [mul_comm]
  blk_point [iblk, V, idx s]

/-- The reference leaves its arguments as launched. -/
theorem frame_reference : Cert.quiescent_BranchGradRefIdeal := fun m ρ _ =>
  (θ_run Cert.BranchGradRefIdeal.defs _ _).mono
    (fun r h => ⟨fun c => (h c).2, Idealize.ShloMosaic.sem_eq_zero_of_no_sems (by decide) r.2⟩)
    (Cert.BranchGradRefIdeal.Value.run (F := Ideal) m ρ)

/-- Both programs end with the reference's value of the shared arguments. -/
theorem algebraic : Cert.algebraic_BranchGradIdeal_BranchGradRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.BranchGradIdeal.Value.run_blocks m ρ)
  · exact (θ_run Cert.BranchGradRefIdeal.defs _ _).mono (fun _ h c => ⟨((h c).1).trans (by rw [(hargs c).1, (hargs c).2]), (h c).2⟩)
      (Cert.BranchGradRefIdeal.Value.run (F := Ideal) m' ρ')

end Cert.BranchGradIdeal.Val

end
-- ==== Proof.ProjGradValue.lean ====
/-
  The value of the weight gradient of the embedding projection: the accumulator after the last row block is the sum over all
  rows, and each stored chunk is that accumulator with its axes exchanged.
-/
module

public import proofs.«01_k».proof.Defs
public import proofs.«01_k».proof.Proof.Gen.ProjGradIdeal.Value
public import proofs.«01_k».proof.Proof.Gen.ProjGradRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.ProjGradIdeal.Val

open Cert.ProjGradIdeal Cert.ProjGradIdeal.Gen

variable (m : (ℓ : Loc nD τ sig) → Buf (Elt Ideal) ℓ)

/-- What the reference computes of the two arguments. -/
abbrev REF (X0 : FVec Ideal S8192x256 .bf16) (X1 : FVec Ideal S8192x1024 .bf16) : FVec Ideal S1024x256 .bf16 :=
  truncf .bf16 (transpose Cert.ProjGradRefIdeal.S1024x256 [1, 0] (transpose Cert.ProjGradRefIdeal.S256x1024 [1, 0] (Host.dotGeneral Cert.ProjGradRefIdeal.dot_S8192x1024_S8192x256_S1024x256_0_0_1_1_n_n none (extf .f32 X1 Cert.ProjGradRefIdeal.Gen.bitsLt_bf16_f32) (extf .f32 X0 Cert.ProjGradRefIdeal.Gen.bitsLt_bf16_f32)) Cert.ProjGradRefIdeal.Gen.transposes_S1024x256_S256x1024_1_0) Cert.ProjGradRefIdeal.Gen.transposes_S256x1024_S1024x256_1_0) Cert.ProjGradRefIdeal.Gen.bitsLt_bf16_f32

theorem zero_at (j) : k0_pay1 (F := Ideal) j = 0 := by pointwise [k0_pay1]

theorem step_at (acc : FVec Ideal S256x1024 .f32) (x0 : FVec Ideal S1024x256 .bf16) (x1 : FVec Ideal S1024x1024 .bf16) (j : S256x1024.Idx) :
    k0_pay2 acc x0 x1 j = acc j + ∑ k : Fin 1024, x0 (ix2 k (j 0)) * x1 (ix2 k (j 1)) := by
  pointwise [k0_pay2]

theorem ref_at (X0 : FVec Ideal S8192x256 .bf16) (X1 : FVec Ideal S8192x1024 .bf16) (j : S1024x256.Idx) :
    REF X0 X1 j = ∑ k : Fin 8192, X1 (ix2 k (j 0)) * X0 (ix2 k (j 1)) := by
  pointwise [REF]

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The first point starts from zero. -/
theorem acc_first (c : Dev nD) (t : Fin cfg0.N) (h0 : t.val % 8 = 0) (j) :
    (outsAt0 m c t.val t.isLt).2 j = 0 + ∑ k : Fin 1024, (show FVec Ideal S1024x256 .bf16 from iblk m c 0 t) (ix2 k (j 0)) * (show FVec Ideal S1024x1024 .bf16 from iblk m c 1 t) (ix2 k (j 1)) := by
  rw [outsAt0_A m c t h0 (by omega)]; frame_out; rw [step_at, zero_at]

/-- Each later point adds its row block's product. -/
theorem acc_next (c : Dev nD) (t : Fin cfg0.N) (h0 : ¬ t.val % 8 = 0) (j) :
    (outsAt0 m c t.val t.isLt).2 j = (outsAt0 m c (t.val - 1) (Nat.lt_of_le_of_lt (Nat.sub_le _ _) t.isLt)).2 j
      + ∑ k : Fin 1024, (show FVec Ideal S1024x256 .bf16 from iblk m c 0 t) (ix2 k (j 0)) * (show FVec Ideal S1024x1024 .bf16 from iblk m c 1 t) (ix2 k (j 1)) := by
  by_cases h1 : t.val % 8 = 7
  · rw [outsAt0_C m c t h0 h1]; frame_out; simp only [read_unread_whole]; rw [step_at]
  · rw [outsAt0_B m c t h0 h1]; frame_out; simp only [read_unread_whole]; rw [step_at]

/-- The chunks stored at the last point are the accumulator of that point with its axes exchanged. -/
theorem out_last (c : Dev nD) (t : Fin cfg0.N) (h0 : ¬ t.val % 8 = 0) (h1 : t.val % 8 = 7) (y : S1024x256.Idx) (i : S256x1024.Idx)
    (hi0 : (i 0 : ℕ) = y 1) (hi1 : (i 1 : ℕ) = y 0) :
    (outsAt0 m c t.val t.isLt).1 y = (outsAt0 m c t.val t.isLt).2 i := by
  rw [outsAt0_C m c t h0 h1]
  frame_out
  generalize hg : k0_pay2 (F := Ideal) _ _ _ = g
  simp (disch := decide) only [View.readCov_fill]
  clear hg
  canon_tiles x h
  all_goals (open_payloads; pointwise; blk_ext)

theorem final (c : Dev nD) : (dats m 0 c).arrAt 2 (cfgs 0).N = REF (m ((c : Thread nD τ).loc main_arg0)) (m ((c : Thread nD τ).loc main_arg1)) := by
  refine (dats m 0 c).arrAt_eq_of_after_last 2 t0_7 (by decide +kernel) _ fun j => ?_
  blk_simp
  rw [after0_2, out_last m c t0_7 (by decide) (by decide) j (ix2 (j 1) (j 0)) rfl rfl,
    Pipeline.eq_sum_fin_of_reset_step_apply_last (fun n h => (outsAt0 m c n h).2) 8 (fun _ => 0) _
      (fun t h j => acc_first m c t h j) (fun t h j => acc_next m c t h j) (le_of_eq N_0) t0_7 rfl _, zero_add, ref_at]
  refine Fin.sum_mul_add_congr fun s k hl => ?_
  rw [mul_comm]
  blk_point [iblk, V, idx s]

/-- The reference leaves its arguments as launched. -/
theorem frame_reference : Cert.quiescent_ProjGradRefIdeal := fun m ρ _ =>
  (θ_run Cert.ProjGradRefIdeal.defs _ _).mono
    (fun r h => ⟨fun c => (h c).2, Idealize.ShloMosaic.sem_eq_zero_of_no_sems (by decide) r.2⟩)
    (Cert.ProjGradRefIdeal.Value.run (F := Ideal) m ρ)

/-- Both programs end with the reference's value of the shared arguments. -/
theorem algebraic : Cert.algebraic_ProjGradIdeal_ProjGradRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.ProjGradIdeal.Value.run_blocks m ρ)
  · exact (θ_run Cert.ProjGradRefIdeal.defs _ _).mono (fun _ h c => ⟨((h c).1).trans (by rw [(hargs c).1, (hargs c).2]), (h c).2⟩)
      (Cert.ProjGradRefIdeal.Value.run (F := Ideal) m' ρ')

end Cert.ProjGradIdeal.Val

end
-- ==== Proof.InWideGradValue.lean ====
/-
  The value of the weight gradient of the first part of the mixing projection: the accumulator after the last row block is the sum over all
  rows, and each stored chunk is that accumulator with its axes exchanged.
-/
module

public import proofs.«01_k».proof.Defs
public import proofs.«01_k».proof.Proof.Gen.InWideGradIdeal.Value
public import proofs.«01_k».proof.Proof.Gen.InWideGradRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InWideGradIdeal.Val

open Cert.InWideGradIdeal Cert.InWideGradIdeal.Gen

variable (m : (ℓ : Loc nD τ sig) → Buf (Elt Ideal) ℓ)

/-- What the reference computes of the two arguments. -/
abbrev REF (X0 : FVec Ideal S8192x1024 .bf16) (X1 : FVec Ideal S8192x3072 .bf16) : FVec Ideal S3072x1024 .bf16 :=
  truncf .bf16 (transpose Cert.InWideGradRefIdeal.S3072x1024 [1, 0] (transpose Cert.InWideGradRefIdeal.S1024x3072 [1, 0] (Host.dotGeneral Cert.InWideGradRefIdeal.dot_S8192x3072_S8192x1024_S3072x1024_0_0_1_1_n_n none (extf .f32 X1 Cert.InWideGradRefIdeal.Gen.bitsLt_bf16_f32) (extf .f32 X0 Cert.InWideGradRefIdeal.Gen.bitsLt_bf16_f32)) Cert.InWideGradRefIdeal.Gen.transposes_S3072x1024_S1024x3072_1_0) Cert.InWideGradRefIdeal.Gen.transposes_S1024x3072_S3072x1024_1_0) Cert.InWideGradRefIdeal.Gen.bitsLt_bf16_f32

theorem zero_at (j) : k0_pay1 (F := Ideal) j = 0 := by pointwise [k0_pay1]

theorem step_at (acc : FVec Ideal S1024x3072 .f32) (x0 : FVec Ideal S1024x1024 .bf16) (x1 : FVec Ideal S1024x3072 .bf16) (j : S1024x3072.Idx) :
    k0_pay2 acc x0 x1 j = acc j + ∑ k : Fin 1024, x0 (ix2 k (j 0)) * x1 (ix2 k (j 1)) := by
  pointwise [k0_pay2]

theorem ref_at (X0 : FVec Ideal S8192x1024 .bf16) (X1 : FVec Ideal S8192x3072 .bf16) (j : S3072x1024.Idx) :
    REF X0 X1 j = ∑ k : Fin 8192, X1 (ix2 k (j 0)) * X0 (ix2 k (j 1)) := by
  pointwise [REF]

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The first point starts from zero. -/
theorem acc_first (c : Dev nD) (t : Fin cfg0.N) (h0 : t.val % 8 = 0) (j) :
    (outsAt0 m c t.val t.isLt).2 j = 0 + ∑ k : Fin 1024, (show FVec Ideal S1024x1024 .bf16 from iblk m c 0 t) (ix2 k (j 0)) * (show FVec Ideal S1024x3072 .bf16 from iblk m c 1 t) (ix2 k (j 1)) := by
  rw [outsAt0_A m c t h0 (by omega)]; frame_out; rw [step_at, zero_at]

/-- Each later point adds its row block's product. -/
theorem acc_next (c : Dev nD) (t : Fin cfg0.N) (h0 : ¬ t.val % 8 = 0) (j) :
    (outsAt0 m c t.val t.isLt).2 j = (outsAt0 m c (t.val - 1) (Nat.lt_of_le_of_lt (Nat.sub_le _ _) t.isLt)).2 j
      + ∑ k : Fin 1024, (show FVec Ideal S1024x1024 .bf16 from iblk m c 0 t) (ix2 k (j 0)) * (show FVec Ideal S1024x3072 .bf16 from iblk m c 1 t) (ix2 k (j 1)) := by
  by_cases h1 : t.val % 8 = 7
  · rw [outsAt0_C m c t h0 h1]; frame_out; simp only [read_unread_whole]; rw [step_at]
  · rw [outsAt0_B m c t h0 h1]; frame_out; simp only [read_unread_whole]; rw [step_at]

/-- The chunks stored at the last point are the accumulator of that point with its axes exchanged. -/
theorem out_last (c : Dev nD) (t : Fin cfg0.N) (h0 : ¬ t.val % 8 = 0) (h1 : t.val % 8 = 7) (y : S3072x1024.Idx) (i : S1024x3072.Idx)
    (hi0 : (i 0 : ℕ) = y 1) (hi1 : (i 1 : ℕ) = y 0) :
    (outsAt0 m c t.val t.isLt).1 y = (outsAt0 m c t.val t.isLt).2 i := by
  rw [outsAt0_C m c t h0 h1]
  frame_out
  generalize hg : k0_pay2 (F := Ideal) _ _ _ = g
  simp (disch := decide) only [View.readCov_fill]
  clear hg
  canon_tiles x h
  all_goals (open_payloads; pointwise; blk_ext)

theorem final (c : Dev nD) : (dats m 0 c).arrAt 2 (cfgs 0).N = REF (m ((c : Thread nD τ).loc main_arg0)) (m ((c : Thread nD τ).loc main_arg1)) := by
  refine (dats m 0 c).arrAt_eq_of_after_last 2 t0_7 (by decide +kernel) _ fun j => ?_
  blk_simp
  rw [after0_2, out_last m c t0_7 (by decide) (by decide) j (ix2 (j 1) (j 0)) rfl rfl,
    Pipeline.eq_sum_fin_of_reset_step_apply_last (fun n h => (outsAt0 m c n h).2) 8 (fun _ => 0) _
      (fun t h j => acc_first m c t h j) (fun t h j => acc_next m c t h j) (le_of_eq N_0) t0_7 rfl _, zero_add, ref_at]
  refine Fin.sum_mul_add_congr fun s k hl => ?_
  rw [mul_comm]
  blk_point [iblk, V, idx s]

/-- The reference leaves its arguments as launched. -/
theorem frame_reference : Cert.quiescent_InWideGradRefIdeal := fun m ρ _ =>
  (θ_run Cert.InWideGradRefIdeal.defs _ _).mono
    (fun r h => ⟨fun c => (h c).2, Idealize.ShloMosaic.sem_eq_zero_of_no_sems (by decide) r.2⟩)
    (Cert.InWideGradRefIdeal.Value.run (F := Ideal) m ρ)

/-- Both programs end with the reference's value of the shared arguments. -/
theorem algebraic : Cert.algebraic_InWideGradIdeal_InWideGradRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.InWideGradIdeal.Value.run_blocks m ρ)
  · exact (θ_run Cert.InWideGradRefIdeal.defs _ _).mono (fun _ h c => ⟨((h c).1).trans (by rw [(hargs c).1, (hargs c).2]), (h c).2⟩)
      (Cert.InWideGradRefIdeal.Value.run (F := Ideal) m' ρ')

end Cert.InWideGradIdeal.Val

end
-- ==== Proof.InMidGradValue.lean ====
/-
  The value of the weight gradient of one gate of the mixing projection: the accumulator after the last row block is the sum over all
  rows, and each stored chunk is that accumulator with its axes exchanged.
-/
module

public import proofs.«01_k».proof.Defs
public import proofs.«01_k».proof.Proof.Gen.InMidGradIdeal.Value
public import proofs.«01_k».proof.Proof.Gen.InMidGradRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InMidGradIdeal.Val

open Cert.InMidGradIdeal Cert.InMidGradIdeal.Gen

variable (m : (ℓ : Loc nD τ sig) → Buf (Elt Ideal) ℓ)

/-- What the reference computes of the two arguments. -/
abbrev REF (X0 : FVec Ideal S8192x1024 .bf16) (X1 : FVec Ideal S8192x1024 .bf16) : FVec Ideal S1024x1024 .bf16 :=
  truncf .bf16 (transpose Cert.InMidGradRefIdeal.S1024x1024 [1, 0] (transpose Cert.InMidGradRefIdeal.S1024x1024 [1, 0] (Host.dotGeneral Cert.InMidGradRefIdeal.dot_S8192x1024_S8192x1024_S1024x1024_0_0_1_1_n_n none (extf .f32 X1 Cert.InMidGradRefIdeal.Gen.bitsLt_bf16_f32) (extf .f32 X0 Cert.InMidGradRefIdeal.Gen.bitsLt_bf16_f32)) Cert.InMidGradRefIdeal.Gen.transposes_S1024x1024_S1024x1024_1_0) Cert.InMidGradRefIdeal.Gen.transposes_S1024x1024_S1024x1024_1_0) Cert.InMidGradRefIdeal.Gen.bitsLt_bf16_f32

theorem zero_at (j) : k0_pay1 (F := Ideal) j = 0 := by pointwise [k0_pay1]

theorem step_at (acc : FVec Ideal S1024x1024 .f32) (x0 : FVec Ideal S1024x1024 .bf16) (x1 : FVec Ideal S1024x1024 .bf16) (j : S1024x1024.Idx) :
    k0_pay2 acc x0 x1 j = acc j + ∑ k : Fin 1024, x0 (ix2 k (j 0)) * x1 (ix2 k (j 1)) := by
  pointwise [k0_pay2]

theorem ref_at (X0 : FVec Ideal S8192x1024 .bf16) (X1 : FVec Ideal S8192x1024 .bf16) (j : S1024x1024.Idx) :
    REF X0 X1 j = ∑ k : Fin 8192, X1 (ix2 k (j 0)) * X0 (ix2 k (j 1)) := by
  pointwise [REF]

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The first point starts from zero. -/
theorem acc_first (c : Dev nD) (t : Fin cfg0.N) (h0 : t.val % 8 = 0) (j) :
    (outsAt0 m c t.val t.isLt).2 j = 0 + ∑ k : Fin 1024, (show FVec Ideal S1024x1024 .bf16 from iblk m c 0 t) (ix2 k (j 0)) * (show FVec Ideal S1024x1024 .bf16 from iblk m c 1 t) (ix2 k (j 1)) := by
  rw [outsAt0_A m c t h0 (by omega)]; frame_out; rw [step_at, zero_at]

/-- Each later point adds its row block's product. -/
theorem acc_next (c : Dev nD) (t : Fin cfg0.N) (h0 : ¬ t.val % 8 = 0) (j) :
    (outsAt0 m c t.val t.isLt).2 j = (outsAt0 m c (t.val - 1) (Nat.lt_of_le_of_lt (Nat.sub_le _ _) t.isLt)).2 j
      + ∑ k : Fin 1024, (show FVec Ideal S1024x1024 .bf16 from iblk m c 0 t) (ix2 k (j 0)) * (show FVec Ideal S1024x1024 .bf16 from iblk m c 1 t) (ix2 k (j 1)) := by
  by_cases h1 : t.val % 8 = 7
  · rw [outsAt0_C m c t h0 h1]; frame_out; simp only [read_unread_whole]; rw [step_at]
  · rw [outsAt0_B m c t h0 h1]; frame_out; simp only [read_unread_whole]; rw [step_at]

/-- The chunks stored at the last point are the accumulator of that point with its axes exchanged. -/
theorem out_last (c : Dev nD) (t : Fin cfg0.N) (h0 : ¬ t.val % 8 = 0) (h1 : t.val % 8 = 7) (y : S1024x1024.Idx) (i : S1024x1024.Idx)
    (hi0 : (i 0 : ℕ) = y 1) (hi1 : (i 1 : ℕ) = y 0) :
    (outsAt0 m c t.val t.isLt).1 y = (outsAt0 m c t.val t.isLt).2 i := by
  rw [outsAt0_C m c t h0 h1]
  frame_out
  generalize hg : k0_pay2 (F := Ideal) _ _ _ = g
  simp (disch := decide) only [View.readCov_fill]
  clear hg
  canon_tiles x h
  all_goals (open_payloads; pointwise; blk_ext)

theorem final (c : Dev nD) : (dats m 0 c).arrAt 2 (cfgs 0).N = REF (m ((c : Thread nD τ).loc main_arg0)) (m ((c : Thread nD τ).loc main_arg1)) := by
  refine (dats m 0 c).arrAt_eq_of_after_last 2 t0_7 (by decide +kernel) _ fun j => ?_
  blk_simp
  rw [after0_2, out_last m c t0_7 (by decide) (by decide) j (ix2 (j 1) (j 0)) rfl rfl,
    Pipeline.eq_sum_fin_of_reset_step_apply_last (fun n h => (outsAt0 m c n h).2) 8 (fun _ => 0) _
      (fun t h j => acc_first m c t h j) (fun t h j => acc_next m c t h j) (le_of_eq N_0) t0_7 rfl _, zero_add, ref_at]
  refine Fin.sum_mul_add_congr fun s k hl => ?_
  rw [mul_comm]
  blk_point [iblk, V, idx s]

/-- The reference leaves its arguments as launched. -/
theorem frame_reference : Cert.quiescent_InMidGradRefIdeal := fun m ρ _ =>
  (θ_run Cert.InMidGradRefIdeal.defs _ _).mono
    (fun r h => ⟨fun c => (h c).2, Idealize.ShloMosaic.sem_eq_zero_of_no_sems (by decide) r.2⟩)
    (Cert.InMidGradRefIdeal.Value.run (F := Ideal) m ρ)

/-- Both programs end with the reference's value of the shared arguments. -/
theorem algebraic : Cert.algebraic_InMidGradIdeal_InMidGradRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.InMidGradIdeal.Value.run_blocks m ρ)
  · exact (θ_run Cert.InMidGradRefIdeal.defs _ _).mono (fun _ h c => ⟨((h c).1).trans (by rw [(hargs c).1, (hargs c).2]), (h c).2⟩)
      (Cert.InMidGradRefIdeal.Value.run (F := Ideal) m' ρ')

end Cert.InMidGradIdeal.Val

end
-- ==== Proof.InSmallGradValue.lean ====
/-
  The value of the weight gradient of the pooled part of the mixing projection: the accumulator after the last row block is the sum over all
  rows, and each stored chunk is that accumulator with its axes exchanged.
-/
module

public import proofs.«01_k».proof.Defs
public import proofs.«01_k».proof.Proof.Gen.InSmallGradIdeal.Value
public import proofs.«01_k».proof.Proof.Gen.InSmallGradRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InSmallGradIdeal.Val

open Cert.InSmallGradIdeal Cert.InSmallGradIdeal.Gen

variable (m : (ℓ : Loc nD τ sig) → Buf (Elt Ideal) ℓ)

/-- What the reference computes of the two arguments. -/
abbrev REF (X0 : FVec Ideal S8192x1024 .bf16) (X1 : FVec Ideal S8192x512 .bf16) : FVec Ideal S512x1024 .bf16 :=
  truncf .bf16 (transpose Cert.InSmallGradRefIdeal.S512x1024 [1, 0] (transpose Cert.InSmallGradRefIdeal.S1024x512 [1, 0] (Host.dotGeneral Cert.InSmallGradRefIdeal.dot_S8192x512_S8192x1024_S512x1024_0_0_1_1_n_n none (extf .f32 X1 Cert.InSmallGradRefIdeal.Gen.bitsLt_bf16_f32) (extf .f32 X0 Cert.InSmallGradRefIdeal.Gen.bitsLt_bf16_f32)) Cert.InSmallGradRefIdeal.Gen.transposes_S512x1024_S1024x512_1_0) Cert.InSmallGradRefIdeal.Gen.transposes_S1024x512_S512x1024_1_0) Cert.InSmallGradRefIdeal.Gen.bitsLt_bf16_f32

theorem zero_at (j) : k0_pay1 (F := Ideal) j = 0 := by pointwise [k0_pay1]

theorem step_at (acc : FVec Ideal S1024x512 .f32) (x0 : FVec Ideal S1024x1024 .bf16) (x1 : FVec Ideal S1024x512 .bf16) (j : S1024x512.Idx) :
    k0_pay2 acc x0 x1 j = acc j + ∑ k : Fin 1024, x0 (ix2 k (j 0)) * x1 (ix2 k (j 1)) := by
  pointwise [k0_pay2]

theorem ref_at (X0 : FVec Ideal S8192x1024 .bf16) (X1 : FVec Ideal S8192x512 .bf16) (j : S512x1024.Idx) :
    REF X0 X1 j = ∑ k : Fin 8192, X1 (ix2 k (j 0)) * X0 (ix2 k (j 1)) := by
  pointwise [REF]

theorem idx : ∀ t : Fin cfg0.N, win0_0.index t = ![t.val, 0] ∧ win0_1.index t = ![t.val, 0] ∧ win0_2.index t = ![0, 0] :=
  (by decide +kernel : ∀ t : Fin grid0.N, win0_0.index t = ![t.val, 0] ∧ win0_1.index t = ![t.val, 0] ∧ win0_2.index t = ![0, 0])

/-- The first point starts from zero. -/
theorem acc_first (c : Dev nD) (t : Fin cfg0.N) (h0 : t.val % 8 = 0) (j) :
    (outsAt0 m c t.val t.isLt).2 j = 0 + ∑ k : Fin 1024, (show FVec Ideal S1024x1024 .bf16 from iblk m c 0 t) (ix2 k (j 0)) * (show FVec Ideal S1024x512 .bf16 from iblk m c 1 t) (ix2 k (j 1)) := by
  rw [outsAt0_A m c t h0 (by omega)]; frame_out; rw [step_at, zero_at]

/-- Each later point adds its row block's product. -/
theorem acc_next (c : Dev nD) (t : Fin cfg0.N) (h0 : ¬ t.val % 8 = 0) (j) :
    (outsAt0 m c t.val t.isLt).2 j = (outsAt0 m c (t.val - 1) (Nat.lt_of_le_of_lt (Nat.sub_le _ _) t.isLt)).2 j
      + ∑ k : Fin 1024, (show FVec Ideal S1024x1024 .bf16 from iblk m c 0 t) (ix2 k (j 0)) * (show FVec Ideal S1024x512 .bf16 from iblk m c 1 t) (ix2 k (j 1)) := by
  by_cases h1 : t.val % 8 = 7
  · rw [outsAt0_C m c t h0 h1]; frame_out; simp only [read_unread_whole]; rw [step_at]
  · rw [outsAt0_B m c t h0 h1]; frame_out; simp only [read_unread_whole]; rw [step_at]

/-- The chunks stored at the last point are the accumulator of that point with its axes exchanged. -/
theorem out_last (c : Dev nD) (t : Fin cfg0.N) (h0 : ¬ t.val % 8 = 0) (h1 : t.val % 8 = 7) (y : S512x1024.Idx) (i : S1024x512.Idx)
    (hi0 : (i 0 : ℕ) = y 1) (hi1 : (i 1 : ℕ) = y 0) :
    (outsAt0 m c t.val t.isLt).1 y = (outsAt0 m c t.val t.isLt).2 i := by
  rw [outsAt0_C m c t h0 h1]
  frame_out
  generalize hg : k0_pay2 (F := Ideal) _ _ _ = g
  simp (disch := decide) only [View.readCov_fill]
  clear hg
  canon_tiles x h
  all_goals (open_payloads; pointwise; blk_ext)

theorem final (c : Dev nD) : (dats m 0 c).arrAt 2 (cfgs 0).N = REF (m ((c : Thread nD τ).loc main_arg0)) (m ((c : Thread nD τ).loc main_arg1)) := by
  refine (dats m 0 c).arrAt_eq_of_after_last 2 t0_7 (by decide +kernel) _ fun j => ?_
  blk_simp
  rw [after0_2, out_last m c t0_7 (by decide) (by decide) j (ix2 (j 1) (j 0)) rfl rfl,
    Pipeline.eq_sum_fin_of_reset_step_apply_last (fun n h => (outsAt0 m c n h).2) 8 (fun _ => 0) _
      (fun t h j => acc_first m c t h j) (fun t h j => acc_next m c t h j) (le_of_eq N_0) t0_7 rfl _, zero_add, ref_at]
  refine Fin.sum_mul_add_congr fun s k hl => ?_
  rw [mul_comm]
  blk_point [iblk, V, idx s]

/-- The reference leaves its arguments as launched. -/
theorem frame_reference : Cert.quiescent_InSmallGradRefIdeal := fun m ρ _ =>
  (θ_run Cert.InSmallGradRefIdeal.defs _ _).mono
    (fun r h => ⟨fun c => (h c).2, Idealize.ShloMosaic.sem_eq_zero_of_no_sems (by decide) r.2⟩)
    (Cert.InSmallGradRefIdeal.Value.run (F := Ideal) m ρ)

/-- Both programs end with the reference's value of the shared arguments. -/
theorem algebraic : Cert.algebraic_InSmallGradIdeal_InSmallGradRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.InSmallGradIdeal.Value.run_blocks m ρ)
  · exact (θ_run Cert.InSmallGradRefIdeal.defs _ _).mono (fun _ h c => ⟨((h c).1).trans (by rw [(hargs c).1, (hargs c).2]), (h c).2⟩)
      (Cert.InSmallGradRefIdeal.Value.run (F := Ideal) m' ρ')

end Cert.InSmallGradIdeal.Val

end
-- ==== Proof.InProjValue.lean ====
/-
  The value of the mixing projection: every chunk of a row block is that block's product with the chunk's columns of the
  weight, and the row blocks tile the result.
-/
module

public import proofs.«01_k».proof.Defs
public import proofs.«01_k».proof.Proof.Gen.InProjIdeal.Value
public import proofs.«01_k».proof.Proof.Gen.InProjRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.InProjIdeal.Val

open Cert.InProjIdeal Cert.InProjIdeal.Gen

variable (m : (ℓ : Loc nD τ sig) → Buf (Elt Ideal) ℓ)

/-- What the reference computes of the two arguments. -/
abbrev REF (X0 : FVec Ideal S8192x1024 .bf16) (X1 : FVec Ideal S6656x1024 .bf16) : FVec Ideal S8192x6656 .bf16 :=
  truncf .bf16 (Host.dotGeneral Cert.InProjRefIdeal.dot_S8192x1024_S1024x6656_S8192x6656_1_0_0_1_n_n none (extf .f32 X0 Cert.InProjRefIdeal.Gen.bitsLt_bf16_f32) (transpose Cert.InProjRefIdeal.S1024x6656 [1, 0] (extf .f32 X1 Cert.InProjRefIdeal.Gen.bitsLt_bf16_f32) Cert.InProjRefIdeal.Gen.transposes_S6656x1024_S1024x6656_1_0)) Cert.InProjRefIdeal.Gen.bitsLt_bf16_f32

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The stored block at an index: the chunks together are the block's product. -/
theorem out_at (x0 : FVec Ideal S512x1024 .bf16) (x1 : FVec Ideal S6656x1024 .bf16) (y : S512x6656.Idx) :
    out0_2 (F := Ideal) x0 x1 y = ∑ k : Fin 1024, x0 (ix2 (y 0) k) * x1 (ix2 (y 1) k) := by
  canon_tiles x h
  all_goals (open_payloads; pointwise; refine Fin.sum_fin_congr fun k => congr_arg₂ (· * ·) ?_ ?_ <;> blk_ext)

theorem ref_at (X0 : FVec Ideal S8192x1024 .bf16) (X1 : FVec Ideal S6656x1024 .bf16) (j : S8192x6656.Idx) :
    REF X0 X1 j = ∑ k : Fin 1024, X0 (ix2 (j 0) k) * X1 (ix2 (j 1) k) := by
  pointwise [REF]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  refine (out_at _ _ _).trans ?_
  rw [ref_at]
  refine Fin.sum_fin_congr fun k => ?_
  blk_point [iblk, V, idx t]

/-- The reference leaves its arguments as launched. -/
theorem frame_reference : Cert.quiescent_InProjRefIdeal := fun m ρ _ =>
  (θ_run Cert.InProjRefIdeal.defs _ _).mono
    (fun r h => ⟨fun c => (h c).2, Idealize.ShloMosaic.sem_eq_zero_of_no_sems (by decide) r.2⟩)
    (Cert.InProjRefIdeal.Value.run (F := Ideal) m ρ)

/-- Both programs end with the reference's value of the shared arguments. -/
theorem algebraic : Cert.algebraic_InProjIdeal_InProjRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.InProjIdeal.Value.run_blocks m ρ)
  · exact (θ_run Cert.InProjRefIdeal.defs _ _).mono (fun _ h c => ⟨((h c).1).trans (by rw [(hargs c).1, (hargs c).2]), (h c).2⟩)
      (Cert.InProjRefIdeal.Value.run (F := Ideal) m' ρ')

end Cert.InProjIdeal.Val

end
-- ==== Proof.BranchAValue.lean ====
/-
  The value of the first branch and of the gate: every chunk of a row block is that block's product with the chunk's columns of the
  weight, and the row blocks tile the result.
-/
module

public import proofs.«01_k».proof.Defs
public import proofs.«01_k».proof.Proof.Gen.BranchAIdeal.Value
public import proofs.«01_k».proof.Proof.Gen.BranchARefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BranchAIdeal.Val

open Cert.BranchAIdeal Cert.BranchAIdeal.Gen

variable (m : (ℓ : Loc nD τ sig) → Buf (Elt Ideal) ℓ)

/-- What the reference computes of the two arguments. -/
abbrev REF (X0 : FVec Ideal S8192x1024 .bf16) (X1 : FVec Ideal S1024x1024 .bf16) : FVec Ideal S8192x1024 .bf16 :=
  truncf .bf16 (Host.dotGeneral Cert.BranchARefIdeal.dot_S8192x1024_S1024x1024_S8192x1024_1_0_0_1_n_n none (extf .f32 X0 Cert.BranchARefIdeal.Gen.bitsLt_bf16_f32) (extf .f32 X1 Cert.BranchARefIdeal.Gen.bitsLt_bf16_f32)) Cert.BranchARefIdeal.Gen.bitsLt_bf16_f32

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The stored block at an index: the chunks together are the block's product. -/
theorem out_at (x0 : FVec Ideal S1024x1024 .bf16) (x1 : FVec Ideal S1024x1024 .bf16) (y : S1024x1024.Idx) :
    out0_2 (F := Ideal) x0 x1 y = ∑ k : Fin 1024, x0 (ix2 (y 0) k) * x1 (ix2 k (y 1)) := by
  canon_tiles x h
  all_goals (open_payloads; pointwise; refine Fin.sum_fin_congr fun k => congr_arg₂ (· * ·) ?_ ?_ <;> blk_ext)

theorem ref_at (X0 : FVec Ideal S8192x1024 .bf16) (X1 : FVec Ideal S1024x1024 .bf16) (j : S8192x1024.Idx) :
    REF X0 X1 j = ∑ k : Fin 1024, X0 (ix2 (j 0) k) * X1 (ix2 k (j 1)) := by
  pointwise [REF]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  refine (out_at _ _ _).trans ?_
  rw [ref_at]
  refine Fin.sum_fin_congr fun k => ?_
  blk_point [iblk, V, idx t]

/-- The reference leaves its arguments as launched. -/
theorem frame_reference : Cert.quiescent_BranchARefIdeal := fun m ρ _ =>
  (θ_run Cert.BranchARefIdeal.defs _ _).mono
    (fun r h => ⟨fun c => (h c).2, Idealize.ShloMosaic.sem_eq_zero_of_no_sems (by decide) r.2⟩)
    (Cert.BranchARefIdeal.Value.run (F := Ideal) m ρ)

/-- Both programs end with the reference's value of the shared arguments. -/
theorem algebraic : Cert.algebraic_BranchAIdeal_BranchARefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.BranchAIdeal.Value.run_blocks m ρ)
  · exact (θ_run Cert.BranchARefIdeal.defs _ _).mono (fun _ h c => ⟨((h c).1).trans (by rw [(hargs c).1, (hargs c).2]), (h c).2⟩)
      (Cert.BranchARefIdeal.Value.run (F := Ideal) m' ρ')

end Cert.BranchAIdeal.Val

end
-- ==== Proof.BranchBValue.lean ====
/-
  The value of the second branch: every chunk of a row block is that block's product with the chunk's columns of the
  weight, and the row blocks tile the result.
-/
module

public import proofs.«01_k».proof.Defs
public import proofs.«01_k».proof.Proof.Gen.BranchBIdeal.Value
public import proofs.«01_k».proof.Proof.Gen.BranchBRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.BranchBIdeal.Val

open Cert.BranchBIdeal Cert.BranchBIdeal.Gen

variable (m : (ℓ : Loc nD τ sig) → Buf (Elt Ideal) ℓ)

/-- What the reference computes of the two arguments. -/
abbrev REF (X0 : FVec Ideal S8192x512 .bf16) (X1 : FVec Ideal S1024x512 .bf16) : FVec Ideal S8192x1024 .bf16 :=
  truncf .bf16 (Host.dotGeneral Cert.BranchBRefIdeal.dot_S8192x512_S512x1024_S8192x1024_1_0_0_1_n_n none (extf .f32 X0 Cert.BranchBRefIdeal.Gen.bitsLt_bf16_f32) (transpose Cert.BranchBRefIdeal.S512x1024 [1, 0] (extf .f32 X1 Cert.BranchBRefIdeal.Gen.bitsLt_bf16_f32) Cert.BranchBRefIdeal.Gen.transposes_S1024x512_S512x1024_1_0)) Cert.BranchBRefIdeal.Gen.bitsLt_bf16_f32

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The stored block at an index: the chunks together are the block's product. -/
theorem out_at (x0 : FVec Ideal S1024x512 .bf16) (x1 : FVec Ideal S1024x512 .bf16) (y : S1024x1024.Idx) :
    out0_2 (F := Ideal) x0 x1 y = ∑ k : Fin 512, x0 (ix2 (y 0) k) * x1 (ix2 (y 1) k) := by
  canon_tiles x h
  all_goals (open_payloads; pointwise; refine Fin.sum_fin_congr fun k => congr_arg₂ (· * ·) ?_ ?_ <;> blk_ext)

theorem ref_at (X0 : FVec Ideal S8192x512 .bf16) (X1 : FVec Ideal S1024x512 .bf16) (j : S8192x1024.Idx) :
    REF X0 X1 j = ∑ k : Fin 512, X0 (ix2 (j 0) k) * X1 (ix2 (j 1) k) := by
  pointwise [REF]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  refine (out_at _ _ _).trans ?_
  rw [ref_at]
  refine Fin.sum_fin_congr fun k => ?_
  blk_point [iblk, V, idx t]

/-- The reference leaves its arguments as launched. -/
theorem frame_reference : Cert.quiescent_BranchBRefIdeal := fun m ρ _ =>
  (θ_run Cert.BranchBRefIdeal.defs _ _).mono
    (fun r h => ⟨fun c => (h c).2, Idealize.ShloMosaic.sem_eq_zero_of_no_sems (by decide) r.2⟩)
    (Cert.BranchBRefIdeal.Value.run (F := Ideal) m ρ)

/-- Both programs end with the reference's value of the shared arguments. -/
theorem algebraic : Cert.algebraic_BranchBIdeal_BranchBRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.BranchBIdeal.Value.run_blocks m ρ)
  · exact (θ_run Cert.BranchBRefIdeal.defs _ _).mono (fun _ h c => ⟨((h c).1).trans (by rw [(hargs c).1, (hargs c).2]), (h c).2⟩)
      (Cert.BranchBRefIdeal.Value.run (F := Ideal) m' ρ')

end Cert.BranchBIdeal.Val

end
-- ==== Proof.PleProjValue.lean ====
/-
  The value of the embedding projection: every chunk of a row block is that block's product with the chunk's columns of the
  weight, and the row blocks tile the result.
-/
module

public import proofs.«01_k».proof.Defs
public import proofs.«01_k».proof.Proof.Gen.PleProjIdeal.Value
public import proofs.«01_k».proof.Proof.Gen.PleProjRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.PleProjIdeal.Val

open Cert.PleProjIdeal Cert.PleProjIdeal.Gen

variable (m : (ℓ : Loc nD τ sig) → Buf (Elt Ideal) ℓ)

/-- What the reference computes of the two arguments. -/
abbrev REF (X0 : FVec Ideal S8192x256 .bf16) (X1 : FVec Ideal S1024x256 .bf16) : FVec Ideal S8192x1024 .bf16 :=
  truncf .bf16 (Host.dotGeneral Cert.PleProjRefIdeal.dot_S8192x256_S256x1024_S8192x1024_1_0_0_1_n_n none (extf .f32 X0 Cert.PleProjRefIdeal.Gen.bitsLt_bf16_f32) (transpose Cert.PleProjRefIdeal.S256x1024 [1, 0] (extf .f32 X1 Cert.PleProjRefIdeal.Gen.bitsLt_bf16_f32) Cert.PleProjRefIdeal.Gen.transposes_S1024x256_S256x1024_1_0)) Cert.PleProjRefIdeal.Gen.bitsLt_bf16_f32

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The stored block at an index: the chunks together are the block's product. -/
theorem out_at (x0 : FVec Ideal S1024x256 .bf16) (x1 : FVec Ideal S1024x256 .bf16) (y : S1024x1024.Idx) :
    out0_2 (F := Ideal) x0 x1 y = ∑ k : Fin 256, x0 (ix2 (y 0) k) * x1 (ix2 (y 1) k) := by
  canon_tiles x h
  all_goals (open_payloads; pointwise; refine Fin.sum_fin_congr fun k => congr_arg₂ (· * ·) ?_ ?_ <;> blk_ext)

theorem ref_at (X0 : FVec Ideal S8192x256 .bf16) (X1 : FVec Ideal S1024x256 .bf16) (j : S8192x1024.Idx) :
    REF X0 X1 j = ∑ k : Fin 256, X0 (ix2 (j 0) k) * X1 (ix2 (j 1) k) := by
  pointwise [REF]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  refine (out_at _ _ _).trans ?_
  rw [ref_at]
  refine Fin.sum_fin_congr fun k => ?_
  blk_point [iblk, V, idx t]

/-- The reference leaves its arguments as launched. -/
theorem frame_reference : Cert.quiescent_PleProjRefIdeal := fun m ρ _ =>
  (θ_run Cert.PleProjRefIdeal.defs _ _).mono
    (fun r h => ⟨fun c => (h c).2, Idealize.ShloMosaic.sem_eq_zero_of_no_sems (by decide) r.2⟩)
    (Cert.PleProjRefIdeal.Value.run (F := Ideal) m ρ)

/-- Both programs end with the reference's value of the shared arguments. -/
theorem algebraic : Cert.algebraic_PleProjIdeal_PleProjRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.PleProjIdeal.Value.run_blocks m ρ)
  · exact (θ_run Cert.PleProjRefIdeal.defs _ _).mono (fun _ h c => ⟨((h c).1).trans (by rw [(hargs c).1, (hargs c).2]), (h c).2⟩)
      (Cert.PleProjRefIdeal.Value.run (F := Ideal) m' ρ')

end Cert.PleProjIdeal.Val

end
-- ==== Proof.OutGradValue.lean ====
/-
  The value of the gradient at the input of a square projection: every chunk of a row block is that block's product with the chunk's columns of the
  weight, and the row blocks tile the result.
-/
module

public import proofs.«01_k».proof.Defs
public import proofs.«01_k».proof.Proof.Gen.OutGradIdeal.Value
public import proofs.«01_k».proof.Proof.Gen.OutGradRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutGradIdeal.Val

open Cert.OutGradIdeal Cert.OutGradIdeal.Gen

variable (m : (ℓ : Loc nD τ sig) → Buf (Elt Ideal) ℓ)

/-- What the reference computes of the two arguments. -/
abbrev REF (X0 : FVec Ideal S8192x1024 .bf16) (X1 : FVec Ideal S1024x1024 .bf16) : FVec Ideal S8192x1024 .bf16 :=
  truncf .bf16 (Host.dotGeneral Cert.OutGradRefIdeal.dot_S8192x1024_S1024x1024_S8192x1024_1_1_0_0_n_n none (extf .f32 X0 Cert.OutGradRefIdeal.Gen.bitsLt_bf16_f32) (extf .f32 X1 Cert.OutGradRefIdeal.Gen.bitsLt_bf16_f32)) Cert.OutGradRefIdeal.Gen.bitsLt_bf16_f32

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The stored block at an index: the chunks together are the block's product. -/
theorem out_at (x0 : FVec Ideal S1024x1024 .bf16) (x1 : FVec Ideal S1024x1024 .bf16) (y : S1024x1024.Idx) :
    out0_2 (F := Ideal) x0 x1 y = ∑ k : Fin 1024, x0 (ix2 (y 0) k) * x1 (ix2 (y 1) k) := by
  canon_tiles x h
  all_goals (open_payloads; pointwise; refine Fin.sum_fin_congr fun k => congr_arg₂ (· * ·) ?_ ?_ <;> blk_ext)

theorem ref_at (X0 : FVec Ideal S8192x1024 .bf16) (X1 : FVec Ideal S1024x1024 .bf16) (j : S8192x1024.Idx) :
    REF X0 X1 j = ∑ k : Fin 1024, X0 (ix2 (j 0) k) * X1 (ix2 (j 1) k) := by
  pointwise [REF]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  refine (out_at _ _ _).trans ?_
  rw [ref_at]
  refine Fin.sum_fin_congr fun k => ?_
  blk_point [iblk, V, idx t]

/-- The reference leaves its arguments as launched. -/
theorem frame_reference : Cert.quiescent_OutGradRefIdeal := fun m ρ _ =>
  (θ_run Cert.OutGradRefIdeal.defs _ _).mono
    (fun r h => ⟨fun c => (h c).2, Idealize.ShloMosaic.sem_eq_zero_of_no_sems (by decide) r.2⟩)
    (Cert.OutGradRefIdeal.Value.run (F := Ideal) m ρ)

/-- Both programs end with the reference's value of the shared arguments. -/
theorem algebraic : Cert.algebraic_OutGradIdeal_OutGradRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.OutGradIdeal.Value.run_blocks m ρ)
  · exact (θ_run Cert.OutGradRefIdeal.defs _ _).mono (fun _ h c => ⟨((h c).1).trans (by rw [(hargs c).1, (hargs c).2]), (h c).2⟩)
      (Cert.OutGradRefIdeal.Value.run (F := Ideal) m' ρ')

end Cert.OutGradIdeal.Val

end
-- ==== Proof.MixedGradValue.lean ====
/-
  The value of the gradient at the pooled input of the second branch: every chunk of a row block is that block's product with the chunk's columns of the
  weight, and the row blocks tile the result.
-/
module

public import proofs.«01_k».proof.Defs
public import proofs.«01_k».proof.Proof.Gen.MixedGradIdeal.Value
public import proofs.«01_k».proof.Proof.Gen.MixedGradRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.MixedGradIdeal.Val

open Cert.MixedGradIdeal Cert.MixedGradIdeal.Gen

variable (m : (ℓ : Loc nD τ sig) → Buf (Elt Ideal) ℓ)

/-- What the reference computes of the two arguments. -/
abbrev REF (X0 : FVec Ideal S8192x1024 .bf16) (X1 : FVec Ideal S1024x512 .bf16) : FVec Ideal S8192x512 .f32 :=
  Host.dotGeneral Cert.MixedGradRefIdeal.dot_S8192x1024_S512x1024_S8192x512_1_1_0_0_n_n none (extf .f32 X0 Cert.MixedGradRefIdeal.Gen.bitsLt_bf16_f32) (extf .f32 (transpose Cert.MixedGradRefIdeal.S512x1024 [1, 0] X1 Cert.MixedGradRefIdeal.Gen.transposes_S1024x512_S512x1024_1_0) Cert.MixedGradRefIdeal.Gen.bitsLt_bf16_f32)

theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- The stored block at an index: the chunks together are the block's product. -/
theorem out_at (x0 : FVec Ideal S1024x1024 .bf16) (x1 : FVec Ideal S1024x512 .bf16) (y : S1024x512.Idx) :
    out0_2 (F := Ideal) x0 x1 y = ∑ k : Fin 1024, x0 (ix2 (y 0) k) * x1 (ix2 k (y 1)) := by
  canon_tiles x h
  all_goals (open_payloads; pointwise; refine Fin.sum_fin_congr fun k => congr_arg₂ (· * ·) ?_ ?_ <;> blk_ext)

theorem ref_at (X0 : FVec Ideal S8192x1024 .bf16) (X1 : FVec Ideal S1024x512 .bf16) (j : S8192x512.Idx) :
    REF X0 X1 j = ∑ k : Fin 1024, X0 (ix2 (j 0) k) * X1 (ix2 k (j 1)) := by
  pointwise [REF]

theorem final (c : Dev nD) : (dats m 0 c).arrAt 2 (cfgs 0).N = REF (m ((c : Thread nD τ).loc main_arg0)) (m ((c : Thread nD τ).loc main_arg1)) := by
  refine (dats m 0 c).arrAt_eq_of_covers 2 _ (by decide +kernel) fun t hf y => ?_
  blk_simp
  rw [after0_2]
  refine (out_at _ _ _).trans ?_
  rw [ref_at]
  refine Fin.sum_fin_congr fun k => ?_
  blk_point [iblk, V, idx t]

/-- The reference leaves its arguments as launched. -/
theorem frame_reference : Cert.quiescent_MixedGradRefIdeal := fun m ρ _ =>
  (θ_run Cert.MixedGradRefIdeal.defs _ _).mono
    (fun r h => ⟨fun c => (h c).2, Idealize.ShloMosaic.sem_eq_zero_of_no_sems (by decide) r.2⟩)
    (Cert.MixedGradRefIdeal.Value.run (F := Ideal) m ρ)

/-- Both programs end with the reference's value of the shared arguments. -/
theorem algebraic : Cert.algebraic_MixedGradIdeal_MixedGradRefIdeal := by
  intro m ρ m' ρ' _ hargs
  refine ⟨fun c => REF (m ((c : Thread nD τ).loc main_arg0)) (m ((c : Thread nD τ).loc main_arg1)), ?_, ?_⟩
  · exact (θ_run defs _ _).mono (fun _ h c => ⟨((h c).1).trans (final m c), (h c).2⟩)
      (Cert.MixedGradIdeal.Value.run_blocks m ρ)
  · exact (θ_run Cert.MixedGradRefIdeal.defs _ _).mono (fun _ h c => ⟨((h c).1).trans (by rw [(hargs c).1, (hargs c).2]), (h c).2⟩)
      (Cert.MixedGradRefIdeal.Value.run (F := Ideal) m' ρ')

end Cert.MixedGradIdeal.Val

end
-- ==== Proof.Finite.lean ====
/-
  Numbers among the extended reals: what the preconditions say of the arguments, and the few laws of arithmetic that
  need their operands to be numbers.
-/
module

public import Idealize.ShloMosaic.Lib.ReduceAll
public import Idealize.ShloMosaic.Lib.IdealHost
public import Idealize.ShloMosaic.Lib.Pipeline.ValueKit

@[expose] public section

noncomputable section

open Idealize.ShloMosaic

namespace Cert.Num

/-- Neither infinity. -/
def IsNum (x : EReal) : Prop := ∃ r : ℝ, x = (r : EReal)

theorem IsNum.add {x y : EReal} : IsNum x → IsNum y → IsNum (x + y) := by
  rintro ⟨a, rfl⟩ ⟨b, rfl⟩; exact ⟨a + b, (EReal.coe_add a b).symm⟩

theorem IsNum.mul {x y : EReal} : IsNum x → IsNum y → IsNum (x * y) := by
  rintro ⟨a, rfl⟩ ⟨b, rfl⟩; exact ⟨a * b, (EReal.coe_mul a b).symm⟩

theorem IsNum.neg {x : EReal} : IsNum x → IsNum (-x) := by
  rintro ⟨a, rfl⟩; exact ⟨-a, (EReal.coe_neg a).symm⟩

theorem IsNum.sub {x y : EReal} : IsNum x → IsNum y → IsNum (x - y) := by
  rintro ⟨a, rfl⟩ ⟨b, rfl⟩; exact ⟨a - b, (EReal.coe_sub a b).symm⟩

theorem IsNum.sum {n : ℕ} {f : Fin n → EReal} (h : ∀ k, IsNum (f k)) : IsNum (∑ k, f k) := by
  choose g hg using h
  refine ⟨∑ k, g k, ?_⟩
  simp only [hg]
  induction n with
  | zero => simp
  | succ n ih => rw [Fin.sum_univ_succ, Fin.sum_univ_succ, EReal.coe_add, ih (f := fun k => f k.succ) _ fun k => hg k.succ]

theorem isNum_one : IsNum 1 := ⟨1, rfl⟩

theorem isNum_zero : IsNum 0 := ⟨0, rfl⟩

theorem isNum_of_abs_lt {x : EReal} (h : max x (-x) < ⊤) : IsNum x := by
  induction x using EReal.rec with
  | bot => simp at h
  | top => simp at h
  | coe r => exact ⟨r, rfl⟩

theorem top_f32 : Ideal.ofBits .f32 0x7F800000#32 = ⊤ := by simp [Ideal.ofBits, Ideal.ieee]

theorem top_bf16 : Ideal.ofBits .bf16 0x7F80#16 = ⊤ := by simp [Ideal.ofBits, Ideal.ieee]

/-- What one conjunct of a precondition says of an argument. -/
theorem isNum_of_all {φ : FTy} {s : Shape} {axes : List (Fin s.rank)} (X : FVec Ideal s φ) (w : BitVec φ.bits) (hw : Ideal.ofBits φ w = ⊤)
    (hb : Shape.BroadcastsInDim ⟨0, ![]⟩ s (![] : Fin 0 → Fin s.rank)) (init : IVec ⟨0, ![]⟩ 1) (h : s.ReducesTo axes ⟨0, ![]⟩) (hu : 0 < Shape.numel ⟨0, ![]⟩) (j : Shape.Idx ⟨0, ![]⟩)
    (e : Host.reduce IntOp.andi (cmpf .olt (Host.absf X) (broadcastInDim s ![] hb (constant ⟨0, ![]⟩ φ w))) init h hu j = 1#1) (i : s.Idx) : IsNum (X i) := by
  have h1 := Host.reduce_andi_all _ _ _ _ j e i
  have h2 : BitVec.ofBool (decide (max (X i) (-(X i)) < Ideal.ofBits φ w)) = 1#1 := h1
  rw [hw] at h2
  refine isNum_of_abs_lt ?_
  by_contra hc
  simp [hc] at h2

end Cert.Num

end
-- ==== Proof.Gate.lean ====
/-
  The gate of a feed forward block: the logistic function written with the hyperbolic tangent, and the derivative of
  a * logistic a, whose products distribute where the factors are numbers.
-/
module

public import proofs.«01_k».proof.Proof.Finite

@[expose] public section

noncomputable section

open Idealize.ShloMosaic

namespace Cert.Num

theorem half_f32 : Ideal.ofBits .f32 0x3F000000#32 = ((1 / 2 : ℝ) : EReal) := by
  simp [Ideal.ofBits, Ideal.ieee]
  rw [← EReal.coe_mul]
  norm_num

/-- The logistic function as the reference writes it. -/
abbrev sg (a : EReal) : EReal := Ideal.div 1 (1 + Ideal.exp (-a))

theorem sg_coe (r : ℝ) : sg (r : EReal) = ((1 + Real.exp (-r))⁻¹ : ℝ) := by
  have h : (1 : EReal) + Ideal.exp (-(r : EReal)) = ((1 + Real.exp (-r) : ℝ) : EReal) := by
    rw [← EReal.coe_neg, EReal.coe_add]
    rfl
  have hp : (1 + Real.exp (-r) : ℝ) ≠ 0 := by positivity
  unfold sg
  rw [h]
  unfold Ideal.div
  rw [if_neg (by exact_mod_cast hp), one_mul]
  exact (EReal.coe_inv _).symm

theorem sg_top : sg ⊤ = 1 := by
  have h : Ideal.exp (-⊤) = 0 := by rw [EReal.neg_top]; rfl
  unfold sg
  rw [h, add_zero]
  unfold Ideal.div
  simp

theorem sg_bot : sg ⊥ = 0 := by
  have h : Ideal.exp (-⊥) = ⊤ := by rw [EReal.neg_bot]; rfl
  have h1 : (1 : EReal) + ⊤ = ⊤ := EReal.add_top_of_ne_bot (EReal.coe_ne_bot 1)
  unfold sg
  rw [h, h1]
  unfold Ideal.div
  simp

/-- The logistic function by the hyperbolic tangent of the half. -/
theorem sg_tanh (a : EReal) : Ideal.ofBits .f32 0x3F000000#32 * Ideal.tanh (Ideal.ofBits .f32 0x3F000000#32 * a) + Ideal.ofBits .f32 0x3F000000#32 = sg a := by
  rw [half_f32]
  induction a using EReal.rec with
  | bot =>
    rw [EReal.coe_mul_bot_of_pos (by norm_num), sg_bot]
    show ((1 / 2 : ℝ) : EReal) * (-1) + _ = 0
    have : (-1 : EReal) = ((-1 : ℝ) : EReal) := by simp
    rw [this, ← EReal.coe_mul, ← EReal.coe_add]
    norm_num
  | top =>
    rw [EReal.coe_mul_top_of_pos (by norm_num), sg_top]
    show ((1 / 2 : ℝ) : EReal) * 1 + _ = 1
    rw [mul_one, ← EReal.coe_add]
    norm_num
  | coe r =>
    rw [sg_coe, ← EReal.coe_mul]
    show ((1 / 2 : ℝ) : EReal) * ((Real.tanh (1 / 2 * r) : ℝ) : EReal) + _ = _
    rw [← EReal.coe_mul, ← EReal.coe_add]
    congr 1
    rw [Real.tanh_eq_sinh_div_cosh, Real.sinh_eq, Real.cosh_eq]
    have e : Real.exp (-r) = Real.exp (-(1 / 2 * r)) * Real.exp (-(1 / 2 * r)) := by rw [← Real.exp_add]; ring_nf
    have h1 : Real.exp (1 / 2 * r) * Real.exp (-(1 / 2 * r)) = 1 := by rw [← Real.exp_add]; simp
    have p := Real.exp_pos (1 / 2 * r)
    have q := Real.exp_pos (-(1 / 2 * r))
    rw [e]
    generalize Real.exp (1 / 2 * r) = u at *
    generalize Real.exp (-(1 / 2 * r)) = v at *
    have hv : v = u⁻¹ := eq_inv_of_mul_eq_one_right h1
    subst hv
    field_simp
    ring

theorem isNum_sg (a : EReal) : IsNum (sg a) := by
  induction a using EReal.rec with
  | bot => rw [sg_bot]; exact isNum_zero
  | top => rw [sg_top]; exact isNum_one
  | coe r => exact ⟨_, sg_coe r⟩

/-- The logistic function is flat at the infinities. -/
theorem isNum_gate (a : EReal) : IsNum (a * (sg a * (1 - sg a))) := by
  induction a using EReal.rec with
  | bot => rw [sg_bot, zero_mul, mul_zero]; exact isNum_zero
  | top =>
    have : (1 : EReal) - 1 = 0 := by
      rw [show (1 : EReal) = ((1 : ℝ) : EReal) from rfl, ← EReal.coe_sub]; simp
    rw [sg_top, one_mul, this, mul_zero]; exact isNum_zero
  | coe r => exact IsNum.mul ⟨r, rfl⟩ ((isNum_sg _).mul (isNum_one.sub (isNum_sg _)))

theorem mul_add_num {x y z : EReal} (hx : IsNum x) (hy : IsNum y) (hz : IsNum z) : x * (y + z) = x * y + x * z := by
  obtain ⟨x, rfl⟩ := hx
  obtain ⟨y, rfl⟩ := hy
  obtain ⟨z, rfl⟩ := hz
  norm_cast
  ring

/-- The derivative of the gate times the other factor, by the chain rule and by hand. -/
theorem gate_up (a : EReal) {b : EReal} (hb : IsNum b) :
    b * (sg a + a * sg a * (1 - sg a)) = 1 * b * sg a + a * (1 * b) * (sg a * (1 - sg a)) := by
  rw [one_mul, mul_assoc a (sg a), mul_add_num hb (isNum_sg a) (isNum_gate a), mul_comm a b, mul_assoc b a]

/-- The derivative of the gate at a cotangent, from the one at the cotangent 1. -/
theorem gate_mid (a : EReal) {b d : EReal} (hb : IsNum b) (hd : IsNum d) :
    d * (1 * b * sg a + a * (1 * b) * (sg a * (1 - sg a))) = d * b * sg a + a * (d * b) * (sg a * (1 - sg a)) := by
  rw [one_mul, mul_comm a b, mul_assoc b a, mul_add_num hd (hb.mul (isNum_sg a)) (hb.mul (isNum_gate a)),
    mul_comm a (d * b), mul_assoc (d * b) a, mul_assoc d b, mul_assoc d b]

end Cert.Num

end
-- ==== Proof.FiniteUp.lean ====
/-
  What the precondition of the up projections says of the arguments.
-/
module

public import proofs.«01_k».proof.Pre_finite_up
public import proofs.«01_k».proof.Proof.Finite

@[expose] public section

noncomputable section

open Idealize.ShloMosaic

namespace Cert.Num

instance facts_up : Cert.Pre_finite_up.Facts := ⟨by decide, by decide, by decide, by decide, by decide⟩

/-- The arguments that the precondition names are numbers. -/
theorem finite_up (X0 : FVec Ideal Cert.Pre_finite_up.S8192x1024 .bf16) (X1 : FVec Ideal Cert.Pre_finite_up.S2816x1024 .bf16) (X2 : FVec Ideal Cert.Pre_finite_up.S2816x1024 .bf16)
    (h : Cert.Pre_finite_up.fn X0 X1 X2 = fun _ => 1#1) : (∀ i, IsNum (X0 i)) ∧ (∀ i, IsNum (X2 i)) := by
  obtain ⟨h0, h1⟩ := IntOp.andi_eq_one.1 (congrFun h ix0)
  exact ⟨isNum_of_all X0 _ top_bf16 _ _ _ _ _ h0, isNum_of_all X2 _ top_bf16 _ _ _ _ _ h1⟩

end Cert.Num

end
-- ==== Proof.FfnUpValue.lean ====
/-
  The value of the up projections of a feed forward block and the derivative of its gate: each chunk of columns is a
  product with a chunk of the weights' rows, and the hyperbolic tangent gives the logistic function.
-/
module

public import proofs.«01_k».proof.Defs
public import proofs.«01_k».proof.Proof.Gen.FfnUpIdeal.Value
public import proofs.«01_k».proof.Proof.Gen.FfnUpRefIdeal.Run
public import Idealize.ShloMosaic.Lib.Pipeline.ValueKit
public import Idealize.ShloMosaic.Lib.Pipeline.ReadBack
public import proofs.«01_k».proof.Proof.Gate
public import proofs.«01_k».proof.Proof.FiniteUp
@[expose] public section

set_option maxRecDepth 16384

noncomputable section

open Idealize.ShloMosaic Idealize.ShloMosaic.TcCoe Idealize.SL.Sem
open Idealize.ShloMosaic.Pipeline (Dat)

namespace Cert.FfnUpIdeal.Val

open Cert.FfnUpIdeal Cert.FfnUpIdeal.Gen
open Cert.Num

variable (m : (ℓ : Loc nD τ sig) → Buf (Elt Ideal) ℓ)

/-- The reference's derivative by the gated factor. -/
abbrev REFA (X0 : FVec Ideal S8192x1024 .bf16) (X1 X2 : FVec Ideal S2816x1024 .bf16) : FVec Ideal S8192x2816 .bf16 :=
  truncf .bf16 (addf (mulf (mulf (broadcastInDim Cert.FfnUpRefIdeal.S8192x2816 ![] Cert.FfnUpRefIdeal.Gen.bcast_S_S8192x2816 (constant Cert.FfnUpRefIdeal.S_ .f32 0x3F800000#32)) (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X2 Cert.FfnUpRefIdeal.Gen.bitsLt_bf16_f32) Cert.FfnUpRefIdeal.Gen.transposes_S2816x1024_S1024x2816_1_0))) (Host.divf (broadcastInDim Cert.FfnUpRefIdeal.S8192x2816 ![] Cert.FfnUpRefIdeal.Gen.bcast_S_S8192x2816 (constant Cert.FfnUpRefIdeal.S_ .f32 0x3F800000#32)) (addf (broadcastInDim Cert.FfnUpRefIdeal.S8192x2816 ![] Cert.FfnUpRefIdeal.Gen.bcast_S_S8192x2816 (constant Cert.FfnUpRefIdeal.S_ .f32 0x3F800000#32)) (Host.exp (Host.negf (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X1 Cert.FfnUpRefIdeal.Gen.bitsLt_bf16_f32) Cert.FfnUpRefIdeal.Gen.transposes_S2816x1024_S1024x2816_1_0))))))) (mulf (mulf (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X1 Cert.FfnUpRefIdeal.Gen.bitsLt_bf16_f32) Cert.FfnUpRefIdeal.Gen.transposes_S2816x1024_S1024x2816_1_0)) (mulf (broadcastInDim Cert.FfnUpRefIdeal.S8192x2816 ![] Cert.FfnUpRefIdeal.Gen.bcast_S_S8192x2816 (constant Cert.FfnUpRefIdeal.S_ .f32 0x3F800000#32)) (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X2 Cert.FfnUpRefIdeal.Gen.bitsLt_bf16_f32) Cert.FfnUpRefIdeal.Gen.transposes_S2816x1024_S1024x2816_1_0)))) (mulf (Host.divf (broadcastInDim Cert.FfnUpRefIdeal.S8192x2816 ![] Cert.FfnUpRefIdeal.Gen.bcast_S_S8192x2816 (constant Cert.FfnUpRefIdeal.S_ .f32 0x3F800000#32)) (addf (broadcastInDim Cert.FfnUpRefIdeal.S8192x2816 ![] Cert.FfnUpRefIdeal.Gen.bcast_S_S8192x2816 (constant Cert.FfnUpRefIdeal.S_ .f32 0x3F800000#32)) (Host.exp (Host.negf (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X1 Cert.FfnUpRefIdeal.Gen.bitsLt_bf16_f32) Cert.FfnUpRefIdeal.Gen.transposes_S2816x1024_S1024x2816_1_0)))))) (subf (broadcastInDim Cert.FfnUpRefIdeal.S8192x2816 ![] Cert.FfnUpRefIdeal.Gen.bcast_S_S8192x2816 (constant Cert.FfnUpRefIdeal.S_ .f32 0x3F800000#32)) (Host.divf (broadcastInDim Cert.FfnUpRefIdeal.S8192x2816 ![] Cert.FfnUpRefIdeal.Gen.bcast_S_S8192x2816 (constant Cert.FfnUpRefIdeal.S_ .f32 0x3F800000#32)) (addf (broadcastInDim Cert.FfnUpRefIdeal.S8192x2816 ![] Cert.FfnUpRefIdeal.Gen.bcast_S_S8192x2816 (constant Cert.FfnUpRefIdeal.S_ .f32 0x3F800000#32)) (Host.exp (Host.negf (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X1 Cert.FfnUpRefIdeal.Gen.bitsLt_bf16_f32) Cert.FfnUpRefIdeal.Gen.transposes_S2816x1024_S1024x2816_1_0)))))))))) Cert.FfnUpRefIdeal.Gen.bitsLt_bf16_f32

/-- The reference's derivative by the other factor. -/
abbrev REFB (X0 : FVec Ideal S8192x1024 .bf16) (X1 X2 : FVec Ideal S2816x1024 .bf16) : FVec Ideal S8192x2816 .bf16 :=
  truncf .bf16 (mulf (mulf (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X1 Cert.FfnUpRefIdeal.Gen.bitsLt_bf16_f32) Cert.FfnUpRefIdeal.Gen.transposes_S2816x1024_S1024x2816_1_0)) (Host.divf (broadcastInDim Cert.FfnUpRefIdeal.S8192x2816 ![] Cert.FfnUpRefIdeal.Gen.bcast_S_S8192x2816 (constant Cert.FfnUpRefIdeal.S_ .f32 0x3F800000#32)) (addf (broadcastInDim Cert.FfnUpRefIdeal.S8192x2816 ![] Cert.FfnUpRefIdeal.Gen.bcast_S_S8192x2816 (constant Cert.FfnUpRefIdeal.S_ .f32 0x3F800000#32)) (Host.exp (Host.negf (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X1 Cert.FfnUpRefIdeal.Gen.bitsLt_bf16_f32) Cert.FfnUpRefIdeal.Gen.transposes_S2816x1024_S1024x2816_1_0))))))) (broadcastInDim Cert.FfnUpRefIdeal.S8192x2816 ![] Cert.FfnUpRefIdeal.Gen.bcast_S_S8192x2816 (constant Cert.FfnUpRefIdeal.S_ .f32 0x3F800000#32))) Cert.FfnUpRefIdeal.Gen.bitsLt_bf16_f32

/-- The reference's product. -/
abbrev REFS (X0 : FVec Ideal S8192x1024 .bf16) (X1 X2 : FVec Ideal S2816x1024 .bf16) : FVec Ideal S8192x2816 .bf16 :=
  truncf .bf16 (mulf (mulf (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X1 Cert.FfnUpRefIdeal.Gen.bitsLt_bf16_f32) Cert.FfnUpRefIdeal.Gen.transposes_S2816x1024_S1024x2816_1_0)) (Host.divf (broadcastInDim Cert.FfnUpRefIdeal.S8192x2816 ![] Cert.FfnUpRefIdeal.Gen.bcast_S_S8192x2816 (constant Cert.FfnUpRefIdeal.S_ .f32 0x3F800000#32)) (addf (broadcastInDim Cert.FfnUpRefIdeal.S8192x2816 ![] Cert.FfnUpRefIdeal.Gen.bcast_S_S8192x2816 (constant Cert.FfnUpRefIdeal.S_ .f32 0x3F800000#32)) (Host.exp (Host.negf (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X1 Cert.FfnUpRefIdeal.Gen.bitsLt_bf16_f32) Cert.FfnUpRefIdeal.Gen.transposes_S2816x1024_S1024x2816_1_0))))))) (Host.dotGeneral Cert.FfnUpRefIdeal.dot_S8192x1024_S1024x2816_S8192x2816_1_0_0_1_n_n none (extf .f32 X0 Cert.FfnUpRefIdeal.Gen.bitsLt_bf16_f32) (transpose Cert.FfnUpRefIdeal.S1024x2816 [1, 0] (extf .f32 X2 Cert.FfnUpRefIdeal.Gen.bitsLt_bf16_f32) Cert.FfnUpRefIdeal.Gen.transposes_S2816x1024_S1024x2816_1_0))) Cert.FfnUpRefIdeal.Gen.bitsLt_bf16_f32

theorem idx : ∀ t : Fin cfg0.N, win0_0.index t = ![t.val, 0] ∧ win0_1.index t = ![0, 0] ∧ win0_2.index t = ![0, 0] ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![0, 0] ∧ win0_3.index t = ![t.val, 0] ∧ win0_4.index t = ![t.val, 0] ∧ win0_5.index t = ![t.val, 0])

/-- An entry of a product with a transposed weight. -/
abbrev dots {a b : ℕ} (X : FVec Ideal ⟨2, ![a, 1024]⟩ .bf16) (W : FVec Ideal ⟨2, ![b, 1024]⟩ .bf16) (i : Fin a) (j : Fin b) : EReal :=
  ∑ k : Fin 1024, X (ix2 i k) * W (ix2 j k)

theorem refA_at (X0 : FVec Ideal S8192x1024 .bf16) (X1 X2 : FVec Ideal S2816x1024 .bf16) (j : S8192x2816.Idx) : REFA X0 X1 X2 j =
    1 * dots X0 X2 (j 0) (j 1) * sg (dots X0 X1 (j 0) (j 1)) + dots X0 X1 (j 0) (j 1) * (1 * dots X0 X2 (j 0) (j 1)) * (sg (dots X0 X1 (j 0) (j 1)) * (1 - sg (dots X0 X1 (j 0) (j 1)))) := by
  pointwise [REFA, Ideal.ofBits_one_f32]

theorem refB_at (X0 : FVec Ideal S8192x1024 .bf16) (X1 X2 : FVec Ideal S2816x1024 .bf16) (j : S8192x2816.Idx) : REFB X0 X1 X2 j = dots X0 X1 (j 0) (j 1) * sg (dots X0 X1 (j 0) (j 1)) * 1 := by
  pointwise [REFB, Ideal.ofBits_one_f32]

theorem refS_at (X0 : FVec Ideal S8192x1024 .bf16) (X1 X2 : FVec Ideal S2816x1024 .bf16) (j : S8192x2816.Idx) : REFS X0 X1 X2 j = dots X0 X1 (j 0) (j 1) * sg (dots X0 X1 (j 0) (j 1)) * dots X0 X2 (j 0) (j 1) := by
  pointwise [REFS, Ideal.ofBits_one_f32]

theorem congrA {a a' b b' : EReal} (ha : a = a') (hb : b = b') : b * (sg a + a * sg a * (1 - sg a)) = b' * (sg a' + a' * sg a' * (1 - sg a')) := by
  rw [ha, hb]

theorem congrB {a a' : EReal} (ha : a = a') : a * sg a = a' * sg a' := by
  rw [ha]

theorem congrS {a a' b b' : EReal} (ha : a = a') (hb : b = b') : a * sg a * b = a' * sg a' * b' := by
  rw [ha, hb]

theorem da_at (x0 : FVec Ideal S512x1024 .bf16) (x1 x2 : FVec Ideal S2816x1024 .bf16) (y : S512x2816.Idx) : out0_3 (F := Ideal) x0 x1 x2 y =
    dots x0 x2 (y 0) (y 1) * (sg (dots x0 x1 (y 0) (y 1)) + dots x0 x1 (y 0) (y 1) * sg (dots x0 x1 (y 0) (y 1)) * (1 - sg (dots x0 x1 (y 0) (y 1)))) := by
  unfold_out out0_3
  canon_tiles x h
  all_goals
    open_payloads
    pointwise
    simp only [sg_tanh, Ideal.ofBits_one_f32]
    refine congrA ?_ ?_ <;> exact Fin.sum_fin_congr fun k => congr_arg₂ (· * ·) (by blk_ext) (by blk_ext)

theorem db_at (x0 : FVec Ideal S512x1024 .bf16) (x1 x2 : FVec Ideal S2816x1024 .bf16) (y : S512x2816.Idx) : out0_4 (F := Ideal) x0 x1 x2 y =
    dots x0 x1 (y 0) (y 1) * sg (dots x0 x1 (y 0) (y 1)) := by
  unfold_out out0_4
  canon_tiles x h
  all_goals
    open_payloads
    pointwise
    simp only [sg_tanh]
    refine congrB ?_
    exact Fin.sum_fin_congr fun k => congr_arg₂ (· * ·) (by blk_ext) (by blk_ext)

theorem s_at (x0 : FVec Ideal S512x1024 .bf16) (x1 x2 : FVec Ideal S2816x1024 .bf16) (y : S512x2816.Idx) : out0_5 (F := Ideal) x0 x1 x2 y =
    dots x0 x1 (y 0) (y 1) * sg (dots x0 x1 (y 0) (y 1)) * dots x0 x2 (y 0) (y 1) := by
  unfold_out out0_5
  canon_tiles x h
  all_goals
    open_payloads
    pointwise
    simp only [sg_tanh]
    refine congrS ?_ ?_ <;> exact Fin.sum_fin_congr fun k => congr_arg₂ (· * ·) (by blk_ext) (by blk_ext)

theorem final_da (c : Dev nD) (h0 : ∀ i, IsNum (m ((c : Thread nD τ).loc main_arg0) i)) (h2 : ∀ i, IsNum (m ((c : Thread nD τ).loc main_arg2) i)) :
    (dats m 0 c).arrAt 3 (cfgs 0).N = REFA (m ((c : Thread nD τ).loc main_arg0)) (m ((c : Thread nD τ).loc main_arg1)) (m ((c : Thread nD τ).loc main_arg2)) := by
  refine (dats m 0 c).arrAt_eq_of_covers 3 _ (by decide +kernel) fun t hf y => ?_
  blk_simp
  rw [after0_3, da_at, refA_at]
  refine Eq.trans (congrA ?_ ?_) (gate_up _ (IsNum.sum fun k => (h0 _).mul (h2 _)))
  · refine Fin.sum_fin_congr fun k => ?_
    blk_point [iblk, V, idx t]
  · refine Fin.sum_fin_congr fun k => ?_
    blk_point [iblk, V, idx t]

theorem final_db (c : Dev nD) : (dats m 0 c).arrAt 4 (cfgs 0).N = REFB (m ((c : Thread nD τ).loc main_arg0)) (m ((c : Thread nD τ).loc main_arg1)) (m ((c : Thread nD τ).loc main_arg2)) := by
  refine (dats m 0 c).arrAt_eq_of_covers 4 _ (by decide +kernel) fun t hf y => ?_
  blk_simp
  rw [after0_4, db_at, refB_at, mul_one]
  refine congrB ?_
  refine Fin.sum_fin_congr fun k => ?_
  blk_point [iblk, V, idx t]

theorem final_s (c : Dev nD) : (dats m 0 c).arrAt 5 (cfgs 0).N = REFS (m ((c : Thread nD τ).loc main_arg0)) (m ((c : Thread nD τ).loc main_arg1)) (m ((c : Thread nD τ).loc main_arg2)) := by
  refine (dats m 0 c).arrAt_eq_of_covers 5 _ (by decide +kernel) fun t hf y => ?_
  blk_simp
  rw [after0_5, s_at, refS_at]
  refine congrS ?_ ?_
  · refine Fin.sum_fin_congr fun k => ?_
    blk_point [iblk, V, idx t]
  · refine Fin.sum_fin_congr fun k => ?_
    blk_point [iblk, V, idx t]

/-- The reference leaves its arguments as launched. -/
theorem frame_reference : Cert.quiescent_FfnUpRefIdeal := fun m ρ _ =>
  (θ_run Cert.FfnUpRefIdeal.defs _ _).mono
    (fun r h => ⟨fun c => (h c).2.2.2, Idealize.ShloMosaic.sem_eq_zero_of_no_sems (by decide) r.2⟩)
    (Cert.FfnUpRefIdeal.Value.run (F := Ideal) m ρ)

/-- Both programs end with the reference's value of the shared arguments. -/
theorem algebraic : Cert.algebraic_FfnUpIdeal_FfnUpRefIdeal_pre_finite_up := by
  intro m ρ m' ρ' hpre hargs
  refine ⟨fun c => REFA (m ((c : Thread nD τ).loc main_arg0)) (m ((c : Thread nD τ).loc main_arg1)) (m ((c : Thread nD τ).loc main_arg2)), fun c => REFB (m ((c : Thread nD τ).loc main_arg0)) (m ((c : Thread nD τ).loc main_arg1)) (m ((c : Thread nD τ).loc main_arg2)), fun c => REFS (m ((c : Thread nD τ).loc main_arg0)) (m ((c : Thread nD τ).loc main_arg1)) (m ((c : Thread nD τ).loc main_arg2)), ?_, ?_⟩
  · exact (θ_run defs _ _).mono (fun _ h c => ⟨((h c).1).trans (final_da m c (finite_up _ _ _ (hpre c)).1 (finite_up _ _ _ (hpre c)).2), ((h c).2.1).trans (final_db m c), ((h c).2.2.1).trans (final_s m c), (h c).2.2.2⟩)
      (Cert.FfnUpIdeal.Value.run_blocks m ρ)
  · exact (θ_run Cert.FfnUpRefIdeal.defs _ _).mono (fun _ h c => ⟨((h c).1).trans (show REFA (m' ((c : Thread nD τ).loc Cert.FfnUpRefIdeal.main_arg0)) (m' ((c : Thread nD τ).loc Cert.FfnUpRefIdeal.main_arg1)) (m' ((c : Thread nD τ).loc Cert.FfnUpRefIdeal.main_arg2)) = REFA (m ((c : Thread nD τ).loc main_arg0)) (m ((c : Thread nD τ).loc main_arg1)) (m ((c : Thread nD τ).loc main_arg2)) by rw [(hargs c).1, (hargs c).2.1, (hargs c).2.2]), ((h c).2.1).trans (show REFB (m' ((c : Thread nD τ).loc Cert.FfnUpRefIdeal.main_arg0)) (m' ((c : Thread nD τ).loc Cert.FfnUpRefIdeal.main_arg1)) (m' ((c : Thread nD τ).loc Cert.FfnUpRefIdeal.main_arg2)) = REFB (m ((c : Thread nD τ).loc main_arg0)) (m ((c : Thread nD τ).loc main_arg1)) (m ((c : Thread nD τ).loc main_arg2)) by rw [(hargs c).1, (hargs c).2.1, (hargs c).2.2]), ((h c).2.2.1).trans (show REFS (m' ((c : Thread nD τ).loc Cert.FfnUpRefIdeal.main_arg0)) (m' ((c : Thread nD τ).loc Cert.FfnUpRefIdeal.main_arg1)) (m' ((c : Thread nD τ).loc Cert.FfnUpRefIdeal.main_arg2)) = REFS (m ((c : Thread nD τ).loc main_arg0)) (m ((c : Thread nD τ).loc main_arg1)) (m ((c : Thread nD τ).loc main_arg2)) by rw [(hargs c).1, (hargs c).2.1, (hargs c).2.2]), (h c).2.2.2⟩)
      (Cert.FfnUpRefIdeal.Value.run (F := Ideal) m' ρ')

end Cert.FfnUpIdeal.Val

end
-- ==== Proof.FiniteMid.lean ====
/-
  What the precondition of the gate says of the arguments.
-/
module

public import proofs.«01_k».proof.Pre_finite_mid
public import proofs.«01_k».proof.Proof.Finite

@[expose] public section

noncomputable section

open Idealize.ShloMosaic

namespace Cert.Num

instance facts_mid : Cert.Pre_finite_mid.Facts := ⟨by decide, by decide, by decide, by decide, by decide, by decide, by decide⟩

/-- The arguments that the precondition names are numbers. -/
theorem finite_mid (X0 : FVec Ideal Cert.Pre_finite_mid.S8192x1024 .bf16) (X1 : FVec Ideal Cert.Pre_finite_mid.S2816x1024 .bf16) (X2 : FVec Ideal Cert.Pre_finite_mid.S8192x2816 .f32) (X3 : FVec Ideal Cert.Pre_finite_mid.S8192x2816 .f32)
    (h : Cert.Pre_finite_mid.fn X0 X1 X2 X3 = fun _ => 1#1) : (∀ i, IsNum (X0 i)) ∧ (∀ i, IsNum (X1 i)) ∧ (∀ i, IsNum (X3 i)) := by
  obtain ⟨r2, h2⟩ := IntOp.andi_eq_one.1 (congrFun h ix0)
  obtain ⟨h0, h1⟩ := IntOp.andi_eq_one.1 (r2)
  exact ⟨isNum_of_all X0 _ top_bf16 _ _ _ _ _ h0, isNum_of_all X1 _ top_bf16 _ _ _ _ _ h1, isNum_of_all X3 _ top_f32 _ _ _ _ _ h2⟩

end Cert.Num

end
-- ==== Proof.MidValue.lean ====
/-
  The value of the cotangent through a feed forward block's gate: each chunk of columns is a product with a chunk of the
  down weight's rows, times the gate's derivatives that the host prepares.
-/
module

public import proofs.«01_k».proof.Defs
public import proofs.«01_k».proof.Proof.Gen.MidIdeal.Value
public import proofs.«01_k».proof.Proof.Gen.MidRefIdeal.Run
public import Idealize.ShloMosaic.Lib.Pipeline.ValueKit
public import Idealize.ShloMosaic.Lib.Pipeline.ReadBack
public import proofs.«01_k».proof.Proof.Gate
public import proofs.«01_k».proof.Proof.FiniteMid
public import Idealize.ShloMosaic.Lib.StableHlo.ReadAt
@[expose] public section

set_option maxRecDepth 16384

noncomputable section

open Idealize.ShloMosaic Idealize.ShloMosaic.TcCoe Idealize.SL.Sem
open Idealize.ShloMosaic.Pipeline (Dat)

namespace Cert.MidIdeal.Val

open Cert.MidIdeal Cert.MidIdeal.Gen
open Cert.Num

variable (m : (ℓ : Loc nD τ sig) → Buf (Elt Ideal) ℓ)

/-- The reference's cotangent of the gated factor. -/
abbrev REFA (X0 : FVec Ideal S8192x1024 .bf16) (X1 : FVec Ideal S2816x1024 .bf16) (X2 X3 : FVec Ideal S8192x2816 .f32) : FVec Ideal S8192x2816 .bf16 :=
  truncf .bf16 (addf (mulf (mulf (Host.dotGeneral Cert.MidRefIdeal.dot_S8192x1024_S2816x1024_S8192x2816_1_1_0_0_n_n none (extf .f32 X0 Cert.MidRefIdeal.Gen.bitsLt_bf16_f32) (extf .f32 X1 Cert.MidRefIdeal.Gen.bitsLt_bf16_f32)) X3) (Host.divf (broadcastInDim Cert.MidRefIdeal.S8192x2816 ![] Cert.MidRefIdeal.Gen.bcast_S_S8192x2816 (constant Cert.MidRefIdeal.S_ .f32 0x3F800000#32)) (addf (broadcastInDim Cert.MidRefIdeal.S8192x2816 ![] Cert.MidRefIdeal.Gen.bcast_S_S8192x2816 (constant Cert.MidRefIdeal.S_ .f32 0x3F800000#32)) (Host.exp (Host.negf X2))))) (mulf (mulf X2 (mulf (Host.dotGeneral Cert.MidRefIdeal.dot_S8192x1024_S2816x1024_S8192x2816_1_1_0_0_n_n none (extf .f32 X0 Cert.MidRefIdeal.Gen.bitsLt_bf16_f32) (extf .f32 X1 Cert.MidRefIdeal.Gen.bitsLt_bf16_f32)) X3)) (mulf (Host.divf (broadcastInDim Cert.MidRefIdeal.S8192x2816 ![] Cert.MidRefIdeal.Gen.bcast_S_S8192x2816 (constant Cert.MidRefIdeal.S_ .f32 0x3F800000#32)) (addf (broadcastInDim Cert.MidRefIdeal.S8192x2816 ![] Cert.MidRefIdeal.Gen.bcast_S_S8192x2816 (constant Cert.MidRefIdeal.S_ .f32 0x3F800000#32)) (Host.exp (Host.negf X2)))) (subf (broadcastInDim Cert.MidRefIdeal.S8192x2816 ![] Cert.MidRefIdeal.Gen.bcast_S_S8192x2816 (constant Cert.MidRefIdeal.S_ .f32 0x3F800000#32)) (Host.divf (broadcastInDim Cert.MidRefIdeal.S8192x2816 ![] Cert.MidRefIdeal.Gen.bcast_S_S8192x2816 (constant Cert.MidRefIdeal.S_ .f32 0x3F800000#32)) (addf (broadcastInDim Cert.MidRefIdeal.S8192x2816 ![] Cert.MidRefIdeal.Gen.bcast_S_S8192x2816 (constant Cert.MidRefIdeal.S_ .f32 0x3F800000#32)) (Host.exp (Host.negf X2)))))))) Cert.MidRefIdeal.Gen.bitsLt_bf16_f32

/-- The reference's cotangent of the other factor. -/
abbrev REFB (X0 : FVec Ideal S8192x1024 .bf16) (X1 : FVec Ideal S2816x1024 .bf16) (X2 X3 : FVec Ideal S8192x2816 .f32) : FVec Ideal S8192x2816 .bf16 :=
  truncf .bf16 (mulf (mulf X2 (Host.divf (broadcastInDim Cert.MidRefIdeal.S8192x2816 ![] Cert.MidRefIdeal.Gen.bcast_S_S8192x2816 (constant Cert.MidRefIdeal.S_ .f32 0x3F800000#32)) (addf (broadcastInDim Cert.MidRefIdeal.S8192x2816 ![] Cert.MidRefIdeal.Gen.bcast_S_S8192x2816 (constant Cert.MidRefIdeal.S_ .f32 0x3F800000#32)) (Host.exp (Host.negf X2))))) (Host.dotGeneral Cert.MidRefIdeal.dot_S8192x1024_S2816x1024_S8192x2816_1_1_0_0_n_n none (extf .f32 X0 Cert.MidRefIdeal.Gen.bitsLt_bf16_f32) (extf .f32 X1 Cert.MidRefIdeal.Gen.bitsLt_bf16_f32))) Cert.MidRefIdeal.Gen.bitsLt_bf16_f32

theorem idx : ∀ t : Fin cfg0.N, win0_0.index t = ![t.val, 0] ∧ win0_1.index t = ![0, 0] ∧ win0_2.index t = ![t.val, 0] ∧ win0_3.index t = ![t.val, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![t.val, 0] ∧ win0_4.index t = ![t.val, 0] ∧ win0_5.index t = ![t.val, 0])

/-- An entry of a product with a transposed weight. -/
abbrev dots {a b : ℕ} (X : FVec Ideal ⟨2, ![a, 1024]⟩ .bf16) (W : FVec Ideal ⟨2, ![b, 1024]⟩ .bf16) (i : Fin a) (j : Fin b) : EReal :=
  ∑ k : Fin 1024, X (ix2 i k) * W (ix2 j k)

theorem refA_at (X0 : FVec Ideal S8192x1024 .bf16) (X1 : FVec Ideal S2816x1024 .bf16) (X2 X3 : FVec Ideal S8192x2816 .f32) (j : S8192x2816.Idx) : REFA X0 X1 X2 X3 j =
    dots X0 X1 (j 0) (j 1) * X3 j * sg (X2 j) + X2 j * (dots X0 X1 (j 0) (j 1) * X3 j) * (sg (X2 j) * (1 - sg (X2 j))) := by
  pointwise [REFA, Ideal.ofBits_one_f32]

theorem refB_at (X0 : FVec Ideal S8192x1024 .bf16) (X1 : FVec Ideal S2816x1024 .bf16) (X2 X3 : FVec Ideal S8192x2816 .f32) (j : S8192x2816.Idx) : REFB X0 X1 X2 X3 j = X2 j * sg (X2 j) * dots X0 X1 (j 0) (j 1) := by
  pointwise [REFB, Ideal.ofBits_one_f32]

theorem da_at (x0 : FVec Ideal S512x1024 .bf16) (x1 : FVec Ideal S2816x1024 .bf16) (x2 x3 : FVec Ideal S512x2816 .bf16) (y : S512x2816.Idx) : out0_4 (F := Ideal) x0 x1 x2 x3 y =
    dots x0 x1 (y 0) (y 1) * x2 y := by
  unfold out0_4
  canon_tiles x h
  all_goals
    open_payloads
    pointwise
    refine congr_arg₂ (· * ·) ?_ ?_
    · exact Fin.sum_fin_congr fun k => congr_arg₂ (· * ·) (by blk_ext) (by blk_ext)
    · blk_ext

theorem db_at (x0 : FVec Ideal S512x1024 .bf16) (x1 : FVec Ideal S2816x1024 .bf16) (x2 x3 : FVec Ideal S512x2816 .bf16) (y : S512x2816.Idx) : out0_5 (F := Ideal) x0 x1 x2 x3 y =
    dots x0 x1 (y 0) (y 1) * x3 y := by
  unfold out0_5
  canon_tiles x h
  all_goals
    open_payloads
    pointwise
    refine congr_arg₂ (· * ·) ?_ ?_
    · exact Fin.sum_fin_congr fun k => congr_arg₂ (· * ·) (by blk_ext) (by blk_ext)
    · blk_ext

/-- What the host prepares for the gated factor. -/
theorem V_da (c : Dev nD) (j : S8192x2816.Idx) : (show FVec Ideal S8192x2816 .bf16 from V m c main_v6) j =
    1 * (show FVec Ideal S8192x2816 .f32 from m ((c : Thread nD τ).loc main_arg3)) j * sg ((show FVec Ideal S8192x2816 .f32 from m ((c : Thread nD τ).loc main_arg2)) j)
      + (show FVec Ideal S8192x2816 .f32 from m ((c : Thread nD τ).loc main_arg2)) j * (1 * (show FVec Ideal S8192x2816 .f32 from m ((c : Thread nD τ).loc main_arg3)) j)
        * (sg ((show FVec Ideal S8192x2816 .f32 from m ((c : Thread nD τ).loc main_arg2)) j) * (1 - sg ((show FVec Ideal S8192x2816 .f32 from m ((c : Thread nD τ).loc main_arg2)) j))) := by
  unfold V
  after_reads_at

/-- What the host prepares for the other factor. -/
theorem V_db (c : Dev nD) (j : S8192x2816.Idx) : (show FVec Ideal S8192x2816 .bf16 from V m c main_v7) j =
    (show FVec Ideal S8192x2816 .f32 from m ((c : Thread nD τ).loc main_arg2)) j * sg ((show FVec Ideal S8192x2816 .f32 from m ((c : Thread nD τ).loc main_arg2)) j) * 1 := by
  unfold V
  after_reads_at

theorem dots_arg (c : Dev nD) (t : Fin cfg0.N) (y : S512x2816.Idx) (j : S8192x2816.Idx) (h0 : (j 0).val = t.val * 512 + (y 0).val) (h1 : (j 1).val = (y 1).val) :
    dots (show FVec Ideal S512x1024 .bf16 from iblk m c 0 t) (show FVec Ideal S2816x1024 .bf16 from iblk m c 1 t) (y 0) (y 1)
      = dots (show FVec Ideal S8192x1024 .bf16 from m ((c : Thread nD τ).loc main_arg0)) (show FVec Ideal S2816x1024 .bf16 from m ((c : Thread nD τ).loc main_arg1)) (j 0) (j 1) := by
  refine Fin.sum_fin_congr fun k => ?_
  blk_point [iblk, V_main_arg0 m c, V_main_arg1 m c, idx t]

theorem final_da (c : Dev nD) (h0 : ∀ i, IsNum (m ((c : Thread nD τ).loc main_arg0) i)) (h1 : ∀ i, IsNum (m ((c : Thread nD τ).loc main_arg1) i))
    (h3 : ∀ i, IsNum (m ((c : Thread nD τ).loc main_arg3) i)) :
    (dats m 0 c).arrAt 4 (cfgs 0).N = REFA (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, da_at, refA_at]
  have e : (show FVec Ideal S512x2816 .bf16 from iblk m c 2 t) y = (show FVec Ideal S8192x2816 .bf16 from V m c main_v6) ((win0_4.blk t).view.emb y) := by
    unfold iblk
    blk_point [idx t]
  refine Eq.trans (congr_arg₂ (· * ·) (dots_arg m c t y ((win0_4.blk t).view.emb y) ?_ ?_) (e.trans (V_da m c _))) (gate_mid _ (h3 _) (IsNum.sum fun k => (h0 _).mul (h1 _)))
  · blk_ext [idx t]
  · blk_ext [idx t]

theorem final_db (c : Dev nD) : (dats m 0 c).arrAt 5 (cfgs 0).N = REFB (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, db_at, refB_at]
  have e : (show FVec Ideal S512x2816 .bf16 from iblk m c 3 t) y = (show FVec Ideal S8192x2816 .bf16 from V m c main_v7) ((win0_5.blk t).view.emb y) := by
    unfold iblk
    blk_point [idx t]
  refine Eq.trans (congr_arg₂ (· * ·) (dots_arg m c t y ((win0_5.blk t).view.emb y) ?_ ?_) (e.trans (V_db m c _))) ?_
  · blk_ext [idx t]
  · blk_ext [idx t]
  · rw [mul_one, mul_comm]

/-- The reference leaves its arguments as launched. -/
theorem frame_reference : Cert.quiescent_MidRefIdeal := fun m ρ _ =>
  (θ_run Cert.MidRefIdeal.defs _ _).mono
    (fun r h => ⟨fun c => (h c).2.2, Idealize.ShloMosaic.sem_eq_zero_of_no_sems (by decide) r.2⟩)
    (Cert.MidRefIdeal.Value.run (F := Ideal) m ρ)

/-- Both programs end with the reference's value of the shared arguments. -/
theorem algebraic : Cert.algebraic_MidIdeal_MidRefIdeal_pre_finite_mid := by
  intro m ρ m' ρ' hpre hargs
  refine ⟨fun c => REFA (m ((c : Thread nD τ).loc main_arg0)) (m ((c : Thread nD τ).loc main_arg1)) (m ((c : Thread nD τ).loc main_arg2)) (m ((c : Thread nD τ).loc main_arg3)), fun c => REFB (m ((c : Thread nD τ).loc main_arg0)) (m ((c : Thread nD τ).loc main_arg1)) (m ((c : Thread nD τ).loc main_arg2)) (m ((c : Thread nD τ).loc main_arg3)), ?_, ?_⟩
  · exact (θ_run defs _ _).mono (fun _ h c => ⟨((h c).1).trans (final_da m c (finite_mid _ _ _ _ (hpre c)).1 (finite_mid _ _ _ _ (hpre c)).2.1 (finite_mid _ _ _ _ (hpre c)).2.2), ((h c).2.1).trans (final_db m c), (h c).2.2⟩)
      (Cert.MidIdeal.Value.run_blocks m ρ)
  · exact (θ_run Cert.MidRefIdeal.defs _ _).mono (fun _ h c => ⟨((h c).1).trans (show REFA (m' ((c : Thread nD τ).loc Cert.MidRefIdeal.main_arg0)) (m' ((c : Thread nD τ).loc Cert.MidRefIdeal.main_arg1)) (m' ((c : Thread nD τ).loc Cert.MidRefIdeal.main_arg2)) (m' ((c : Thread nD τ).loc Cert.MidRefIdeal.main_arg3)) = REFA (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.1).trans (show REFB (m' ((c : Thread nD τ).loc Cert.MidRefIdeal.main_arg0)) (m' ((c : Thread nD τ).loc Cert.MidRefIdeal.main_arg1)) (m' ((c : Thread nD τ).loc Cert.MidRefIdeal.main_arg2)) (m' ((c : Thread nD τ).loc Cert.MidRefIdeal.main_arg3)) = REFB (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), (h c).2.2⟩)
      (Cert.MidRefIdeal.Value.run (F := Ideal) m' ρ')

end Cert.MidIdeal.Val

end
-- ==== Proof.FfnDownValue.lean ====
/-
  The value of the down projection of a feed forward block with the residual added and the next norm: the stored chunks are the
  residual plus the scaled product, and the norm reads them back.
-/
module

public import proofs.«01_k».proof.Defs
public import proofs.«01_k».proof.Proof.Gen.FfnDownIdeal.Value
public import proofs.«01_k».proof.Proof.Gen.FfnDownRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.FfnDownIdeal.Val

open Cert.FfnDownIdeal Cert.FfnDownIdeal.Gen

variable (m : (ℓ : Loc nD τ sig) → Buf (Elt Ideal) ℓ)

/-- The reference's residual stream. -/
abbrev REF (X0 : FVec Ideal S8192x2816 .bf16) (X1 : FVec Ideal S2816x1024 .bf16) (X2 : FVec Ideal S8192x1024 .f32) (X3 : FVec Ideal S1x1024 .f32) : FVec Ideal S8192x1024 .f32 :=
  addf X2 (mulf (broadcastInDim Cert.FfnDownRefIdeal.S8192x1024 ![] Cert.FfnDownRefIdeal.Gen.bcast_S_S8192x1024 (constant Cert.FfnDownRefIdeal.S_ .f32 0x3F000000#32)) (Host.dotGeneral Cert.FfnDownRefIdeal.dot_S8192x2816_S2816x1024_S8192x1024_1_0_0_1_n_n none (extf .f32 X0 Cert.FfnDownRefIdeal.Gen.bitsLt_bf16_f32) (extf .f32 X1 Cert.FfnDownRefIdeal.Gen.bitsLt_bf16_f32)))

/-- The reference's norm of it. -/
abbrev REFH (X0 : FVec Ideal S8192x2816 .bf16) (X1 : FVec Ideal S2816x1024 .bf16) (X2 : FVec Ideal S8192x1024 .f32) (X3 : FVec Ideal S1x1024 .f32) : FVec Ideal S8192x1024 .bf16 :=
  truncf .bf16 (mulf (mulf (addf X2 (mulf (broadcastInDim Cert.FfnDownRefIdeal.S8192x1024 ![] Cert.FfnDownRefIdeal.Gen.bcast_S_S8192x1024 (constant Cert.FfnDownRefIdeal.S_ .f32 0x3F000000#32)) (Host.dotGeneral Cert.FfnDownRefIdeal.dot_S8192x2816_S2816x1024_S8192x1024_1_0_0_1_n_n none (extf .f32 X0 Cert.FfnDownRefIdeal.Gen.bitsLt_bf16_f32) (extf .f32 X1 Cert.FfnDownRefIdeal.Gen.bitsLt_bf16_f32)))) (broadcastInDim Cert.FfnDownRefIdeal.S8192x1024 ![0, 1] Cert.FfnDownRefIdeal.Gen.bcast_S8192x1_S8192x1024_0_1 (Host.rsqrt (addf (Host.divf (broadcastInDim Cert.FfnDownRefIdeal.S8192x1 ![0] Cert.FfnDownRefIdeal.Gen.bcast_S8192_S8192x1_0 (Host.reduceAdd (mulf (addf X2 (mulf (broadcastInDim Cert.FfnDownRefIdeal.S8192x1024 ![] Cert.FfnDownRefIdeal.Gen.bcast_S_S8192x1024 (constant Cert.FfnDownRefIdeal.S_ .f32 0x3F000000#32)) (Host.dotGeneral Cert.FfnDownRefIdeal.dot_S8192x2816_S2816x1024_S8192x1024_1_0_0_1_n_n none (extf .f32 X0 Cert.FfnDownRefIdeal.Gen.bitsLt_bf16_f32) (extf .f32 X1 Cert.FfnDownRefIdeal.Gen.bitsLt_bf16_f32)))) (addf X2 (mulf (broadcastInDim Cert.FfnDownRefIdeal.S8192x1024 ![] Cert.FfnDownRefIdeal.Gen.bcast_S_S8192x1024 (constant Cert.FfnDownRefIdeal.S_ .f32 0x3F000000#32)) (Host.dotGeneral Cert.FfnDownRefIdeal.dot_S8192x2816_S2816x1024_S8192x1024_1_0_0_1_n_n none (extf .f32 X0 Cert.FfnDownRefIdeal.Gen.bitsLt_bf16_f32) (extf .f32 X1 Cert.FfnDownRefIdeal.Gen.bitsLt_bf16_f32))))) (constant Cert.FfnDownRefIdeal.S_ .f32 0x00000000#32) Cert.FfnDownRefIdeal.Gen.reducesTo_S8192x1024_S8192_d1 Cert.FfnDownRefIdeal.Gen.h_S_)) (broadcastInDim Cert.FfnDownRefIdeal.S8192x1 ![] Cert.FfnDownRefIdeal.Gen.bcast_S_S8192x1 (constant Cert.FfnDownRefIdeal.S_ .f32 0x44800000#32))) (broadcastInDim Cert.FfnDownRefIdeal.S8192x1 ![] Cert.FfnDownRefIdeal.Gen.bcast_S_S8192x1 (constant Cert.FfnDownRefIdeal.S_ .f32 0x358637BD#32)))))) (broadcastInDim Cert.FfnDownRefIdeal.S8192x1024 ![0, 1] Cert.FfnDownRefIdeal.Gen.bcast_S1x1024_S8192x1024_0_1 X3)) Cert.FfnDownRefIdeal.Gen.bitsLt_bf16_f32

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0])

theorem ref_x_at (X0 : FVec Ideal S8192x2816 .bf16) (X1 : FVec Ideal S2816x1024 .bf16) (X2 : FVec Ideal S8192x1024 .f32) (X3 : FVec Ideal S1x1024 .f32) (j : S8192x1024.Idx) :
    REF X0 X1 X2 X3 j = X2 j + (Ideal.ofBits .f32 0x3F000000#32) * ∑ k : Fin 2816, X0 (ix2 (j 0) k) * X1 (ix2 k (j 1)) := by
  pointwise [REF]

theorem ref_h_at (X0 : FVec Ideal S8192x2816 .bf16) (X1 : FVec Ideal S2816x1024 .bf16) (X2 : FVec Ideal S8192x1024 .f32) (X3 : FVec Ideal S1x1024 .f32) (j : S8192x1024.Idx) :
    REFH X0 X1 X2 X3 j = REF X0 X1 X2 X3 j * Ideal.rsqrt (Ideal.div (∑ k : Fin 1024, REF X0 X1 X2 X3 (ix2 (j 0) k) * REF X0 X1 X2 X3 (ix2 (j 0) k))
      (Ideal.ofBits .f32 0x44800000#32) + Ideal.ofBits .f32 0x358637BD#32) * X3 (ix2 0 (j 1)) := by
  pointwise [REFH, REF]

theorem x_at (c : Dev nD) (t : Fin cfg0.N) (y : S1024x1024.Idx) : (outsAt0 m c t).1 y = (show FVec Ideal S1024x1024 .f32 from iblk m c 2 t) y
    + (Ideal.ofBits .f32 0x3F000000#32) * ∑ k : Fin 2816, (show FVec Ideal S1024x2816 .bf16 from iblk m c 0 t) (ix2 (y 0) k) * (show FVec Ideal S2816x1024 .bf16 from iblk m c 1 t) (ix2 k (y 1)) := by
  unfold outsAt0
  frame_out
  canon_tiles x h
  all_goals
    open_payloads
    pointwise
    refine congr_arg₂ (· + ·) ?_ ?_
    · blk_ext
    · refine congr_arg _ ?_
      refine Fin.sum_fin_congr fun k => congr_arg₂ (· * ·) ?_ ?_ <;> blk_ext

theorem h_of_x (c : Dev nD) (t : Fin cfg0.N) : (outsAt0 m c t).2 = k0_pay2 (F := Ideal) (outsAt0 m c t).1 (iblk m c 3 t) := by
  unfold outsAt0
  frame_out
  rw [View.readCov_eq_canon']
  exact congrArg (fun z => k0_pay2 (F := Ideal) z _) (View.ld_unit_zero (by decide) _ _)

theorem h_at (c : Dev nD) (t : Fin cfg0.N) (y : S1024x1024.Idx) : (outsAt0 m c t).2 y = (outsAt0 m c t).1 y
    * Ideal.rsqrt (Ideal.div (∑ k : Fin 1024, (outsAt0 m c t).1 (ix2 (y 0) k) * (outsAt0 m c t).1 (ix2 (y 0) k))
      (Ideal.ofBits .f32 0x44800000#32) + Ideal.ofBits .f32 0x358637BD#32) * (show FVec Ideal S1x1024 .f32 from iblk m c 3 t) (ix2 0 (y 1)) := by
  rw [h_of_x]
  generalize (outsAt0 m c t).1 = X
  pointwise [k0_pay2]

/-- The reference's residual stream of the arguments at the start. -/
abbrev RX (c : Dev nD) : FVec Ideal S8192x1024 .f32 :=
  REF (m ((c : Thread nD τ).loc main_arg0)) (m ((c : Thread nD τ).loc main_arg1)) (m ((c : Thread nD τ).loc main_arg2)) (m ((c : Thread nD τ).loc main_arg3))

theorem x_ref (c : Dev nD) (t : Fin cfg0.N) (y : S1024x1024.Idx) :
    (outsAt0 m c t).1 y = RX m c ((win0_4.blk t).view.emb y) := by
  refine (x_at m c t y).trans (Eq.trans ?_ (ref_x_at _ _ _ _ _).symm)
  refine congr_arg₂ (· + ·) ?_ ?_
  · blk_point [iblk, V, idx t]
  · refine congr_arg _ ?_
    refine Fin.sum_fin_congr fun k => ?_
    blk_point [iblk, V, idx t]

theorem final_x (c : Dev nD) : (dats m 0 c).arrAt 4 (cfgs 0).N = RX m c := by
  refine (dats m 0 c).arrAt_eq_of_covers 4 _ (by decide +kernel) fun t hf y => ?_
  blk_simp
  rw [after0_4]
  exact x_ref m c t y

theorem final_h (c : Dev nD) : (dats m 0 c).arrAt 5 (cfgs 0).N = REFH (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, h_at, ref_h_at]
  have hx : ∀ k : Fin 1024, (outsAt0 m c t).1 (ix2 (y 0) k) = RX m c (ix2 ((win0_5.blk t).view.emb y 0) k) := fun k => by
    rw [x_ref]
    refine congrArg (RX m c) ?_
    blk_ext [idx t]
  have hy : (outsAt0 m c t).1 y = RX m c ((win0_5.blk t).view.emb y) := by
    rw [x_ref]
    refine congrArg (RX m c) ?_
    blk_ext [idx t]
  simp only [hx, hy]
  refine congr_arg₂ (· * ·) rfl ?_
  blk_point [iblk, V, idx t]
/-- The reference leaves its arguments as launched. -/
theorem frame_reference : Cert.quiescent_FfnDownRefIdeal := fun m ρ _ =>
  (θ_run Cert.FfnDownRefIdeal.defs _ _).mono
    (fun r h => ⟨fun c => (h c).2.2, Idealize.ShloMosaic.sem_eq_zero_of_no_sems (by decide) r.2⟩)
    (Cert.FfnDownRefIdeal.Value.run (F := Ideal) m ρ)

/-- Both programs end with the reference's value of the shared arguments. -/
theorem algebraic : Cert.algebraic_FfnDownIdeal_FfnDownRefIdeal := by
  intro m ρ m' ρ' _ hargs
  refine ⟨fun c => REF (m ((c : Thread nD τ).loc main_arg0)) (m ((c : Thread nD τ).loc main_arg1)) (m ((c : Thread nD τ).loc main_arg2)) (m ((c : Thread nD τ).loc main_arg3)), fun c => REFH (m ((c : Thread nD τ).loc main_arg0)) (m ((c : Thread nD τ).loc main_arg1)) (m ((c : Thread nD τ).loc main_arg2)) (m ((c : Thread nD τ).loc main_arg3)), ?_, ?_⟩
  · exact (θ_run defs _ _).mono (fun _ h c => ⟨((h c).1).trans (final_x m c), ((h c).2.1).trans (final_h m c), (h c).2.2⟩)
      (Cert.FfnDownIdeal.Value.run_blocks m ρ)
  · exact (θ_run Cert.FfnDownRefIdeal.defs _ _).mono (fun _ h c => ⟨((h c).1).trans (show REF (m' ((c : Thread nD τ).loc Cert.FfnDownRefIdeal.main_arg0)) (m' ((c : Thread nD τ).loc Cert.FfnDownRefIdeal.main_arg1)) (m' ((c : Thread nD τ).loc Cert.FfnDownRefIdeal.main_arg2)) (m' ((c : Thread nD τ).loc Cert.FfnDownRefIdeal.main_arg3)) = REF (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.1).trans (show REFH (m' ((c : Thread nD τ).loc Cert.FfnDownRefIdeal.main_arg0)) (m' ((c : Thread nD τ).loc Cert.FfnDownRefIdeal.main_arg1)) (m' ((c : Thread nD τ).loc Cert.FfnDownRefIdeal.main_arg2)) (m' ((c : Thread nD τ).loc Cert.FfnDownRefIdeal.main_arg3)) = REFH (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), (h c).2.2⟩)
      (Cert.FfnDownRefIdeal.Value.run (F := Ideal) m' ρ')

end Cert.FfnDownIdeal.Val

end
-- ==== Proof.OutProjValue.lean ====
/-
  The value of the output projection of the mixing block with the residual added and the next norm: the stored chunks are the
  residual plus the scaled product, and the norm reads them back.
-/
module

public import proofs.«01_k».proof.Defs
public import proofs.«01_k».proof.Proof.Gen.OutProjIdeal.Value
public import proofs.«01_k».proof.Proof.Gen.OutProjRefIdeal.Run
public import Idealize.ShloMosaic.Lib.Pipeline.ValueKit
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.OutProjIdeal.Val

open Cert.OutProjIdeal Cert.OutProjIdeal.Gen

variable (m : (ℓ : Loc nD τ sig) → Buf (Elt Ideal) ℓ)

/-- The reference's residual stream. -/
abbrev REF (X0 : FVec Ideal S8192x1024 .bf16) (X1 : FVec Ideal S1024x1024 .bf16) (X2 : FVec Ideal S8192x1024 .f32) (X3 : FVec Ideal S1x1024 .f32) : FVec Ideal S8192x1024 .f32 :=
  addf X2 (Host.dotGeneral Cert.OutProjRefIdeal.dot_S8192x1024_S1024x1024_S8192x1024_1_0_0_1_n_n none (extf .f32 X0 Cert.OutProjRefIdeal.Gen.bitsLt_bf16_f32) (extf .f32 X1 Cert.OutProjRefIdeal.Gen.bitsLt_bf16_f32))

/-- The reference's norm of it. -/
abbrev REFH (X0 : FVec Ideal S8192x1024 .bf16) (X1 : FVec Ideal S1024x1024 .bf16) (X2 : FVec Ideal S8192x1024 .f32) (X3 : FVec Ideal S1x1024 .f32) : FVec Ideal S8192x1024 .bf16 :=
  truncf .bf16 (mulf (mulf (addf X2 (Host.dotGeneral Cert.OutProjRefIdeal.dot_S8192x1024_S1024x1024_S8192x1024_1_0_0_1_n_n none (extf .f32 X0 Cert.OutProjRefIdeal.Gen.bitsLt_bf16_f32) (extf .f32 X1 Cert.OutProjRefIdeal.Gen.bitsLt_bf16_f32))) (broadcastInDim Cert.OutProjRefIdeal.S8192x1024 ![0, 1] Cert.OutProjRefIdeal.Gen.bcast_S8192x1_S8192x1024_0_1 (Host.rsqrt (addf (Host.divf (broadcastInDim Cert.OutProjRefIdeal.S8192x1 ![0] Cert.OutProjRefIdeal.Gen.bcast_S8192_S8192x1_0 (Host.reduceAdd (mulf (addf X2 (Host.dotGeneral Cert.OutProjRefIdeal.dot_S8192x1024_S1024x1024_S8192x1024_1_0_0_1_n_n none (extf .f32 X0 Cert.OutProjRefIdeal.Gen.bitsLt_bf16_f32) (extf .f32 X1 Cert.OutProjRefIdeal.Gen.bitsLt_bf16_f32))) (addf X2 (Host.dotGeneral Cert.OutProjRefIdeal.dot_S8192x1024_S1024x1024_S8192x1024_1_0_0_1_n_n none (extf .f32 X0 Cert.OutProjRefIdeal.Gen.bitsLt_bf16_f32) (extf .f32 X1 Cert.OutProjRefIdeal.Gen.bitsLt_bf16_f32)))) (constant Cert.OutProjRefIdeal.S_ .f32 0x00000000#32) Cert.OutProjRefIdeal.Gen.reducesTo_S8192x1024_S8192_d1 Cert.OutProjRefIdeal.Gen.h_S_)) (broadcastInDim Cert.OutProjRefIdeal.S8192x1 ![] Cert.OutProjRefIdeal.Gen.bcast_S_S8192x1 (constant Cert.OutProjRefIdeal.S_ .f32 0x44800000#32))) (broadcastInDim Cert.OutProjRefIdeal.S8192x1 ![] Cert.OutProjRefIdeal.Gen.bcast_S_S8192x1 (constant Cert.OutProjRefIdeal.S_ .f32 0x358637BD#32)))))) (broadcastInDim Cert.OutProjRefIdeal.S8192x1024 ![0, 1] Cert.OutProjRefIdeal.Gen.bcast_S1x1024_S8192x1024_0_1 X3)) Cert.OutProjRefIdeal.Gen.bitsLt_bf16_f32

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0])

theorem ref_x_at (X0 : FVec Ideal S8192x1024 .bf16) (X1 : FVec Ideal S1024x1024 .bf16) (X2 : FVec Ideal S8192x1024 .f32) (X3 : FVec Ideal S1x1024 .f32) (j : S8192x1024.Idx) :
    REF X0 X1 X2 X3 j = X2 j + ∑ k : Fin 1024, X0 (ix2 (j 0) k) * X1 (ix2 k (j 1)) := by
  pointwise [REF]

theorem ref_h_at (X0 : FVec Ideal S8192x1024 .bf16) (X1 : FVec Ideal S1024x1024 .bf16) (X2 : FVec Ideal S8192x1024 .f32) (X3 : FVec Ideal S1x1024 .f32) (j : S8192x1024.Idx) :
    REFH X0 X1 X2 X3 j = REF X0 X1 X2 X3 j * Ideal.rsqrt (Ideal.div (∑ k : Fin 1024, REF X0 X1 X2 X3 (ix2 (j 0) k) * REF X0 X1 X2 X3 (ix2 (j 0) k))
      (Ideal.ofBits .f32 0x44800000#32) + Ideal.ofBits .f32 0x358637BD#32) * X3 (ix2 0 (j 1)) := by
  pointwise [REFH, REF]

theorem x_at (c : Dev nD) (t : Fin cfg0.N) (y : S1024x1024.Idx) : (outsAt0 m c t).1 y = (show FVec Ideal S1024x1024 .f32 from iblk m c 2 t) y
    + ∑ k : Fin 1024, (show FVec Ideal S1024x1024 .bf16 from iblk m c 0 t) (ix2 (y 0) k) * (show FVec Ideal S1024x1024 .bf16 from iblk m c 1 t) (ix2 k (y 1)) := by
  unfold outsAt0
  frame_out
  canon_tiles x h
  all_goals
    open_payloads
    pointwise
    refine congr_arg₂ (· + ·) ?_ ?_
    · blk_ext
    · skip
      refine Fin.sum_fin_congr fun k => congr_arg₂ (· * ·) ?_ ?_ <;> blk_ext

theorem h_of_x (c : Dev nD) (t : Fin cfg0.N) : (outsAt0 m c t).2 = k0_pay2 (F := Ideal) (outsAt0 m c t).1 (iblk m c 3 t) := by
  unfold outsAt0
  frame_out
  rw [View.readCov_eq_canon']
  exact congrArg (fun z => k0_pay2 (F := Ideal) z _) (View.ld_unit_zero (by decide) _ _)

theorem h_at (c : Dev nD) (t : Fin cfg0.N) (y : S1024x1024.Idx) : (outsAt0 m c t).2 y = (outsAt0 m c t).1 y
    * Ideal.rsqrt (Ideal.div (∑ k : Fin 1024, (outsAt0 m c t).1 (ix2 (y 0) k) * (outsAt0 m c t).1 (ix2 (y 0) k))
      (Ideal.ofBits .f32 0x44800000#32) + Ideal.ofBits .f32 0x358637BD#32) * (show FVec Ideal S1x1024 .f32 from iblk m c 3 t) (ix2 0 (y 1)) := by
  rw [h_of_x]
  generalize (outsAt0 m c t).1 = X
  pointwise [k0_pay2]

/-- The reference's residual stream of the arguments at the start. -/
abbrev RX (c : Dev nD) : FVec Ideal S8192x1024 .f32 :=
  REF (m ((c : Thread nD τ).loc main_arg0)) (m ((c : Thread nD τ).loc main_arg1)) (m ((c : Thread nD τ).loc main_arg2)) (m ((c : Thread nD τ).loc main_arg3))

theorem x_ref (c : Dev nD) (t : Fin cfg0.N) (y : S1024x1024.Idx) :
    (outsAt0 m c t).1 y = RX m c ((win0_4.blk t).view.emb y) := by
  refine (x_at m c t y).trans (Eq.trans ?_ (ref_x_at _ _ _ _ _).symm)
  refine congr_arg₂ (· + ·) ?_ ?_
  · blk_point [iblk, V, idx t]
  · skip
    refine Fin.sum_fin_congr fun k => ?_
    blk_point [iblk, V, idx t]

theorem final_x (c : Dev nD) : (dats m 0 c).arrAt 4 (cfgs 0).N = RX m c := by
  refine (dats m 0 c).arrAt_eq_of_covers 4 _ (by decide +kernel) fun t hf y => ?_
  blk_simp
  rw [after0_4]
  exact x_ref m c t y

theorem final_h (c : Dev nD) : (dats m 0 c).arrAt 5 (cfgs 0).N = REFH (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, h_at, ref_h_at]
  have hx : ∀ k : Fin 1024, (outsAt0 m c t).1 (ix2 (y 0) k) = RX m c (ix2 ((win0_5.blk t).view.emb y 0) k) := fun k => by
    rw [x_ref]
    refine congrArg (RX m c) ?_
    blk_ext [idx t]
  have hy : (outsAt0 m c t).1 y = RX m c ((win0_5.blk t).view.emb y) := by
    rw [x_ref]
    refine congrArg (RX m c) ?_
    blk_ext [idx t]
  simp only [hx, hy]
  refine congr_arg₂ (· * ·) rfl ?_
  blk_point [iblk, V, idx t]
/-- The reference leaves its arguments as launched. -/
theorem frame_reference : Cert.quiescent_OutProjRefIdeal := fun m ρ _ =>
  (θ_run Cert.OutProjRefIdeal.defs _ _).mono
    (fun r h => ⟨fun c => (h c).2.2, Idealize.ShloMosaic.sem_eq_zero_of_no_sems (by decide) r.2⟩)
    (Cert.OutProjRefIdeal.Value.run (F := Ideal) m ρ)

/-- Both programs end with the reference's value of the shared arguments. -/
theorem algebraic : Cert.algebraic_OutProjIdeal_OutProjRefIdeal := by
  intro m ρ m' ρ' _ hargs
  refine ⟨fun c => REF (m ((c : Thread nD τ).loc main_arg0)) (m ((c : Thread nD τ).loc main_arg1)) (m ((c : Thread nD τ).loc main_arg2)) (m ((c : Thread nD τ).loc main_arg3)), fun c => REFH (m ((c : Thread nD τ).loc main_arg0)) (m ((c : Thread nD τ).loc main_arg1)) (m ((c : Thread nD τ).loc main_arg2)) (m ((c : Thread nD τ).loc main_arg3)), ?_, ?_⟩
  · exact (θ_run defs _ _).mono (fun _ h c => ⟨((h c).1).trans (final_x m c), ((h c).2.1).trans (final_h m c), (h c).2.2⟩)
      (Cert.OutProjIdeal.Value.run_blocks m ρ)
  · exact (θ_run Cert.OutProjRefIdeal.defs _ _).mono (fun _ h c => ⟨((h c).1).trans (show REF (m' ((c : Thread nD τ).loc Cert.OutProjRefIdeal.main_arg0)) (m' ((c : Thread nD τ).loc Cert.OutProjRefIdeal.main_arg1)) (m' ((c : Thread nD τ).loc Cert.OutProjRefIdeal.main_arg2)) (m' ((c : Thread nD τ).loc Cert.OutProjRefIdeal.main_arg3)) = REF (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.1).trans (show REFH (m' ((c : Thread nD τ).loc Cert.OutProjRefIdeal.main_arg0)) (m' ((c : Thread nD τ).loc Cert.OutProjRefIdeal.main_arg1)) (m' ((c : Thread nD τ).loc Cert.OutProjRefIdeal.main_arg2)) (m' ((c : Thread nD τ).loc Cert.OutProjRefIdeal.main_arg3)) = REFH (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), (h c).2.2⟩)
      (Cert.OutProjRefIdeal.Value.run (F := Ideal) m' ρ')

end Cert.OutProjIdeal.Val

end
-- ==== Proof.Adam.lean ====
/-
  The optimiser's step on one entry: the moments, and the update with the bias corrections as divisions.
-/
module

public import Idealize.ShloMosaic.Lib.IdealHost
public import Idealize.ShloMosaic.Lib.Pipeline.ValueKit

@[expose] public section

noncomputable section

open Idealize.ShloMosaic

namespace Cert.Adam

/-- The first moment after the step. -/
abbrev step1 (g m : EReal) : EReal := Ideal.ofBits .f32 0x3F666666#32 * m + Ideal.ofBits .f32 0x3DCCCCCD#32 * g

/-- The second moment after the step. -/
abbrev step2 (g v : EReal) : EReal := Ideal.ofBits .f32 0x3F7FBE77#32 * v + Ideal.ofBits .f32 0x3A83126F#32 * (g * g)

/-- The update. -/
abbrev update (w g m v : EReal) : EReal :=
  Ideal.ofBits .f32 0xBA83126F#32 * (Ideal.div (Ideal.div (step1 g m) (Ideal.ofBits .f32 0x3F26BD02#32))
    (Ideal.sqrt (Ideal.div (step2 g v) (Ideal.ofBits .f32 0x3C231ACC#32)) + Ideal.ofBits .f32 0x322BCC77#32)
    + Ideal.ofBits .f32 0x3C23D70A#32 * w)

theorem div_coe {x : EReal} {r : ℝ} (hr : r ≠ 0) : Ideal.div x (r : EReal) = x * ((r⁻¹ : ℝ) : EReal) := by
  unfold Ideal.div
  rw [if_neg (by exact_mod_cast hr), EReal.coe_inv]

theorem bc1_f32 : Ideal.ofBits .f32 0x3F26BD02#32 = ((5463681 / 8388608 : ℝ) : EReal) := by
  simp [Ideal.ofBits, Ideal.ieee]
  rw [← EReal.coe_mul]
  norm_num

theorem bc2_f32 : Ideal.ofBits .f32 0x3C231ACC#32 = ((2672307 / 268435456 : ℝ) : EReal) := by
  simp [Ideal.ofBits, Ideal.ieee]
  rw [← EReal.coe_mul]
  norm_num

/-- The first bias correction, by the reciprocal and by the division. -/
theorem mul_inv_bc1 (x : EReal) : x * ((8388608 / 5463681 : ℝ) : EReal) = Ideal.div x (Ideal.ofBits .f32 0x3F26BD02#32) := by
  rw [bc1_f32, div_coe (by norm_num)]
  norm_num

/-- The second bias correction, by the reciprocal and by the division. -/
theorem mul_inv_bc2 (x : EReal) : x * ((268435456 / 2672307 : ℝ) : EReal) = Ideal.div x (Ideal.ofBits .f32 0x3C231ACC#32) := by
  rw [bc2_f32, div_coe (by norm_num)]
  norm_num

theorem step1_congr {g g' m m' : EReal} (hg : g = g') (hm : m = m') : step1 g m = step1 g' m' := by
  rw [hg, hm]

theorem step2_congr {g g' v v' : EReal} (hg : g = g') (hv : v = v') : step2 g v = step2 g' v' := by
  rw [hg, hv]

theorem update_congr {w w' g g' m m' v v' : EReal} (hw : w = w') (hg : g = g') (hm : m = m') (hv : v = v') :
    update w g m v = update w' g' m' v' := by
  rw [hw, hg, hm, hv]

/-- A lower bound's gradient: the first bound's share is a logistic function of the difference, and the two move apart. -/
abbrev bound (r : Fin 2) (g w0 w1 : EReal) : EReal :=
  (if r = 0 then 1 else Ideal.ofBits .f32 0xBF800000#32) * (g * Ideal.div 1 (1 + Ideal.exp (w1 - w0)) * (1 - Ideal.div 1 (1 + Ideal.exp (w1 - w0))))

end Cert.Adam

end
-- ==== Proof.AdamFfnValue.lean ====
/-
  The value of the optimiser's step on a feed forward weight: the eight parts added, and the step entry by entry.
-/
module

public import proofs.«01_k».proof.Defs
public import proofs.«01_k».proof.Proof.Gen.AdamFfnIdeal.Value
public import proofs.«01_k».proof.Proof.Gen.AdamFfnRefIdeal.Run
public import Idealize.ShloMosaic.Lib.Pipeline.ValueKit
public import Idealize.ShloMosaic.Lib.Pipeline.ReadBack
public import proofs.«01_k».proof.Proof.Adam
@[expose] public section

set_option maxRecDepth 16384

noncomputable section

open Idealize.ShloMosaic Idealize.ShloMosaic.TcCoe Idealize.SL.Sem
open Idealize.ShloMosaic.Pipeline (Dat)

namespace Cert.AdamFfnIdeal.Val

open Cert.AdamFfnIdeal Cert.AdamFfnIdeal.Gen
open Cert.Adam

variable (m : (ℓ : Loc nD τ sig) → Buf (Elt Ideal) ℓ)

/-- The reference's gradient. -/
abbrev REFG (X0 : FVec Ideal S8x352x1024 .bf16) (X1 X2 X3 : FVec Ideal S352x1024 .f32) : FVec Ideal S352x1024 .f32 :=
  Host.reduceAdd (extf .f32 X0 Cert.AdamFfnRefIdeal.Gen.bitsLt_bf16_f32) (constant Cert.AdamFfnRefIdeal.S_ .f32 0x00000000#32) Cert.AdamFfnRefIdeal.Gen.reducesTo_S8x352x1024_S352x1024_d0 Cert.AdamFfnRefIdeal.Gen.h_S_

/-- The reference's update. -/
abbrev REFD (X0 : FVec Ideal S8x352x1024 .bf16) (X1 X2 X3 : FVec Ideal S352x1024 .f32) : FVec Ideal S352x1024 .f32 :=
  mulf (broadcastInDim Cert.AdamFfnRefIdeal.S352x1024 ![] Cert.AdamFfnRefIdeal.Gen.bcast_S_S352x1024 (constant Cert.AdamFfnRefIdeal.S_ .f32 0xBA83126F#32)) (addf (Host.divf (Host.divf (addf (mulf (broadcastInDim Cert.AdamFfnRefIdeal.S352x1024 ![] Cert.AdamFfnRefIdeal.Gen.bcast_S_S352x1024 (constant Cert.AdamFfnRefIdeal.S_ .f32 0x3F666666#32)) X2) (mulf (broadcastInDim Cert.AdamFfnRefIdeal.S352x1024 ![] Cert.AdamFfnRefIdeal.Gen.bcast_S_S352x1024 (constant Cert.AdamFfnRefIdeal.S_ .f32 0x3DCCCCCD#32)) (Host.reduceAdd (extf .f32 X0 Cert.AdamFfnRefIdeal.Gen.bitsLt_bf16_f32) (constant Cert.AdamFfnRefIdeal.S_ .f32 0x00000000#32) Cert.AdamFfnRefIdeal.Gen.reducesTo_S8x352x1024_S352x1024_d0 Cert.AdamFfnRefIdeal.Gen.h_S_))) (broadcastInDim Cert.AdamFfnRefIdeal.S352x1024 ![] Cert.AdamFfnRefIdeal.Gen.bcast_S_S352x1024 (constant Cert.AdamFfnRefIdeal.S_ .f32 0x3F26BD02#32))) (addf (Host.sqrt (Host.divf (addf (mulf (broadcastInDim Cert.AdamFfnRefIdeal.S352x1024 ![] Cert.AdamFfnRefIdeal.Gen.bcast_S_S352x1024 (constant Cert.AdamFfnRefIdeal.S_ .f32 0x3F7FBE77#32)) X3) (mulf (broadcastInDim Cert.AdamFfnRefIdeal.S352x1024 ![] Cert.AdamFfnRefIdeal.Gen.bcast_S_S352x1024 (constant Cert.AdamFfnRefIdeal.S_ .f32 0x3A83126F#32)) (mulf (Host.reduceAdd (extf .f32 X0 Cert.AdamFfnRefIdeal.Gen.bitsLt_bf16_f32) (constant Cert.AdamFfnRefIdeal.S_ .f32 0x00000000#32) Cert.AdamFfnRefIdeal.Gen.reducesTo_S8x352x1024_S352x1024_d0 Cert.AdamFfnRefIdeal.Gen.h_S_) (Host.reduceAdd (extf .f32 X0 Cert.AdamFfnRefIdeal.Gen.bitsLt_bf16_f32) (constant Cert.AdamFfnRefIdeal.S_ .f32 0x00000000#32) Cert.AdamFfnRefIdeal.Gen.reducesTo_S8x352x1024_S352x1024_d0 Cert.AdamFfnRefIdeal.Gen.h_S_)))) (broadcastInDim Cert.AdamFfnRefIdeal.S352x1024 ![] Cert.AdamFfnRefIdeal.Gen.bcast_S_S352x1024 (constant Cert.AdamFfnRefIdeal.S_ .f32 0x3C231ACC#32)))) (broadcastInDim Cert.AdamFfnRefIdeal.S352x1024 ![] Cert.AdamFfnRefIdeal.Gen.bcast_S_S352x1024 (constant Cert.AdamFfnRefIdeal.S_ .f32 0x322BCC77#32)))) (mulf (broadcastInDim Cert.AdamFfnRefIdeal.S352x1024 ![] Cert.AdamFfnRefIdeal.Gen.bcast_S_S352x1024 (constant Cert.AdamFfnRefIdeal.S_ .f32 0x3C23D70A#32)) X1))

/-- The reference's first moment. -/
abbrev REFM (X0 : FVec Ideal S8x352x1024 .bf16) (X1 X2 X3 : FVec Ideal S352x1024 .f32) : FVec Ideal S352x1024 .f32 :=
  addf (mulf (broadcastInDim Cert.AdamFfnRefIdeal.S352x1024 ![] Cert.AdamFfnRefIdeal.Gen.bcast_S_S352x1024 (constant Cert.AdamFfnRefIdeal.S_ .f32 0x3F666666#32)) X2) (mulf (broadcastInDim Cert.AdamFfnRefIdeal.S352x1024 ![] Cert.AdamFfnRefIdeal.Gen.bcast_S_S352x1024 (constant Cert.AdamFfnRefIdeal.S_ .f32 0x3DCCCCCD#32)) (Host.reduceAdd (extf .f32 X0 Cert.AdamFfnRefIdeal.Gen.bitsLt_bf16_f32) (constant Cert.AdamFfnRefIdeal.S_ .f32 0x00000000#32) Cert.AdamFfnRefIdeal.Gen.reducesTo_S8x352x1024_S352x1024_d0 Cert.AdamFfnRefIdeal.Gen.h_S_))

/-- The reference's second moment. -/
abbrev REFV (X0 : FVec Ideal S8x352x1024 .bf16) (X1 X2 X3 : FVec Ideal S352x1024 .f32) : FVec Ideal S352x1024 .f32 :=
  addf (mulf (broadcastInDim Cert.AdamFfnRefIdeal.S352x1024 ![] Cert.AdamFfnRefIdeal.Gen.bcast_S_S352x1024 (constant Cert.AdamFfnRefIdeal.S_ .f32 0x3F7FBE77#32)) X3) (mulf (broadcastInDim Cert.AdamFfnRefIdeal.S352x1024 ![] Cert.AdamFfnRefIdeal.Gen.bcast_S_S352x1024 (constant Cert.AdamFfnRefIdeal.S_ .f32 0x3A83126F#32)) (mulf (Host.reduceAdd (extf .f32 X0 Cert.AdamFfnRefIdeal.Gen.bitsLt_bf16_f32) (constant Cert.AdamFfnRefIdeal.S_ .f32 0x00000000#32) Cert.AdamFfnRefIdeal.Gen.reducesTo_S8x352x1024_S352x1024_d0 Cert.AdamFfnRefIdeal.Gen.h_S_) (Host.reduceAdd (extf .f32 X0 Cert.AdamFfnRefIdeal.Gen.bitsLt_bf16_f32) (constant Cert.AdamFfnRefIdeal.S_ .f32 0x00000000#32) Cert.AdamFfnRefIdeal.Gen.reducesTo_S8x352x1024_S352x1024_d0 Cert.AdamFfnRefIdeal.Gen.h_S_)))

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- The eight parts' sum at an entry. -/
abbrev parts {a b : ℕ} (X : FVec Ideal ⟨3, ![8, a, b]⟩ .bf16) (i : Fin a) (j : Fin b) : EReal :=
  ∑ k : Fin 8, X (ix3 k i j)

theorem refG_at (X0 : FVec Ideal S8x352x1024 .bf16) (X1 X2 X3 : FVec Ideal S352x1024 .f32) (j : S352x1024.Idx) : REFG X0 X1 X2 X3 j = parts X0 (j 0) (j 1) := by
  pointwise [REFG]

theorem refD_at (X0 : FVec Ideal S8x352x1024 .bf16) (X1 X2 X3 : FVec Ideal S352x1024 .f32) (j : S352x1024.Idx) : REFD X0 X1 X2 X3 j = update (X1 j) (parts X0 (j 0) (j 1)) (X2 j) (X3 j) := by
  pointwise [REFD]

theorem refM_at (X0 : FVec Ideal S8x352x1024 .bf16) (X1 X2 X3 : FVec Ideal S352x1024 .f32) (j : S352x1024.Idx) : REFM X0 X1 X2 X3 j = step1 (parts X0 (j 0) (j 1)) (X2 j) := by
  pointwise [REFM]

theorem refV_at (X0 : FVec Ideal S8x352x1024 .bf16) (X1 X2 X3 : FVec Ideal S352x1024 .f32) (j : S352x1024.Idx) : REFV X0 X1 X2 X3 j = step2 (parts X0 (j 0) (j 1)) (X3 j) := by
  pointwise [REFV]

theorem g_at (x0 : FVec Ideal S8x176x1024 .bf16) (x1 x2 x3 : FVec Ideal S176x1024 .f32) (y : S176x1024.Idx) : k0_pay5 (F := Ideal) x0 x1 x2 x3 y = parts x0 (y 0) (y 1) := by
  unfold parts
  rw [Fin.sum_univ_eight]
  pointwise [k0_pay5, k0_pay4]
  repeat' refine congr_arg₂ (· + ·) ?_ ?_
  all_goals blk_ext

theorem outG_at (x0 : FVec Ideal S8x176x1024 .bf16) (x1 x2 x3 : FVec Ideal S176x1024 .f32) (y : S176x1024.Idx) : out0_4 (F := Ideal) x0 x1 x2 x3 y = parts x0 (y 0) (y 1) := by
  rw [← g_at x0 x1 x2 x3 y]
  unfold out0_4
  canon_tiles x h
  all_goals blk_ext

theorem outM_at (x0 : FVec Ideal S8x176x1024 .bf16) (x1 x2 x3 : FVec Ideal S176x1024 .f32) (y : S176x1024.Idx) : out0_6 (F := Ideal) x0 x1 x2 x3 y = step1 (parts x0 (y 0) (y 1)) (x2 y) := by
  rw [← g_at x0 x1 x2 x3 y]
  unfold out0_6
  generalize k0_pay5 (F := Ideal) x0 x1 x2 x3 = G
  canon_tiles x h
  all_goals
    open_payloads
    pointwise
    have e : x = y := by blk_ext
    subst e
    rfl

theorem outV_at (x0 : FVec Ideal S8x176x1024 .bf16) (x1 x2 x3 : FVec Ideal S176x1024 .f32) (y : S176x1024.Idx) : out0_7 (F := Ideal) x0 x1 x2 x3 y = step2 (parts x0 (y 0) (y 1)) (x3 y) := by
  rw [← g_at x0 x1 x2 x3 y]
  unfold out0_7
  generalize k0_pay5 (F := Ideal) x0 x1 x2 x3 = G
  canon_tiles x h
  all_goals
    open_payloads
    pointwise
    have e : x = y := by blk_ext
    subst e
    rfl

theorem outD_at (x0 : FVec Ideal S8x176x1024 .bf16) (x1 x2 x3 : FVec Ideal S176x1024 .f32) (y : S176x1024.Idx) : out0_5 (F := Ideal) x0 x1 x2 x3 y = update (x1 y) (parts x0 (y 0) (y 1)) (x2 y) (x3 y) := by
  rw [← g_at x0 x1 x2 x3 y]
  unfold out0_5
  generalize k0_pay5 (F := Ideal) x0 x1 x2 x3 = G
  canon_tiles x h
  all_goals
    open_payloads
    pointwise
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    have e : x = y := by blk_ext
    subst e
    rfl

theorem parts_arg (c : Dev nD) (t : Fin cfg0.N) (y : S176x1024.Idx) (j : S352x1024.Idx) (h0 : (j 0).val = t.val * 176 + (y 0).val) (h1 : (j 1).val = (y 1).val) :
    parts (show FVec Ideal S8x176x1024 .bf16 from iblk m c 0 t) (y 0) (y 1)
      = parts (show FVec Ideal S8x352x1024 .bf16 from m ((c : Thread nD τ).loc main_arg0)) (j 0) (j 1) := by
  refine Fin.sum_fin_congr fun k => ?_
  blk_point [iblk, V_main_arg0 m c, idx t]

theorem final_G (c : Dev nD) : (dats m 0 c).arrAt 4 (cfgs 0).N = REFG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, outG_at, refG_at, parts_arg m c t y ((win0_4.blk t).view.emb y) (by blk_ext [idx t]) (by blk_ext [idx t])]

theorem final_D (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outD_at, refD_at, parts_arg m c t y ((win0_5.blk t).view.emb y) (by blk_ext [idx t]) (by blk_ext [idx t])]
  rw [show (iblk m c 1 t : S176x1024.Idx → EReal) y = m ((c : Thread nD τ).loc main_arg1) ((win0_5.blk t).view.emb y) from by blk_point [iblk, V, idx t], show (iblk m c 2 t : S176x1024.Idx → EReal) y = m ((c : Thread nD τ).loc main_arg2) ((win0_5.blk t).view.emb y) from by blk_point [iblk, V, idx t], show (iblk m c 3 t : S176x1024.Idx → EReal) y = m ((c : Thread nD τ).loc main_arg3) ((win0_5.blk t).view.emb y) from by blk_point [iblk, V, idx t]]

theorem final_M (c : Dev nD) : (dats m 0 c).arrAt 6 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, outM_at, refM_at, parts_arg m c t y ((win0_6.blk t).view.emb y) (by blk_ext [idx t]) (by blk_ext [idx t])]
  refine congrArg (step1 _) ?_
  blk_point [iblk, V, idx t]

theorem final_V (c : Dev nD) : (dats m 0 c).arrAt 7 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, outV_at, refV_at, parts_arg m c t y ((win0_7.blk t).view.emb y) (by blk_ext [idx t]) (by blk_ext [idx t])]
  refine congrArg (step2 _) ?_
  blk_point [iblk, V, idx t]

/-- The reference leaves its arguments as launched. -/
theorem frame_reference : Cert.quiescent_AdamFfnRefIdeal := fun m ρ _ =>
  (θ_run Cert.AdamFfnRefIdeal.defs _ _).mono
    (fun r h => ⟨fun c => (h c).2.2.2.2, Idealize.ShloMosaic.sem_eq_zero_of_no_sems (by decide) r.2⟩)
    (Cert.AdamFfnRefIdeal.Value.run (F := Ideal) m ρ)

/-- Both programs end with the reference's value of the shared arguments. -/
theorem algebraic : Cert.algebraic_AdamFfnIdeal_AdamFfnRefIdeal := by
  intro m ρ m' ρ' _ hargs
  refine ⟨fun c => REFG (m ((c : Thread nD τ).loc main_arg0)) (m ((c : Thread nD τ).loc main_arg1)) (m ((c : Thread nD τ).loc main_arg2)) (m ((c : Thread nD τ).loc main_arg3)), fun c => REFD (m ((c : Thread nD τ).loc main_arg0)) (m ((c : Thread nD τ).loc main_arg1)) (m ((c : Thread nD τ).loc main_arg2)) (m ((c : Thread nD τ).loc main_arg3)), fun c => REFM (m ((c : Thread nD τ).loc main_arg0)) (m ((c : Thread nD τ).loc main_arg1)) (m ((c : Thread nD τ).loc main_arg2)) (m ((c : Thread nD τ).loc main_arg3)), fun c => REFV (m ((c : Thread nD τ).loc main_arg0)) (m ((c : Thread nD τ).loc main_arg1)) (m ((c : Thread nD τ).loc main_arg2)) (m ((c : Thread nD τ).loc main_arg3)), ?_, ?_⟩
  · exact (θ_run defs _ _).mono (fun _ h c => ⟨((h c).1).trans (final_G m c), ((h c).2.1).trans (final_D m c), ((h c).2.2.1).trans (final_M m c), ((h c).2.2.2.1).trans (final_V m c), (h c).2.2.2.2⟩)
      (Cert.AdamFfnIdeal.Value.run_blocks m ρ)
  · exact (θ_run Cert.AdamFfnRefIdeal.defs _ _).mono (fun _ h c => ⟨((h c).1).trans (show REFG (m' ((c : Thread nD τ).loc Cert.AdamFfnRefIdeal.main_arg0)) (m' ((c : Thread nD τ).loc Cert.AdamFfnRefIdeal.main_arg1)) (m' ((c : Thread nD τ).loc Cert.AdamFfnRefIdeal.main_arg2)) (m' ((c : Thread nD τ).loc Cert.AdamFfnRefIdeal.main_arg3)) = REFG (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.1).trans (show REFD (m' ((c : Thread nD τ).loc Cert.AdamFfnRefIdeal.main_arg0)) (m' ((c : Thread nD τ).loc Cert.AdamFfnRefIdeal.main_arg1)) (m' ((c : Thread nD τ).loc Cert.AdamFfnRefIdeal.main_arg2)) (m' ((c : Thread nD τ).loc Cert.AdamFfnRefIdeal.main_arg3)) = REFD (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.2.1).trans (show REFM (m' ((c : Thread nD τ).loc Cert.AdamFfnRefIdeal.main_arg0)) (m' ((c : Thread nD τ).loc Cert.AdamFfnRefIdeal.main_arg1)) (m' ((c : Thread nD τ).loc Cert.AdamFfnRefIdeal.main_arg2)) (m' ((c : Thread nD τ).loc Cert.AdamFfnRefIdeal.main_arg3)) = REFM (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.2.2.1).trans (show REFV (m' ((c : Thread nD τ).loc Cert.AdamFfnRefIdeal.main_arg0)) (m' ((c : Thread nD τ).loc Cert.AdamFfnRefIdeal.main_arg1)) (m' ((c : Thread nD τ).loc Cert.AdamFfnRefIdeal.main_arg2)) (m' ((c : Thread nD τ).loc Cert.AdamFfnRefIdeal.main_arg3)) = REFV (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), (h c).2.2.2.2⟩)
      (Cert.AdamFfnRefIdeal.Value.run (F := Ideal) m' ρ')

end Cert.AdamFfnIdeal.Val

end
-- ==== Proof.AdamInValue.lean ====
/-
  The value of the optimiser's step on the input projection: the eight parts added, and the step entry by entry.
-/
module

public import proofs.«01_k».proof.Defs
public import proofs.«01_k».proof.Proof.Gen.AdamInIdeal.Value
public import proofs.«01_k».proof.Proof.Gen.AdamInRefIdeal.Run
public import Idealize.ShloMosaic.Lib.Pipeline.ValueKit
public import Idealize.ShloMosaic.Lib.Pipeline.ReadBack
public import proofs.«01_k».proof.Proof.Adam
@[expose] public section

set_option maxRecDepth 16384

noncomputable section

open Idealize.ShloMosaic Idealize.ShloMosaic.TcCoe Idealize.SL.Sem
open Idealize.ShloMosaic.Pipeline (Dat)

namespace Cert.AdamInIdeal.Val

open Cert.AdamInIdeal Cert.AdamInIdeal.Gen
open Cert.Adam

variable (m : (ℓ : Loc nD τ sig) → Buf (Elt Ideal) ℓ)

/-- The reference's gradient. -/
abbrev REFG (X0 : FVec Ideal S8x832x1024 .bf16) (X1 X2 X3 : FVec Ideal S832x1024 .f32) : FVec Ideal S832x1024 .f32 :=
  Host.reduceAdd (extf .f32 X0 Cert.AdamInRefIdeal.Gen.bitsLt_bf16_f32) (constant Cert.AdamInRefIdeal.S_ .f32 0x00000000#32) Cert.AdamInRefIdeal.Gen.reducesTo_S8x832x1024_S832x1024_d0 Cert.AdamInRefIdeal.Gen.h_S_

/-- The reference's update. -/
abbrev REFD (X0 : FVec Ideal S8x832x1024 .bf16) (X1 X2 X3 : FVec Ideal S832x1024 .f32) : FVec Ideal S832x1024 .f32 :=
  mulf (broadcastInDim Cert.AdamInRefIdeal.S832x1024 ![] Cert.AdamInRefIdeal.Gen.bcast_S_S832x1024 (constant Cert.AdamInRefIdeal.S_ .f32 0xBA83126F#32)) (addf (Host.divf (Host.divf (addf (mulf (broadcastInDim Cert.AdamInRefIdeal.S832x1024 ![] Cert.AdamInRefIdeal.Gen.bcast_S_S832x1024 (constant Cert.AdamInRefIdeal.S_ .f32 0x3F666666#32)) X2) (mulf (broadcastInDim Cert.AdamInRefIdeal.S832x1024 ![] Cert.AdamInRefIdeal.Gen.bcast_S_S832x1024 (constant Cert.AdamInRefIdeal.S_ .f32 0x3DCCCCCD#32)) (Host.reduceAdd (extf .f32 X0 Cert.AdamInRefIdeal.Gen.bitsLt_bf16_f32) (constant Cert.AdamInRefIdeal.S_ .f32 0x00000000#32) Cert.AdamInRefIdeal.Gen.reducesTo_S8x832x1024_S832x1024_d0 Cert.AdamInRefIdeal.Gen.h_S_))) (broadcastInDim Cert.AdamInRefIdeal.S832x1024 ![] Cert.AdamInRefIdeal.Gen.bcast_S_S832x1024 (constant Cert.AdamInRefIdeal.S_ .f32 0x3F26BD02#32))) (addf (Host.sqrt (Host.divf (addf (mulf (broadcastInDim Cert.AdamInRefIdeal.S832x1024 ![] Cert.AdamInRefIdeal.Gen.bcast_S_S832x1024 (constant Cert.AdamInRefIdeal.S_ .f32 0x3F7FBE77#32)) X3) (mulf (broadcastInDim Cert.AdamInRefIdeal.S832x1024 ![] Cert.AdamInRefIdeal.Gen.bcast_S_S832x1024 (constant Cert.AdamInRefIdeal.S_ .f32 0x3A83126F#32)) (mulf (Host.reduceAdd (extf .f32 X0 Cert.AdamInRefIdeal.Gen.bitsLt_bf16_f32) (constant Cert.AdamInRefIdeal.S_ .f32 0x00000000#32) Cert.AdamInRefIdeal.Gen.reducesTo_S8x832x1024_S832x1024_d0 Cert.AdamInRefIdeal.Gen.h_S_) (Host.reduceAdd (extf .f32 X0 Cert.AdamInRefIdeal.Gen.bitsLt_bf16_f32) (constant Cert.AdamInRefIdeal.S_ .f32 0x00000000#32) Cert.AdamInRefIdeal.Gen.reducesTo_S8x832x1024_S832x1024_d0 Cert.AdamInRefIdeal.Gen.h_S_)))) (broadcastInDim Cert.AdamInRefIdeal.S832x1024 ![] Cert.AdamInRefIdeal.Gen.bcast_S_S832x1024 (constant Cert.AdamInRefIdeal.S_ .f32 0x3C231ACC#32)))) (broadcastInDim Cert.AdamInRefIdeal.S832x1024 ![] Cert.AdamInRefIdeal.Gen.bcast_S_S832x1024 (constant Cert.AdamInRefIdeal.S_ .f32 0x322BCC77#32)))) (mulf (broadcastInDim Cert.AdamInRefIdeal.S832x1024 ![] Cert.AdamInRefIdeal.Gen.bcast_S_S832x1024 (constant Cert.AdamInRefIdeal.S_ .f32 0x3C23D70A#32)) X1))

/-- The reference's first moment. -/
abbrev REFM (X0 : FVec Ideal S8x832x1024 .bf16) (X1 X2 X3 : FVec Ideal S832x1024 .f32) : FVec Ideal S832x1024 .f32 :=
  addf (mulf (broadcastInDim Cert.AdamInRefIdeal.S832x1024 ![] Cert.AdamInRefIdeal.Gen.bcast_S_S832x1024 (constant Cert.AdamInRefIdeal.S_ .f32 0x3F666666#32)) X2) (mulf (broadcastInDim Cert.AdamInRefIdeal.S832x1024 ![] Cert.AdamInRefIdeal.Gen.bcast_S_S832x1024 (constant Cert.AdamInRefIdeal.S_ .f32 0x3DCCCCCD#32)) (Host.reduceAdd (extf .f32 X0 Cert.AdamInRefIdeal.Gen.bitsLt_bf16_f32) (constant Cert.AdamInRefIdeal.S_ .f32 0x00000000#32) Cert.AdamInRefIdeal.Gen.reducesTo_S8x832x1024_S832x1024_d0 Cert.AdamInRefIdeal.Gen.h_S_))

/-- The reference's second moment. -/
abbrev REFV (X0 : FVec Ideal S8x832x1024 .bf16) (X1 X2 X3 : FVec Ideal S832x1024 .f32) : FVec Ideal S832x1024 .f32 :=
  addf (mulf (broadcastInDim Cert.AdamInRefIdeal.S832x1024 ![] Cert.AdamInRefIdeal.Gen.bcast_S_S832x1024 (constant Cert.AdamInRefIdeal.S_ .f32 0x3F7FBE77#32)) X3) (mulf (broadcastInDim Cert.AdamInRefIdeal.S832x1024 ![] Cert.AdamInRefIdeal.Gen.bcast_S_S832x1024 (constant Cert.AdamInRefIdeal.S_ .f32 0x3A83126F#32)) (mulf (Host.reduceAdd (extf .f32 X0 Cert.AdamInRefIdeal.Gen.bitsLt_bf16_f32) (constant Cert.AdamInRefIdeal.S_ .f32 0x00000000#32) Cert.AdamInRefIdeal.Gen.reducesTo_S8x832x1024_S832x1024_d0 Cert.AdamInRefIdeal.Gen.h_S_) (Host.reduceAdd (extf .f32 X0 Cert.AdamInRefIdeal.Gen.bitsLt_bf16_f32) (constant Cert.AdamInRefIdeal.S_ .f32 0x00000000#32) Cert.AdamInRefIdeal.Gen.reducesTo_S8x832x1024_S832x1024_d0 Cert.AdamInRefIdeal.Gen.h_S_)))

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- The eight parts' sum at an entry. -/
abbrev parts {a b : ℕ} (X : FVec Ideal ⟨3, ![8, a, b]⟩ .bf16) (i : Fin a) (j : Fin b) : EReal :=
  ∑ k : Fin 8, X (ix3 k i j)

theorem refG_at (X0 : FVec Ideal S8x832x1024 .bf16) (X1 X2 X3 : FVec Ideal S832x1024 .f32) (j : S832x1024.Idx) : REFG X0 X1 X2 X3 j = parts X0 (j 0) (j 1) := by
  pointwise [REFG]

theorem refD_at (X0 : FVec Ideal S8x832x1024 .bf16) (X1 X2 X3 : FVec Ideal S832x1024 .f32) (j : S832x1024.Idx) : REFD X0 X1 X2 X3 j = update (X1 j) (parts X0 (j 0) (j 1)) (X2 j) (X3 j) := by
  pointwise [REFD]

theorem refM_at (X0 : FVec Ideal S8x832x1024 .bf16) (X1 X2 X3 : FVec Ideal S832x1024 .f32) (j : S832x1024.Idx) : REFM X0 X1 X2 X3 j = step1 (parts X0 (j 0) (j 1)) (X2 j) := by
  pointwise [REFM]

theorem refV_at (X0 : FVec Ideal S8x832x1024 .bf16) (X1 X2 X3 : FVec Ideal S832x1024 .f32) (j : S832x1024.Idx) : REFV X0 X1 X2 X3 j = step2 (parts X0 (j 0) (j 1)) (X3 j) := by
  pointwise [REFV]

theorem g_at (x0 : FVec Ideal S8x208x1024 .bf16) (x1 x2 x3 : FVec Ideal S208x1024 .f32) (y : S208x1024.Idx) : k0_pay5 (F := Ideal) x0 x1 x2 x3 y = parts x0 (y 0) (y 1) := by
  unfold parts
  rw [Fin.sum_univ_eight]
  pointwise [k0_pay5, k0_pay4]
  repeat' refine congr_arg₂ (· + ·) ?_ ?_
  all_goals blk_ext

theorem outG_at (x0 : FVec Ideal S8x208x1024 .bf16) (x1 x2 x3 : FVec Ideal S208x1024 .f32) (y : S208x1024.Idx) : out0_4 (F := Ideal) x0 x1 x2 x3 y = parts x0 (y 0) (y 1) := by
  rw [← g_at x0 x1 x2 x3 y]
  unfold out0_4
  canon_tiles x h
  all_goals blk_ext

theorem outM_at (x0 : FVec Ideal S8x208x1024 .bf16) (x1 x2 x3 : FVec Ideal S208x1024 .f32) (y : S208x1024.Idx) : out0_6 (F := Ideal) x0 x1 x2 x3 y = step1 (parts x0 (y 0) (y 1)) (x2 y) := by
  rw [← g_at x0 x1 x2 x3 y]
  unfold out0_6
  generalize k0_pay5 (F := Ideal) x0 x1 x2 x3 = G
  canon_tiles x h
  all_goals
    open_payloads
    pointwise
    have e : x = y := by blk_ext
    subst e
    rfl

theorem outV_at (x0 : FVec Ideal S8x208x1024 .bf16) (x1 x2 x3 : FVec Ideal S208x1024 .f32) (y : S208x1024.Idx) : out0_7 (F := Ideal) x0 x1 x2 x3 y = step2 (parts x0 (y 0) (y 1)) (x3 y) := by
  rw [← g_at x0 x1 x2 x3 y]
  unfold out0_7
  generalize k0_pay5 (F := Ideal) x0 x1 x2 x3 = G
  canon_tiles x h
  all_goals
    open_payloads
    pointwise
    have e : x = y := by blk_ext
    subst e
    rfl

theorem outD_at (x0 : FVec Ideal S8x208x1024 .bf16) (x1 x2 x3 : FVec Ideal S208x1024 .f32) (y : S208x1024.Idx) : out0_5 (F := Ideal) x0 x1 x2 x3 y = update (x1 y) (parts x0 (y 0) (y 1)) (x2 y) (x3 y) := by
  rw [← g_at x0 x1 x2 x3 y]
  unfold out0_5
  generalize k0_pay5 (F := Ideal) x0 x1 x2 x3 = G
  canon_tiles x h
  all_goals
    open_payloads
    pointwise
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    have e : x = y := by blk_ext
    subst e
    rfl

theorem parts_arg (c : Dev nD) (t : Fin cfg0.N) (y : S208x1024.Idx) (j : S832x1024.Idx) (h0 : (j 0).val = t.val * 208 + (y 0).val) (h1 : (j 1).val = (y 1).val) :
    parts (show FVec Ideal S8x208x1024 .bf16 from iblk m c 0 t) (y 0) (y 1)
      = parts (show FVec Ideal S8x832x1024 .bf16 from m ((c : Thread nD τ).loc main_arg0)) (j 0) (j 1) := by
  refine Fin.sum_fin_congr fun k => ?_
  blk_point [iblk, V_main_arg0 m c, idx t]

theorem final_G (c : Dev nD) : (dats m 0 c).arrAt 4 (cfgs 0).N = REFG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, outG_at, refG_at, parts_arg m c t y ((win0_4.blk t).view.emb y) (by blk_ext [idx t]) (by blk_ext [idx t])]

theorem final_D (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outD_at, refD_at, parts_arg m c t y ((win0_5.blk t).view.emb y) (by blk_ext [idx t]) (by blk_ext [idx t])]
  rw [show (iblk m c 1 t : S208x1024.Idx → EReal) y = m ((c : Thread nD τ).loc main_arg1) ((win0_5.blk t).view.emb y) from by blk_point [iblk, V, idx t], show (iblk m c 2 t : S208x1024.Idx → EReal) y = m ((c : Thread nD τ).loc main_arg2) ((win0_5.blk t).view.emb y) from by blk_point [iblk, V, idx t], show (iblk m c 3 t : S208x1024.Idx → EReal) y = m ((c : Thread nD τ).loc main_arg3) ((win0_5.blk t).view.emb y) from by blk_point [iblk, V, idx t]]

theorem final_M (c : Dev nD) : (dats m 0 c).arrAt 6 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, outM_at, refM_at, parts_arg m c t y ((win0_6.blk t).view.emb y) (by blk_ext [idx t]) (by blk_ext [idx t])]
  refine congrArg (step1 _) ?_
  blk_point [iblk, V, idx t]

theorem final_V (c : Dev nD) : (dats m 0 c).arrAt 7 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, outV_at, refV_at, parts_arg m c t y ((win0_7.blk t).view.emb y) (by blk_ext [idx t]) (by blk_ext [idx t])]
  refine congrArg (step2 _) ?_
  blk_point [iblk, V, idx t]

/-- The reference leaves its arguments as launched. -/
theorem frame_reference : Cert.quiescent_AdamInRefIdeal := fun m ρ _ =>
  (θ_run Cert.AdamInRefIdeal.defs _ _).mono
    (fun r h => ⟨fun c => (h c).2.2.2.2, Idealize.ShloMosaic.sem_eq_zero_of_no_sems (by decide) r.2⟩)
    (Cert.AdamInRefIdeal.Value.run (F := Ideal) m ρ)

/-- Both programs end with the reference's value of the shared arguments. -/
theorem algebraic : Cert.algebraic_AdamInIdeal_AdamInRefIdeal := by
  intro m ρ m' ρ' _ hargs
  refine ⟨fun c => REFG (m ((c : Thread nD τ).loc main_arg0)) (m ((c : Thread nD τ).loc main_arg1)) (m ((c : Thread nD τ).loc main_arg2)) (m ((c : Thread nD τ).loc main_arg3)), fun c => REFD (m ((c : Thread nD τ).loc main_arg0)) (m ((c : Thread nD τ).loc main_arg1)) (m ((c : Thread nD τ).loc main_arg2)) (m ((c : Thread nD τ).loc main_arg3)), fun c => REFM (m ((c : Thread nD τ).loc main_arg0)) (m ((c : Thread nD τ).loc main_arg1)) (m ((c : Thread nD τ).loc main_arg2)) (m ((c : Thread nD τ).loc main_arg3)), fun c => REFV (m ((c : Thread nD τ).loc main_arg0)) (m ((c : Thread nD τ).loc main_arg1)) (m ((c : Thread nD τ).loc main_arg2)) (m ((c : Thread nD τ).loc main_arg3)), ?_, ?_⟩
  · exact (θ_run defs _ _).mono (fun _ h c => ⟨((h c).1).trans (final_G m c), ((h c).2.1).trans (final_D m c), ((h c).2.2.1).trans (final_M m c), ((h c).2.2.2.1).trans (final_V m c), (h c).2.2.2.2⟩)
      (Cert.AdamInIdeal.Value.run_blocks m ρ)
  · exact (θ_run Cert.AdamInRefIdeal.defs _ _).mono (fun _ h c => ⟨((h c).1).trans (show REFG (m' ((c : Thread nD τ).loc Cert.AdamInRefIdeal.main_arg0)) (m' ((c : Thread nD τ).loc Cert.AdamInRefIdeal.main_arg1)) (m' ((c : Thread nD τ).loc Cert.AdamInRefIdeal.main_arg2)) (m' ((c : Thread nD τ).loc Cert.AdamInRefIdeal.main_arg3)) = REFG (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.1).trans (show REFD (m' ((c : Thread nD τ).loc Cert.AdamInRefIdeal.main_arg0)) (m' ((c : Thread nD τ).loc Cert.AdamInRefIdeal.main_arg1)) (m' ((c : Thread nD τ).loc Cert.AdamInRefIdeal.main_arg2)) (m' ((c : Thread nD τ).loc Cert.AdamInRefIdeal.main_arg3)) = REFD (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.2.1).trans (show REFM (m' ((c : Thread nD τ).loc Cert.AdamInRefIdeal.main_arg0)) (m' ((c : Thread nD τ).loc Cert.AdamInRefIdeal.main_arg1)) (m' ((c : Thread nD τ).loc Cert.AdamInRefIdeal.main_arg2)) (m' ((c : Thread nD τ).loc Cert.AdamInRefIdeal.main_arg3)) = REFM (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.2.2.1).trans (show REFV (m' ((c : Thread nD τ).loc Cert.AdamInRefIdeal.main_arg0)) (m' ((c : Thread nD τ).loc Cert.AdamInRefIdeal.main_arg1)) (m' ((c : Thread nD τ).loc Cert.AdamInRefIdeal.main_arg2)) (m' ((c : Thread nD τ).loc Cert.AdamInRefIdeal.main_arg3)) = REFV (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), (h c).2.2.2.2⟩)
      (Cert.AdamInRefIdeal.Value.run (F := Ideal) m' ρ')

end Cert.AdamInIdeal.Val

end
-- ==== Proof.AdamSquareValue.lean ====
/-
  The value of the optimiser's step on a square weight: the eight parts added, and the step entry by entry.
-/
module

public import proofs.«01_k».proof.Defs
public import proofs.«01_k».proof.Proof.Gen.AdamSquareIdeal.Value
public import proofs.«01_k».proof.Proof.Gen.AdamSquareRefIdeal.Run
public import Idealize.ShloMosaic.Lib.Pipeline.ValueKit
public import Idealize.ShloMosaic.Lib.Pipeline.ReadBack
public import proofs.«01_k».proof.Proof.Adam
@[expose] public section

set_option maxRecDepth 16384

noncomputable section

open Idealize.ShloMosaic Idealize.ShloMosaic.TcCoe Idealize.SL.Sem
open Idealize.ShloMosaic.Pipeline (Dat)

namespace Cert.AdamSquareIdeal.Val

open Cert.AdamSquareIdeal Cert.AdamSquareIdeal.Gen
open Cert.Adam

variable (m : (ℓ : Loc nD τ sig) → Buf (Elt Ideal) ℓ)

/-- The reference's gradient. -/
abbrev REFG (X0 : FVec Ideal S8x128x1024 .bf16) (X1 X2 X3 : FVec Ideal S128x1024 .f32) : FVec Ideal S128x1024 .f32 :=
  Host.reduceAdd (extf .f32 X0 Cert.AdamSquareRefIdeal.Gen.bitsLt_bf16_f32) (constant Cert.AdamSquareRefIdeal.S_ .f32 0x00000000#32) Cert.AdamSquareRefIdeal.Gen.reducesTo_S8x128x1024_S128x1024_d0 Cert.AdamSquareRefIdeal.Gen.h_S_

/-- The reference's update. -/
abbrev REFD (X0 : FVec Ideal S8x128x1024 .bf16) (X1 X2 X3 : FVec Ideal S128x1024 .f32) : FVec Ideal S128x1024 .f32 :=
  mulf (broadcastInDim Cert.AdamSquareRefIdeal.S128x1024 ![] Cert.AdamSquareRefIdeal.Gen.bcast_S_S128x1024 (constant Cert.AdamSquareRefIdeal.S_ .f32 0xBA83126F#32)) (addf (Host.divf (Host.divf (addf (mulf (broadcastInDim Cert.AdamSquareRefIdeal.S128x1024 ![] Cert.AdamSquareRefIdeal.Gen.bcast_S_S128x1024 (constant Cert.AdamSquareRefIdeal.S_ .f32 0x3F666666#32)) X2) (mulf (broadcastInDim Cert.AdamSquareRefIdeal.S128x1024 ![] Cert.AdamSquareRefIdeal.Gen.bcast_S_S128x1024 (constant Cert.AdamSquareRefIdeal.S_ .f32 0x3DCCCCCD#32)) (Host.reduceAdd (extf .f32 X0 Cert.AdamSquareRefIdeal.Gen.bitsLt_bf16_f32) (constant Cert.AdamSquareRefIdeal.S_ .f32 0x00000000#32) Cert.AdamSquareRefIdeal.Gen.reducesTo_S8x128x1024_S128x1024_d0 Cert.AdamSquareRefIdeal.Gen.h_S_))) (broadcastInDim Cert.AdamSquareRefIdeal.S128x1024 ![] Cert.AdamSquareRefIdeal.Gen.bcast_S_S128x1024 (constant Cert.AdamSquareRefIdeal.S_ .f32 0x3F26BD02#32))) (addf (Host.sqrt (Host.divf (addf (mulf (broadcastInDim Cert.AdamSquareRefIdeal.S128x1024 ![] Cert.AdamSquareRefIdeal.Gen.bcast_S_S128x1024 (constant Cert.AdamSquareRefIdeal.S_ .f32 0x3F7FBE77#32)) X3) (mulf (broadcastInDim Cert.AdamSquareRefIdeal.S128x1024 ![] Cert.AdamSquareRefIdeal.Gen.bcast_S_S128x1024 (constant Cert.AdamSquareRefIdeal.S_ .f32 0x3A83126F#32)) (mulf (Host.reduceAdd (extf .f32 X0 Cert.AdamSquareRefIdeal.Gen.bitsLt_bf16_f32) (constant Cert.AdamSquareRefIdeal.S_ .f32 0x00000000#32) Cert.AdamSquareRefIdeal.Gen.reducesTo_S8x128x1024_S128x1024_d0 Cert.AdamSquareRefIdeal.Gen.h_S_) (Host.reduceAdd (extf .f32 X0 Cert.AdamSquareRefIdeal.Gen.bitsLt_bf16_f32) (constant Cert.AdamSquareRefIdeal.S_ .f32 0x00000000#32) Cert.AdamSquareRefIdeal.Gen.reducesTo_S8x128x1024_S128x1024_d0 Cert.AdamSquareRefIdeal.Gen.h_S_)))) (broadcastInDim Cert.AdamSquareRefIdeal.S128x1024 ![] Cert.AdamSquareRefIdeal.Gen.bcast_S_S128x1024 (constant Cert.AdamSquareRefIdeal.S_ .f32 0x3C231ACC#32)))) (broadcastInDim Cert.AdamSquareRefIdeal.S128x1024 ![] Cert.AdamSquareRefIdeal.Gen.bcast_S_S128x1024 (constant Cert.AdamSquareRefIdeal.S_ .f32 0x322BCC77#32)))) (mulf (broadcastInDim Cert.AdamSquareRefIdeal.S128x1024 ![] Cert.AdamSquareRefIdeal.Gen.bcast_S_S128x1024 (constant Cert.AdamSquareRefIdeal.S_ .f32 0x3C23D70A#32)) X1))

/-- The reference's first moment. -/
abbrev REFM (X0 : FVec Ideal S8x128x1024 .bf16) (X1 X2 X3 : FVec Ideal S128x1024 .f32) : FVec Ideal S128x1024 .f32 :=
  addf (mulf (broadcastInDim Cert.AdamSquareRefIdeal.S128x1024 ![] Cert.AdamSquareRefIdeal.Gen.bcast_S_S128x1024 (constant Cert.AdamSquareRefIdeal.S_ .f32 0x3F666666#32)) X2) (mulf (broadcastInDim Cert.AdamSquareRefIdeal.S128x1024 ![] Cert.AdamSquareRefIdeal.Gen.bcast_S_S128x1024 (constant Cert.AdamSquareRefIdeal.S_ .f32 0x3DCCCCCD#32)) (Host.reduceAdd (extf .f32 X0 Cert.AdamSquareRefIdeal.Gen.bitsLt_bf16_f32) (constant Cert.AdamSquareRefIdeal.S_ .f32 0x00000000#32) Cert.AdamSquareRefIdeal.Gen.reducesTo_S8x128x1024_S128x1024_d0 Cert.AdamSquareRefIdeal.Gen.h_S_))

/-- The reference's second moment. -/
abbrev REFV (X0 : FVec Ideal S8x128x1024 .bf16) (X1 X2 X3 : FVec Ideal S128x1024 .f32) : FVec Ideal S128x1024 .f32 :=
  addf (mulf (broadcastInDim Cert.AdamSquareRefIdeal.S128x1024 ![] Cert.AdamSquareRefIdeal.Gen.bcast_S_S128x1024 (constant Cert.AdamSquareRefIdeal.S_ .f32 0x3F7FBE77#32)) X3) (mulf (broadcastInDim Cert.AdamSquareRefIdeal.S128x1024 ![] Cert.AdamSquareRefIdeal.Gen.bcast_S_S128x1024 (constant Cert.AdamSquareRefIdeal.S_ .f32 0x3A83126F#32)) (mulf (Host.reduceAdd (extf .f32 X0 Cert.AdamSquareRefIdeal.Gen.bitsLt_bf16_f32) (constant Cert.AdamSquareRefIdeal.S_ .f32 0x00000000#32) Cert.AdamSquareRefIdeal.Gen.reducesTo_S8x128x1024_S128x1024_d0 Cert.AdamSquareRefIdeal.Gen.h_S_) (Host.reduceAdd (extf .f32 X0 Cert.AdamSquareRefIdeal.Gen.bitsLt_bf16_f32) (constant Cert.AdamSquareRefIdeal.S_ .f32 0x00000000#32) Cert.AdamSquareRefIdeal.Gen.reducesTo_S8x128x1024_S128x1024_d0 Cert.AdamSquareRefIdeal.Gen.h_S_)))

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- The eight parts' sum at an entry. -/
abbrev parts {a b : ℕ} (X : FVec Ideal ⟨3, ![8, a, b]⟩ .bf16) (i : Fin a) (j : Fin b) : EReal :=
  ∑ k : Fin 8, X (ix3 k i j)

theorem refG_at (X0 : FVec Ideal S8x128x1024 .bf16) (X1 X2 X3 : FVec Ideal S128x1024 .f32) (j : S128x1024.Idx) : REFG X0 X1 X2 X3 j = parts X0 (j 0) (j 1) := by
  pointwise [REFG]

theorem refD_at (X0 : FVec Ideal S8x128x1024 .bf16) (X1 X2 X3 : FVec Ideal S128x1024 .f32) (j : S128x1024.Idx) : REFD X0 X1 X2 X3 j = update (X1 j) (parts X0 (j 0) (j 1)) (X2 j) (X3 j) := by
  pointwise [REFD]

theorem refM_at (X0 : FVec Ideal S8x128x1024 .bf16) (X1 X2 X3 : FVec Ideal S128x1024 .f32) (j : S128x1024.Idx) : REFM X0 X1 X2 X3 j = step1 (parts X0 (j 0) (j 1)) (X2 j) := by
  pointwise [REFM]

theorem refV_at (X0 : FVec Ideal S8x128x1024 .bf16) (X1 X2 X3 : FVec Ideal S128x1024 .f32) (j : S128x1024.Idx) : REFV X0 X1 X2 X3 j = step2 (parts X0 (j 0) (j 1)) (X3 j) := by
  pointwise [REFV]

theorem g_at (x0 : FVec Ideal S8x128x1024 .bf16) (x1 x2 x3 : FVec Ideal S128x1024 .f32) (y : S128x1024.Idx) : k0_pay5 (F := Ideal) x0 x1 x2 x3 y = parts x0 (y 0) (y 1) := by
  unfold parts
  rw [Fin.sum_univ_eight]
  pointwise [k0_pay5, k0_pay4]
  repeat' refine congr_arg₂ (· + ·) ?_ ?_
  all_goals blk_ext

theorem outG_at (x0 : FVec Ideal S8x128x1024 .bf16) (x1 x2 x3 : FVec Ideal S128x1024 .f32) (y : S128x1024.Idx) : out0_4 (F := Ideal) x0 x1 x2 x3 y = parts x0 (y 0) (y 1) := by
  rw [← g_at x0 x1 x2 x3 y]
  unfold out0_4
  canon_tiles x h
  all_goals blk_ext

theorem outM_at (x0 : FVec Ideal S8x128x1024 .bf16) (x1 x2 x3 : FVec Ideal S128x1024 .f32) (y : S128x1024.Idx) : out0_6 (F := Ideal) x0 x1 x2 x3 y = step1 (parts x0 (y 0) (y 1)) (x2 y) := by
  rw [← g_at x0 x1 x2 x3 y]
  unfold out0_6
  generalize k0_pay5 (F := Ideal) x0 x1 x2 x3 = G
  canon_tiles x h
  all_goals
    open_payloads
    pointwise
    have e : x = y := by blk_ext
    subst e
    rfl

theorem outV_at (x0 : FVec Ideal S8x128x1024 .bf16) (x1 x2 x3 : FVec Ideal S128x1024 .f32) (y : S128x1024.Idx) : out0_7 (F := Ideal) x0 x1 x2 x3 y = step2 (parts x0 (y 0) (y 1)) (x3 y) := by
  rw [← g_at x0 x1 x2 x3 y]
  unfold out0_7
  generalize k0_pay5 (F := Ideal) x0 x1 x2 x3 = G
  canon_tiles x h
  all_goals
    open_payloads
    pointwise
    have e : x = y := by blk_ext
    subst e
    rfl

theorem outD_at (x0 : FVec Ideal S8x128x1024 .bf16) (x1 x2 x3 : FVec Ideal S128x1024 .f32) (y : S128x1024.Idx) : out0_5 (F := Ideal) x0 x1 x2 x3 y = update (x1 y) (parts x0 (y 0) (y 1)) (x2 y) (x3 y) := by
  rw [← g_at x0 x1 x2 x3 y]
  unfold out0_5
  generalize k0_pay5 (F := Ideal) x0 x1 x2 x3 = G
  canon_tiles x h
  all_goals
    open_payloads
    pointwise
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    have e : x = y := by blk_ext
    subst e
    rfl

theorem parts_arg (c : Dev nD) (t : Fin cfg0.N) (y : S128x1024.Idx) (j : S128x1024.Idx) (h0 : (j 0).val = t.val * 128 + (y 0).val) (h1 : (j 1).val = (y 1).val) :
    parts (show FVec Ideal S8x128x1024 .bf16 from iblk m c 0 t) (y 0) (y 1)
      = parts (show FVec Ideal S8x128x1024 .bf16 from m ((c : Thread nD τ).loc main_arg0)) (j 0) (j 1) := by
  refine Fin.sum_fin_congr fun k => ?_
  blk_point [iblk, V_main_arg0 m c, idx t]

theorem final_G (c : Dev nD) : (dats m 0 c).arrAt 4 (cfgs 0).N = REFG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, outG_at, refG_at, parts_arg m c t y ((win0_4.blk t).view.emb y) (by blk_ext [idx t]) (by blk_ext [idx t])]

theorem final_D (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outD_at, refD_at, parts_arg m c t y ((win0_5.blk t).view.emb y) (by blk_ext [idx t]) (by blk_ext [idx t])]
  rw [show (iblk m c 1 t : S128x1024.Idx → EReal) y = m ((c : Thread nD τ).loc main_arg1) ((win0_5.blk t).view.emb y) from by blk_point [iblk, V, idx t], show (iblk m c 2 t : S128x1024.Idx → EReal) y = m ((c : Thread nD τ).loc main_arg2) ((win0_5.blk t).view.emb y) from by blk_point [iblk, V, idx t], show (iblk m c 3 t : S128x1024.Idx → EReal) y = m ((c : Thread nD τ).loc main_arg3) ((win0_5.blk t).view.emb y) from by blk_point [iblk, V, idx t]]

theorem final_M (c : Dev nD) : (dats m 0 c).arrAt 6 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, outM_at, refM_at, parts_arg m c t y ((win0_6.blk t).view.emb y) (by blk_ext [idx t]) (by blk_ext [idx t])]
  refine congrArg (step1 _) ?_
  blk_point [iblk, V, idx t]

theorem final_V (c : Dev nD) : (dats m 0 c).arrAt 7 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, outV_at, refV_at, parts_arg m c t y ((win0_7.blk t).view.emb y) (by blk_ext [idx t]) (by blk_ext [idx t])]
  refine congrArg (step2 _) ?_
  blk_point [iblk, V, idx t]

/-- The reference leaves its arguments as launched. -/
theorem frame_reference : Cert.quiescent_AdamSquareRefIdeal := fun m ρ _ =>
  (θ_run Cert.AdamSquareRefIdeal.defs _ _).mono
    (fun r h => ⟨fun c => (h c).2.2.2.2, Idealize.ShloMosaic.sem_eq_zero_of_no_sems (by decide) r.2⟩)
    (Cert.AdamSquareRefIdeal.Value.run (F := Ideal) m ρ)

/-- Both programs end with the reference's value of the shared arguments. -/
theorem algebraic : Cert.algebraic_AdamSquareIdeal_AdamSquareRefIdeal := by
  intro m ρ m' ρ' _ hargs
  refine ⟨fun c => REFG (m ((c : Thread nD τ).loc main_arg0)) (m ((c : Thread nD τ).loc main_arg1)) (m ((c : Thread nD τ).loc main_arg2)) (m ((c : Thread nD τ).loc main_arg3)), fun c => REFD (m ((c : Thread nD τ).loc main_arg0)) (m ((c : Thread nD τ).loc main_arg1)) (m ((c : Thread nD τ).loc main_arg2)) (m ((c : Thread nD τ).loc main_arg3)), fun c => REFM (m ((c : Thread nD τ).loc main_arg0)) (m ((c : Thread nD τ).loc main_arg1)) (m ((c : Thread nD τ).loc main_arg2)) (m ((c : Thread nD τ).loc main_arg3)), fun c => REFV (m ((c : Thread nD τ).loc main_arg0)) (m ((c : Thread nD τ).loc main_arg1)) (m ((c : Thread nD τ).loc main_arg2)) (m ((c : Thread nD τ).loc main_arg3)), ?_, ?_⟩
  · exact (θ_run defs _ _).mono (fun _ h c => ⟨((h c).1).trans (final_G m c), ((h c).2.1).trans (final_D m c), ((h c).2.2.1).trans (final_M m c), ((h c).2.2.2.1).trans (final_V m c), (h c).2.2.2.2⟩)
      (Cert.AdamSquareIdeal.Value.run_blocks m ρ)
  · exact (θ_run Cert.AdamSquareRefIdeal.defs _ _).mono (fun _ h c => ⟨((h c).1).trans (show REFG (m' ((c : Thread nD τ).loc Cert.AdamSquareRefIdeal.main_arg0)) (m' ((c : Thread nD τ).loc Cert.AdamSquareRefIdeal.main_arg1)) (m' ((c : Thread nD τ).loc Cert.AdamSquareRefIdeal.main_arg2)) (m' ((c : Thread nD τ).loc Cert.AdamSquareRefIdeal.main_arg3)) = REFG (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.1).trans (show REFD (m' ((c : Thread nD τ).loc Cert.AdamSquareRefIdeal.main_arg0)) (m' ((c : Thread nD τ).loc Cert.AdamSquareRefIdeal.main_arg1)) (m' ((c : Thread nD τ).loc Cert.AdamSquareRefIdeal.main_arg2)) (m' ((c : Thread nD τ).loc Cert.AdamSquareRefIdeal.main_arg3)) = REFD (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.2.1).trans (show REFM (m' ((c : Thread nD τ).loc Cert.AdamSquareRefIdeal.main_arg0)) (m' ((c : Thread nD τ).loc Cert.AdamSquareRefIdeal.main_arg1)) (m' ((c : Thread nD τ).loc Cert.AdamSquareRefIdeal.main_arg2)) (m' ((c : Thread nD τ).loc Cert.AdamSquareRefIdeal.main_arg3)) = REFM (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.2.2.1).trans (show REFV (m' ((c : Thread nD τ).loc Cert.AdamSquareRefIdeal.main_arg0)) (m' ((c : Thread nD τ).loc Cert.AdamSquareRefIdeal.main_arg1)) (m' ((c : Thread nD τ).loc Cert.AdamSquareRefIdeal.main_arg2)) (m' ((c : Thread nD τ).loc Cert.AdamSquareRefIdeal.main_arg3)) = REFV (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), (h c).2.2.2.2⟩)
      (Cert.AdamSquareRefIdeal.Value.run (F := Ideal) m' ρ')

end Cert.AdamSquareIdeal.Val

end
-- ==== Proof.AdamBranchValue.lean ====
/-
  The value of the optimiser's step on a branch weight: the eight parts added, and the step entry by entry.
-/
module

public import proofs.«01_k».proof.Defs
public import proofs.«01_k».proof.Proof.Gen.AdamBranchIdeal.Value
public import proofs.«01_k».proof.Proof.Gen.AdamBranchRefIdeal.Run
public import Idealize.ShloMosaic.Lib.Pipeline.ValueKit
public import Idealize.ShloMosaic.Lib.Pipeline.ReadBack
public import proofs.«01_k».proof.Proof.Adam
@[expose] public section

set_option maxRecDepth 16384

noncomputable section

open Idealize.ShloMosaic Idealize.ShloMosaic.TcCoe Idealize.SL.Sem
open Idealize.ShloMosaic.Pipeline (Dat)

namespace Cert.AdamBranchIdeal.Val

open Cert.AdamBranchIdeal Cert.AdamBranchIdeal.Gen
open Cert.Adam

variable (m : (ℓ : Loc nD τ sig) → Buf (Elt Ideal) ℓ)

/-- The reference's gradient. -/
abbrev REFG (X0 : FVec Ideal S8x128x512 .bf16) (X1 X2 X3 : FVec Ideal S128x512 .f32) : FVec Ideal S128x512 .f32 :=
  Host.reduceAdd (extf .f32 X0 Cert.AdamBranchRefIdeal.Gen.bitsLt_bf16_f32) (constant Cert.AdamBranchRefIdeal.S_ .f32 0x00000000#32) Cert.AdamBranchRefIdeal.Gen.reducesTo_S8x128x512_S128x512_d0 Cert.AdamBranchRefIdeal.Gen.h_S_

/-- The reference's update. -/
abbrev REFD (X0 : FVec Ideal S8x128x512 .bf16) (X1 X2 X3 : FVec Ideal S128x512 .f32) : FVec Ideal S128x512 .f32 :=
  mulf (broadcastInDim Cert.AdamBranchRefIdeal.S128x512 ![] Cert.AdamBranchRefIdeal.Gen.bcast_S_S128x512 (constant Cert.AdamBranchRefIdeal.S_ .f32 0xBA83126F#32)) (addf (Host.divf (Host.divf (addf (mulf (broadcastInDim Cert.AdamBranchRefIdeal.S128x512 ![] Cert.AdamBranchRefIdeal.Gen.bcast_S_S128x512 (constant Cert.AdamBranchRefIdeal.S_ .f32 0x3F666666#32)) X2) (mulf (broadcastInDim Cert.AdamBranchRefIdeal.S128x512 ![] Cert.AdamBranchRefIdeal.Gen.bcast_S_S128x512 (constant Cert.AdamBranchRefIdeal.S_ .f32 0x3DCCCCCD#32)) (Host.reduceAdd (extf .f32 X0 Cert.AdamBranchRefIdeal.Gen.bitsLt_bf16_f32) (constant Cert.AdamBranchRefIdeal.S_ .f32 0x00000000#32) Cert.AdamBranchRefIdeal.Gen.reducesTo_S8x128x512_S128x512_d0 Cert.AdamBranchRefIdeal.Gen.h_S_))) (broadcastInDim Cert.AdamBranchRefIdeal.S128x512 ![] Cert.AdamBranchRefIdeal.Gen.bcast_S_S128x512 (constant Cert.AdamBranchRefIdeal.S_ .f32 0x3F26BD02#32))) (addf (Host.sqrt (Host.divf (addf (mulf (broadcastInDim Cert.AdamBranchRefIdeal.S128x512 ![] Cert.AdamBranchRefIdeal.Gen.bcast_S_S128x512 (constant Cert.AdamBranchRefIdeal.S_ .f32 0x3F7FBE77#32)) X3) (mulf (broadcastInDim Cert.AdamBranchRefIdeal.S128x512 ![] Cert.AdamBranchRefIdeal.Gen.bcast_S_S128x512 (constant Cert.AdamBranchRefIdeal.S_ .f32 0x3A83126F#32)) (mulf (Host.reduceAdd (extf .f32 X0 Cert.AdamBranchRefIdeal.Gen.bitsLt_bf16_f32) (constant Cert.AdamBranchRefIdeal.S_ .f32 0x00000000#32) Cert.AdamBranchRefIdeal.Gen.reducesTo_S8x128x512_S128x512_d0 Cert.AdamBranchRefIdeal.Gen.h_S_) (Host.reduceAdd (extf .f32 X0 Cert.AdamBranchRefIdeal.Gen.bitsLt_bf16_f32) (constant Cert.AdamBranchRefIdeal.S_ .f32 0x00000000#32) Cert.AdamBranchRefIdeal.Gen.reducesTo_S8x128x512_S128x512_d0 Cert.AdamBranchRefIdeal.Gen.h_S_)))) (broadcastInDim Cert.AdamBranchRefIdeal.S128x512 ![] Cert.AdamBranchRefIdeal.Gen.bcast_S_S128x512 (constant Cert.AdamBranchRefIdeal.S_ .f32 0x3C231ACC#32)))) (broadcastInDim Cert.AdamBranchRefIdeal.S128x512 ![] Cert.AdamBranchRefIdeal.Gen.bcast_S_S128x512 (constant Cert.AdamBranchRefIdeal.S_ .f32 0x322BCC77#32)))) (mulf (broadcastInDim Cert.AdamBranchRefIdeal.S128x512 ![] Cert.AdamBranchRefIdeal.Gen.bcast_S_S128x512 (constant Cert.AdamBranchRefIdeal.S_ .f32 0x3C23D70A#32)) X1))

/-- The reference's first moment. -/
abbrev REFM (X0 : FVec Ideal S8x128x512 .bf16) (X1 X2 X3 : FVec Ideal S128x512 .f32) : FVec Ideal S128x512 .f32 :=
  addf (mulf (broadcastInDim Cert.AdamBranchRefIdeal.S128x512 ![] Cert.AdamBranchRefIdeal.Gen.bcast_S_S128x512 (constant Cert.AdamBranchRefIdeal.S_ .f32 0x3F666666#32)) X2) (mulf (broadcastInDim Cert.AdamBranchRefIdeal.S128x512 ![] Cert.AdamBranchRefIdeal.Gen.bcast_S_S128x512 (constant Cert.AdamBranchRefIdeal.S_ .f32 0x3DCCCCCD#32)) (Host.reduceAdd (extf .f32 X0 Cert.AdamBranchRefIdeal.Gen.bitsLt_bf16_f32) (constant Cert.AdamBranchRefIdeal.S_ .f32 0x00000000#32) Cert.AdamBranchRefIdeal.Gen.reducesTo_S8x128x512_S128x512_d0 Cert.AdamBranchRefIdeal.Gen.h_S_))

/-- The reference's second moment. -/
abbrev REFV (X0 : FVec Ideal S8x128x512 .bf16) (X1 X2 X3 : FVec Ideal S128x512 .f32) : FVec Ideal S128x512 .f32 :=
  addf (mulf (broadcastInDim Cert.AdamBranchRefIdeal.S128x512 ![] Cert.AdamBranchRefIdeal.Gen.bcast_S_S128x512 (constant Cert.AdamBranchRefIdeal.S_ .f32 0x3F7FBE77#32)) X3) (mulf (broadcastInDim Cert.AdamBranchRefIdeal.S128x512 ![] Cert.AdamBranchRefIdeal.Gen.bcast_S_S128x512 (constant Cert.AdamBranchRefIdeal.S_ .f32 0x3A83126F#32)) (mulf (Host.reduceAdd (extf .f32 X0 Cert.AdamBranchRefIdeal.Gen.bitsLt_bf16_f32) (constant Cert.AdamBranchRefIdeal.S_ .f32 0x00000000#32) Cert.AdamBranchRefIdeal.Gen.reducesTo_S8x128x512_S128x512_d0 Cert.AdamBranchRefIdeal.Gen.h_S_) (Host.reduceAdd (extf .f32 X0 Cert.AdamBranchRefIdeal.Gen.bitsLt_bf16_f32) (constant Cert.AdamBranchRefIdeal.S_ .f32 0x00000000#32) Cert.AdamBranchRefIdeal.Gen.reducesTo_S8x128x512_S128x512_d0 Cert.AdamBranchRefIdeal.Gen.h_S_)))

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- The eight parts' sum at an entry. -/
abbrev parts {a b : ℕ} (X : FVec Ideal ⟨3, ![8, a, b]⟩ .bf16) (i : Fin a) (j : Fin b) : EReal :=
  ∑ k : Fin 8, X (ix3 k i j)

theorem refG_at (X0 : FVec Ideal S8x128x512 .bf16) (X1 X2 X3 : FVec Ideal S128x512 .f32) (j : S128x512.Idx) : REFG X0 X1 X2 X3 j = parts X0 (j 0) (j 1) := by
  pointwise [REFG]

theorem refD_at (X0 : FVec Ideal S8x128x512 .bf16) (X1 X2 X3 : FVec Ideal S128x512 .f32) (j : S128x512.Idx) : REFD X0 X1 X2 X3 j = update (X1 j) (parts X0 (j 0) (j 1)) (X2 j) (X3 j) := by
  pointwise [REFD]

theorem refM_at (X0 : FVec Ideal S8x128x512 .bf16) (X1 X2 X3 : FVec Ideal S128x512 .f32) (j : S128x512.Idx) : REFM X0 X1 X2 X3 j = step1 (parts X0 (j 0) (j 1)) (X2 j) := by
  pointwise [REFM]

theorem refV_at (X0 : FVec Ideal S8x128x512 .bf16) (X1 X2 X3 : FVec Ideal S128x512 .f32) (j : S128x512.Idx) : REFV X0 X1 X2 X3 j = step2 (parts X0 (j 0) (j 1)) (X3 j) := by
  pointwise [REFV]

theorem g_at (x0 : FVec Ideal S8x128x512 .bf16) (x1 x2 x3 : FVec Ideal S128x512 .f32) (y : S128x512.Idx) : k0_pay5 (F := Ideal) x0 x1 x2 x3 y = parts x0 (y 0) (y 1) := by
  unfold parts
  rw [Fin.sum_univ_eight]
  pointwise [k0_pay5, k0_pay4]
  repeat' refine congr_arg₂ (· + ·) ?_ ?_
  all_goals blk_ext

theorem outG_at (x0 : FVec Ideal S8x128x512 .bf16) (x1 x2 x3 : FVec Ideal S128x512 .f32) (y : S128x512.Idx) : out0_4 (F := Ideal) x0 x1 x2 x3 y = parts x0 (y 0) (y 1) := by
  rw [← g_at x0 x1 x2 x3 y]
  unfold out0_4
  canon_tiles x h
  all_goals blk_ext

theorem outM_at (x0 : FVec Ideal S8x128x512 .bf16) (x1 x2 x3 : FVec Ideal S128x512 .f32) (y : S128x512.Idx) : out0_6 (F := Ideal) x0 x1 x2 x3 y = step1 (parts x0 (y 0) (y 1)) (x2 y) := by
  rw [← g_at x0 x1 x2 x3 y]
  unfold out0_6
  generalize k0_pay5 (F := Ideal) x0 x1 x2 x3 = G
  canon_tiles x h
  all_goals
    open_payloads
    pointwise
    have e : x = y := by blk_ext
    subst e
    rfl

theorem outV_at (x0 : FVec Ideal S8x128x512 .bf16) (x1 x2 x3 : FVec Ideal S128x512 .f32) (y : S128x512.Idx) : out0_7 (F := Ideal) x0 x1 x2 x3 y = step2 (parts x0 (y 0) (y 1)) (x3 y) := by
  rw [← g_at x0 x1 x2 x3 y]
  unfold out0_7
  generalize k0_pay5 (F := Ideal) x0 x1 x2 x3 = G
  canon_tiles x h
  all_goals
    open_payloads
    pointwise
    have e : x = y := by blk_ext
    subst e
    rfl

theorem outD_at (x0 : FVec Ideal S8x128x512 .bf16) (x1 x2 x3 : FVec Ideal S128x512 .f32) (y : S128x512.Idx) : out0_5 (F := Ideal) x0 x1 x2 x3 y = update (x1 y) (parts x0 (y 0) (y 1)) (x2 y) (x3 y) := by
  rw [← g_at x0 x1 x2 x3 y]
  unfold out0_5
  generalize k0_pay5 (F := Ideal) x0 x1 x2 x3 = G
  canon_tiles x h
  all_goals
    open_payloads
    pointwise
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    have e : x = y := by blk_ext
    subst e
    rfl

theorem parts_arg (c : Dev nD) (t : Fin cfg0.N) (y : S128x512.Idx) (j : S128x512.Idx) (h0 : (j 0).val = t.val * 128 + (y 0).val) (h1 : (j 1).val = (y 1).val) :
    parts (show FVec Ideal S8x128x512 .bf16 from iblk m c 0 t) (y 0) (y 1)
      = parts (show FVec Ideal S8x128x512 .bf16 from m ((c : Thread nD τ).loc main_arg0)) (j 0) (j 1) := by
  refine Fin.sum_fin_congr fun k => ?_
  blk_point [iblk, V_main_arg0 m c, idx t]

theorem final_G (c : Dev nD) : (dats m 0 c).arrAt 4 (cfgs 0).N = REFG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, outG_at, refG_at, parts_arg m c t y ((win0_4.blk t).view.emb y) (by blk_ext [idx t]) (by blk_ext [idx t])]

theorem final_D (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outD_at, refD_at, parts_arg m c t y ((win0_5.blk t).view.emb y) (by blk_ext [idx t]) (by blk_ext [idx t])]
  rw [show (iblk m c 1 t : S128x512.Idx → EReal) y = m ((c : Thread nD τ).loc main_arg1) ((win0_5.blk t).view.emb y) from by blk_point [iblk, V, idx t], show (iblk m c 2 t : S128x512.Idx → EReal) y = m ((c : Thread nD τ).loc main_arg2) ((win0_5.blk t).view.emb y) from by blk_point [iblk, V, idx t], show (iblk m c 3 t : S128x512.Idx → EReal) y = m ((c : Thread nD τ).loc main_arg3) ((win0_5.blk t).view.emb y) from by blk_point [iblk, V, idx t]]

theorem final_M (c : Dev nD) : (dats m 0 c).arrAt 6 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, outM_at, refM_at, parts_arg m c t y ((win0_6.blk t).view.emb y) (by blk_ext [idx t]) (by blk_ext [idx t])]
  refine congrArg (step1 _) ?_
  blk_point [iblk, V, idx t]

theorem final_V (c : Dev nD) : (dats m 0 c).arrAt 7 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, outV_at, refV_at, parts_arg m c t y ((win0_7.blk t).view.emb y) (by blk_ext [idx t]) (by blk_ext [idx t])]
  refine congrArg (step2 _) ?_
  blk_point [iblk, V, idx t]

/-- The reference leaves its arguments as launched. -/
theorem frame_reference : Cert.quiescent_AdamBranchRefIdeal := fun m ρ _ =>
  (θ_run Cert.AdamBranchRefIdeal.defs _ _).mono
    (fun r h => ⟨fun c => (h c).2.2.2.2, Idealize.ShloMosaic.sem_eq_zero_of_no_sems (by decide) r.2⟩)
    (Cert.AdamBranchRefIdeal.Value.run (F := Ideal) m ρ)

/-- Both programs end with the reference's value of the shared arguments. -/
theorem algebraic : Cert.algebraic_AdamBranchIdeal_AdamBranchRefIdeal := by
  intro m ρ m' ρ' _ hargs
  refine ⟨fun c => REFG (m ((c : Thread nD τ).loc main_arg0)) (m ((c : Thread nD τ).loc main_arg1)) (m ((c : Thread nD τ).loc main_arg2)) (m ((c : Thread nD τ).loc main_arg3)), fun c => REFD (m ((c : Thread nD τ).loc main_arg0)) (m ((c : Thread nD τ).loc main_arg1)) (m ((c : Thread nD τ).loc main_arg2)) (m ((c : Thread nD τ).loc main_arg3)), fun c => REFM (m ((c : Thread nD τ).loc main_arg0)) (m ((c : Thread nD τ).loc main_arg1)) (m ((c : Thread nD τ).loc main_arg2)) (m ((c : Thread nD τ).loc main_arg3)), fun c => REFV (m ((c : Thread nD τ).loc main_arg0)) (m ((c : Thread nD τ).loc main_arg1)) (m ((c : Thread nD τ).loc main_arg2)) (m ((c : Thread nD τ).loc main_arg3)), ?_, ?_⟩
  · exact (θ_run defs _ _).mono (fun _ h c => ⟨((h c).1).trans (final_G m c), ((h c).2.1).trans (final_D m c), ((h c).2.2.1).trans (final_M m c), ((h c).2.2.2.1).trans (final_V m c), (h c).2.2.2.2⟩)
      (Cert.AdamBranchIdeal.Value.run_blocks m ρ)
  · exact (θ_run Cert.AdamBranchRefIdeal.defs _ _).mono (fun _ h c => ⟨((h c).1).trans (show REFG (m' ((c : Thread nD τ).loc Cert.AdamBranchRefIdeal.main_arg0)) (m' ((c : Thread nD τ).loc Cert.AdamBranchRefIdeal.main_arg1)) (m' ((c : Thread nD τ).loc Cert.AdamBranchRefIdeal.main_arg2)) (m' ((c : Thread nD τ).loc Cert.AdamBranchRefIdeal.main_arg3)) = REFG (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.1).trans (show REFD (m' ((c : Thread nD τ).loc Cert.AdamBranchRefIdeal.main_arg0)) (m' ((c : Thread nD τ).loc Cert.AdamBranchRefIdeal.main_arg1)) (m' ((c : Thread nD τ).loc Cert.AdamBranchRefIdeal.main_arg2)) (m' ((c : Thread nD τ).loc Cert.AdamBranchRefIdeal.main_arg3)) = REFD (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.2.1).trans (show REFM (m' ((c : Thread nD τ).loc Cert.AdamBranchRefIdeal.main_arg0)) (m' ((c : Thread nD τ).loc Cert.AdamBranchRefIdeal.main_arg1)) (m' ((c : Thread nD τ).loc Cert.AdamBranchRefIdeal.main_arg2)) (m' ((c : Thread nD τ).loc Cert.AdamBranchRefIdeal.main_arg3)) = REFM (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.2.2.1).trans (show REFV (m' ((c : Thread nD τ).loc Cert.AdamBranchRefIdeal.main_arg0)) (m' ((c : Thread nD τ).loc Cert.AdamBranchRefIdeal.main_arg1)) (m' ((c : Thread nD τ).loc Cert.AdamBranchRefIdeal.main_arg2)) (m' ((c : Thread nD τ).loc Cert.AdamBranchRefIdeal.main_arg3)) = REFV (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), (h c).2.2.2.2⟩)
      (Cert.AdamBranchRefIdeal.Value.run (F := Ideal) m' ρ')

end Cert.AdamBranchIdeal.Val

end
-- ==== Proof.AdamProjValue.lean ====
/-
  The value of the optimiser's step on the per layer projection: the eight parts added, and the step entry by entry.
-/
module

public import proofs.«01_k».proof.Defs
public import proofs.«01_k».proof.Proof.Gen.AdamProjIdeal.Value
public import proofs.«01_k».proof.Proof.Gen.AdamProjRefIdeal.Run
public import Idealize.ShloMosaic.Lib.Pipeline.ValueKit
public import Idealize.ShloMosaic.Lib.Pipeline.ReadBack
public import proofs.«01_k».proof.Proof.Adam
@[expose] public section

set_option maxRecDepth 16384

noncomputable section

open Idealize.ShloMosaic Idealize.ShloMosaic.TcCoe Idealize.SL.Sem
open Idealize.ShloMosaic.Pipeline (Dat)

namespace Cert.AdamProjIdeal.Val

open Cert.AdamProjIdeal Cert.AdamProjIdeal.Gen
open Cert.Adam

variable (m : (ℓ : Loc nD τ sig) → Buf (Elt Ideal) ℓ)

/-- The reference's gradient. -/
abbrev REFG (X0 : FVec Ideal S8x128x256 .bf16) (X1 X2 X3 : FVec Ideal S128x256 .f32) : FVec Ideal S128x256 .f32 :=
  Host.reduceAdd (extf .f32 X0 Cert.AdamProjRefIdeal.Gen.bitsLt_bf16_f32) (constant Cert.AdamProjRefIdeal.S_ .f32 0x00000000#32) Cert.AdamProjRefIdeal.Gen.reducesTo_S8x128x256_S128x256_d0 Cert.AdamProjRefIdeal.Gen.h_S_

/-- The reference's update. -/
abbrev REFD (X0 : FVec Ideal S8x128x256 .bf16) (X1 X2 X3 : FVec Ideal S128x256 .f32) : FVec Ideal S128x256 .f32 :=
  mulf (broadcastInDim Cert.AdamProjRefIdeal.S128x256 ![] Cert.AdamProjRefIdeal.Gen.bcast_S_S128x256 (constant Cert.AdamProjRefIdeal.S_ .f32 0xBA83126F#32)) (addf (Host.divf (Host.divf (addf (mulf (broadcastInDim Cert.AdamProjRefIdeal.S128x256 ![] Cert.AdamProjRefIdeal.Gen.bcast_S_S128x256 (constant Cert.AdamProjRefIdeal.S_ .f32 0x3F666666#32)) X2) (mulf (broadcastInDim Cert.AdamProjRefIdeal.S128x256 ![] Cert.AdamProjRefIdeal.Gen.bcast_S_S128x256 (constant Cert.AdamProjRefIdeal.S_ .f32 0x3DCCCCCD#32)) (Host.reduceAdd (extf .f32 X0 Cert.AdamProjRefIdeal.Gen.bitsLt_bf16_f32) (constant Cert.AdamProjRefIdeal.S_ .f32 0x00000000#32) Cert.AdamProjRefIdeal.Gen.reducesTo_S8x128x256_S128x256_d0 Cert.AdamProjRefIdeal.Gen.h_S_))) (broadcastInDim Cert.AdamProjRefIdeal.S128x256 ![] Cert.AdamProjRefIdeal.Gen.bcast_S_S128x256 (constant Cert.AdamProjRefIdeal.S_ .f32 0x3F26BD02#32))) (addf (Host.sqrt (Host.divf (addf (mulf (broadcastInDim Cert.AdamProjRefIdeal.S128x256 ![] Cert.AdamProjRefIdeal.Gen.bcast_S_S128x256 (constant Cert.AdamProjRefIdeal.S_ .f32 0x3F7FBE77#32)) X3) (mulf (broadcastInDim Cert.AdamProjRefIdeal.S128x256 ![] Cert.AdamProjRefIdeal.Gen.bcast_S_S128x256 (constant Cert.AdamProjRefIdeal.S_ .f32 0x3A83126F#32)) (mulf (Host.reduceAdd (extf .f32 X0 Cert.AdamProjRefIdeal.Gen.bitsLt_bf16_f32) (constant Cert.AdamProjRefIdeal.S_ .f32 0x00000000#32) Cert.AdamProjRefIdeal.Gen.reducesTo_S8x128x256_S128x256_d0 Cert.AdamProjRefIdeal.Gen.h_S_) (Host.reduceAdd (extf .f32 X0 Cert.AdamProjRefIdeal.Gen.bitsLt_bf16_f32) (constant Cert.AdamProjRefIdeal.S_ .f32 0x00000000#32) Cert.AdamProjRefIdeal.Gen.reducesTo_S8x128x256_S128x256_d0 Cert.AdamProjRefIdeal.Gen.h_S_)))) (broadcastInDim Cert.AdamProjRefIdeal.S128x256 ![] Cert.AdamProjRefIdeal.Gen.bcast_S_S128x256 (constant Cert.AdamProjRefIdeal.S_ .f32 0x3C231ACC#32)))) (broadcastInDim Cert.AdamProjRefIdeal.S128x256 ![] Cert.AdamProjRefIdeal.Gen.bcast_S_S128x256 (constant Cert.AdamProjRefIdeal.S_ .f32 0x322BCC77#32)))) (mulf (broadcastInDim Cert.AdamProjRefIdeal.S128x256 ![] Cert.AdamProjRefIdeal.Gen.bcast_S_S128x256 (constant Cert.AdamProjRefIdeal.S_ .f32 0x3C23D70A#32)) X1))

/-- The reference's first moment. -/
abbrev REFM (X0 : FVec Ideal S8x128x256 .bf16) (X1 X2 X3 : FVec Ideal S128x256 .f32) : FVec Ideal S128x256 .f32 :=
  addf (mulf (broadcastInDim Cert.AdamProjRefIdeal.S128x256 ![] Cert.AdamProjRefIdeal.Gen.bcast_S_S128x256 (constant Cert.AdamProjRefIdeal.S_ .f32 0x3F666666#32)) X2) (mulf (broadcastInDim Cert.AdamProjRefIdeal.S128x256 ![] Cert.AdamProjRefIdeal.Gen.bcast_S_S128x256 (constant Cert.AdamProjRefIdeal.S_ .f32 0x3DCCCCCD#32)) (Host.reduceAdd (extf .f32 X0 Cert.AdamProjRefIdeal.Gen.bitsLt_bf16_f32) (constant Cert.AdamProjRefIdeal.S_ .f32 0x00000000#32) Cert.AdamProjRefIdeal.Gen.reducesTo_S8x128x256_S128x256_d0 Cert.AdamProjRefIdeal.Gen.h_S_))

/-- The reference's second moment. -/
abbrev REFV (X0 : FVec Ideal S8x128x256 .bf16) (X1 X2 X3 : FVec Ideal S128x256 .f32) : FVec Ideal S128x256 .f32 :=
  addf (mulf (broadcastInDim Cert.AdamProjRefIdeal.S128x256 ![] Cert.AdamProjRefIdeal.Gen.bcast_S_S128x256 (constant Cert.AdamProjRefIdeal.S_ .f32 0x3F7FBE77#32)) X3) (mulf (broadcastInDim Cert.AdamProjRefIdeal.S128x256 ![] Cert.AdamProjRefIdeal.Gen.bcast_S_S128x256 (constant Cert.AdamProjRefIdeal.S_ .f32 0x3A83126F#32)) (mulf (Host.reduceAdd (extf .f32 X0 Cert.AdamProjRefIdeal.Gen.bitsLt_bf16_f32) (constant Cert.AdamProjRefIdeal.S_ .f32 0x00000000#32) Cert.AdamProjRefIdeal.Gen.reducesTo_S8x128x256_S128x256_d0 Cert.AdamProjRefIdeal.Gen.h_S_) (Host.reduceAdd (extf .f32 X0 Cert.AdamProjRefIdeal.Gen.bitsLt_bf16_f32) (constant Cert.AdamProjRefIdeal.S_ .f32 0x00000000#32) Cert.AdamProjRefIdeal.Gen.reducesTo_S8x128x256_S128x256_d0 Cert.AdamProjRefIdeal.Gen.h_S_)))

theorem idx : ∀ t : Fin cfg0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0] :=
  (by decide +kernel : ∀ t : Fin grid0.N, win0_0.index t = ![0, t.val, 0] ∧ win0_1.index t = ![t.val, 0] ∧ win0_2.index t = ![t.val, 0] ∧ win0_3.index t = ![t.val, 0] ∧ win0_4.index t = ![t.val, 0] ∧ win0_5.index t = ![t.val, 0] ∧ win0_6.index t = ![t.val, 0] ∧ win0_7.index t = ![t.val, 0])

/-- The eight parts' sum at an entry. -/
abbrev parts {a b : ℕ} (X : FVec Ideal ⟨3, ![8, a, b]⟩ .bf16) (i : Fin a) (j : Fin b) : EReal :=
  ∑ k : Fin 8, X (ix3 k i j)

theorem refG_at (X0 : FVec Ideal S8x128x256 .bf16) (X1 X2 X3 : FVec Ideal S128x256 .f32) (j : S128x256.Idx) : REFG X0 X1 X2 X3 j = parts X0 (j 0) (j 1) := by
  pointwise [REFG]

theorem refD_at (X0 : FVec Ideal S8x128x256 .bf16) (X1 X2 X3 : FVec Ideal S128x256 .f32) (j : S128x256.Idx) : REFD X0 X1 X2 X3 j = update (X1 j) (parts X0 (j 0) (j 1)) (X2 j) (X3 j) := by
  pointwise [REFD]

theorem refM_at (X0 : FVec Ideal S8x128x256 .bf16) (X1 X2 X3 : FVec Ideal S128x256 .f32) (j : S128x256.Idx) : REFM X0 X1 X2 X3 j = step1 (parts X0 (j 0) (j 1)) (X2 j) := by
  pointwise [REFM]

theorem refV_at (X0 : FVec Ideal S8x128x256 .bf16) (X1 X2 X3 : FVec Ideal S128x256 .f32) (j : S128x256.Idx) : REFV X0 X1 X2 X3 j = step2 (parts X0 (j 0) (j 1)) (X3 j) := by
  pointwise [REFV]

theorem g_at (x0 : FVec Ideal S8x128x256 .bf16) (x1 x2 x3 : FVec Ideal S128x256 .f32) (y : S128x256.Idx) : k0_pay5 (F := Ideal) x0 x1 x2 x3 y = parts x0 (y 0) (y 1) := by
  unfold parts
  rw [Fin.sum_univ_eight]
  pointwise [k0_pay5, k0_pay4]
  repeat' refine congr_arg₂ (· + ·) ?_ ?_
  all_goals blk_ext

theorem outG_at (x0 : FVec Ideal S8x128x256 .bf16) (x1 x2 x3 : FVec Ideal S128x256 .f32) (y : S128x256.Idx) : out0_4 (F := Ideal) x0 x1 x2 x3 y = parts x0 (y 0) (y 1) := by
  rw [← g_at x0 x1 x2 x3 y]
  unfold out0_4
  canon_tiles x h
  all_goals blk_ext

theorem outM_at (x0 : FVec Ideal S8x128x256 .bf16) (x1 x2 x3 : FVec Ideal S128x256 .f32) (y : S128x256.Idx) : out0_6 (F := Ideal) x0 x1 x2 x3 y = step1 (parts x0 (y 0) (y 1)) (x2 y) := by
  rw [← g_at x0 x1 x2 x3 y]
  unfold out0_6
  generalize k0_pay5 (F := Ideal) x0 x1 x2 x3 = G
  canon_tiles x h
  all_goals
    open_payloads
    pointwise
    have e : x = y := by blk_ext
    subst e
    rfl

theorem outV_at (x0 : FVec Ideal S8x128x256 .bf16) (x1 x2 x3 : FVec Ideal S128x256 .f32) (y : S128x256.Idx) : out0_7 (F := Ideal) x0 x1 x2 x3 y = step2 (parts x0 (y 0) (y 1)) (x3 y) := by
  rw [← g_at x0 x1 x2 x3 y]
  unfold out0_7
  generalize k0_pay5 (F := Ideal) x0 x1 x2 x3 = G
  canon_tiles x h
  all_goals
    open_payloads
    pointwise
    have e : x = y := by blk_ext
    subst e
    rfl

theorem outD_at (x0 : FVec Ideal S8x128x256 .bf16) (x1 x2 x3 : FVec Ideal S128x256 .f32) (y : S128x256.Idx) : out0_5 (F := Ideal) x0 x1 x2 x3 y = update (x1 y) (parts x0 (y 0) (y 1)) (x2 y) (x3 y) := by
  rw [← g_at x0 x1 x2 x3 y]
  unfold out0_5
  generalize k0_pay5 (F := Ideal) x0 x1 x2 x3 = G
  canon_tiles x h
  all_goals
    open_payloads
    pointwise
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    have e : x = y := by blk_ext
    subst e
    rfl

theorem parts_arg (c : Dev nD) (t : Fin cfg0.N) (y : S128x256.Idx) (j : S128x256.Idx) (h0 : (j 0).val = t.val * 128 + (y 0).val) (h1 : (j 1).val = (y 1).val) :
    parts (show FVec Ideal S8x128x256 .bf16 from iblk m c 0 t) (y 0) (y 1)
      = parts (show FVec Ideal S8x128x256 .bf16 from m ((c : Thread nD τ).loc main_arg0)) (j 0) (j 1) := by
  refine Fin.sum_fin_congr fun k => ?_
  blk_point [iblk, V_main_arg0 m c, idx t]

theorem final_G (c : Dev nD) : (dats m 0 c).arrAt 4 (cfgs 0).N = REFG (m ((c : Thread nD τ).loc main_arg0)) (m ((c : Thread nD τ).loc main_arg1)) (m ((c : Thread nD τ).loc main_arg2)) (m ((c : Thread nD τ).loc main_arg3)) := by
  refine (dats m 0 c).arrAt_eq_of_covers 4 _ (by decide +kernel) fun t hf y => ?_
  blk_simp
  rw [after0_4, outG_at, refG_at, parts_arg m c t y ((win0_4.blk t).view.emb y) (by blk_ext [idx t]) (by blk_ext [idx t])]

theorem final_D (c : Dev nD) : (dats m 0 c).arrAt 5 (cfgs 0).N = REFD (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t hf y => ?_
  blk_simp
  rw [after0_5, outD_at, refD_at, parts_arg m c t y ((win0_5.blk t).view.emb y) (by blk_ext [idx t]) (by blk_ext [idx t])]
  rw [show (iblk m c 1 t : S128x256.Idx → EReal) y = m ((c : Thread nD τ).loc main_arg1) ((win0_5.blk t).view.emb y) from by blk_point [iblk, V, idx t], show (iblk m c 2 t : S128x256.Idx → EReal) y = m ((c : Thread nD τ).loc main_arg2) ((win0_5.blk t).view.emb y) from by blk_point [iblk, V, idx t], show (iblk m c 3 t : S128x256.Idx → EReal) y = m ((c : Thread nD τ).loc main_arg3) ((win0_5.blk t).view.emb y) from by blk_point [iblk, V, idx t]]

theorem final_M (c : Dev nD) : (dats m 0 c).arrAt 6 (cfgs 0).N = REFM (m ((c : Thread nD τ).loc main_arg0)) (m ((c : Thread nD τ).loc main_arg1)) (m ((c : Thread nD τ).loc main_arg2)) (m ((c : Thread nD τ).loc main_arg3)) := by
  refine (dats m 0 c).arrAt_eq_of_covers 6 _ (by decide +kernel) fun t hf y => ?_
  blk_simp
  rw [after0_6, outM_at, refM_at, parts_arg m c t y ((win0_6.blk t).view.emb y) (by blk_ext [idx t]) (by blk_ext [idx t])]
  refine congrArg (step1 _) ?_
  blk_point [iblk, V, idx t]

theorem final_V (c : Dev nD) : (dats m 0 c).arrAt 7 (cfgs 0).N = REFV (m ((c : Thread nD τ).loc main_arg0)) (m ((c : Thread nD τ).loc main_arg1)) (m ((c : Thread nD τ).loc main_arg2)) (m ((c : Thread nD τ).loc main_arg3)) := by
  refine (dats m 0 c).arrAt_eq_of_covers 7 _ (by decide +kernel) fun t hf y => ?_
  blk_simp
  rw [after0_7, outV_at, refV_at, parts_arg m c t y ((win0_7.blk t).view.emb y) (by blk_ext [idx t]) (by blk_ext [idx t])]
  refine congrArg (step2 _) ?_
  blk_point [iblk, V, idx t]

/-- The reference leaves its arguments as launched. -/
theorem frame_reference : Cert.quiescent_AdamProjRefIdeal := fun m ρ _ =>
  (θ_run Cert.AdamProjRefIdeal.defs _ _).mono
    (fun r h => ⟨fun c => (h c).2.2.2.2, Idealize.ShloMosaic.sem_eq_zero_of_no_sems (by decide) r.2⟩)
    (Cert.AdamProjRefIdeal.Value.run (F := Ideal) m ρ)

/-- Both programs end with the reference's value of the shared arguments. -/
theorem algebraic : Cert.algebraic_AdamProjIdeal_AdamProjRefIdeal := by
  intro m ρ m' ρ' _ hargs
  refine ⟨fun c => REFG (m ((c : Thread nD τ).loc main_arg0)) (m ((c : Thread nD τ).loc main_arg1)) (m ((c : Thread nD τ).loc main_arg2)) (m ((c : Thread nD τ).loc main_arg3)), fun c => REFD (m ((c : Thread nD τ).loc main_arg0)) (m ((c : Thread nD τ).loc main_arg1)) (m ((c : Thread nD τ).loc main_arg2)) (m ((c : Thread nD τ).loc main_arg3)), fun c => REFM (m ((c : Thread nD τ).loc main_arg0)) (m ((c : Thread nD τ).loc main_arg1)) (m ((c : Thread nD τ).loc main_arg2)) (m ((c : Thread nD τ).loc main_arg3)), fun c => REFV (m ((c : Thread nD τ).loc main_arg0)) (m ((c : Thread nD τ).loc main_arg1)) (m ((c : Thread nD τ).loc main_arg2)) (m ((c : Thread nD τ).loc main_arg3)), ?_, ?_⟩
  · exact (θ_run defs _ _).mono (fun _ h c => ⟨((h c).1).trans (final_G m c), ((h c).2.1).trans (final_D m c), ((h c).2.2.1).trans (final_M m c), ((h c).2.2.2.1).trans (final_V m c), (h c).2.2.2.2⟩)
      (Cert.AdamProjIdeal.Value.run_blocks m ρ)
  · exact (θ_run Cert.AdamProjRefIdeal.defs _ _).mono (fun _ h c => ⟨((h c).1).trans (show REFG (m' ((c : Thread nD τ).loc Cert.AdamProjRefIdeal.main_arg0)) (m' ((c : Thread nD τ).loc Cert.AdamProjRefIdeal.main_arg1)) (m' ((c : Thread nD τ).loc Cert.AdamProjRefIdeal.main_arg2)) (m' ((c : Thread nD τ).loc Cert.AdamProjRefIdeal.main_arg3)) = REFG (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.1).trans (show REFD (m' ((c : Thread nD τ).loc Cert.AdamProjRefIdeal.main_arg0)) (m' ((c : Thread nD τ).loc Cert.AdamProjRefIdeal.main_arg1)) (m' ((c : Thread nD τ).loc Cert.AdamProjRefIdeal.main_arg2)) (m' ((c : Thread nD τ).loc Cert.AdamProjRefIdeal.main_arg3)) = REFD (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.2.1).trans (show REFM (m' ((c : Thread nD τ).loc Cert.AdamProjRefIdeal.main_arg0)) (m' ((c : Thread nD τ).loc Cert.AdamProjRefIdeal.main_arg1)) (m' ((c : Thread nD τ).loc Cert.AdamProjRefIdeal.main_arg2)) (m' ((c : Thread nD τ).loc Cert.AdamProjRefIdeal.main_arg3)) = REFM (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), ((h c).2.2.2.1).trans (show REFV (m' ((c : Thread nD τ).loc Cert.AdamProjRefIdeal.main_arg0)) (m' ((c : Thread nD τ).loc Cert.AdamProjRefIdeal.main_arg1)) (m' ((c : Thread nD τ).loc Cert.AdamProjRefIdeal.main_arg2)) (m' ((c : Thread nD τ).loc Cert.AdamProjRefIdeal.main_arg3)) = REFV (m ((c : Thread nD τ).loc main_arg0)) (m ((c : Thread nD τ).loc main_arg1)) (m ((c : Thread nD τ).loc main_arg2)) (m ((c : Thread nD τ).loc main_arg3)) by rw [(hargs c).1, (hargs c).2.1, (hargs c).2.2.1, (hargs c).2.2.2]), (h c).2.2.2.2⟩)
      (Cert.AdamProjRefIdeal.Value.run (F := Ideal) m' ρ')

end Cert.AdamProjIdeal.Val

end
-- ==== Proof.SmallBodyIdeal.lean ====
/-
  The frame of the optimiser's call on the small parameters: one grid point, forty windows in and forty out.
-/
module

public import proofs.«01_k».proof.Proof.Gen.AdamSmallIdeal.Launch
public import proofs.«01_k».proof.Proof.Gen.AdamSmallIdeal.Skeleton
public import proofs.«01_k».proof.Proof.Gen.AdamSmallIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384
set_option maxHeartbeats 16000000

noncomputable section

namespace Cert.AdamSmallIdeal.Small

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

abbrev r0_0 : Rect S8x1x1024 := Rect.unit (s := S8x1x1024) ![0, 0, 0] S1x1x1024.size inb_S8x1x1024_S1x1x1024_0_0_0
abbrev r0_1 : Rect S8x1x1024 := Rect.unit (s := S8x1x1024) ![1, 0, 0] S1x1x1024.size inb_S8x1x1024_S1x1x1024_1_0_0
abbrev r0_2 : Rect S8x1x1024 := Rect.unit (s := S8x1x1024) ![2, 0, 0] S1x1x1024.size inb_S8x1x1024_S1x1x1024_2_0_0
abbrev r0_3 : Rect S8x1x1024 := Rect.unit (s := S8x1x1024) ![3, 0, 0] S1x1x1024.size inb_S8x1x1024_S1x1x1024_3_0_0
abbrev r0_4 : Rect S8x1x1024 := Rect.unit (s := S8x1x1024) ![4, 0, 0] S1x1x1024.size inb_S8x1x1024_S1x1x1024_4_0_0
abbrev r0_5 : Rect S8x1x1024 := Rect.unit (s := S8x1x1024) ![5, 0, 0] S1x1x1024.size inb_S8x1x1024_S1x1x1024_5_0_0
abbrev r0_6 : Rect S8x1x1024 := Rect.unit (s := S8x1x1024) ![6, 0, 0] S1x1x1024.size inb_S8x1x1024_S1x1x1024_6_0_0
abbrev r0_7 : Rect S8x1x1024 := Rect.unit (s := S8x1x1024) ![7, 0, 0] S1x1x1024.size inb_S8x1x1024_S1x1x1024_7_0_0
abbrev r0_8 : Rect S1x1024 := Rect.unit (s := S1x1024) ![0, 0] S1x1024.size inb_S1x1024_S1x1024_0_0
abbrev r0_9 : Rect S2x1024 := Rect.unit (s := S2x1024) ![0, 0] S2x1024.size inb_S2x1024_S2x1024_0_0
abbrev r0_10 : Rect S8x1x512 := Rect.unit (s := S8x1x512) ![0, 0, 0] S1x1x512.size inb_S8x1x512_S1x1x512_0_0_0
abbrev r0_11 : Rect S8x1x512 := Rect.unit (s := S8x1x512) ![1, 0, 0] S1x1x512.size inb_S8x1x512_S1x1x512_1_0_0
abbrev r0_12 : Rect S8x1x512 := Rect.unit (s := S8x1x512) ![2, 0, 0] S1x1x512.size inb_S8x1x512_S1x1x512_2_0_0
abbrev r0_13 : Rect S8x1x512 := Rect.unit (s := S8x1x512) ![3, 0, 0] S1x1x512.size inb_S8x1x512_S1x1x512_3_0_0
abbrev r0_14 : Rect S8x1x512 := Rect.unit (s := S8x1x512) ![4, 0, 0] S1x1x512.size inb_S8x1x512_S1x1x512_4_0_0
abbrev r0_15 : Rect S8x1x512 := Rect.unit (s := S8x1x512) ![5, 0, 0] S1x1x512.size inb_S8x1x512_S1x1x512_5_0_0
abbrev r0_16 : Rect S8x1x512 := Rect.unit (s := S8x1x512) ![6, 0, 0] S1x1x512.size inb_S8x1x512_S1x1x512_6_0_0
abbrev r0_17 : Rect S8x1x512 := Rect.unit (s := S8x1x512) ![7, 0, 0] S1x1x512.size inb_S8x1x512_S1x1x512_7_0_0
abbrev r0_18 : Rect S1x512 := Rect.unit (s := S1x512) ![0, 0] S1x512.size inb_S1x512_S1x512_0_0
abbrev r0_19 : Rect S8x512x128 := Rect.unit (s := S8x512x128) ![0, 0, 0] S1x512x128.size inb_S8x512x128_S1x512x128_0_0_0
abbrev r0_20 : Rect S8x512x128 := Rect.unit (s := S8x512x128) ![1, 0, 0] S1x512x128.size inb_S8x512x128_S1x512x128_1_0_0
abbrev r0_21 : Rect S8x512x128 := Rect.unit (s := S8x512x128) ![2, 0, 0] S1x512x128.size inb_S8x512x128_S1x512x128_2_0_0
abbrev r0_22 : Rect S8x512x128 := Rect.unit (s := S8x512x128) ![3, 0, 0] S1x512x128.size inb_S8x512x128_S1x512x128_3_0_0
abbrev r0_23 : Rect S8x512x128 := Rect.unit (s := S8x512x128) ![4, 0, 0] S1x512x128.size inb_S8x512x128_S1x512x128_4_0_0
abbrev r0_24 : Rect S8x512x128 := Rect.unit (s := S8x512x128) ![5, 0, 0] S1x512x128.size inb_S8x512x128_S1x512x128_5_0_0
abbrev r0_25 : Rect S8x512x128 := Rect.unit (s := S8x512x128) ![6, 0, 0] S1x512x128.size inb_S8x512x128_S1x512x128_6_0_0
abbrev r0_26 : Rect S8x512x128 := Rect.unit (s := S8x512x128) ![7, 0, 0] S1x512x128.size inb_S8x512x128_S1x512x128_7_0_0
abbrev r0_27 : Rect S512x128 := Rect.unit (s := S512x128) ![0, 0] S512x128.size inb_S512x128_S512x128_0_0

abbrev w54 (x0 : Vec F S8x1x1024 .f32) : FVec F S1x1024 .f32 :=
  k0_pay1 (View.ld x0 r0_0) (View.ld x0 r0_1) (View.ld x0 r0_2) (View.ld x0 r0_3) (View.ld x0 r0_4) (View.ld x0 r0_5) (View.ld x0 r0_6) (View.ld x0 r0_7)
abbrev w55 (x20 : Vec F S1x1024 .f32) : FVec F S1x1024 .f32 :=
  k0_pay2 (View.ld x20 r0_8)
abbrev w56 (x1 : Vec F S8x1x1024 .f32) : FVec F S1x1024 .f32 :=
  k0_pay6 (View.ld x1 r0_0) (View.ld x1 r0_1)
abbrev w57 (x1 : Vec F S8x1x1024 .f32) (x31 : Vec F S1x1024 .f32) : FVec F S1x1024 .f32 :=
  k0_pay9 (w56 x1) (View.ld x1 r0_2) (View.ld x1 r0_3) (View.ld x1 r0_4) (View.ld x1 r0_5) (View.ld x1 r0_6) (View.ld x1 r0_7) (View.ld x31 r0_8)
abbrev w58 (x2 : Vec F S8x1x1024 .f32) : FVec F S1x1024 .f32 :=
  k0_pay12 (View.ld x2 r0_0) (View.ld x2 r0_1) (View.ld x2 r0_2) (View.ld x2 r0_3) (View.ld x2 r0_4)
abbrev w59 (x3 : Vec F S8x1x1024 .f32) : FVec F S1x1024 .f32 :=
  k0_pay17 (View.ld x3 r0_0) (View.ld x3 r0_1) (View.ld x3 r0_2) (View.ld x3 r0_3) (View.ld x3 r0_4) (View.ld x3 r0_5) (View.ld x3 r0_6)
abbrev w60 (x4 : Vec F S8x1x1024 .f32) : FVec F S1x1024 .f32 :=
  k0_pay22 (View.ld x4 r0_0) (View.ld x4 r0_1) (View.ld x4 r0_2) (View.ld x4 r0_3) (View.ld x4 r0_4) (View.ld x4 r0_5) (View.ld x4 r0_6) (View.ld x4 r0_7)
abbrev w61 (x24 : Vec F S1x1024 .f32) : FVec F S1x1024 .f32 :=
  k0_pay23 (View.ld x24 r0_8)
abbrev w62 (x5 : Vec F S8x1x1024 .f32) : FVec F S1x1024 .f32 :=
  k0_pay27 (View.ld x5 r0_0) (View.ld x5 r0_1)
abbrev w63 (x5 : Vec F S8x1x1024 .f32) (x35 : Vec F S1x1024 .f32) : FVec F S1x1024 .f32 :=
  k0_pay30 (w62 x5) (View.ld x5 r0_2) (View.ld x5 r0_3) (View.ld x5 r0_4) (View.ld x5 r0_5) (View.ld x5 r0_6) (View.ld x5 r0_7) (View.ld x35 r0_8)
abbrev w64 (x6 : Vec F S8x1x1024 .f32) : FVec F S1x1024 .f32 :=
  k0_pay33 (View.ld x6 r0_0) (View.ld x6 r0_1) (View.ld x6 r0_2) (View.ld x6 r0_3) (View.ld x6 r0_4)
abbrev w65 (x7 : Vec F S8x1x1024 .f32) : FVec F S1x1024 .f32 :=
  k0_pay38 (View.ld x7 r0_0) (View.ld x7 r0_1) (View.ld x7 r0_2) (View.ld x7 r0_3) (View.ld x7 r0_4) (View.ld x7 r0_5) (View.ld x7 r0_6)
abbrev w66 (x8 : Vec F S8x1x512 .f32) : FVec F S1x512 .f32 :=
  k0_pay45 (View.ld x8 r0_10) (View.ld x8 r0_11) (View.ld x8 r0_12) (View.ld x8 r0_13) (View.ld x8 r0_14)
abbrev w67 (x9 : Vec F S8x512x128 .f32) : FVec F S512x128 .f32 :=
  k0_pay50 (View.ld x9 r0_19) (View.ld x9 r0_20) (View.ld x9 r0_21) (View.ld x9 r0_22) (View.ld x9 r0_23) (View.ld x9 r0_24) (View.ld x9 r0_25) (View.ld x9 r0_26)

def out40 (x0 : Vec F S8x1x1024 .f32) : Vec F S1x1024 .f32 :=
  View.canon [⟨r0_8, w54 x0⟩]
def out41 (x1 : Vec F S8x1x1024 .f32) : Vec F S1x1024 .f32 :=
  View.canon [⟨r0_8, k0_pay7 (w56 x1) (View.ld x1 r0_2) (View.ld x1 r0_3) (View.ld x1 r0_4) (View.ld x1 r0_5) (View.ld x1 r0_6) (View.ld x1 r0_7)⟩]
def out42 (x2 : Vec F S8x1x1024 .f32) : Vec F S1x1024 .f32 :=
  View.canon [⟨r0_8, k0_pay13 (w58 x2) (View.ld x2 r0_5) (View.ld x2 r0_6) (View.ld x2 r0_7)⟩]
def out43 (x3 : Vec F S8x1x1024 .f32) : Vec F S1x1024 .f32 :=
  View.canon [⟨r0_8, k0_pay18 (w59 x3) (View.ld x3 r0_7)⟩]
def out44 (x4 : Vec F S8x1x1024 .f32) : Vec F S1x1024 .f32 :=
  View.canon [⟨r0_8, w60 x4⟩]
def out45 (x5 : Vec F S8x1x1024 .f32) : Vec F S1x1024 .f32 :=
  View.canon [⟨r0_8, k0_pay28 (w62 x5) (View.ld x5 r0_2) (View.ld x5 r0_3) (View.ld x5 r0_4) (View.ld x5 r0_5) (View.ld x5 r0_6) (View.ld x5 r0_7)⟩]
def out46 (x6 : Vec F S8x1x1024 .f32) : Vec F S1x1024 .f32 :=
  View.canon [⟨r0_8, k0_pay34 (w64 x6) (View.ld x6 r0_5) (View.ld x6 r0_6) (View.ld x6 r0_7)⟩]
def out47 (x7 : Vec F S8x1x1024 .f32) (x17 : Vec F S2x1024 .f32) : Vec F S2x1024 .f32 :=
  View.canon [⟨r0_9, k0_pay39 (w65 x7) (View.ld x7 r0_7) (View.ld x17 r0_9)⟩]
def out48 (x8 : Vec F S8x1x512 .f32) : Vec F S1x512 .f32 :=
  View.canon [⟨r0_18, k0_pay46 (w66 x8) (View.ld x8 r0_15) (View.ld x8 r0_16) (View.ld x8 r0_17)⟩]
def out49 (x9 : Vec F S8x512x128 .f32) : Vec F S512x128 .f32 :=
  View.canon [⟨r0_27, w67 x9⟩]
def out50 (x0 : Vec F S8x1x1024 .f32) (x10 x20 x30 : Vec F S1x1024 .f32) : Vec F S1x1024 .f32 :=
  View.canon [⟨r0_8, k0_pay5 (w54 x0) (View.ld x10 r0_8) (View.ld x30 r0_8) (w55 x20) (Scalar.ofBits .f32 0x3DCCCCCD#32)⟩]
def out51 (x1 : Vec F S8x1x1024 .f32) (x11 x21 x31 : Vec F S1x1024 .f32) : Vec F S1x1024 .f32 :=
  View.canon [⟨r0_8, k0_pay11 (View.ld x11 r0_8) (w57 x1 x31) (k0_pay10 (w56 x1) (View.ld x1 r0_2) (View.ld x1 r0_3) (View.ld x1 r0_4) (View.ld x1 r0_5) (View.ld x1 r0_6) (View.ld x1 r0_7) (View.ld x21 r0_8)) (Named.named κ "inv_bc2" 0x42C8E6D3#32)⟩]
def out52 (x2 : Vec F S8x1x1024 .f32) (x12 x22 x32 : Vec F S1x1024 .f32) : Vec F S1x1024 .f32 :=
  View.canon [⟨r0_8, k0_pay16 (w58 x2) (View.ld x2 r0_5) (View.ld x2 r0_6) (View.ld x2 r0_7) (View.ld x12 r0_8) (View.ld x22 r0_8) (View.ld x32 r0_8)⟩]
def out53 (x3 : Vec F S8x1x1024 .f32) (x13 x23 x33 : Vec F S1x1024 .f32) : Vec F S1x1024 .f32 :=
  View.canon [⟨r0_8, k0_pay21 (w59 x3) (View.ld x3 r0_7) (View.ld x13 r0_8) (View.ld x23 r0_8) (View.ld x33 r0_8)⟩]
def out54 (x4 : Vec F S8x1x1024 .f32) (x14 x24 x34 : Vec F S1x1024 .f32) : Vec F S1x1024 .f32 :=
  View.canon [⟨r0_8, k0_pay26 (w60 x4) (View.ld x14 r0_8) (View.ld x34 r0_8) (w61 x24) (Scalar.ofBits .f32 0x3DCCCCCD#32)⟩]
def out55 (x5 : Vec F S8x1x1024 .f32) (x15 x25 x35 : Vec F S1x1024 .f32) : Vec F S1x1024 .f32 :=
  View.canon [⟨r0_8, k0_pay32 (View.ld x15 r0_8) (w63 x5 x35) (k0_pay31 (w62 x5) (View.ld x5 r0_2) (View.ld x5 r0_3) (View.ld x5 r0_4) (View.ld x5 r0_5) (View.ld x5 r0_6) (View.ld x5 r0_7) (View.ld x25 r0_8)) (Named.named κ "inv_bc2" 0x42C8E6D3#32)⟩]
def out56 (x6 : Vec F S8x1x1024 .f32) (x16 x26 x36 : Vec F S1x1024 .f32) : Vec F S1x1024 .f32 :=
  View.canon [⟨r0_8, k0_pay37 (w64 x6) (View.ld x6 r0_5) (View.ld x6 r0_6) (View.ld x6 r0_7) (View.ld x16 r0_8) (View.ld x26 r0_8) (View.ld x36 r0_8)⟩]
def out57 (x7 : Vec F S8x1x1024 .f32) (x17 x27 x37 : Vec F S2x1024 .f32) : Vec F S2x1024 .f32 :=
  View.canon [⟨r0_9, k0_pay44 (View.ld x17 r0_9) (k0_pay42 (w65 x7) (View.ld x7 r0_7) (View.ld x17 r0_9) (View.ld x27 r0_9)) (k0_pay43 (w65 x7) (View.ld x7 r0_7) (View.ld x17 r0_9) (View.ld x37 r0_9))⟩]
def out58 (x8 : Vec F S8x1x512 .f32) (x18 x28 x38 : Vec F S1x512 .f32) : Vec F S1x512 .f32 :=
  View.canon [⟨r0_18, k0_pay49 (w66 x8) (View.ld x8 r0_15) (View.ld x8 r0_16) (View.ld x8 r0_17) (View.ld x18 r0_18) (View.ld x28 r0_18) (View.ld x38 r0_18)⟩]
def out59 (x9 : Vec F S8x512x128 .f32) (x19 x29 x39 : Vec F S512x128 .f32) : Vec F S512x128 .f32 :=
  View.canon [⟨r0_27, k0_pay53 (w67 x9) (View.ld x19 r0_27) (View.ld x29 r0_27) (View.ld x39 r0_27)⟩]
def out60 (x0 : Vec F S8x1x1024 .f32) (x20 : Vec F S1x1024 .f32) : Vec F S1x1024 .f32 :=
  View.canon [⟨r0_8, k0_pay3 (w54 x0) (w55 x20) (Scalar.ofBits .f32 0x3DCCCCCD#32)⟩]
def out61 (x1 : Vec F S8x1x1024 .f32) (x21 : Vec F S1x1024 .f32) : Vec F S1x1024 .f32 :=
  View.canon [⟨r0_8, k0_pay8 (w56 x1) (View.ld x1 r0_2) (View.ld x1 r0_3) (View.ld x1 r0_4) (View.ld x1 r0_5) (View.ld x1 r0_6) (View.ld x1 r0_7) (View.ld x21 r0_8)⟩]
def out62 (x2 : Vec F S8x1x1024 .f32) (x22 : Vec F S1x1024 .f32) : Vec F S1x1024 .f32 :=
  View.canon [⟨r0_8, k0_pay14 (w58 x2) (View.ld x2 r0_5) (View.ld x2 r0_6) (View.ld x2 r0_7) (View.ld x22 r0_8)⟩]
def out63 (x3 : Vec F S8x1x1024 .f32) (x23 : Vec F S1x1024 .f32) : Vec F S1x1024 .f32 :=
  View.canon [⟨r0_8, k0_pay19 (w59 x3) (View.ld x3 r0_7) (View.ld x23 r0_8)⟩]
def out64 (x4 : Vec F S8x1x1024 .f32) (x24 : Vec F S1x1024 .f32) : Vec F S1x1024 .f32 :=
  View.canon [⟨r0_8, k0_pay24 (w60 x4) (w61 x24) (Scalar.ofBits .f32 0x3DCCCCCD#32)⟩]
def out65 (x5 : Vec F S8x1x1024 .f32) (x25 : Vec F S1x1024 .f32) : Vec F S1x1024 .f32 :=
  View.canon [⟨r0_8, k0_pay29 (w62 x5) (View.ld x5 r0_2) (View.ld x5 r0_3) (View.ld x5 r0_4) (View.ld x5 r0_5) (View.ld x5 r0_6) (View.ld x5 r0_7) (View.ld x25 r0_8)⟩]
def out66 (x6 : Vec F S8x1x1024 .f32) (x26 : Vec F S1x1024 .f32) : Vec F S1x1024 .f32 :=
  View.canon [⟨r0_8, k0_pay35 (w64 x6) (View.ld x6 r0_5) (View.ld x6 r0_6) (View.ld x6 r0_7) (View.ld x26 r0_8)⟩]
def out67 (x7 : Vec F S8x1x1024 .f32) (x17 x27 : Vec F S2x1024 .f32) : Vec F S2x1024 .f32 :=
  View.canon [⟨r0_9, k0_pay40 (w65 x7) (View.ld x7 r0_7) (View.ld x17 r0_9) (View.ld x27 r0_9)⟩]
def out68 (x8 : Vec F S8x1x512 .f32) (x28 : Vec F S1x512 .f32) : Vec F S1x512 .f32 :=
  View.canon [⟨r0_18, k0_pay47 (w66 x8) (View.ld x8 r0_15) (View.ld x8 r0_16) (View.ld x8 r0_17) (View.ld x28 r0_18)⟩]
def out69 (x9 : Vec F S8x512x128 .f32) (x29 : Vec F S512x128 .f32) : Vec F S512x128 .f32 :=
  View.canon [⟨r0_27, k0_pay51 (w67 x9) (View.ld x29 r0_27)⟩]
def out70 (x0 : Vec F S8x1x1024 .f32) (x30 : Vec F S1x1024 .f32) : Vec F S1x1024 .f32 :=
  View.canon [⟨r0_8, k0_pay4 (w54 x0) (View.ld x30 r0_8)⟩]
def out71 (x1 : Vec F S8x1x1024 .f32) (x31 : Vec F S1x1024 .f32) : Vec F S1x1024 .f32 :=
  View.canon [⟨r0_8, w57 x1 x31⟩]
def out72 (x2 : Vec F S8x1x1024 .f32) (x32 : Vec F S1x1024 .f32) : Vec F S1x1024 .f32 :=
  View.canon [⟨r0_8, k0_pay15 (w58 x2) (View.ld x2 r0_5) (View.ld x2 r0_6) (View.ld x2 r0_7) (View.ld x32 r0_8)⟩]
def out73 (x3 : Vec F S8x1x1024 .f32) (x33 : Vec F S1x1024 .f32) : Vec F S1x1024 .f32 :=
  View.canon [⟨r0_8, k0_pay20 (w59 x3) (View.ld x3 r0_7) (View.ld x33 r0_8)⟩]
def out74 (x4 : Vec F S8x1x1024 .f32) (x34 : Vec F S1x1024 .f32) : Vec F S1x1024 .f32 :=
  View.canon [⟨r0_8, k0_pay25 (w60 x4) (View.ld x34 r0_8)⟩]
def out75 (x5 : Vec F S8x1x1024 .f32) (x35 : Vec F S1x1024 .f32) : Vec F S1x1024 .f32 :=
  View.canon [⟨r0_8, w63 x5 x35⟩]
def out76 (x6 : Vec F S8x1x1024 .f32) (x36 : Vec F S1x1024 .f32) : Vec F S1x1024 .f32 :=
  View.canon [⟨r0_8, k0_pay36 (w64 x6) (View.ld x6 r0_5) (View.ld x6 r0_6) (View.ld x6 r0_7) (View.ld x36 r0_8)⟩]
def out77 (x7 : Vec F S8x1x1024 .f32) (x17 x37 : Vec F S2x1024 .f32) : Vec F S2x1024 .f32 :=
  View.canon [⟨r0_9, k0_pay41 (w65 x7) (View.ld x7 r0_7) (View.ld x17 r0_9) (View.ld x37 r0_9)⟩]
def out78 (x8 : Vec F S8x1x512 .f32) (x38 : Vec F S1x512 .f32) : Vec F S1x512 .f32 :=
  View.canon [⟨r0_18, k0_pay48 (w66 x8) (View.ld x8 r0_15) (View.ld x8 r0_16) (View.ld x8 r0_17) (View.ld x38 r0_18)⟩]
def out79 (x9 : Vec F S8x512x128 .f32) (x39 : Vec F S512x128 .f32) : Vec F S512x128 .f32 :=
  View.canon [⟨r0_27, k0_pay52 (w67 x9) (View.ld x39 r0_27)⟩]

theorem cov8 (p : Vec F S1x1024 .f32) (y : S1x1024.Idx) : ∃ pc ∈ ([⟨r0_8, p⟩] : List (View.Piece (Elt F) S1x1024 .f32)), y ∈ pc.1.set :=
  View.cover_of_tiled [⟨r0_8, p⟩] S1x1024.size (by rfl) y
theorem cov9 (p : Vec F S2x1024 .f32) (y : S2x1024.Idx) : ∃ pc ∈ ([⟨r0_9, p⟩] : List (View.Piece (Elt F) S2x1024 .f32)), y ∈ pc.1.set :=
  View.cover_of_tiled [⟨r0_9, p⟩] S2x1024.size (by rfl) y
theorem cov18 (p : Vec F S1x512 .f32) (y : S1x512.Idx) : ∃ pc ∈ ([⟨r0_18, p⟩] : List (View.Piece (Elt F) S1x512 .f32)), y ∈ pc.1.set :=
  View.cover_of_tiled [⟨r0_18, p⟩] S1x512.size (by rfl) y
theorem cov27 (p : Vec F S512x128 .f32) (y : S512x128.Idx) : ∃ pc ∈ ([⟨r0_27, p⟩] : List (View.Piece (Elt F) S512x128 .f32)), y ∈ pc.1.set :=
  View.cover_of_tiled [⟨r0_27, p⟩] S512x128.size (by rfl) y

/-- The body on whole buffers: each input's is kept, each output's ends at its value of the inputs'. -/
theorem body_sound (dev : Dev nD) (a0 a1 a2 a3 a4 a5 a6 a7 : Memref sig .tc .vmem S8x1x1024 .f32) (a8 : Memref sig .tc .vmem S8x1x512 .f32) (a9 : Memref sig .tc .vmem S8x512x128 .f32) (a10 a11 a12 a13 a14 a15 a16 : Memref sig .tc .vmem S1x1024 .f32) (a17 : Memref sig .tc .vmem S2x1024 .f32) (a18 : Memref sig .tc .vmem S1x512 .f32) (a19 : Memref sig .tc .vmem S512x128 .f32) (a20 a21 a22 a23 a24 a25 a26 : Memref sig .tc .vmem S1x1024 .f32) (a27 : Memref sig .tc .vmem S2x1024 .f32) (a28 : Memref sig .tc .vmem S1x512 .f32) (a29 : Memref sig .tc .vmem S512x128 .f32) (a30 a31 a32 a33 a34 a35 a36 : Memref sig .tc .vmem S1x1024 .f32) (a37 : Memref sig .tc .vmem S2x1024 .f32) (a38 : Memref sig .tc .vmem S1x512 .f32) (a39 : Memref sig .tc .vmem S512x128 .f32) (a40 a41 a42 a43 a44 a45 a46 : Memref sig .tc .vmem S1x1024 .f32) (a47 : Memref sig .tc .vmem S2x1024 .f32) (a48 : Memref sig .tc .vmem S1x512 .f32) (a49 : Memref sig .tc .vmem S512x128 .f32) (a50 a51 a52 a53 a54 a55 a56 : Memref sig .tc .vmem S1x1024 .f32) (a57 : Memref sig .tc .vmem S2x1024 .f32) (a58 : Memref sig .tc .vmem S1x512 .f32) (a59 : Memref sig .tc .vmem S512x128 .f32) (a60 a61 a62 a63 a64 a65 a66 : Memref sig .tc .vmem S1x1024 .f32) (a67 : Memref sig .tc .vmem S2x1024 .f32) (a68 : Memref sig .tc .vmem S1x512 .f32) (a69 : Memref sig .tc .vmem S512x128 .f32) (a70 a71 a72 a73 a74 a75 a76 : Memref sig .tc .vmem S1x1024 .f32) (a77 : Memref sig .tc .vmem S2x1024 .f32) (a78 : Memref sig .tc .vmem S1x512 .f32) (a79 : Memref sig .tc .vmem S512x128 .f32) (h0 : a0.IsWhole) (h1 : a1.IsWhole) (h2 : a2.IsWhole) (h3 : a3.IsWhole) (h4 : a4.IsWhole) (h5 : a5.IsWhole) (h6 : a6.IsWhole) (h7 : a7.IsWhole) (h8 : a8.IsWhole) (h9 : a9.IsWhole) (h10 : a10.IsWhole) (h11 : a11.IsWhole) (h12 : a12.IsWhole) (h13 : a13.IsWhole) (h14 : a14.IsWhole) (h15 : a15.IsWhole) (h16 : a16.IsWhole) (h17 : a17.IsWhole) (h18 : a18.IsWhole) (h19 : a19.IsWhole) (h20 : a20.IsWhole) (h21 : a21.IsWhole) (h22 : a22.IsWhole) (h23 : a23.IsWhole) (h24 : a24.IsWhole) (h25 : a25.IsWhole) (h26 : a26.IsWhole) (h27 : a27.IsWhole) (h28 : a28.IsWhole) (h29 : a29.IsWhole) (h30 : a30.IsWhole) (h31 : a31.IsWhole) (h32 : a32.IsWhole) (h33 : a33.IsWhole) (h34 : a34.IsWhole) (h35 : a35.IsWhole) (h36 : a36.IsWhole) (h37 : a37.IsWhole) (h38 : a38.IsWhole) (h39 : a39.IsWhole) (h40 : a40.IsWhole) (h41 : a41.IsWhole) (h42 : a42.IsWhole) (h43 : a43.IsWhole) (h44 : a44.IsWhole) (h45 : a45.IsWhole) (h46 : a46.IsWhole) (h47 : a47.IsWhole) (h48 : a48.IsWhole) (h49 : a49.IsWhole) (h50 : a50.IsWhole) (h51 : a51.IsWhole) (h52 : a52.IsWhole) (h53 : a53.IsWhole) (h54 : a54.IsWhole) (h55 : a55.IsWhole) (h56 : a56.IsWhole) (h57 : a57.IsWhole) (h58 : a58.IsWhole) (h59 : a59.IsWhole) (h60 : a60.IsWhole) (h61 : a61.IsWhole) (h62 : a62.IsWhole) (h63 : a63.IsWhole) (h64 : a64.IsWhole) (h65 : a65.IsWhole) (h66 : a66.IsWhole) (h67 : a67.IsWhole) (h68 : a68.IsWhole) (h69 : a69.IsWhole) (h70 : a70.IsWhole) (h71 : a71.IsWhole) (h72 : a72.IsWhole) (h73 : a73.IsWhole) (h74 : a74.IsWhole) (h75 : a75.IsWhole) (h76 : a76.IsWhole) (h77 : a77.IsWhole) (h78 : a78.IsWhole) (h79 : a79.IsWhole)
    {D0 D1 D2 D3 D4 D5 D6 D7 D8 D9 D10 D11 D12 D13 D14 D15 D16 D17 D18 D19 D20 D21 D22 D23 D24 D25 D26 D27 D28 D29 D30 D31 D32 D33 D34 D35 D36 D37 D38 D39 D40 D41 D42 D43 D44 D45 D46 D47 D48 D49 D50 D51 D52 D53 D54 D55 D56 D57 D58 D59 D60 D61 D62 D63 D64 D65 D66 D67 D68 D69 D70 D71 D72 D73 D74 D75 D76 D77 D78 D79 : Type} {B0 : D0 → Vec F S8x1x1024 .f32} {B1 : D1 → Vec F S8x1x1024 .f32} {B2 : D2 → Vec F S8x1x1024 .f32} {B3 : D3 → Vec F S8x1x1024 .f32} {B4 : D4 → Vec F S8x1x1024 .f32} {B5 : D5 → Vec F S8x1x1024 .f32} {B6 : D6 → Vec F S8x1x1024 .f32} {B7 : D7 → Vec F S8x1x1024 .f32} {B8 : D8 → Vec F S8x1x512 .f32} {B9 : D9 → Vec F S8x512x128 .f32} {B10 : D10 → Vec F S1x1024 .f32} {B11 : D11 → Vec F S1x1024 .f32} {B12 : D12 → Vec F S1x1024 .f32} {B13 : D13 → Vec F S1x1024 .f32} {B14 : D14 → Vec F S1x1024 .f32} {B15 : D15 → Vec F S1x1024 .f32} {B16 : D16 → Vec F S1x1024 .f32} {B17 : D17 → Vec F S2x1024 .f32} {B18 : D18 → Vec F S1x512 .f32} {B19 : D19 → Vec F S512x128 .f32} {B20 : D20 → Vec F S1x1024 .f32} {B21 : D21 → Vec F S1x1024 .f32} {B22 : D22 → Vec F S1x1024 .f32} {B23 : D23 → Vec F S1x1024 .f32} {B24 : D24 → Vec F S1x1024 .f32} {B25 : D25 → Vec F S1x1024 .f32} {B26 : D26 → Vec F S1x1024 .f32} {B27 : D27 → Vec F S2x1024 .f32} {B28 : D28 → Vec F S1x512 .f32} {B29 : D29 → Vec F S512x128 .f32} {B30 : D30 → Vec F S1x1024 .f32} {B31 : D31 → Vec F S1x1024 .f32} {B32 : D32 → Vec F S1x1024 .f32} {B33 : D33 → Vec F S1x1024 .f32} {B34 : D34 → Vec F S1x1024 .f32} {B35 : D35 → Vec F S1x1024 .f32} {B36 : D36 → Vec F S1x1024 .f32} {B37 : D37 → Vec F S2x1024 .f32} {B38 : D38 → Vec F S1x512 .f32} {B39 : D39 → Vec F S512x128 .f32} {B40 : D40 → Vec F S1x1024 .f32} {B41 : D41 → Vec F S1x1024 .f32} {B42 : D42 → Vec F S1x1024 .f32} {B43 : D43 → Vec F S1x1024 .f32} {B44 : D44 → Vec F S1x1024 .f32} {B45 : D45 → Vec F S1x1024 .f32} {B46 : D46 → Vec F S1x1024 .f32} {B47 : D47 → Vec F S2x1024 .f32} {B48 : D48 → Vec F S1x512 .f32} {B49 : D49 → Vec F S512x128 .f32} {B50 : D50 → Vec F S1x1024 .f32} {B51 : D51 → Vec F S1x1024 .f32} {B52 : D52 → Vec F S1x1024 .f32} {B53 : D53 → Vec F S1x1024 .f32} {B54 : D54 → Vec F S1x1024 .f32} {B55 : D55 → Vec F S1x1024 .f32} {B56 : D56 → Vec F S1x1024 .f32} {B57 : D57 → Vec F S2x1024 .f32} {B58 : D58 → Vec F S1x512 .f32} {B59 : D59 → Vec F S512x128 .f32} {B60 : D60 → Vec F S1x1024 .f32} {B61 : D61 → Vec F S1x1024 .f32} {B62 : D62 → Vec F S1x1024 .f32} {B63 : D63 → Vec F S1x1024 .f32} {B64 : D64 → Vec F S1x1024 .f32} {B65 : D65 → Vec F S1x1024 .f32} {B66 : D66 → Vec F S1x1024 .f32} {B67 : D67 → Vec F S2x1024 .f32} {B68 : D68 → Vec F S1x512 .f32} {B69 : D69 → Vec F S512x128 .f32} {B70 : D70 → Vec F S1x1024 .f32} {B71 : D71 → Vec F S1x1024 .f32} {B72 : D72 → Vec F S1x1024 .f32} {B73 : D73 → Vec F S1x1024 .f32} {B74 : D74 → Vec F S1x1024 .f32} {B75 : D75 → Vec F S1x1024 .f32} {B76 : D76 → Vec F S1x1024 .f32} {B77 : D77 → Vec F S2x1024 .f32} {B78 : D78 → Vec F S1x512 .f32} {B79 : D79 → Vec F S512x128 .f32} {A0 A1 A2 A3 A4 A5 A6 A7 : Vec F S8x1x1024 .f32} {A8 : Vec F S8x1x512 .f32} {A9 : Vec F S8x512x128 .f32} {A10 A11 A12 A13 A14 A15 A16 : Vec F S1x1024 .f32} {A17 : Vec F S2x1024 .f32} {A18 : Vec F S1x512 .f32} {A19 : Vec F S512x128 .f32} {A20 A21 A22 A23 A24 A25 A26 : Vec F S1x1024 .f32} {A27 : Vec F S2x1024 .f32} {A28 : Vec F S1x512 .f32} {A29 : Vec F S512x128 .f32} {A30 A31 A32 A33 A34 A35 A36 : Vec F S1x1024 .f32} {A37 : Vec F S2x1024 .f32} {A38 : Vec F S1x512 .f32} {A39 : Vec F S512x128 .f32} {A40 A41 A42 A43 A44 A45 A46 : Vec F S1x1024 .f32} {A47 : Vec F S2x1024 .f32} {A48 : Vec F S1x512 .f32} {A49 : Vec F S512x128 .f32} {A50 A51 A52 A53 A54 A55 A56 : Vec F S1x1024 .f32} {A57 : Vec F S2x1024 .f32} {A58 : Vec F S1x512 .f32} {A59 : Vec F S512x128 .f32} {A60 A61 A62 A63 A64 A65 A66 : Vec F S1x1024 .f32} {A67 : Vec F S2x1024 .f32} {A68 : Vec F S1x512 .f32} {A69 : Vec F S512x128 .f32} {A70 A71 A72 A73 A74 A75 A76 : Vec F S1x1024 .f32} {A77 : Vec F S2x1024 .f32} {A78 : Vec F S1x512 .f32} {A79 : Vec F S512x128 .f32} {P Q : sProp (MT nD τ sig Unit (Elt F) ℕ (UR sig nD τ) ℕ)}
    (x0 x1 x2 x3 x4 x5 x6 x7 : Vec F S8x1x1024 .f32) (x8 : Vec F S8x1x512 .f32) (x9 : Vec F S8x512x128 .f32) (x10 x11 x12 x13 x14 x15 x16 : Vec F S1x1024 .f32) (x17 : Vec F S2x1024 .f32) (x18 : Vec F S1x512 .f32) (x19 : Vec F S512x128 .f32) (x20 x21 x22 x23 x24 x25 x26 : Vec F S1x1024 .f32) (x27 : Vec F S2x1024 .f32) (x28 : Vec F S1x512 .f32) (x29 : Vec F S512x128 .f32) (x30 x31 x32 x33 x34 x35 x36 : Vec F S1x1024 .f32) (x37 : Vec F S2x1024 .f32) (x38 : Vec F S1x512 .f32) (x39 : Vec F S512x128 .f32) (e0 : ∀ d, B0 d = x0) (e1 : ∀ d, B1 d = x1) (e2 : ∀ d, B2 d = x2) (e3 : ∀ d, B3 d = x3) (e4 : ∀ d, B4 d = x4) (e5 : ∀ d, B5 d = x5) (e6 : ∀ d, B6 d = x6) (e7 : ∀ d, B7 d = x7) (e8 : ∀ d, B8 d = x8) (e9 : ∀ d, B9 d = x9) (e10 : ∀ d, B10 d = x10) (e11 : ∀ d, B11 d = x11) (e12 : ∀ d, B12 d = x12) (e13 : ∀ d, B13 d = x13) (e14 : ∀ d, B14 d = x14) (e15 : ∀ d, B15 d = x15) (e16 : ∀ d, B16 d = x16) (e17 : ∀ d, B17 d = x17) (e18 : ∀ d, B18 d = x18) (e19 : ∀ d, B19 d = x19) (e20 : ∀ d, B20 d = x20) (e21 : ∀ d, B21 d = x21) (e22 : ∀ d, B22 d = x22) (e23 : ∀ d, B23 d = x23) (e24 : ∀ d, B24 d = x24) (e25 : ∀ d, B25 d = x25) (e26 : ∀ d, B26 d = x26) (e27 : ∀ d, B27 d = x27) (e28 : ∀ d, B28 d = x28) (e29 : ∀ d, B29 d = x29) (e30 : ∀ d, B30 d = x30) (e31 : ∀ d, B31 d = x31) (e32 : ∀ d, B32 d = x32) (e33 : ∀ d, B33 d = x33) (e34 : ∀ d, B34 d = x34) (e35 : ∀ d, B35 d = x35) (e36 : ∀ d, B36 d = x36) (e37 : ∀ d, B37 d = x37) (e38 : ∀ d, B38 d = x38) (e39 : ∀ d, B39 d = x39)
    (k0 : A0 = x0) (k1 : A1 = x1) (k2 : A2 = x2) (k3 : A3 = x3) (k4 : A4 = x4) (k5 : A5 = x5) (k6 : A6 = x6) (k7 : A7 = x7) (k8 : A8 = x8) (k9 : A9 = x9) (k10 : A10 = x10) (k11 : A11 = x11) (k12 : A12 = x12) (k13 : A13 = x13) (k14 : A14 = x14) (k15 : A15 = x15) (k16 : A16 = x16) (k17 : A17 = x17) (k18 : A18 = x18) (k19 : A19 = x19) (k20 : A20 = x20) (k21 : A21 = x21) (k22 : A22 = x22) (k23 : A23 = x23) (k24 : A24 = x24) (k25 : A25 = x25) (k26 : A26 = x26) (k27 : A27 = x27) (k28 : A28 = x28) (k29 : A29 = x29) (k30 : A30 = x30) (k31 : A31 = x31) (k32 : A32 = x32) (k33 : A33 = x33) (k34 : A34 = x34) (k35 : A35 = x35) (k36 : A36 = x36) (k37 : A37 = x37) (k38 : A38 = x38) (k39 : A39 = x39) (k40 : A40 = out40 x0) (k41 : A41 = out41 x1) (k42 : A42 = out42 x2) (k43 : A43 = out43 x3) (k44 : A44 = out44 x4) (k45 : A45 = out45 x5) (k46 : A46 = out46 x6) (k47 : A47 = out47 x7 x17) (k48 : A48 = out48 x8) (k49 : A49 = out49 x9) (k50 : A50 = out50 x0 x10 x20 x30) (k51 : A51 = out51 x1 x11 x21 x31) (k52 : A52 = out52 x2 x12 x22 x32) (k53 : A53 = out53 x3 x13 x23 x33) (k54 : A54 = out54 x4 x14 x24 x34) (k55 : A55 = out55 x5 x15 x25 x35) (k56 : A56 = out56 x6 x16 x26 x36) (k57 : A57 = out57 x7 x17 x27 x37) (k58 : A58 = out58 x8 x18 x28 x38) (k59 : A59 = out59 x9 x19 x29 x39) (k60 : A60 = out60 x0 x20) (k61 : A61 = out61 x1 x21) (k62 : A62 = out62 x2 x22) (k63 : A63 = out63 x3 x23) (k64 : A64 = out64 x4 x24) (k65 : A65 = out65 x5 x25) (k66 : A66 = out66 x6 x26) (k67 : A67 = out67 x7 x17 x27) (k68 : A68 = out68 x8 x28) (k69 : A69 = out69 x9 x29) (k70 : A70 = out70 x0 x30) (k71 : A71 = out71 x1 x31) (k72 : A72 = out72 x2 x32) (k73 : A73 = out73 x3 x33) (k74 : A74 = out74 x4 x34) (k75 : A75 = out75 x5 x35) (k76 : A76 = out76 x6 x36) (k77 : A77 = out77 x7 x17 x37) (k78 : A78 = out78 x8 x38) (k79 : A79 = out79 x9 x39) :
    let c : Thread nD τ := dev
    iprop(P ∗ Q ∗ (∃ d, owns c a0 fullShare (B0 d)) ∗ (∃ d, owns c a1 fullShare (B1 d)) ∗ (∃ d, owns c a2 fullShare (B2 d)) ∗ (∃ d, owns c a3 fullShare (B3 d)) ∗ (∃ d, owns c a4 fullShare (B4 d)) ∗ (∃ d, owns c a5 fullShare (B5 d)) ∗ (∃ d, owns c a6 fullShare (B6 d)) ∗ (∃ d, owns c a7 fullShare (B7 d)) ∗ (∃ d, owns c a8 fullShare (B8 d)) ∗ (∃ d, owns c a9 fullShare (B9 d)) ∗ (∃ d, owns c a10 fullShare (B10 d)) ∗ (∃ d, owns c a11 fullShare (B11 d)) ∗ (∃ d, owns c a12 fullShare (B12 d)) ∗ (∃ d, owns c a13 fullShare (B13 d)) ∗ (∃ d, owns c a14 fullShare (B14 d)) ∗ (∃ d, owns c a15 fullShare (B15 d)) ∗ (∃ d, owns c a16 fullShare (B16 d)) ∗ (∃ d, owns c a17 fullShare (B17 d)) ∗ (∃ d, owns c a18 fullShare (B18 d)) ∗ (∃ d, owns c a19 fullShare (B19 d)) ∗ (∃ d, owns c a20 fullShare (B20 d)) ∗ (∃ d, owns c a21 fullShare (B21 d)) ∗ (∃ d, owns c a22 fullShare (B22 d)) ∗ (∃ d, owns c a23 fullShare (B23 d)) ∗ (∃ d, owns c a24 fullShare (B24 d)) ∗ (∃ d, owns c a25 fullShare (B25 d)) ∗ (∃ d, owns c a26 fullShare (B26 d)) ∗ (∃ d, owns c a27 fullShare (B27 d)) ∗ (∃ d, owns c a28 fullShare (B28 d)) ∗ (∃ d, owns c a29 fullShare (B29 d)) ∗ (∃ d, owns c a30 fullShare (B30 d)) ∗ (∃ d, owns c a31 fullShare (B31 d)) ∗ (∃ d, owns c a32 fullShare (B32 d)) ∗ (∃ d, owns c a33 fullShare (B33 d)) ∗ (∃ d, owns c a34 fullShare (B34 d)) ∗ (∃ d, owns c a35 fullShare (B35 d)) ∗ (∃ d, owns c a36 fullShare (B36 d)) ∗ (∃ d, owns c a37 fullShare (B37 d)) ∗ (∃ d, owns c a38 fullShare (B38 d)) ∗ (∃ d, owns c a39 fullShare (B39 d)) ∗ (∃ d, owns c a40 fullShare (B40 d)) ∗ (∃ d, owns c a41 fullShare (B41 d)) ∗ (∃ d, owns c a42 fullShare (B42 d)) ∗ (∃ d, owns c a43 fullShare (B43 d)) ∗ (∃ d, owns c a44 fullShare (B44 d)) ∗ (∃ d, owns c a45 fullShare (B45 d)) ∗ (∃ d, owns c a46 fullShare (B46 d)) ∗ (∃ d, owns c a47 fullShare (B47 d)) ∗ (∃ d, owns c a48 fullShare (B48 d)) ∗ (∃ d, owns c a49 fullShare (B49 d)) ∗ (∃ d, owns c a50 fullShare (B50 d)) ∗ (∃ d, owns c a51 fullShare (B51 d)) ∗ (∃ d, owns c a52 fullShare (B52 d)) ∗ (∃ d, owns c a53 fullShare (B53 d)) ∗ (∃ d, owns c a54 fullShare (B54 d)) ∗ (∃ d, owns c a55 fullShare (B55 d)) ∗ (∃ d, owns c a56 fullShare (B56 d)) ∗ (∃ d, owns c a57 fullShare (B57 d)) ∗ (∃ d, owns c a58 fullShare (B58 d)) ∗ (∃ d, owns c a59 fullShare (B59 d)) ∗ (∃ d, owns c a60 fullShare (B60 d)) ∗ (∃ d, owns c a61 fullShare (B61 d)) ∗ (∃ d, owns c a62 fullShare (B62 d)) ∗ (∃ d, owns c a63 fullShare (B63 d)) ∗ (∃ d, owns c a64 fullShare (B64 d)) ∗ (∃ d, owns c a65 fullShare (B65 d)) ∗ (∃ d, owns c a66 fullShare (B66 d)) ∗ (∃ d, owns c a67 fullShare (B67 d)) ∗ (∃ d, owns c a68 fullShare (B68 d)) ∗ (∃ d, owns c a69 fullShare (B69 d)) ∗ (∃ d, owns c a70 fullShare (B70 d)) ∗ (∃ d, owns c a71 fullShare (B71 d)) ∗ (∃ d, owns c a72 fullShare (B72 d)) ∗ (∃ d, owns c a73 fullShare (B73 d)) ∗ (∃ d, owns c a74 fullShare (B74 d)) ∗ (∃ d, owns c a75 fullShare (B75 d)) ∗ (∃ d, owns c a76 fullShare (B76 d)) ∗ (∃ d, owns c a77 fullShare (B77 d)) ∗ (∃ d, owns c a78 fullShare (B78 d)) ∗ (∃ d, owns c a79 fullShare (B79 d)))
    ⊢ wp frame (wpE (defs₀ (F := F)) Variants.none c none) Set.univ (cc0_adam_small a0 h0 a1 h1 a2 h2 a3 h3 a4 h4 a5 h5 a6 h6 a7 h7 a8 h8 a9 h9 a10 h10 a11 h11 a12 h12 a13 h13 a14 h14 a15 h15 a16 h16 a17 h17 a18 h18 a19 h19 a20 h20 a21 h21 a22 h22 a23 h23 a24 h24 a25 h25 a26 h26 a27 h27 a28 h28 a29 h29 a30 h30 a31 h31 a32 h32 a33 h33 a34 h34 a35 h35 a36 h36 a37 h37 a38 h38 a39 h39 a40 h40 a41 h41 a42 h42 a43 h43 a44 h44 a45 h45 a46 h46 a47 h47 a48 h48 a49 h49 a50 h50 a51 h51 a52 h52 a53 h53 a54 h54 a55 h55 a56 h56 a57 h57 a58 h58 a59 h59 a60 h60 a61 h61 a62 h62 a63 h63 a64 h64 a65 h65 a66 h66 a67 h67 a68 h68 a69 h69 a70 h70 a71 h71 a72 h72 a73 h73 a74 h74 a75 h75 a76 h76 a77 h77 a78 h78 a79 h79)
      (fun _ => iprop(P ∗ Q ∗ owns c a0 fullShare A0 ∗ owns c a1 fullShare A1 ∗ owns c a2 fullShare A2 ∗ owns c a3 fullShare A3 ∗ owns c a4 fullShare A4 ∗ owns c a5 fullShare A5 ∗ owns c a6 fullShare A6 ∗ owns c a7 fullShare A7 ∗ owns c a8 fullShare A8 ∗ owns c a9 fullShare A9 ∗ owns c a10 fullShare A10 ∗ owns c a11 fullShare A11 ∗ owns c a12 fullShare A12 ∗ owns c a13 fullShare A13 ∗ owns c a14 fullShare A14 ∗ owns c a15 fullShare A15 ∗ owns c a16 fullShare A16 ∗ owns c a17 fullShare A17 ∗ owns c a18 fullShare A18 ∗ owns c a19 fullShare A19 ∗ owns c a20 fullShare A20 ∗ owns c a21 fullShare A21 ∗ owns c a22 fullShare A22 ∗ owns c a23 fullShare A23 ∗ owns c a24 fullShare A24 ∗ owns c a25 fullShare A25 ∗ owns c a26 fullShare A26 ∗ owns c a27 fullShare A27 ∗ owns c a28 fullShare A28 ∗ owns c a29 fullShare A29 ∗ owns c a30 fullShare A30 ∗ owns c a31 fullShare A31 ∗ owns c a32 fullShare A32 ∗ owns c a33 fullShare A33 ∗ owns c a34 fullShare A34 ∗ owns c a35 fullShare A35 ∗ owns c a36 fullShare A36 ∗ owns c a37 fullShare A37 ∗ owns c a38 fullShare A38 ∗ owns c a39 fullShare A39 ∗ owns c a40 fullShare A40 ∗ owns c a41 fullShare A41 ∗ owns c a42 fullShare A42 ∗ owns c a43 fullShare A43 ∗ owns c a44 fullShare A44 ∗ owns c a45 fullShare A45 ∗ owns c a46 fullShare A46 ∗ owns c a47 fullShare A47 ∗ owns c a48 fullShare A48 ∗ owns c a49 fullShare A49 ∗ owns c a50 fullShare A50 ∗ owns c a51 fullShare A51 ∗ owns c a52 fullShare A52 ∗ owns c a53 fullShare A53 ∗ owns c a54 fullShare A54 ∗ owns c a55 fullShare A55 ∗ owns c a56 fullShare A56 ∗ owns c a57 fullShare A57 ∗ owns c a58 fullShare A58 ∗ owns c a59 fullShare A59 ∗ owns c a60 fullShare A60 ∗ owns c a61 fullShare A61 ∗ owns c a62 fullShare A62 ∗ owns c a63 fullShare A63 ∗ owns c a64 fullShare A64 ∗ owns c a65 fullShare A65 ∗ owns c a66 fullShare A66 ∗ owns c a67 fullShare A67 ∗ owns c a68 fullShare A68 ∗ owns c a69 fullShare A69 ∗ owns c a70 fullShare A70 ∗ owns c a71 fullShare A71 ∗ owns c a72 fullShare A72 ∗ owns c a73 fullShare A73 ∗ owns c a74 fullShare A74 ∗ owns c a75 fullShare A75 ∗ owns c a76 fullShare A76 ∗ owns c a77 fullShare A77 ∗ owns c a78 fullShare A78 ∗ owns c a79 fullShare A79)) := by
  intro c
  simp only [cc0_adam_small_eq_skeleton]; unfold cc0_adam_small_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  subst k0 k1 k2 k3 k4 k5 k6 k7 k8 k9 k10 k11 k12 k13 k14 k15 k16 k17 k18 k19 k20 k21 k22 k23 k24 k25 k26 k27 k28 k29 k30 k31 k32 k33 k34 k35 k36 k37 k38 k39 k40 k41 k42 k43 k44 k45 k46 k47 k48 k49 k50 k51 k52 k53 k54 k55 k56 k57 k58 k59 k60 k61 k62 k63 k64 k65 k66 k67 k68 k69 k70 k71 k72 k73 k74 k75 k76 k77 k78 k79
  unfold owns
  iintro ⟨HP, HQ, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, %hf8, H8⟩, ⟨%d9, %f9, %hf9, H9⟩, ⟨%d10, %f10, %hf10, H10⟩, ⟨%d11, %f11, %hf11, H11⟩, ⟨%d12, %f12, %hf12, H12⟩, ⟨%d13, %f13, %hf13, H13⟩, ⟨%d14, %f14, %hf14, H14⟩, ⟨%d15, %f15, %hf15, H15⟩, ⟨%d16, %f16, %hf16, H16⟩, ⟨%d17, %f17, %hf17, H17⟩, ⟨%d18, %f18, %hf18, H18⟩, ⟨%d19, %f19, %hf19, H19⟩, ⟨%d20, %f20, %hf20, H20⟩, ⟨%d21, %f21, %hf21, H21⟩, ⟨%d22, %f22, %hf22, H22⟩, ⟨%d23, %f23, %hf23, H23⟩, ⟨%d24, %f24, %hf24, H24⟩, ⟨%d25, %f25, %hf25, H25⟩, ⟨%d26, %f26, %hf26, H26⟩, ⟨%d27, %f27, %hf27, H27⟩, ⟨%d28, %f28, %hf28, H28⟩, ⟨%d29, %f29, %hf29, H29⟩, ⟨%d30, %f30, %hf30, H30⟩, ⟨%d31, %f31, %hf31, H31⟩, ⟨%d32, %f32, %hf32, H32⟩, ⟨%d33, %f33, %hf33, H33⟩, ⟨%d34, %f34, %hf34, H34⟩, ⟨%d35, %f35, %hf35, H35⟩, ⟨%d36, %f36, %hf36, H36⟩, ⟨%d37, %f37, %hf37, H37⟩, ⟨%d38, %f38, %hf38, H38⟩, ⟨%d39, %f39, %hf39, H39⟩, ⟨%d40, %f40, -, H40⟩, ⟨%d41, %f41, -, H41⟩, ⟨%d42, %f42, -, H42⟩, ⟨%d43, %f43, -, H43⟩, ⟨%d44, %f44, -, H44⟩, ⟨%d45, %f45, -, H45⟩, ⟨%d46, %f46, -, H46⟩, ⟨%d47, %f47, -, H47⟩, ⟨%d48, %f48, -, H48⟩, ⟨%d49, %f49, -, H49⟩, ⟨%d50, %f50, -, H50⟩, ⟨%d51, %f51, -, H51⟩, ⟨%d52, %f52, -, H52⟩, ⟨%d53, %f53, -, H53⟩, ⟨%d54, %f54, -, H54⟩, ⟨%d55, %f55, -, H55⟩, ⟨%d56, %f56, -, H56⟩, ⟨%d57, %f57, -, H57⟩, ⟨%d58, %f58, -, H58⟩, ⟨%d59, %f59, -, H59⟩, ⟨%d60, %f60, -, H60⟩, ⟨%d61, %f61, -, H61⟩, ⟨%d62, %f62, -, H62⟩, ⟨%d63, %f63, -, H63⟩, ⟨%d64, %f64, -, H64⟩, ⟨%d65, %f65, -, H65⟩, ⟨%d66, %f66, -, H66⟩, ⟨%d67, %f67, -, H67⟩, ⟨%d68, %f68, -, H68⟩, ⟨%d69, %f69, -, H69⟩, ⟨%d70, %f70, -, H70⟩, ⟨%d71, %f71, -, H71⟩, ⟨%d72, %f72, -, H72⟩, ⟨%d73, %f73, -, H73⟩, ⟨%d74, %f74, -, H74⟩, ⟨%d75, %f75, -, H75⟩, ⟨%d76, %f76, -, H76⟩, ⟨%d77, %f77, -, H77⟩, ⟨%d78, %f78, -, H78⟩, ⟨%d79, %f79, -, H79⟩⟩
  rw [e0] at hf0
  rw [e1] at hf1
  rw [e2] at hf2
  rw [e3] at hf3
  rw [e4] at hf4
  rw [e5] at hf5
  rw [e6] at hf6
  rw [e7] at hf7
  rw [e8] at hf8
  rw [e9] at hf9
  rw [e10] at hf10
  rw [e11] at hf11
  rw [e12] at hf12
  rw [e13] at hf13
  rw [e14] at hf14
  rw [e15] at hf15
  rw [e16] at hf16
  rw [e17] at hf17
  rw [e18] at hf18
  rw [e19] at hf19
  rw [e20] at hf20
  rw [e21] at hf21
  rw [e22] at hf22
  rw [e23] at hf23
  rw [e24] at hf24
  rw [e25] at hf25
  rw [e26] at hf26
  rw [e27] at hf27
  rw [e28] at hf28
  rw [e29] at hf29
  rw [e30] at hf30
  rw [e31] at hf31
  rw [e32] at hf32
  rw [e33] at hf33
  rw [e34] at hf34
  rw [e35] at hf35
  rw [e36] at hf36
  rw [e37] at hf37
  rw [e38] at hf38
  rw [e39] at hf39
  subst hf0 hf1 hf2 hf3 hf4 hf5 hf6 hf7 hf8 hf9 hf10 hf11 hf12 hf13 hf14 hf15 hf16 hf17 hf18 hf19 hf20 hf21 hf22 hf23 hf24 hf25 hf26 hf27 hf28 hf29 hf30 hf31 hf32 hf33 hf34 hf35 hf36 hf37 hf38 hf39
  sl_exec
  sl_step
  isplitl [HP]; · iexact HP
  isplitl [HQ]; · iexact HQ
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists f12; isplitr; · ipureintro; rfl
    iexact H12
  isplitl [H13]
  · iexists f13; isplitr; · ipureintro; rfl
    iexact H13
  isplitl [H14]
  · iexists f14; isplitr; · ipureintro; rfl
    iexact H14
  isplitl [H15]
  · iexists f15; isplitr; · ipureintro; rfl
    iexact H15
  isplitl [H16]
  · iexists f16; isplitr; · ipureintro; rfl
    iexact H16
  isplitl [H17]
  · iexists f17; isplitr; · ipureintro; rfl
    iexact H17
  isplitl [H18]
  · iexists f18; isplitr; · ipureintro; rfl
    iexact H18
  isplitl [H19]
  · iexists f19; isplitr; · ipureintro; rfl
    iexact H19
  isplitl [H20]
  · iexists f20; isplitr; · ipureintro; rfl
    iexact H20
  isplitl [H21]
  · iexists f21; isplitr; · ipureintro; rfl
    iexact H21
  isplitl [H22]
  · iexists f22; isplitr; · ipureintro; rfl
    iexact H22
  isplitl [H23]
  · iexists f23; isplitr; · ipureintro; rfl
    iexact H23
  isplitl [H24]
  · iexists f24; isplitr; · ipureintro; rfl
    iexact H24
  isplitl [H25]
  · iexists f25; isplitr; · ipureintro; rfl
    iexact H25
  isplitl [H26]
  · iexists f26; isplitr; · ipureintro; rfl
    iexact H26
  isplitl [H27]
  · iexists f27; isplitr; · ipureintro; rfl
    iexact H27
  isplitl [H28]
  · iexists f28; isplitr; · ipureintro; rfl
    iexact H28
  isplitl [H29]
  · iexists f29; isplitr; · ipureintro; rfl
    iexact H29
  isplitl [H30]
  · iexists f30; isplitr; · ipureintro; rfl
    iexact H30
  isplitl [H31]
  · iexists f31; isplitr; · ipureintro; rfl
    iexact H31
  isplitl [H32]
  · iexists f32; isplitr; · ipureintro; rfl
    iexact H32
  isplitl [H33]
  · iexists f33; isplitr; · ipureintro; rfl
    iexact H33
  isplitl [H34]
  · iexists f34; isplitr; · ipureintro; rfl
    iexact H34
  isplitl [H35]
  · iexists f35; isplitr; · ipureintro; rfl
    iexact H35
  isplitl [H36]
  · iexists f36; isplitr; · ipureintro; rfl
    iexact H36
  isplitl [H37]
  · iexists f37; isplitr; · ipureintro; rfl
    iexact H37
  isplitl [H38]
  · iexists f38; isplitr; · ipureintro; rfl
    iexact H38
  isplitl [H39]
  · iexists f39; isplitr; · ipureintro; rfl
    iexact H39
  isplitl [H40]
  · iexists _; isplitr; swap; · iexact H40
    ipureintro; exact (View.read_writes_eq_canon _ _ _ (cov8 _)).trans rfl
  isplitl [H41]
  · iexists _; isplitr; swap; · iexact H41
    ipureintro; exact (View.read_writes_eq_canon _ _ _ (cov8 _)).trans rfl
  isplitl [H42]
  · iexists _; isplitr; swap; · iexact H42
    ipureintro; exact (View.read_writes_eq_canon _ _ _ (cov8 _)).trans rfl
  isplitl [H43]
  · iexists _; isplitr; swap; · iexact H43
    ipureintro; exact (View.read_writes_eq_canon _ _ _ (cov8 _)).trans rfl
  isplitl [H44]
  · iexists _; isplitr; swap; · iexact H44
    ipureintro; exact (View.read_writes_eq_canon _ _ _ (cov8 _)).trans rfl
  isplitl [H45]
  · iexists _; isplitr; swap; · iexact H45
    ipureintro; exact (View.read_writes_eq_canon _ _ _ (cov8 _)).trans rfl
  isplitl [H46]
  · iexists _; isplitr; swap; · iexact H46
    ipureintro; exact (View.read_writes_eq_canon _ _ _ (cov8 _)).trans rfl
  isplitl [H47]
  · iexists _; isplitr; swap; · iexact H47
    ipureintro; exact (View.read_writes_eq_canon _ _ _ (cov9 _)).trans rfl
  isplitl [H48]
  · iexists _; isplitr; swap; · iexact H48
    ipureintro; exact (View.read_writes_eq_canon _ _ _ (cov18 _)).trans rfl
  isplitl [H49]
  · iexists _; isplitr; swap; · iexact H49
    ipureintro; exact (View.read_writes_eq_canon _ _ _ (cov27 _)).trans rfl
  isplitl [H50]
  · iexists _; isplitr; swap; · iexact H50
    ipureintro; exact (View.read_writes_eq_canon _ _ _ (cov8 _)).trans rfl
  isplitl [H51]
  · iexists _; isplitr; swap; · iexact H51
    ipureintro; exact (View.read_writes_eq_canon _ _ _ (cov8 _)).trans rfl
  isplitl [H52]
  · iexists _; isplitr; swap; · iexact H52
    ipureintro; exact (View.read_writes_eq_canon _ _ _ (cov8 _)).trans rfl
  isplitl [H53]
  · iexists _; isplitr; swap; · iexact H53
    ipureintro; exact (View.read_writes_eq_canon _ _ _ (cov8 _)).trans rfl
  isplitl [H54]
  · iexists _; isplitr; swap; · iexact H54
    ipureintro; exact (View.read_writes_eq_canon _ _ _ (cov8 _)).trans rfl
  isplitl [H55]
  · iexists _; isplitr; swap; · iexact H55
    ipureintro; exact (View.read_writes_eq_canon _ _ _ (cov8 _)).trans rfl
  isplitl [H56]
  · iexists _; isplitr; swap; · iexact H56
    ipureintro; exact (View.read_writes_eq_canon _ _ _ (cov8 _)).trans rfl
  isplitl [H57]
  · iexists _; isplitr; swap; · iexact H57
    ipureintro; exact (View.read_writes_eq_canon _ _ _ (cov9 _)).trans rfl
  isplitl [H58]
  · iexists _; isplitr; swap; · iexact H58
    ipureintro; exact (View.read_writes_eq_canon _ _ _ (cov18 _)).trans rfl
  isplitl [H59]
  · iexists _; isplitr; swap; · iexact H59
    ipureintro; exact (View.read_writes_eq_canon _ _ _ (cov27 _)).trans rfl
  isplitl [H60]
  · iexists _; isplitr; swap; · iexact H60
    ipureintro; exact (View.read_writes_eq_canon _ _ _ (cov8 _)).trans rfl
  isplitl [H61]
  · iexists _; isplitr; swap; · iexact H61
    ipureintro; exact (View.read_writes_eq_canon _ _ _ (cov8 _)).trans rfl
  isplitl [H62]
  · iexists _; isplitr; swap; · iexact H62
    ipureintro; exact (View.read_writes_eq_canon _ _ _ (cov8 _)).trans rfl
  isplitl [H63]
  · iexists _; isplitr; swap; · iexact H63
    ipureintro; exact (View.read_writes_eq_canon _ _ _ (cov8 _)).trans rfl
  isplitl [H64]
  · iexists _; isplitr; swap; · iexact H64
    ipureintro; exact (View.read_writes_eq_canon _ _ _ (cov8 _)).trans rfl
  isplitl [H65]
  · iexists _; isplitr; swap; · iexact H65
    ipureintro; exact (View.read_writes_eq_canon _ _ _ (cov8 _)).trans rfl
  isplitl [H66]
  · iexists _; isplitr; swap; · iexact H66
    ipureintro; exact (View.read_writes_eq_canon _ _ _ (cov8 _)).trans rfl
  isplitl [H67]
  · iexists _; isplitr; swap; · iexact H67
    ipureintro; exact (View.read_writes_eq_canon _ _ _ (cov9 _)).trans rfl
  isplitl [H68]
  · iexists _; isplitr; swap; · iexact H68
    ipureintro; exact (View.read_writes_eq_canon _ _ _ (cov18 _)).trans rfl
  isplitl [H69]
  · iexists _; isplitr; swap; · iexact H69
    ipureintro; exact (View.read_writes_eq_canon _ _ _ (cov27 _)).trans rfl
  isplitl [H70]
  · iexists _; isplitr; swap; · iexact H70
    ipureintro; exact (View.read_writes_eq_canon _ _ _ (cov8 _)).trans rfl
  isplitl [H71]
  · iexists _; isplitr; swap; · iexact H71
    ipureintro; exact (View.read_writes_eq_canon _ _ _ (cov8 _)).trans rfl
  isplitl [H72]
  · iexists _; isplitr; swap; · iexact H72
    ipureintro; exact (View.read_writes_eq_canon _ _ _ (cov8 _)).trans rfl
  isplitl [H73]
  · iexists _; isplitr; swap; · iexact H73
    ipureintro; exact (View.read_writes_eq_canon _ _ _ (cov8 _)).trans rfl
  isplitl [H74]
  · iexists _; isplitr; swap; · iexact H74
    ipureintro; exact (View.read_writes_eq_canon _ _ _ (cov8 _)).trans rfl
  isplitl [H75]
  · iexists _; isplitr; swap; · iexact H75
    ipureintro; exact (View.read_writes_eq_canon _ _ _ (cov8 _)).trans rfl
  isplitl [H76]
  · iexists _; isplitr; swap; · iexact H76
    ipureintro; exact (View.read_writes_eq_canon _ _ _ (cov8 _)).trans rfl
  isplitl [H77]
  · iexists _; isplitr; swap; · iexact H77
    ipureintro; exact (View.read_writes_eq_canon _ _ _ (cov9 _)).trans rfl
  isplitl [H78]
  · iexists _; isplitr; swap; · iexact H78
    ipureintro; exact (View.read_writes_eq_canon _ _ _ (cov18 _)).trans rfl
  · iexists _; isplitr; swap; · iexact H79
    ipureintro; exact (View.read_writes_eq_canon _ _ _ (cov27 _)).trans rfl

end Cert.AdamSmallIdeal.Small

end
-- ==== Proof.SmallRunIdeal.lean ====
/-
  The frame of the optimiser's call on the small parameters: one grid point, forty windows in and forty out.
-/
module

public import proofs.«01_k».proof.Proof.SmallBodyIdeal
public import proofs.«01_k».proof.Proof.Gen.AdamSmallIdeal.Skeleton
public import proofs.«01_k».proof.Proof.Gen.AdamSmallIdeal.Points
public import Idealize.ShloMosaic.Lib.Pipeline.FrameBody
public import Idealize.ShloMosaic.Lib.Claim
public import Idealize.ShloMosaic.Lib.Ring
public import Idealize.ShloMosaic.Lib.Tactic

@[expose] public section

set_option maxRecDepth 16384
set_option maxHeartbeats 16000000

noncomputable section

namespace Cert.AdamSmallIdeal.Small

open Cert.AdamSmallIdeal Cert.AdamSmallIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

variable (m : (ℓ : Loc nD τ sig) → Buf (Elt F) ℓ) (ρ : Dev nD → PrngReg)

/-- The buffers as launched. -/
abbrev V (c : Dev nD) (b : Ref sig .tc) : Buf (Elt F) ((c : Thread nD τ).loc b) := m ((c : Thread nD τ).loc b)

/-- A window's block. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the buffers hold after the body: the inputs' blocks, and the outputs' values of them. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => iblk m c 30 t
    | ⟨31, _⟩ => iblk m c 31 t
    | ⟨32, _⟩ => iblk m c 32 t
    | ⟨33, _⟩ => iblk m c 33 t
    | ⟨34, _⟩ => iblk m c 34 t
    | ⟨35, _⟩ => iblk m c 35 t
    | ⟨36, _⟩ => iblk m c 36 t
    | ⟨37, _⟩ => iblk m c 37 t
    | ⟨38, _⟩ => iblk m c 38 t
    | ⟨39, _⟩ => iblk m c 39 t
    | ⟨40, _⟩ => out40 (iblk m c 0 t)
    | ⟨41, _⟩ => out41 (iblk m c 1 t)
    | ⟨42, _⟩ => out42 (iblk m c 2 t)
    | ⟨43, _⟩ => out43 (iblk m c 3 t)
    | ⟨44, _⟩ => out44 (iblk m c 4 t)
    | ⟨45, _⟩ => out45 (iblk m c 5 t)
    | ⟨46, _⟩ => out46 (iblk m c 6 t)
    | ⟨47, _⟩ => out47 (iblk m c 7 t) (iblk m c 17 t)
    | ⟨48, _⟩ => out48 (iblk m c 8 t)
    | ⟨49, _⟩ => out49 (iblk m c 9 t)
    | ⟨50, _⟩ => out50 (iblk m c 0 t) (iblk m c 10 t) (iblk m c 20 t) (iblk m c 30 t)
    | ⟨51, _⟩ => out51 (iblk m c 1 t) (iblk m c 11 t) (iblk m c 21 t) (iblk m c 31 t)
    | ⟨52, _⟩ => out52 (iblk m c 2 t) (iblk m c 12 t) (iblk m c 22 t) (iblk m c 32 t)
    | ⟨53, _⟩ => out53 (iblk m c 3 t) (iblk m c 13 t) (iblk m c 23 t) (iblk m c 33 t)
    | ⟨54, _⟩ => out54 (iblk m c 4 t) (iblk m c 14 t) (iblk m c 24 t) (iblk m c 34 t)
    | ⟨55, _⟩ => out55 (iblk m c 5 t) (iblk m c 15 t) (iblk m c 25 t) (iblk m c 35 t)
    | ⟨56, _⟩ => out56 (iblk m c 6 t) (iblk m c 16 t) (iblk m c 26 t) (iblk m c 36 t)
    | ⟨57, _⟩ => out57 (iblk m c 7 t) (iblk m c 17 t) (iblk m c 27 t) (iblk m c 37 t)
    | ⟨58, _⟩ => out58 (iblk m c 8 t) (iblk m c 18 t) (iblk m c 28 t) (iblk m c 38 t)
    | ⟨59, _⟩ => out59 (iblk m c 9 t) (iblk m c 19 t) (iblk m c 29 t) (iblk m c 39 t)
    | ⟨60, _⟩ => out60 (iblk m c 0 t) (iblk m c 20 t)
    | ⟨61, _⟩ => out61 (iblk m c 1 t) (iblk m c 21 t)
    | ⟨62, _⟩ => out62 (iblk m c 2 t) (iblk m c 22 t)
    | ⟨63, _⟩ => out63 (iblk m c 3 t) (iblk m c 23 t)
    | ⟨64, _⟩ => out64 (iblk m c 4 t) (iblk m c 24 t)
    | ⟨65, _⟩ => out65 (iblk m c 5 t) (iblk m c 25 t)
    | ⟨66, _⟩ => out66 (iblk m c 6 t) (iblk m c 26 t)
    | ⟨67, _⟩ => out67 (iblk m c 7 t) (iblk m c 17 t) (iblk m c 27 t)
    | ⟨68, _⟩ => out68 (iblk m c 8 t) (iblk m c 28 t)
    | ⟨69, _⟩ => out69 (iblk m c 9 t) (iblk m c 29 t)
    | ⟨70, _⟩ => out70 (iblk m c 0 t) (iblk m c 30 t)
    | ⟨71, _⟩ => out71 (iblk m c 1 t) (iblk m c 31 t)
    | ⟨72, _⟩ => out72 (iblk m c 2 t) (iblk m c 32 t)
    | ⟨73, _⟩ => out73 (iblk m c 3 t) (iblk m c 33 t)
    | ⟨74, _⟩ => out74 (iblk m c 4 t) (iblk m c 34 t)
    | ⟨75, _⟩ => out75 (iblk m c 5 t) (iblk m c 35 t)
    | ⟨76, _⟩ => out76 (iblk m c 6 t) (iblk m c 36 t)
    | ⟨77, _⟩ => out77 (iblk m c 7 t) (iblk m c 17 t) (iblk m c 37 t)
    | ⟨78, _⟩ => out78 (iblk m c 8 t) (iblk m c 38 t)
    | ⟨79, _⟩ => out79 (iblk m c 9 t) (iblk m c 39 t)
    | ⟨_ + 80, h⟩ => absurd h (Nat.not_lt.2 (Nat.le_add_left _ _))
  Φ _ := Pipeline.ΦA spec0 c
  q _ := fullShare
  owed _ := 0

theorem A_eq (c : Dev nD) (w : Fin cfg0.W) : (dats m 0 c).A w = V m c (Pipeline.arrRef spec0 w) := by
  dsimp only [dats]

theorem row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  have b0 : ∀ d, (dats m 0 c).before 0 t d = iblk m c 0 t := fun d => ((dats m 0 c).before_in_eq_fetched 0 rfl (fun _ => rfl) (fun _ _ _ => rfl) (fun t => by dsimp only [dats]; rfl) t d).trans rfl
  have b1 : ∀ d, (dats m 0 c).before 1 t d = iblk m c 1 t := fun d => ((dats m 0 c).before_in_eq_fetched 1 rfl (fun _ => rfl) (fun _ _ _ => rfl) (fun t => by dsimp only [dats]; rfl) t d).trans rfl
  have b2 : ∀ d, (dats m 0 c).before 2 t d = iblk m c 2 t := fun d => ((dats m 0 c).before_in_eq_fetched 2 rfl (fun _ => rfl) (fun _ _ _ => rfl) (fun t => by dsimp only [dats]; rfl) t d).trans rfl
  have b3 : ∀ d, (dats m 0 c).before 3 t d = iblk m c 3 t := fun d => ((dats m 0 c).before_in_eq_fetched 3 rfl (fun _ => rfl) (fun _ _ _ => rfl) (fun t => by dsimp only [dats]; rfl) t d).trans rfl
  have b4 : ∀ d, (dats m 0 c).before 4 t d = iblk m c 4 t := fun d => ((dats m 0 c).before_in_eq_fetched 4 rfl (fun _ => rfl) (fun _ _ _ => rfl) (fun t => by dsimp only [dats]; rfl) t d).trans rfl
  have b5 : ∀ d, (dats m 0 c).before 5 t d = iblk m c 5 t := fun d => ((dats m 0 c).before_in_eq_fetched 5 rfl (fun _ => rfl) (fun _ _ _ => rfl) (fun t => by dsimp only [dats]; rfl) t d).trans rfl
  have b6 : ∀ d, (dats m 0 c).before 6 t d = iblk m c 6 t := fun d => ((dats m 0 c).before_in_eq_fetched 6 rfl (fun _ => rfl) (fun _ _ _ => rfl) (fun t => by dsimp only [dats]; rfl) t d).trans rfl
  have b7 : ∀ d, (dats m 0 c).before 7 t d = iblk m c 7 t := fun d => ((dats m 0 c).before_in_eq_fetched 7 rfl (fun _ => rfl) (fun _ _ _ => rfl) (fun t => by dsimp only [dats]; rfl) t d).trans rfl
  have b8 : ∀ d, (dats m 0 c).before 8 t d = iblk m c 8 t := fun d => ((dats m 0 c).before_in_eq_fetched 8 rfl (fun _ => rfl) (fun _ _ _ => rfl) (fun t => by dsimp only [dats]; rfl) t d).trans rfl
  have b9 : ∀ d, (dats m 0 c).before 9 t d = iblk m c 9 t := fun d => ((dats m 0 c).before_in_eq_fetched 9 rfl (fun _ => rfl) (fun _ _ _ => rfl) (fun t => by dsimp only [dats]; rfl) t d).trans rfl
  have b10 : ∀ d, (dats m 0 c).before 10 t d = iblk m c 10 t := fun d => ((dats m 0 c).before_in_eq_fetched 10 rfl (fun _ => rfl) (fun _ _ _ => rfl) (fun t => by dsimp only [dats]; rfl) t d).trans rfl
  have b11 : ∀ d, (dats m 0 c).before 11 t d = iblk m c 11 t := fun d => ((dats m 0 c).before_in_eq_fetched 11 rfl (fun _ => rfl) (fun _ _ _ => rfl) (fun t => by dsimp only [dats]; rfl) t d).trans rfl
  have b12 : ∀ d, (dats m 0 c).before 12 t d = iblk m c 12 t := fun d => ((dats m 0 c).before_in_eq_fetched 12 rfl (fun _ => rfl) (fun _ _ _ => rfl) (fun t => by dsimp only [dats]; rfl) t d).trans rfl
  have b13 : ∀ d, (dats m 0 c).before 13 t d = iblk m c 13 t := fun d => ((dats m 0 c).before_in_eq_fetched 13 rfl (fun _ => rfl) (fun _ _ _ => rfl) (fun t => by dsimp only [dats]; rfl) t d).trans rfl
  have b14 : ∀ d, (dats m 0 c).before 14 t d = iblk m c 14 t := fun d => ((dats m 0 c).before_in_eq_fetched 14 rfl (fun _ => rfl) (fun _ _ _ => rfl) (fun t => by dsimp only [dats]; rfl) t d).trans rfl
  have b15 : ∀ d, (dats m 0 c).before 15 t d = iblk m c 15 t := fun d => ((dats m 0 c).before_in_eq_fetched 15 rfl (fun _ => rfl) (fun _ _ _ => rfl) (fun t => by dsimp only [dats]; rfl) t d).trans rfl
  have b16 : ∀ d, (dats m 0 c).before 16 t d = iblk m c 16 t := fun d => ((dats m 0 c).before_in_eq_fetched 16 rfl (fun _ => rfl) (fun _ _ _ => rfl) (fun t => by dsimp only [dats]; rfl) t d).trans rfl
  have b17 : ∀ d, (dats m 0 c).before 17 t d = iblk m c 17 t := fun d => ((dats m 0 c).before_in_eq_fetched 17 rfl (fun _ => rfl) (fun _ _ _ => rfl) (fun t => by dsimp only [dats]; rfl) t d).trans rfl
  have b18 : ∀ d, (dats m 0 c).before 18 t d = iblk m c 18 t := fun d => ((dats m 0 c).before_in_eq_fetched 18 rfl (fun _ => rfl) (fun _ _ _ => rfl) (fun t => by dsimp only [dats]; rfl) t d).trans rfl
  have b19 : ∀ d, (dats m 0 c).before 19 t d = iblk m c 19 t := fun d => ((dats m 0 c).before_in_eq_fetched 19 rfl (fun _ => rfl) (fun _ _ _ => rfl) (fun t => by dsimp only [dats]; rfl) t d).trans rfl
  have b20 : ∀ d, (dats m 0 c).before 20 t d = iblk m c 20 t := fun d => ((dats m 0 c).before_in_eq_fetched 20 rfl (fun _ => rfl) (fun _ _ _ => rfl) (fun t => by dsimp only [dats]; rfl) t d).trans rfl
  have b21 : ∀ d, (dats m 0 c).before 21 t d = iblk m c 21 t := fun d => ((dats m 0 c).before_in_eq_fetched 21 rfl (fun _ => rfl) (fun _ _ _ => rfl) (fun t => by dsimp only [dats]; rfl) t d).trans rfl
  have b22 : ∀ d, (dats m 0 c).before 22 t d = iblk m c 22 t := fun d => ((dats m 0 c).before_in_eq_fetched 22 rfl (fun _ => rfl) (fun _ _ _ => rfl) (fun t => by dsimp only [dats]; rfl) t d).trans rfl
  have b23 : ∀ d, (dats m 0 c).before 23 t d = iblk m c 23 t := fun d => ((dats m 0 c).before_in_eq_fetched 23 rfl (fun _ => rfl) (fun _ _ _ => rfl) (fun t => by dsimp only [dats]; rfl) t d).trans rfl
  have b24 : ∀ d, (dats m 0 c).before 24 t d = iblk m c 24 t := fun d => ((dats m 0 c).before_in_eq_fetched 24 rfl (fun _ => rfl) (fun _ _ _ => rfl) (fun t => by dsimp only [dats]; rfl) t d).trans rfl
  have b25 : ∀ d, (dats m 0 c).before 25 t d = iblk m c 25 t := fun d => ((dats m 0 c).before_in_eq_fetched 25 rfl (fun _ => rfl) (fun _ _ _ => rfl) (fun t => by dsimp only [dats]; rfl) t d).trans rfl
  have b26 : ∀ d, (dats m 0 c).before 26 t d = iblk m c 26 t := fun d => ((dats m 0 c).before_in_eq_fetched 26 rfl (fun _ => rfl) (fun _ _ _ => rfl) (fun t => by dsimp only [dats]; rfl) t d).trans rfl
  have b27 : ∀ d, (dats m 0 c).before 27 t d = iblk m c 27 t := fun d => ((dats m 0 c).before_in_eq_fetched 27 rfl (fun _ => rfl) (fun _ _ _ => rfl) (fun t => by dsimp only [dats]; rfl) t d).trans rfl
  have b28 : ∀ d, (dats m 0 c).before 28 t d = iblk m c 28 t := fun d => ((dats m 0 c).before_in_eq_fetched 28 rfl (fun _ => rfl) (fun _ _ _ => rfl) (fun t => by dsimp only [dats]; rfl) t d).trans rfl
  have b29 : ∀ d, (dats m 0 c).before 29 t d = iblk m c 29 t := fun d => ((dats m 0 c).before_in_eq_fetched 29 rfl (fun _ => rfl) (fun _ _ _ => rfl) (fun t => by dsimp only [dats]; rfl) t d).trans rfl
  have b30 : ∀ d, (dats m 0 c).before 30 t d = iblk m c 30 t := fun d => ((dats m 0 c).before_in_eq_fetched 30 rfl (fun _ => rfl) (fun _ _ _ => rfl) (fun t => by dsimp only [dats]; rfl) t d).trans rfl
  have b31 : ∀ d, (dats m 0 c).before 31 t d = iblk m c 31 t := fun d => ((dats m 0 c).before_in_eq_fetched 31 rfl (fun _ => rfl) (fun _ _ _ => rfl) (fun t => by dsimp only [dats]; rfl) t d).trans rfl
  have b32 : ∀ d, (dats m 0 c).before 32 t d = iblk m c 32 t := fun d => ((dats m 0 c).before_in_eq_fetched 32 rfl (fun _ => rfl) (fun _ _ _ => rfl) (fun t => by dsimp only [dats]; rfl) t d).trans rfl
  have b33 : ∀ d, (dats m 0 c).before 33 t d = iblk m c 33 t := fun d => ((dats m 0 c).before_in_eq_fetched 33 rfl (fun _ => rfl) (fun _ _ _ => rfl) (fun t => by dsimp only [dats]; rfl) t d).trans rfl
  have b34 : ∀ d, (dats m 0 c).before 34 t d = iblk m c 34 t := fun d => ((dats m 0 c).before_in_eq_fetched 34 rfl (fun _ => rfl) (fun _ _ _ => rfl) (fun t => by dsimp only [dats]; rfl) t d).trans rfl
  have b35 : ∀ d, (dats m 0 c).before 35 t d = iblk m c 35 t := fun d => ((dats m 0 c).before_in_eq_fetched 35 rfl (fun _ => rfl) (fun _ _ _ => rfl) (fun t => by dsimp only [dats]; rfl) t d).trans rfl
  have b36 : ∀ d, (dats m 0 c).before 36 t d = iblk m c 36 t := fun d => ((dats m 0 c).before_in_eq_fetched 36 rfl (fun _ => rfl) (fun _ _ _ => rfl) (fun t => by dsimp only [dats]; rfl) t d).trans rfl
  have b37 : ∀ d, (dats m 0 c).before 37 t d = iblk m c 37 t := fun d => ((dats m 0 c).before_in_eq_fetched 37 rfl (fun _ => rfl) (fun _ _ _ => rfl) (fun t => by dsimp only [dats]; rfl) t d).trans rfl
  have b38 : ∀ d, (dats m 0 c).before 38 t d = iblk m c 38 t := fun d => ((dats m 0 c).before_in_eq_fetched 38 rfl (fun _ => rfl) (fun _ _ _ => rfl) (fun t => by dsimp only [dats]; rfl) t d).trans rfl
  have b39 : ∀ d, (dats m 0 c).before 39 t d = iblk m c 39 t := fun d => ((dats m 0 c).before_in_eq_fetched 39 rfl (fun _ => rfl) (fun _ _ _ => rfl) (fun t => by dsimp only [dats]; rfl) t d).trans rfl
  rw [bigSep_W0, bigSep_W0, row]
  exact triple_restated (body_sound c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t) (iblk m c 30 t) (iblk m c 31 t) (iblk m c 32 t) (iblk m c 33 t) (iblk m c 34 t) (iblk m c 35 t) (iblk m c 36 t) (iblk m c 37 t) (iblk m c 38 t) (iblk m c 39 t) b0 b1 b2 b3 b4 b5 b6 b7 b8 b9 b10 b11 b12 b13 b14 b15 b16 b17 b18 b19 b20 b21 b22 b23 b24 b25 b26 b27 b28 b29 b30 b31 b32 b33 b34 b35 b36 b37 b38 b39
    (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats]) (by dsimp only [dats])) rfl .rfl fun _ => .rfl

set_option backward.isDefEq.respectTransparency.types false in
/-- The call ends, with every array at what the proof data say and every counter at zero. -/
theorem run : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := Pipeline.hmain_region cfgs 0 defs₀ Variants.none m main fun c => (main_chain c).trans rfl)
    (hA := A_eq m) (hΦ := fun _ _ => rfl)

/-- An input array ends as launched. -/
theorem kept {r : PUnit × MemSt nD τ sig (Elt F)} (h : Pipeline.FramePost cfgs (dats m) 0 (V m) r) (c : Dev nD) (w : Fin cfg0.W) (hw : (cfg0.win w).isOut = false) :
    r.2.mem ((c.tc : Thread nD τ).loc (Pipeline.arrRef spec0 w)) = m ((c.tc : Thread nD τ).loc (Pipeline.arrRef spec0 w)) :=
  ((h c).1 w).trans (((dats m 0 c).arrAt_in w hw _).trans (A_eq m c w))

/-- The frame. -/
theorem frame_args : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20) ∧ r.2.mem ((c.tc : Thread nD τ).loc main_arg21) = m ((c.tc : Thread nD τ).loc main_arg21) ∧ r.2.mem ((c.tc : Thread nD τ).loc main_arg22) = m ((c.tc : Thread nD τ).loc main_arg22) ∧ r.2.mem ((c.tc : Thread nD τ).loc main_arg23) = m ((c.tc : Thread nD τ).loc main_arg23) ∧ r.2.mem ((c.tc : Thread nD τ).loc main_arg24) = m ((c.tc : Thread nD τ).loc main_arg24) ∧ r.2.mem ((c.tc : Thread nD τ).loc main_arg25) = m ((c.tc : Thread nD τ).loc main_arg25) ∧ r.2.mem ((c.tc : Thread nD τ).loc main_arg26) = m ((c.tc : Thread nD τ).loc main_arg26) ∧ r.2.mem ((c.tc : Thread nD τ).loc main_arg27) = m ((c.tc : Thread nD τ).loc main_arg27) ∧ r.2.mem ((c.tc : Thread nD τ).loc main_arg28) = m ((c.tc : Thread nD τ).loc main_arg28) ∧ r.2.mem ((c.tc : Thread nD τ).loc main_arg29) = m ((c.tc : Thread nD τ).loc main_arg29) ∧ r.2.mem ((c.tc : Thread nD τ).loc main_arg30) = m ((c.tc : Thread nD τ).loc main_arg30) ∧ r.2.mem ((c.tc : Thread nD τ).loc main_arg31) = m ((c.tc : Thread nD τ).loc main_arg31) ∧ r.2.mem ((c.tc : Thread nD τ).loc main_arg32) = m ((c.tc : Thread nD τ).loc main_arg32) ∧ r.2.mem ((c.tc : Thread nD τ).loc main_arg33) = m ((c.tc : Thread nD τ).loc main_arg33) ∧ r.2.mem ((c.tc : Thread nD τ).loc main_arg34) = m ((c.tc : Thread nD τ).loc main_arg34) ∧ r.2.mem ((c.tc : Thread nD τ).loc main_arg35) = m ((c.tc : Thread nD τ).loc main_arg35) ∧ r.2.mem ((c.tc : Thread nD τ).loc main_arg36) = m ((c.tc : Thread nD τ).loc main_arg36) ∧ r.2.mem ((c.tc : Thread nD τ).loc main_arg37) = m ((c.tc : Thread nD τ).loc main_arg37) ∧ r.2.mem ((c.tc : Thread nD τ).loc main_arg38) = m ((c.tc : Thread nD τ).loc main_arg38) ∧ r.2.mem ((c.tc : Thread nD τ).loc main_arg39) = m ((c.tc : Thread nD τ).loc main_arg39)) ∧ r.2.sem = fun _ => 0) :=
  (θ_run defs _ _).mono (fun r h => ⟨fun c => ⟨kept m h.1 c 0 rfl, kept m h.1 c 1 rfl, kept m h.1 c 2 rfl, kept m h.1 c 3 rfl, kept m h.1 c 4 rfl, kept m h.1 c 5 rfl, kept m h.1 c 6 rfl, kept m h.1 c 7 rfl, kept m h.1 c 8 rfl, kept m h.1 c 9 rfl, kept m h.1 c 10 rfl, kept m h.1 c 11 rfl, kept m h.1 c 12 rfl, kept m h.1 c 13 rfl, kept m h.1 c 14 rfl, kept m h.1 c 15 rfl, kept m h.1 c 16 rfl, kept m h.1 c 17 rfl, kept m h.1 c 18 rfl, kept m h.1 c 19 rfl, kept m h.1 c 20 rfl, kept m h.1 c 21 rfl, kept m h.1 c 22 rfl, kept m h.1 c 23 rfl, kept m h.1 c 24 rfl, kept m h.1 c 25 rfl, kept m h.1 c 26 rfl, kept m h.1 c 27 rfl, kept m h.1 c 28 rfl, kept m h.1 c 29 rfl, kept m h.1 c 30 rfl, kept m h.1 c 31 rfl, kept m h.1 c 32 rfl, kept m h.1 c 33 rfl, kept m h.1 c 34 rfl, kept m h.1 c 35 rfl, kept m h.1 c 36 rfl, kept m h.1 c 37 rfl, kept m h.1 c 38 rfl, kept m h.1 c 39 rfl⟩, h.2⟩) (run m ρ)

end Cert.AdamSmallIdeal.Small

end
-- ==== Proof.SmallPlain.lean ====
/-
  The frame of the optimiser's call on the small parameters as written, from the frame of the same program with named constants:
  a named constant may be read as its own word, and then the two are one program.
-/
module

public import proofs.«01_k».proof.Proof.SmallRunIdeal
public import proofs.«01_k».proof.Proof.Gen.AdamSmall

@[expose] public section

set_option maxRecDepth 65536
set_option maxHeartbeats 16000000

noncomputable section

namespace Cert.AdamSmall.Small

open Cert.AdamSmall Cert.AdamSmall.Gen
open Idealize.ShloMosaic Idealize.ShloMosaic.TcCoe Idealize.SL.Sem

variable {F : FTy → Type} [FloatOps F]

/-- Every named constant is its word. -/
@[reducible] def plain : Named F := ⟨fun _ _ {φ} b => Scalar.ofBits φ b⟩

/-- The bodies are the same. -/
theorem rows : letI := plain (F := F); Cert.AdamSmall.defs₀ (F := F) = Cert.AdamSmallIdeal.defs₀ (F := F) := by
  refine congrArg Defs.onTc ?_
  funext l a
  match l, a with
  | 0, (t, s) => exact rfl

/-- The bodies and the regions are the same. -/
theorem rows_all : letI := plain (F := F); Cert.AdamSmall.defs (F := F) = Cert.AdamSmallIdeal.defs (F := F) :=
  letI := plain (F := F); congrArg (Pipeline.defs Cert.AdamSmall.pcfgs) (rows (F := F))

variable (m : (ℓ : Loc nD τ sig) → Buf (Elt F) ℓ) (ρ : Dev nD → PrngReg)

/-- The frame: the arguments end as launched. -/
theorem frame_args : θ_run defs (onTc (τ := τ) (main (F := F))) ⟨m, fun _ => 0, ρ⟩ (fun r => (∀ c : Dev nD,
    r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9) ∧ r.2.mem ((c.tc : Thread nD τ).loc main_arg10) = m ((c.tc : Thread nD τ).loc main_arg10) ∧ r.2.mem ((c.tc : Thread nD τ).loc main_arg11) = m ((c.tc : Thread nD τ).loc main_arg11) ∧ r.2.mem ((c.tc : Thread nD τ).loc main_arg12) = m ((c.tc : Thread nD τ).loc main_arg12) ∧ r.2.mem ((c.tc : Thread nD τ).loc main_arg13) = m ((c.tc : Thread nD τ).loc main_arg13) ∧ r.2.mem ((c.tc : Thread nD τ).loc main_arg14) = m ((c.tc : Thread nD τ).loc main_arg14) ∧ r.2.mem ((c.tc : Thread nD τ).loc main_arg15) = m ((c.tc : Thread nD τ).loc main_arg15) ∧ r.2.mem ((c.tc : Thread nD τ).loc main_arg16) = m ((c.tc : Thread nD τ).loc main_arg16) ∧ r.2.mem ((c.tc : Thread nD τ).loc main_arg17) = m ((c.tc : Thread nD τ).loc main_arg17) ∧ r.2.mem ((c.tc : Thread nD τ).loc main_arg18) = m ((c.tc : Thread nD τ).loc main_arg18) ∧ r.2.mem ((c.tc : Thread nD τ).loc main_arg19) = m ((c.tc : Thread nD τ).loc main_arg19) ∧ r.2.mem ((c.tc : Thread nD τ).loc main_arg20) = m ((c.tc : Thread nD τ).loc main_arg20) ∧ r.2.mem ((c.tc : Thread nD τ).loc main_arg21) = m ((c.tc : Thread nD τ).loc main_arg21) ∧ r.2.mem ((c.tc : Thread nD τ).loc main_arg22) = m ((c.tc : Thread nD τ).loc main_arg22) ∧ r.2.mem ((c.tc : Thread nD τ).loc main_arg23) = m ((c.tc : Thread nD τ).loc main_arg23) ∧ r.2.mem ((c.tc : Thread nD τ).loc main_arg24) = m ((c.tc : Thread nD τ).loc main_arg24) ∧ r.2.mem ((c.tc : Thread nD τ).loc main_arg25) = m ((c.tc : Thread nD τ).loc main_arg25) ∧ r.2.mem ((c.tc : Thread nD τ).loc main_arg26) = m ((c.tc : Thread nD τ).loc main_arg26) ∧ r.2.mem ((c.tc : Thread nD τ).loc main_arg27) = m ((c.tc : Thread nD τ).loc main_arg27) ∧ r.2.mem ((c.tc : Thread nD τ).loc main_arg28) = m ((c.tc : Thread nD τ).loc main_arg28) ∧ r.2.mem ((c.tc : Thread nD τ).loc main_arg29) = m ((c.tc : Thread nD τ).loc main_arg29) ∧ r.2.mem ((c.tc : Thread nD τ).loc main_arg30) = m ((c.tc : Thread nD τ).loc main_arg30) ∧ r.2.mem ((c.tc : Thread nD τ).loc main_arg31) = m ((c.tc : Thread nD τ).loc main_arg31) ∧ r.2.mem ((c.tc : Thread nD τ).loc main_arg32) = m ((c.tc : Thread nD τ).loc main_arg32) ∧ r.2.mem ((c.tc : Thread nD τ).loc main_arg33) = m ((c.tc : Thread nD τ).loc main_arg33) ∧ r.2.mem ((c.tc : Thread nD τ).loc main_arg34) = m ((c.tc : Thread nD τ).loc main_arg34) ∧ r.2.mem ((c.tc : Thread nD τ).loc main_arg35) = m ((c.tc : Thread nD τ).loc main_arg35) ∧ r.2.mem ((c.tc : Thread nD τ).loc main_arg36) = m ((c.tc : Thread nD τ).loc main_arg36) ∧ r.2.mem ((c.tc : Thread nD τ).loc main_arg37) = m ((c.tc : Thread nD τ).loc main_arg37) ∧ r.2.mem ((c.tc : Thread nD τ).loc main_arg38) = m ((c.tc : Thread nD τ).loc main_arg38) ∧ r.2.mem ((c.tc : Thread nD τ).loc main_arg39) = m ((c.tc : Thread nD τ).loc main_arg39))
    ∧ r.2.sem = fun _ => 0) := by
  letI := plain (F := F)
  rw [rows_all (F := F)]
  exact Cert.AdamSmallIdeal.Small.frame_args m ρ

end Cert.AdamSmall.Small

end
-- ==== Proof.SmallStep.lean ====
/-
  The optimiser's step on the small parameters: what the body's outputs are, the parts added and the step entry by entry.
-/
module

public import proofs.«01_k».proof.Proof.SmallBodyIdeal
public import proofs.«01_k».proof.Proof.Adam
public import Idealize.ShloMosaic.Lib.Pipeline.ValueKit

@[expose] public section

set_option maxRecDepth 16384
set_option maxHeartbeats 4000000

noncomputable section

open Idealize.ShloMosaic Idealize.ShloMosaic.TcCoe Idealize.SL.Sem
open Idealize.ShloMosaic.Pipeline (Dat)

namespace Cert.AdamSmallIdeal.Val

open Cert.AdamSmallIdeal Cert.AdamSmallIdeal.Gen Cert.AdamSmallIdeal.Small Cert.Adam

/-- The eight parts added. -/
abbrev spG {a b : ℕ} (X : FVec Ideal ⟨3, ![8, a, b]⟩ .f32) : FVec Ideal ⟨2, ![a, b]⟩ .f32 := fun j => ∑ k : Fin 8, X (ix3 k (j 0) (j 1))

/-- The gradient of the lower bounds, from that of the first bound's share. -/
abbrev spL (X : FVec Ideal ⟨3, ![8, 1, 1024]⟩ .f32) (W : FVec Ideal ⟨2, ![2, 1024]⟩ .f32) : FVec Ideal ⟨2, ![2, 1024]⟩ .f32 := fun j =>
  bound (j 0) (∑ k : Fin 8, X (ix3 k 0 (j 1))) (W (ix2 0 (j 1))) (W (ix2 1 (j 1)))

/-- The update, entry by entry. -/
abbrev spD {a b : ℕ} (W G M V : FVec Ideal ⟨2, ![a, b]⟩ .f32) : FVec Ideal ⟨2, ![a, b]⟩ .f32 := fun j => update (W j) (G j) (M j) (V j)

/-- The first moment, entry by entry. -/
abbrev spM {a b : ℕ} (G M : FVec Ideal ⟨2, ![a, b]⟩ .f32) : FVec Ideal ⟨2, ![a, b]⟩ .f32 := fun j => step1 (G j) (M j)

/-- The second moment, entry by entry. -/
abbrev spV {a b : ℕ} (G V : FVec Ideal ⟨2, ![a, b]⟩ .f32) : FVec Ideal ⟨2, ![a, b]⟩ .f32 := fun j => step2 (G j) (V j)

theorem sel (r : Fin 2) (a b : EReal) : Scalar.select (IntOp.cmpi CmpIPredicate.eq (BitVec.ofNat 32 r.val) 0#32) a b = if r = 0 then a else b := by
  match r with
  | 0 => rfl
  | 1 => rfl

theorem at40 (x0 : FVec Ideal S8x1x1024 .f32) : out40 (F := Ideal) x0 = spG x0 := by
  funext y
  unfold out40
  canon_tiles x h
  all_goals
    open_payloads
    pointwise [w54, w55, k0_pay1, k0_pay2]
    have e : x = y := by blk_ext
    subst e
    · rw [spG, Fin.sum_univ_eight]
      repeat' refine congr_arg₂ (· + ·) ?_ ?_
      all_goals blk_ext

theorem at41 (x1 : FVec Ideal S8x1x1024 .f32) : out41 (F := Ideal) x1 = spG x1 := by
  funext y
  unfold out41
  canon_tiles x h
  all_goals
    open_payloads
    pointwise [w56, w57, k0_pay6, k0_pay7, k0_pay8, k0_pay9, k0_pay10]
    have e : x = y := by blk_ext
    subst e
    · rw [spG, Fin.sum_univ_eight]
      repeat' refine congr_arg₂ (· + ·) ?_ ?_
      all_goals blk_ext

theorem at42 (x2 : FVec Ideal S8x1x1024 .f32) : out42 (F := Ideal) x2 = spG x2 := by
  funext y
  unfold out42
  canon_tiles x h
  all_goals
    open_payloads
    pointwise [w58, k0_pay12, k0_pay13, k0_pay14, k0_pay15]
    have e : x = y := by blk_ext
    subst e
    · rw [spG, Fin.sum_univ_eight]
      repeat' refine congr_arg₂ (· + ·) ?_ ?_
      all_goals blk_ext

theorem at43 (x3 : FVec Ideal S8x1x1024 .f32) : out43 (F := Ideal) x3 = spG x3 := by
  funext y
  unfold out43
  canon_tiles x h
  all_goals
    open_payloads
    pointwise [w59, k0_pay17, k0_pay18, k0_pay19, k0_pay20]
    have e : x = y := by blk_ext
    subst e
    · rw [spG, Fin.sum_univ_eight]
      repeat' refine congr_arg₂ (· + ·) ?_ ?_
      all_goals blk_ext

theorem at44 (x4 : FVec Ideal S8x1x1024 .f32) : out44 (F := Ideal) x4 = spG x4 := by
  funext y
  unfold out44
  canon_tiles x h
  all_goals
    open_payloads
    pointwise [w60, w61, k0_pay22, k0_pay23]
    have e : x = y := by blk_ext
    subst e
    · rw [spG, Fin.sum_univ_eight]
      repeat' refine congr_arg₂ (· + ·) ?_ ?_
      all_goals blk_ext

theorem at45 (x5 : FVec Ideal S8x1x1024 .f32) : out45 (F := Ideal) x5 = spG x5 := by
  funext y
  unfold out45
  canon_tiles x h
  all_goals
    open_payloads
    pointwise [w62, w63, k0_pay27, k0_pay28, k0_pay29, k0_pay30, k0_pay31]
    have e : x = y := by blk_ext
    subst e
    · rw [spG, Fin.sum_univ_eight]
      repeat' refine congr_arg₂ (· + ·) ?_ ?_
      all_goals blk_ext

theorem at46 (x6 : FVec Ideal S8x1x1024 .f32) : out46 (F := Ideal) x6 = spG x6 := by
  funext y
  unfold out46
  canon_tiles x h
  all_goals
    open_payloads
    pointwise [w64, k0_pay33, k0_pay34, k0_pay35, k0_pay36]
    have e : x = y := by blk_ext
    subst e
    · rw [spG, Fin.sum_univ_eight]
      repeat' refine congr_arg₂ (· + ·) ?_ ?_
      all_goals blk_ext

theorem at47 (x7 : FVec Ideal S8x1x1024 .f32) (x17 : FVec Ideal S2x1024 .f32) : out47 (F := Ideal) x7 x17 = spL x7 x17 := by
  funext y
  unfold out47
  canon_tiles x h
  all_goals
    open_payloads
    pointwise [w65, k0_pay38]
    have e : x = y := by blk_ext
    subst e
    · unfold spL bound
      rw [Fin.sum_univ_eight]
      exact congrArg (· * _) (sel (x 0) _ _)

theorem at48 (x8 : FVec Ideal S8x1x512 .f32) : out48 (F := Ideal) x8 = spG x8 := by
  funext y
  unfold out48
  canon_tiles x h
  all_goals
    open_payloads
    pointwise [w66, k0_pay45]
    have e : x = y := by blk_ext
    subst e
    · rw [spG, Fin.sum_univ_eight]
      repeat' refine congr_arg₂ (· + ·) ?_ ?_
      all_goals blk_ext

theorem at49 (x9 : FVec Ideal S8x512x128 .f32) : out49 (F := Ideal) x9 = spG x9 := by
  funext y
  unfold out49
  canon_tiles x h
  all_goals
    open_payloads
    pointwise [w67, k0_pay50]
    have e : x = y := by blk_ext
    subst e
    · rw [spG, Fin.sum_univ_eight]
      repeat' refine congr_arg₂ (· + ·) ?_ ?_
      all_goals blk_ext

theorem at50 (x0 : FVec Ideal S8x1x1024 .f32) (x10 : FVec Ideal S1x1024 .f32) (x20 : FVec Ideal S1x1024 .f32) (x30 : FVec Ideal S1x1024 .f32) : out50 (F := Ideal) x0 x10 x20 x30 = spD x10 (spG x0) x20 x30 := by
  funext y
  unfold out50
  canon_tiles x h
  all_goals
    open_payloads
    pointwise [w54, w55, k0_pay1, k0_pay2]
    have e : x = y := by blk_ext
    subst e
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    refine update_congr ?_ ?_ ?_ ?_
    · blk_ext
    · rw [spG, Fin.sum_univ_eight]
      repeat' refine congr_arg₂ (· + ·) ?_ ?_
      all_goals blk_ext
    · blk_ext
    · blk_ext

theorem at51 (x1 : FVec Ideal S8x1x1024 .f32) (x11 : FVec Ideal S1x1024 .f32) (x21 : FVec Ideal S1x1024 .f32) (x31 : FVec Ideal S1x1024 .f32) : out51 (F := Ideal) x1 x11 x21 x31 = spD x11 (spG x1) x21 x31 := by
  funext y
  unfold out51
  canon_tiles x h
  all_goals
    open_payloads
    pointwise [w56, w57, k0_pay6, k0_pay7, k0_pay8, k0_pay9, k0_pay10]
    have e : x = y := by blk_ext
    subst e
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    refine update_congr ?_ ?_ ?_ ?_
    · blk_ext
    · rw [spG, Fin.sum_univ_eight]
      repeat' refine congr_arg₂ (· + ·) ?_ ?_
      all_goals blk_ext
    · blk_ext
    · blk_ext

theorem at52 (x2 : FVec Ideal S8x1x1024 .f32) (x12 : FVec Ideal S1x1024 .f32) (x22 : FVec Ideal S1x1024 .f32) (x32 : FVec Ideal S1x1024 .f32) : out52 (F := Ideal) x2 x12 x22 x32 = spD x12 (spG x2) x22 x32 := by
  funext y
  unfold out52
  canon_tiles x h
  all_goals
    open_payloads
    pointwise [w58, k0_pay12, k0_pay13, k0_pay14, k0_pay15]
    have e : x = y := by blk_ext
    subst e
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    refine update_congr ?_ ?_ ?_ ?_
    · blk_ext
    · rw [spG, Fin.sum_univ_eight]
      repeat' refine congr_arg₂ (· + ·) ?_ ?_
      all_goals blk_ext
    · blk_ext
    · blk_ext

theorem at53 (x3 : FVec Ideal S8x1x1024 .f32) (x13 : FVec Ideal S1x1024 .f32) (x23 : FVec Ideal S1x1024 .f32) (x33 : FVec Ideal S1x1024 .f32) : out53 (F := Ideal) x3 x13 x23 x33 = spD x13 (spG x3) x23 x33 := by
  funext y
  unfold out53
  canon_tiles x h
  all_goals
    open_payloads
    pointwise [w59, k0_pay17, k0_pay18, k0_pay19, k0_pay20]
    have e : x = y := by blk_ext
    subst e
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    refine update_congr ?_ ?_ ?_ ?_
    · blk_ext
    · rw [spG, Fin.sum_univ_eight]
      repeat' refine congr_arg₂ (· + ·) ?_ ?_
      all_goals blk_ext
    · blk_ext
    · blk_ext

theorem at54 (x4 : FVec Ideal S8x1x1024 .f32) (x14 : FVec Ideal S1x1024 .f32) (x24 : FVec Ideal S1x1024 .f32) (x34 : FVec Ideal S1x1024 .f32) : out54 (F := Ideal) x4 x14 x24 x34 = spD x14 (spG x4) x24 x34 := by
  funext y
  unfold out54
  canon_tiles x h
  all_goals
    open_payloads
    pointwise [w60, w61, k0_pay22, k0_pay23]
    have e : x = y := by blk_ext
    subst e
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    refine update_congr ?_ ?_ ?_ ?_
    · blk_ext
    · rw [spG, Fin.sum_univ_eight]
      repeat' refine congr_arg₂ (· + ·) ?_ ?_
      all_goals blk_ext
    · blk_ext
    · blk_ext

theorem at55 (x5 : FVec Ideal S8x1x1024 .f32) (x15 : FVec Ideal S1x1024 .f32) (x25 : FVec Ideal S1x1024 .f32) (x35 : FVec Ideal S1x1024 .f32) : out55 (F := Ideal) x5 x15 x25 x35 = spD x15 (spG x5) x25 x35 := by
  funext y
  unfold out55
  canon_tiles x h
  all_goals
    open_payloads
    pointwise [w62, w63, k0_pay27, k0_pay28, k0_pay29, k0_pay30, k0_pay31]
    have e : x = y := by blk_ext
    subst e
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    refine update_congr ?_ ?_ ?_ ?_
    · blk_ext
    · rw [spG, Fin.sum_univ_eight]
      repeat' refine congr_arg₂ (· + ·) ?_ ?_
      all_goals blk_ext
    · blk_ext
    · blk_ext

theorem at56 (x6 : FVec Ideal S8x1x1024 .f32) (x16 : FVec Ideal S1x1024 .f32) (x26 : FVec Ideal S1x1024 .f32) (x36 : FVec Ideal S1x1024 .f32) : out56 (F := Ideal) x6 x16 x26 x36 = spD x16 (spG x6) x26 x36 := by
  funext y
  unfold out56
  canon_tiles x h
  all_goals
    open_payloads
    pointwise [w64, k0_pay33, k0_pay34, k0_pay35, k0_pay36]
    have e : x = y := by blk_ext
    subst e
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    refine update_congr ?_ ?_ ?_ ?_
    · blk_ext
    · rw [spG, Fin.sum_univ_eight]
      repeat' refine congr_arg₂ (· + ·) ?_ ?_
      all_goals blk_ext
    · blk_ext
    · blk_ext

theorem at57 (x7 : FVec Ideal S8x1x1024 .f32) (x17 : FVec Ideal S2x1024 .f32) (x27 : FVec Ideal S2x1024 .f32) (x37 : FVec Ideal S2x1024 .f32) : out57 (F := Ideal) x7 x17 x27 x37 = spD x17 (spL x7 x17) x27 x37 := by
  funext y
  unfold out57
  canon_tiles x h
  all_goals
    open_payloads
    pointwise [w65, k0_pay38]
    have e : x = y := by blk_ext
    subst e
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    refine update_congr ?_ ?_ ?_ ?_
    · blk_ext
    · unfold spL bound
      rw [Fin.sum_univ_eight]
      exact congrArg (· * _) (sel (x 0) _ _)
    · blk_ext
    · blk_ext

theorem at58 (x8 : FVec Ideal S8x1x512 .f32) (x18 : FVec Ideal S1x512 .f32) (x28 : FVec Ideal S1x512 .f32) (x38 : FVec Ideal S1x512 .f32) : out58 (F := Ideal) x8 x18 x28 x38 = spD x18 (spG x8) x28 x38 := by
  funext y
  unfold out58
  canon_tiles x h
  all_goals
    open_payloads
    pointwise [w66, k0_pay45]
    have e : x = y := by blk_ext
    subst e
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    refine update_congr ?_ ?_ ?_ ?_
    · blk_ext
    · rw [spG, Fin.sum_univ_eight]
      repeat' refine congr_arg₂ (· + ·) ?_ ?_
      all_goals blk_ext
    · blk_ext
    · blk_ext

theorem at59 (x9 : FVec Ideal S8x512x128 .f32) (x19 : FVec Ideal S512x128 .f32) (x29 : FVec Ideal S512x128 .f32) (x39 : FVec Ideal S512x128 .f32) : out59 (F := Ideal) x9 x19 x29 x39 = spD x19 (spG x9) x29 x39 := by
  funext y
  unfold out59
  canon_tiles x h
  all_goals
    open_payloads
    pointwise [w67, k0_pay50]
    have e : x = y := by blk_ext
    subst e
    rw [show Named.named (F := Ideal) (φ := .f32) κ "inv_bc1" 0x3FC48605#32 = ((8388608 / 5463681 : ℝ) : EReal) from rfl,
      show Named.named (F := Ideal) (φ := .f32) κ "inv_bc2" 0x42C8E6D3#32 = ((268435456 / 2672307 : ℝ) : EReal) from rfl, mul_inv_bc1, mul_inv_bc2]
    refine update_congr ?_ ?_ ?_ ?_
    · blk_ext
    · rw [spG, Fin.sum_univ_eight]
      repeat' refine congr_arg₂ (· + ·) ?_ ?_
      all_goals blk_ext
    · blk_ext
    · blk_ext

theorem at60 (x0 : FVec Ideal S8x1x1024 .f32) (x20 : FVec Ideal S1x1024 .f32) : out60 (F := Ideal) x0 x20 = spM (spG x0) x20 := by
  funext y
  unfold out60
  canon_tiles x h
  all_goals
    open_payloads
    pointwise [w54, w55, k0_pay1, k0_pay2]
    have e : x = y := by blk_ext
    subst e
    refine step1_congr ?_ ?_
    · rw [spG, Fin.sum_univ_eight]
      repeat' refine congr_arg₂ (· + ·) ?_ ?_
      all_goals blk_ext
    · blk_ext

theorem at61 (x1 : FVec Ideal S8x1x1024 .f32) (x21 : FVec Ideal S1x1024 .f32) : out61 (F := Ideal) x1 x21 = spM (spG x1) x21 := by
  funext y
  unfold out61
  canon_tiles x h
  all_goals
    open_payloads
    pointwise [w56, w57, k0_pay6, k0_pay7, k0_pay8, k0_pay9, k0_pay10]
    have e : x = y := by blk_ext
    subst e
    refine step1_congr ?_ ?_
    · rw [spG, Fin.sum_univ_eight]
      repeat' refine congr_arg₂ (· + ·) ?_ ?_
      all_goals blk_ext
    · blk_ext

theorem at62 (x2 : FVec Ideal S8x1x1024 .f32) (x22 : FVec Ideal S1x1024 .f32) : out62 (F := Ideal) x2 x22 = spM (spG x2) x22 := by
  funext y
  unfold out62
  canon_tiles x h
  all_goals
    open_payloads
    pointwise [w58, k0_pay12, k0_pay13, k0_pay14, k0_pay15]
    have e : x = y := by blk_ext
    subst e
    refine step1_congr ?_ ?_
    · rw [spG, Fin.sum_univ_eight]
      repeat' refine congr_arg₂ (· + ·) ?_ ?_
      all_goals blk_ext
    · blk_ext

theorem at63 (x3 : FVec Ideal S8x1x1024 .f32) (x23 : FVec Ideal S1x1024 .f32) : out63 (F := Ideal) x3 x23 = spM (spG x3) x23 := by
  funext y
  unfold out63
  canon_tiles x h
  all_goals
    open_payloads
    pointwise [w59, k0_pay17, k0_pay18, k0_pay19, k0_pay20]
    have e : x = y := by blk_ext
    subst e
    refine step1_congr ?_ ?_
    · rw [spG, Fin.sum_univ_eight]
      repeat' refine congr_arg₂ (· + ·) ?_ ?_
      all_goals blk_ext
    · blk_ext

theorem at64 (x4 : FVec Ideal S8x1x1024 .f32) (x24 : FVec Ideal S1x1024 .f32) : out64 (F := Ideal) x4 x24 = spM (spG x4) x24 := by
  funext y
  unfold out64
  canon_tiles x h
  all_goals
    open_payloads
    pointwise [w60, w61, k0_pay22, k0_pay23]
    have e : x = y := by blk_ext
    subst e
    refine step1_congr ?_ ?_
    · rw [spG, Fin.sum_univ_eight]
      repeat' refine congr_arg₂ (· + ·) ?_ ?_
      all_goals blk_ext
    · blk_ext

theorem at65 (x5 : FVec Ideal S8x1x1024 .f32) (x25 : FVec Ideal S1x1024 .f32) : out65 (F := Ideal) x5 x25 = spM (spG x5) x25 := by
  funext y
  unfold out65
  canon_tiles x h
  all_goals
    open_payloads
    pointwise [w62, w63, k0_pay27, k0_pay28, k0_pay29, k0_pay30, k0_pay31]
    have e : x = y := by blk_ext
    subst e
    refine step1_congr ?_ ?_
    · rw [spG, Fin.sum_univ_eight]
      repeat' refine congr_arg₂ (· + ·) ?_ ?_
      all_goals blk_ext
    · blk_ext

theorem at66 (x6 : FVec Ideal S8x1x1024 .f32) (x26 : FVec Ideal S1x1024 .f32) : out66 (F := Ideal) x6 x26 = spM (spG x6) x26 := by
  funext y
  unfold out66
  canon_tiles x h
  all_goals
    open_payloads
    pointwise [w64, k0_pay33, k0_pay34, k0_pay35, k0_pay36]
    have e : x = y := by blk_ext
    subst e
    refine step1_congr ?_ ?_
    · rw [spG, Fin.sum_univ_eight]
      repeat' refine congr_arg₂ (· + ·) ?_ ?_
      all_goals blk_ext
    · blk_ext

theorem at67 (x7 : FVec Ideal S8x1x1024 .f32) (x17 : FVec Ideal S2x1024 .f32) (x27 : FVec Ideal S2x1024 .f32) : out67 (F := Ideal) x7 x17 x27 = spM (spL x7 x17) x27 := by
  funext y
  unfold out67
  canon_tiles x h
  all_goals
    open_payloads
    pointwise [w65, k0_pay38]
    have e : x = y := by blk_ext
    subst e
    refine step1_congr ?_ ?_
    · unfold spL bound
      rw [Fin.sum_univ_eight]
      exact congrArg (· * _) (sel (x 0) _ _)
    · blk_ext

theorem at68 (x8 : FVec Ideal S8x1x512 .f32) (x28 : FVec Ideal S1x512 .f32) : out68 (F := Ideal) x8 x28 = spM (spG x8) x28 := by
  funext y
  unfold out68
  canon_tiles x h
  all_goals
    open_payloads
    pointwise [w66, k0_pay45]
    have e : x = y := by blk_ext
    subst e
    refine step1_congr ?_ ?_
    · rw [spG, Fin.sum_univ_eight]
      repeat' refine congr_arg₂ (· + ·) ?_ ?_
      all_goals blk_ext
    · blk_ext

theorem at69 (x9 : FVec Ideal S8x512x128 .f32) (x29 : FVec Ideal S512x128 .f32) : out69 (F := Ideal) x9 x29 = spM (spG x9) x29 := by
  funext y
  unfold out69
  canon_tiles x h
  all_goals
    open_payloads
    pointwise [w67, k0_pay50]
    have e : x = y := by blk_ext
    subst e
    refine step1_congr ?_ ?_
    · rw [spG, Fin.sum_univ_eight]
      repeat' refine congr_arg₂ (· + ·) ?_ ?_
      all_goals blk_ext
    · blk_ext

theorem at70 (x0 : FVec Ideal S8x1x1024 .f32) (x30 : FVec Ideal S1x1024 .f32) : out70 (F := Ideal) x0 x30 = spV (spG x0) x30 := by
  funext y
  unfold out70
  canon_tiles x h
  all_goals
    open_payloads
    pointwise [w54, w55, k0_pay1, k0_pay2]
    have e : x = y := by blk_ext
    subst e
    refine step2_congr ?_ ?_
    · rw [spG, Fin.sum_univ_eight]
      repeat' refine congr_arg₂ (· + ·) ?_ ?_
      all_goals blk_ext
    · blk_ext

theorem at71 (x1 : FVec Ideal S8x1x1024 .f32) (x31 : FVec Ideal S1x1024 .f32) : out71 (F := Ideal) x1 x31 = spV (spG x1) x31 := by
  funext y
  unfold out71
  canon_tiles x h
  all_goals
    open_payloads
    pointwise [w56, w57, k0_pay6, k0_pay7, k0_pay8, k0_pay9, k0_pay10]
    have e : x = y := by blk_ext
    subst e
    refine step2_congr ?_ ?_
    · rw [spG, Fin.sum_univ_eight]
      repeat' refine congr_arg₂ (· + ·) ?_ ?_
      all_goals blk_ext
    · blk_ext

theorem at72 (x2 : FVec Ideal S8x1x1024 .f32) (x32 : FVec Ideal S1x1024 .f32) : out72 (F := Ideal) x2 x32 = spV (spG x2) x32 := by
  funext y
  unfold out72
  canon_tiles x h
  all_goals
    open_payloads
    pointwise [w58, k0_pay12, k0_pay13, k0_pay14, k0_pay15]
    have e : x = y := by blk_ext
    subst e
    refine step2_congr ?_ ?_
    · rw [spG, Fin.sum_univ_eight]
      repeat' refine congr_arg₂ (· + ·) ?_ ?_
      all_goals blk_ext
    · blk_ext

theorem at73 (x3 : FVec Ideal S8x1x1024 .f32) (x33 : FVec Ideal S1x1024 .f32) : out73 (F := Ideal) x3 x33 = spV (spG x3) x33 := by
  funext y
  unfold out73
  canon_tiles x h
  all_goals
    open_payloads
    pointwise [w59, k0_pay17, k0_pay18, k0_pay19, k0_pay20]
    have e : x = y := by blk_ext
    subst e
    refine step2_congr ?_ ?_
    · rw [spG, Fin.sum_univ_eight]
      repeat' refine congr_arg₂ (· + ·) ?_ ?_
      all_goals blk_ext
    · blk_ext

theorem at74 (x4 : FVec Ideal S8x1x1024 .f32) (x34 : FVec Ideal S1x1024 .f32) : out74 (F := Ideal) x4 x34 = spV (spG x4) x34 := by
  funext y
  unfold out74
  canon_tiles x h
  all_goals
    open_payloads
    pointwise [w60, w61, k0_pay22, k0_pay23]
    have e : x = y := by blk_ext
    subst e
    refine step2_congr ?_ ?_
    · rw [spG, Fin.sum_univ_eight]
      repeat' refine congr_arg₂ (· + ·) ?_ ?_
      all_goals blk_ext
    · blk_ext

theorem at75 (x5 : FVec Ideal S8x1x1024 .f32) (x35 : FVec Ideal S1x1024 .f32) : out75 (F := Ideal) x5 x35 = spV (spG x5) x35 := by
  funext y
  unfold out75
  canon_tiles x h
  all_goals
    open_payloads
    pointwise [w62, w63, k0_pay27, k0_pay28, k0_pay29, k0_pay30, k0_pay31]
    have e : x = y := by blk_ext
    subst e
    refine step2_congr ?_ ?_
    · rw [spG, Fin.sum_univ_eight]
      repeat' refine congr_arg₂ (· + ·) ?_ ?_
      all_goals blk_ext
    · blk_ext

theorem at76 (x6 : FVec Ideal S8x1x1024 .f32) (x36 : FVec Ideal S1x1024 .f32) : out76 (F := Ideal) x6 x36 = spV (spG x6) x36 := by
  funext y
  unfold out76
  canon_tiles x h
  all_goals
    open_payloads
    pointwise [w64, k0_pay33, k0_pay34, k0_pay35, k0_pay36]
    have e : x = y := by blk_ext
    subst e
    refine step2_congr ?_ ?_
    · rw [spG, Fin.sum_univ_eight]
      repeat' refine congr_arg₂ (· + ·) ?_ ?_
      all_goals blk_ext
    · blk_ext

theorem at77 (x7 : FVec Ideal S8x1x1024 .f32) (x17 : FVec Ideal S2x1024 .f32) (x37 : FVec Ideal S2x1024 .f32) : out77 (F := Ideal) x7 x17 x37 = spV (spL x7 x17) x37 := by
  funext y
  unfold out77
  canon_tiles x h
  all_goals
    open_payloads
    pointwise [w65, k0_pay38]
    have e : x = y := by blk_ext
    subst e
    refine step2_congr ?_ ?_
    · unfold spL bound
      rw [Fin.sum_univ_eight]
      exact congrArg (· * _) (sel (x 0) _ _)
    · blk_ext

theorem at78 (x8 : FVec Ideal S8x1x512 .f32) (x38 : FVec Ideal S1x512 .f32) : out78 (F := Ideal) x8 x38 = spV (spG x8) x38 := by
  funext y
  unfold out78
  canon_tiles x h
  all_goals
    open_payloads
    pointwise [w66, k0_pay45]
    have e : x = y := by blk_ext
    subst e
    refine step2_congr ?_ ?_
    · rw [spG, Fin.sum_univ_eight]
      repeat' refine congr_arg₂ (· + ·) ?_ ?_
      all_goals blk_ext
    · blk_ext

theorem at79 (x9 : FVec Ideal S8x512x128 .f32) (x39 : FVec Ideal S512x128 .f32) : out79 (F := Ideal) x9 x39 = spV (spG x9) x39 := by
  funext y
  unfold out79
  canon_tiles x h
  all_goals
    open_payloads
    pointwise [w67, k0_pay50]
    have e : x = y := by blk_ext
    subst e
    refine step2_congr ?_ ?_
    · rw [spG, Fin.sum_univ_eight]
      repeat' refine congr_arg₂ (· + ·) ?_ ?_
      all_goals blk_ext
    · blk_ext

end Cert.AdamSmallIdeal.Val

end
-- ==== Proof.SmallFinal.lean ====
/-
  What the outputs of the optimiser's call on the small parameters end with.
-/
module

public import proofs.«01_k».proof.Proof.SmallRunIdeal
public import proofs.«01_k».proof.Proof.SmallStep
public import Idealize.ShloMosaic.Lib.Pipeline.ValueKit
public import Idealize.ShloMosaic.Lib.Pipeline.ReadBack

@[expose] public section

set_option maxRecDepth 16384
set_option maxHeartbeats 4000000

noncomputable section

open Idealize.ShloMosaic Idealize.ShloMosaic.TcCoe Idealize.SL.Sem
open Idealize.ShloMosaic.Pipeline (Dat)

namespace Cert.AdamSmallIdeal.Val

open Cert.AdamSmallIdeal Cert.AdamSmallIdeal.Gen Cert.AdamSmallIdeal.Small Cert.Adam

variable (m : (ℓ : Loc nD τ sig) → Buf (Elt Ideal) ℓ)

theorem x0 : ∀ t : Fin cfg0.N, win0_0.index t = ![0, 0, 0] := (by decide +kernel : ∀ t : Fin grid0.N, _)
theorem x1 : ∀ t : Fin cfg0.N, win0_1.index t = ![0, 0, 0] := (by decide +kernel : ∀ t : Fin grid0.N, _)
theorem x2 : ∀ t : Fin cfg0.N, win0_2.index t = ![0, 0, 0] := (by decide +kernel : ∀ t : Fin grid0.N, _)
theorem x3 : ∀ t : Fin cfg0.N, win0_3.index t = ![0, 0, 0] := (by decide +kernel : ∀ t : Fin grid0.N, _)
theorem x4 : ∀ t : Fin cfg0.N, win0_4.index t = ![0, 0, 0] := (by decide +kernel : ∀ t : Fin grid0.N, _)
theorem x5 : ∀ t : Fin cfg0.N, win0_5.index t = ![0, 0, 0] := (by decide +kernel : ∀ t : Fin grid0.N, _)
theorem x6 : ∀ t : Fin cfg0.N, win0_6.index t = ![0, 0, 0] := (by decide +kernel : ∀ t : Fin grid0.N, _)
theorem x7 : ∀ t : Fin cfg0.N, win0_7.index t = ![0, 0, 0] := (by decide +kernel : ∀ t : Fin grid0.N, _)
theorem x8 : ∀ t : Fin cfg0.N, win0_8.index t = ![0, 0, 0] := (by decide +kernel : ∀ t : Fin grid0.N, _)
theorem x9 : ∀ t : Fin cfg0.N, win0_9.index t = ![0, 0, 0] := (by decide +kernel : ∀ t : Fin grid0.N, _)
theorem x10 : ∀ t : Fin cfg0.N, win0_10.index t = ![0, 0] := (by decide +kernel : ∀ t : Fin grid0.N, _)
theorem x11 : ∀ t : Fin cfg0.N, win0_11.index t = ![0, 0] := (by decide +kernel : ∀ t : Fin grid0.N, _)
theorem x12 : ∀ t : Fin cfg0.N, win0_12.index t = ![0, 0] := (by decide +kernel : ∀ t : Fin grid0.N, _)
theorem x13 : ∀ t : Fin cfg0.N, win0_13.index t = ![0, 0] := (by decide +kernel : ∀ t : Fin grid0.N, _)
theorem x14 : ∀ t : Fin cfg0.N, win0_14.index t = ![0, 0] := (by decide +kernel : ∀ t : Fin grid0.N, _)
theorem x15 : ∀ t : Fin cfg0.N, win0_15.index t = ![0, 0] := (by decide +kernel : ∀ t : Fin grid0.N, _)
theorem x16 : ∀ t : Fin cfg0.N, win0_16.index t = ![0, 0] := (by decide +kernel : ∀ t : Fin grid0.N, _)
theorem x17 : ∀ t : Fin cfg0.N, win0_17.index t = ![0, 0] := (by decide +kernel : ∀ t : Fin grid0.N, _)
theorem x18 : ∀ t : Fin cfg0.N, win0_18.index t = ![0, 0] := (by decide +kernel : ∀ t : Fin grid0.N, _)
theorem x19 : ∀ t : Fin cfg0.N, win0_19.index t = ![0, 0] := (by decide +kernel : ∀ t : Fin grid0.N, _)
theorem x20 : ∀ t : Fin cfg0.N, win0_20.index t = ![0, 0] := (by decide +kernel : ∀ t : Fin grid0.N, _)
theorem x21 : ∀ t : Fin cfg0.N, win0_21.index t = ![0, 0] := (by decide +kernel : ∀ t : Fin grid0.N, _)
theorem x22 : ∀ t : Fin cfg0.N, win0_22.index t = ![0, 0] := (by decide +kernel : ∀ t : Fin grid0.N, _)
theorem x23 : ∀ t : Fin cfg0.N, win0_23.index t = ![0, 0] := (by decide +kernel : ∀ t : Fin grid0.N, _)
theorem x24 : ∀ t : Fin cfg0.N, win0_24.index t = ![0, 0] := (by decide +kernel : ∀ t : Fin grid0.N, _)
theorem x25 : ∀ t : Fin cfg0.N, win0_25.index t = ![0, 0] := (by decide +kernel : ∀ t : Fin grid0.N, _)
theorem x26 : ∀ t : Fin cfg0.N, win0_26.index t = ![0, 0] := (by decide +kernel : ∀ t : Fin grid0.N, _)
theorem x27 : ∀ t : Fin cfg0.N, win0_27.index t = ![0, 0] := (by decide +kernel : ∀ t : Fin grid0.N, _)
theorem x28 : ∀ t : Fin cfg0.N, win0_28.index t = ![0, 0] := (by decide +kernel : ∀ t : Fin grid0.N, _)
theorem x29 : ∀ t : Fin cfg0.N, win0_29.index t = ![0, 0] := (by decide +kernel : ∀ t : Fin grid0.N, _)
theorem x30 : ∀ t : Fin cfg0.N, win0_30.index t = ![0, 0] := (by decide +kernel : ∀ t : Fin grid0.N, _)
theorem x31 : ∀ t : Fin cfg0.N, win0_31.index t = ![0, 0] := (by decide +kernel : ∀ t : Fin grid0.N, _)
theorem x32 : ∀ t : Fin cfg0.N, win0_32.index t = ![0, 0] := (by decide +kernel : ∀ t : Fin grid0.N, _)
theorem x33 : ∀ t : Fin cfg0.N, win0_33.index t = ![0, 0] := (by decide +kernel : ∀ t : Fin grid0.N, _)
theorem x34 : ∀ t : Fin cfg0.N, win0_34.index t = ![0, 0] := (by decide +kernel : ∀ t : Fin grid0.N, _)
theorem x35 : ∀ t : Fin cfg0.N, win0_35.index t = ![0, 0] := (by decide +kernel : ∀ t : Fin grid0.N, _)
theorem x36 : ∀ t : Fin cfg0.N, win0_36.index t = ![0, 0] := (by decide +kernel : ∀ t : Fin grid0.N, _)
theorem x37 : ∀ t : Fin cfg0.N, win0_37.index t = ![0, 0] := (by decide +kernel : ∀ t : Fin grid0.N, _)
theorem x38 : ∀ t : Fin cfg0.N, win0_38.index t = ![0, 0] := (by decide +kernel : ∀ t : Fin grid0.N, _)
theorem x39 : ∀ t : Fin cfg0.N, win0_39.index t = ![0, 0] := (by decide +kernel : ∀ t : Fin grid0.N, _)
theorem x40 : ∀ t : Fin cfg0.N, win0_40.index t = ![0, 0] := (by decide +kernel : ∀ t : Fin grid0.N, _)
theorem x41 : ∀ t : Fin cfg0.N, win0_41.index t = ![0, 0] := (by decide +kernel : ∀ t : Fin grid0.N, _)
theorem x42 : ∀ t : Fin cfg0.N, win0_42.index t = ![0, 0] := (by decide +kernel : ∀ t : Fin grid0.N, _)
theorem x43 : ∀ t : Fin cfg0.N, win0_43.index t = ![0, 0] := (by decide +kernel : ∀ t : Fin grid0.N, _)
theorem x44 : ∀ t : Fin cfg0.N, win0_44.index t = ![0, 0] := (by decide +kernel : ∀ t : Fin grid0.N, _)
theorem x45 : ∀ t : Fin cfg0.N, win0_45.index t = ![0, 0] := (by decide +kernel : ∀ t : Fin grid0.N, _)
theorem x46 : ∀ t : Fin cfg0.N, win0_46.index t = ![0, 0] := (by decide +kernel : ∀ t : Fin grid0.N, _)
theorem x47 : ∀ t : Fin cfg0.N, win0_47.index t = ![0, 0] := (by decide +kernel : ∀ t : Fin grid0.N, _)
theorem x48 : ∀ t : Fin cfg0.N, win0_48.index t = ![0, 0] := (by decide +kernel : ∀ t : Fin grid0.N, _)
theorem x49 : ∀ t : Fin cfg0.N, win0_49.index t = ![0, 0] := (by decide +kernel : ∀ t : Fin grid0.N, _)
theorem x50 : ∀ t : Fin cfg0.N, win0_50.index t = ![0, 0] := (by decide +kernel : ∀ t : Fin grid0.N, _)
theorem x51 : ∀ t : Fin cfg0.N, win0_51.index t = ![0, 0] := (by decide +kernel : ∀ t : Fin grid0.N, _)
theorem x52 : ∀ t : Fin cfg0.N, win0_52.index t = ![0, 0] := (by decide +kernel : ∀ t : Fin grid0.N, _)
theorem x53 : ∀ t : Fin cfg0.N, win0_53.index t = ![0, 0] := (by decide +kernel : ∀ t : Fin grid0.N, _)
theorem x54 : ∀ t : Fin cfg0.N, win0_54.index t = ![0, 0] := (by decide +kernel : ∀ t : Fin grid0.N, _)
theorem x55 : ∀ t : Fin cfg0.N, win0_55.index t = ![0, 0] := (by decide +kernel : ∀ t : Fin grid0.N, _)
theorem x56 : ∀ t : Fin cfg0.N, win0_56.index t = ![0, 0] := (by decide +kernel : ∀ t : Fin grid0.N, _)
theorem x57 : ∀ t : Fin cfg0.N, win0_57.index t = ![0, 0] := (by decide +kernel : ∀ t : Fin grid0.N, _)
theorem x58 : ∀ t : Fin cfg0.N, win0_58.index t = ![0, 0] := (by decide +kernel : ∀ t : Fin grid0.N, _)
theorem x59 : ∀ t : Fin cfg0.N, win0_59.index t = ![0, 0] := (by decide +kernel : ∀ t : Fin grid0.N, _)
theorem x60 : ∀ t : Fin cfg0.N, win0_60.index t = ![0, 0] := (by decide +kernel : ∀ t : Fin grid0.N, _)
theorem x61 : ∀ t : Fin cfg0.N, win0_61.index t = ![0, 0] := (by decide +kernel : ∀ t : Fin grid0.N, _)
theorem x62 : ∀ t : Fin cfg0.N, win0_62.index t = ![0, 0] := (by decide +kernel : ∀ t : Fin grid0.N, _)
theorem x63 : ∀ t : Fin cfg0.N, win0_63.index t = ![0, 0] := (by decide +kernel : ∀ t : Fin grid0.N, _)
theorem x64 : ∀ t : Fin cfg0.N, win0_64.index t = ![0, 0] := (by decide +kernel : ∀ t : Fin grid0.N, _)
theorem x65 : ∀ t : Fin cfg0.N, win0_65.index t = ![0, 0] := (by decide +kernel : ∀ t : Fin grid0.N, _)
theorem x66 : ∀ t : Fin cfg0.N, win0_66.index t = ![0, 0] := (by decide +kernel : ∀ t : Fin grid0.N, _)
theorem x67 : ∀ t : Fin cfg0.N, win0_67.index t = ![0, 0] := (by decide +kernel : ∀ t : Fin grid0.N, _)
theorem x68 : ∀ t : Fin cfg0.N, win0_68.index t = ![0, 0] := (by decide +kernel : ∀ t : Fin grid0.N, _)
theorem x69 : ∀ t : Fin cfg0.N, win0_69.index t = ![0, 0] := (by decide +kernel : ∀ t : Fin grid0.N, _)
theorem x70 : ∀ t : Fin cfg0.N, win0_70.index t = ![0, 0] := (by decide +kernel : ∀ t : Fin grid0.N, _)
theorem x71 : ∀ t : Fin cfg0.N, win0_71.index t = ![0, 0] := (by decide +kernel : ∀ t : Fin grid0.N, _)
theorem x72 : ∀ t : Fin cfg0.N, win0_72.index t = ![0, 0] := (by decide +kernel : ∀ t : Fin grid0.N, _)
theorem x73 : ∀ t : Fin cfg0.N, win0_73.index t = ![0, 0] := (by decide +kernel : ∀ t : Fin grid0.N, _)
theorem x74 : ∀ t : Fin cfg0.N, win0_74.index t = ![0, 0] := (by decide +kernel : ∀ t : Fin grid0.N, _)
theorem x75 : ∀ t : Fin cfg0.N, win0_75.index t = ![0, 0] := (by decide +kernel : ∀ t : Fin grid0.N, _)
theorem x76 : ∀ t : Fin cfg0.N, win0_76.index t = ![0, 0] := (by decide +kernel : ∀ t : Fin grid0.N, _)
theorem x77 : ∀ t : Fin cfg0.N, win0_77.index t = ![0, 0] := (by decide +kernel : ∀ t : Fin grid0.N, _)
theorem x78 : ∀ t : Fin cfg0.N, win0_78.index t = ![0, 0] := (by decide +kernel : ∀ t : Fin grid0.N, _)
theorem x79 : ∀ t : Fin cfg0.N, win0_79.index t = ![0, 0] := (by decide +kernel : ∀ t : Fin grid0.N, _)
theorem i0 (c : Dev nD) (t : Fin cfg0.N) : iblk m c 0 t = m ((c : Thread nD τ).loc main_arg0) := by
  funext (y : S8x1x1024.Idx)
  blk_point [iblk, V, x0 t]
theorem i1 (c : Dev nD) (t : Fin cfg0.N) : iblk m c 1 t = m ((c : Thread nD τ).loc main_arg1) := by
  funext (y : S8x1x1024.Idx)
  blk_point [iblk, V, x1 t]
theorem i2 (c : Dev nD) (t : Fin cfg0.N) : iblk m c 2 t = m ((c : Thread nD τ).loc main_arg2) := by
  funext (y : S8x1x1024.Idx)
  blk_point [iblk, V, x2 t]
theorem i3 (c : Dev nD) (t : Fin cfg0.N) : iblk m c 3 t = m ((c : Thread nD τ).loc main_arg3) := by
  funext (y : S8x1x1024.Idx)
  blk_point [iblk, V, x3 t]
theorem i4 (c : Dev nD) (t : Fin cfg0.N) : iblk m c 4 t = m ((c : Thread nD τ).loc main_arg4) := by
  funext (y : S8x1x1024.Idx)
  blk_point [iblk, V, x4 t]
theorem i5 (c : Dev nD) (t : Fin cfg0.N) : iblk m c 5 t = m ((c : Thread nD τ).loc main_arg5) := by
  funext (y : S8x1x1024.Idx)
  blk_point [iblk, V, x5 t]
theorem i6 (c : Dev nD) (t : Fin cfg0.N) : iblk m c 6 t = m ((c : Thread nD τ).loc main_arg6) := by
  funext (y : S8x1x1024.Idx)
  blk_point [iblk, V, x6 t]
theorem i7 (c : Dev nD) (t : Fin cfg0.N) : iblk m c 7 t = m ((c : Thread nD τ).loc main_arg7) := by
  funext (y : S8x1x1024.Idx)
  blk_point [iblk, V, x7 t]
theorem i8 (c : Dev nD) (t : Fin cfg0.N) : iblk m c 8 t = m ((c : Thread nD τ).loc main_arg8) := by
  funext (y : S8x1x512.Idx)
  blk_point [iblk, V, x8 t]
theorem i9 (c : Dev nD) (t : Fin cfg0.N) : iblk m c 9 t = m ((c : Thread nD τ).loc main_arg9) := by
  funext (y : S8x512x128.Idx)
  blk_point [iblk, V, x9 t]
theorem i10 (c : Dev nD) (t : Fin cfg0.N) : iblk m c 10 t = m ((c : Thread nD τ).loc main_arg10) := by
  funext (y : S1x1024.Idx)
  blk_point [iblk, V, x10 t]
theorem i11 (c : Dev nD) (t : Fin cfg0.N) : iblk m c 11 t = m ((c : Thread nD τ).loc main_arg11) := by
  funext (y : S1x1024.Idx)
  blk_point [iblk, V, x11 t]
theorem i12 (c : Dev nD) (t : Fin cfg0.N) : iblk m c 12 t = m ((c : Thread nD τ).loc main_arg12) := by
  funext (y : S1x1024.Idx)
  blk_point [iblk, V, x12 t]
theorem i13 (c : Dev nD) (t : Fin cfg0.N) : iblk m c 13 t = m ((c : Thread nD τ).loc main_arg13) := by
  funext (y : S1x1024.Idx)
  blk_point [iblk, V, x13 t]
theorem i14 (c : Dev nD) (t : Fin cfg0.N) : iblk m c 14 t = m ((c : Thread nD τ).loc main_arg14) := by
  funext (y : S1x1024.Idx)
  blk_point [iblk, V, x14 t]
theorem i15 (c : Dev nD) (t : Fin cfg0.N) : iblk m c 15 t = m ((c : Thread nD τ).loc main_arg15) := by
  funext (y : S1x1024.Idx)
  blk_point [iblk, V, x15 t]
theorem i16 (c : Dev nD) (t : Fin cfg0.N) : iblk m c 16 t = m ((c : Thread nD τ).loc main_arg16) := by
  funext (y : S1x1024.Idx)
  blk_point [iblk, V, x16 t]
theorem i17 (c : Dev nD) (t : Fin cfg0.N) : iblk m c 17 t = m ((c : Thread nD τ).loc main_arg17) := by
  funext (y : S2x1024.Idx)
  blk_point [iblk, V, x17 t]
theorem i18 (c : Dev nD) (t : Fin cfg0.N) : iblk m c 18 t = m ((c : Thread nD τ).loc main_arg18) := by
  funext (y : S1x512.Idx)
  blk_point [iblk, V, x18 t]
theorem i19 (c : Dev nD) (t : Fin cfg0.N) : iblk m c 19 t = m ((c : Thread nD τ).loc main_arg19) := by
  funext (y : S512x128.Idx)
  blk_point [iblk, V, x19 t]
theorem i20 (c : Dev nD) (t : Fin cfg0.N) : iblk m c 20 t = m ((c : Thread nD τ).loc main_arg20) := by
  funext (y : S1x1024.Idx)
  blk_point [iblk, V, x20 t]
theorem i21 (c : Dev nD) (t : Fin cfg0.N) : iblk m c 21 t = m ((c : Thread nD τ).loc main_arg21) := by
  funext (y : S1x1024.Idx)
  blk_point [iblk, V, x21 t]
theorem i22 (c : Dev nD) (t : Fin cfg0.N) : iblk m c 22 t = m ((c : Thread nD τ).loc main_arg22) := by
  funext (y : S1x1024.Idx)
  blk_point [iblk, V, x22 t]
theorem i23 (c : Dev nD) (t : Fin cfg0.N) : iblk m c 23 t = m ((c : Thread nD τ).loc main_arg23) := by
  funext (y : S1x1024.Idx)
  blk_point [iblk, V, x23 t]
theorem i24 (c : Dev nD) (t : Fin cfg0.N) : iblk m c 24 t = m ((c : Thread nD τ).loc main_arg24) := by
  funext (y : S1x1024.Idx)
  blk_point [iblk, V, x24 t]
theorem i25 (c : Dev nD) (t : Fin cfg0.N) : iblk m c 25 t = m ((c : Thread nD τ).loc main_arg25) := by
  funext (y : S1x1024.Idx)
  blk_point [iblk, V, x25 t]
theorem i26 (c : Dev nD) (t : Fin cfg0.N) : iblk m c 26 t = m ((c : Thread nD τ).loc main_arg26) := by
  funext (y : S1x1024.Idx)
  blk_point [iblk, V, x26 t]
theorem i27 (c : Dev nD) (t : Fin cfg0.N) : iblk m c 27 t = m ((c : Thread nD τ).loc main_arg27) := by
  funext (y : S2x1024.Idx)
  blk_point [iblk, V, x27 t]
theorem i28 (c : Dev nD) (t : Fin cfg0.N) : iblk m c 28 t = m ((c : Thread nD τ).loc main_arg28) := by
  funext (y : S1x512.Idx)
  blk_point [iblk, V, x28 t]
theorem i29 (c : Dev nD) (t : Fin cfg0.N) : iblk m c 29 t = m ((c : Thread nD τ).loc main_arg29) := by
  funext (y : S512x128.Idx)
  blk_point [iblk, V, x29 t]
theorem i30 (c : Dev nD) (t : Fin cfg0.N) : iblk m c 30 t = m ((c : Thread nD τ).loc main_arg30) := by
  funext (y : S1x1024.Idx)
  blk_point [iblk, V, x30 t]
theorem i31 (c : Dev nD) (t : Fin cfg0.N) : iblk m c 31 t = m ((c : Thread nD τ).loc main_arg31) := by
  funext (y : S1x1024.Idx)
  blk_point [iblk, V, x31 t]
theorem i32 (c : Dev nD) (t : Fin cfg0.N) : iblk m c 32 t = m ((c : Thread nD τ).loc main_arg32) := by
  funext (y : S1x1024.Idx)
  blk_point [iblk, V, x32 t]
theorem i33 (c : Dev nD) (t : Fin cfg0.N) : iblk m c 33 t = m ((c : Thread nD τ).loc main_arg33) := by
  funext (y : S1x1024.Idx)
  blk_point [iblk, V, x33 t]
theorem i34 (c : Dev nD) (t : Fin cfg0.N) : iblk m c 34 t = m ((c : Thread nD τ).loc main_arg34) := by
  funext (y : S1x1024.Idx)
  blk_point [iblk, V, x34 t]
theorem i35 (c : Dev nD) (t : Fin cfg0.N) : iblk m c 35 t = m ((c : Thread nD τ).loc main_arg35) := by
  funext (y : S1x1024.Idx)
  blk_point [iblk, V, x35 t]
theorem i36 (c : Dev nD) (t : Fin cfg0.N) : iblk m c 36 t = m ((c : Thread nD τ).loc main_arg36) := by
  funext (y : S1x1024.Idx)
  blk_point [iblk, V, x36 t]
theorem i37 (c : Dev nD) (t : Fin cfg0.N) : iblk m c 37 t = m ((c : Thread nD τ).loc main_arg37) := by
  funext (y : S2x1024.Idx)
  blk_point [iblk, V, x37 t]
theorem i38 (c : Dev nD) (t : Fin cfg0.N) : iblk m c 38 t = m ((c : Thread nD τ).loc main_arg38) := by
  funext (y : S1x512.Idx)
  blk_point [iblk, V, x38 t]
theorem i39 (c : Dev nD) (t : Fin cfg0.N) : iblk m c 39 t = m ((c : Thread nD τ).loc main_arg39) := by
  funext (y : S512x128.Idx)
  blk_point [iblk, V, x39 t]
theorem fin40 (c : Dev nD) : (dats m 0 c).arrAt 40 (cfgs 0).N = spG (m ((c : Thread nD τ).loc main_arg0)) := by
  refine (dats m 0 c).arrAt_eq_of_covers 40 _ (by decide +kernel) fun t hf y => ?_
  blk_simp
  rw [show (dats m 0 c).after 40 t = out40 (iblk m c 0 t) from by dsimp only [dats], i0 m c t, at40]
  exact congrArg (spG (m ((c : Thread nD τ).loc main_arg0))) (show (y : S1x1024.Idx) = _ from by blk_ext [x40 t])
theorem fin41 (c : Dev nD) : (dats m 0 c).arrAt 41 (cfgs 0).N = spG (m ((c : Thread nD τ).loc main_arg1)) := by
  refine (dats m 0 c).arrAt_eq_of_covers 41 _ (by decide +kernel) fun t hf y => ?_
  blk_simp
  rw [show (dats m 0 c).after 41 t = out41 (iblk m c 1 t) from by dsimp only [dats], i1 m c t, at41]
  exact congrArg (spG (m ((c : Thread nD τ).loc main_arg1))) (show (y : S1x1024.Idx) = _ from by blk_ext [x41 t])
theorem fin42 (c : Dev nD) : (dats m 0 c).arrAt 42 (cfgs 0).N = spG (m ((c : Thread nD τ).loc main_arg2)) := by
  refine (dats m 0 c).arrAt_eq_of_covers 42 _ (by decide +kernel) fun t hf y => ?_
  blk_simp
  rw [show (dats m 0 c).after 42 t = out42 (iblk m c 2 t) from by dsimp only [dats], i2 m c t, at42]
  exact congrArg (spG (m ((c : Thread nD τ).loc main_arg2))) (show (y : S1x1024.Idx) = _ from by blk_ext [x42 t])
theorem fin43 (c : Dev nD) : (dats m 0 c).arrAt 43 (cfgs 0).N = spG (m ((c : Thread nD τ).loc main_arg3)) := by
  refine (dats m 0 c).arrAt_eq_of_covers 43 _ (by decide +kernel) fun t hf y => ?_
  blk_simp
  rw [show (dats m 0 c).after 43 t = out43 (iblk m c 3 t) from by dsimp only [dats], i3 m c t, at43]
  exact congrArg (spG (m ((c : Thread nD τ).loc main_arg3))) (show (y : S1x1024.Idx) = _ from by blk_ext [x43 t])
theorem fin44 (c : Dev nD) : (dats m 0 c).arrAt 44 (cfgs 0).N = spG (m ((c : Thread nD τ).loc main_arg4)) := by
  refine (dats m 0 c).arrAt_eq_of_covers 44 _ (by decide +kernel) fun t hf y => ?_
  blk_simp
  rw [show (dats m 0 c).after 44 t = out44 (iblk m c 4 t) from by dsimp only [dats], i4 m c t, at44]
  exact congrArg (spG (m ((c : Thread nD τ).loc main_arg4))) (show (y : S1x1024.Idx) = _ from by blk_ext [x44 t])
theorem fin45 (c : Dev nD) : (dats m 0 c).arrAt 45 (cfgs 0).N = spG (m ((c : Thread nD τ).loc main_arg5)) := by
  refine (dats m 0 c).arrAt_eq_of_covers 45 _ (by decide +kernel) fun t hf y => ?_
  blk_simp
  rw [show (dats m 0 c).after 45 t = out45 (iblk m c 5 t) from by dsimp only [dats], i5 m c t, at45]
  exact congrArg (spG (m ((c : Thread nD τ).loc main_arg5))) (show (y : S1x1024.Idx) = _ from by blk_ext [x45 t])
theorem fin46 (c : Dev nD) : (dats m 0 c).arrAt 46 (cfgs 0).N = spG (m ((c : Thread nD τ).loc main_arg6)) := by
  refine (dats m 0 c).arrAt_eq_of_covers 46 _ (by decide +kernel) fun t hf y => ?_
  blk_simp
  rw [show (dats m 0 c).after 46 t = out46 (iblk m c 6 t) from by dsimp only [dats], i6 m c t, at46]
  exact congrArg (spG (m ((c : Thread nD τ).loc main_arg6))) (show (y : S1x1024.Idx) = _ from by blk_ext [x46 t])
theorem fin47 (c : Dev nD) : (dats m 0 c).arrAt 47 (cfgs 0).N = spL (m ((c : Thread nD τ).loc main_arg7)) (m ((c : Thread nD τ).loc main_arg17)) := by
  refine (dats m 0 c).arrAt_eq_of_covers 47 _ (by decide +kernel) fun t hf y => ?_
  blk_simp
  rw [show (dats m 0 c).after 47 t = out47 (iblk m c 7 t) (iblk m c 17 t) from by dsimp only [dats], i7 m c t, i17 m c t, at47]
  exact congrArg (spL (m ((c : Thread nD τ).loc main_arg7)) (m ((c : Thread nD τ).loc main_arg17))) (show (y : S2x1024.Idx) = _ from by blk_ext [x47 t])
theorem fin48 (c : Dev nD) : (dats m 0 c).arrAt 48 (cfgs 0).N = spG (m ((c : Thread nD τ).loc main_arg8)) := by
  refine (dats m 0 c).arrAt_eq_of_covers 48 _ (by decide +kernel) fun t hf y => ?_
  blk_simp
  rw [show (dats m 0 c).after 48 t = out48 (iblk m c 8 t) from by dsimp only [dats], i8 m c t, at48]
  exact congrArg (spG (m ((c : Thread nD τ).loc main_arg8))) (show (y : S1x512.Idx) = _ from by blk_ext [x48 t])
theorem fin49 (c : Dev nD) : (dats m 0 c).arrAt 49 (cfgs 0).N = spG (m ((c : Thread nD τ).loc main_arg9)) := by
  refine (dats m 0 c).arrAt_eq_of_covers 49 _ (by decide +kernel) fun t hf y => ?_
  blk_simp
  rw [show (dats m 0 c).after 49 t = out49 (iblk m c 9 t) from by dsimp only [dats], i9 m c t, at49]
  exact congrArg (spG (m ((c : Thread nD τ).loc main_arg9))) (show (y : S512x128.Idx) = _ from by blk_ext [x49 t])
theorem fin50 (c : Dev nD) : (dats m 0 c).arrAt 50 (cfgs 0).N = spD (m ((c : Thread nD τ).loc main_arg10)) (spG (m ((c : Thread nD τ).loc main_arg0))) (m ((c : Thread nD τ).loc main_arg20)) (m ((c : Thread nD τ).loc main_arg30)) := by
  refine (dats m 0 c).arrAt_eq_of_covers 50 _ (by decide +kernel) fun t hf y => ?_
  blk_simp
  rw [show (dats m 0 c).after 50 t = out50 (iblk m c 0 t) (iblk m c 10 t) (iblk m c 20 t) (iblk m c 30 t) from by dsimp only [dats], i0 m c t, i10 m c t, i20 m c t, i30 m c t, at50]
  exact congrArg (spD (m ((c : Thread nD τ).loc main_arg10)) (spG (m ((c : Thread nD τ).loc main_arg0))) (m ((c : Thread nD τ).loc main_arg20)) (m ((c : Thread nD τ).loc main_arg30))) (show (y : S1x1024.Idx) = _ from by blk_ext [x50 t])
theorem fin51 (c : Dev nD) : (dats m 0 c).arrAt 51 (cfgs 0).N = spD (m ((c : Thread nD τ).loc main_arg11)) (spG (m ((c : Thread nD τ).loc main_arg1))) (m ((c : Thread nD τ).loc main_arg21)) (m ((c : Thread nD τ).loc main_arg31)) := by
  refine (dats m 0 c).arrAt_eq_of_covers 51 _ (by decide +kernel) fun t hf y => ?_
  blk_simp
  rw [show (dats m 0 c).after 51 t = out51 (iblk m c 1 t) (iblk m c 11 t) (iblk m c 21 t) (iblk m c 31 t) from by dsimp only [dats], i1 m c t, i11 m c t, i21 m c t, i31 m c t, at51]
  exact congrArg (spD (m ((c : Thread nD τ).loc main_arg11)) (spG (m ((c : Thread nD τ).loc main_arg1))) (m ((c : Thread nD τ).loc main_arg21)) (m ((c : Thread nD τ).loc main_arg31))) (show (y : S1x1024.Idx) = _ from by blk_ext [x51 t])
theorem fin52 (c : Dev nD) : (dats m 0 c).arrAt 52 (cfgs 0).N = spD (m ((c : Thread nD τ).loc main_arg12)) (spG (m ((c : Thread nD τ).loc main_arg2))) (m ((c : Thread nD τ).loc main_arg22)) (m ((c : Thread nD τ).loc main_arg32)) := by
  refine (dats m 0 c).arrAt_eq_of_covers 52 _ (by decide +kernel) fun t hf y => ?_
  blk_simp
  rw [show (dats m 0 c).after 52 t = out52 (iblk m c 2 t) (iblk m c 12 t) (iblk m c 22 t) (iblk m c 32 t) from by dsimp only [dats], i2 m c t, i12 m c t, i22 m c t, i32 m c t, at52]
  exact congrArg (spD (m ((c : Thread nD τ).loc main_arg12)) (spG (m ((c : Thread nD τ).loc main_arg2))) (m ((c : Thread nD τ).loc main_arg22)) (m ((c : Thread nD τ).loc main_arg32))) (show (y : S1x1024.Idx) = _ from by blk_ext [x52 t])
theorem fin53 (c : Dev nD) : (dats m 0 c).arrAt 53 (cfgs 0).N = spD (m ((c : Thread nD τ).loc main_arg13)) (spG (m ((c : Thread nD τ).loc main_arg3))) (m ((c : Thread nD τ).loc main_arg23)) (m ((c : Thread nD τ).loc main_arg33)) := by
  refine (dats m 0 c).arrAt_eq_of_covers 53 _ (by decide +kernel) fun t hf y => ?_
  blk_simp
  rw [show (dats m 0 c).after 53 t = out53 (iblk m c 3 t) (iblk m c 13 t) (iblk m c 23 t) (iblk m c 33 t) from by dsimp only [dats], i3 m c t, i13 m c t, i23 m c t, i33 m c t, at53]
  exact congrArg (spD (m ((c : Thread nD τ).loc main_arg13)) (spG (m ((c : Thread nD τ).loc main_arg3))) (m ((c : Thread nD τ).loc main_arg23)) (m ((c : Thread nD τ).loc main_arg33))) (show (y : S1x1024.Idx) = _ from by blk_ext [x53 t])
theorem fin54 (c : Dev nD) : (dats m 0 c).arrAt 54 (cfgs 0).N = spD (m ((c : Thread nD τ).loc main_arg14)) (spG (m ((c : Thread nD τ).loc main_arg4))) (m ((c : Thread nD τ).loc main_arg24)) (m ((c : Thread nD τ).loc main_arg34)) := by
  refine (dats m 0 c).arrAt_eq_of_covers 54 _ (by decide +kernel) fun t hf y => ?_
  blk_simp
  rw [show (dats m 0 c).after 54 t = out54 (iblk m c 4 t) (iblk m c 14 t) (iblk m c 24 t) (iblk m c 34 t) from by dsimp only [dats], i4 m c t, i14 m c t, i24 m c t, i34 m c t, at54]
  exact congrArg (spD (m ((c : Thread nD τ).loc main_arg14)) (spG (m ((c : Thread nD τ).loc main_arg4))) (m ((c : Thread nD τ).loc main_arg24)) (m ((c : Thread nD τ).loc main_arg34))) (show (y : S1x1024.Idx) = _ from by blk_ext [x54 t])
theorem fin55 (c : Dev nD) : (dats m 0 c).arrAt 55 (cfgs 0).N = spD (m ((c : Thread nD τ).loc main_arg15)) (spG (m ((c : Thread nD τ).loc main_arg5))) (m ((c : Thread nD τ).loc main_arg25)) (m ((c : Thread nD τ).loc main_arg35)) := by
  refine (dats m 0 c).arrAt_eq_of_covers 55 _ (by decide +kernel) fun t hf y => ?_
  blk_simp
  rw [show (dats m 0 c).after 55 t = out55 (iblk m c 5 t) (iblk m c 15 t) (iblk m c 25 t) (iblk m c 35 t) from by dsimp only [dats], i5 m c t, i15 m c t, i25 m c t, i35 m c t, at55]
  exact congrArg (spD (m ((c : Thread nD τ).loc main_arg15)) (spG (m ((c : Thread nD τ).loc main_arg5))) (m ((c : Thread nD τ).loc main_arg25)) (m ((c : Thread nD τ).loc main_arg35))) (show (y : S1x1024.Idx) = _ from by blk_ext [x55 t])
theorem fin56 (c : Dev nD) : (dats m 0 c).arrAt 56 (cfgs 0).N = spD (m ((c : Thread nD τ).loc main_arg16)) (spG (m ((c : Thread nD τ).loc main_arg6))) (m ((c : Thread nD τ).loc main_arg26)) (m ((c : Thread nD τ).loc main_arg36)) := by
  refine (dats m 0 c).arrAt_eq_of_covers 56 _ (by decide +kernel) fun t hf y => ?_
  blk_simp
  rw [show (dats m 0 c).after 56 t = out56 (iblk m c 6 t) (iblk m c 16 t) (iblk m c 26 t) (iblk m c 36 t) from by dsimp only [dats], i6 m c t, i16 m c t, i26 m c t, i36 m c t, at56]
  exact congrArg (spD (m ((c : Thread nD τ).loc main_arg16)) (spG (m ((c : Thread nD τ).loc main_arg6))) (m ((c : Thread nD τ).loc main_arg26)) (m ((c : Thread nD τ).loc main_arg36))) (show (y : S1x1024.Idx) = _ from by blk_ext [x56 t])
theorem fin57 (c : Dev nD) : (dats m 0 c).arrAt 57 (cfgs 0).N = spD (m ((c : Thread nD τ).loc main_arg17)) (spL (m ((c : Thread nD τ).loc main_arg7)) (m ((c : Thread nD τ).loc main_arg17))) (m ((c : Thread nD τ).loc main_arg27)) (m ((c : Thread nD τ).loc main_arg37)) := by
  refine (dats m 0 c).arrAt_eq_of_covers 57 _ (by decide +kernel) fun t hf y => ?_
  blk_simp
  rw [show (dats m 0 c).after 57 t = out57 (iblk m c 7 t) (iblk m c 17 t) (iblk m c 27 t) (iblk m c 37 t) from by dsimp only [dats], i7 m c t, i17 m c t, i27 m c t, i37 m c t, at57]
  exact congrArg (spD (m ((c : Thread nD τ).loc main_arg17)) (spL (m ((c : Thread nD τ).loc main_arg7)) (m ((c : Thread nD τ).loc main_arg17))) (m ((c : Thread nD τ).loc main_arg27)) (m ((c : Thread nD τ).loc main_arg37))) (show (y : S2x1024.Idx) = _ from by blk_ext [x57 t])
theorem fin58 (c : Dev nD) : (dats m 0 c).arrAt 58 (cfgs 0).N = spD (m ((c : Thread nD τ).loc main_arg18)) (spG (m ((c : Thread nD τ).loc main_arg8))) (m ((c : Thread nD τ).loc main_arg28)) (m ((c : Thread nD τ).loc main_arg38)) := by
  refine (dats m 0 c).arrAt_eq_of_covers 58 _ (by decide +kernel) fun t hf y => ?_
  blk_simp
  rw [show (dats m 0 c).after 58 t = out58 (iblk m c 8 t) (iblk m c 18 t) (iblk m c 28 t) (iblk m c 38 t) from by dsimp only [dats], i8 m c t, i18 m c t, i28 m c t, i38 m c t, at58]
  exact congrArg (spD (m ((c : Thread nD τ).loc main_arg18)) (spG (m ((c : Thread nD τ).loc main_arg8))) (m ((c : Thread nD τ).loc main_arg28)) (m ((c : Thread nD τ).loc main_arg38))) (show (y : S1x512.Idx) = _ from by blk_ext [x58 t])
theorem fin59 (c : Dev nD) : (dats m 0 c).arrAt 59 (cfgs 0).N = spD (m ((c : Thread nD τ).loc main_arg19)) (spG (m ((c : Thread nD τ).loc main_arg9))) (m ((c : Thread nD τ).loc main_arg29)) (m ((c : Thread nD τ).loc main_arg39)) := by
  refine (dats m 0 c).arrAt_eq_of_covers 59 _ (by decide +kernel) fun t hf y => ?_
  blk_simp
  rw [show (dats m 0 c).after 59 t = out59 (iblk m c 9 t) (iblk m c 19 t) (iblk m c 29 t) (iblk m c 39 t) from by dsimp only [dats], i9 m c t, i19 m c t, i29 m c t, i39 m c t, at59]
  exact congrArg (spD (m ((c : Thread nD τ).loc main_arg19)) (spG (m ((c : Thread nD τ).loc main_arg9))) (m ((c : Thread nD τ).loc main_arg29)) (m ((c : Thread nD τ).loc main_arg39))) (show (y : S512x128.Idx) = _ from by blk_ext [x59 t])
theorem fin60 (c : Dev nD) : (dats m 0 c).arrAt 60 (cfgs 0).N = spM (spG (m ((c : Thread nD τ).loc main_arg0))) (m ((c : Thread nD τ).loc main_arg20)) := by
  refine (dats m 0 c).arrAt_eq_of_covers 60 _ (by decide +kernel) fun t hf y => ?_
  blk_simp
  rw [show (dats m 0 c).after 60 t = out60 (iblk m c 0 t) (iblk m c 20 t) from by dsimp only [dats], i0 m c t, i20 m c t, at60]
  exact congrArg (spM (spG (m ((c : Thread nD τ).loc main_arg0))) (m ((c : Thread nD τ).loc main_arg20))) (show (y : S1x1024.Idx) = _ from by blk_ext [x60 t])
theorem fin61 (c : Dev nD) : (dats m 0 c).arrAt 61 (cfgs 0).N = spM (spG (m ((c : Thread nD τ).loc main_arg1))) (m ((c : Thread nD τ).loc main_arg21)) := by
  refine (dats m 0 c).arrAt_eq_of_covers 61 _ (by decide +kernel) fun t hf y => ?_
  blk_simp
  rw [show (dats m 0 c).after 61 t = out61 (iblk m c 1 t) (iblk m c 21 t) from by dsimp only [dats], i1 m c t, i21 m c t, at61]
  exact congrArg (spM (spG (m ((c : Thread nD τ).loc main_arg1))) (m ((c : Thread nD τ).loc main_arg21))) (show (y : S1x1024.Idx) = _ from by blk_ext [x61 t])
theorem fin62 (c : Dev nD) : (dats m 0 c).arrAt 62 (cfgs 0).N = spM (spG (m ((c : Thread nD τ).loc main_arg2))) (m ((c : Thread nD τ).loc main_arg22)) := by
  refine (dats m 0 c).arrAt_eq_of_covers 62 _ (by decide +kernel) fun t hf y => ?_
  blk_simp
  rw [show (dats m 0 c).after 62 t = out62 (iblk m c 2 t) (iblk m c 22 t) from by dsimp only [dats], i2 m c t, i22 m c t, at62]
  exact congrArg (spM (spG (m ((c : Thread nD τ).loc main_arg2))) (m ((c : Thread nD τ).loc main_arg22))) (show (y : S1x1024.Idx) = _ from by blk_ext [x62 t])
theorem fin63 (c : Dev nD) : (dats m 0 c).arrAt 63 (cfgs 0).N = spM (spG (m ((c : Thread nD τ).loc main_arg3))) (m ((c : Thread nD τ).loc main_arg23)) := by
  refine (dats m 0 c).arrAt_eq_of_covers 63 _ (by decide +kernel) fun t hf y => ?_
  blk_simp
  rw [show (dats m 0 c).after 63 t = out63 (iblk m c 3 t) (iblk m c 23 t) from by dsimp only [dats], i3 m c t, i23 m c t, at63]
  exact congrArg (spM (spG (m ((c : Thread nD τ).loc main_arg3))) (m ((c : Thread nD τ).loc main_arg23))) (show (y : S1x1024.Idx) = _ from by blk_ext [x63 t])
theorem fin64 (c : Dev nD) : (dats m 0 c).arrAt 64 (cfgs 0).N = spM (spG (m ((c : Thread nD τ).loc main_arg4))) (m ((c : Thread nD τ).loc main_arg24)) := by
  refine (dats m 0 c).arrAt_eq_of_covers 64 _ (by decide +kernel) fun t hf y => ?_
  blk_simp
  rw [show (dats m 0 c).after 64 t = out64 (iblk m c 4 t) (iblk m c 24 t) from by dsimp only [dats], i4 m c t, i24 m c t, at64]
  exact congrArg (spM (spG (m ((c : Thread nD τ).loc main_arg4))) (m ((c : Thread nD τ).loc main_arg24))) (show (y : S1x1024.Idx) = _ from by blk_ext [x64 t])
theorem fin65 (c : Dev nD) : (dats m 0 c).arrAt 65 (cfgs 0).N = spM (spG (m ((c : Thread nD τ).loc main_arg5))) (m ((c : Thread nD τ).loc main_arg25)) := by
  refine (dats m 0 c).arrAt_eq_of_covers 65 _ (by decide +kernel) fun t hf y => ?_
  blk_simp
  rw [show (dats m 0 c).after 65 t = out65 (iblk m c 5 t) (iblk m c 25 t) from by dsimp only [dats], i5 m c t, i25 m c t, at65]
  exact congrArg (spM (spG (m ((c : Thread nD τ).loc main_arg5))) (m ((c : Thread nD τ).loc main_arg25))) (show (y : S1x1024.Idx) = _ from by blk_ext [x65 t])
theorem fin66 (c : Dev nD) : (dats m 0 c).arrAt 66 (cfgs 0).N = spM (spG (m ((c : Thread nD τ).loc main_arg6))) (m ((c : Thread nD τ).loc main_arg26)) := by
  refine (dats m 0 c).arrAt_eq_of_covers 66 _ (by decide +kernel) fun t hf y => ?_
  blk_simp
  rw [show (dats m 0 c).after 66 t = out66 (iblk m c 6 t) (iblk m c 26 t) from by dsimp only [dats], i6 m c t, i26 m c t, at66]
  exact congrArg (spM (spG (m ((c : Thread nD τ).loc main_arg6))) (m ((c : Thread nD τ).loc main_arg26))) (show (y : S1x1024.Idx) = _ from by blk_ext [x66 t])
theorem fin67 (c : Dev nD) : (dats m 0 c).arrAt 67 (cfgs 0).N = spM (spL (m ((c : Thread nD τ).loc main_arg7)) (m ((c : Thread nD τ).loc main_arg17))) (m ((c : Thread nD τ).loc main_arg27)) := by
  refine (dats m 0 c).arrAt_eq_of_covers 67 _ (by decide +kernel) fun t hf y => ?_
  blk_simp
  rw [show (dats m 0 c).after 67 t = out67 (iblk m c 7 t) (iblk m c 17 t) (iblk m c 27 t) from by dsimp only [dats], i7 m c t, i17 m c t, i27 m c t, at67]
  exact congrArg (spM (spL (m ((c : Thread nD τ).loc main_arg7)) (m ((c : Thread nD τ).loc main_arg17))) (m ((c : Thread nD τ).loc main_arg27))) (show (y : S2x1024.Idx) = _ from by blk_ext [x67 t])
theorem fin68 (c : Dev nD) : (dats m 0 c).arrAt 68 (cfgs 0).N = spM (spG (m ((c : Thread nD τ).loc main_arg8))) (m ((c : Thread nD τ).loc main_arg28)) := by
  refine (dats m 0 c).arrAt_eq_of_covers 68 _ (by decide +kernel) fun t hf y => ?_
  blk_simp
  rw [show (dats m 0 c).after 68 t = out68 (iblk m c 8 t) (iblk m c 28 t) from by dsimp only [dats], i8 m c t, i28 m c t, at68]
  exact congrArg (spM (spG (m ((c : Thread nD τ).loc main_arg8))) (m ((c : Thread nD τ).loc main_arg28))) (show (y : S1x512.Idx) = _ from by blk_ext [x68 t])
theorem fin69 (c : Dev nD) : (dats m 0 c).arrAt 69 (cfgs 0).N = spM (spG (m ((c : Thread nD τ).loc main_arg9))) (m ((c : Thread nD τ).loc main_arg29)) := by
  refine (dats m 0 c).arrAt_eq_of_covers 69 _ (by decide +kernel) fun t hf y => ?_
  blk_simp
  rw [show (dats m 0 c).after 69 t = out69 (iblk m c 9 t) (iblk m c 29 t) from by dsimp only [dats], i9 m c t, i29 m c t, at69]
  exact congrArg (spM (spG (m ((c : Thread nD τ).loc main_arg9))) (m ((c : Thread nD τ).loc main_arg29))) (show (y : S512x128.Idx) = _ from by blk_ext [x69 t])
theorem fin70 (c : Dev nD) : (dats m 0 c).arrAt 70 (cfgs 0).N = spV (spG (m ((c : Thread nD τ).loc main_arg0))) (m ((c : Thread nD τ).loc main_arg30)) := by
  refine (dats m 0 c).arrAt_eq_of_covers 70 _ (by decide +kernel) fun t hf y => ?_
  blk_simp
  rw [show (dats m 0 c).after 70 t = out70 (iblk m c 0 t) (iblk m c 30 t) from by dsimp only [dats], i0 m c t, i30 m c t, at70]
  exact congrArg (spV (spG (m ((c : Thread nD τ).loc main_arg0))) (m ((c : Thread nD τ).loc main_arg30))) (show (y : S1x1024.Idx) = _ from by blk_ext [x70 t])
theorem fin71 (c : Dev nD) : (dats m 0 c).arrAt 71 (cfgs 0).N = spV (spG (m ((c : Thread nD τ).loc main_arg1))) (m ((c : Thread nD τ).loc main_arg31)) := by
  refine (dats m 0 c).arrAt_eq_of_covers 71 _ (by decide +kernel) fun t hf y => ?_
  blk_simp
  rw [show (dats m 0 c).after 71 t = out71 (iblk m c 1 t) (iblk m c 31 t) from by dsimp only [dats], i1 m c t, i31 m c t, at71]
  exact congrArg (spV (spG (m ((c : Thread nD τ).loc main_arg1))) (m ((c : Thread nD τ).loc main_arg31))) (show (y : S1x1024.Idx) = _ from by blk_ext [x71 t])
theorem fin72 (c : Dev nD) : (dats m 0 c).arrAt 72 (cfgs 0).N = spV (spG (m ((c : Thread nD τ).loc main_arg2))) (m ((c : Thread nD τ).loc main_arg32)) := by
  refine (dats m 0 c).arrAt_eq_of_covers 72 _ (by decide +kernel) fun t hf y => ?_
  blk_simp
  rw [show (dats m 0 c).after 72 t = out72 (iblk m c 2 t) (iblk m c 32 t) from by dsimp only [dats], i2 m c t, i32 m c t, at72]
  exact congrArg (spV (spG (m ((c : Thread nD τ).loc main_arg2))) (m ((c : Thread nD τ).loc main_arg32))) (show (y : S1x1024.Idx) = _ from by blk_ext [x72 t])
theorem fin73 (c : Dev nD) : (dats m 0 c).arrAt 73 (cfgs 0).N = spV (spG (m ((c : Thread nD τ).loc main_arg3))) (m ((c : Thread nD τ).loc main_arg33)) := by
  refine (dats m 0 c).arrAt_eq_of_covers 73 _ (by decide +kernel) fun t hf y => ?_
  blk_simp
  rw [show (dats m 0 c).after 73 t = out73 (iblk m c 3 t) (iblk m c 33 t) from by dsimp only [dats], i3 m c t, i33 m c t, at73]
  exact congrArg (spV (spG (m ((c : Thread nD τ).loc main_arg3))) (m ((c : Thread nD τ).loc main_arg33))) (show (y : S1x1024.Idx) = _ from by blk_ext [x73 t])
theorem fin74 (c : Dev nD) : (dats m 0 c).arrAt 74 (cfgs 0).N = spV (spG (m ((c : Thread nD τ).loc main_arg4))) (m ((c : Thread nD τ).loc main_arg34)) := by
  refine (dats m 0 c).arrAt_eq_of_covers 74 _ (by decide +kernel) fun t hf y => ?_
  blk_simp
  rw [show (dats m 0 c).after 74 t = out74 (iblk m c 4 t) (iblk m c 34 t) from by dsimp only [dats], i4 m c t, i34 m c t, at74]
  exact congrArg (spV (spG (m ((c : Thread nD τ).loc main_arg4))) (m ((c : Thread nD τ).loc main_arg34))) (show (y : S1x1024.Idx) = _ from by blk_ext [x74 t])
theorem fin75 (c : Dev nD) : (dats m 0 c).arrAt 75 (cfgs 0).N = spV (spG (m ((c : Thread nD τ).loc main_arg5))) (m ((c : Thread nD τ).loc main_arg35)) := by
  refine (dats m 0 c).arrAt_eq_of_covers 75 _ (by decide +kernel) fun t hf y => ?_
  blk_simp
  rw [show (dats m 0 c).after 75 t = out75 (iblk m c 5 t) (iblk m c 35 t) from by dsimp only [dats], i5 m c t, i35 m c t, at75]
  exact congrArg (spV (spG (m ((c : Thread nD τ).loc main_arg5))) (m ((c : Thread nD τ).loc main_arg35))) (show (y : S1x1024.Idx) = _ from by blk_ext [x75 t])
theorem fin76 (c : Dev nD) : (dats m 0 c).arrAt 76 (cfgs 0).N = spV (spG (m ((c : Thread nD τ).loc main_arg6))) (m ((c : Thread nD τ).loc main_arg36)) := by
  refine (dats m 0 c).arrAt_eq_of_covers 76 _ (by decide +kernel) fun t hf y => ?_
  blk_simp
  rw [show (dats m 0 c).after 76 t = out76 (iblk m c 6 t) (iblk m c 36 t) from by dsimp only [dats], i6 m c t, i36 m c t, at76]
  exact congrArg (spV (spG (m ((c : Thread nD τ).loc main_arg6))) (m ((c : Thread nD τ).loc main_arg36))) (show (y : S1x1024.Idx) = _ from by blk_ext [x76 t])
theorem fin77 (c : Dev nD) : (dats m 0 c).arrAt 77 (cfgs 0).N = spV (spL (m ((c : Thread nD τ).loc main_arg7)) (m ((c : Thread nD τ).loc main_arg17))) (m ((c : Thread nD τ).loc main_arg37)) := by
  refine (dats m 0 c).arrAt_eq_of_covers 77 _ (by decide +kernel) fun t hf y => ?_
  blk_simp
  rw [show (dats m 0 c).after 77 t = out77 (iblk m c 7 t) (iblk m c 17 t) (iblk m c 37 t) from by dsimp only [dats], i7 m c t, i17 m c t, i37 m c t, at77]
  exact congrArg (spV (spL (m ((c : Thread nD τ).loc main_arg7)) (m ((c : Thread nD τ).loc main_arg17))) (m ((c : Thread nD τ).loc main_arg37))) (show (y : S2x1024.Idx) = _ from by blk_ext [x77 t])
theorem fin78 (c : Dev nD) : (dats m 0 c).arrAt 78 (cfgs 0).N = spV (spG (m ((c : Thread nD τ).loc main_arg8))) (m ((c : Thread nD τ).loc main_arg38)) := by
  refine (dats m 0 c).arrAt_eq_of_covers 78 _ (by decide +kernel) fun t hf y => ?_
  blk_simp
  rw [show (dats m 0 c).after 78 t = out78 (iblk m c 8 t) (iblk m c 38 t) from by dsimp only [dats], i8 m c t, i38 m c t, at78]
  exact congrArg (spV (spG (m ((c : Thread nD τ).loc main_arg8))) (m ((c : Thread nD τ).loc main_arg38))) (show (y : S1x512.Idx) = _ from by blk_ext [x78 t])
theorem fin79 (c : Dev nD) : (dats m 0 c).arrAt 79 (cfgs 0).N = spV (spG (m ((c : Thread nD τ).loc main_arg9))) (m ((c : Thread nD τ).loc main_arg39)) := by
  refine (dats m 0 c).arrAt_eq_of_covers 79 _ (by decide +kernel) fun t hf y => ?_
  blk_simp
  rw [show (dats m 0 c).after 79 t = out79 (iblk m c 9 t) (iblk m c 39 t) from by dsimp only [dats], i9 m c t, i39 m c t, at79]
  exact congrArg (spV (spG (m ((c : Thread nD τ).loc main_arg9))) (m ((c : Thread nD τ).loc main_arg39))) (show (y : S512x128.Idx) = _ from by blk_ext [x79 t])

end Cert.AdamSmallIdeal.Val

end
-- ==== Proof.Softmax.lean ====
/-
  The gradient through a softmax of two numbers.
-/
module

public import proofs.«01_k».proof.Proof.Adam
public import proofs.«01_k».proof.Proof.Finite
public import Idealize.ShloMosaic.Lib.Pipeline.ValueKit

@[expose] public section

noncomputable section

open Idealize.ShloMosaic

namespace Cert.Num

open Cert.Adam

theorem exp_coe (r : ℝ) : Ideal.exp (r : EReal) = ((Real.exp r : ℝ) : EReal) := rfl

theorem div_num {x r : ℝ} (hr : r ≠ 0) : Ideal.div (x : EReal) (r : EReal) = ((x / r : ℝ) : EReal) := by
  rw [div_coe hr, ← EReal.coe_mul, div_eq_mul_inv]

theorem max_bits : Ideal.ofBits .f32 0xFF800000#32 = ⊥ := by simp [Ideal.ofBits, Ideal.ieee]

theorem minus_one : Ideal.ofBits .f32 0xBF800000#32 = ((-1 : ℝ) : EReal) := by
  simp [Ideal.ofBits, Ideal.ieee]
  rw [← EReal.coe_mul]
  norm_num

/-- The greatest of some numbers is a number. -/
theorem isNum_foldl {ι : Type} (f : ι → EReal) (hf : ∀ i, IsNum (f i)) : ∀ (l : List ι) (b : EReal), b = ⊥ ∨ IsNum b → IsNum b ∨ l ≠ [] →
    IsNum (l.foldl (fun r n => max r (f n)) b)
  | [], b, _, h => h.resolve_right fun h => h rfl
  | a :: l, b, hb, _ => by
    have h : IsNum (max b (f a)) := by
      rcases hb with rfl | hb
      · rw [max_bot_left]; exact hf a
      · rcases max_choice b (f a) with e | e <;> rw [e]
        · exact hb
        · exact hf a
    exact isNum_foldl f hf l _ (.inr h) (.inl h)

/-- The gradient through the softmax of two bounds, of the first one's share. -/
theorem soft (r : Fin 2) (p a b M : EReal) (hp : IsNum p) (ha : IsNum a) (hb : IsNum b) (hM : IsNum M) :
    (Ideal.div (if r = 0 then p else 0) (Ideal.exp (a - M) + Ideal.exp (b - M))
      + -(p * Ideal.div 1 ((Ideal.exp (a - M) + Ideal.exp (b - M)) * (Ideal.exp (a - M) + Ideal.exp (b - M))) * Ideal.exp (a - M)
        + 0 * Ideal.div 1 ((Ideal.exp (a - M) + Ideal.exp (b - M)) * (Ideal.exp (a - M) + Ideal.exp (b - M))) * Ideal.exp (b - M)))
      * Ideal.exp ((if r = 0 then a else b) - M) = bound r p a b := by
  obtain ⟨p, rfl⟩ := hp
  obtain ⟨a, rfl⟩ := ha
  obtain ⟨b, rfl⟩ := hb
  obtain ⟨M, rfl⟩ := hM
  have e : Real.exp (b - a) = Real.exp (b - M) / Real.exp (a - M) := by rw [← Real.exp_sub]; congr 1; ring
  have h0 := Real.exp_pos (a - M)
  have h1 := Real.exp_pos (b - M)
  have hS : Real.exp (a - M) + Real.exp (b - M) ≠ 0 := by positivity
  have hT : 1 + Real.exp (b - a) ≠ 0 := by positivity
  unfold bound
  rw [minus_one, show (1 : EReal) = ((1 : ℝ) : EReal) from rfl, show (0 : EReal) = ((0 : ℝ) : EReal) from rfl]
  match r with
  | 0 =>
    simp only [if_true, ← EReal.coe_sub, exp_coe, ← EReal.coe_add, ← EReal.coe_mul, div_num hS, div_num hT, div_num (mul_ne_zero hS hS), ← EReal.coe_neg]
    rw [e]
    congr 1
    field_simp
    ring
  | 1 =>
    rw [if_neg (by decide), if_neg (by decide), if_neg (by decide)]
    simp only [← EReal.coe_sub, exp_coe, ← EReal.coe_add, ← EReal.coe_mul, div_num hS, div_num hT, div_num (mul_ne_zero hS hS), ← EReal.coe_neg]
    rw [e]
    congr 1
    field_simp
    ring

end Cert.Num

end
-- ==== Proof.SmallRef.lean ====
/-
  The reference of the optimiser's step on the small parameters: its sums, the gradient of the lower bounds, and the step.
-/
module

public import proofs.«01_k».proof.Proof.Gen.AdamSmallRefIdeal.Run
public import proofs.«01_k».proof.Proof.Softmax
public import Idealize.ShloMosaic.Lib.Pipeline.ValueKit

@[expose] public section

set_option maxRecDepth 16384
set_option maxHeartbeats 4000000

noncomputable section

open Idealize.ShloMosaic Idealize.ShloMosaic.TcCoe Idealize.SL.Sem

namespace Cert.AdamSmallRefIdeal.Val

open Cert.Num Cert.AdamSmallRefIdeal Cert.AdamSmallRefIdeal.Gen Cert.AdamSmallRefIdeal.Value Cert.Adam
variable (U : Valuation τ sig (Elt Ideal))

theorem g0 (X : FVec Ideal S8x1x1024 .f32) (hX : U (Proc.devRef .tc main_arg0) = X) (y : S1x1024.Idx) : (show FVec Ideal S1x1024 .f32 from res_main_v0 (F := Ideal) U) y = ∑ k : Fin 8, X (ix3 k (y 0) (y 1)) := by
  pointwise [res_main_v0]
  rw [hX]
  refine Finset.sum_congr rfl fun k _ => congrArg X ?_
  blk_ext

theorem g1 (X : FVec Ideal S8x1x1024 .f32) (hX : U (Proc.devRef .tc main_arg1) = X) (y : S1x1024.Idx) : (show FVec Ideal S1x1024 .f32 from res_main_v25 (F := Ideal) U) y = ∑ k : Fin 8, X (ix3 k (y 0) (y 1)) := by
  pointwise [res_main_v25]
  rw [hX]
  refine Finset.sum_congr rfl fun k _ => congrArg X ?_
  blk_ext

theorem g2 (X : FVec Ideal S8x1x1024 .f32) (hX : U (Proc.devRef .tc main_arg2) = X) (y : S1x1024.Idx) : (show FVec Ideal S1x1024 .f32 from res_main_v50 (F := Ideal) U) y = ∑ k : Fin 8, X (ix3 k (y 0) (y 1)) := by
  pointwise [res_main_v50]
  rw [hX]
  refine Finset.sum_congr rfl fun k _ => congrArg X ?_
  blk_ext

theorem g3 (X : FVec Ideal S8x1x1024 .f32) (hX : U (Proc.devRef .tc main_arg3) = X) (y : S1x1024.Idx) : (show FVec Ideal S1x1024 .f32 from res_main_v75 (F := Ideal) U) y = ∑ k : Fin 8, X (ix3 k (y 0) (y 1)) := by
  pointwise [res_main_v75]
  rw [hX]
  refine Finset.sum_congr rfl fun k _ => congrArg X ?_
  blk_ext

theorem g4 (X : FVec Ideal S8x1x1024 .f32) (hX : U (Proc.devRef .tc main_arg4) = X) (y : S1x1024.Idx) : (show FVec Ideal S1x1024 .f32 from res_main_v100 (F := Ideal) U) y = ∑ k : Fin 8, X (ix3 k (y 0) (y 1)) := by
  pointwise [res_main_v100]
  rw [hX]
  refine Finset.sum_congr rfl fun k _ => congrArg X ?_
  blk_ext

theorem g5 (X : FVec Ideal S8x1x1024 .f32) (hX : U (Proc.devRef .tc main_arg5) = X) (y : S1x1024.Idx) : (show FVec Ideal S1x1024 .f32 from res_main_v125 (F := Ideal) U) y = ∑ k : Fin 8, X (ix3 k (y 0) (y 1)) := by
  pointwise [res_main_v125]
  rw [hX]
  refine Finset.sum_congr rfl fun k _ => congrArg X ?_
  blk_ext

theorem g6 (X : FVec Ideal S8x1x1024 .f32) (hX : U (Proc.devRef .tc main_arg6) = X) (y : S1x1024.Idx) : (show FVec Ideal S1x1024 .f32 from res_main_v150 (F := Ideal) U) y = ∑ k : Fin 8, X (ix3 k (y 0) (y 1)) := by
  pointwise [res_main_v150]
  rw [hX]
  refine Finset.sum_congr rfl fun k _ => congrArg X ?_
  blk_ext

theorem g8 (X : FVec Ideal S8x1x512 .f32) (hX : U (Proc.devRef .tc main_arg8) = X) (y : S1x512.Idx) : (show FVec Ideal S1x512 .f32 from res_main_v242 (F := Ideal) U) y = ∑ k : Fin 8, X (ix3 k (y 0) (y 1)) := by
  pointwise [res_main_v242]
  rw [hX]
  refine Finset.sum_congr rfl fun k _ => congrArg X ?_
  blk_ext

theorem g9 (X : FVec Ideal S8x512x128 .f32) (hX : U (Proc.devRef .tc main_arg9) = X) (y : S512x128.Idx) : (show FVec Ideal S512x128 .f32 from res_main_v267 (F := Ideal) U) y = ∑ k : Fin 8, X (ix3 k (y 0) (y 1)) := by
  pointwise [res_main_v267]
  rw [hX]

/-- The update as the reference writes it. -/
theorem up {s : Shape} (b : (⟨0, ![]⟩ : Shape).BroadcastsInDim s (![] : Fin 0 → Fin s.rank)) (W G M V : FVec Ideal s .f32) :
    mulf (broadcastInDim s ![] b (constant ⟨0, ![]⟩ .f32 0xBA83126F#32)) (addf (Host.divf (Host.divf (addf (mulf (broadcastInDim s ![] b (constant ⟨0, ![]⟩ .f32 0x3F666666#32)) M) (mulf (broadcastInDim s ![] b (constant ⟨0, ![]⟩ .f32 0x3DCCCCCD#32)) G)) (broadcastInDim s ![] b (constant ⟨0, ![]⟩ .f32 0x3F26BD02#32))) (addf (Host.sqrt (Host.divf (addf (mulf (broadcastInDim s ![] b (constant ⟨0, ![]⟩ .f32 0x3F7FBE77#32)) V) (mulf (broadcastInDim s ![] b (constant ⟨0, ![]⟩ .f32 0x3A83126F#32)) (mulf G G))) (broadcastInDim s ![] b (constant ⟨0, ![]⟩ .f32 0x3C231ACC#32)))) (broadcastInDim s ![] b (constant ⟨0, ![]⟩ .f32 0x322BCC77#32)))) (mulf (broadcastInDim s ![] b (constant ⟨0, ![]⟩ .f32 0x3C23D70A#32)) W))
      = fun j => update (W j) (G j) (M j) (V j) := by
  funext j
  rfl

/-- The first moment as the reference writes it. -/
theorem mo1 {s : Shape} (b : (⟨0, ![]⟩ : Shape).BroadcastsInDim s (![] : Fin 0 → Fin s.rank)) (G M : FVec Ideal s .f32) :
    addf (mulf (broadcastInDim s ![] b (constant ⟨0, ![]⟩ .f32 0x3F666666#32)) M) (mulf (broadcastInDim s ![] b (constant ⟨0, ![]⟩ .f32 0x3DCCCCCD#32)) G) = fun j => step1 (G j) (M j) := by
  funext j
  rfl

/-- The second moment as the reference writes it. -/
theorem mo2 {s : Shape} (b : (⟨0, ![]⟩ : Shape).BroadcastsInDim s (![] : Fin 0 → Fin s.rank)) (G V : FVec Ideal s .f32) :
    addf (mulf (broadcastInDim s ![] b (constant ⟨0, ![]⟩ .f32 0x3F7FBE77#32)) V) (mulf (broadcastInDim s ![] b (constant ⟨0, ![]⟩ .f32 0x3A83126F#32)) (mulf G G)) = fun j => step2 (G j) (V j) := by
  funext j
  rfl

/-- The gradient of the lower bounds. -/
theorem g7 (X : FVec Ideal S8x1x1024 .f32) (W : FVec Ideal S2x1024 .f32) (hX : U (Proc.devRef .tc main_arg7) = X) (hW : U (Proc.devRef .tc main_arg17) = W)
    (nX : ∀ i, IsNum (X i)) (nW : ∀ i, IsNum (W i)) (y : S2x1024.Idx) :
    (show FVec Ideal S2x1024 .f32 from res_main_v217 (F := Ideal) U) y = bound (y 0) (∑ k : Fin 8, X (ix3 k 0 (y 1))) (W (ix2 0 (y 1))) (W (ix2 1 (y 1))) := by
  have hM : IsNum ((show FVec Ideal S1024 .f32 from res_main_v176 (F := Ideal) U) (ix1 (y 1))) := by
    unfold res_main_v176 Host.reduce
    rw [hW]
    refine isNum_foldl (fun n => W (S2x1024.rowMajor.symm n)) (fun n => nW _) _ _ (.inl max_bits)
      (.inr (List.ne_nil_of_mem (a := S2x1024.rowMajor (ix2 0 (y 1))) (List.mem_filter.2 ⟨List.mem_finRange _, ?_⟩)))
    refine decide_eq_true ?_
    refine (congrArg (Shape.ReducesTo.drop reducesTo_S2x1024_S1024_d0) (S2x1024.rowMajor.symm_apply_apply (ix2 0 (y 1)))).trans ?_
    blk_ext
    all_goals rfl
  rw [← soft (y 0) _ _ _ _ (IsNum.sum fun k => nX _) (nW _) (nW _) hM]
  pointwise [res_main_v217, res_main_v205, res_main_v198, res_main_v196]
  rw [hX, hW, max_bits]
  generalize res_main_v176 (F := Ideal) U (ix1 (y 1)) = M
  simp only [Fin.sum_univ_two, Fin.sum_univ_one, max_bot_left]
  refine congrArg₂ (· * ·) (congrArg₂ (· + ·) (congrArg₂ Ideal.div ?_ rfl) rfl) (congrArg Ideal.exp (congrArg (· - M) ?_))
  · rcases Nat.lt_or_ge (y 0).val 1 with h | h
    · refine (dif_pos h).trans (Eq.trans ?_ (if_pos (Fin.ext (show (y 0).val = 0 by omega))).symm)
      refine Finset.sum_congr rfl fun k _ => congrArg X ?_
      blk_ext
    · exact (dif_neg (by omega)).trans (if_neg fun e => by have := congrArg Fin.val e; omega).symm
  · rcases Nat.lt_or_ge (y 0).val 1 with h | h
    · refine Eq.trans ?_ (if_pos (Fin.ext (show (y 0).val = 0 by omega))).symm
      refine congrArg W ?_
      blk_ext
    · refine Eq.trans ?_ (if_neg fun e => by have := congrArg Fin.val e; omega).symm
      refine congrArg W ?_
      blk_ext

end Cert.AdamSmallRefIdeal.Val

end
-- ==== Proof.FiniteSmall.lean ====
/-
  What the precondition of the small parameters says of the arguments.
-/
module

public import proofs.«01_k».proof.Pre_finite_small
public import proofs.«01_k».proof.Proof.Finite

@[expose] public section

noncomputable section

open Idealize.ShloMosaic

namespace Cert.Num

instance facts_small : Cert.Pre_finite_small.Facts := ⟨by decide, by decide, by decide, by decide, by decide⟩

/-- The arguments that the precondition names are numbers. -/
theorem finite_small (X0 : FVec Ideal Cert.Pre_finite_small.S8x1x1024 .f32) (X1 : FVec Ideal Cert.Pre_finite_small.S8x1x1024 .f32) (X2 : FVec Ideal Cert.Pre_finite_small.S8x1x1024 .f32) (X3 : FVec Ideal Cert.Pre_finite_small.S8x1x1024 .f32) (X4 : FVec Ideal Cert.Pre_finite_small.S8x1x1024 .f32) (X5 : FVec Ideal Cert.Pre_finite_small.S8x1x1024 .f32) (X6 : FVec Ideal Cert.Pre_finite_small.S8x1x1024 .f32) (X7 : FVec Ideal Cert.Pre_finite_small.S8x1x1024 .f32) (X8 : FVec Ideal Cert.Pre_finite_small.S8x1x512 .f32) (X9 : FVec Ideal Cert.Pre_finite_small.S8x512x128 .f32) (X10 : FVec Ideal Cert.Pre_finite_small.S1x1024 .f32) (X11 : FVec Ideal Cert.Pre_finite_small.S1x1024 .f32) (X12 : FVec Ideal Cert.Pre_finite_small.S1x1024 .f32) (X13 : FVec Ideal Cert.Pre_finite_small.S1x1024 .f32) (X14 : FVec Ideal Cert.Pre_finite_small.S1x1024 .f32) (X15 : FVec Ideal Cert.Pre_finite_small.S1x1024 .f32) (X16 : FVec Ideal Cert.Pre_finite_small.S1x1024 .f32) (X17 : FVec Ideal Cert.Pre_finite_small.S2x1024 .f32) (X18 : FVec Ideal Cert.Pre_finite_small.S1x512 .f32) (X19 : FVec Ideal Cert.Pre_finite_small.S512x128 .f32) (X20 : FVec Ideal Cert.Pre_finite_small.S1x1024 .f32) (X21 : FVec Ideal Cert.Pre_finite_small.S1x1024 .f32) (X22 : FVec Ideal Cert.Pre_finite_small.S1x1024 .f32) (X23 : FVec Ideal Cert.Pre_finite_small.S1x1024 .f32) (X24 : FVec Ideal Cert.Pre_finite_small.S1x1024 .f32) (X25 : FVec Ideal Cert.Pre_finite_small.S1x1024 .f32) (X26 : FVec Ideal Cert.Pre_finite_small.S1x1024 .f32) (X27 : FVec Ideal Cert.Pre_finite_small.S2x1024 .f32) (X28 : FVec Ideal Cert.Pre_finite_small.S1x512 .f32) (X29 : FVec Ideal Cert.Pre_finite_small.S512x128 .f32) (X30 : FVec Ideal Cert.Pre_finite_small.S1x1024 .f32) (X31 : FVec Ideal Cert.Pre_finite_small.S1x1024 .f32) (X32 : FVec Ideal Cert.Pre_finite_small.S1x1024 .f32) (X33 : FVec Ideal Cert.Pre_finite_small.S1x1024 .f32) (X34 : FVec Ideal Cert.Pre_finite_small.S1x1024 .f32) (X35 : FVec Ideal Cert.Pre_finite_small.S1x1024 .f32) (X36 : FVec Ideal Cert.Pre_finite_small.S1x1024 .f32) (X37 : FVec Ideal Cert.Pre_finite_small.S2x1024 .f32) (X38 : FVec Ideal Cert.Pre_finite_small.S1x512 .f32) (X39 : FVec Ideal Cert.Pre_finite_small.S512x128 .f32)
    (h : Cert.Pre_finite_small.fn X0 X1 X2 X3 X4 X5 X6 X7 X8 X9 X10 X11 X12 X13 X14 X15 X16 X17 X18 X19 X20 X21 X22 X23 X24 X25 X26 X27 X28 X29 X30 X31 X32 X33 X34 X35 X36 X37 X38 X39 = fun _ => 1#1) : (∀ i, IsNum (X7 i)) ∧ (∀ i, IsNum (X17 i)) := by
  obtain ⟨h0, h1⟩ := IntOp.andi_eq_one.1 (congrFun h ix0)
  exact ⟨isNum_of_all X7 _ top_f32 _ _ _ _ _ h0, isNum_of_all X17 _ top_f32 _ _ _ _ _ h1⟩

end Cert.Num

end
-- ==== Proof.AdamSmallValue.lean ====
/-
  The value of the optimiser's step on the small parameters: the parts added, and the step entry by entry.
-/
module

public import proofs.«01_k».proof.Defs
public import proofs.«01_k».proof.Proof.SmallFinal
public import proofs.«01_k».proof.Proof.SmallRef
public import proofs.«01_k».proof.Proof.FiniteSmall

@[expose] public section

set_option maxRecDepth 16384
set_option maxHeartbeats 4000000

noncomputable section

open Idealize.ShloMosaic Idealize.ShloMosaic.TcCoe Idealize.SL.Sem
open Idealize.ShloMosaic.Pipeline (Dat)

namespace Cert.AdamSmallIdeal.Val

open Cert.AdamSmallIdeal Cert.AdamSmallIdeal.Gen Cert.AdamSmallIdeal.Small Cert.Adam

theorem spD_congr {a b : ℕ} {W W' G G' M M' V V' : FVec Ideal ⟨2, ![a, b]⟩ .f32} (hW : W = W') (hG : G = G') (hM : M = M') (hV : V = V') :
    (fun j => update (W j) (G j) (M j) (V j)) = spD W' G' M' V' := by subst hW hG hM hV; rfl

theorem spM_congr {a b : ℕ} {G G' M M' : FVec Ideal ⟨2, ![a, b]⟩ .f32} (hG : G = G') (hM : M = M') : (fun j => step1 (G j) (M j)) = spM G' M' := by subst hG hM; rfl

theorem spV_congr {a b : ℕ} {G G' V V' : FVec Ideal ⟨2, ![a, b]⟩ .f32} (hG : G = G') (hV : V = V') : (fun j => step2 (G j) (V j)) = spV G' V' := by subst hG hV; rfl

/-- The reference leaves its arguments as launched. -/
theorem frame_reference : Cert.quiescent_AdamSmallRefIdeal := fun m ρ _ =>
  (θ_run Cert.AdamSmallRefIdeal.defs _ _).mono
    (fun r h => ⟨fun c => (h c).2.2.2.2.2.2.2.2.2.2.2.2.2.2.2.2.2.2.2.2.2.2.2.2.2.2.2.2.2.2.2.2.2.2.2.2.2.2.2.2, Idealize.ShloMosaic.sem_eq_zero_of_no_sems (by decide) r.2⟩)
    (Cert.AdamSmallRefIdeal.Value.run (F := Ideal) m ρ)

/-- Both programs end with the reference's value of the shared arguments. -/
theorem algebraic : Cert.algebraic_AdamSmallIdeal_AdamSmallRefIdeal_pre_finite_small := by
  intro m ρ m' ρ' hpre hargs
  refine ⟨fun c => spG (m ((c : Thread nD τ).loc main_arg0)), fun c => spG (m ((c : Thread nD τ).loc main_arg1)), fun c => spG (m ((c : Thread nD τ).loc main_arg2)), fun c => spG (m ((c : Thread nD τ).loc main_arg3)), fun c => spG (m ((c : Thread nD τ).loc main_arg4)), fun c => spG (m ((c : Thread nD τ).loc main_arg5)), fun c => spG (m ((c : Thread nD τ).loc main_arg6)), fun c => spL (m ((c : Thread nD τ).loc main_arg7)) (m ((c : Thread nD τ).loc main_arg17)), fun c => spG (m ((c : Thread nD τ).loc main_arg8)), fun c => spG (m ((c : Thread nD τ).loc main_arg9)), fun c => spD (m ((c : Thread nD τ).loc main_arg10)) (spG (m ((c : Thread nD τ).loc main_arg0))) (m ((c : Thread nD τ).loc main_arg20)) (m ((c : Thread nD τ).loc main_arg30)), fun c => spD (m ((c : Thread nD τ).loc main_arg11)) (spG (m ((c : Thread nD τ).loc main_arg1))) (m ((c : Thread nD τ).loc main_arg21)) (m ((c : Thread nD τ).loc main_arg31)), fun c => spD (m ((c : Thread nD τ).loc main_arg12)) (spG (m ((c : Thread nD τ).loc main_arg2))) (m ((c : Thread nD τ).loc main_arg22)) (m ((c : Thread nD τ).loc main_arg32)), fun c => spD (m ((c : Thread nD τ).loc main_arg13)) (spG (m ((c : Thread nD τ).loc main_arg3))) (m ((c : Thread nD τ).loc main_arg23)) (m ((c : Thread nD τ).loc main_arg33)), fun c => spD (m ((c : Thread nD τ).loc main_arg14)) (spG (m ((c : Thread nD τ).loc main_arg4))) (m ((c : Thread nD τ).loc main_arg24)) (m ((c : Thread nD τ).loc main_arg34)), fun c => spD (m ((c : Thread nD τ).loc main_arg15)) (spG (m ((c : Thread nD τ).loc main_arg5))) (m ((c : Thread nD τ).loc main_arg25)) (m ((c : Thread nD τ).loc main_arg35)), fun c => spD (m ((c : Thread nD τ).loc main_arg16)) (spG (m ((c : Thread nD τ).loc main_arg6))) (m ((c : Thread nD τ).loc main_arg26)) (m ((c : Thread nD τ).loc main_arg36)), fun c => spD (m ((c : Thread nD τ).loc main_arg17)) (spL (m ((c : Thread nD τ).loc main_arg7)) (m ((c : Thread nD τ).loc main_arg17))) (m ((c : Thread nD τ).loc main_arg27)) (m ((c : Thread nD τ).loc main_arg37)), fun c => spD (m ((c : Thread nD τ).loc main_arg18)) (spG (m ((c : Thread nD τ).loc main_arg8))) (m ((c : Thread nD τ).loc main_arg28)) (m ((c : Thread nD τ).loc main_arg38)), fun c => spD (m ((c : Thread nD τ).loc main_arg19)) (spG (m ((c : Thread nD τ).loc main_arg9))) (m ((c : Thread nD τ).loc main_arg29)) (m ((c : Thread nD τ).loc main_arg39)), fun c => spM (spG (m ((c : Thread nD τ).loc main_arg0))) (m ((c : Thread nD τ).loc main_arg20)), fun c => spM (spG (m ((c : Thread nD τ).loc main_arg1))) (m ((c : Thread nD τ).loc main_arg21)), fun c => spM (spG (m ((c : Thread nD τ).loc main_arg2))) (m ((c : Thread nD τ).loc main_arg22)), fun c => spM (spG (m ((c : Thread nD τ).loc main_arg3))) (m ((c : Thread nD τ).loc main_arg23)), fun c => spM (spG (m ((c : Thread nD τ).loc main_arg4))) (m ((c : Thread nD τ).loc main_arg24)), fun c => spM (spG (m ((c : Thread nD τ).loc main_arg5))) (m ((c : Thread nD τ).loc main_arg25)), fun c => spM (spG (m ((c : Thread nD τ).loc main_arg6))) (m ((c : Thread nD τ).loc main_arg26)), fun c => spM (spL (m ((c : Thread nD τ).loc main_arg7)) (m ((c : Thread nD τ).loc main_arg17))) (m ((c : Thread nD τ).loc main_arg27)), fun c => spM (spG (m ((c : Thread nD τ).loc main_arg8))) (m ((c : Thread nD τ).loc main_arg28)), fun c => spM (spG (m ((c : Thread nD τ).loc main_arg9))) (m ((c : Thread nD τ).loc main_arg29)), fun c => spV (spG (m ((c : Thread nD τ).loc main_arg0))) (m ((c : Thread nD τ).loc main_arg30)), fun c => spV (spG (m ((c : Thread nD τ).loc main_arg1))) (m ((c : Thread nD τ).loc main_arg31)), fun c => spV (spG (m ((c : Thread nD τ).loc main_arg2))) (m ((c : Thread nD τ).loc main_arg32)), fun c => spV (spG (m ((c : Thread nD τ).loc main_arg3))) (m ((c : Thread nD τ).loc main_arg33)), fun c => spV (spG (m ((c : Thread nD τ).loc main_arg4))) (m ((c : Thread nD τ).loc main_arg34)), fun c => spV (spG (m ((c : Thread nD τ).loc main_arg5))) (m ((c : Thread nD τ).loc main_arg35)), fun c => spV (spG (m ((c : Thread nD τ).loc main_arg6))) (m ((c : Thread nD τ).loc main_arg36)), fun c => spV (spL (m ((c : Thread nD τ).loc main_arg7)) (m ((c : Thread nD τ).loc main_arg17))) (m ((c : Thread nD τ).loc main_arg37)), fun c => spV (spG (m ((c : Thread nD τ).loc main_arg8))) (m ((c : Thread nD τ).loc main_arg38)), fun c => spV (spG (m ((c : Thread nD τ).loc main_arg9))) (m ((c : Thread nD τ).loc main_arg39)), ?_, ?_⟩
  · exact (θ_run defs _ _).mono (fun r h c => ⟨((h.1 c).1 40).trans (fin40 m c), ((h.1 c).1 41).trans (fin41 m c), ((h.1 c).1 42).trans (fin42 m c), ((h.1 c).1 43).trans (fin43 m c), ((h.1 c).1 44).trans (fin44 m c), ((h.1 c).1 45).trans (fin45 m c), ((h.1 c).1 46).trans (fin46 m c), ((h.1 c).1 47).trans (fin47 m c), ((h.1 c).1 48).trans (fin48 m c), ((h.1 c).1 49).trans (fin49 m c), ((h.1 c).1 50).trans (fin50 m c), ((h.1 c).1 51).trans (fin51 m c), ((h.1 c).1 52).trans (fin52 m c), ((h.1 c).1 53).trans (fin53 m c), ((h.1 c).1 54).trans (fin54 m c), ((h.1 c).1 55).trans (fin55 m c), ((h.1 c).1 56).trans (fin56 m c), ((h.1 c).1 57).trans (fin57 m c), ((h.1 c).1 58).trans (fin58 m c), ((h.1 c).1 59).trans (fin59 m c), ((h.1 c).1 60).trans (fin60 m c), ((h.1 c).1 61).trans (fin61 m c), ((h.1 c).1 62).trans (fin62 m c), ((h.1 c).1 63).trans (fin63 m c), ((h.1 c).1 64).trans (fin64 m c), ((h.1 c).1 65).trans (fin65 m c), ((h.1 c).1 66).trans (fin66 m c), ((h.1 c).1 67).trans (fin67 m c), ((h.1 c).1 68).trans (fin68 m c), ((h.1 c).1 69).trans (fin69 m c), ((h.1 c).1 70).trans (fin70 m c), ((h.1 c).1 71).trans (fin71 m c), ((h.1 c).1 72).trans (fin72 m c), ((h.1 c).1 73).trans (fin73 m c), ((h.1 c).1 74).trans (fin74 m c), ((h.1 c).1 75).trans (fin75 m c), ((h.1 c).1 76).trans (fin76 m c), ((h.1 c).1 77).trans (fin77 m c), ((h.1 c).1 78).trans (fin78 m c), ((h.1 c).1 79).trans (fin79 m c),
      kept m h.1 c 0 rfl, kept m h.1 c 1 rfl, kept m h.1 c 2 rfl, kept m h.1 c 3 rfl, kept m h.1 c 4 rfl, kept m h.1 c 5 rfl, kept m h.1 c 6 rfl, kept m h.1 c 7 rfl, kept m h.1 c 8 rfl, kept m h.1 c 9 rfl, kept m h.1 c 10 rfl, kept m h.1 c 11 rfl, kept m h.1 c 12 rfl, kept m h.1 c 13 rfl, kept m h.1 c 14 rfl, kept m h.1 c 15 rfl, kept m h.1 c 16 rfl, kept m h.1 c 17 rfl, kept m h.1 c 18 rfl, kept m h.1 c 19 rfl, kept m h.1 c 20 rfl, kept m h.1 c 21 rfl, kept m h.1 c 22 rfl, kept m h.1 c 23 rfl, kept m h.1 c 24 rfl, kept m h.1 c 25 rfl, kept m h.1 c 26 rfl, kept m h.1 c 27 rfl, kept m h.1 c 28 rfl, kept m h.1 c 29 rfl, kept m h.1 c 30 rfl, kept m h.1 c 31 rfl, kept m h.1 c 32 rfl, kept m h.1 c 33 rfl, kept m h.1 c 34 rfl, kept m h.1 c 35 rfl, kept m h.1 c 36 rfl, kept m h.1 c 37 rfl, kept m h.1 c 38 rfl, kept m h.1 c 39 rfl⟩) (Small.run m ρ)
  · refine (θ_run Cert.AdamSmallRefIdeal.defs _ _).mono (fun r h c => ?_) (Cert.AdamSmallRefIdeal.Value.run (F := Ideal) m' ρ')
    obtain ⟨h0, h1, h2, h3, h4, h5, h6, h7, h8, h9, h10, h11, h12, h13, h14, h15, h16, h17, h18, h19, h20, h21, h22, h23, h24, h25, h26, h27, h28, h29, h30, h31, h32, h33, h34, h35, h36, h37, h38, h39, hk⟩ := h c
    obtain ⟨a0, a1, a2, a3, a4, a5, a6, a7, a8, a9, a10, a11, a12, a13, a14, a15, a16, a17, a18, a19, a20, a21, a22, a23, a24, a25, a26, a27, a28, a29, a30, a31, a32, a33, a34, a35, a36, a37, a38, a39⟩ := hargs c
    obtain ⟨n7, n17⟩ := Cert.Num.finite_small _ _ _ _ _ _ _ _ _ _ _ _ _ _ _ _ _ _ _ _ _ _ _ _ _ _ _ _ _ _ _ _ _ _ _ _ _ _ _ _ (hpre c)
    have e0 : (show FVec Ideal S1x1024 .f32 from Cert.AdamSmallRefIdeal.Value.res_main_v0 (F := Ideal) (StableHlo.launchContents m' c)) = spG (m ((c : Thread nD τ).loc main_arg0)) := funext fun y => Cert.AdamSmallRefIdeal.Val.g0 _ _ a0 y
    have e1 : (show FVec Ideal S1x1024 .f32 from Cert.AdamSmallRefIdeal.Value.res_main_v25 (F := Ideal) (StableHlo.launchContents m' c)) = spG (m ((c : Thread nD τ).loc main_arg1)) := funext fun y => Cert.AdamSmallRefIdeal.Val.g1 _ _ a1 y
    have e2 : (show FVec Ideal S1x1024 .f32 from Cert.AdamSmallRefIdeal.Value.res_main_v50 (F := Ideal) (StableHlo.launchContents m' c)) = spG (m ((c : Thread nD τ).loc main_arg2)) := funext fun y => Cert.AdamSmallRefIdeal.Val.g2 _ _ a2 y
    have e3 : (show FVec Ideal S1x1024 .f32 from Cert.AdamSmallRefIdeal.Value.res_main_v75 (F := Ideal) (StableHlo.launchContents m' c)) = spG (m ((c : Thread nD τ).loc main_arg3)) := funext fun y => Cert.AdamSmallRefIdeal.Val.g3 _ _ a3 y
    have e4 : (show FVec Ideal S1x1024 .f32 from Cert.AdamSmallRefIdeal.Value.res_main_v100 (F := Ideal) (StableHlo.launchContents m' c)) = spG (m ((c : Thread nD τ).loc main_arg4)) := funext fun y => Cert.AdamSmallRefIdeal.Val.g4 _ _ a4 y
    have e5 : (show FVec Ideal S1x1024 .f32 from Cert.AdamSmallRefIdeal.Value.res_main_v125 (F := Ideal) (StableHlo.launchContents m' c)) = spG (m ((c : Thread nD τ).loc main_arg5)) := funext fun y => Cert.AdamSmallRefIdeal.Val.g5 _ _ a5 y
    have e6 : (show FVec Ideal S1x1024 .f32 from Cert.AdamSmallRefIdeal.Value.res_main_v150 (F := Ideal) (StableHlo.launchContents m' c)) = spG (m ((c : Thread nD τ).loc main_arg6)) := funext fun y => Cert.AdamSmallRefIdeal.Val.g6 _ _ a6 y
    have e7 : (show FVec Ideal S2x1024 .f32 from Cert.AdamSmallRefIdeal.Value.res_main_v217 (F := Ideal) (StableHlo.launchContents m' c)) = spL (m ((c : Thread nD τ).loc main_arg7)) (m ((c : Thread nD τ).loc main_arg17)) := funext fun y => Cert.AdamSmallRefIdeal.Val.g7 _ _ _ a7 a17 n7 n17 y
    have e8 : (show FVec Ideal S1x512 .f32 from Cert.AdamSmallRefIdeal.Value.res_main_v242 (F := Ideal) (StableHlo.launchContents m' c)) = spG (m ((c : Thread nD τ).loc main_arg8)) := funext fun y => Cert.AdamSmallRefIdeal.Val.g8 _ _ a8 y
    have e9 : (show FVec Ideal S512x128 .f32 from Cert.AdamSmallRefIdeal.Value.res_main_v267 (F := Ideal) (StableHlo.launchContents m' c)) = spG (m ((c : Thread nD τ).loc main_arg9)) := funext fun y => Cert.AdamSmallRefIdeal.Val.g9 _ _ a9 y
    exact ⟨h0.trans e0, h1.trans e1, h2.trans e2, h3.trans e3, h4.trans e4, h5.trans e5, h6.trans e6, h7.trans e7, h8.trans e8, h9.trans e9, (h10.trans (Cert.AdamSmallRefIdeal.Val.up _ _ _ _ _)).trans (spD_congr a10 e0 a20 a30), (h11.trans (Cert.AdamSmallRefIdeal.Val.up _ _ _ _ _)).trans (spD_congr a11 e1 a21 a31), (h12.trans (Cert.AdamSmallRefIdeal.Val.up _ _ _ _ _)).trans (spD_congr a12 e2 a22 a32), (h13.trans (Cert.AdamSmallRefIdeal.Val.up _ _ _ _ _)).trans (spD_congr a13 e3 a23 a33), (h14.trans (Cert.AdamSmallRefIdeal.Val.up _ _ _ _ _)).trans (spD_congr a14 e4 a24 a34), (h15.trans (Cert.AdamSmallRefIdeal.Val.up _ _ _ _ _)).trans (spD_congr a15 e5 a25 a35), (h16.trans (Cert.AdamSmallRefIdeal.Val.up _ _ _ _ _)).trans (spD_congr a16 e6 a26 a36), (h17.trans (Cert.AdamSmallRefIdeal.Val.up _ _ _ _ _)).trans (spD_congr a17 e7 a27 a37), (h18.trans (Cert.AdamSmallRefIdeal.Val.up _ _ _ _ _)).trans (spD_congr a18 e8 a28 a38), (h19.trans (Cert.AdamSmallRefIdeal.Val.up _ _ _ _ _)).trans (spD_congr a19 e9 a29 a39), (h20.trans (Cert.AdamSmallRefIdeal.Val.mo1 _ _ _)).trans (spM_congr e0 a20), (h21.trans (Cert.AdamSmallRefIdeal.Val.mo1 _ _ _)).trans (spM_congr e1 a21), (h22.trans (Cert.AdamSmallRefIdeal.Val.mo1 _ _ _)).trans (spM_congr e2 a22), (h23.trans (Cert.AdamSmallRefIdeal.Val.mo1 _ _ _)).trans (spM_congr e3 a23), (h24.trans (Cert.AdamSmallRefIdeal.Val.mo1 _ _ _)).trans (spM_congr e4 a24), (h25.trans (Cert.AdamSmallRefIdeal.Val.mo1 _ _ _)).trans (spM_congr e5 a25), (h26.trans (Cert.AdamSmallRefIdeal.Val.mo1 _ _ _)).trans (spM_congr e6 a26), (h27.trans (Cert.AdamSmallRefIdeal.Val.mo1 _ _ _)).trans (spM_congr e7 a27), (h28.trans (Cert.AdamSmallRefIdeal.Val.mo1 _ _ _)).trans (spM_congr e8 a28), (h29.trans (Cert.AdamSmallRefIdeal.Val.mo1 _ _ _)).trans (spM_congr e9 a29), (h30.trans (Cert.AdamSmallRefIdeal.Val.mo2 _ _ _)).trans (spV_congr e0 a30), (h31.trans (Cert.AdamSmallRefIdeal.Val.mo2 _ _ _)).trans (spV_congr e1 a31), (h32.trans (Cert.AdamSmallRefIdeal.Val.mo2 _ _ _)).trans (spV_congr e2 a32), (h33.trans (Cert.AdamSmallRefIdeal.Val.mo2 _ _ _)).trans (spV_congr e3 a33), (h34.trans (Cert.AdamSmallRefIdeal.Val.mo2 _ _ _)).trans (spV_congr e4 a34), (h35.trans (Cert.AdamSmallRefIdeal.Val.mo2 _ _ _)).trans (spV_congr e5 a35), (h36.trans (Cert.AdamSmallRefIdeal.Val.mo2 _ _ _)).trans (spV_congr e6 a36), (h37.trans (Cert.AdamSmallRefIdeal.Val.mo2 _ _ _)).trans (spV_congr e7 a37), (h38.trans (Cert.AdamSmallRefIdeal.Val.mo2 _ _ _)).trans (spV_congr e8 a38), (h39.trans (Cert.AdamSmallRefIdeal.Val.mo2 _ _ _)).trans (spV_congr e9 a39), hk⟩

end Cert.AdamSmallIdeal.Val

end
-- ==== Proof.NormAlg.lean ====
/-
  The derivative of a root mean square norm with respect to its input: the product rule's terms, and the closed form.
-/
module

public import proofs.«01_k».proof.Proof.Finite

@[expose] public section

noncomputable section

open Idealize.ShloMosaic

namespace Cert.Num

/-- The mean of squares with the small constant. -/
abbrev meanSq (X : Fin 1024 → EReal) : EReal :=
  Ideal.div (∑ k, X k * X k) (Ideal.ofBits .f32 0x44800000#32) + Ideal.ofBits .f32 0x358637BD#32

/-- The norm's factor. -/
abbrev rms (X : Fin 1024 → EReal) : EReal := Ideal.rsqrt (meanSq X)

/-- The share of the derivative that goes through the mean. -/
abbrev through (X D : Fin 1024 → EReal) : EReal :=
  Ideal.div ((∑ k, X k * D k) * (Ideal.ofBits .f32 0xBF000000#32 * Ideal.div (rms X) (meanSq X))) (Ideal.ofBits .f32 0x44800000#32)

theorem w1024 : Ideal.ofBits .f32 0x44800000#32 = ((1024 : ℝ) : EReal) := by
  simp [Ideal.ofBits, Ideal.ieee]
  rw [← EReal.coe_mul]
  norm_num

theorem wHalf : Ideal.ofBits .f32 0xBF000000#32 = ((-(1/2) : ℝ) : EReal) := by
  simp [Ideal.ofBits, Ideal.ieee]
  rw [← EReal.coe_mul]
  norm_num

theorem wEps : ∃ e : ℝ, 0 < e ∧ Ideal.ofBits .f32 0x358637BD#32 = (e : EReal) := by
  simp [Ideal.ofBits, Ideal.ieee]
  refine ⟨_, ?_, (EReal.coe_mul _ _).symm⟩
  norm_num

theorem div_num (a : ℝ) {b : ℝ} (h : b ≠ 0) : Ideal.div (a : EReal) (b : EReal) = ((a / b : ℝ) : EReal) := by
  unfold Ideal.div
  rw [if_neg (by exact_mod_cast h), ← EReal.coe_inv, ← EReal.coe_mul, div_eq_mul_inv]

theorem rsqrt_num {a : ℝ} (h : 0 < a) : Ideal.rsqrt (a : EReal) = (((Real.sqrt a)⁻¹ : ℝ) : EReal) := by
  have e : Ideal.rsqrt (a : EReal) = if a < 0 then ⊥ else if a = 0 then ⊤ else (((Real.sqrt a)⁻¹ : ℝ) : EReal) := rfl
  rw [e, if_neg (not_lt.2 h.le), if_neg h.ne']

theorem sum_num {n : ℕ} (f : Fin n → ℝ) : (∑ k, (f k : EReal)) = ((∑ k, f k : ℝ) : EReal) := by
  induction n with
  | zero => simp
  | succ n ih => rw [Fin.sum_univ_succ, Fin.sum_univ_succ, EReal.coe_add, ih]

theorem div_w1024 (a : EReal) : Ideal.div a (Ideal.ofBits .f32 0x44800000#32) = a * ((1 / 1024 : ℝ) : EReal) := by
  rw [w1024]
  unfold Ideal.div
  rw [if_neg (by norm_num), ← EReal.coe_inv, one_div]

theorem real_mul_add {r : ℝ} (h : 0 ≤ r) (a b : EReal) : (r : EReal) * (a + b) = r * a + r * b :=
  EReal.left_distrib_of_nonneg_of_ne_top (by exact_mod_cast h) (EReal.coe_ne_top r) a b

theorem real_mul_sum {r : ℝ} (h : 0 ≤ r) {n : ℕ} (f : Fin n → EReal) : (r : EReal) * ∑ k, f k = ∑ k, (r : EReal) * f k := by
  induction n with
  | zero => simp
  | succ n ih => rw [Fin.sum_univ_succ, Fin.sum_univ_succ, real_mul_add h, ih]

theorem square_nonneg (a : EReal) : 0 ≤ a * a := by
  induction a using EReal.rec with
  | bot => simp
  | top => simp
  | coe r => exact_mod_cast mul_self_nonneg r

/-- An infinite entry makes the factor zero. -/
theorem meanSq_top {X : Fin 1024 → EReal} {k : Fin 1024} (h : ¬ IsNum (X k)) : meanSq X = ⊤ := by
  obtain ⟨s, -, he⟩ := wEps
  have hk : X k * X k = ⊤ := by
    generalize X k = a at h
    induction a using EReal.rec with
    | bot => simp
    | top => simp
    | coe r => exact absurd ⟨r, rfl⟩ h
  have hs : (∑ k, X k * X k) = ⊤ := by
    refine top_le_iff.1 ?_
    rw [← hk]
    exact Finset.single_le_sum (f := fun k => X k * X k) (fun i _ => square_nonneg _) (Finset.mem_univ k)
  unfold meanSq
  rw [hs, div_w1024, he, EReal.top_mul_coe_of_pos (by norm_num), EReal.top_add_coe]

/-- The two forms of the derivative agree. -/
theorem rms_grad (X D : Fin 1024 → EReal) (j : Fin 1024) (e : EReal) :
    D j * rms X + X j * through X D + through X D * X j + e
      = e + rms X * (D j - X j * rms X * Ideal.div (∑ k, D k * (X k * rms X)) (Ideal.ofBits .f32 0x44800000#32)) := by
  rw [add_comm _ e]
  refine congrArg (e + ·) ?_
  by_cases hX : ∀ k, IsNum (X k)
  · choose f hf using hX
    obtain ⟨s, hs, he⟩ := wEps
    have hm : meanSq X = (((∑ k, f k * f k) / 1024 + s : ℝ) : EReal) := by
      unfold meanSq
      simp only [hf, ← EReal.coe_mul]
      rw [sum_num, w1024, he, div_num _ (by norm_num), EReal.coe_add]
    have hp : 0 < (∑ k, f k * f k) / 1024 + s := by
      have : 0 ≤ ∑ k, f k * f k := Finset.sum_nonneg fun k _ => mul_self_nonneg _
      positivity
    generalize ((∑ k, f k * f k) / 1024 + s : ℝ) = q at hm hp
    have hr : rms X = (((Real.sqrt q)⁻¹ : ℝ) : EReal) := by
      unfold rms
      rw [hm, rsqrt_num hp]
    have hq : (Real.sqrt q)⁻¹ * (Real.sqrt q)⁻¹ = q⁻¹ := by
      rw [← mul_inv, Real.mul_self_sqrt hp.le]
    have h0 : 0 ≤ (Real.sqrt q)⁻¹ := inv_nonneg.2 (Real.sqrt_nonneg q)
    generalize (Real.sqrt q)⁻¹ = r at hr hq h0
    have hu : through X D = -((∑ k, X k * D k) * ((r * (r * r) / 2048 : ℝ) : EReal)) := by
      unfold through
      rw [hm, hr, wHalf, div_w1024, div_num _ hp.ne', ← EReal.coe_mul, mul_assoc, ← EReal.coe_mul, ← mul_neg, ← EReal.coe_neg]
      refine congrArg (fun z : ℝ => (∑ k, X k * D k) * (z : EReal)) ?_
      rw [div_eq_mul_inv r q, ← hq]
      ring
    have hv : (∑ k, D k * (X k * rms X)) = r * ∑ k, X k * D k := by
      rw [hr, real_mul_sum h0]
      refine Finset.sum_congr rfl fun k _ => ?_
      rw [mul_left_comm, mul_comm (D k), ← mul_assoc, mul_comm (X k * r), ← mul_assoc, mul_comm (D k), mul_comm _ (r : EReal)]
    rw [hv, hu, hr, div_w1024]
    generalize (∑ k, X k * D k) = T
    have hN : X j * -(T * ((r * (r * r) / 2048 : ℝ) : EReal)) = ((r * (r * r) / 2048 : ℝ) : EReal) * -(X j * T) := by
      rw [mul_neg, mul_neg, ← mul_assoc, mul_comm _ (X j * T)]
    have hM : X j * r * (r * T * ((1 / 1024 : ℝ) : EReal)) = ((r * r / 1024 : ℝ) : EReal) * (X j * T) := by
      rw [show (r * r / 1024 : ℝ) = r * r * (1 / 1024) by ring, EReal.coe_mul, EReal.coe_mul]
      ac_rfl
    have hc : 0 ≤ r * (r * r) / 2048 := by positivity
    rw [mul_comm (-(T * _)) (X j), hN, hM]
    clear hN hM hu hv
    generalize X j * T = A
    rw [sub_eq_add_neg, ← mul_neg, real_mul_add h0, add_assoc, mul_comm (D j)]
    refine congrArg ((r : EReal) * D j + ·) ?_
    rw [← EReal.right_distrib_of_nonneg (by exact_mod_cast hc) (by exact_mod_cast hc), ← EReal.coe_add]
    refine Eq.trans ?_ (mul_assoc (r : EReal) _ (-A))
    rw [← EReal.coe_mul]
    refine congrArg (fun z : ℝ => (z : EReal) * -A) ?_
    ring
  · obtain ⟨k, hk⟩ := not_forall.1 hX
    have hm := meanSq_top hk
    have hr : rms X = 0 := by
      unfold rms
      rw [hm]
      rfl
    have hu : through X D = 0 := by
      unfold through
      rw [hm, hr, div_w1024]
      simp [Ideal.div]
    rw [hu, hr]
    simp

end Cert.Num

end
-- ==== Proof.NormValue.lean ====
/-
  The value of the backward call from a feed forward block's gate through its two products and its norm: the residual's
  cotangent by the closed form of the norm's derivative, and the gain's gradient added over the row blocks.
-/
module

public import proofs.«01_k».proof.Defs
public import proofs.«01_k».proof.Proof.Gen.NormIdeal.Value
public import proofs.«01_k».proof.Proof.Gen.NormRefIdeal.Run
public import Idealize.ShloMosaic.Lib.Pipeline.ValueKit
public import Idealize.ShloMosaic.Lib.Pipeline.ReadBack
public import proofs.«01_k».proof.Proof.NormAlg
@[expose] public section

set_option maxRecDepth 16384

noncomputable section

open Idealize.ShloMosaic Idealize.ShloMosaic.TcCoe Idealize.SL.Sem
open Idealize.ShloMosaic.Pipeline (Dat)

namespace Cert.NormIdeal.Val

open Cert.NormIdeal Cert.NormIdeal.Gen
open Cert.Num

variable (m : (ℓ : Loc nD τ sig) → Buf (Elt Ideal) ℓ)

/-- The reference's cotangent of the residual. -/
abbrev REFX (X0 : FVec Ideal S8192x2816 .bf16) (X1 : FVec Ideal S2816x1024 .bf16) (X2 : FVec Ideal S8192x2816 .bf16) (X3 : FVec Ideal S2816x1024 .bf16) (X4 X5 : FVec Ideal S8192x1024 .f32) (X6 : FVec Ideal S1x1024 .f32) : FVec Ideal S8192x1024 .f32 :=
  addf (addf (addf (mulf (mulf (addf (Host.dotGeneral Cert.NormRefIdeal.dot_S8192x2816_S1024x2816_S8192x1024_1_1_0_0_n_n none (extf .f32 X2 Cert.NormRefIdeal.Gen.bitsLt_bf16_f32) (transpose Cert.NormRefIdeal.S1024x2816 [1, 0] (extf .f32 X3 Cert.NormRefIdeal.Gen.bitsLt_bf16_f32) Cert.NormRefIdeal.Gen.transposes_S2816x1024_S1024x2816_1_0)) (Host.dotGeneral Cert.NormRefIdeal.dot_S8192x2816_S1024x2816_S8192x1024_1_1_0_0_n_n none (extf .f32 X0 Cert.NormRefIdeal.Gen.bitsLt_bf16_f32) (transpose Cert.NormRefIdeal.S1024x2816 [1, 0] (extf .f32 X1 Cert.NormRefIdeal.Gen.bitsLt_bf16_f32) Cert.NormRefIdeal.Gen.transposes_S2816x1024_S1024x2816_1_0))) (broadcastInDim Cert.NormRefIdeal.S8192x1024 ![0, 1] Cert.NormRefIdeal.Gen.bcast_S1x1024_S8192x1024_0_1 X6)) (broadcastInDim Cert.NormRefIdeal.S8192x1024 ![0, 1] Cert.NormRefIdeal.Gen.bcast_S8192x1_S8192x1024_0_1 (Host.rsqrt (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))))) (mulf X4 (broadcastInDim Cert.NormRefIdeal.S8192x1024 ![0] Cert.NormRefIdeal.Gen.bcast_S8192_S8192x1024_0 (Host.reduceAdd (Host.divf (mulf (shapeCast _ (Host.reduceAdd (mulf X4 (mulf (addf (Host.dotGeneral Cert.NormRefIdeal.dot_S8192x2816_S1024x2816_S8192x1024_1_1_0_0_n_n none (extf .f32 X2 Cert.NormRefIdeal.Gen.bitsLt_bf16_f32) (transpose Cert.NormRefIdeal.S1024x2816 [1, 0] (extf .f32 X3 Cert.NormRefIdeal.Gen.bitsLt_bf16_f32) Cert.NormRefIdeal.Gen.transposes_S2816x1024_S1024x2816_1_0)) (Host.dotGeneral Cert.NormRefIdeal.dot_S8192x2816_S1024x2816_S8192x1024_1_1_0_0_n_n none (extf .f32 X0 Cert.NormRefIdeal.Gen.bitsLt_bf16_f32) (transpose Cert.NormRefIdeal.S1024x2816 [1, 0] (extf .f32 X1 Cert.NormRefIdeal.Gen.bitsLt_bf16_f32) Cert.NormRefIdeal.Gen.transposes_S2816x1024_S1024x2816_1_0))) (broadcastInDim Cert.NormRefIdeal.S8192x1024 ![0, 1] Cert.NormRefIdeal.Gen.bcast_S1x1024_S8192x1024_0_1 X6))) (constant Cert.NormRefIdeal.S_ .f32 0x00000000#32) Cert.NormRefIdeal.Gen.reducesTo_S8192x1024_S8192_d1 Cert.NormRefIdeal.Gen.h_S_) Cert.NormRefIdeal.Gen.shapeCasts_S8192_S8192x1) (mulf (broadcastInDim Cert.NormRefIdeal.S8192x1 ![] Cert.NormRefIdeal.Gen.bcast_S_S8192x1 (constant Cert.NormRefIdeal.S_ .f32 0xBF000000#32)) (Host.divf (Host.rsqrt (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))) (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))))) (broadcastInDim Cert.NormRefIdeal.S8192x1 ![] Cert.NormRefIdeal.Gen.bcast_S_S8192x1 (constant Cert.NormRefIdeal.S_ .f32 0x44800000#32))) (constant Cert.NormRefIdeal.S_ .f32 0x00000000#32) Cert.NormRefIdeal.Gen.reducesTo_S8192x1_S8192_d1 Cert.NormRefIdeal.Gen.h_S_)))) (mulf (broadcastInDim Cert.NormRefIdeal.S8192x1024 ![0] Cert.NormRefIdeal.Gen.bcast_S8192_S8192x1024_0 (Host.reduceAdd (Host.divf (mulf (shapeCast _ (Host.reduceAdd (mulf X4 (mulf (addf (Host.dotGeneral Cert.NormRefIdeal.dot_S8192x2816_S1024x2816_S8192x1024_1_1_0_0_n_n none (extf .f32 X2 Cert.NormRefIdeal.Gen.bitsLt_bf16_f32) (transpose Cert.NormRefIdeal.S1024x2816 [1, 0] (extf .f32 X3 Cert.NormRefIdeal.Gen.bitsLt_bf16_f32) Cert.NormRefIdeal.Gen.transposes_S2816x1024_S1024x2816_1_0)) (Host.dotGeneral Cert.NormRefIdeal.dot_S8192x2816_S1024x2816_S8192x1024_1_1_0_0_n_n none (extf .f32 X0 Cert.NormRefIdeal.Gen.bitsLt_bf16_f32) (transpose Cert.NormRefIdeal.S1024x2816 [1, 0] (extf .f32 X1 Cert.NormRefIdeal.Gen.bitsLt_bf16_f32) Cert.NormRefIdeal.Gen.transposes_S2816x1024_S1024x2816_1_0))) (broadcastInDim Cert.NormRefIdeal.S8192x1024 ![0, 1] Cert.NormRefIdeal.Gen.bcast_S1x1024_S8192x1024_0_1 X6))) (constant Cert.NormRefIdeal.S_ .f32 0x00000000#32) Cert.NormRefIdeal.Gen.reducesTo_S8192x1024_S8192_d1 Cert.NormRefIdeal.Gen.h_S_) Cert.NormRefIdeal.Gen.shapeCasts_S8192_S8192x1) (mulf (broadcastInDim Cert.NormRefIdeal.S8192x1 ![] Cert.NormRefIdeal.Gen.bcast_S_S8192x1 (constant Cert.NormRefIdeal.S_ .f32 0xBF000000#32)) (Host.divf (Host.rsqrt (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))) (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))))) (broadcastInDim Cert.NormRefIdeal.S8192x1 ![] Cert.NormRefIdeal.Gen.bcast_S_S8192x1 (constant Cert.NormRefIdeal.S_ .f32 0x44800000#32))) (constant Cert.NormRefIdeal.S_ .f32 0x00000000#32) Cert.NormRefIdeal.Gen.reducesTo_S8192x1_S8192_d1 Cert.NormRefIdeal.Gen.h_S_)) X4)) X5

/-- The reference's scaled cotangent. -/
abbrev REFS (X0 : FVec Ideal S8192x2816 .bf16) (X1 : FVec Ideal S2816x1024 .bf16) (X2 : FVec Ideal S8192x2816 .bf16) (X3 : FVec Ideal S2816x1024 .bf16) (X4 X5 : FVec Ideal S8192x1024 .f32) (X6 : FVec Ideal S1x1024 .f32) : FVec Ideal S8192x1024 .bf16 :=
  truncf .bf16 (addf (addf (addf (mulf (mulf (addf (Host.dotGeneral Cert.NormRefIdeal.dot_S8192x2816_S1024x2816_S8192x1024_1_1_0_0_n_n none (extf .f32 X2 Cert.NormRefIdeal.Gen.bitsLt_bf16_f32) (transpose Cert.NormRefIdeal.S1024x2816 [1, 0] (extf .f32 X3 Cert.NormRefIdeal.Gen.bitsLt_bf16_f32) Cert.NormRefIdeal.Gen.transposes_S2816x1024_S1024x2816_1_0)) (Host.dotGeneral Cert.NormRefIdeal.dot_S8192x2816_S1024x2816_S8192x1024_1_1_0_0_n_n none (extf .f32 X0 Cert.NormRefIdeal.Gen.bitsLt_bf16_f32) (transpose Cert.NormRefIdeal.S1024x2816 [1, 0] (extf .f32 X1 Cert.NormRefIdeal.Gen.bitsLt_bf16_f32) Cert.NormRefIdeal.Gen.transposes_S2816x1024_S1024x2816_1_0))) (broadcastInDim Cert.NormRefIdeal.S8192x1024 ![0, 1] Cert.NormRefIdeal.Gen.bcast_S1x1024_S8192x1024_0_1 X6)) (broadcastInDim Cert.NormRefIdeal.S8192x1024 ![0, 1] Cert.NormRefIdeal.Gen.bcast_S8192x1_S8192x1024_0_1 (Host.rsqrt (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))))) (mulf X4 (broadcastInDim Cert.NormRefIdeal.S8192x1024 ![0] Cert.NormRefIdeal.Gen.bcast_S8192_S8192x1024_0 (Host.reduceAdd (Host.divf (mulf (shapeCast _ (Host.reduceAdd (mulf X4 (mulf (addf (Host.dotGeneral Cert.NormRefIdeal.dot_S8192x2816_S1024x2816_S8192x1024_1_1_0_0_n_n none (extf .f32 X2 Cert.NormRefIdeal.Gen.bitsLt_bf16_f32) (transpose Cert.NormRefIdeal.S1024x2816 [1, 0] (extf .f32 X3 Cert.NormRefIdeal.Gen.bitsLt_bf16_f32) Cert.NormRefIdeal.Gen.transposes_S2816x1024_S1024x2816_1_0)) (Host.dotGeneral Cert.NormRefIdeal.dot_S8192x2816_S1024x2816_S8192x1024_1_1_0_0_n_n none (extf .f32 X0 Cert.NormRefIdeal.Gen.bitsLt_bf16_f32) (transpose Cert.NormRefIdeal.S1024x2816 [1, 0] (extf .f32 X1 Cert.NormRefIdeal.Gen.bitsLt_bf16_f32) Cert.NormRefIdeal.Gen.transposes_S2816x1024_S1024x2816_1_0))) (broadcastInDim Cert.NormRefIdeal.S8192x1024 ![0, 1] Cert.NormRefIdeal.Gen.bcast_S1x1024_S8192x1024_0_1 X6))) (constant Cert.NormRefIdeal.S_ .f32 0x00000000#32) Cert.NormRefIdeal.Gen.reducesTo_S8192x1024_S8192_d1 Cert.NormRefIdeal.Gen.h_S_) Cert.NormRefIdeal.Gen.shapeCasts_S8192_S8192x1) (mulf (broadcastInDim Cert.NormRefIdeal.S8192x1 ![] Cert.NormRefIdeal.Gen.bcast_S_S8192x1 (constant Cert.NormRefIdeal.S_ .f32 0xBF000000#32)) (Host.divf (Host.rsqrt (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))) (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))))) (broadcastInDim Cert.NormRefIdeal.S8192x1 ![] Cert.NormRefIdeal.Gen.bcast_S_S8192x1 (constant Cert.NormRefIdeal.S_ .f32 0x44800000#32))) (constant Cert.NormRefIdeal.S_ .f32 0x00000000#32) Cert.NormRefIdeal.Gen.reducesTo_S8192x1_S8192_d1 Cert.NormRefIdeal.Gen.h_S_)))) (mulf (broadcastInDim Cert.NormRefIdeal.S8192x1024 ![0] Cert.NormRefIdeal.Gen.bcast_S8192_S8192x1024_0 (Host.reduceAdd (Host.divf (mulf (shapeCast _ (Host.reduceAdd (mulf X4 (mulf (addf (Host.dotGeneral Cert.NormRefIdeal.dot_S8192x2816_S1024x2816_S8192x1024_1_1_0_0_n_n none (extf .f32 X2 Cert.NormRefIdeal.Gen.bitsLt_bf16_f32) (transpose Cert.NormRefIdeal.S1024x2816 [1, 0] (extf .f32 X3 Cert.NormRefIdeal.Gen.bitsLt_bf16_f32) Cert.NormRefIdeal.Gen.transposes_S2816x1024_S1024x2816_1_0)) (Host.dotGeneral Cert.NormRefIdeal.dot_S8192x2816_S1024x2816_S8192x1024_1_1_0_0_n_n none (extf .f32 X0 Cert.NormRefIdeal.Gen.bitsLt_bf16_f32) (transpose Cert.NormRefIdeal.S1024x2816 [1, 0] (extf .f32 X1 Cert.NormRefIdeal.Gen.bitsLt_bf16_f32) Cert.NormRefIdeal.Gen.transposes_S2816x1024_S1024x2816_1_0))) (broadcastInDim Cert.NormRefIdeal.S8192x1024 ![0, 1] Cert.NormRefIdeal.Gen.bcast_S1x1024_S8192x1024_0_1 X6))) (constant Cert.NormRefIdeal.S_ .f32 0x00000000#32) Cert.NormRefIdeal.Gen.reducesTo_S8192x1024_S8192_d1 Cert.NormRefIdeal.Gen.h_S_) Cert.NormRefIdeal.Gen.shapeCasts_S8192_S8192x1) (mulf (broadcastInDim Cert.NormRefIdeal.S8192x1 ![] Cert.NormRefIdeal.Gen.bcast_S_S8192x1 (constant Cert.NormRefIdeal.S_ .f32 0xBF000000#32)) (Host.divf (Host.rsqrt (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))) (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))))) (broadcastInDim Cert.NormRefIdeal.S8192x1 ![] Cert.NormRefIdeal.Gen.bcast_S_S8192x1 (constant Cert.NormRefIdeal.S_ .f32 0x44800000#32))) (constant Cert.NormRefIdeal.S_ .f32 0x00000000#32) Cert.NormRefIdeal.Gen.reducesTo_S8192x1_S8192_d1 Cert.NormRefIdeal.Gen.h_S_)) X4)) X5) Cert.NormRefIdeal.Gen.bitsLt_bf16_f32

/-- The reference's gradient of the gain. -/
abbrev REFG (X0 : FVec Ideal S8192x2816 .bf16) (X1 : FVec Ideal S2816x1024 .bf16) (X2 : FVec Ideal S8192x2816 .bf16) (X3 : FVec Ideal S2816x1024 .bf16) (X4 X5 : FVec Ideal S8192x1024 .f32) (X6 : FVec Ideal S1x1024 .f32) : FVec Ideal S1x1024 .f32 :=
  shapeCast _ (Host.reduceAdd (mulf (mulf X4 (broadcastInDim Cert.NormRefIdeal.S8192x1024 ![0, 1] Cert.NormRefIdeal.Gen.bcast_S8192x1_S8192x1024_0_1 (Host.rsqrt (addf (Host.divf (broadcastInDim Cert.NormRefIdeal.S8192x1 ![0] Cert.NormRefIdeal.Gen.bcast_S8192_S8192x1_0 (Host.reduceAdd (mulf X4 X4) (constant Cert.NormRefIdeal.S_ .f32 0x00000000#32) Cert.NormRefIdeal.Gen.reducesTo_S8192x1024_S8192_d1 Cert.NormRefIdeal.Gen.h_S_)) (broadcastInDim Cert.NormRefIdeal.S8192x1 ![] Cert.NormRefIdeal.Gen.bcast_S_S8192x1 (constant Cert.NormRefIdeal.S_ .f32 0x44800000#32))) (broadcastInDim Cert.NormRefIdeal.S8192x1 ![] Cert.NormRefIdeal.Gen.bcast_S_S8192x1 (constant Cert.NormRefIdeal.S_ .f32 0x358637BD#32)))))) (addf (Host.dotGeneral Cert.NormRefIdeal.dot_S8192x2816_S1024x2816_S8192x1024_1_1_0_0_n_n none (extf .f32 X2 Cert.NormRefIdeal.Gen.bitsLt_bf16_f32) (transpose Cert.NormRefIdeal.S1024x2816 [1, 0] (extf .f32 X3 Cert.NormRefIdeal.Gen.bitsLt_bf16_f32) Cert.NormRefIdeal.Gen.transposes_S2816x1024_S1024x2816_1_0)) (Host.dotGeneral Cert.NormRefIdeal.dot_S8192x2816_S1024x2816_S8192x1024_1_1_0_0_n_n none (extf .f32 X0 Cert.NormRefIdeal.Gen.bitsLt_bf16_f32) (transpose Cert.NormRefIdeal.S1024x2816 [1, 0] (extf .f32 X1 Cert.NormRefIdeal.Gen.bitsLt_bf16_f32) Cert.NormRefIdeal.Gen.transposes_S2816x1024_S1024x2816_1_0)))) (constant Cert.NormRefIdeal.S_ .f32 0x00000000#32) Cert.NormRefIdeal.Gen.reducesTo_S8192x1024_S1024_d0 Cert.NormRefIdeal.Gen.h_S_) Cert.NormRefIdeal.Gen.shapeCasts_S1024_S1x1024

theorem idx : ∀ t : Fin cfg0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] ∧ win0_7.index t = ![t.val, 0] ∧ win0_8.index t = ![t.val, 0] ∧ win0_9.index t = ![0, 0] :=
  (by decide +kernel : ∀ t : Fin grid0.N, win0_0.index t = ![t.val, 0] ∧ win0_1.index t = ![0, 0] ∧ win0_2.index t = ![t.val, 0] ∧ win0_3.index t = ![0, 0] ∧ win0_4.index t = ![t.val, 0] ∧ win0_5.index t = ![t.val, 0] ∧ win0_6.index t = ![0, 0] ∧ win0_7.index t = ![t.val, 0] ∧ win0_8.index t = ![t.val, 0] ∧ win0_9.index t = ![0, 0])

/-- An entry of the two products added. -/
abbrev dh {a : ℕ} (A : FVec Ideal ⟨2, ![a, 2816]⟩ .bf16) (W : FVec Ideal S2816x1024 .bf16) (B : FVec Ideal ⟨2, ![a, 2816]⟩ .bf16) (V : FVec Ideal S2816x1024 .bf16) (i : Fin a) (j : Fin 1024) : EReal :=
  ∑ k : Fin 2816, A (ix2 i k) * W (ix2 k j) + ∑ k : Fin 2816, B (ix2 i k) * V (ix2 k j)

/-- A row. -/
abbrev row {a : ℕ} (X : FVec Ideal ⟨2, ![a, 1024]⟩ .f32) (i : Fin a) : Fin 1024 → EReal := fun k => X (ix2 i k)

/-- The cotangent in the closed form. -/
abbrev closed {a : ℕ} (A : FVec Ideal ⟨2, ![a, 2816]⟩ .bf16) (W : FVec Ideal S2816x1024 .bf16) (B : FVec Ideal ⟨2, ![a, 2816]⟩ .bf16) (V : FVec Ideal S2816x1024 .bf16) (X E : FVec Ideal ⟨2, ![a, 1024]⟩ .f32) (G : FVec Ideal S1x1024 .f32) (i : Fin a) (j : Fin 1024) : EReal :=
  E (ix2 i j) + rms (row X i) * (dh A W B V i j * G (ix2 0 j) - X (ix2 i j) * rms (row X i)
    * Ideal.div (∑ k : Fin 1024, (dh A W B V i k * G (ix2 0 k)) * (X (ix2 i k) * rms (row X i))) (Ideal.ofBits .f32 0x44800000#32))

theorem ref_x_at (X0 : FVec Ideal S8192x2816 .bf16) (X1 : FVec Ideal S2816x1024 .bf16) (X2 : FVec Ideal S8192x2816 .bf16) (X3 : FVec Ideal S2816x1024 .bf16) (X4 X5 : FVec Ideal S8192x1024 .f32) (X6 : FVec Ideal S1x1024 .f32) (j : S8192x1024.Idx) : REFX X0 X1 X2 X3 X4 X5 X6 j
    = dh X2 X3 X0 X1 (j 0) (j 1) * X6 (ix2 0 (j 1)) * rms (row X4 (j 0)) + X4 j * through (row X4 (j 0)) (fun k => dh X2 X3 X0 X1 (j 0) k * X6 (ix2 0 k))
      + through (row X4 (j 0)) (fun k => dh X2 X3 X0 X1 (j 0) k * X6 (ix2 0 k)) * X4 j + X5 j := by
  unfold REFX
  pointwise
  simp only [Fin.sum_univ_one]

theorem ref_s_at (X0 : FVec Ideal S8192x2816 .bf16) (X1 : FVec Ideal S2816x1024 .bf16) (X2 : FVec Ideal S8192x2816 .bf16) (X3 : FVec Ideal S2816x1024 .bf16) (X4 X5 : FVec Ideal S8192x1024 .f32) (X6 : FVec Ideal S1x1024 .f32) (j : S8192x1024.Idx) : REFS X0 X1 X2 X3 X4 X5 X6 j = REFX X0 X1 X2 X3 X4 X5 X6 j := by
  rfl

theorem ref_g_at (X0 : FVec Ideal S8192x2816 .bf16) (X1 : FVec Ideal S2816x1024 .bf16) (X2 : FVec Ideal S8192x2816 .bf16) (X3 : FVec Ideal S2816x1024 .bf16) (X4 X5 : FVec Ideal S8192x1024 .f32) (X6 : FVec Ideal S1x1024 .f32) (j : S1x1024.Idx) : REFG X0 X1 X2 X3 X4 X5 X6 j = ∑ p : Fin 8192, (X4 (ix2 p (j 1)) * rms (row X4 p)) * dh X2 X3 X0 X1 p (j 1) := by
  unfold REFG
  pointwise

theorem dh_at (x0 : FVec Ideal S512x2816 .bf16) (x1 : FVec Ideal S2816x1024 .bf16) (x2 : FVec Ideal S512x2816 .bf16) (x3 : FVec Ideal S2816x1024 .bf16) (y : S512x1024.Idx) : k0_pay4 (F := Ideal) x0 x1 x2 x3 y = dh x0 x1 x2 x3 (y 0) (y 1) := by
  pointwise [k0_pay4]

theorem xh_at (x4 : FVec Ideal S512x1024 .f32) (y : S512x1024.Idx) : k0_pay6 (F := Ideal) x4 y = x4 y * rms (row x4 (y 0)) := by
  pointwise [k0_pay6, k0_pay5]

theorem x_at (x0 : FVec Ideal S512x2816 .bf16) (x1 : FVec Ideal S2816x1024 .bf16) (x2 : FVec Ideal S512x2816 .bf16) (x3 : FVec Ideal S2816x1024 .bf16) (x4 x5 : FVec Ideal S512x1024 .f32) (x6 : FVec Ideal S1x1024 .f32) (y : S512x1024.Idx) : k0_pay7 (F := Ideal) x0 x1 x2 x3 x4 x6 x5 y = closed x0 x1 x2 x3 x4 x5 x6 (y 0) (y 1) := by
  unfold closed
  rw [show x5 (ix2 (y 0) (y 1)) = x5 y from congrArg x5 (by blk_ext), show x4 (ix2 (y 0) (y 1)) = x4 y from congrArg x4 (by blk_ext)]
  pointwise [k0_pay7, k0_pay6, k0_pay5, k0_pay4]

theorem g_at (v w : FVec Ideal S512x1024 .f32) (a : FVec Ideal S1x1024 .f32) (j : S1x1024.Idx) : k0_pay3 (F := Ideal) v w a j = a j + ∑ p : Fin 512, v (ix2 p (j 1)) * w (ix2 p (j 1)) := by
  pointwise [k0_pay3]

theorem zero_at (j : S1x1024.Idx) : k0_pay2 (F := Ideal) j = 0 := by pointwise [k0_pay2]

theorem closed_congr {a b : ℕ} {A : FVec Ideal ⟨2, ![a, 2816]⟩ .bf16} {A' : FVec Ideal ⟨2, ![b, 2816]⟩ .bf16} {W W' : FVec Ideal S2816x1024 .bf16} {B : FVec Ideal ⟨2, ![a, 2816]⟩ .bf16} {B' : FVec Ideal ⟨2, ![b, 2816]⟩ .bf16} {V V' : FVec Ideal S2816x1024 .bf16}
    {X E : FVec Ideal ⟨2, ![a, 1024]⟩ .f32} {X' E' : FVec Ideal ⟨2, ![b, 1024]⟩ .f32} {G G' : FVec Ideal S1x1024 .f32} {i : Fin a} {p : Fin b}
    (hA : ∀ k : Fin 2816, A (ix2 i k) = A' (ix2 p k)) (hW : W = W') (hB : ∀ k : Fin 2816, B (ix2 i k) = B' (ix2 p k)) (hV : V = V')
    (hX : ∀ k : Fin 1024, X (ix2 i k) = X' (ix2 p k)) (hE : ∀ k : Fin 1024, E (ix2 i k) = E' (ix2 p k)) (hG : G = G') (j : Fin 1024) :
    closed A W B V X E G i j = closed A' W' B' V' X' E' G' p j := by
  subst hW hV hG
  have hd : ∀ k, dh A W B V i k = dh A' W B' V p k := fun k => by
    unfold dh
    simp only [hA, hB]
  have hr : row X i = row X' p := funext hX
  unfold closed
  rw [hr, hE, hX]
  simp only [hd, hX]

theorem closed_ref (X0 : FVec Ideal S8192x2816 .bf16) (X1 : FVec Ideal S2816x1024 .bf16) (X2 : FVec Ideal S8192x2816 .bf16) (X3 : FVec Ideal S2816x1024 .bf16) (X4 X5 : FVec Ideal S8192x1024 .f32) (X6 : FVec Ideal S1x1024 .f32) (j : S8192x1024.Idx) :
    closed X0 X1 X2 X3 X4 X5 X6 (j 0) (j 1)
      = dh X2 X3 X0 X1 (j 0) (j 1) * X6 (ix2 0 (j 1)) * rms (row X4 (j 0)) + X4 j * through (row X4 (j 0)) (fun k => dh X2 X3 X0 X1 (j 0) k * X6 (ix2 0 k))
      + through (row X4 (j 0)) (fun k => dh X2 X3 X0 X1 (j 0) k * X6 (ix2 0 k)) * X4 j + X5 j := by
  have hj : j = ix2 (j 0) (j 1) := by blk_ext
  have hd : ∀ k : Fin 1024, dh X0 X1 X2 X3 (j 0) k = dh X2 X3 X0 X1 (j 0) k := fun k => add_comm _ _
  have hx : row X4 (j 0) (j 1) = X4 j := congrArg X4 hj.symm
  rw [← hx, rms_grad (row X4 (j 0)) (fun k => dh X2 X3 X0 X1 (j 0) k * X6 (ix2 0 k)) (j 1), hx]
  unfold closed
  simp only [hd]
  rw [show X4 (ix2 (j 0) (j 1)) = X4 j from congrArg X4 hj.symm, show X5 (ix2 (j 0) (j 1)) = X5 j from congrArg X5 hj.symm]
  exact congrArg (fun z : EReal => X5 j + rms (row X4 (j 0)) * (z * X6 (ix2 0 (j 1)) - _)) (hd (j 1))

/-- What a point stores of the residual's cotangent. -/
theorem outX_at (c : Dev nD) (t : Fin cfg0.N) (y : S512x1024.Idx) : (outsAt0 m c t.val t.isLt).1 y = k0_pay7 (F := Ideal) (iblk m c 0 t) (iblk m c 1 t) (iblk m c 2 t) (iblk m c 3 t) (iblk m c 4 t) (iblk m c 6 t) (iblk m c 5 t) y := by
  by_cases h0 : t.val % 16 = 0
  · rw [outsAt0_A m c t h0]; frame_out
  · rw [outsAt0_B m c t h0]; frame_out

theorem outS_at (c : Dev nD) (t : Fin cfg0.N) (y : S512x1024.Idx) : (outsAt0 m c t.val t.isLt).2.1 y = (outsAt0 m c t.val t.isLt).1 y := by
  rw [outX_at]
  by_cases h0 : t.val % 16 = 0
  · rw [outsAt0_A m c t h0]; frame_out; pointwise [k0_pay1]
  · rw [outsAt0_B m c t h0]; frame_out; pointwise [k0_pay1]

/-- A row block's share of the gain's gradient. -/
abbrev share (c : Dev nD) (t : Fin cfg0.N) (j : Fin 1024) : EReal :=
  ∑ p : Fin 512, dh (show FVec Ideal S512x2816 .bf16 from iblk m c 0 t) (iblk m c 1 t) (show FVec Ideal S512x2816 .bf16 from iblk m c 2 t) (iblk m c 3 t) p j
    * ((show FVec Ideal S512x1024 .f32 from iblk m c 4 t) (ix2 p j) * rms (row (show FVec Ideal S512x1024 .f32 from iblk m c 4 t) p))

theorem share_of (c : Dev nD) (t : Fin cfg0.N) (a : FVec Ideal S1x1024 .f32) (j : S1x1024.Idx) :
    k0_pay3 (F := Ideal) (k0_pay4 (F := Ideal) (iblk m c 0 t) (iblk m c 1 t) (iblk m c 2 t) (iblk m c 3 t)) (k0_pay6 (F := Ideal) (iblk m c 4 t)) a j = a j + share m c t (j 1) := by
  rw [g_at]
  refine congrArg (a j + ·) (Finset.sum_congr rfl fun p _ => ?_)
  rw [dh_at, xh_at]
  rfl

theorem acc_first (c : Dev nD) (t : Fin cfg0.N) (h0 : t.val % 16 = 0) (j) : (outsAt0 m c t.val t.isLt).2.2 j = 0 + share m c t (j 1) := by
  rw [outsAt0_A m c t h0]; frame_out; rw [share_of, zero_at]

theorem acc_next (c : Dev nD) (t : Fin cfg0.N) (h0 : ¬ t.val % 16 = 0) (j) :
    (outsAt0 m c t.val t.isLt).2.2 j = (outsAt0 m c (t.val - 1) (Nat.lt_of_le_of_lt (Nat.sub_le _ _) t.isLt)).2.2 j + share m c t (j 1) := by
  rw [outsAt0_B m c t h0]; frame_out; rw [share_of]

theorem blkA (c : Dev nD) (t : Fin cfg0.N) (i : Fin 512) (p : Fin 8192) (hp : p.val = t.val * 512 + i.val) : ∀ k : Fin 2816, (show FVec Ideal S512x2816 .bf16 from iblk m c 0 t) (ix2 i k) = (show FVec Ideal S8192x2816 .bf16 from m ((c : Thread nD τ).loc main_arg0)) (ix2 p k) := fun k => by blk_point [iblk, V, idx t]

theorem blkB (c : Dev nD) (t : Fin cfg0.N) (i : Fin 512) (p : Fin 8192) (hp : p.val = t.val * 512 + i.val) : ∀ k : Fin 2816, (show FVec Ideal S512x2816 .bf16 from iblk m c 2 t) (ix2 i k) = (show FVec Ideal S8192x2816 .bf16 from m ((c : Thread nD τ).loc main_arg2)) (ix2 p k) := fun k => by blk_point [iblk, V, idx t]

theorem blkX (c : Dev nD) (t : Fin cfg0.N) (i : Fin 512) (p : Fin 8192) (hp : p.val = t.val * 512 + i.val) : ∀ k : Fin 1024, (show FVec Ideal S512x1024 .f32 from iblk m c 4 t) (ix2 i k) = (show FVec Ideal S8192x1024 .f32 from m ((c : Thread nD τ).loc main_arg4)) (ix2 p k) := fun k => by blk_point [iblk, V, idx t]

theorem blkE (c : Dev nD) (t : Fin cfg0.N) (i : Fin 512) (p : Fin 8192) (hp : p.val = t.val * 512 + i.val) : ∀ k : Fin 1024, (show FVec Ideal S512x1024 .f32 from iblk m c 5 t) (ix2 i k) = (show FVec Ideal S8192x1024 .f32 from m ((c : Thread nD τ).loc main_arg5)) (ix2 p k) := fun k => by blk_point [iblk, V, idx t]

theorem blkW (c : Dev nD) (t : Fin cfg0.N) : (show FVec Ideal S2816x1024 .bf16 from iblk m c 1 t) = m ((c : Thread nD τ).loc main_arg1) := by funext z; blk_point [iblk, V, idx t]

theorem blkV (c : Dev nD) (t : Fin cfg0.N) : (show FVec Ideal S2816x1024 .bf16 from iblk m c 3 t) = m ((c : Thread nD τ).loc main_arg3) := by funext z; blk_point [iblk, V, idx t]

theorem blkG (c : Dev nD) (t : Fin cfg0.N) : (show FVec Ideal S1x1024 .f32 from iblk m c 6 t) = m ((c : Thread nD τ).loc main_arg6) := by funext z; blk_point [iblk, V, idx t]

theorem closed_arg (c : Dev nD) (t : Fin cfg0.N) (i : Fin 512) (j : Fin 1024) (p : Fin 8192) (hp : p.val = t.val * 512 + i.val) :
    closed (show FVec Ideal S512x2816 .bf16 from iblk m c 0 t) (iblk m c 1 t) (show FVec Ideal S512x2816 .bf16 from iblk m c 2 t) (iblk m c 3 t) (show FVec Ideal S512x1024 .f32 from iblk m c 4 t) (show FVec Ideal S512x1024 .f32 from iblk m c 5 t) (iblk m c 6 t) i j
      = closed (show FVec Ideal S8192x2816 .bf16 from m ((c : Thread nD τ).loc main_arg0)) (m ((c : Thread nD τ).loc main_arg1)) (show FVec Ideal S8192x2816 .bf16 from m ((c : Thread nD τ).loc main_arg2)) (m ((c : Thread nD τ).loc main_arg3)) (show FVec Ideal S8192x1024 .f32 from m ((c : Thread nD τ).loc main_arg4)) (show FVec Ideal S8192x1024 .f32 from m ((c : Thread nD τ).loc main_arg5)) (m ((c : Thread nD τ).loc main_arg6)) p j := by
  exact closed_congr (blkA m c t i p hp) (blkW m c t) (blkB m c t i p hp) (blkV m c t) (blkX m c t i p hp) (blkE m c t i p hp) (blkG m c t) j

theorem x_ref (c : Dev nD) (t : Fin cfg0.N) (y : S512x1024.Idx) (j : S8192x1024.Idx) (h0 : (j 0).val = t.val * 512 + (y 0).val) (h1 : (j 1).val = (y 1).val) :
    (outsAt0 m c t.val t.isLt).1 y = REFX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  rw [outX_at, x_at, ref_x_at]
  refine (closed_arg m c t (y 0) (y 1) (j 0) h0).trans ?_
  rw [show y 1 = j 1 from Fin.ext h1.symm]
  exact closed_ref _ _ _ _ _ _ _ j

theorem final_x (c : Dev nD) : (dats m 0 c).arrAt 7 (cfgs 0).N = REFX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 7 _ (by decide +kernel) fun t hf y => ?_
  blk_simp
  rw [after0_7]
  exact x_ref m c t y _ (by blk_ext [idx t]) (by blk_ext [idx t])

theorem final_s (c : Dev nD) : (dats m 0 c).arrAt 8 (cfgs 0).N = REFS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 8 _ (by decide +kernel) fun t hf y => ?_
  blk_simp
  rw [after0_8, outS_at, ref_s_at]
  exact x_ref m c t y _ (by blk_ext [idx t]) (by blk_ext [idx t])

theorem final_g (c : Dev nD) : (dats m 0 c).arrAt 9 (cfgs 0).N = REFG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) (fun t j => share m c t (j 1))
      (fun t h j => acc_first m c t h j) (fun t h j => acc_next m c t h j) (le_of_eq N_0) t0_15 rfl _, zero_add, ref_g_at]
  refine Fin.sum_mul_add_congr fun s p hl => ?_
  refine (mul_comm (_ : EReal) _).trans ?_
  have hr := funext (blkX m c s p ⟨s.val * 512 + p.val, hl⟩ rfl)
  refine congr_arg₂ (· * ·) (congr_arg₂ (· * ·) (blkX m c s p ⟨s.val * 512 + p.val, hl⟩ rfl (j 1)) (congrArg rms hr)) ?_
  refine (add_comm (_ : EReal) _).trans (congr_arg₂ (· + ·) (Finset.sum_congr rfl fun k _ => congr_arg₂ (· * ·) ?_ ?_) (Finset.sum_congr rfl fun k _ => congr_arg₂ (· * ·) ?_ ?_))
  · exact blkB m c s p ⟨s.val * 512 + p.val, hl⟩ rfl k
  · exact congrFun (blkV m c s) _
  · exact blkA m c s p ⟨s.val * 512 + p.val, hl⟩ rfl k
  · exact congrFun (blkW m c s) _

/-- The reference leaves its arguments as launched. -/
theorem frame_reference : Cert.quiescent_NormRefIdeal := fun m ρ _ =>
  (θ_run Cert.NormRefIdeal.defs _ _).mono
    (fun r h => ⟨fun c => (h c).2.2.2, Idealize.ShloMosaic.sem_eq_zero_of_no_sems (by decide) r.2⟩)
    (Cert.NormRefIdeal.Value.run (F := Ideal) m ρ)

/-- Both programs end with the reference's value of the shared arguments. -/
theorem algebraic : Cert.algebraic_NormIdeal_NormRefIdeal := by
  intro m ρ m' ρ' _ hargs
  refine ⟨fun c => REFX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => REFS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), fun c => REFG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)), ?_, ?_⟩
  · exact (θ_run defs _ _).mono (fun _ h c => ⟨((h c).1).trans (final_x m c), ((h c).2.1).trans (final_s m c), ((h c).2.2.1).trans (final_g m c), (h c).2.2.2⟩)
      (Cert.NormIdeal.Value.run_blocks m ρ)
  · exact (θ_run Cert.NormRefIdeal.defs _ _).mono (fun _ h c => ⟨((h c).1).trans (show REFX (m' ((c : Thread nD τ).loc Cert.NormRefIdeal.main_arg0)) (m' ((c : Thread nD τ).loc Cert.NormRefIdeal.main_arg1)) (m' ((c : Thread nD τ).loc Cert.NormRefIdeal.main_arg2)) (m' ((c : Thread nD τ).loc Cert.NormRefIdeal.main_arg3)) (m' ((c : Thread nD τ).loc Cert.NormRefIdeal.main_arg4)) (m' ((c : Thread nD τ).loc Cert.NormRefIdeal.main_arg5)) (m' ((c : Thread nD τ).loc Cert.NormRefIdeal.main_arg6)) = REFX (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) by rw [(hargs c).1, (hargs c).2.1, (hargs c).2.2.1, (hargs c).2.2.2.1, (hargs c).2.2.2.2.1, (hargs c).2.2.2.2.2.1, (hargs c).2.2.2.2.2.2]), ((h c).2.1).trans (show REFS (m' ((c : Thread nD τ).loc Cert.NormRefIdeal.main_arg0)) (m' ((c : Thread nD τ).loc Cert.NormRefIdeal.main_arg1)) (m' ((c : Thread nD τ).loc Cert.NormRefIdeal.main_arg2)) (m' ((c : Thread nD τ).loc Cert.NormRefIdeal.main_arg3)) (m' ((c : Thread nD τ).loc Cert.NormRefIdeal.main_arg4)) (m' ((c : Thread nD τ).loc Cert.NormRefIdeal.main_arg5)) (m' ((c : Thread nD τ).loc Cert.NormRefIdeal.main_arg6)) = REFS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) by rw [(hargs c).1, (hargs c).2.1, (hargs c).2.2.1, (hargs c).2.2.2.1, (hargs c).2.2.2.2.1, (hargs c).2.2.2.2.2.1, (hargs c).2.2.2.2.2.2]), ((h c).2.2.1).trans (show REFG (m' ((c : Thread nD τ).loc Cert.NormRefIdeal.main_arg0)) (m' ((c : Thread nD τ).loc Cert.NormRefIdeal.main_arg1)) (m' ((c : Thread nD τ).loc Cert.NormRefIdeal.main_arg2)) (m' ((c : Thread nD τ).loc Cert.NormRefIdeal.main_arg3)) (m' ((c : Thread nD τ).loc Cert.NormRefIdeal.main_arg4)) (m' ((c : Thread nD τ).loc Cert.NormRefIdeal.main_arg5)) (m' ((c : Thread nD τ).loc Cert.NormRefIdeal.main_arg6)) = REFG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) by rw [(hargs c).1, (hargs c).2.1, (hargs c).2.2.1, (hargs c).2.2.2.1, (hargs c).2.2.2.2.1, (hargs c).2.2.2.2.2.1, (hargs c).2.2.2.2.2.2]), (h c).2.2.2⟩)
      (Cert.NormRefIdeal.Value.run (F := Ideal) m' ρ')

end Cert.NormIdeal.Val

end
-- ==== Proof.LossValue.lean ====
/-
  The value of the loss that the loss head's call adds over its row blocks, one entry for each feature.
-/
module

public import proofs.«01_k».proof.Defs
public import proofs.«01_k».proof.Proof.Gen.LossIdeal.Value
public import proofs.«01_k».proof.Proof.Gen.LossRefIdeal.Run
public import Idealize.ShloMosaic.Lib.Pipeline.ValueKit
public import Idealize.ShloMosaic.Lib.Pipeline.ReadBack
public import proofs.«01_k».proof.Proof.NormAlg
public import proofs.«01_k».proof.Proof.Gate

@[expose] public section

set_option maxRecDepth 16384

noncomputable section

open Idealize.ShloMosaic Idealize.ShloMosaic.TcCoe Idealize.SL.Sem
open Idealize.ShloMosaic.Pipeline (Dat)

namespace Cert.LossIdeal.Val

open Cert.LossIdeal Cert.LossIdeal.Gen
open Cert.Num
open LossRefIdeal.Gen (bcast_S1024_S1x1024_1 bcast_S1x1024_S8192x1024_0_1 bcast_S8192_S8192x1_0 bcast_S8192x1_S8192x1024_0_1 bcast_S_S1x1024 bcast_S_S8192x1 bcast_S_S8192x1024 h_S_ reducesTo_S8192x1024_S1024_d0 reducesTo_S8192x1024_S8192_d1)
open LossRefIdeal (S8192x1 S_)

variable (m : (ℓ : Loc nD τ sig) → Buf (Elt Ideal) ℓ)

/-- The reference's loss by features. -/
abbrev REFL (X0 : FVec Ideal S8192x1024 .f32) (X1 X2 : FVec Ideal S8192x1024 .bf16) (X3 : FVec Ideal S8192x1024 .f32) (X4 X5 : FVec Ideal S1x1024 .f32) : FVec Ideal S1x1024 .f32 :=
  mulf (broadcastInDim S1x1024 ![] bcast_S_S1x1024 (constant S_ .f32 0x3F000000#32)) (Host.divf (broadcastInDim S1x1024 ![1] bcast_S1024_S1x1024_1 (Host.reduceAdd (mulf (subf (mulf (mulf (addf X0 (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 X1 bitsLt_bf16_f32))))) (mulf (mulf (extf .f32 X2 bitsLt_bf16_f32) (broadcastInDim S8192x1024 ![0, 1] bcast_S8192x1_S8192x1024_0_1 (Host.rsqrt (addf (Host.divf (broadcastInDim S8192x1 ![0] bcast_S8192_S8192x1_0 (Host.reduceAdd (mulf (extf .f32 X2 bitsLt_bf16_f32) (extf .f32 X2 bitsLt_bf16_f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X4)))) (broadcastInDim S8192x1024 ![0, 1] bcast_S8192x1_S8192x1024_0_1 (Host.rsqrt (addf (Host.divf (broadcastInDim S8192x1 ![0] bcast_S8192_S8192x1_0 (Host.reduceAdd (mulf (addf X0 (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 X1 bitsLt_bf16_f32))))) (mulf (mulf (extf .f32 X2 bitsLt_bf16_f32) (broadcastInDim S8192x1024 ![0, 1] bcast_S8192x1_S8192x1024_0_1 (Host.rsqrt (addf (Host.divf (broadcastInDim S8192x1 ![0] bcast_S8192_S8192x1_0 (Host.reduceAdd (mulf (extf .f32 X2 bitsLt_bf16_f32) (extf .f32 X2 bitsLt_bf16_f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X4)))) (addf X0 (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 X1 bitsLt_bf16_f32))))) (mulf (mulf (extf .f32 X2 bitsLt_bf16_f32) (broadcastInDim S8192x1024 ![0, 1] bcast_S8192x1_S8192x1024_0_1 (Host.rsqrt (addf (Host.divf (broadcastInDim S8192x1 ![0] bcast_S8192_S8192x1_0 (Host.reduceAdd (mulf (extf .f32 X2 bitsLt_bf16_f32) (extf .f32 X2 bitsLt_bf16_f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X4))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X5)) X3) (subf (mulf (mulf (addf X0 (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 X1 bitsLt_bf16_f32))))) (mulf (mulf (extf .f32 X2 bitsLt_bf16_f32) (broadcastInDim S8192x1024 ![0, 1] bcast_S8192x1_S8192x1024_0_1 (Host.rsqrt (addf (Host.divf (broadcastInDim S8192x1 ![0] bcast_S8192_S8192x1_0 (Host.reduceAdd (mulf (extf .f32 X2 bitsLt_bf16_f32) (extf .f32 X2 bitsLt_bf16_f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X4)))) (broadcastInDim S8192x1024 ![0, 1] bcast_S8192x1_S8192x1024_0_1 (Host.rsqrt (addf (Host.divf (broadcastInDim S8192x1 ![0] bcast_S8192_S8192x1_0 (Host.reduceAdd (mulf (addf X0 (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 X1 bitsLt_bf16_f32))))) (mulf (mulf (extf .f32 X2 bitsLt_bf16_f32) (broadcastInDim S8192x1024 ![0, 1] bcast_S8192x1_S8192x1024_0_1 (Host.rsqrt (addf (Host.divf (broadcastInDim S8192x1 ![0] bcast_S8192_S8192x1_0 (Host.reduceAdd (mulf (extf .f32 X2 bitsLt_bf16_f32) (extf .f32 X2 bitsLt_bf16_f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X4)))) (addf X0 (mulf (Host.divf (broadcastInDim S8192x1024 ![] bcast_S_S8192x1024 (constant S_ .f32 0x3F800000#32)) (addf (broadcastInDim S8192x1024 ![] bcast_S_S8192x1024 (constant S_ .f32 0x3F800000#32)) (Host.exp (Host.negf (extf .f32 X1 bitsLt_bf16_f32))))) (mulf (mulf (extf .f32 X2 bitsLt_bf16_f32) (broadcastInDim S8192x1024 ![0, 1] bcast_S8192x1_S8192x1024_0_1 (Host.rsqrt (addf (Host.divf (broadcastInDim S8192x1 ![0] bcast_S8192_S8192x1_0 (Host.reduceAdd (mulf (extf .f32 X2 bitsLt_bf16_f32) (extf .f32 X2 bitsLt_bf16_f32)) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X4))))) (constant S_ .f32 0x00000000#32) reducesTo_S8192x1024_S8192_d1 h_S_)) (broadcastInDim S8192x1 ![] bcast_S_S8192x1 (constant S_ .f32 0x44800000#32))) (broadcastInDim S8192x1 ![] bcast_S_S8192x1 (constant S_ .f32 0x358637BD#32)))))) (broadcastInDim S8192x1024 ![0, 1] bcast_S1x1024_S8192x1024_0_1 X5)) X3)) (constant S_ .f32 0x00000000#32) reducesTo_S8192x1024_S1024_d0 h_S_)) (broadcastInDim S1x1024 ![] bcast_S_S1x1024 (constant S_ .f32 0x44800000#32)))

theorem idx : ∀ t : Fin cfg0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_9.index t = ![0, 0] :=
  (by decide +kernel : ∀ t : Fin grid0.N, win0_0.index t = ![t.val, 0] ∧ win0_1.index t = ![t.val, 0] ∧ win0_2.index t = ![t.val, 0] ∧ win0_3.index t = ![t.val, 0] ∧ win0_4.index t = ![0, 0] ∧ win0_5.index t = ![0, 0] ∧ win0_9.index t = ![0, 0])

/-- A row of the residual stream after the gated embedding. -/
abbrev mix {a : ℕ} (X : FVec Ideal ⟨2, ![a, 1024]⟩ .f32) (H E : FVec Ideal ⟨2, ![a, 1024]⟩ .bf16) (K : FVec Ideal S1x1024 .f32) (i : Fin a) : Fin 1024 → EReal :=
  fun k => X (ix2 i k) + sg (H (ix2 i k)) * (E (ix2 i k) * rms (fun l => E (ix2 i l)) * K (ix2 0 k))

/-- The error at one feature. -/
abbrev err {a : ℕ} (X : FVec Ideal ⟨2, ![a, 1024]⟩ .f32) (H E : FVec Ideal ⟨2, ![a, 1024]⟩ .bf16) (T : FVec Ideal ⟨2, ![a, 1024]⟩ .f32) (K G : FVec Ideal S1x1024 .f32) (i : Fin a) (j : Fin 1024) : EReal :=
  mix X H E K i j * rms (mix X H E K i) * G (ix2 0 j) - T (ix2 i j)

theorem err_congr {a b : ℕ} {X T : FVec Ideal ⟨2, ![a, 1024]⟩ .f32} {X' T' : FVec Ideal ⟨2, ![b, 1024]⟩ .f32} {H E : FVec Ideal ⟨2, ![a, 1024]⟩ .bf16} {H' E' : FVec Ideal ⟨2, ![b, 1024]⟩ .bf16}
    {K K' G G' : FVec Ideal S1x1024 .f32} {i : Fin a} {p : Fin b} (hX : ∀ k : Fin 1024, X (ix2 i k) = X' (ix2 p k)) (hH : ∀ k : Fin 1024, H (ix2 i k) = H' (ix2 p k))
    (hE : ∀ k : Fin 1024, E (ix2 i k) = E' (ix2 p k)) (hT : ∀ k : Fin 1024, T (ix2 i k) = T' (ix2 p k)) (hK : K = K') (hG : G = G') (j : Fin 1024) :
    err X H E T K G i j = err X' H' E' T' K' G' p j := by
  subst hK hG
  have hm : mix X H E K i = mix X' H' E' K p := by
    unfold mix
    simp only [hX, hH, hE]
  unfold err
  rw [hm, hT]

theorem ref_at (X0 : FVec Ideal S8192x1024 .f32) (X1 X2 : FVec Ideal S8192x1024 .bf16) (X3 : FVec Ideal S8192x1024 .f32) (X4 X5 : FVec Ideal S1x1024 .f32) (j : S1x1024.Idx) : REFL X0 X1 X2 X3 X4 X5 j
    = Ideal.ofBits .f32 0x3F000000#32 * Ideal.div (∑ p : Fin 8192, err X0 X1 X2 X3 X4 X5 p (j 1) * err X0 X1 X2 X3 X4 X5 p (j 1)) (Ideal.ofBits .f32 0x44800000#32) := by
  unfold REFL
  pointwise

/-- The gate. -/
theorem gate_at (x1 : FVec Ideal S512x1024 .bf16) (y : S512x1024.Idx) : k0_pay10 (F := Ideal) x1 y = sg (x1 y) := by
  pointwise [k0_pay10]
  exact sg_tanh _

/-- The residual stream after the gated embedding. -/
theorem mix_at (x0 : FVec Ideal S512x1024 .f32) (x1 x2 : FVec Ideal S512x1024 .bf16) (x4 : FVec Ideal S1x1024 .f32) (y : S512x1024.Idx) :
    k0_pay14 (F := Ideal) x0 x1 x2 x4 y = mix x0 x1 x2 x4 (y 0) (y 1) := by
  unfold mix
  rw [show x0 (ix2 (y 0) (y 1)) = x0 y from congrArg x0 (by blk_ext), show x1 (ix2 (y 0) (y 1)) = x1 y from congrArg x1 (by blk_ext), show x2 (ix2 (y 0) (y 1)) = x2 y from congrArg x2 (by blk_ext)]
  pointwise [k0_pay14, k0_pay13, k0_pay12, k0_pay11, k0_pay9]
  rw [gate_at]

/-- The error. -/
theorem err_at (v x3 : FVec Ideal S512x1024 .f32) (x5 : FVec Ideal S1x1024 .f32) (w u : FVec Ideal S512x1 .f32) (y : S512x1024.Idx) :
    k0_pay19 (F := Ideal) x3 x5 v w u y = v y * Ideal.rsqrt (w (ix2 (y 0) 0) + u (ix2 (y 0) 0)) * x5 (ix2 0 (y 1)) - x3 y := by
  pointwise [k0_pay19, k0_pay18, k0_pay17]

/-- The mean of the squares. -/
theorem mean_at (x0 : FVec Ideal S512x1024 .f32) (x1 x2 : FVec Ideal S512x1024 .bf16) (x4 : FVec Ideal S1x1024 .f32) (i : Fin 512) :
    k0_pay15 (F := Ideal) x0 x1 x2 x4 (ix2 i 0) = Ideal.div (∑ k : Fin 1024, mix x0 x1 x2 x4 i k * mix x0 x1 x2 x4 i k) (Ideal.ofBits .f32 0x44800000#32) := by
  pointwise [k0_pay15]
  simp only [mix_at]
  rfl

theorem eps_at (i : S512x1.Idx) : k0_pay16 (F := Ideal) i = Ideal.ofBits .f32 0x358637BD#32 := by
  pointwise [k0_pay16]

theorem sum_at (v x3 : FVec Ideal S512x1024 .f32) (x5 : FVec Ideal S1x1024 .f32) (w u : FVec Ideal S512x1 .f32) (j : S1x1024.Idx) :
    k0_pay25 (F := Ideal) x3 x5 v w u j
      = (∑ p : Fin 512, k0_pay19 (F := Ideal) x3 x5 v w u (ix2 p (j 1)) * k0_pay19 (F := Ideal) x3 x5 v w u (ix2 p (j 1))) * Ideal.ofBits .f32 0x3A000000#32 := by
  pointwise [k0_pay25]

theorem step_at (v a : FVec Ideal S1x1024 .f32) (j : S1x1024.Idx) : k0_pay4 (F := Ideal) v a j = a j + v j := by
  pointwise [k0_pay4]

theorem zero_at (j : S1x1024.Idx) : k0_pay3 (F := Ideal) j = 0 := by pointwise [k0_pay3]

/-- The kernel's factor. -/
theorem wPart : Ideal.ofBits .f32 0x3A000000#32 = ((1 / 2048 : ℝ) : EReal) := by
  simp [Ideal.ofBits, Ideal.ieee]
  rw [← EReal.coe_mul]
  norm_num

/-- A row block's share. -/
abbrev share (c : Dev nD) (t : Fin cfg0.N) (j : Fin 1024) : EReal :=
  (∑ p : Fin 512, err (show FVec Ideal S512x1024 .f32 from iblk m c 0 t) (show FVec Ideal S512x1024 .bf16 from iblk m c 1 t) (show FVec Ideal S512x1024 .bf16 from iblk m c 2 t) (show FVec Ideal S512x1024 .f32 from iblk m c 3 t) (iblk m c 4 t) (iblk m c 5 t) p j
    * err (show FVec Ideal S512x1024 .f32 from iblk m c 0 t) (show FVec Ideal S512x1024 .bf16 from iblk m c 1 t) (show FVec Ideal S512x1024 .bf16 from iblk m c 2 t) (show FVec Ideal S512x1024 .f32 from iblk m c 3 t) (iblk m c 4 t) (iblk m c 5 t) p j) * ((1 / 2048 : ℝ) : EReal)

theorem part_at (x0 : FVec Ideal S512x1024 .f32) (x1 x2 : FVec Ideal S512x1024 .bf16) (x3 : FVec Ideal S512x1024 .f32) (x4 x5 : FVec Ideal S1x1024 .f32) (j : S1x1024.Idx) :
    k0_pay25 (F := Ideal) x3 x5 (k0_pay14 (F := Ideal) x0 x1 x2 x4) (k0_pay15 (F := Ideal) x0 x1 x2 x4) (k0_pay16 (F := Ideal)) j
      = (∑ p : Fin 512, err x0 x1 x2 x3 x4 x5 p (j 1) * err x0 x1 x2 x3 x4 x5 p (j 1)) * ((1 / 2048 : ℝ) : EReal) := by
  rw [sum_at, wPart]
  refine congrArg (· * _) (Finset.sum_congr rfl fun p _ => ?_)
  have h : k0_pay19 (F := Ideal) x3 x5 (k0_pay14 (F := Ideal) x0 x1 x2 x4) (k0_pay15 (F := Ideal) x0 x1 x2 x4) (k0_pay16 (F := Ideal)) (ix2 p (j 1)) = err x0 x1 x2 x3 x4 x5 p (j 1) := by
    rw [err_at, mix_at]
    refine congrArg (fun z : EReal => mix x0 x1 x2 x4 p (j 1) * Ideal.rsqrt z * x5 (ix2 0 (j 1)) - x3 (ix2 p (j 1))) ?_
    rw [eps_at]
    exact congrArg (· + _) (mean_at x0 x1 x2 x4 p)
  rw [h]

theorem acc_first (c : Dev nD) (t : Fin cfg0.N) (h0 : t.val % 16 = 0) (j) : (outsAt0 m c t.val t.isLt).2.2.2.1 j = 0 + share m c t (j 1) := by
  rw [outsAt0_A m c t h0 h0 h0]; frame_out; rw [step_at, part_at, zero_at]

theorem acc_next (c : Dev nD) (t : Fin cfg0.N) (h0 : ¬ t.val % 16 = 0) (j) :
    (outsAt0 m c t.val t.isLt).2.2.2.1 j = (outsAt0 m c (t.val - 1) (Nat.lt_of_le_of_lt (Nat.sub_le _ _) t.isLt)).2.2.2.1 j + share m c t (j 1) := by
  rw [outsAt0_B m c t h0 h0 h0]; frame_out; rw [step_at, part_at]

theorem blkX (c : Dev nD) (t : Fin cfg0.N) (i : Fin 512) (p : Fin 8192) (hp : p.val = t.val * 512 + i.val) : ∀ k : Fin 1024, (show FVec Ideal S512x1024 .f32 from iblk m c 0 t) (ix2 i k) = (show FVec Ideal S8192x1024 .f32 from m ((c : Thread nD τ).loc main_arg0)) (ix2 p k) := fun k => by blk_point [iblk, V, idx t]

theorem blkH (c : Dev nD) (t : Fin cfg0.N) (i : Fin 512) (p : Fin 8192) (hp : p.val = t.val * 512 + i.val) : ∀ k : Fin 1024, (show FVec Ideal S512x1024 .bf16 from iblk m c 1 t) (ix2 i k) = (show FVec Ideal S8192x1024 .bf16 from m ((c : Thread nD τ).loc main_arg1)) (ix2 p k) := fun k => by blk_point [iblk, V, idx t]

theorem blkE (c : Dev nD) (t : Fin cfg0.N) (i : Fin 512) (p : Fin 8192) (hp : p.val = t.val * 512 + i.val) : ∀ k : Fin 1024, (show FVec Ideal S512x1024 .bf16 from iblk m c 2 t) (ix2 i k) = (show FVec Ideal S8192x1024 .bf16 from m ((c : Thread nD τ).loc main_arg2)) (ix2 p k) := fun k => by blk_point [iblk, V, idx t]

theorem blkT (c : Dev nD) (t : Fin cfg0.N) (i : Fin 512) (p : Fin 8192) (hp : p.val = t.val * 512 + i.val) : ∀ k : Fin 1024, (show FVec Ideal S512x1024 .f32 from iblk m c 3 t) (ix2 i k) = (show FVec Ideal S8192x1024 .f32 from m ((c : Thread nD τ).loc main_arg3)) (ix2 p k) := fun k => by blk_point [iblk, V, idx t]

theorem blkK (c : Dev nD) (t : Fin cfg0.N) : (show FVec Ideal S1x1024 .f32 from iblk m c 4 t) = m ((c : Thread nD τ).loc main_arg4) := by funext z; blk_point [iblk, V, idx t]

theorem blkG (c : Dev nD) (t : Fin cfg0.N) : (show FVec Ideal S1x1024 .f32 from iblk m c 5 t) = m ((c : Thread nD τ).loc main_arg5) := by funext z; blk_point [iblk, V, idx t]

/-- The two ways of taking the half and the mean. -/
theorem half_mean (a : EReal) : Ideal.ofBits .f32 0x3F000000#32 * Ideal.div a (Ideal.ofBits .f32 0x44800000#32) = ((1 / 2048 : ℝ) : EReal) * a := by
  rw [half_f32, div_w1024, mul_comm a, ← mul_assoc, ← EReal.coe_mul]
  norm_num

theorem final_l (c : Dev nD) : (dats m 0 c).arrAt 9 (cfgs 0).N = REFL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_after_last 9 t0_15 (by decide +kernel) _ fun j => ?_
  blk_simp
  rw [after0_9, Pipeline.eq_sum_fin_of_reset_step_apply_last (fun n h => (outsAt0 m c n h).2.2.2.1) 16 (fun _ => 0) (fun t j => share m c t (j 1))
      (fun t h j => acc_first m c t h j) (fun t h j => acc_next m c t h j) (le_of_eq N_0) t0_15 rfl _, zero_add, ref_at, half_mean]
  have hs : ∀ s : Fin 16, share m c s (j 1) = ∑ p : Fin 512, ((1 / 2048 : ℝ) : EReal) * ((err (show FVec Ideal S512x1024 .f32 from iblk m c 0 s) (show FVec Ideal S512x1024 .bf16 from iblk m c 1 s) (show FVec Ideal S512x1024 .bf16 from iblk m c 2 s) (show FVec Ideal S512x1024 .f32 from iblk m c 3 s) (iblk m c 4 s) (iblk m c 5 s) p (j 1))
      * (err (show FVec Ideal S512x1024 .f32 from iblk m c 0 s) (show FVec Ideal S512x1024 .bf16 from iblk m c 1 s) (show FVec Ideal S512x1024 .bf16 from iblk m c 2 s) (show FVec Ideal S512x1024 .f32 from iblk m c 3 s) (iblk m c 4 s) (iblk m c 5 s) p (j 1))) := fun s =>
    (mul_comm (_ : EReal) _).trans (real_mul_sum (by norm_num) _)
  rw [real_mul_sum (by norm_num)]
  refine (Finset.sum_congr rfl fun s _ => hs s).trans ?_
  refine Fin.sum_mul_add_congr fun s p hl => ?_
  have he := err_congr (blkX m c s p ⟨s.val * 512 + p.val, hl⟩ rfl) (blkH m c s p ⟨s.val * 512 + p.val, hl⟩ rfl) (blkE m c s p ⟨s.val * 512 + p.val, hl⟩ rfl)
    (blkT m c s p ⟨s.val * 512 + p.val, hl⟩ rfl) (blkK m c s) (blkG m c s) (j 1)
  exact congrArg (fun z : EReal => ((1 / 2048 : ℝ) : EReal) * (z * z)) he

/-- The reference leaves its arguments as launched. -/
theorem frame_reference : Cert.quiescent_LossRefIdeal := fun m ρ _ =>
  (θ_run Cert.LossRefIdeal.defs _ _).mono
    (fun r h => ⟨fun c => (h c).2, Idealize.ShloMosaic.sem_eq_zero_of_no_sems (by decide) r.2⟩)
    (Cert.LossRefIdeal.Value.run (F := Ideal) m ρ)

/-- Both programs end with the reference's value of the shared arguments. -/
theorem algebraic : Cert.algebraic_LossIdeal_LossRefIdeal := by
  intro m ρ m' ρ' _ hargs
  refine ⟨fun c => REFL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)), ?_, ?_⟩
  · exact (θ_run defs _ _).mono (fun _ h c => ⟨((h c).2.2.2.1).trans (final_l m c), (h c).2.2.2.2.2.2⟩)
      (Cert.LossIdeal.Value.run_blocks m ρ)
  · exact (θ_run Cert.LossRefIdeal.defs _ _).mono (fun _ h c => ⟨((h c).1).trans (show REFL (m' ((c : Thread nD τ).loc Cert.LossRefIdeal.main_arg0)) (m' ((c : Thread nD τ).loc Cert.LossRefIdeal.main_arg1)) (m' ((c : Thread nD τ).loc Cert.LossRefIdeal.main_arg2)) (m' ((c : Thread nD τ).loc Cert.LossRefIdeal.main_arg3)) (m' ((c : Thread nD τ).loc Cert.LossRefIdeal.main_arg4)) (m' ((c : Thread nD τ).loc Cert.LossRefIdeal.main_arg5)) = REFL (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) by rw [(hargs c).1, (hargs c).2.1, (hargs c).2.2.1, (hargs c).2.2.2.1, (hargs c).2.2.2.2.1, (hargs c).2.2.2.2.2]), (h c).2⟩)
      (Cert.LossRefIdeal.Value.run (F := Ideal) m' ρ')

end Cert.LossIdeal.Val

end
-- ==== Proof.lean ====
/-
  The claims: the two frames of the backward call of the recurrence, and for each further call its frames, the
  frame of its reference, and the equality of its results with the reference's.
-/
module

public import proofs.«01_k».proof.Defs
public import proofs.«01_k».proof.Proof.HgrnRun
public import proofs.«01_k».proof.Proof.HgrnPlain
public import proofs.«01_k».proof.Proof.Gen.UpGrad.Frame
public import proofs.«01_k».proof.Proof.UpGradValue
public import proofs.«01_k».proof.Proof.Gen.DownGrad.Frame
public import proofs.«01_k».proof.Proof.DownGradValue
public import proofs.«01_k».proof.Proof.Gen.SquareGrad.Frame
public import proofs.«01_k».proof.Proof.SquareGradValue
public import proofs.«01_k».proof.Proof.Gen.BranchGrad.Frame
public import proofs.«01_k».proof.Proof.BranchGradValue
public import proofs.«01_k».proof.Proof.Gen.ProjGrad.Frame
public import proofs.«01_k».proof.Proof.ProjGradValue
public import proofs.«01_k».proof.Proof.Gen.InWideGrad.Frame
public import proofs.«01_k».proof.Proof.InWideGradValue
public import proofs.«01_k».proof.Proof.Gen.InMidGrad.Frame
public import proofs.«01_k».proof.Proof.InMidGradValue
public import proofs.«01_k».proof.Proof.Gen.InSmallGrad.Frame
public import proofs.«01_k».proof.Proof.InSmallGradValue
public import proofs.«01_k».proof.Proof.Gen.InProj.Frame
public import proofs.«01_k».proof.Proof.InProjValue
public import proofs.«01_k».proof.Proof.Gen.BranchA.Frame
public import proofs.«01_k».proof.Proof.BranchAValue
public import proofs.«01_k».proof.Proof.Gen.BranchB.Frame
public import proofs.«01_k».proof.Proof.BranchBValue
public import proofs.«01_k».proof.Proof.Gen.PleProj.Frame
public import proofs.«01_k».proof.Proof.PleProjValue
public import proofs.«01_k».proof.Proof.Gen.OutGrad.Frame
public import proofs.«01_k».proof.Proof.OutGradValue
public import proofs.«01_k».proof.Proof.Gen.MixedGrad.Frame
public import proofs.«01_k».proof.Proof.MixedGradValue
public import proofs.«01_k».proof.Proof.Gen.FfnUp.Frame
public import proofs.«01_k».proof.Proof.FfnUpValue
public import proofs.«01_k».proof.Proof.Gen.Mid.Frame
public import proofs.«01_k».proof.Proof.MidValue
public import proofs.«01_k».proof.Proof.Gen.FfnDown.Frame
public import proofs.«01_k».proof.Proof.FfnDownValue
public import proofs.«01_k».proof.Proof.Gen.OutProj.Frame
public import proofs.«01_k».proof.Proof.OutProjValue
public import proofs.«01_k».proof.Proof.Gen.AdamFfn.Frame
public import proofs.«01_k».proof.Proof.AdamFfnValue
public import proofs.«01_k».proof.Proof.Gen.AdamIn.Frame
public import proofs.«01_k».proof.Proof.AdamInValue
public import proofs.«01_k».proof.Proof.Gen.AdamSquare.Frame
public import proofs.«01_k».proof.Proof.AdamSquareValue
public import proofs.«01_k».proof.Proof.Gen.AdamBranch.Frame
public import proofs.«01_k».proof.Proof.AdamBranchValue
public import proofs.«01_k».proof.Proof.Gen.AdamProj.Frame
public import proofs.«01_k».proof.Proof.AdamProjValue
public import proofs.«01_k».proof.Proof.SmallPlain
public import proofs.«01_k».proof.Proof.AdamSmallValue
public import proofs.«01_k».proof.Proof.Gen.Norm.Frame
public import proofs.«01_k».proof.Proof.NormValue
public import proofs.«01_k».proof.Proof.Gen.Loss.Frame
public import proofs.«01_k».proof.Proof.LossValue

@[expose] public section

noncomputable section

open Idealize.ShloMosaic Idealize.SL.Sem

namespace Cert.Proof

theorem claim : Cert.Claim :=
  ⟨Cert.Kernel.Gen.facts, Cert.KernelIdeal.Gen.facts, Cert.UpGrad.Gen.facts, Cert.UpGradIdeal.Gen.facts, Cert.UpGradRefIdeal.Gen.facts, Cert.DownGrad.Gen.facts, Cert.DownGradIdeal.Gen.facts, Cert.DownGradRefIdeal.Gen.facts, Cert.SquareGrad.Gen.facts, Cert.SquareGradIdeal.Gen.facts, Cert.SquareGradRefIdeal.Gen.facts, Cert.BranchGrad.Gen.facts, Cert.BranchGradIdeal.Gen.facts, Cert.BranchGradRefIdeal.Gen.facts, Cert.ProjGrad.Gen.facts, Cert.ProjGradIdeal.Gen.facts, Cert.ProjGradRefIdeal.Gen.facts, Cert.InWideGrad.Gen.facts, Cert.InWideGradIdeal.Gen.facts, Cert.InWideGradRefIdeal.Gen.facts, Cert.InMidGrad.Gen.facts, Cert.InMidGradIdeal.Gen.facts, Cert.InMidGradRefIdeal.Gen.facts, Cert.InSmallGrad.Gen.facts, Cert.InSmallGradIdeal.Gen.facts, Cert.InSmallGradRefIdeal.Gen.facts, Cert.InProj.Gen.facts, Cert.InProjIdeal.Gen.facts, Cert.InProjRefIdeal.Gen.facts, Cert.BranchA.Gen.facts, Cert.BranchAIdeal.Gen.facts, Cert.BranchARefIdeal.Gen.facts, Cert.BranchB.Gen.facts, Cert.BranchBIdeal.Gen.facts, Cert.BranchBRefIdeal.Gen.facts, Cert.PleProj.Gen.facts, Cert.PleProjIdeal.Gen.facts, Cert.PleProjRefIdeal.Gen.facts, Cert.OutGrad.Gen.facts, Cert.OutGradIdeal.Gen.facts, Cert.OutGradRefIdeal.Gen.facts, Cert.MixedGrad.Gen.facts, Cert.MixedGradIdeal.Gen.facts, Cert.MixedGradRefIdeal.Gen.facts, Cert.FfnUp.Gen.facts, Cert.FfnUpIdeal.Gen.facts, Cert.FfnUpRefIdeal.Gen.facts, Cert.Mid.Gen.facts, Cert.MidIdeal.Gen.facts, Cert.MidRefIdeal.Gen.facts, Cert.FfnDown.Gen.facts, Cert.FfnDownIdeal.Gen.facts, Cert.FfnDownRefIdeal.Gen.facts, Cert.OutProj.Gen.facts, Cert.OutProjIdeal.Gen.facts, Cert.OutProjRefIdeal.Gen.facts, Cert.AdamFfn.Gen.facts, Cert.AdamFfnIdeal.Gen.facts, Cert.AdamFfnRefIdeal.Gen.facts, Cert.AdamIn.Gen.facts, Cert.AdamInIdeal.Gen.facts, Cert.AdamInRefIdeal.Gen.facts, Cert.AdamSquare.Gen.facts, Cert.AdamSquareIdeal.Gen.facts, Cert.AdamSquareRefIdeal.Gen.facts, Cert.AdamBranch.Gen.facts, Cert.AdamBranchIdeal.Gen.facts, Cert.AdamBranchRefIdeal.Gen.facts, Cert.AdamProj.Gen.facts, Cert.AdamProjIdeal.Gen.facts, Cert.AdamProjRefIdeal.Gen.facts, Cert.AdamSmall.Gen.facts, Cert.AdamSmallIdeal.Gen.facts, Cert.AdamSmallRefIdeal.Gen.facts, Cert.Norm.Gen.facts, Cert.NormIdeal.Gen.facts, Cert.NormRefIdeal.Gen.facts, Cert.Loss.Gen.facts, Cert.LossIdeal.Gen.facts, Cert.LossRefIdeal.Gen.facts, Cert.Num.facts_up, Cert.Num.facts_mid, Cert.Num.facts_small,
   fun m ρ _ => Cert.Kernel.Hgrn.frame_args m ρ,
   fun m ρ _ => Cert.KernelIdeal.Hgrn.frame_args m ρ,
   fun m ρ _ => Cert.UpGrad.Gen.frame m ρ,
   fun m ρ _ => Cert.UpGradIdeal.Gen.frame m ρ,
   Cert.UpGradIdeal.Val.frame_reference,
   fun m ρ _ => Cert.DownGrad.Gen.frame m ρ,
   fun m ρ _ => Cert.DownGradIdeal.Gen.frame m ρ,
   Cert.DownGradIdeal.Val.frame_reference,
   fun m ρ _ => Cert.SquareGrad.Gen.frame m ρ,
   fun m ρ _ => Cert.SquareGradIdeal.Gen.frame m ρ,
   Cert.SquareGradIdeal.Val.frame_reference,
   fun m ρ _ => Cert.BranchGrad.Gen.frame m ρ,
   fun m ρ _ => Cert.BranchGradIdeal.Gen.frame m ρ,
   Cert.BranchGradIdeal.Val.frame_reference,
   fun m ρ _ => Cert.ProjGrad.Gen.frame m ρ,
   fun m ρ _ => Cert.ProjGradIdeal.Gen.frame m ρ,
   Cert.ProjGradIdeal.Val.frame_reference,
   fun m ρ _ => Cert.InWideGrad.Gen.frame m ρ,
   fun m ρ _ => Cert.InWideGradIdeal.Gen.frame m ρ,
   Cert.InWideGradIdeal.Val.frame_reference,
   fun m ρ _ => Cert.InMidGrad.Gen.frame m ρ,
   fun m ρ _ => Cert.InMidGradIdeal.Gen.frame m ρ,
   Cert.InMidGradIdeal.Val.frame_reference,
   fun m ρ _ => Cert.InSmallGrad.Gen.frame m ρ,
   fun m ρ _ => Cert.InSmallGradIdeal.Gen.frame m ρ,
   Cert.InSmallGradIdeal.Val.frame_reference,
   fun m ρ _ => Cert.InProj.Gen.frame m ρ,
   fun m ρ _ => Cert.InProjIdeal.Gen.frame m ρ,
   Cert.InProjIdeal.Val.frame_reference,
   fun m ρ _ => Cert.BranchA.Gen.frame m ρ,
   fun m ρ _ => Cert.BranchAIdeal.Gen.frame m ρ,
   Cert.BranchAIdeal.Val.frame_reference,
   fun m ρ _ => Cert.BranchB.Gen.frame m ρ,
   fun m ρ _ => Cert.BranchBIdeal.Gen.frame m ρ,
   Cert.BranchBIdeal.Val.frame_reference,
   fun m ρ _ => Cert.PleProj.Gen.frame m ρ,
   fun m ρ _ => Cert.PleProjIdeal.Gen.frame m ρ,
   Cert.PleProjIdeal.Val.frame_reference,
   fun m ρ _ => Cert.OutGrad.Gen.frame m ρ,
   fun m ρ _ => Cert.OutGradIdeal.Gen.frame m ρ,
   Cert.OutGradIdeal.Val.frame_reference,
   fun m ρ _ => Cert.MixedGrad.Gen.frame m ρ,
   fun m ρ _ => Cert.MixedGradIdeal.Gen.frame m ρ,
   Cert.MixedGradIdeal.Val.frame_reference,
   fun m ρ _ => Cert.FfnUp.Gen.frame m ρ,
   fun m ρ _ => Cert.FfnUpIdeal.Gen.frame m ρ,
   fun m ρ _ => Cert.FfnUpIdeal.Gen.frame m ρ,
   Cert.FfnUpIdeal.Val.frame_reference,
   fun m ρ _ => Cert.FfnUpIdeal.Val.frame_reference m ρ trivial,
   fun m ρ _ => Cert.Mid.Gen.frame m ρ,
   fun m ρ _ => Cert.MidIdeal.Gen.frame m ρ,
   fun m ρ _ => Cert.MidIdeal.Gen.frame m ρ,
   Cert.MidIdeal.Val.frame_reference,
   fun m ρ _ => Cert.MidIdeal.Val.frame_reference m ρ trivial,
   fun m ρ _ => Cert.FfnDown.Gen.frame m ρ,
   fun m ρ _ => Cert.FfnDownIdeal.Gen.frame m ρ,
   Cert.FfnDownIdeal.Val.frame_reference,
   fun m ρ _ => Cert.OutProj.Gen.frame m ρ,
   fun m ρ _ => Cert.OutProjIdeal.Gen.frame m ρ,
   Cert.OutProjIdeal.Val.frame_reference,
   fun m ρ _ => Cert.AdamFfn.Gen.frame m ρ,
   fun m ρ _ => Cert.AdamFfnIdeal.Gen.frame m ρ,
   Cert.AdamFfnIdeal.Val.frame_reference,
   fun m ρ _ => Cert.AdamIn.Gen.frame m ρ,
   fun m ρ _ => Cert.AdamInIdeal.Gen.frame m ρ,
   Cert.AdamInIdeal.Val.frame_reference,
   fun m ρ _ => Cert.AdamSquare.Gen.frame m ρ,
   fun m ρ _ => Cert.AdamSquareIdeal.Gen.frame m ρ,
   Cert.AdamSquareIdeal.Val.frame_reference,
   fun m ρ _ => Cert.AdamBranch.Gen.frame m ρ,
   fun m ρ _ => Cert.AdamBranchIdeal.Gen.frame m ρ,
   Cert.AdamBranchIdeal.Val.frame_reference,
   fun m ρ _ => Cert.AdamProj.Gen.frame m ρ,
   fun m ρ _ => Cert.AdamProjIdeal.Gen.frame m ρ,
   Cert.AdamProjIdeal.Val.frame_reference,
   fun m ρ _ => Cert.AdamSmall.Small.frame_args m ρ,
   fun m ρ _ => Cert.AdamSmallIdeal.Small.frame_args m ρ,
   fun m ρ _ => Cert.AdamSmallIdeal.Small.frame_args m ρ,
   Cert.AdamSmallIdeal.Val.frame_reference,
   fun m ρ _ => Cert.AdamSmallIdeal.Val.frame_reference m ρ trivial,
   fun m ρ _ => Cert.Norm.Gen.frame m ρ,
   fun m ρ _ => Cert.NormIdeal.Gen.frame m ρ,
   Cert.NormIdeal.Val.frame_reference,
   fun m ρ _ => Cert.Loss.Gen.frame m ρ,
   fun m ρ _ => Cert.LossIdeal.Gen.frame m ρ,
   Cert.LossIdeal.Val.frame_reference,
   IdealRules.named_const.statement Cert.KernelIdeal.κ "mask" .f32 0xF149F2CA#32 ⊥ rfl,
   trivial,
   Cert.UpGradIdeal.Val.algebraic,
   trivial,
   Cert.DownGradIdeal.Val.algebraic,
   trivial,
   Cert.SquareGradIdeal.Val.algebraic,
   trivial,
   Cert.BranchGradIdeal.Val.algebraic,
   trivial,
   Cert.ProjGradIdeal.Val.algebraic,
   trivial,
   Cert.InWideGradIdeal.Val.algebraic,
   trivial,
   Cert.InMidGradIdeal.Val.algebraic,
   trivial,
   Cert.InSmallGradIdeal.Val.algebraic,
   trivial,
   Cert.InProjIdeal.Val.algebraic,
   trivial,
   Cert.BranchAIdeal.Val.algebraic,
   trivial,
   Cert.BranchBIdeal.Val.algebraic,
   trivial,
   Cert.PleProjIdeal.Val.algebraic,
   trivial,
   Cert.OutGradIdeal.Val.algebraic,
   trivial,
   Cert.MixedGradIdeal.Val.algebraic,
   trivial,
   Cert.FfnUpIdeal.Val.algebraic,
   trivial,
   Cert.MidIdeal.Val.algebraic,
   trivial,
   Cert.FfnDownIdeal.Val.algebraic,
   trivial,
   Cert.OutProjIdeal.Val.algebraic,
   ⟨IdealRules.named_const.statement Cert.AdamFfnIdeal.κ "inv_bc1" .f32 0x3FC48605#32 ((8388608 / 5463681 : ℝ) : EReal) rfl, IdealRules.named_const.statement Cert.AdamFfnIdeal.κ "inv_bc2" .f32 0x42C8E6D3#32 ((268435456 / 2672307 : ℝ) : EReal) rfl⟩,
   Cert.AdamFfnIdeal.Val.algebraic,
   ⟨IdealRules.named_const.statement Cert.AdamInIdeal.κ "inv_bc1" .f32 0x3FC48605#32 ((8388608 / 5463681 : ℝ) : EReal) rfl, IdealRules.named_const.statement Cert.AdamInIdeal.κ "inv_bc2" .f32 0x42C8E6D3#32 ((268435456 / 2672307 : ℝ) : EReal) rfl⟩,
   Cert.AdamInIdeal.Val.algebraic,
   ⟨IdealRules.named_const.statement Cert.AdamSquareIdeal.κ "inv_bc1" .f32 0x3FC48605#32 ((8388608 / 5463681 : ℝ) : EReal) rfl, IdealRules.named_const.statement Cert.AdamSquareIdeal.κ "inv_bc2" .f32 0x42C8E6D3#32 ((268435456 / 2672307 : ℝ) : EReal) rfl⟩,
   Cert.AdamSquareIdeal.Val.algebraic,
   ⟨IdealRules.named_const.statement Cert.AdamBranchIdeal.κ "inv_bc1" .f32 0x3FC48605#32 ((8388608 / 5463681 : ℝ) : EReal) rfl, IdealRules.named_const.statement Cert.AdamBranchIdeal.κ "inv_bc2" .f32 0x42C8E6D3#32 ((268435456 / 2672307 : ℝ) : EReal) rfl⟩,
   Cert.AdamBranchIdeal.Val.algebraic,
   ⟨IdealRules.named_const.statement Cert.AdamProjIdeal.κ "inv_bc1" .f32 0x3FC48605#32 ((8388608 / 5463681 : ℝ) : EReal) rfl, IdealRules.named_const.statement Cert.AdamProjIdeal.κ "inv_bc2" .f32 0x42C8E6D3#32 ((268435456 / 2672307 : ℝ) : EReal) rfl⟩,
   Cert.AdamProjIdeal.Val.algebraic,
   ⟨IdealRules.named_const.statement Cert.AdamSmallIdeal.κ "inv_bc1" .f32 0x3FC48605#32 ((8388608 / 5463681 : ℝ) : EReal) rfl, IdealRules.named_const.statement Cert.AdamSmallIdeal.κ "inv_bc2" .f32 0x42C8E6D3#32 ((268435456 / 2672307 : ℝ) : EReal) rfl⟩,
   Cert.AdamSmallIdeal.Val.algebraic,
   trivial,
   Cert.NormIdeal.Val.algebraic,
   trivial,
   Cert.LossIdeal.Val.algebraic⟩

end Cert.Proof

end
